-- ==== Defs.lean ====
def Pre_DInProj (m : (ℓ : Loc Cert.DInProj.nD Cert.DInProj.τ Cert.DInProj.sig) → Buf (Elt Bits) ℓ) : Prop :=
  True

def Pre_DInProjIdeal (m : (ℓ : Loc Cert.DInProjIdeal.nD Cert.DInProjIdeal.τ Cert.DInProjIdeal.sig) → Buf (Elt Ideal) ℓ) : Prop :=
  True

def Pre_DInProjRefIdeal (m : (ℓ : Loc Cert.DInProjRefIdeal.nD Cert.DInProjRefIdeal.τ Cert.DInProjRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DOutProj (m : (ℓ : Loc Cert.DOutProj.nD Cert.DOutProj.τ Cert.DOutProj.sig) → Buf (Elt Bits) ℓ) : Prop :=
  True

def Pre_DOutProjIdeal (m : (ℓ : Loc Cert.DOutProjIdeal.nD Cert.DOutProjIdeal.τ Cert.DOutProjIdeal.sig) → Buf (Elt Ideal) ℓ) : Prop :=
  True

def Pre_DOutProjRefIdeal (m : (ℓ : Loc Cert.DOutProjRefIdeal.nD Cert.DOutProjRefIdeal.τ Cert.DOutProjRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInRefIdeal (m : (ℓ : Loc Cert.RmsInRefIdeal.nD Cert.RmsInRefIdeal.τ Cert.RmsInRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_MetaBwd (m : (ℓ : Loc Cert.MetaBwd.nD Cert.MetaBwd.τ Cert.MetaBwd.sig) → Buf (Elt Bits) ℓ) : Prop :=
  True

def Pre_MetaBwdIdeal (m : (ℓ : Loc Cert.MetaBwdIdeal.nD Cert.MetaBwdIdeal.τ Cert.MetaBwdIdeal.sig) → Buf (Elt Ideal) ℓ) : Prop :=
  True

def Pre_MetaBwdRefIdeal (m : (ℓ : Loc Cert.MetaBwdRefIdeal.nD Cert.MetaBwdRefIdeal.τ Cert.MetaBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_RsWOutAdd (m : (ℓ : Loc Cert.RsWOutAdd.nD Cert.RsWOutAdd.τ Cert.RsWOutAdd.sig) → Buf (Elt Bits) ℓ) : Prop :=
  True

def Pre_RsWOutAddIdeal (m : (ℓ : Loc Cert.RsWOutAddIdeal.nD Cert.RsWOutAddIdeal.τ Cert.RsWOutAddIdeal.sig) → Buf (Elt Ideal) ℓ) : Prop :=
  True

def Pre_RsWOutAddRefIdeal (m : (ℓ : Loc Cert.RsWOutAddRefIdeal.nD Cert.RsWOutAddRefIdeal.τ Cert.RsWOutAddRefIdeal.sig) → Buf (Elt Ideal) ℓ) : Prop :=
  True

def Pre_RsSmallAdd (m : (ℓ : Loc Cert.RsSmallAdd.nD Cert.RsSmallAdd.τ Cert.RsSmallAdd.sig) → Buf (Elt Bits) ℓ) : Prop :=
  True

def Pre_RsSmallAddIdeal (m : (ℓ : Loc Cert.RsSmallAddIdeal.nD Cert.RsSmallAddIdeal.τ Cert.RsSmallAddIdeal.sig) → Buf (Elt Ideal) ℓ) : Prop :=
  True

def Pre_RsSmallAddRefIdeal (m : (ℓ : Loc Cert.RsSmallAddRefIdeal.nD Cert.RsSmallAddRefIdeal.τ Cert.RsSmallAddRefIdeal.sig) → Buf (Elt Ideal) ℓ) : Prop :=
  True

def Pre_RsWInSum (m : (ℓ : Loc Cert.RsWInSum.nD Cert.RsWInSum.τ Cert.RsWInSum.sig) → Buf (Elt Bits) ℓ) : Prop :=
  True

def Pre_RsWInSumIdeal (m : (ℓ : Loc Cert.RsWInSumIdeal.nD Cert.RsWInSumIdeal.τ Cert.RsWInSumIdeal.sig) → Buf (Elt Ideal) ℓ) : Prop :=
  True

def Pre_RsWInSumRefIdeal (m : (ℓ : Loc Cert.RsWInSumRefIdeal.nD Cert.RsWInSumRefIdeal.τ Cert.RsWInSumRefIdeal.sig) → Buf (Elt Ideal) ℓ) : Prop :=
  True

def Pre_RsWOutSum (m : (ℓ : Loc Cert.RsWOutSum.nD Cert.RsWOutSum.τ Cert.RsWOutSum.sig) → Buf (Elt Bits) ℓ) : Prop :=
  True

def Pre_RsWOutSumIdeal (m : (ℓ : Loc Cert.RsWOutSumIdeal.nD Cert.RsWOutSumIdeal.τ Cert.RsWOutSumIdeal.sig) → Buf (Elt Ideal) ℓ) : Prop :=
  True

def Pre_RsWOutSumRefIdeal (m : (ℓ : Loc Cert.RsWOutSumRefIdeal.nD Cert.RsWOutSumRefIdeal.τ Cert.RsWOutSumRefIdeal.sig) → Buf (Elt Ideal) ℓ) : Prop :=
  True

def Pre_RsSmallSum (m : (ℓ : Loc Cert.RsSmallSum.nD Cert.RsSmallSum.τ Cert.RsSmallSum.sig) → Buf (Elt Bits) ℓ) : Prop :=
  True

def Pre_RsSmallSumIdeal (m : (ℓ : Loc Cert.RsSmallSumIdeal.nD Cert.RsSmallSumIdeal.τ Cert.RsSmallSumIdeal.sig) → Buf (Elt Ideal) ℓ) : Prop :=
  True

def Pre_RsSmallSumRefIdeal (m : (ℓ : Loc Cert.RsSmallSumRefIdeal.nD Cert.RsSmallSumRefIdeal.τ Cert.RsSmallSumRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_RsWInSib (m : (ℓ : Loc Cert.RsWInSib.nD Cert.RsWInSib.τ Cert.RsWInSib.sig) → Buf (Elt Bits) ℓ) : Prop :=
  True

def Pre_RsWInSibIdeal (m : (ℓ : Loc Cert.RsWInSibIdeal.nD Cert.RsWInSibIdeal.τ Cert.RsWInSibIdeal.sig) → Buf (Elt Ideal) ℓ) : Prop :=
  True

def Pre_RsWInSibRefIdeal (m : (ℓ : Loc Cert.RsWInSibRefIdeal.nD Cert.RsWInSibRefIdeal.τ Cert.RsWInSibRefIdeal.sig) → Buf (Elt Ideal) ℓ) : Prop :=
  True

def Pre_RsWOutSib (m : (ℓ : Loc Cert.RsWOutSib.nD Cert.RsWOutSib.τ Cert.RsWOutSib.sig) → Buf (Elt Bits) ℓ) : Prop :=
  True

def Pre_RsWOutSibIdeal (m : (ℓ : Loc Cert.RsWOutSibIdeal.nD Cert.RsWOutSibIdeal.τ Cert.RsWOutSibIdeal.sig) → Buf (Elt Ideal) ℓ) : Prop :=
  True

def Pre_RsWOutSibRefIdeal (m : (ℓ : Loc Cert.RsWOutSibRefIdeal.nD Cert.RsWOutSibRefIdeal.τ Cert.RsWOutSibRefIdeal.sig) → Buf (Elt Ideal) ℓ) : Prop :=
  True

def Pre_RsWInCores (m : (ℓ : Loc Cert.RsWInCores.nD Cert.RsWInCores.τ Cert.RsWInCores.sig) → Buf (Elt Bits) ℓ) : Prop :=
  True

def Pre_RsWInCoresIdeal (m : (ℓ : Loc Cert.RsWInCoresIdeal.nD Cert.RsWInCoresIdeal.τ Cert.RsWInCoresIdeal.sig) → Buf (Elt Ideal) ℓ) : Prop :=
  True

def Pre_RsWInCoresRefIdeal (m : (ℓ : Loc Cert.RsWInCoresRefIdeal.nD Cert.RsWInCoresRefIdeal.τ Cert.RsWInCoresRefIdeal.sig) → Buf (Elt Ideal) ℓ) : Prop :=
  True

def Pre_RsSmallSib (m : (ℓ : Loc Cert.RsSmallSib.nD Cert.RsSmallSib.τ Cert.RsSmallSib.sig) → Buf (Elt Bits) ℓ) : Prop :=
  True

def Pre_RsSmallSibIdeal (m : (ℓ : Loc Cert.RsSmallSibIdeal.nD Cert.RsSmallSibIdeal.τ Cert.RsSmallSibIdeal.sig) → Buf (Elt Ideal) ℓ) : Prop :=
  True

def Pre_RsSmallSibRefIdeal (m : (ℓ : Loc Cert.RsSmallSibRefIdeal.nD Cert.RsSmallSibRefIdeal.τ Cert.RsSmallSibRefIdeal.sig) → Buf (Elt Ideal) ℓ) : Prop :=
  True

def Pre_RsSmallCores (m : (ℓ : Loc Cert.RsSmallCores.nD Cert.RsSmallCores.τ Cert.RsSmallCores.sig) → Buf (Elt Bits) ℓ) : Prop :=
  True

def Pre_RsSmallCoresIdeal (m : (ℓ : Loc Cert.RsSmallCoresIdeal.nD Cert.RsSmallCoresIdeal.τ Cert.RsSmallCoresIdeal.sig) → Buf (Elt Ideal) ℓ) : Prop :=
  True

def Pre_RsSmallCoresRefIdeal (m : (ℓ : Loc Cert.RsSmallCoresRefIdeal.nD Cert.RsSmallCoresRefIdeal.τ Cert.RsSmallCoresRefIdeal.sig) → Buf (Elt Ideal) ℓ) : Prop :=
  True

def Pre_RsWOutCores (m : (ℓ : Loc Cert.RsWOutCores.nD Cert.RsWOutCores.τ Cert.RsWOutCores.sig) → Buf (Elt Bits) ℓ) : Prop :=
  True

def Pre_RsWOutCoresIdeal (m : (ℓ : Loc Cert.RsWOutCoresIdeal.nD Cert.RsWOutCoresIdeal.τ Cert.RsWOutCoresIdeal.sig) → Buf (Elt Ideal) ℓ) : Prop :=
  True

def Pre_RsWOutCoresRefIdeal (m : (ℓ : Loc Cert.RsWOutCoresRefIdeal.nD Cert.RsWOutCoresRefIdeal.τ Cert.RsWOutCoresRefIdeal.sig) → Buf (Elt Ideal) ℓ) : Prop :=
  True

def Pre_GatherWInCores (m : (ℓ : Loc Cert.GatherWInCores.nD Cert.GatherWInCores.τ Cert.GatherWInCores.sig) → Buf (Elt Bits) ℓ) : Prop :=
  True

def Pre_GatherWInCoresIdeal (m : (ℓ : Loc Cert.GatherWInCoresIdeal.nD Cert.GatherWInCoresIdeal.τ Cert.GatherWInCoresIdeal.sig) → Buf (Elt Ideal) ℓ) : Prop :=
  True

def Pre_GatherWInCoresRefIdeal (m : (ℓ : Loc Cert.GatherWInCoresRefIdeal.nD Cert.GatherWInCoresRefIdeal.τ Cert.GatherWInCoresRefIdeal.sig) → Buf (Elt Ideal) ℓ) : Prop :=
  True

def Pre_GatherWOutCores (m : (ℓ : Loc Cert.GatherWOutCores.nD Cert.GatherWOutCores.τ Cert.GatherWOutCores.sig) → Buf (Elt Bits) ℓ) : Prop :=
  True

def Pre_GatherWOutCoresIdeal (m : (ℓ : Loc Cert.GatherWOutCoresIdeal.nD Cert.GatherWOutCoresIdeal.τ Cert.GatherWOutCoresIdeal.sig) → Buf (Elt Ideal) ℓ) : Prop :=
  True

def Pre_GatherWOutCoresRefIdeal (m : (ℓ : Loc Cert.GatherWOutCoresRefIdeal.nD Cert.GatherWOutCoresRefIdeal.τ Cert.GatherWOutCoresRefIdeal.sig) → Buf (Elt Ideal) ℓ) : Prop :=
  True

def Pre_RsSmallChips (m : (ℓ : Loc Cert.RsSmallChips.nD Cert.RsSmallChips.τ Cert.RsSmallChips.sig) → Buf (Elt Bits) ℓ) : Prop :=
  True

def Pre_RsSmallChipsIdeal (m : (ℓ : Loc Cert.RsSmallChipsIdeal.nD Cert.RsSmallChipsIdeal.τ Cert.RsSmallChipsIdeal.sig) → Buf (Elt Ideal) ℓ) : Prop :=
  True

def Pre_RsSmallChipsRefIdeal (m : (ℓ : Loc Cert.RsSmallChipsRefIdeal.nD Cert.RsSmallChipsRefIdeal.τ Cert.RsSmallChipsRefIdeal.sig) → Buf (Elt Ideal) ℓ) : Prop :=
  True

def Pre_RsWOutChips (m : (ℓ : Loc Cert.RsWOutChips.nD Cert.RsWOutChips.τ Cert.RsWOutChips.sig) → Buf (Elt Bits) ℓ) : Prop :=
  True

def Pre_RsWOutChipsIdeal (m : (ℓ : Loc Cert.RsWOutChipsIdeal.nD Cert.RsWOutChipsIdeal.τ Cert.RsWOutChipsIdeal.sig) → Buf (Elt Ideal) ℓ) : Prop :=
  True

def Pre_RsWOutChipsRefIdeal (m : (ℓ : Loc Cert.RsWOutChipsRefIdeal.nD Cert.RsWOutChipsRefIdeal.τ Cert.RsWOutChipsRefIdeal.sig) → Buf (Elt Ideal) ℓ) : Prop :=
  True

def Pre_RsWInChips (m : (ℓ : Loc Cert.RsWInChips.nD Cert.RsWInChips.τ Cert.RsWInChips.sig) → Buf (Elt Bits) ℓ) : Prop :=
  True

def Pre_RsWInChipsIdeal (m : (ℓ : Loc Cert.RsWInChipsIdeal.nD Cert.RsWInChipsIdeal.τ Cert.RsWInChipsIdeal.sig) → Buf (Elt Ideal) ℓ) : Prop :=
  True

def Pre_RsWInChipsRefIdeal (m : (ℓ : Loc Cert.RsWInChipsRefIdeal.nD Cert.RsWInChipsRefIdeal.τ Cert.RsWInChipsRefIdeal.sig) → Buf (Elt Ideal) ℓ) : Prop :=
  True

def Pre_GatherWOutChips (m : (ℓ : Loc Cert.GatherWOutChips.nD Cert.GatherWOutChips.τ Cert.GatherWOutChips.sig) → Buf (Elt Bits) ℓ) : Prop :=
  True

def Pre_GatherWOutChipsIdeal (m : (ℓ : Loc Cert.GatherWOutChipsIdeal.nD Cert.GatherWOutChipsIdeal.τ Cert.GatherWOutChipsIdeal.sig) → Buf (Elt Ideal) ℓ) : Prop :=
  True

def Pre_GatherWOutChipsRefIdeal (m : (ℓ : Loc Cert.GatherWOutChipsRefIdeal.nD Cert.GatherWOutChipsRefIdeal.τ Cert.GatherWOutChipsRefIdeal.sig) → Buf (Elt Ideal) ℓ) : Prop :=
  True

def Pre_GatherWInChips (m : (ℓ : Loc Cert.GatherWInChips.nD Cert.GatherWInChips.τ Cert.GatherWInChips.sig) → Buf (Elt Bits) ℓ) : Prop :=
  True

def Pre_GatherWInChipsIdeal (m : (ℓ : Loc Cert.GatherWInChipsIdeal.nD Cert.GatherWInChipsIdeal.τ Cert.GatherWInChipsIdeal.sig) → Buf (Elt Ideal) ℓ) : Prop :=
  True

def Pre_GatherWInChipsRefIdeal (m : (ℓ : Loc Cert.GatherWInChipsRefIdeal.nD Cert.GatherWInChipsRefIdeal.τ Cert.GatherWInChipsRefIdeal.sig) → Buf (Elt Ideal) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherRep (m : (ℓ : Loc Cert.GatherRep.nD Cert.GatherRep.τ Cert.GatherRep.sig) → Buf (Elt Bits) ℓ) : Prop :=
  True

def Pre_GatherRepIdeal (m : (ℓ : Loc Cert.GatherRepIdeal.nD Cert.GatherRepIdeal.τ Cert.GatherRepIdeal.sig) → Buf (Elt Ideal) ℓ) : Prop :=
  True

def Pre_GatherRepRefIdeal (m : (ℓ : Loc Cert.GatherRepRefIdeal.nD Cert.GatherRepRefIdeal.τ Cert.GatherRepRefIdeal.sig) → Buf (Elt Ideal) ℓ) : Prop :=
  True

def Pre_RsWInAdd [hPre_a_core : Cert.Pre_a_core.Facts] (m : (ℓ : Loc Cert.RsWInAdd.nD Cert.RsWInAdd.τ Cert.RsWInAdd.sig) → Buf (Elt Bits) ℓ) : Prop :=
  ∀ c : Dev Cert.RsWInAdd.nD,
    (Cert.Pre_a_core.fn (F := Bits) (m ((c.tc : Thread Cert.RsWInAdd.nD Cert.RsWInAdd.τ).loc Cert.RsWInAdd.main_arg0)) (m ((c.tc : Thread Cert.RsWInAdd.nD Cert.RsWInAdd.τ).loc Cert.RsWInAdd.main_arg1)) (m ((c.tc : Thread Cert.RsWInAdd.nD Cert.RsWInAdd.τ).loc Cert.RsWInAdd.main_arg2))) = (fun _ => 1#1)

def Pre_RsWInAddIdeal [hPre_a_core : Cert.Pre_a_core.Facts] (m : (ℓ : Loc Cert.RsWInAddIdeal.nD Cert.RsWInAddIdeal.τ Cert.RsWInAddIdeal.sig) → Buf (Elt Ideal) ℓ) : Prop :=
  ∀ c : Dev Cert.RsWInAddIdeal.nD,
    (Cert.Pre_a_core.fn (F := Ideal) (m ((c.tc : Thread Cert.RsWInAddIdeal.nD Cert.RsWInAddIdeal.τ).loc Cert.RsWInAddIdeal.main_arg0)) (m ((c.tc : Thread Cert.RsWInAddIdeal.nD Cert.RsWInAddIdeal.τ).loc Cert.RsWInAddIdeal.main_arg1)) (m ((c.tc : Thread Cert.RsWInAddIdeal.nD Cert.RsWInAddIdeal.τ).loc Cert.RsWInAddIdeal.main_arg2))) = (fun _ => 1#1)

def Pre_RsWInAddRefIdeal (m : (ℓ : Loc Cert.RsWInAddRefIdeal.nD Cert.RsWInAddRefIdeal.τ Cert.RsWInAddRefIdeal.sig) → Buf (Elt Ideal) ℓ) : Prop :=
  True

def Pre_RsWInAddRefIdeal_a_core [hPre_a_core : Cert.Pre_a_core.Facts] (m : (ℓ : Loc Cert.RsWInAddRefIdeal.nD Cert.RsWInAddRefIdeal.τ Cert.RsWInAddRefIdeal.sig) → Buf (Elt Ideal) ℓ) : Prop :=
  ∀ c : Dev Cert.RsWInAddRefIdeal.nD,
    (Cert.Pre_a_core.fn (F := Ideal) (m ((c.tc : Thread Cert.RsWInAddRefIdeal.nD Cert.RsWInAddRefIdeal.τ).loc Cert.RsWInAddRefIdeal.main_arg0)) (m ((c.tc : Thread Cert.RsWInAddRefIdeal.nD Cert.RsWInAddRefIdeal.τ).loc Cert.RsWInAddRefIdeal.main_arg1)) (m ((c.tc : Thread Cert.RsWInAddRefIdeal.nD Cert.RsWInAddRefIdeal.τ).loc Cert.RsWInAddRefIdeal.main_arg2))) = (fun _ => 1#1)

def quiescent_DInProj [hDInProj : Cert.DInProj.Facts] : Prop :=
  ∀ (m : (ℓ : Loc Cert.DInProj.nD Cert.DInProj.τ Cert.DInProj.sig) → Buf (Elt Bits) ℓ) (g : Dev Cert.DInProj.nD → PrngReg), Pre_DInProj m →
    θ_run (Cert.DInProj.defs (F := Bits)) (onTc (τ := Cert.DInProj.τ) (Cert.DInProj.main (F := Bits))) ⟨m, fun _ => 0, g⟩ (fun r => (∀ c : Dev Cert.DInProj.nD,
      r.2.mem ((c.tc : Thread Cert.DInProj.nD Cert.DInProj.τ).loc Cert.DInProj.main_arg0) = m ((c.tc : Thread Cert.DInProj.nD Cert.DInProj.τ).loc Cert.DInProj.main_arg0)
      ∧ r.2.mem ((c.tc : Thread Cert.DInProj.nD Cert.DInProj.τ).loc Cert.DInProj.main_arg1) = m ((c.tc : Thread Cert.DInProj.nD Cert.DInProj.τ).loc Cert.DInProj.main_arg1)
      ∧ r.2.mem ((c.tc : Thread Cert.DInProj.nD Cert.DInProj.τ).loc Cert.DInProj.main_arg2) = m ((c.tc : Thread Cert.DInProj.nD Cert.DInProj.τ).loc Cert.DInProj.main_arg2))
      ∧ r.2.sem = fun _ => 0)

def quiescent_DInProjIdeal [hDInProjIdeal : Cert.DInProjIdeal.Facts] : Prop :=
  ∀ (m : (ℓ : Loc Cert.DInProjIdeal.nD Cert.DInProjIdeal.τ Cert.DInProjIdeal.sig) → Buf (Elt Ideal) ℓ) (g : Dev Cert.DInProjIdeal.nD → PrngReg), Pre_DInProjIdeal m →
    θ_run (Cert.DInProjIdeal.defs (F := Ideal)) (onTc (τ := Cert.DInProjIdeal.τ) (Cert.DInProjIdeal.main (F := Ideal))) ⟨m, fun _ => 0, g⟩ (fun r => (∀ c : Dev Cert.DInProjIdeal.nD,
      r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
      ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1)
      ∧ r.2.mem ((c.tc : Thread Cert.DInProjIdeal.nD Cert.DInProjIdeal.τ).loc Cert.DInProjIdeal.main_arg2) = m ((c.tc : Thread Cert.DInProjIdeal.nD Cert.DInProjIdeal.τ).loc Cert.DInProjIdeal.main_arg2))
      ∧ r.2.sem = fun _ => 0)

def quiescent_DInProjRefIdeal [hDInProjRefIdeal : Cert.DInProjRefIdeal.Facts] : Prop :=
  ∀ (m : (ℓ : Loc Cert.DInProjRefIdeal.nD Cert.DInProjRefIdeal.τ Cert.DInProjRefIdeal.sig) → Buf (Elt Ideal) ℓ) (g : Dev Cert.DInProjRefIdeal.nD → PrngReg), Pre_DInProjRefIdeal m →
    θ_run (Cert.DInProjRefIdeal.defs (F := Ideal)) (onTc (τ := Cert.DInProjRefIdeal.τ) (Cert.DInProjRefIdeal.main (F := Ideal))) ⟨m, fun _ => 0, g⟩ (fun r => (∀ c : Dev Cert.DInProjRefIdeal.nD,
      r.2.mem ((c.tc : Thread Cert.DInProjRefIdeal.nD Cert.DInProjRefIdeal.τ).loc Cert.DInProjRefIdeal.main_arg0) = m ((c.tc : Thread Cert.DInProjRefIdeal.nD Cert.DInProjRefIdeal.τ).loc Cert.DInProjRefIdeal.main_arg0)
      ∧ r.2.mem ((c.tc : Thread Cert.DInProjRefIdeal.nD Cert.DInProjRefIdeal.τ).loc Cert.DInProjRefIdeal.main_arg1) = m ((c.tc : Thread Cert.DInProjRefIdeal.nD Cert.DInProjRefIdeal.τ).loc Cert.DInProjRefIdeal.main_arg1)
      ∧ r.2.mem ((c.tc : Thread Cert.DInProjRefIdeal.nD Cert.DInProjRefIdeal.τ).loc Cert.DInProjRefIdeal.main_arg2) = m ((c.tc : Thread Cert.DInProjRefIdeal.nD Cert.DInProjRefIdeal.τ).loc Cert.DInProjRefIdeal.main_arg2))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_DOutProj [hDOutProj : Cert.DOutProj.Facts] : Prop :=
  ∀ (m : (ℓ : Loc Cert.DOutProj.nD Cert.DOutProj.τ Cert.DOutProj.sig) → Buf (Elt Bits) ℓ) (g : Dev Cert.DOutProj.nD → PrngReg), Pre_DOutProj m →
    θ_run (Cert.DOutProj.defs (F := Bits)) (onTc (τ := Cert.DOutProj.τ) (Cert.DOutProj.main (F := Bits))) ⟨m, fun _ => 0, g⟩ (fun r => (∀ c : Dev Cert.DOutProj.nD,
      r.2.mem ((c.tc : Thread Cert.DOutProj.nD Cert.DOutProj.τ).loc Cert.DOutProj.main_arg0) = m ((c.tc : Thread Cert.DOutProj.nD Cert.DOutProj.τ).loc Cert.DOutProj.main_arg0)
      ∧ r.2.mem ((c.tc : Thread Cert.DOutProj.nD Cert.DOutProj.τ).loc Cert.DOutProj.main_arg1) = m ((c.tc : Thread Cert.DOutProj.nD Cert.DOutProj.τ).loc Cert.DOutProj.main_arg1)
      ∧ r.2.mem ((c.tc : Thread Cert.DOutProj.nD Cert.DOutProj.τ).loc Cert.DOutProj.main_arg2) = m ((c.tc : Thread Cert.DOutProj.nD Cert.DOutProj.τ).loc Cert.DOutProj.main_arg2))
      ∧ r.2.sem = fun _ => 0)

def quiescent_DOutProjIdeal [hDOutProjIdeal : Cert.DOutProjIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg), Pre_DOutProjIdeal m →
    θ_run (Cert.DOutProjIdeal.defs (F := Ideal)) (onTc (τ := Cert.DOutProjIdeal.τ) (Cert.DOutProjIdeal.main (F := Ideal))) ⟨m, fun _ => 0, g⟩ (fun r => (∀ c : Dev Cert.DOutProjIdeal.nD,
      r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
      ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1)
      ∧ r.2.mem ((c.tc : Thread Cert.DOutProjIdeal.nD Cert.DOutProjIdeal.τ).loc Cert.DOutProjIdeal.main_arg2) = m ((c.tc : Thread Cert.DOutProjIdeal.nD Cert.DOutProjIdeal.τ).loc Cert.DOutProjIdeal.main_arg2))
      ∧ r.2.sem = fun _ => 0)

def quiescent_DOutProjRefIdeal [hDOutProjRefIdeal : Cert.DOutProjRefIdeal.Facts] : Prop :=
  ∀ (m : (ℓ : Loc Cert.DOutProjRefIdeal.nD Cert.DOutProjRefIdeal.τ Cert.DOutProjRefIdeal.sig) → Buf (Elt Ideal) ℓ) (g : Dev Cert.DOutProjRefIdeal.nD → PrngReg), Pre_DOutProjRefIdeal m →
    θ_run (Cert.DOutProjRefIdeal.defs (F := Ideal)) (onTc (τ := Cert.DOutProjRefIdeal.τ) (Cert.DOutProjRefIdeal.main (F := Ideal))) ⟨m, fun _ => 0, g⟩ (fun r => (∀ c : Dev Cert.DOutProjRefIdeal.nD,
      r.2.mem ((c.tc : Thread Cert.DOutProjRefIdeal.nD Cert.DOutProjRefIdeal.τ).loc Cert.DOutProjRefIdeal.main_arg0) = m ((c.tc : Thread Cert.DOutProjRefIdeal.nD Cert.DOutProjRefIdeal.τ).loc Cert.DOutProjRefIdeal.main_arg0)
      ∧ r.2.mem ((c.tc : Thread Cert.DOutProjRefIdeal.nD Cert.DOutProjRefIdeal.τ).loc Cert.DOutProjRefIdeal.main_arg1) = m ((c.tc : Thread Cert.DOutProjRefIdeal.nD Cert.DOutProjRefIdeal.τ).loc Cert.DOutProjRefIdeal.main_arg1)
      ∧ r.2.mem ((c.tc : Thread Cert.DOutProjRefIdeal.nD Cert.DOutProjRefIdeal.τ).loc Cert.DOutProjRefIdeal.main_arg2) = m ((c.tc : Thread Cert.DOutProjRefIdeal.nD Cert.DOutProjRefIdeal.τ).loc Cert.DOutProjRefIdeal.main_arg2))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1)
      ∧ r.2.mem ((c.tc : Thread Cert.RmsIn.nD Cert.RmsIn.τ).loc Cert.RmsIn.main_arg2) = m ((c.tc : Thread Cert.RmsIn.nD Cert.RmsIn.τ).loc Cert.RmsIn.main_arg2))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
      ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2))
      ∧ r.2.sem = fun _ => 0)

def quiescent_RmsInRefIdeal [hRmsInRefIdeal : Cert.RmsInRefIdeal.Facts] : Prop :=
  ∀ (m : (ℓ : Loc Cert.RmsInRefIdeal.nD Cert.RmsInRefIdeal.τ Cert.RmsInRefIdeal.sig) → Buf (Elt Ideal) ℓ) (g : Dev Cert.RmsInRefIdeal.nD → PrngReg), Pre_RmsInRefIdeal m →
    θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1)
      ∧ r.2.mem ((c.tc : Thread Cert.RmsInRefIdeal.nD Cert.RmsInRefIdeal.τ).loc Cert.RmsInRefIdeal.main_arg2) = m ((c.tc : Thread Cert.RmsInRefIdeal.nD Cert.RmsInRefIdeal.τ).loc Cert.RmsInRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3)
      ∧ r.2.mem ((c.tc : Thread Cert.RmsBwd.nD Cert.RmsBwd.τ).loc Cert.RmsBwd.main_arg4) = m ((c.tc : Thread Cert.RmsBwd.nD Cert.RmsBwd.τ).loc Cert.RmsBwd.main_arg4))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
      ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3)
      ∧ r.2.mem ((c.tc : Thread Cert.RmsBwdRefIdeal.nD Cert.RmsBwdRefIdeal.τ).loc Cert.RmsBwdRefIdeal.main_arg4) = m ((c.tc : Thread Cert.RmsBwdRefIdeal.nD Cert.RmsBwdRefIdeal.τ).loc Cert.RmsBwdRefIdeal.main_arg4))
      ∧ r.2.sem = fun _ => 0)

def quiescent_MetaBwd [hMetaBwd : Cert.MetaBwd.Facts] : Prop :=
  ∀ (m : (ℓ : Loc Cert.MetaBwd.nD Cert.MetaBwd.τ Cert.MetaBwd.sig) → Buf (Elt Bits) ℓ) (g : Dev Cert.MetaBwd.nD → PrngReg), Pre_MetaBwd m →
    θ_run (Cert.MetaBwd.defs (F := Bits)) (onTc (τ := Cert.MetaBwd.τ) (Cert.MetaBwd.main (F := Bits))) ⟨m, fun _ => 0, g⟩ (fun r => (∀ c : Dev Cert.MetaBwd.nD,
      r.2.mem ((c.tc : Thread Cert.MetaBwd.nD Cert.MetaBwd.τ).loc Cert.MetaBwd.main_arg0) = m ((c.tc : Thread Cert.MetaBwd.nD Cert.MetaBwd.τ).loc Cert.MetaBwd.main_arg0)
      ∧ r.2.mem ((c.tc : Thread Cert.MetaBwd.nD Cert.MetaBwd.τ).loc Cert.MetaBwd.main_arg1) = m ((c.tc : Thread Cert.MetaBwd.nD Cert.MetaBwd.τ).loc Cert.MetaBwd.main_arg1)
      ∧ r.2.mem ((c.tc : Thread Cert.MetaBwd.nD Cert.MetaBwd.τ).loc Cert.MetaBwd.main_arg2) = m ((c.tc : Thread Cert.MetaBwd.nD Cert.MetaBwd.τ).loc Cert.MetaBwd.main_arg2)
      ∧ r.2.mem ((c.tc : Thread Cert.MetaBwd.nD Cert.MetaBwd.τ).loc Cert.MetaBwd.main_arg3) = m ((c.tc : Thread Cert.MetaBwd.nD Cert.MetaBwd.τ).loc Cert.MetaBwd.main_arg3)
      ∧ r.2.mem ((c.tc : Thread Cert.MetaBwd.nD Cert.MetaBwd.τ).loc Cert.MetaBwd.main_arg4) = m ((c.tc : Thread Cert.MetaBwd.nD Cert.MetaBwd.τ).loc Cert.MetaBwd.main_arg4))
      ∧ r.2.sem = fun _ => 0)

def quiescent_MetaBwdIdeal [hMetaBwdIdeal : Cert.MetaBwdIdeal.Facts] : Prop :=
  ∀ (m : (ℓ : Loc Cert.MetaBwdIdeal.nD Cert.MetaBwdIdeal.τ Cert.MetaBwdIdeal.sig) → Buf (Elt Ideal) ℓ) (g : Dev Cert.MetaBwdIdeal.nD → PrngReg), Pre_MetaBwdIdeal m →
    θ_run (Cert.MetaBwdIdeal.defs (F := Ideal)) (onTc (τ := Cert.MetaBwdIdeal.τ) (Cert.MetaBwdIdeal.main (F := Ideal))) ⟨m, fun _ => 0, g⟩ (fun r => (∀ c : Dev Cert.MetaBwdIdeal.nD,
      r.2.mem ((c.tc : Thread Cert.MetaBwdIdeal.nD Cert.MetaBwdIdeal.τ).loc Cert.MetaBwdIdeal.main_arg0) = m ((c.tc : Thread Cert.MetaBwdIdeal.nD Cert.MetaBwdIdeal.τ).loc Cert.MetaBwdIdeal.main_arg0)
      ∧ r.2.mem ((c.tc : Thread Cert.MetaBwdIdeal.nD Cert.MetaBwdIdeal.τ).loc Cert.MetaBwdIdeal.main_arg1) = m ((c.tc : Thread Cert.MetaBwdIdeal.nD Cert.MetaBwdIdeal.τ).loc Cert.MetaBwdIdeal.main_arg1)
      ∧ r.2.mem ((c.tc : Thread Cert.MetaBwdIdeal.nD Cert.MetaBwdIdeal.τ).loc Cert.MetaBwdIdeal.main_arg2) = m ((c.tc : Thread Cert.MetaBwdIdeal.nD Cert.MetaBwdIdeal.τ).loc Cert.MetaBwdIdeal.main_arg2)
      ∧ r.2.mem ((c.tc : Thread Cert.MetaBwdIdeal.nD Cert.MetaBwdIdeal.τ).loc Cert.MetaBwdIdeal.main_arg3) = m ((c.tc : Thread Cert.MetaBwdIdeal.nD Cert.MetaBwdIdeal.τ).loc Cert.MetaBwdIdeal.main_arg3)
      ∧ r.2.mem ((c.tc : Thread Cert.MetaBwdIdeal.nD Cert.MetaBwdIdeal.τ).loc Cert.MetaBwdIdeal.main_arg4) = m ((c.tc : Thread Cert.MetaBwdIdeal.nD Cert.MetaBwdIdeal.τ).loc Cert.MetaBwdIdeal.main_arg4))
      ∧ r.2.sem = fun _ => 0)

def quiescent_MetaBwdRefIdeal [hMetaBwdRefIdeal : Cert.MetaBwdRefIdeal.Facts] : Prop :=
  ∀ (m : (ℓ : Loc Cert.MetaBwdRefIdeal.nD Cert.MetaBwdRefIdeal.τ Cert.MetaBwdRefIdeal.sig) → Buf (Elt Ideal) ℓ) (g : Dev Cert.MetaBwdRefIdeal.nD → PrngReg), Pre_MetaBwdRefIdeal m →
    θ_run (Cert.MetaBwdRefIdeal.defs (F := Ideal)) (onTc (τ := Cert.MetaBwdRefIdeal.τ) (Cert.MetaBwdRefIdeal.main (F := Ideal))) ⟨m, fun _ => 0, g⟩ (fun r => (∀ c : Dev Cert.MetaBwdRefIdeal.nD,
      r.2.mem ((c.tc : Thread Cert.MetaBwdRefIdeal.nD Cert.MetaBwdRefIdeal.τ).loc Cert.MetaBwdRefIdeal.main_arg0) = m ((c.tc : Thread Cert.MetaBwdRefIdeal.nD Cert.MetaBwdRefIdeal.τ).loc Cert.MetaBwdRefIdeal.main_arg0)
      ∧ r.2.mem ((c.tc : Thread Cert.MetaBwdRefIdeal.nD Cert.MetaBwdRefIdeal.τ).loc Cert.MetaBwdRefIdeal.main_arg1) = m ((c.tc : Thread Cert.MetaBwdRefIdeal.nD Cert.MetaBwdRefIdeal.τ).loc Cert.MetaBwdRefIdeal.main_arg1)
      ∧ r.2.mem ((c.tc : Thread Cert.MetaBwdRefIdeal.nD Cert.MetaBwdRefIdeal.τ).loc Cert.MetaBwdRefIdeal.main_arg2) = m ((c.tc : Thread Cert.MetaBwdRefIdeal.nD Cert.MetaBwdRefIdeal.τ).loc Cert.MetaBwdRefIdeal.main_arg2)
      ∧ r.2.mem ((c.tc : Thread Cert.MetaBwdRefIdeal.nD Cert.MetaBwdRefIdeal.τ).loc Cert.MetaBwdRefIdeal.main_arg3) = m ((c.tc : Thread Cert.MetaBwdRefIdeal.nD Cert.MetaBwdRefIdeal.τ).loc Cert.MetaBwdRefIdeal.main_arg3)
      ∧ r.2.mem ((c.tc : Thread Cert.MetaBwdRefIdeal.nD Cert.MetaBwdRefIdeal.τ).loc Cert.MetaBwdRefIdeal.main_arg4) = m ((c.tc : Thread Cert.MetaBwdRefIdeal.nD Cert.MetaBwdRefIdeal.τ).loc Cert.MetaBwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5))
      ∧ r.2.sem = fun _ => 0)

def quiescent_RsWOutAdd [hRsWOutAdd : Cert.RsWOutAdd.Facts] : Prop :=
  ∀ (m : (ℓ : Loc Cert.RsWOutAdd.nD Cert.RsWOutAdd.τ Cert.RsWOutAdd.sig) → Buf (Elt Bits) ℓ) (g : Dev Cert.RsWOutAdd.nD → PrngReg), Pre_RsWOutAdd m →
    θ_run (Cert.RsWOutAdd.defs (F := Bits)) (onTc (τ := Cert.RsWOutAdd.τ) (Cert.RsWOutAdd.main (F := Bits))) ⟨m, fun _ => 0, g⟩ (fun r => (∀ c : Dev Cert.RsWOutAdd.nD,
      r.2.mem ((c.tc : Thread Cert.RsWOutAdd.nD Cert.RsWOutAdd.τ).loc Cert.RsWOutAdd.main_arg0) = m ((c.tc : Thread Cert.RsWOutAdd.nD Cert.RsWOutAdd.τ).loc Cert.RsWOutAdd.main_arg0)
      ∧ r.2.mem ((c.tc : Thread Cert.RsWOutAdd.nD Cert.RsWOutAdd.τ).loc Cert.RsWOutAdd.main_arg1) = m ((c.tc : Thread Cert.RsWOutAdd.nD Cert.RsWOutAdd.τ).loc Cert.RsWOutAdd.main_arg1))
      ∧ r.2.sem = fun _ => 0)

def quiescent_RsWOutAddIdeal [hRsWOutAddIdeal : Cert.RsWOutAddIdeal.Facts] : Prop :=
  ∀ (m : (ℓ : Loc Cert.RsWOutAddIdeal.nD Cert.RsWOutAddIdeal.τ Cert.RsWOutAddIdeal.sig) → Buf (Elt Ideal) ℓ) (g : Dev Cert.RsWOutAddIdeal.nD → PrngReg), Pre_RsWOutAddIdeal m →
    θ_run (Cert.RsWOutAddIdeal.defs (F := Ideal)) (onTc (τ := Cert.RsWOutAddIdeal.τ) (Cert.RsWOutAddIdeal.main (F := Ideal))) ⟨m, fun _ => 0, g⟩ (fun r => (∀ c : Dev Cert.RsWOutAddIdeal.nD,
      r.2.mem ((c.tc : Thread Cert.RsWOutAddIdeal.nD Cert.RsWOutAddIdeal.τ).loc Cert.RsWOutAddIdeal.main_arg0) = m ((c.tc : Thread Cert.RsWOutAddIdeal.nD Cert.RsWOutAddIdeal.τ).loc Cert.RsWOutAddIdeal.main_arg0)
      ∧ r.2.mem ((c.tc : Thread Cert.RsWOutAddIdeal.nD Cert.RsWOutAddIdeal.τ).loc Cert.RsWOutAddIdeal.main_arg1) = m ((c.tc : Thread Cert.RsWOutAddIdeal.nD Cert.RsWOutAddIdeal.τ).loc Cert.RsWOutAddIdeal.main_arg1))
      ∧ r.2.sem = fun _ => 0)

def quiescent_RsWOutAddRefIdeal [hRsWOutAddRefIdeal : Cert.RsWOutAddRefIdeal.Facts] : Prop :=
  ∀ (m : (ℓ : Loc Cert.RsWOutAddRefIdeal.nD Cert.RsWOutAddRefIdeal.τ Cert.RsWOutAddRefIdeal.sig) → Buf (Elt Ideal) ℓ) (g : Dev Cert.RsWOutAddRefIdeal.nD → PrngReg), Pre_RsWOutAddRefIdeal m →
    θ_run (Cert.RsWOutAddRefIdeal.defs (F := Ideal)) (onTc (τ := Cert.RsWOutAddRefIdeal.τ) (Cert.RsWOutAddRefIdeal.main (F := Ideal))) ⟨m, fun _ => 0, g⟩ (fun r => (∀ c : Dev Cert.RsWOutAddRefIdeal.nD,
      r.2.mem ((c.tc : Thread Cert.RsWOutAddRefIdeal.nD Cert.RsWOutAddRefIdeal.τ).loc Cert.RsWOutAddRefIdeal.main_arg0) = m ((c.tc : Thread Cert.RsWOutAddRefIdeal.nD Cert.RsWOutAddRefIdeal.τ).loc Cert.RsWOutAddRefIdeal.main_arg0)
      ∧ r.2.mem ((c.tc : Thread Cert.RsWOutAddRefIdeal.nD Cert.RsWOutAddRefIdeal.τ).loc Cert.RsWOutAddRefIdeal.main_arg1) = m ((c.tc : Thread Cert.RsWOutAddRefIdeal.nD Cert.RsWOutAddRefIdeal.τ).loc Cert.RsWOutAddRefIdeal.main_arg1))
      ∧ r.2.sem = fun _ => 0)

def quiescent_RsSmallAdd [hRsSmallAdd : Cert.RsSmallAdd.Facts] : Prop :=
  ∀ (m : (ℓ : Loc Cert.RsSmallAdd.nD Cert.RsSmallAdd.τ Cert.RsSmallAdd.sig) → Buf (Elt Bits) ℓ) (g : Dev Cert.RsSmallAdd.nD → PrngReg), Pre_RsSmallAdd m →
    θ_run (Cert.RsSmallAdd.defs (F := Bits)) (onTc (τ := Cert.RsSmallAdd.τ) (Cert.RsSmallAdd.main (F := Bits))) ⟨m, fun _ => 0, g⟩ (fun r => (∀ c : Dev Cert.RsSmallAdd.nD,
      r.2.mem ((c.tc : Thread Cert.RsSmallAdd.nD Cert.RsSmallAdd.τ).loc Cert.RsSmallAdd.main_arg0) = m ((c.tc : Thread Cert.RsSmallAdd.nD Cert.RsSmallAdd.τ).loc Cert.RsSmallAdd.main_arg0)
      ∧ r.2.mem ((c.tc : Thread Cert.RsSmallAdd.nD Cert.RsSmallAdd.τ).loc Cert.RsSmallAdd.main_arg1) = m ((c.tc : Thread Cert.RsSmallAdd.nD Cert.RsSmallAdd.τ).loc Cert.RsSmallAdd.main_arg1))
      ∧ r.2.sem = fun _ => 0)

def quiescent_RsSmallAddIdeal [hRsSmallAddIdeal : Cert.RsSmallAddIdeal.Facts] : Prop :=
  ∀ (m : (ℓ : Loc Cert.RsSmallAddIdeal.nD Cert.RsSmallAddIdeal.τ Cert.RsSmallAddIdeal.sig) → Buf (Elt Ideal) ℓ) (g : Dev Cert.RsSmallAddIdeal.nD → PrngReg), Pre_RsSmallAddIdeal m →
    θ_run (Cert.RsSmallAddIdeal.defs (F := Ideal)) (onTc (τ := Cert.RsSmallAddIdeal.τ) (Cert.RsSmallAddIdeal.main (F := Ideal))) ⟨m, fun _ => 0, g⟩ (fun r => (∀ c : Dev Cert.RsSmallAddIdeal.nD,
      r.2.mem ((c.tc : Thread Cert.RsSmallAddIdeal.nD Cert.RsSmallAddIdeal.τ).loc Cert.RsSmallAddIdeal.main_arg0) = m ((c.tc : Thread Cert.RsSmallAddIdeal.nD Cert.RsSmallAddIdeal.τ).loc Cert.RsSmallAddIdeal.main_arg0)
      ∧ r.2.mem ((c.tc : Thread Cert.RsSmallAddIdeal.nD Cert.RsSmallAddIdeal.τ).loc Cert.RsSmallAddIdeal.main_arg1) = m ((c.tc : Thread Cert.RsSmallAddIdeal.nD Cert.RsSmallAddIdeal.τ).loc Cert.RsSmallAddIdeal.main_arg1))
      ∧ r.2.sem = fun _ => 0)

def quiescent_RsSmallAddRefIdeal [hRsSmallAddRefIdeal : Cert.RsSmallAddRefIdeal.Facts] : Prop :=
  ∀ (m : (ℓ : Loc Cert.RsSmallAddRefIdeal.nD Cert.RsSmallAddRefIdeal.τ Cert.RsSmallAddRefIdeal.sig) → Buf (Elt Ideal) ℓ) (g : Dev Cert.RsSmallAddRefIdeal.nD → PrngReg), Pre_RsSmallAddRefIdeal m →
    θ_run (Cert.RsSmallAddRefIdeal.defs (F := Ideal)) (onTc (τ := Cert.RsSmallAddRefIdeal.τ) (Cert.RsSmallAddRefIdeal.main (F := Ideal))) ⟨m, fun _ => 0, g⟩ (fun r => (∀ c : Dev Cert.RsSmallAddRefIdeal.nD,
      r.2.mem ((c.tc : Thread Cert.RsSmallAddRefIdeal.nD Cert.RsSmallAddRefIdeal.τ).loc Cert.RsSmallAddRefIdeal.main_arg0) = m ((c.tc : Thread Cert.RsSmallAddRefIdeal.nD Cert.RsSmallAddRefIdeal.τ).loc Cert.RsSmallAddRefIdeal.main_arg0)
      ∧ r.2.mem ((c.tc : Thread Cert.RsSmallAddRefIdeal.nD Cert.RsSmallAddRefIdeal.τ).loc Cert.RsSmallAddRefIdeal.main_arg1) = m ((c.tc : Thread Cert.RsSmallAddRefIdeal.nD Cert.RsSmallAddRefIdeal.τ).loc Cert.RsSmallAddRefIdeal.main_arg1))
      ∧ r.2.sem = fun _ => 0)

def quiescent_RsWInSum [hRsWInSum : Cert.RsWInSum.Facts] : Prop :=
  ∀ (m : (ℓ : Loc Cert.RsWInSum.nD Cert.RsWInSum.τ Cert.RsWInSum.sig) → Buf (Elt Bits) ℓ) (g : Dev Cert.RsWInSum.nD → PrngReg), Pre_RsWInSum m →
    θ_run (Cert.RsWInSum.defs (F := Bits)) (onTc (τ := Cert.RsWInSum.τ) (Cert.RsWInSum.main (F := Bits))) ⟨m, fun _ => 0, g⟩ (fun r => (∀ c : Dev Cert.RsWInSum.nD,
      r.2.mem ((c.tc : Thread Cert.RsWInSum.nD Cert.RsWInSum.τ).loc Cert.RsWInSum.main_arg0) = m ((c.tc : Thread Cert.RsWInSum.nD Cert.RsWInSum.τ).loc Cert.RsWInSum.main_arg0))
      ∧ r.2.sem = fun _ => 0)

def quiescent_RsWInSumIdeal [hRsWInSumIdeal : Cert.RsWInSumIdeal.Facts] : Prop :=
  ∀ (m : (ℓ : Loc Cert.RsWInSumIdeal.nD Cert.RsWInSumIdeal.τ Cert.RsWInSumIdeal.sig) → Buf (Elt Ideal) ℓ) (g : Dev Cert.RsWInSumIdeal.nD → PrngReg), Pre_RsWInSumIdeal m →
    θ_run (Cert.RsWInSumIdeal.defs (F := Ideal)) (onTc (τ := Cert.RsWInSumIdeal.τ) (Cert.RsWInSumIdeal.main (F := Ideal))) ⟨m, fun _ => 0, g⟩ (fun r => (∀ c : Dev Cert.RsWInSumIdeal.nD,
      r.2.mem ((c.tc : Thread Cert.RsWInSumIdeal.nD Cert.RsWInSumIdeal.τ).loc Cert.RsWInSumIdeal.main_arg0) = m ((c.tc : Thread Cert.RsWInSumIdeal.nD Cert.RsWInSumIdeal.τ).loc Cert.RsWInSumIdeal.main_arg0))
      ∧ r.2.sem = fun _ => 0)

def quiescent_RsWInSumRefIdeal [hRsWInSumRefIdeal : Cert.RsWInSumRefIdeal.Facts] : Prop :=
  ∀ (m : (ℓ : Loc Cert.RsWInSumRefIdeal.nD Cert.RsWInSumRefIdeal.τ Cert.RsWInSumRefIdeal.sig) → Buf (Elt Ideal) ℓ) (g : Dev Cert.RsWInSumRefIdeal.nD → PrngReg), Pre_RsWInSumRefIdeal m →
    θ_run (Cert.RsWInSumRefIdeal.defs (F := Ideal)) (onTc (τ := Cert.RsWInSumRefIdeal.τ) (Cert.RsWInSumRefIdeal.main (F := Ideal))) ⟨m, fun _ => 0, g⟩ (fun r => (∀ c : Dev Cert.RsWInSumRefIdeal.nD,
      r.2.mem ((c.tc : Thread Cert.RsWInSumRefIdeal.nD Cert.RsWInSumRefIdeal.τ).loc Cert.RsWInSumRefIdeal.main_arg0) = m ((c.tc : Thread Cert.RsWInSumRefIdeal.nD Cert.RsWInSumRefIdeal.τ).loc Cert.RsWInSumRefIdeal.main_arg0))
      ∧ r.2.sem = fun _ => 0)

def quiescent_RsWOutSum [hRsWOutSum : Cert.RsWOutSum.Facts] : Prop :=
  ∀ (m : (ℓ : Loc Cert.RsWOutSum.nD Cert.RsWOutSum.τ Cert.RsWOutSum.sig) → Buf (Elt Bits) ℓ) (g : Dev Cert.RsWOutSum.nD → PrngReg), Pre_RsWOutSum m →
    θ_run (Cert.RsWOutSum.defs (F := Bits)) (onTc (τ := Cert.RsWOutSum.τ) (Cert.RsWOutSum.main (F := Bits))) ⟨m, fun _ => 0, g⟩ (fun r => (∀ c : Dev Cert.RsWOutSum.nD,
      r.2.mem ((c.tc : Thread Cert.RsWOutSum.nD Cert.RsWOutSum.τ).loc Cert.RsWOutSum.main_arg0) = m ((c.tc : Thread Cert.RsWOutSum.nD Cert.RsWOutSum.τ).loc Cert.RsWOutSum.main_arg0))
      ∧ r.2.sem = fun _ => 0)

def quiescent_RsWOutSumIdeal [hRsWOutSumIdeal : Cert.RsWOutSumIdeal.Facts] : Prop :=
  ∀ (m : (ℓ : Loc Cert.RsWOutSumIdeal.nD Cert.RsWOutSumIdeal.τ Cert.RsWOutSumIdeal.sig) → Buf (Elt Ideal) ℓ) (g : Dev Cert.RsWOutSumIdeal.nD → PrngReg), Pre_RsWOutSumIdeal m →
    θ_run (Cert.RsWOutSumIdeal.defs (F := Ideal)) (onTc (τ := Cert.RsWOutSumIdeal.τ) (Cert.RsWOutSumIdeal.main (F := Ideal))) ⟨m, fun _ => 0, g⟩ (fun r => (∀ c : Dev Cert.RsWOutSumIdeal.nD,
      r.2.mem ((c.tc : Thread Cert.RsWOutSumIdeal.nD Cert.RsWOutSumIdeal.τ).loc Cert.RsWOutSumIdeal.main_arg0) = m ((c.tc : Thread Cert.RsWOutSumIdeal.nD Cert.RsWOutSumIdeal.τ).loc Cert.RsWOutSumIdeal.main_arg0))
      ∧ r.2.sem = fun _ => 0)

def quiescent_RsWOutSumRefIdeal [hRsWOutSumRefIdeal : Cert.RsWOutSumRefIdeal.Facts] : Prop :=
  ∀ (m : (ℓ : Loc Cert.RsWOutSumRefIdeal.nD Cert.RsWOutSumRefIdeal.τ Cert.RsWOutSumRefIdeal.sig) → Buf (Elt Ideal) ℓ) (g : Dev Cert.RsWOutSumRefIdeal.nD → PrngReg), Pre_RsWOutSumRefIdeal m →
    θ_run (Cert.RsWOutSumRefIdeal.defs (F := Ideal)) (onTc (τ := Cert.RsWOutSumRefIdeal.τ) (Cert.RsWOutSumRefIdeal.main (F := Ideal))) ⟨m, fun _ => 0, g⟩ (fun r => (∀ c : Dev Cert.RsWOutSumRefIdeal.nD,
      r.2.mem ((c.tc : Thread Cert.RsWOutSumRefIdeal.nD Cert.RsWOutSumRefIdeal.τ).loc Cert.RsWOutSumRefIdeal.main_arg0) = m ((c.tc : Thread Cert.RsWOutSumRefIdeal.nD Cert.RsWOutSumRefIdeal.τ).loc Cert.RsWOutSumRefIdeal.main_arg0))
      ∧ r.2.sem = fun _ => 0)

def quiescent_RsSmallSum [hRsSmallSum : Cert.RsSmallSum.Facts] : Prop :=
  ∀ (m : (ℓ : Loc Cert.RsSmallSum.nD Cert.RsSmallSum.τ Cert.RsSmallSum.sig) → Buf (Elt Bits) ℓ) (g : Dev Cert.RsSmallSum.nD → PrngReg), Pre_RsSmallSum m →
    θ_run (Cert.RsSmallSum.defs (F := Bits)) (onTc (τ := Cert.RsSmallSum.τ) (Cert.RsSmallSum.main (F := Bits))) ⟨m, fun _ => 0, g⟩ (fun r => (∀ c : Dev Cert.RsSmallSum.nD,
      r.2.mem ((c.tc : Thread Cert.RsSmallSum.nD Cert.RsSmallSum.τ).loc Cert.RsSmallSum.main_arg0) = m ((c.tc : Thread Cert.RsSmallSum.nD Cert.RsSmallSum.τ).loc Cert.RsSmallSum.main_arg0))
      ∧ r.2.sem = fun _ => 0)

def quiescent_RsSmallSumIdeal [hRsSmallSumIdeal : Cert.RsSmallSumIdeal.Facts] : Prop :=
  ∀ (m : (ℓ : Loc Cert.RsSmallSumIdeal.nD Cert.RsSmallSumIdeal.τ Cert.RsSmallSumIdeal.sig) → Buf (Elt Ideal) ℓ) (g : Dev Cert.RsSmallSumIdeal.nD → PrngReg), Pre_RsSmallSumIdeal m →
    θ_run (Cert.RsSmallSumIdeal.defs (F := Ideal)) (onTc (τ := Cert.RsSmallSumIdeal.τ) (Cert.RsSmallSumIdeal.main (F := Ideal))) ⟨m, fun _ => 0, g⟩ (fun r => (∀ c : Dev Cert.RsSmallSumIdeal.nD,
      r.2.mem ((c.tc : Thread Cert.RsSmallSumIdeal.nD Cert.RsSmallSumIdeal.τ).loc Cert.RsSmallSumIdeal.main_arg0) = m ((c.tc : Thread Cert.RsSmallSumIdeal.nD Cert.RsSmallSumIdeal.τ).loc Cert.RsSmallSumIdeal.main_arg0))
      ∧ r.2.sem = fun _ => 0)

def quiescent_RsSmallSumRefIdeal [hRsSmallSumRefIdeal : Cert.RsSmallSumRefIdeal.Facts] : Prop :=
  ∀ (m : (ℓ : Loc Cert.RsSmallSumRefIdeal.nD Cert.RsSmallSumRefIdeal.τ Cert.RsSmallSumRefIdeal.sig) → Buf (Elt Ideal) ℓ) (g : Dev Cert.RsSmallSumRefIdeal.nD → PrngReg), Pre_RsSmallSumRefIdeal m →
    θ_run (Cert.RsSmallSumRefIdeal.defs (F := Ideal)) (onTc (τ := Cert.RsSmallSumRefIdeal.τ) (Cert.RsSmallSumRefIdeal.main (F := Ideal))) ⟨m, fun _ => 0, g⟩ (fun r => (∀ c : Dev Cert.RsSmallSumRefIdeal.nD,
      r.2.mem ((c.tc : Thread Cert.RsSmallSumRefIdeal.nD Cert.RsSmallSumRefIdeal.τ).loc Cert.RsSmallSumRefIdeal.main_arg0) = m ((c.tc : Thread Cert.RsSmallSumRefIdeal.nD Cert.RsSmallSumRefIdeal.τ).loc Cert.RsSmallSumRefIdeal.main_arg0))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_RsWInSib [hRsWInSib : Cert.RsWInSib.Facts] : Prop :=
  ∀ (m : (ℓ : Loc Cert.RsWInSib.nD Cert.RsWInSib.τ Cert.RsWInSib.sig) → Buf (Elt Bits) ℓ) (g : Dev Cert.RsWInSib.nD → PrngReg), Pre_RsWInSib m →
    θ_run (Cert.RsWInSib.defs (F := Bits)) (onTc (τ := Cert.RsWInSib.τ) (Cert.RsWInSib.main (F := Bits))) ⟨m, fun _ => 0, g⟩ (fun r => (∀ c : Dev Cert.RsWInSib.nD,
      r.2.mem ((c.tc : Thread Cert.RsWInSib.nD Cert.RsWInSib.τ).loc Cert.RsWInSib.main_arg0) = m ((c.tc : Thread Cert.RsWInSib.nD Cert.RsWInSib.τ).loc Cert.RsWInSib.main_arg0))
      ∧ r.2.sem = fun _ => 0)

def quiescent_RsWInSibIdeal [hRsWInSibIdeal : Cert.RsWInSibIdeal.Facts] : Prop :=
  ∀ (m : (ℓ : Loc Cert.RsWInSibIdeal.nD Cert.RsWInSibIdeal.τ Cert.RsWInSibIdeal.sig) → Buf (Elt Ideal) ℓ) (g : Dev Cert.RsWInSibIdeal.nD → PrngReg), Pre_RsWInSibIdeal m →
    θ_run (Cert.RsWInSibIdeal.defs (F := Ideal)) (onTc (τ := Cert.RsWInSibIdeal.τ) (Cert.RsWInSibIdeal.main (F := Ideal))) ⟨m, fun _ => 0, g⟩ (fun r => (∀ c : Dev Cert.RsWInSibIdeal.nD,
      r.2.mem ((c.tc : Thread Cert.RsWInSibIdeal.nD Cert.RsWInSibIdeal.τ).loc Cert.RsWInSibIdeal.main_arg0) = m ((c.tc : Thread Cert.RsWInSibIdeal.nD Cert.RsWInSibIdeal.τ).loc Cert.RsWInSibIdeal.main_arg0))
      ∧ r.2.sem = fun _ => 0)

def quiescent_RsWInSibRefIdeal [hRsWInSibRefIdeal : Cert.RsWInSibRefIdeal.Facts] : Prop :=
  ∀ (m : (ℓ : Loc Cert.RsWInSibRefIdeal.nD Cert.RsWInSibRefIdeal.τ Cert.RsWInSibRefIdeal.sig) → Buf (Elt Ideal) ℓ) (g : Dev Cert.RsWInSibRefIdeal.nD → PrngReg), Pre_RsWInSibRefIdeal m →
    θ_run (Cert.RsWInSibRefIdeal.defs (F := Ideal)) (onTc (τ := Cert.RsWInSibRefIdeal.τ) (Cert.RsWInSibRefIdeal.main (F := Ideal))) ⟨m, fun _ => 0, g⟩ (fun r => (∀ c : Dev Cert.RsWInSibRefIdeal.nD,
      r.2.mem ((c.tc : Thread Cert.RsWInSibRefIdeal.nD Cert.RsWInSibRefIdeal.τ).loc Cert.RsWInSibRefIdeal.main_arg0) = m ((c.tc : Thread Cert.RsWInSibRefIdeal.nD Cert.RsWInSibRefIdeal.τ).loc Cert.RsWInSibRefIdeal.main_arg0))
      ∧ r.2.sem = fun _ => 0)

def quiescent_RsWOutSib [hRsWOutSib : Cert.RsWOutSib.Facts] : Prop :=
  ∀ (m : (ℓ : Loc Cert.RsWOutSib.nD Cert.RsWOutSib.τ Cert.RsWOutSib.sig) → Buf (Elt Bits) ℓ) (g : Dev Cert.RsWOutSib.nD → PrngReg), Pre_RsWOutSib m →
    θ_run (Cert.RsWOutSib.defs (F := Bits)) (onTc (τ := Cert.RsWOutSib.τ) (Cert.RsWOutSib.main (F := Bits))) ⟨m, fun _ => 0, g⟩ (fun r => (∀ c : Dev Cert.RsWOutSib.nD,
      r.2.mem ((c.tc : Thread Cert.RsWOutSib.nD Cert.RsWOutSib.τ).loc Cert.RsWOutSib.main_arg0) = m ((c.tc : Thread Cert.RsWOutSib.nD Cert.RsWOutSib.τ).loc Cert.RsWOutSib.main_arg0))
      ∧ r.2.sem = fun _ => 0)

def quiescent_RsWOutSibIdeal [hRsWOutSibIdeal : Cert.RsWOutSibIdeal.Facts] : Prop :=
  ∀ (m : (ℓ : Loc Cert.RsWOutSibIdeal.nD Cert.RsWOutSibIdeal.τ Cert.RsWOutSibIdeal.sig) → Buf (Elt Ideal) ℓ) (g : Dev Cert.RsWOutSibIdeal.nD → PrngReg), Pre_RsWOutSibIdeal m →
    θ_run (Cert.RsWOutSibIdeal.defs (F := Ideal)) (onTc (τ := Cert.RsWOutSibIdeal.τ) (Cert.RsWOutSibIdeal.main (F := Ideal))) ⟨m, fun _ => 0, g⟩ (fun r => (∀ c : Dev Cert.RsWOutSibIdeal.nD,
      r.2.mem ((c.tc : Thread Cert.RsWOutSibIdeal.nD Cert.RsWOutSibIdeal.τ).loc Cert.RsWOutSibIdeal.main_arg0) = m ((c.tc : Thread Cert.RsWOutSibIdeal.nD Cert.RsWOutSibIdeal.τ).loc Cert.RsWOutSibIdeal.main_arg0))
      ∧ r.2.sem = fun _ => 0)

def quiescent_RsWOutSibRefIdeal [hRsWOutSibRefIdeal : Cert.RsWOutSibRefIdeal.Facts] : Prop :=
  ∀ (m : (ℓ : Loc Cert.RsWOutSibRefIdeal.nD Cert.RsWOutSibRefIdeal.τ Cert.RsWOutSibRefIdeal.sig) → Buf (Elt Ideal) ℓ) (g : Dev Cert.RsWOutSibRefIdeal.nD → PrngReg), Pre_RsWOutSibRefIdeal m →
    θ_run (Cert.RsWOutSibRefIdeal.defs (F := Ideal)) (onTc (τ := Cert.RsWOutSibRefIdeal.τ) (Cert.RsWOutSibRefIdeal.main (F := Ideal))) ⟨m, fun _ => 0, g⟩ (fun r => (∀ c : Dev Cert.RsWOutSibRefIdeal.nD,
      r.2.mem ((c.tc : Thread Cert.RsWOutSibRefIdeal.nD Cert.RsWOutSibRefIdeal.τ).loc Cert.RsWOutSibRefIdeal.main_arg0) = m ((c.tc : Thread Cert.RsWOutSibRefIdeal.nD Cert.RsWOutSibRefIdeal.τ).loc Cert.RsWOutSibRefIdeal.main_arg0))
      ∧ r.2.sem = fun _ => 0)

def quiescent_RsWInCores [hRsWInCores : Cert.RsWInCores.Facts] : Prop :=
  ∀ (m : (ℓ : Loc Cert.RsWInCores.nD Cert.RsWInCores.τ Cert.RsWInCores.sig) → Buf (Elt Bits) ℓ) (g : Dev Cert.RsWInCores.nD → PrngReg), Pre_RsWInCores m →
    θ_run (Cert.RsWInCores.defs (F := Bits)) (onTc (τ := Cert.RsWInCores.τ) (Cert.RsWInCores.main (F := Bits))) ⟨m, fun _ => 0, g⟩ (fun r => (∀ c : Dev Cert.RsWInCores.nD,
      r.2.mem ((c.tc : Thread Cert.RsWInCores.nD Cert.RsWInCores.τ).loc Cert.RsWInCores.main_arg0) = m ((c.tc : Thread Cert.RsWInCores.nD Cert.RsWInCores.τ).loc Cert.RsWInCores.main_arg0))
      ∧ r.2.sem = fun _ => 0)

def quiescent_RsWInCoresIdeal [hRsWInCoresIdeal : Cert.RsWInCoresIdeal.Facts] : Prop :=
  ∀ (m : (ℓ : Loc Cert.RsWInCoresIdeal.nD Cert.RsWInCoresIdeal.τ Cert.RsWInCoresIdeal.sig) → Buf (Elt Ideal) ℓ) (g : Dev Cert.RsWInCoresIdeal.nD → PrngReg), Pre_RsWInCoresIdeal m →
    θ_run (Cert.RsWInCoresIdeal.defs (F := Ideal)) (onTc (τ := Cert.RsWInCoresIdeal.τ) (Cert.RsWInCoresIdeal.main (F := Ideal))) ⟨m, fun _ => 0, g⟩ (fun r => (∀ c : Dev Cert.RsWInCoresIdeal.nD,
      r.2.mem ((c.tc : Thread Cert.RsWInCoresIdeal.nD Cert.RsWInCoresIdeal.τ).loc Cert.RsWInCoresIdeal.main_arg0) = m ((c.tc : Thread Cert.RsWInCoresIdeal.nD Cert.RsWInCoresIdeal.τ).loc Cert.RsWInCoresIdeal.main_arg0))
      ∧ r.2.sem = fun _ => 0)

def quiescent_RsWInCoresRefIdeal [hRsWInCoresRefIdeal : Cert.RsWInCoresRefIdeal.Facts] : Prop :=
  ∀ (m : (ℓ : Loc Cert.RsWInCoresRefIdeal.nD Cert.RsWInCoresRefIdeal.τ Cert.RsWInCoresRefIdeal.sig) → Buf (Elt Ideal) ℓ) (g : Dev Cert.RsWInCoresRefIdeal.nD → PrngReg), Pre_RsWInCoresRefIdeal m →
    θ_run (Cert.RsWInCoresRefIdeal.defs (F := Ideal)) (onTc (τ := Cert.RsWInCoresRefIdeal.τ) (Cert.RsWInCoresRefIdeal.main (F := Ideal))) ⟨m, fun _ => 0, g⟩ (fun r => (∀ c : Dev Cert.RsWInCoresRefIdeal.nD,
      r.2.mem ((c.tc : Thread Cert.RsWInCoresRefIdeal.nD Cert.RsWInCoresRefIdeal.τ).loc Cert.RsWInCoresRefIdeal.main_arg0) = m ((c.tc : Thread Cert.RsWInCoresRefIdeal.nD Cert.RsWInCoresRefIdeal.τ).loc Cert.RsWInCoresRefIdeal.main_arg0))
      ∧ r.2.sem = fun _ => 0)

def quiescent_RsSmallSib [hRsSmallSib : Cert.RsSmallSib.Facts] : Prop :=
  ∀ (m : (ℓ : Loc Cert.RsSmallSib.nD Cert.RsSmallSib.τ Cert.RsSmallSib.sig) → Buf (Elt Bits) ℓ) (g : Dev Cert.RsSmallSib.nD → PrngReg), Pre_RsSmallSib m →
    θ_run (Cert.RsSmallSib.defs (F := Bits)) (onTc (τ := Cert.RsSmallSib.τ) (Cert.RsSmallSib.main (F := Bits))) ⟨m, fun _ => 0, g⟩ (fun r => (∀ c : Dev Cert.RsSmallSib.nD,
      r.2.mem ((c.tc : Thread Cert.RsSmallSib.nD Cert.RsSmallSib.τ).loc Cert.RsSmallSib.main_arg0) = m ((c.tc : Thread Cert.RsSmallSib.nD Cert.RsSmallSib.τ).loc Cert.RsSmallSib.main_arg0))
      ∧ r.2.sem = fun _ => 0)

def quiescent_RsSmallSibIdeal [hRsSmallSibIdeal : Cert.RsSmallSibIdeal.Facts] : Prop :=
  ∀ (m : (ℓ : Loc Cert.RsSmallSibIdeal.nD Cert.RsSmallSibIdeal.τ Cert.RsSmallSibIdeal.sig) → Buf (Elt Ideal) ℓ) (g : Dev Cert.RsSmallSibIdeal.nD → PrngReg), Pre_RsSmallSibIdeal m →
    θ_run (Cert.RsSmallSibIdeal.defs (F := Ideal)) (onTc (τ := Cert.RsSmallSibIdeal.τ) (Cert.RsSmallSibIdeal.main (F := Ideal))) ⟨m, fun _ => 0, g⟩ (fun r => (∀ c : Dev Cert.RsSmallSibIdeal.nD,
      r.2.mem ((c.tc : Thread Cert.RsSmallSibIdeal.nD Cert.RsSmallSibIdeal.τ).loc Cert.RsSmallSibIdeal.main_arg0) = m ((c.tc : Thread Cert.RsSmallSibIdeal.nD Cert.RsSmallSibIdeal.τ).loc Cert.RsSmallSibIdeal.main_arg0))
      ∧ r.2.sem = fun _ => 0)

def quiescent_RsSmallSibRefIdeal [hRsSmallSibRefIdeal : Cert.RsSmallSibRefIdeal.Facts] : Prop :=
  ∀ (m : (ℓ : Loc Cert.RsSmallSibRefIdeal.nD Cert.RsSmallSibRefIdeal.τ Cert.RsSmallSibRefIdeal.sig) → Buf (Elt Ideal) ℓ) (g : Dev Cert.RsSmallSibRefIdeal.nD → PrngReg), Pre_RsSmallSibRefIdeal m →
    θ_run (Cert.RsSmallSibRefIdeal.defs (F := Ideal)) (onTc (τ := Cert.RsSmallSibRefIdeal.τ) (Cert.RsSmallSibRefIdeal.main (F := Ideal))) ⟨m, fun _ => 0, g⟩ (fun r => (∀ c : Dev Cert.RsSmallSibRefIdeal.nD,
      r.2.mem ((c.tc : Thread Cert.RsSmallSibRefIdeal.nD Cert.RsSmallSibRefIdeal.τ).loc Cert.RsSmallSibRefIdeal.main_arg0) = m ((c.tc : Thread Cert.RsSmallSibRefIdeal.nD Cert.RsSmallSibRefIdeal.τ).loc Cert.RsSmallSibRefIdeal.main_arg0))
      ∧ r.2.sem = fun _ => 0)

def quiescent_RsSmallCores [hRsSmallCores : Cert.RsSmallCores.Facts] : Prop :=
  ∀ (m : (ℓ : Loc Cert.RsSmallCores.nD Cert.RsSmallCores.τ Cert.RsSmallCores.sig) → Buf (Elt Bits) ℓ) (g : Dev Cert.RsSmallCores.nD → PrngReg), Pre_RsSmallCores m →
    θ_run (Cert.RsSmallCores.defs (F := Bits)) (onTc (τ := Cert.RsSmallCores.τ) (Cert.RsSmallCores.main (F := Bits))) ⟨m, fun _ => 0, g⟩ (fun r => (∀ c : Dev Cert.RsSmallCores.nD,
      r.2.mem ((c.tc : Thread Cert.RsSmallCores.nD Cert.RsSmallCores.τ).loc Cert.RsSmallCores.main_arg0) = m ((c.tc : Thread Cert.RsSmallCores.nD Cert.RsSmallCores.τ).loc Cert.RsSmallCores.main_arg0))
      ∧ r.2.sem = fun _ => 0)

def quiescent_RsSmallCoresIdeal [hRsSmallCoresIdeal : Cert.RsSmallCoresIdeal.Facts] : Prop :=
  ∀ (m : (ℓ : Loc Cert.RsSmallCoresIdeal.nD Cert.RsSmallCoresIdeal.τ Cert.RsSmallCoresIdeal.sig) → Buf (Elt Ideal) ℓ) (g : Dev Cert.RsSmallCoresIdeal.nD → PrngReg), Pre_RsSmallCoresIdeal m →
    θ_run (Cert.RsSmallCoresIdeal.defs (F := Ideal)) (onTc (τ := Cert.RsSmallCoresIdeal.τ) (Cert.RsSmallCoresIdeal.main (F := Ideal))) ⟨m, fun _ => 0, g⟩ (fun r => (∀ c : Dev Cert.RsSmallCoresIdeal.nD,
      r.2.mem ((c.tc : Thread Cert.RsSmallCoresIdeal.nD Cert.RsSmallCoresIdeal.τ).loc Cert.RsSmallCoresIdeal.main_arg0) = m ((c.tc : Thread Cert.RsSmallCoresIdeal.nD Cert.RsSmallCoresIdeal.τ).loc Cert.RsSmallCoresIdeal.main_arg0))
      ∧ r.2.sem = fun _ => 0)

def quiescent_RsSmallCoresRefIdeal [hRsSmallCoresRefIdeal : Cert.RsSmallCoresRefIdeal.Facts] : Prop :=
  ∀ (m : (ℓ : Loc Cert.RsSmallCoresRefIdeal.nD Cert.RsSmallCoresRefIdeal.τ Cert.RsSmallCoresRefIdeal.sig) → Buf (Elt Ideal) ℓ) (g : Dev Cert.RsSmallCoresRefIdeal.nD → PrngReg), Pre_RsSmallCoresRefIdeal m →
    θ_run (Cert.RsSmallCoresRefIdeal.defs (F := Ideal)) (onTc (τ := Cert.RsSmallCoresRefIdeal.τ) (Cert.RsSmallCoresRefIdeal.main (F := Ideal))) ⟨m, fun _ => 0, g⟩ (fun r => (∀ c : Dev Cert.RsSmallCoresRefIdeal.nD,
      r.2.mem ((c.tc : Thread Cert.RsSmallCoresRefIdeal.nD Cert.RsSmallCoresRefIdeal.τ).loc Cert.RsSmallCoresRefIdeal.main_arg0) = m ((c.tc : Thread Cert.RsSmallCoresRefIdeal.nD Cert.RsSmallCoresRefIdeal.τ).loc Cert.RsSmallCoresRefIdeal.main_arg0))
      ∧ r.2.sem = fun _ => 0)

def quiescent_RsWOutCores [hRsWOutCores : Cert.RsWOutCores.Facts] : Prop :=
  ∀ (m : (ℓ : Loc Cert.RsWOutCores.nD Cert.RsWOutCores.τ Cert.RsWOutCores.sig) → Buf (Elt Bits) ℓ) (g : Dev Cert.RsWOutCores.nD → PrngReg), Pre_RsWOutCores m →
    θ_run (Cert.RsWOutCores.defs (F := Bits)) (onTc (τ := Cert.RsWOutCores.τ) (Cert.RsWOutCores.main (F := Bits))) ⟨m, fun _ => 0, g⟩ (fun r => (∀ c : Dev Cert.RsWOutCores.nD,
      r.2.mem ((c.tc : Thread Cert.RsWOutCores.nD Cert.RsWOutCores.τ).loc Cert.RsWOutCores.main_arg0) = m ((c.tc : Thread Cert.RsWOutCores.nD Cert.RsWOutCores.τ).loc Cert.RsWOutCores.main_arg0))
      ∧ r.2.sem = fun _ => 0)

def quiescent_RsWOutCoresIdeal [hRsWOutCoresIdeal : Cert.RsWOutCoresIdeal.Facts] : Prop :=
  ∀ (m : (ℓ : Loc Cert.RsWOutCoresIdeal.nD Cert.RsWOutCoresIdeal.τ Cert.RsWOutCoresIdeal.sig) → Buf (Elt Ideal) ℓ) (g : Dev Cert.RsWOutCoresIdeal.nD → PrngReg), Pre_RsWOutCoresIdeal m →
    θ_run (Cert.RsWOutCoresIdeal.defs (F := Ideal)) (onTc (τ := Cert.RsWOutCoresIdeal.τ) (Cert.RsWOutCoresIdeal.main (F := Ideal))) ⟨m, fun _ => 0, g⟩ (fun r => (∀ c : Dev Cert.RsWOutCoresIdeal.nD,
      r.2.mem ((c.tc : Thread Cert.RsWOutCoresIdeal.nD Cert.RsWOutCoresIdeal.τ).loc Cert.RsWOutCoresIdeal.main_arg0) = m ((c.tc : Thread Cert.RsWOutCoresIdeal.nD Cert.RsWOutCoresIdeal.τ).loc Cert.RsWOutCoresIdeal.main_arg0))
      ∧ r.2.sem = fun _ => 0)

def quiescent_RsWOutCoresRefIdeal [hRsWOutCoresRefIdeal : Cert.RsWOutCoresRefIdeal.Facts] : Prop :=
  ∀ (m : (ℓ : Loc Cert.RsWOutCoresRefIdeal.nD Cert.RsWOutCoresRefIdeal.τ Cert.RsWOutCoresRefIdeal.sig) → Buf (Elt Ideal) ℓ) (g : Dev Cert.RsWOutCoresRefIdeal.nD → PrngReg), Pre_RsWOutCoresRefIdeal m →
    θ_run (Cert.RsWOutCoresRefIdeal.defs (F := Ideal)) (onTc (τ := Cert.RsWOutCoresRefIdeal.τ) (Cert.RsWOutCoresRefIdeal.main (F := Ideal))) ⟨m, fun _ => 0, g⟩ (fun r => (∀ c : Dev Cert.RsWOutCoresRefIdeal.nD,
      r.2.mem ((c.tc : Thread Cert.RsWOutCoresRefIdeal.nD Cert.RsWOutCoresRefIdeal.τ).loc Cert.RsWOutCoresRefIdeal.main_arg0) = m ((c.tc : Thread Cert.RsWOutCoresRefIdeal.nD Cert.RsWOutCoresRefIdeal.τ).loc Cert.RsWOutCoresRefIdeal.main_arg0))
      ∧ r.2.sem = fun _ => 0)

def quiescent_GatherWInCores [hGatherWInCores : Cert.GatherWInCores.Facts] : Prop :=
  ∀ (m : (ℓ : Loc Cert.GatherWInCores.nD Cert.GatherWInCores.τ Cert.GatherWInCores.sig) → Buf (Elt Bits) ℓ) (g : Dev Cert.GatherWInCores.nD → PrngReg), Pre_GatherWInCores m →
    θ_run (Cert.GatherWInCores.defs (F := Bits)) (onTc (τ := Cert.GatherWInCores.τ) (Cert.GatherWInCores.main (F := Bits))) ⟨m, fun _ => 0, g⟩ (fun r => (∀ c : Dev Cert.GatherWInCores.nD,
      r.2.mem ((c.tc : Thread Cert.GatherWInCores.nD Cert.GatherWInCores.τ).loc Cert.GatherWInCores.main_arg0) = m ((c.tc : Thread Cert.GatherWInCores.nD Cert.GatherWInCores.τ).loc Cert.GatherWInCores.main_arg0))
      ∧ r.2.sem = fun _ => 0)

def quiescent_GatherWInCoresIdeal [hGatherWInCoresIdeal : Cert.GatherWInCoresIdeal.Facts] : Prop :=
  ∀ (m : (ℓ : Loc Cert.GatherWInCoresIdeal.nD Cert.GatherWInCoresIdeal.τ Cert.GatherWInCoresIdeal.sig) → Buf (Elt Ideal) ℓ) (g : Dev Cert.GatherWInCoresIdeal.nD → PrngReg), Pre_GatherWInCoresIdeal m →
    θ_run (Cert.GatherWInCoresIdeal.defs (F := Ideal)) (onTc (τ := Cert.GatherWInCoresIdeal.τ) (Cert.GatherWInCoresIdeal.main (F := Ideal))) ⟨m, fun _ => 0, g⟩ (fun r => (∀ c : Dev Cert.GatherWInCoresIdeal.nD,
      r.2.mem ((c.tc : Thread Cert.GatherWInCoresIdeal.nD Cert.GatherWInCoresIdeal.τ).loc Cert.GatherWInCoresIdeal.main_arg0) = m ((c.tc : Thread Cert.GatherWInCoresIdeal.nD Cert.GatherWInCoresIdeal.τ).loc Cert.GatherWInCoresIdeal.main_arg0))
      ∧ r.2.sem = fun _ => 0)

def quiescent_GatherWInCoresRefIdeal [hGatherWInCoresRefIdeal : Cert.GatherWInCoresRefIdeal.Facts] : Prop :=
  ∀ (m : (ℓ : Loc Cert.GatherWInCoresRefIdeal.nD Cert.GatherWInCoresRefIdeal.τ Cert.GatherWInCoresRefIdeal.sig) → Buf (Elt Ideal) ℓ) (g : Dev Cert.GatherWInCoresRefIdeal.nD → PrngReg), Pre_GatherWInCoresRefIdeal m →
    θ_run (Cert.GatherWInCoresRefIdeal.defs (F := Ideal)) (onTc (τ := Cert.GatherWInCoresRefIdeal.τ) (Cert.GatherWInCoresRefIdeal.main (F := Ideal))) ⟨m, fun _ => 0, g⟩ (fun r => (∀ c : Dev Cert.GatherWInCoresRefIdeal.nD,
      r.2.mem ((c.tc : Thread Cert.GatherWInCoresRefIdeal.nD Cert.GatherWInCoresRefIdeal.τ).loc Cert.GatherWInCoresRefIdeal.main_arg0) = m ((c.tc : Thread Cert.GatherWInCoresRefIdeal.nD Cert.GatherWInCoresRefIdeal.τ).loc Cert.GatherWInCoresRefIdeal.main_arg0))
      ∧ r.2.sem = fun _ => 0)

def quiescent_GatherWOutCores [hGatherWOutCores : Cert.GatherWOutCores.Facts] : Prop :=
  ∀ (m : (ℓ : Loc Cert.GatherWOutCores.nD Cert.GatherWOutCores.τ Cert.GatherWOutCores.sig) → Buf (Elt Bits) ℓ) (g : Dev Cert.GatherWOutCores.nD → PrngReg), Pre_GatherWOutCores m →
    θ_run (Cert.GatherWOutCores.defs (F := Bits)) (onTc (τ := Cert.GatherWOutCores.τ) (Cert.GatherWOutCores.main (F := Bits))) ⟨m, fun _ => 0, g⟩ (fun r => (∀ c : Dev Cert.GatherWOutCores.nD,
      r.2.mem ((c.tc : Thread Cert.GatherWOutCores.nD Cert.GatherWOutCores.τ).loc Cert.GatherWOutCores.main_arg0) = m ((c.tc : Thread Cert.GatherWOutCores.nD Cert.GatherWOutCores.τ).loc Cert.GatherWOutCores.main_arg0))
      ∧ r.2.sem = fun _ => 0)

def quiescent_GatherWOutCoresIdeal [hGatherWOutCoresIdeal : Cert.GatherWOutCoresIdeal.Facts] : Prop :=
  ∀ (m : (ℓ : Loc Cert.GatherWOutCoresIdeal.nD Cert.GatherWOutCoresIdeal.τ Cert.GatherWOutCoresIdeal.sig) → Buf (Elt Ideal) ℓ) (g : Dev Cert.GatherWOutCoresIdeal.nD → PrngReg), Pre_GatherWOutCoresIdeal m →
    θ_run (Cert.GatherWOutCoresIdeal.defs (F := Ideal)) (onTc (τ := Cert.GatherWOutCoresIdeal.τ) (Cert.GatherWOutCoresIdeal.main (F := Ideal))) ⟨m, fun _ => 0, g⟩ (fun r => (∀ c : Dev Cert.GatherWOutCoresIdeal.nD,
      r.2.mem ((c.tc : Thread Cert.GatherWOutCoresIdeal.nD Cert.GatherWOutCoresIdeal.τ).loc Cert.GatherWOutCoresIdeal.main_arg0) = m ((c.tc : Thread Cert.GatherWOutCoresIdeal.nD Cert.GatherWOutCoresIdeal.τ).loc Cert.GatherWOutCoresIdeal.main_arg0))
      ∧ r.2.sem = fun _ => 0)

def quiescent_GatherWOutCoresRefIdeal [hGatherWOutCoresRefIdeal : Cert.GatherWOutCoresRefIdeal.Facts] : Prop :=
  ∀ (m : (ℓ : Loc Cert.GatherWOutCoresRefIdeal.nD Cert.GatherWOutCoresRefIdeal.τ Cert.GatherWOutCoresRefIdeal.sig) → Buf (Elt Ideal) ℓ) (g : Dev Cert.GatherWOutCoresRefIdeal.nD → PrngReg), Pre_GatherWOutCoresRefIdeal m →
    θ_run (Cert.GatherWOutCoresRefIdeal.defs (F := Ideal)) (onTc (τ := Cert.GatherWOutCoresRefIdeal.τ) (Cert.GatherWOutCoresRefIdeal.main (F := Ideal))) ⟨m, fun _ => 0, g⟩ (fun r => (∀ c : Dev Cert.GatherWOutCoresRefIdeal.nD,
      r.2.mem ((c.tc : Thread Cert.GatherWOutCoresRefIdeal.nD Cert.GatherWOutCoresRefIdeal.τ).loc Cert.GatherWOutCoresRefIdeal.main_arg0) = m ((c.tc : Thread Cert.GatherWOutCoresRefIdeal.nD Cert.GatherWOutCoresRefIdeal.τ).loc Cert.GatherWOutCoresRefIdeal.main_arg0))
      ∧ r.2.sem = fun _ => 0)

def quiescent_RsSmallChips [hRsSmallChips : Cert.RsSmallChips.Facts] : Prop :=
  ∀ (m : (ℓ : Loc Cert.RsSmallChips.nD Cert.RsSmallChips.τ Cert.RsSmallChips.sig) → Buf (Elt Bits) ℓ) (g : Dev Cert.RsSmallChips.nD → PrngReg), Pre_RsSmallChips m →
    θ_run (Cert.RsSmallChips.defs (F := Bits)) (onTc (τ := Cert.RsSmallChips.τ) (Cert.RsSmallChips.main (F := Bits))) ⟨m, fun _ => 0, g⟩ (fun r => (∀ c : Dev Cert.RsSmallChips.nD,
      r.2.mem ((c.tc : Thread Cert.RsSmallChips.nD Cert.RsSmallChips.τ).loc Cert.RsSmallChips.main_arg0) = m ((c.tc : Thread Cert.RsSmallChips.nD Cert.RsSmallChips.τ).loc Cert.RsSmallChips.main_arg0))
      ∧ r.2.sem = fun _ => 0)

def quiescent_RsSmallChipsIdeal [hRsSmallChipsIdeal : Cert.RsSmallChipsIdeal.Facts] : Prop :=
  ∀ (m : (ℓ : Loc Cert.RsSmallChipsIdeal.nD Cert.RsSmallChipsIdeal.τ Cert.RsSmallChipsIdeal.sig) → Buf (Elt Ideal) ℓ) (g : Dev Cert.RsSmallChipsIdeal.nD → PrngReg), Pre_RsSmallChipsIdeal m →
    θ_run (Cert.RsSmallChipsIdeal.defs (F := Ideal)) (onTc (τ := Cert.RsSmallChipsIdeal.τ) (Cert.RsSmallChipsIdeal.main (F := Ideal))) ⟨m, fun _ => 0, g⟩ (fun r => (∀ c : Dev Cert.RsSmallChipsIdeal.nD,
      r.2.mem ((c.tc : Thread Cert.RsSmallChipsIdeal.nD Cert.RsSmallChipsIdeal.τ).loc Cert.RsSmallChipsIdeal.main_arg0) = m ((c.tc : Thread Cert.RsSmallChipsIdeal.nD Cert.RsSmallChipsIdeal.τ).loc Cert.RsSmallChipsIdeal.main_arg0))
      ∧ r.2.sem = fun _ => 0)

def quiescent_RsSmallChipsRefIdeal [hRsSmallChipsRefIdeal : Cert.RsSmallChipsRefIdeal.Facts] : Prop :=
  ∀ (m : (ℓ : Loc Cert.RsSmallChipsRefIdeal.nD Cert.RsSmallChipsRefIdeal.τ Cert.RsSmallChipsRefIdeal.sig) → Buf (Elt Ideal) ℓ) (g : Dev Cert.RsSmallChipsRefIdeal.nD → PrngReg), Pre_RsSmallChipsRefIdeal m →
    θ_run (Cert.RsSmallChipsRefIdeal.defs (F := Ideal)) (onTc (τ := Cert.RsSmallChipsRefIdeal.τ) (Cert.RsSmallChipsRefIdeal.main (F := Ideal))) ⟨m, fun _ => 0, g⟩ (fun r => (∀ c : Dev Cert.RsSmallChipsRefIdeal.nD,
      r.2.mem ((c.tc : Thread Cert.RsSmallChipsRefIdeal.nD Cert.RsSmallChipsRefIdeal.τ).loc Cert.RsSmallChipsRefIdeal.main_arg0) = m ((c.tc : Thread Cert.RsSmallChipsRefIdeal.nD Cert.RsSmallChipsRefIdeal.τ).loc Cert.RsSmallChipsRefIdeal.main_arg0))
      ∧ r.2.sem = fun _ => 0)

def quiescent_RsWOutChips [hRsWOutChips : Cert.RsWOutChips.Facts] : Prop :=
  ∀ (m : (ℓ : Loc Cert.RsWOutChips.nD Cert.RsWOutChips.τ Cert.RsWOutChips.sig) → Buf (Elt Bits) ℓ) (g : Dev Cert.RsWOutChips.nD → PrngReg), Pre_RsWOutChips m →
    θ_run (Cert.RsWOutChips.defs (F := Bits)) (onTc (τ := Cert.RsWOutChips.τ) (Cert.RsWOutChips.main (F := Bits))) ⟨m, fun _ => 0, g⟩ (fun r => (∀ c : Dev Cert.RsWOutChips.nD,
      r.2.mem ((c.tc : Thread Cert.RsWOutChips.nD Cert.RsWOutChips.τ).loc Cert.RsWOutChips.main_arg0) = m ((c.tc : Thread Cert.RsWOutChips.nD Cert.RsWOutChips.τ).loc Cert.RsWOutChips.main_arg0))
      ∧ r.2.sem = fun _ => 0)

def quiescent_RsWOutChipsIdeal [hRsWOutChipsIdeal : Cert.RsWOutChipsIdeal.Facts] : Prop :=
  ∀ (m : (ℓ : Loc Cert.RsWOutChipsIdeal.nD Cert.RsWOutChipsIdeal.τ Cert.RsWOutChipsIdeal.sig) → Buf (Elt Ideal) ℓ) (g : Dev Cert.RsWOutChipsIdeal.nD → PrngReg), Pre_RsWOutChipsIdeal m →
    θ_run (Cert.RsWOutChipsIdeal.defs (F := Ideal)) (onTc (τ := Cert.RsWOutChipsIdeal.τ) (Cert.RsWOutChipsIdeal.main (F := Ideal))) ⟨m, fun _ => 0, g⟩ (fun r => (∀ c : Dev Cert.RsWOutChipsIdeal.nD,
      r.2.mem ((c.tc : Thread Cert.RsWOutChipsIdeal.nD Cert.RsWOutChipsIdeal.τ).loc Cert.RsWOutChipsIdeal.main_arg0) = m ((c.tc : Thread Cert.RsWOutChipsIdeal.nD Cert.RsWOutChipsIdeal.τ).loc Cert.RsWOutChipsIdeal.main_arg0))
      ∧ r.2.sem = fun _ => 0)

def quiescent_RsWOutChipsRefIdeal [hRsWOutChipsRefIdeal : Cert.RsWOutChipsRefIdeal.Facts] : Prop :=
  ∀ (m : (ℓ : Loc Cert.RsWOutChipsRefIdeal.nD Cert.RsWOutChipsRefIdeal.τ Cert.RsWOutChipsRefIdeal.sig) → Buf (Elt Ideal) ℓ) (g : Dev Cert.RsWOutChipsRefIdeal.nD → PrngReg), Pre_RsWOutChipsRefIdeal m →
    θ_run (Cert.RsWOutChipsRefIdeal.defs (F := Ideal)) (onTc (τ := Cert.RsWOutChipsRefIdeal.τ) (Cert.RsWOutChipsRefIdeal.main (F := Ideal))) ⟨m, fun _ => 0, g⟩ (fun r => (∀ c : Dev Cert.RsWOutChipsRefIdeal.nD,
      r.2.mem ((c.tc : Thread Cert.RsWOutChipsRefIdeal.nD Cert.RsWOutChipsRefIdeal.τ).loc Cert.RsWOutChipsRefIdeal.main_arg0) = m ((c.tc : Thread Cert.RsWOutChipsRefIdeal.nD Cert.RsWOutChipsRefIdeal.τ).loc Cert.RsWOutChipsRefIdeal.main_arg0))
      ∧ r.2.sem = fun _ => 0)

def quiescent_RsWInChips [hRsWInChips : Cert.RsWInChips.Facts] : Prop :=
  ∀ (m : (ℓ : Loc Cert.RsWInChips.nD Cert.RsWInChips.τ Cert.RsWInChips.sig) → Buf (Elt Bits) ℓ) (g : Dev Cert.RsWInChips.nD → PrngReg), Pre_RsWInChips m →
    θ_run (Cert.RsWInChips.defs (F := Bits)) (onTc (τ := Cert.RsWInChips.τ) (Cert.RsWInChips.main (F := Bits))) ⟨m, fun _ => 0, g⟩ (fun r => (∀ c : Dev Cert.RsWInChips.nD,
      r.2.mem ((c.tc : Thread Cert.RsWInChips.nD Cert.RsWInChips.τ).loc Cert.RsWInChips.main_arg0) = m ((c.tc : Thread Cert.RsWInChips.nD Cert.RsWInChips.τ).loc Cert.RsWInChips.main_arg0))
      ∧ r.2.sem = fun _ => 0)

def quiescent_RsWInChipsIdeal [hRsWInChipsIdeal : Cert.RsWInChipsIdeal.Facts] : Prop :=
  ∀ (m : (ℓ : Loc Cert.RsWInChipsIdeal.nD Cert.RsWInChipsIdeal.τ Cert.RsWInChipsIdeal.sig) → Buf (Elt Ideal) ℓ) (g : Dev Cert.RsWInChipsIdeal.nD → PrngReg), Pre_RsWInChipsIdeal m →
    θ_run (Cert.RsWInChipsIdeal.defs (F := Ideal)) (onTc (τ := Cert.RsWInChipsIdeal.τ) (Cert.RsWInChipsIdeal.main (F := Ideal))) ⟨m, fun _ => 0, g⟩ (fun r => (∀ c : Dev Cert.RsWInChipsIdeal.nD,
      r.2.mem ((c.tc : Thread Cert.RsWInChipsIdeal.nD Cert.RsWInChipsIdeal.τ).loc Cert.RsWInChipsIdeal.main_arg0) = m ((c.tc : Thread Cert.RsWInChipsIdeal.nD Cert.RsWInChipsIdeal.τ).loc Cert.RsWInChipsIdeal.main_arg0))
      ∧ r.2.sem = fun _ => 0)

def quiescent_RsWInChipsRefIdeal [hRsWInChipsRefIdeal : Cert.RsWInChipsRefIdeal.Facts] : Prop :=
  ∀ (m : (ℓ : Loc Cert.RsWInChipsRefIdeal.nD Cert.RsWInChipsRefIdeal.τ Cert.RsWInChipsRefIdeal.sig) → Buf (Elt Ideal) ℓ) (g : Dev Cert.RsWInChipsRefIdeal.nD → PrngReg), Pre_RsWInChipsRefIdeal m →
    θ_run (Cert.RsWInChipsRefIdeal.defs (F := Ideal)) (onTc (τ := Cert.RsWInChipsRefIdeal.τ) (Cert.RsWInChipsRefIdeal.main (F := Ideal))) ⟨m, fun _ => 0, g⟩ (fun r => (∀ c : Dev Cert.RsWInChipsRefIdeal.nD,
      r.2.mem ((c.tc : Thread Cert.RsWInChipsRefIdeal.nD Cert.RsWInChipsRefIdeal.τ).loc Cert.RsWInChipsRefIdeal.main_arg0) = m ((c.tc : Thread Cert.RsWInChipsRefIdeal.nD Cert.RsWInChipsRefIdeal.τ).loc Cert.RsWInChipsRefIdeal.main_arg0))
      ∧ r.2.sem = fun _ => 0)

def quiescent_GatherWOutChips [hGatherWOutChips : Cert.GatherWOutChips.Facts] : Prop :=
  ∀ (m : (ℓ : Loc Cert.GatherWOutChips.nD Cert.GatherWOutChips.τ Cert.GatherWOutChips.sig) → Buf (Elt Bits) ℓ) (g : Dev Cert.GatherWOutChips.nD → PrngReg), Pre_GatherWOutChips m →
    θ_run (Cert.GatherWOutChips.defs (F := Bits)) (onTc (τ := Cert.GatherWOutChips.τ) (Cert.GatherWOutChips.main (F := Bits))) ⟨m, fun _ => 0, g⟩ (fun r => (∀ c : Dev Cert.GatherWOutChips.nD,
      r.2.mem ((c.tc : Thread Cert.GatherWOutChips.nD Cert.GatherWOutChips.τ).loc Cert.GatherWOutChips.main_arg0) = m ((c.tc : Thread Cert.GatherWOutChips.nD Cert.GatherWOutChips.τ).loc Cert.GatherWOutChips.main_arg0))
      ∧ r.2.sem = fun _ => 0)

def quiescent_GatherWOutChipsIdeal [hGatherWOutChipsIdeal : Cert.GatherWOutChipsIdeal.Facts] : Prop :=
  ∀ (m : (ℓ : Loc Cert.GatherWOutChipsIdeal.nD Cert.GatherWOutChipsIdeal.τ Cert.GatherWOutChipsIdeal.sig) → Buf (Elt Ideal) ℓ) (g : Dev Cert.GatherWOutChipsIdeal.nD → PrngReg), Pre_GatherWOutChipsIdeal m →
    θ_run (Cert.GatherWOutChipsIdeal.defs (F := Ideal)) (onTc (τ := Cert.GatherWOutChipsIdeal.τ) (Cert.GatherWOutChipsIdeal.main (F := Ideal))) ⟨m, fun _ => 0, g⟩ (fun r => (∀ c : Dev Cert.GatherWOutChipsIdeal.nD,
      r.2.mem ((c.tc : Thread Cert.GatherWOutChipsIdeal.nD Cert.GatherWOutChipsIdeal.τ).loc Cert.GatherWOutChipsIdeal.main_arg0) = m ((c.tc : Thread Cert.GatherWOutChipsIdeal.nD Cert.GatherWOutChipsIdeal.τ).loc Cert.GatherWOutChipsIdeal.main_arg0))
      ∧ r.2.sem = fun _ => 0)

def quiescent_GatherWOutChipsRefIdeal [hGatherWOutChipsRefIdeal : Cert.GatherWOutChipsRefIdeal.Facts] : Prop :=
  ∀ (m : (ℓ : Loc Cert.GatherWOutChipsRefIdeal.nD Cert.GatherWOutChipsRefIdeal.τ Cert.GatherWOutChipsRefIdeal.sig) → Buf (Elt Ideal) ℓ) (g : Dev Cert.GatherWOutChipsRefIdeal.nD → PrngReg), Pre_GatherWOutChipsRefIdeal m →
    θ_run (Cert.GatherWOutChipsRefIdeal.defs (F := Ideal)) (onTc (τ := Cert.GatherWOutChipsRefIdeal.τ) (Cert.GatherWOutChipsRefIdeal.main (F := Ideal))) ⟨m, fun _ => 0, g⟩ (fun r => (∀ c : Dev Cert.GatherWOutChipsRefIdeal.nD,
      r.2.mem ((c.tc : Thread Cert.GatherWOutChipsRefIdeal.nD Cert.GatherWOutChipsRefIdeal.τ).loc Cert.GatherWOutChipsRefIdeal.main_arg0) = m ((c.tc : Thread Cert.GatherWOutChipsRefIdeal.nD Cert.GatherWOutChipsRefIdeal.τ).loc Cert.GatherWOutChipsRefIdeal.main_arg0))
      ∧ r.2.sem = fun _ => 0)

def quiescent_GatherWInChips [hGatherWInChips : Cert.GatherWInChips.Facts] : Prop :=
  ∀ (m : (ℓ : Loc Cert.GatherWInChips.nD Cert.GatherWInChips.τ Cert.GatherWInChips.sig) → Buf (Elt Bits) ℓ) (g : Dev Cert.GatherWInChips.nD → PrngReg), Pre_GatherWInChips m →
    θ_run (Cert.GatherWInChips.defs (F := Bits)) (onTc (τ := Cert.GatherWInChips.τ) (Cert.GatherWInChips.main (F := Bits))) ⟨m, fun _ => 0, g⟩ (fun r => (∀ c : Dev Cert.GatherWInChips.nD,
      r.2.mem ((c.tc : Thread Cert.GatherWInChips.nD Cert.GatherWInChips.τ).loc Cert.GatherWInChips.main_arg0) = m ((c.tc : Thread Cert.GatherWInChips.nD Cert.GatherWInChips.τ).loc Cert.GatherWInChips.main_arg0))
      ∧ r.2.sem = fun _ => 0)

def quiescent_GatherWInChipsIdeal [hGatherWInChipsIdeal : Cert.GatherWInChipsIdeal.Facts] : Prop :=
  ∀ (m : (ℓ : Loc Cert.GatherWInChipsIdeal.nD Cert.GatherWInChipsIdeal.τ Cert.GatherWInChipsIdeal.sig) → Buf (Elt Ideal) ℓ) (g : Dev Cert.GatherWInChipsIdeal.nD → PrngReg), Pre_GatherWInChipsIdeal m →
    θ_run (Cert.GatherWInChipsIdeal.defs (F := Ideal)) (onTc (τ := Cert.GatherWInChipsIdeal.τ) (Cert.GatherWInChipsIdeal.main (F := Ideal))) ⟨m, fun _ => 0, g⟩ (fun r => (∀ c : Dev Cert.GatherWInChipsIdeal.nD,
      r.2.mem ((c.tc : Thread Cert.GatherWInChipsIdeal.nD Cert.GatherWInChipsIdeal.τ).loc Cert.GatherWInChipsIdeal.main_arg0) = m ((c.tc : Thread Cert.GatherWInChipsIdeal.nD Cert.GatherWInChipsIdeal.τ).loc Cert.GatherWInChipsIdeal.main_arg0))
      ∧ r.2.sem = fun _ => 0)

def quiescent_GatherWInChipsRefIdeal [hGatherWInChipsRefIdeal : Cert.GatherWInChipsRefIdeal.Facts] : Prop :=
  ∀ (m : (ℓ : Loc Cert.GatherWInChipsRefIdeal.nD Cert.GatherWInChipsRefIdeal.τ Cert.GatherWInChipsRefIdeal.sig) → Buf (Elt Ideal) ℓ) (g : Dev Cert.GatherWInChipsRefIdeal.nD → PrngReg), Pre_GatherWInChipsRefIdeal m →
    θ_run (Cert.GatherWInChipsRefIdeal.defs (F := Ideal)) (onTc (τ := Cert.GatherWInChipsRefIdeal.τ) (Cert.GatherWInChipsRefIdeal.main (F := Ideal))) ⟨m, fun _ => 0, g⟩ (fun r => (∀ c : Dev Cert.GatherWInChipsRefIdeal.nD,
      r.2.mem ((c.tc : Thread Cert.GatherWInChipsRefIdeal.nD Cert.GatherWInChipsRefIdeal.τ).loc Cert.GatherWInChipsRefIdeal.main_arg0) = m ((c.tc : Thread Cert.GatherWInChipsRefIdeal.nD Cert.GatherWInChipsRefIdeal.τ).loc Cert.GatherWInChipsRefIdeal.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherRep [hGatherRep : Cert.GatherRep.Facts] : Prop :=
  ∀ (m : (ℓ : Loc Cert.GatherRep.nD Cert.GatherRep.τ Cert.GatherRep.sig) → Buf (Elt Bits) ℓ) (g : Dev Cert.GatherRep.nD → PrngReg), Pre_GatherRep m →
    θ_run (Cert.GatherRep.defs (F := Bits)) (onTc (τ := Cert.GatherRep.τ) (Cert.GatherRep.main (F := Bits))) ⟨m, fun _ => 0, g⟩ (fun r => (∀ c : Dev Cert.GatherRep.nD,
      r.2.mem ((c.tc : Thread Cert.GatherRep.nD Cert.GatherRep.τ).loc Cert.GatherRep.main_arg0) = m ((c.tc : Thread Cert.GatherRep.nD Cert.GatherRep.τ).loc Cert.GatherRep.main_arg0))
      ∧ r.2.sem = fun _ => 0)

def quiescent_GatherRepIdeal [hGatherRepIdeal : Cert.GatherRepIdeal.Facts] : Prop :=
  ∀ (m : (ℓ : Loc Cert.GatherRepIdeal.nD Cert.GatherRepIdeal.τ Cert.GatherRepIdeal.sig) → Buf (Elt Ideal) ℓ) (g : Dev Cert.GatherRepIdeal.nD → PrngReg), Pre_GatherRepIdeal m →
    θ_run (Cert.GatherRepIdeal.defs (F := Ideal)) (onTc (τ := Cert.GatherRepIdeal.τ) (Cert.GatherRepIdeal.main (F := Ideal))) ⟨m, fun _ => 0, g⟩ (fun r => (∀ c : Dev Cert.GatherRepIdeal.nD,
      r.2.mem ((c.tc : Thread Cert.GatherRepIdeal.nD Cert.GatherRepIdeal.τ).loc Cert.GatherRepIdeal.main_arg0) = m ((c.tc : Thread Cert.GatherRepIdeal.nD Cert.GatherRepIdeal.τ).loc Cert.GatherRepIdeal.main_arg0))
      ∧ r.2.sem = fun _ => 0)

def quiescent_GatherRepRefIdeal [hGatherRepRefIdeal : Cert.GatherRepRefIdeal.Facts] : Prop :=
  ∀ (m : (ℓ : Loc Cert.GatherRepRefIdeal.nD Cert.GatherRepRefIdeal.τ Cert.GatherRepRefIdeal.sig) → Buf (Elt Ideal) ℓ) (g : Dev Cert.GatherRepRefIdeal.nD → PrngReg), Pre_GatherRepRefIdeal m →
    θ_run (Cert.GatherRepRefIdeal.defs (F := Ideal)) (onTc (τ := Cert.GatherRepRefIdeal.τ) (Cert.GatherRepRefIdeal.main (F := Ideal))) ⟨m, fun _ => 0, g⟩ (fun r => (∀ c : Dev Cert.GatherRepRefIdeal.nD,
      r.2.mem ((c.tc : Thread Cert.GatherRepRefIdeal.nD Cert.GatherRepRefIdeal.τ).loc Cert.GatherRepRefIdeal.main_arg0) = m ((c.tc : Thread Cert.GatherRepRefIdeal.nD Cert.GatherRepRefIdeal.τ).loc Cert.GatherRepRefIdeal.main_arg0))
      ∧ r.2.sem = fun _ => 0)

def quiescent_RsWInAdd [hRsWInAdd : Cert.RsWInAdd.Facts] [hPre_a_core : Cert.Pre_a_core.Facts] : Prop :=
  ∀ (m : (ℓ : Loc Cert.RsWInAdd.nD Cert.RsWInAdd.τ Cert.RsWInAdd.sig) → Buf (Elt Bits) ℓ) (g : Dev Cert.RsWInAdd.nD → PrngReg), Pre_RsWInAdd m →
    θ_run (Cert.RsWInAdd.defs (F := Bits)) (onTc (τ := Cert.RsWInAdd.τ) (Cert.RsWInAdd.main (F := Bits))) ⟨m, fun _ => 0, g⟩ (fun r => (∀ c : Dev Cert.RsWInAdd.nD,
      r.2.mem ((c.tc : Thread Cert.RsWInAdd.nD Cert.RsWInAdd.τ).loc Cert.RsWInAdd.main_arg0) = m ((c.tc : Thread Cert.RsWInAdd.nD Cert.RsWInAdd.τ).loc Cert.RsWInAdd.main_arg0)
      ∧ r.2.mem ((c.tc : Thread Cert.RsWInAdd.nD Cert.RsWInAdd.τ).loc Cert.RsWInAdd.main_arg1) = m ((c.tc : Thread Cert.RsWInAdd.nD Cert.RsWInAdd.τ).loc Cert.RsWInAdd.main_arg1)
      ∧ r.2.mem ((c.tc : Thread Cert.RsWInAdd.nD Cert.RsWInAdd.τ).loc Cert.RsWInAdd.main_arg2) = m ((c.tc : Thread Cert.RsWInAdd.nD Cert.RsWInAdd.τ).loc Cert.RsWInAdd.main_arg2))
      ∧ r.2.sem = fun _ => 0)

def quiescent_RsWInAddIdeal [hRsWInAddIdeal : Cert.RsWInAddIdeal.Facts] [hPre_a_core : Cert.Pre_a_core.Facts] : Prop :=
  ∀ (m : (ℓ : Loc Cert.RsWInAddIdeal.nD Cert.RsWInAddIdeal.τ Cert.RsWInAddIdeal.sig) → Buf (Elt Ideal) ℓ) (g : Dev Cert.RsWInAddIdeal.nD → PrngReg), Pre_RsWInAddIdeal m →
    θ_run (Cert.RsWInAddIdeal.defs (F := Ideal)) (onTc (τ := Cert.RsWInAddIdeal.τ) (Cert.RsWInAddIdeal.main (F := Ideal))) ⟨m, fun _ => 0, g⟩ (fun r => (∀ c : Dev Cert.RsWInAddIdeal.nD,
      r.2.mem ((c.tc : Thread Cert.RsWInAddIdeal.nD Cert.RsWInAddIdeal.τ).loc Cert.RsWInAddIdeal.main_arg0) = m ((c.tc : Thread Cert.RsWInAddIdeal.nD Cert.RsWInAddIdeal.τ).loc Cert.RsWInAddIdeal.main_arg0)
      ∧ r.2.mem ((c.tc : Thread Cert.RsWInAddIdeal.nD Cert.RsWInAddIdeal.τ).loc Cert.RsWInAddIdeal.main_arg1) = m ((c.tc : Thread Cert.RsWInAddIdeal.nD Cert.RsWInAddIdeal.τ).loc Cert.RsWInAddIdeal.main_arg1)
      ∧ r.2.mem ((c.tc : Thread Cert.RsWInAddIdeal.nD Cert.RsWInAddIdeal.τ).loc Cert.RsWInAddIdeal.main_arg2) = m ((c.tc : Thread Cert.RsWInAddIdeal.nD Cert.RsWInAddIdeal.τ).loc Cert.RsWInAddIdeal.main_arg2))
      ∧ r.2.sem = fun _ => 0)

def quiescent_RsWInAddRefIdeal [hRsWInAddRefIdeal : Cert.RsWInAddRefIdeal.Facts] : Prop :=
  ∀ (m : (ℓ : Loc Cert.RsWInAddRefIdeal.nD Cert.RsWInAddRefIdeal.τ Cert.RsWInAddRefIdeal.sig) → Buf (Elt Ideal) ℓ) (g : Dev Cert.RsWInAddRefIdeal.nD → PrngReg), Pre_RsWInAddRefIdeal m →
    θ_run (Cert.RsWInAddRefIdeal.defs (F := Ideal)) (onTc (τ := Cert.RsWInAddRefIdeal.τ) (Cert.RsWInAddRefIdeal.main (F := Ideal))) ⟨m, fun _ => 0, g⟩ (fun r => (∀ c : Dev Cert.RsWInAddRefIdeal.nD,
      r.2.mem ((c.tc : Thread Cert.RsWInAddRefIdeal.nD Cert.RsWInAddRefIdeal.τ).loc Cert.RsWInAddRefIdeal.main_arg0) = m ((c.tc : Thread Cert.RsWInAddRefIdeal.nD Cert.RsWInAddRefIdeal.τ).loc Cert.RsWInAddRefIdeal.main_arg0)
      ∧ r.2.mem ((c.tc : Thread Cert.RsWInAddRefIdeal.nD Cert.RsWInAddRefIdeal.τ).loc Cert.RsWInAddRefIdeal.main_arg1) = m ((c.tc : Thread Cert.RsWInAddRefIdeal.nD Cert.RsWInAddRefIdeal.τ).loc Cert.RsWInAddRefIdeal.main_arg1)
      ∧ r.2.mem ((c.tc : Thread Cert.RsWInAddRefIdeal.nD Cert.RsWInAddRefIdeal.τ).loc Cert.RsWInAddRefIdeal.main_arg2) = m ((c.tc : Thread Cert.RsWInAddRefIdeal.nD Cert.RsWInAddRefIdeal.τ).loc Cert.RsWInAddRefIdeal.main_arg2))
      ∧ r.2.sem = fun _ => 0)

def quiescent_RsWInAddRefIdeal_pre_a_core [hRsWInAddRefIdeal : Cert.RsWInAddRefIdeal.Facts] [hPre_a_core : Cert.Pre_a_core.Facts] : Prop :=
  ∀ (m : (ℓ : Loc Cert.RsWInAddRefIdeal.nD Cert.RsWInAddRefIdeal.τ Cert.RsWInAddRefIdeal.sig) → Buf (Elt Ideal) ℓ) (g : Dev Cert.RsWInAddRefIdeal.nD → PrngReg), Pre_RsWInAddRefIdeal_a_core m →
    θ_run (Cert.RsWInAddRefIdeal.defs (F := Ideal)) (onTc (τ := Cert.RsWInAddRefIdeal.τ) (Cert.RsWInAddRefIdeal.main (F := Ideal))) ⟨m, fun _ => 0, g⟩ (fun r => (∀ c : Dev Cert.RsWInAddRefIdeal.nD,
      r.2.mem ((c.tc : Thread Cert.RsWInAddRefIdeal.nD Cert.RsWInAddRefIdeal.τ).loc Cert.RsWInAddRefIdeal.main_arg0) = m ((c.tc : Thread Cert.RsWInAddRefIdeal.nD Cert.RsWInAddRefIdeal.τ).loc Cert.RsWInAddRefIdeal.main_arg0)
      ∧ r.2.mem ((c.tc : Thread Cert.RsWInAddRefIdeal.nD Cert.RsWInAddRefIdeal.τ).loc Cert.RsWInAddRefIdeal.main_arg1) = m ((c.tc : Thread Cert.RsWInAddRefIdeal.nD Cert.RsWInAddRefIdeal.τ).loc Cert.RsWInAddRefIdeal.main_arg1)
      ∧ r.2.mem ((c.tc : Thread Cert.RsWInAddRefIdeal.nD Cert.RsWInAddRefIdeal.τ).loc Cert.RsWInAddRefIdeal.main_arg2) = m ((c.tc : Thread Cert.RsWInAddRefIdeal.nD Cert.RsWInAddRefIdeal.τ).loc Cert.RsWInAddRefIdeal.main_arg2))
      ∧ r.2.sem = fun _ => 0)

def preserves_DInProj_DInProjIdeal : Prop :=
  True

def algebraic_DInProjIdeal_DInProjRefIdeal [hDInProjIdeal : Cert.DInProjIdeal.Facts] [hDInProjRefIdeal : Cert.DInProjRefIdeal.Facts] : Prop :=
  ∀ (m : (ℓ : Loc Cert.DInProjIdeal.nD Cert.DInProjIdeal.τ Cert.DInProjIdeal.sig) → Buf (Elt Ideal) ℓ) (g : Dev Cert.DInProjIdeal.nD → PrngReg)
    (m' : (ℓ : Loc Cert.DInProjRefIdeal.nD Cert.DInProjRefIdeal.τ Cert.DInProjRefIdeal.sig) → Buf (Elt Ideal) ℓ) (g' : Dev Cert.DInProjRefIdeal.nD → PrngReg), Pre_DInProjIdeal m →
    (∀ c : Dev Cert.DInProjIdeal.nD,
      m' ((c.tc : Thread Cert.DInProjRefIdeal.nD Cert.DInProjRefIdeal.τ).loc Cert.DInProjRefIdeal.main_arg0) = m ((c.tc : Thread Cert.DInProjIdeal.nD Cert.DInProjIdeal.τ).loc Cert.DInProjIdeal.main_arg0)
      ∧ m' ((c.tc : Thread Cert.DInProjRefIdeal.nD Cert.DInProjRefIdeal.τ).loc Cert.DInProjRefIdeal.main_arg1) = m ((c.tc : Thread Cert.DInProjIdeal.nD Cert.DInProjIdeal.τ).loc Cert.DInProjIdeal.main_arg1)
      ∧ m' ((c.tc : Thread Cert.DInProjRefIdeal.nD Cert.DInProjRefIdeal.τ).loc Cert.DInProjRefIdeal.main_arg2) = m ((c.tc : Thread Cert.DInProjIdeal.nD Cert.DInProjIdeal.τ).loc Cert.DInProjIdeal.main_arg2)) →
    ∃ (v0 : (c : Dev Cert.DInProjIdeal.nD) → Buf (Elt Ideal) ((c.tc : Thread Cert.DInProjIdeal.nD Cert.DInProjIdeal.τ).loc Cert.DInProjIdeal.main_v5)),
      θ_run (Cert.DInProjIdeal.defs (F := Ideal)) (onTc (τ := Cert.DInProjIdeal.τ) (Cert.DInProjIdeal.main (F := Ideal))) ⟨m, fun _ => 0, g⟩ (fun r => ∀ c : Dev Cert.DInProjIdeal.nD,
          r.2.mem ((c.tc : Thread Cert.DInProjIdeal.nD Cert.DInProjIdeal.τ).loc Cert.DInProjIdeal.main_v5) = v0 c
          ∧ r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
          ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1)
          ∧ r.2.mem ((c.tc : Thread Cert.DInProjIdeal.nD Cert.DInProjIdeal.τ).loc Cert.DInProjIdeal.main_arg2) = m ((c.tc : Thread Cert.DInProjIdeal.nD Cert.DInProjIdeal.τ).loc Cert.DInProjIdeal.main_arg2))
      ∧ θ_run (Cert.DInProjRefIdeal.defs (F := Ideal)) (onTc (τ := Cert.DInProjRefIdeal.τ) (Cert.DInProjRefIdeal.main (F := Ideal))) ⟨m', fun _ => 0, g'⟩ (fun r => ∀ c : Dev Cert.DInProjRefIdeal.nD,
          r.2.mem ((c.tc : Thread Cert.DInProjRefIdeal.nD Cert.DInProjRefIdeal.τ).loc Cert.DInProjRefIdeal.main_v6) = v0 c
          ∧ r.2.mem ((c.tc : Thread Cert.DInProjRefIdeal.nD Cert.DInProjRefIdeal.τ).loc Cert.DInProjRefIdeal.main_arg0) = m' ((c.tc : Thread Cert.DInProjRefIdeal.nD Cert.DInProjRefIdeal.τ).loc Cert.DInProjRefIdeal.main_arg0)
          ∧ r.2.mem ((c.tc : Thread Cert.DInProjRefIdeal.nD Cert.DInProjRefIdeal.τ).loc Cert.DInProjRefIdeal.main_arg1) = m' ((c.tc : Thread Cert.DInProjRefIdeal.nD Cert.DInProjRefIdeal.τ).loc Cert.DInProjRefIdeal.main_arg1)
          ∧ r.2.mem ((c.tc : Thread Cert.DInProjRefIdeal.nD Cert.DInProjRefIdeal.τ).loc Cert.DInProjRefIdeal.main_arg2) = m' ((c.tc : Thread Cert.DInProjRefIdeal.nD Cert.DInProjRefIdeal.τ).loc Cert.DInProjRefIdeal.main_arg2))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v1)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v1) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v5) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_DOutProj_DOutProjIdeal : Prop :=
  True

def algebraic_DOutProjIdeal_DOutProjRefIdeal [hDOutProjIdeal : Cert.DOutProjIdeal.Facts] [hDOutProjRefIdeal : Cert.DOutProjRefIdeal.Facts] : Prop :=
  ∀ (m : (ℓ : Loc Cert.DOutProjIdeal.nD Cert.DOutProjIdeal.τ Cert.DOutProjIdeal.sig) → Buf (Elt Ideal) ℓ) (g : Dev Cert.DOutProjIdeal.nD → PrngReg)
    (m' : (ℓ : Loc Cert.DOutProjRefIdeal.nD Cert.DOutProjRefIdeal.τ Cert.DOutProjRefIdeal.sig) → Buf (Elt Ideal) ℓ) (g' : Dev Cert.DOutProjRefIdeal.nD → PrngReg), Pre_DOutProjIdeal m →
    (∀ c : Dev Cert.DOutProjIdeal.nD,
      m' ((c.tc : Thread Cert.DOutProjRefIdeal.nD Cert.DOutProjRefIdeal.τ).loc Cert.DOutProjRefIdeal.main_arg0) = m ((c.tc : Thread Cert.DOutProjIdeal.nD Cert.DOutProjIdeal.τ).loc Cert.DOutProjIdeal.main_arg0)
      ∧ m' ((c.tc : Thread Cert.DOutProjRefIdeal.nD Cert.DOutProjRefIdeal.τ).loc Cert.DOutProjRefIdeal.main_arg1) = m ((c.tc : Thread Cert.DOutProjIdeal.nD Cert.DOutProjIdeal.τ).loc Cert.DOutProjIdeal.main_arg1)
      ∧ m' ((c.tc : Thread Cert.DOutProjRefIdeal.nD Cert.DOutProjRefIdeal.τ).loc Cert.DOutProjRefIdeal.main_arg2) = m ((c.tc : Thread Cert.DOutProjIdeal.nD Cert.DOutProjIdeal.τ).loc Cert.DOutProjIdeal.main_arg2)) →
    ∃ (v0 : (c : Dev Cert.DOutProjIdeal.nD) → Buf (Elt Ideal) ((c.tc : Thread Cert.DOutProjIdeal.nD Cert.DOutProjIdeal.τ).loc Cert.DOutProjIdeal.main_v1)),
      θ_run (Cert.DOutProjIdeal.defs (F := Ideal)) (onTc (τ := Cert.DOutProjIdeal.τ) (Cert.DOutProjIdeal.main (F := Ideal))) ⟨m, fun _ => 0, g⟩ (fun r => ∀ c : Dev Cert.DOutProjIdeal.nD,
          r.2.mem ((c.tc : Thread Cert.DOutProjIdeal.nD Cert.DOutProjIdeal.τ).loc Cert.DOutProjIdeal.main_v1) = v0 c
          ∧ r.2.mem ((c.tc : Thread Cert.DOutProjIdeal.nD Cert.DOutProjIdeal.τ).loc Cert.DOutProjIdeal.main_arg0) = m ((c.tc : Thread Cert.DOutProjIdeal.nD Cert.DOutProjIdeal.τ).loc Cert.DOutProjIdeal.main_arg0)
          ∧ r.2.mem ((c.tc : Thread Cert.DOutProjIdeal.nD Cert.DOutProjIdeal.τ).loc Cert.DOutProjIdeal.main_arg1) = m ((c.tc : Thread Cert.DOutProjIdeal.nD Cert.DOutProjIdeal.τ).loc Cert.DOutProjIdeal.main_arg1)
          ∧ r.2.mem ((c.tc : Thread Cert.DOutProjIdeal.nD Cert.DOutProjIdeal.τ).loc Cert.DOutProjIdeal.main_arg2) = m ((c.tc : Thread Cert.DOutProjIdeal.nD Cert.DOutProjIdeal.τ).loc Cert.DOutProjIdeal.main_arg2))
      ∧ θ_run (Cert.DOutProjRefIdeal.defs (F := Ideal)) (onTc (τ := Cert.DOutProjRefIdeal.τ) (Cert.DOutProjRefIdeal.main (F := Ideal))) ⟨m', fun _ => 0, g'⟩ (fun r => ∀ c : Dev Cert.DOutProjRefIdeal.nD,
          r.2.mem ((c.tc : Thread Cert.DOutProjRefIdeal.nD Cert.DOutProjRefIdeal.τ).loc Cert.DOutProjRefIdeal.main_v3) = v0 c
          ∧ r.2.mem ((c.tc : Thread Cert.DOutProjRefIdeal.nD Cert.DOutProjRefIdeal.τ).loc Cert.DOutProjRefIdeal.main_arg0) = m' ((c.tc : Thread Cert.DOutProjRefIdeal.nD Cert.DOutProjRefIdeal.τ).loc Cert.DOutProjRefIdeal.main_arg0)
          ∧ r.2.mem ((c.tc : Thread Cert.DOutProjRefIdeal.nD Cert.DOutProjRefIdeal.τ).loc Cert.DOutProjRefIdeal.main_arg1) = m' ((c.tc : Thread Cert.DOutProjRefIdeal.nD Cert.DOutProjRefIdeal.τ).loc Cert.DOutProjRefIdeal.main_arg1)
          ∧ r.2.mem ((c.tc : Thread Cert.DOutProjRefIdeal.nD Cert.DOutProjRefIdeal.τ).loc Cert.DOutProjRefIdeal.main_arg2) = m' ((c.tc : Thread Cert.DOutProjRefIdeal.nD Cert.DOutProjRefIdeal.τ).loc Cert.DOutProjRefIdeal.main_arg2))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v1)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v1) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v5) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_RmsIn_RmsInIdeal : Prop :=
  True

def algebraic_RmsInIdeal_RmsInRefIdeal [hRmsInIdeal : Cert.RmsInIdeal.Facts] [hRmsInRefIdeal : Cert.RmsInRefIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInRefIdeal.nD Cert.RmsInRefIdeal.τ Cert.RmsInRefIdeal.sig) → Buf (Elt Ideal) ℓ) (g' : Dev Cert.RmsInRefIdeal.nD → PrngReg), Pre_RmsInIdeal m →
    (∀ c : Dev Cert.RmsInIdeal.nD,
      m' ((c.tc : Thread Cert.RmsInRefIdeal.nD Cert.RmsInRefIdeal.τ).loc Cert.RmsInRefIdeal.main_arg0) = m ((c.tc : Thread Cert.RmsInIdeal.nD Cert.RmsInIdeal.τ).loc Cert.RmsInIdeal.main_arg0)
      ∧ m' ((c.tc : Thread Cert.RmsInRefIdeal.nD Cert.RmsInRefIdeal.τ).loc Cert.RmsInRefIdeal.main_arg1) = m ((c.tc : Thread Cert.RmsInIdeal.nD Cert.RmsInIdeal.τ).loc Cert.RmsInIdeal.main_arg1)
      ∧ m' ((c.tc : Thread Cert.RmsInRefIdeal.nD Cert.RmsInRefIdeal.τ).loc Cert.RmsInRefIdeal.main_arg2) = m ((c.tc : Thread Cert.RmsInIdeal.nD Cert.RmsInIdeal.τ).loc Cert.RmsInIdeal.main_arg2)) →
    ∃ (v0 : (c : Dev Cert.RmsInIdeal.nD) → Buf (Elt Ideal) ((c.tc : Thread Cert.RmsInIdeal.nD Cert.RmsInIdeal.τ).loc Cert.RmsInIdeal.main_v2)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v2) = v0 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
          ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2))
      ∧ θ_run (Cert.RmsInRefIdeal.defs (F := Ideal)) (onTc (τ := Cert.RmsInRefIdeal.τ) (Cert.RmsInRefIdeal.main (F := Ideal))) ⟨m', fun _ => 0, g'⟩ (fun r => ∀ c : Dev Cert.RmsInRefIdeal.nD,
          r.2.mem ((c.tc : Thread Cert.RmsInRefIdeal.nD Cert.RmsInRefIdeal.τ).loc Cert.RmsInRefIdeal.main_v16) = v0 c
          ∧ r.2.mem ((c.tc : Thread Cert.RmsInRefIdeal.nD Cert.RmsInRefIdeal.τ).loc Cert.RmsInRefIdeal.main_arg0) = m' ((c.tc : Thread Cert.RmsInRefIdeal.nD Cert.RmsInRefIdeal.τ).loc Cert.RmsInRefIdeal.main_arg0)
          ∧ r.2.mem ((c.tc : Thread Cert.RmsInRefIdeal.nD Cert.RmsInRefIdeal.τ).loc Cert.RmsInRefIdeal.main_arg1) = m' ((c.tc : Thread Cert.RmsInRefIdeal.nD Cert.RmsInRefIdeal.τ).loc Cert.RmsInRefIdeal.main_arg1)
          ∧ r.2.mem ((c.tc : Thread Cert.RmsInRefIdeal.nD Cert.RmsInRefIdeal.τ).loc Cert.RmsInRefIdeal.main_arg2) = m' ((c.tc : Thread Cert.RmsInRefIdeal.nD Cert.RmsInRefIdeal.τ).loc Cert.RmsInRefIdeal.main_arg2))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)
      ∧ m' ((c.tc : Thread Cert.RmsBwdRefIdeal.nD Cert.RmsBwdRefIdeal.τ).loc Cert.RmsBwdRefIdeal.main_arg4) = m ((c.tc : Thread Cert.RmsBwdIdeal.nD Cert.RmsBwdIdeal.τ).loc Cert.RmsBwdIdeal.main_arg4)) →
    ∃ (v0 : (c : Dev Cert.RmsBwdIdeal.nD) → Buf (Elt Ideal) ((c.tc : Thread Cert.RmsBwdIdeal.nD Cert.RmsBwdIdeal.τ).loc Cert.RmsBwdIdeal.main_v2_0)) (v1 : (c : Dev Cert.RmsBwdIdeal.nD) → Buf (Elt Ideal) ((c.tc : Thread Cert.RmsBwdIdeal.nD Cert.RmsBwdIdeal.τ).loc Cert.RmsBwdIdeal.main_v2_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v2_0) = v0 c
          ∧ r.2.mem ((c.tc : Thread Cert.RmsBwdIdeal.nD Cert.RmsBwdIdeal.τ).loc Cert.RmsBwdIdeal.main_v2_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
          ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v39) = v0 c
          ∧ r.2.mem ((c.tc : Thread Cert.RmsBwdRefIdeal.nD Cert.RmsBwdRefIdeal.τ).loc Cert.RmsBwdRefIdeal.main_v40) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3)
          ∧ r.2.mem ((c.tc : Thread Cert.RmsBwdRefIdeal.nD Cert.RmsBwdRefIdeal.τ).loc Cert.RmsBwdRefIdeal.main_arg4) = m' ((c.tc : Thread Cert.RmsBwdRefIdeal.nD Cert.RmsBwdRefIdeal.τ).loc Cert.RmsBwdRefIdeal.main_arg4))

def preserves_MetaBwd_MetaBwdIdeal : Prop :=
  True

def algebraic_MetaBwdIdeal_MetaBwdRefIdeal [hMetaBwdIdeal : Cert.MetaBwdIdeal.Facts] [hMetaBwdRefIdeal : Cert.MetaBwdRefIdeal.Facts] : Prop :=
  ∀ (m : (ℓ : Loc Cert.MetaBwdIdeal.nD Cert.MetaBwdIdeal.τ Cert.MetaBwdIdeal.sig) → Buf (Elt Ideal) ℓ) (g : Dev Cert.MetaBwdIdeal.nD → PrngReg)
    (m' : (ℓ : Loc Cert.MetaBwdRefIdeal.nD Cert.MetaBwdRefIdeal.τ Cert.MetaBwdRefIdeal.sig) → Buf (Elt Ideal) ℓ) (g' : Dev Cert.MetaBwdRefIdeal.nD → PrngReg), Pre_MetaBwdIdeal m →
    (∀ c : Dev Cert.MetaBwdIdeal.nD,
      m' ((c.tc : Thread Cert.MetaBwdRefIdeal.nD Cert.MetaBwdRefIdeal.τ).loc Cert.MetaBwdRefIdeal.main_arg0) = m ((c.tc : Thread Cert.MetaBwdIdeal.nD Cert.MetaBwdIdeal.τ).loc Cert.MetaBwdIdeal.main_arg0)
      ∧ m' ((c.tc : Thread Cert.MetaBwdRefIdeal.nD Cert.MetaBwdRefIdeal.τ).loc Cert.MetaBwdRefIdeal.main_arg1) = m ((c.tc : Thread Cert.MetaBwdIdeal.nD Cert.MetaBwdIdeal.τ).loc Cert.MetaBwdIdeal.main_arg1)
      ∧ m' ((c.tc : Thread Cert.MetaBwdRefIdeal.nD Cert.MetaBwdRefIdeal.τ).loc Cert.MetaBwdRefIdeal.main_arg2) = m ((c.tc : Thread Cert.MetaBwdIdeal.nD Cert.MetaBwdIdeal.τ).loc Cert.MetaBwdIdeal.main_arg2)
      ∧ m' ((c.tc : Thread Cert.MetaBwdRefIdeal.nD Cert.MetaBwdRefIdeal.τ).loc Cert.MetaBwdRefIdeal.main_arg3) = m ((c.tc : Thread Cert.MetaBwdIdeal.nD Cert.MetaBwdIdeal.τ).loc Cert.MetaBwdIdeal.main_arg3)
      ∧ m' ((c.tc : Thread Cert.MetaBwdRefIdeal.nD Cert.MetaBwdRefIdeal.τ).loc Cert.MetaBwdRefIdeal.main_arg4) = m ((c.tc : Thread Cert.MetaBwdIdeal.nD Cert.MetaBwdIdeal.τ).loc Cert.MetaBwdIdeal.main_arg4)) →
    ∃ (v0 : (c : Dev Cert.MetaBwdIdeal.nD) → Buf (Elt Ideal) ((c.tc : Thread Cert.MetaBwdIdeal.nD Cert.MetaBwdIdeal.τ).loc Cert.MetaBwdIdeal.main_v2_0)) (v1 : (c : Dev Cert.MetaBwdIdeal.nD) → Buf (Elt Ideal) ((c.tc : Thread Cert.MetaBwdIdeal.nD Cert.MetaBwdIdeal.τ).loc Cert.MetaBwdIdeal.main_v2_1)),
      θ_run (Cert.MetaBwdIdeal.defs (F := Ideal)) (onTc (τ := Cert.MetaBwdIdeal.τ) (Cert.MetaBwdIdeal.main (F := Ideal))) ⟨m, fun _ => 0, g⟩ (fun r => ∀ c : Dev Cert.MetaBwdIdeal.nD,
          r.2.mem ((c.tc : Thread Cert.MetaBwdIdeal.nD Cert.MetaBwdIdeal.τ).loc Cert.MetaBwdIdeal.main_v2_0) = v0 c
          ∧ r.2.mem ((c.tc : Thread Cert.MetaBwdIdeal.nD Cert.MetaBwdIdeal.τ).loc Cert.MetaBwdIdeal.main_v2_1) = v1 c
          ∧ r.2.mem ((c.tc : Thread Cert.MetaBwdIdeal.nD Cert.MetaBwdIdeal.τ).loc Cert.MetaBwdIdeal.main_arg0) = m ((c.tc : Thread Cert.MetaBwdIdeal.nD Cert.MetaBwdIdeal.τ).loc Cert.MetaBwdIdeal.main_arg0)
          ∧ r.2.mem ((c.tc : Thread Cert.MetaBwdIdeal.nD Cert.MetaBwdIdeal.τ).loc Cert.MetaBwdIdeal.main_arg1) = m ((c.tc : Thread Cert.MetaBwdIdeal.nD Cert.MetaBwdIdeal.τ).loc Cert.MetaBwdIdeal.main_arg1)
          ∧ r.2.mem ((c.tc : Thread Cert.MetaBwdIdeal.nD Cert.MetaBwdIdeal.τ).loc Cert.MetaBwdIdeal.main_arg2) = m ((c.tc : Thread Cert.MetaBwdIdeal.nD Cert.MetaBwdIdeal.τ).loc Cert.MetaBwdIdeal.main_arg2)
          ∧ r.2.mem ((c.tc : Thread Cert.MetaBwdIdeal.nD Cert.MetaBwdIdeal.τ).loc Cert.MetaBwdIdeal.main_arg3) = m ((c.tc : Thread Cert.MetaBwdIdeal.nD Cert.MetaBwdIdeal.τ).loc Cert.MetaBwdIdeal.main_arg3)
          ∧ r.2.mem ((c.tc : Thread Cert.MetaBwdIdeal.nD Cert.MetaBwdIdeal.τ).loc Cert.MetaBwdIdeal.main_arg4) = m ((c.tc : Thread Cert.MetaBwdIdeal.nD Cert.MetaBwdIdeal.τ).loc Cert.MetaBwdIdeal.main_arg4))
      ∧ θ_run (Cert.MetaBwdRefIdeal.defs (F := Ideal)) (onTc (τ := Cert.MetaBwdRefIdeal.τ) (Cert.MetaBwdRefIdeal.main (F := Ideal))) ⟨m', fun _ => 0, g'⟩ (fun r => ∀ c : Dev Cert.MetaBwdRefIdeal.nD,
          r.2.mem ((c.tc : Thread Cert.MetaBwdRefIdeal.nD Cert.MetaBwdRefIdeal.τ).loc Cert.MetaBwdRefIdeal.main_v39) = v0 c
          ∧ r.2.mem ((c.tc : Thread Cert.MetaBwdRefIdeal.nD Cert.MetaBwdRefIdeal.τ).loc Cert.MetaBwdRefIdeal.main_v40) = v1 c
          ∧ r.2.mem ((c.tc : Thread Cert.MetaBwdRefIdeal.nD Cert.MetaBwdRefIdeal.τ).loc Cert.MetaBwdRefIdeal.main_arg0) = m' ((c.tc : Thread Cert.MetaBwdRefIdeal.nD Cert.MetaBwdRefIdeal.τ).loc Cert.MetaBwdRefIdeal.main_arg0)
          ∧ r.2.mem ((c.tc : Thread Cert.MetaBwdRefIdeal.nD Cert.MetaBwdRefIdeal.τ).loc Cert.MetaBwdRefIdeal.main_arg1) = m' ((c.tc : Thread Cert.MetaBwdRefIdeal.nD Cert.MetaBwdRefIdeal.τ).loc Cert.MetaBwdRefIdeal.main_arg1)
          ∧ r.2.mem ((c.tc : Thread Cert.MetaBwdRefIdeal.nD Cert.MetaBwdRefIdeal.τ).loc Cert.MetaBwdRefIdeal.main_arg2) = m' ((c.tc : Thread Cert.MetaBwdRefIdeal.nD Cert.MetaBwdRefIdeal.τ).loc Cert.MetaBwdRefIdeal.main_arg2)
          ∧ r.2.mem ((c.tc : Thread Cert.MetaBwdRefIdeal.nD Cert.MetaBwdRefIdeal.τ).loc Cert.MetaBwdRefIdeal.main_arg3) = m' ((c.tc : Thread Cert.MetaBwdRefIdeal.nD Cert.MetaBwdRefIdeal.τ).loc Cert.MetaBwdRefIdeal.main_arg3)
          ∧ r.2.mem ((c.tc : Thread Cert.MetaBwdRefIdeal.nD Cert.MetaBwdRefIdeal.τ).loc Cert.MetaBwdRefIdeal.main_arg4) = m' ((c.tc : Thread Cert.MetaBwdRefIdeal.nD Cert.MetaBwdRefIdeal.τ).loc Cert.MetaBwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)
      ∧ m' ((c.tc : Thread Cert.LossHeadRefIdeal.nD Cert.LossHeadRefIdeal.τ).loc Cert.LossHeadRefIdeal.main_arg5) = m ((c.tc : Thread Cert.LossHeadIdeal.nD Cert.LossHeadIdeal.τ).loc Cert.LossHeadIdeal.main_arg5)) →
    ∃ (v0 : (c : Dev Cert.LossHeadIdeal.nD) → Buf (Elt Ideal) ((c.tc : Thread Cert.LossHeadIdeal.nD Cert.LossHeadIdeal.τ).loc Cert.LossHeadIdeal.main_v4_0)) (v1 : (c : Dev Cert.LossHeadIdeal.nD) → Buf (Elt Ideal) ((c.tc : Thread Cert.LossHeadIdeal.nD Cert.LossHeadIdeal.τ).loc Cert.LossHeadIdeal.main_v4_1)) (v2 : (c : Dev Cert.LossHeadIdeal.nD) → Buf (Elt Ideal) ((c.tc : Thread Cert.LossHeadIdeal.nD Cert.LossHeadIdeal.τ).loc Cert.LossHeadIdeal.main_v4_2)) (v3 : (c : Dev Cert.LossHeadIdeal.nD) → Buf (Elt Ideal) ((c.tc : Thread Cert.LossHeadIdeal.nD Cert.LossHeadIdeal.τ).loc Cert.LossHeadIdeal.main_v4_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v4_0) = v0 c
          ∧ r.2.mem ((c.tc : Thread Cert.LossHeadIdeal.nD Cert.LossHeadIdeal.τ).loc Cert.LossHeadIdeal.main_v4_1) = v1 c
          ∧ r.2.mem ((c.tc : Thread Cert.LossHeadIdeal.nD Cert.LossHeadIdeal.τ).loc Cert.LossHeadIdeal.main_v4_2) = v2 c
          ∧ r.2.mem ((c.tc : Thread Cert.LossHeadIdeal.nD Cert.LossHeadIdeal.τ).loc Cert.LossHeadIdeal.main_v4_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v59) = v0 c
          ∧ r.2.mem ((c.tc : Thread Cert.LossHeadRefIdeal.nD Cert.LossHeadRefIdeal.τ).loc Cert.LossHeadRefIdeal.main_v58) = v1 c
          ∧ r.2.mem ((c.tc : Thread Cert.LossHeadRefIdeal.nD Cert.LossHeadRefIdeal.τ).loc Cert.LossHeadRefIdeal.main_v60) = v2 c
          ∧ r.2.mem ((c.tc : Thread Cert.LossHeadRefIdeal.nD Cert.LossHeadRefIdeal.τ).loc Cert.LossHeadRefIdeal.main_v61) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4)
          ∧ r.2.mem ((c.tc : Thread Cert.LossHeadRefIdeal.nD Cert.LossHeadRefIdeal.τ).loc Cert.LossHeadRefIdeal.main_arg5) = m' ((c.tc : Thread Cert.LossHeadRefIdeal.nD Cert.LossHeadRefIdeal.τ).loc Cert.LossHeadRefIdeal.main_arg5))

def preserves_RsWOutAdd_RsWOutAddIdeal : Prop :=
  True

def algebraic_RsWOutAddIdeal_RsWOutAddRefIdeal [hRsWOutAddIdeal : Cert.RsWOutAddIdeal.Facts] [hRsWOutAddRefIdeal : Cert.RsWOutAddRefIdeal.Facts] : Prop :=
  ∀ (m : (ℓ : Loc Cert.RsWOutAddIdeal.nD Cert.RsWOutAddIdeal.τ Cert.RsWOutAddIdeal.sig) → Buf (Elt Ideal) ℓ) (g : Dev Cert.RsWOutAddIdeal.nD → PrngReg)
    (m' : (ℓ : Loc Cert.RsWOutAddRefIdeal.nD Cert.RsWOutAddRefIdeal.τ Cert.RsWOutAddRefIdeal.sig) → Buf (Elt Ideal) ℓ) (g' : Dev Cert.RsWOutAddRefIdeal.nD → PrngReg), Pre_RsWOutAddIdeal m →
    (∀ c : Dev Cert.RsWOutAddIdeal.nD,
      m' ((c.tc : Thread Cert.RsWOutAddRefIdeal.nD Cert.RsWOutAddRefIdeal.τ).loc Cert.RsWOutAddRefIdeal.main_arg0) = m ((c.tc : Thread Cert.RsWOutAddIdeal.nD Cert.RsWOutAddIdeal.τ).loc Cert.RsWOutAddIdeal.main_arg0)
      ∧ m' ((c.tc : Thread Cert.RsWOutAddRefIdeal.nD Cert.RsWOutAddRefIdeal.τ).loc Cert.RsWOutAddRefIdeal.main_arg1) = m ((c.tc : Thread Cert.RsWOutAddIdeal.nD Cert.RsWOutAddIdeal.τ).loc Cert.RsWOutAddIdeal.main_arg1)) →
    ∃ (v0 : (c : Dev Cert.RsWOutAddIdeal.nD) → Buf (Elt Ideal) ((c.tc : Thread Cert.RsWOutAddIdeal.nD Cert.RsWOutAddIdeal.τ).loc Cert.RsWOutAddIdeal.main_v0)),
      θ_run (Cert.RsWOutAddIdeal.defs (F := Ideal)) (onTc (τ := Cert.RsWOutAddIdeal.τ) (Cert.RsWOutAddIdeal.main (F := Ideal))) ⟨m, fun _ => 0, g⟩ (fun r => ∀ c : Dev Cert.RsWOutAddIdeal.nD,
          r.2.mem ((c.tc : Thread Cert.RsWOutAddIdeal.nD Cert.RsWOutAddIdeal.τ).loc Cert.RsWOutAddIdeal.main_v0) = v0 c
          ∧ r.2.mem ((c.tc : Thread Cert.RsWOutAddIdeal.nD Cert.RsWOutAddIdeal.τ).loc Cert.RsWOutAddIdeal.main_arg0) = m ((c.tc : Thread Cert.RsWOutAddIdeal.nD Cert.RsWOutAddIdeal.τ).loc Cert.RsWOutAddIdeal.main_arg0)
          ∧ r.2.mem ((c.tc : Thread Cert.RsWOutAddIdeal.nD Cert.RsWOutAddIdeal.τ).loc Cert.RsWOutAddIdeal.main_arg1) = m ((c.tc : Thread Cert.RsWOutAddIdeal.nD Cert.RsWOutAddIdeal.τ).loc Cert.RsWOutAddIdeal.main_arg1))
      ∧ θ_run (Cert.RsWOutAddRefIdeal.defs (F := Ideal)) (onTc (τ := Cert.RsWOutAddRefIdeal.τ) (Cert.RsWOutAddRefIdeal.main (F := Ideal))) ⟨m', fun _ => 0, g'⟩ (fun r => ∀ c : Dev Cert.RsWOutAddRefIdeal.nD,
          r.2.mem ((c.tc : Thread Cert.RsWOutAddRefIdeal.nD Cert.RsWOutAddRefIdeal.τ).loc Cert.RsWOutAddRefIdeal.main_v1) = v0 c
          ∧ r.2.mem ((c.tc : Thread Cert.RsWOutAddRefIdeal.nD Cert.RsWOutAddRefIdeal.τ).loc Cert.RsWOutAddRefIdeal.main_arg0) = m' ((c.tc : Thread Cert.RsWOutAddRefIdeal.nD Cert.RsWOutAddRefIdeal.τ).loc Cert.RsWOutAddRefIdeal.main_arg0)
          ∧ r.2.mem ((c.tc : Thread Cert.RsWOutAddRefIdeal.nD Cert.RsWOutAddRefIdeal.τ).loc Cert.RsWOutAddRefIdeal.main_arg1) = m' ((c.tc : Thread Cert.RsWOutAddRefIdeal.nD Cert.RsWOutAddRefIdeal.τ).loc Cert.RsWOutAddRefIdeal.main_arg1))

def preserves_RsSmallAdd_RsSmallAddIdeal : Prop :=
  True

def algebraic_RsSmallAddIdeal_RsSmallAddRefIdeal [hRsSmallAddIdeal : Cert.RsSmallAddIdeal.Facts] [hRsSmallAddRefIdeal : Cert.RsSmallAddRefIdeal.Facts] : Prop :=
  ∀ (m : (ℓ : Loc Cert.RsSmallAddIdeal.nD Cert.RsSmallAddIdeal.τ Cert.RsSmallAddIdeal.sig) → Buf (Elt Ideal) ℓ) (g : Dev Cert.RsSmallAddIdeal.nD → PrngReg)
    (m' : (ℓ : Loc Cert.RsSmallAddRefIdeal.nD Cert.RsSmallAddRefIdeal.τ Cert.RsSmallAddRefIdeal.sig) → Buf (Elt Ideal) ℓ) (g' : Dev Cert.RsSmallAddRefIdeal.nD → PrngReg), Pre_RsSmallAddIdeal m →
    (∀ c : Dev Cert.RsSmallAddIdeal.nD,
      m' ((c.tc : Thread Cert.RsSmallAddRefIdeal.nD Cert.RsSmallAddRefIdeal.τ).loc Cert.RsSmallAddRefIdeal.main_arg0) = m ((c.tc : Thread Cert.RsSmallAddIdeal.nD Cert.RsSmallAddIdeal.τ).loc Cert.RsSmallAddIdeal.main_arg0)
      ∧ m' ((c.tc : Thread Cert.RsSmallAddRefIdeal.nD Cert.RsSmallAddRefIdeal.τ).loc Cert.RsSmallAddRefIdeal.main_arg1) = m ((c.tc : Thread Cert.RsSmallAddIdeal.nD Cert.RsSmallAddIdeal.τ).loc Cert.RsSmallAddIdeal.main_arg1)) →
    ∃ (v0 : (c : Dev Cert.RsSmallAddIdeal.nD) → Buf (Elt Ideal) ((c.tc : Thread Cert.RsSmallAddIdeal.nD Cert.RsSmallAddIdeal.τ).loc Cert.RsSmallAddIdeal.main_v0)),
      θ_run (Cert.RsSmallAddIdeal.defs (F := Ideal)) (onTc (τ := Cert.RsSmallAddIdeal.τ) (Cert.RsSmallAddIdeal.main (F := Ideal))) ⟨m, fun _ => 0, g⟩ (fun r => ∀ c : Dev Cert.RsSmallAddIdeal.nD,
          r.2.mem ((c.tc : Thread Cert.RsSmallAddIdeal.nD Cert.RsSmallAddIdeal.τ).loc Cert.RsSmallAddIdeal.main_v0) = v0 c
          ∧ r.2.mem ((c.tc : Thread Cert.RsSmallAddIdeal.nD Cert.RsSmallAddIdeal.τ).loc Cert.RsSmallAddIdeal.main_arg0) = m ((c.tc : Thread Cert.RsSmallAddIdeal.nD Cert.RsSmallAddIdeal.τ).loc Cert.RsSmallAddIdeal.main_arg0)
          ∧ r.2.mem ((c.tc : Thread Cert.RsSmallAddIdeal.nD Cert.RsSmallAddIdeal.τ).loc Cert.RsSmallAddIdeal.main_arg1) = m ((c.tc : Thread Cert.RsSmallAddIdeal.nD Cert.RsSmallAddIdeal.τ).loc Cert.RsSmallAddIdeal.main_arg1))
      ∧ θ_run (Cert.RsSmallAddRefIdeal.defs (F := Ideal)) (onTc (τ := Cert.RsSmallAddRefIdeal.τ) (Cert.RsSmallAddRefIdeal.main (F := Ideal))) ⟨m', fun _ => 0, g'⟩ (fun r => ∀ c : Dev Cert.RsSmallAddRefIdeal.nD,
          r.2.mem ((c.tc : Thread Cert.RsSmallAddRefIdeal.nD Cert.RsSmallAddRefIdeal.τ).loc Cert.RsSmallAddRefIdeal.main_v1) = v0 c
          ∧ r.2.mem ((c.tc : Thread Cert.RsSmallAddRefIdeal.nD Cert.RsSmallAddRefIdeal.τ).loc Cert.RsSmallAddRefIdeal.main_arg0) = m' ((c.tc : Thread Cert.RsSmallAddRefIdeal.nD Cert.RsSmallAddRefIdeal.τ).loc Cert.RsSmallAddRefIdeal.main_arg0)
          ∧ r.2.mem ((c.tc : Thread Cert.RsSmallAddRefIdeal.nD Cert.RsSmallAddRefIdeal.τ).loc Cert.RsSmallAddRefIdeal.main_arg1) = m' ((c.tc : Thread Cert.RsSmallAddRefIdeal.nD Cert.RsSmallAddRefIdeal.τ).loc Cert.RsSmallAddRefIdeal.main_arg1))

def preserves_RsWInSum_RsWInSumIdeal : Prop :=
  True

def algebraic_RsWInSumIdeal_RsWInSumRefIdeal [hRsWInSumIdeal : Cert.RsWInSumIdeal.Facts] [hRsWInSumRefIdeal : Cert.RsWInSumRefIdeal.Facts] : Prop :=
  ∀ (m : (ℓ : Loc Cert.RsWInSumIdeal.nD Cert.RsWInSumIdeal.τ Cert.RsWInSumIdeal.sig) → Buf (Elt Ideal) ℓ) (g : Dev Cert.RsWInSumIdeal.nD → PrngReg)
    (m' : (ℓ : Loc Cert.RsWInSumRefIdeal.nD Cert.RsWInSumRefIdeal.τ Cert.RsWInSumRefIdeal.sig) → Buf (Elt Ideal) ℓ) (g' : Dev Cert.RsWInSumRefIdeal.nD → PrngReg), Pre_RsWInSumIdeal m →
    (∀ c : Dev Cert.RsWInSumIdeal.nD,
      m' ((c.tc : Thread Cert.RsWInSumRefIdeal.nD Cert.RsWInSumRefIdeal.τ).loc Cert.RsWInSumRefIdeal.main_arg0) = m ((c.tc : Thread Cert.RsWInSumIdeal.nD Cert.RsWInSumIdeal.τ).loc Cert.RsWInSumIdeal.main_arg0)) →
    ∃ (v0 : (c : Dev Cert.RsWInSumIdeal.nD) → Buf (Elt Ideal) ((c.tc : Thread Cert.RsWInSumIdeal.nD Cert.RsWInSumIdeal.τ).loc Cert.RsWInSumIdeal.main_v0)),
      θ_run (Cert.RsWInSumIdeal.defs (F := Ideal)) (onTc (τ := Cert.RsWInSumIdeal.τ) (Cert.RsWInSumIdeal.main (F := Ideal))) ⟨m, fun _ => 0, g⟩ (fun r => ∀ c : Dev Cert.RsWInSumIdeal.nD,
          r.2.mem ((c.tc : Thread Cert.RsWInSumIdeal.nD Cert.RsWInSumIdeal.τ).loc Cert.RsWInSumIdeal.main_v0) = v0 c
          ∧ r.2.mem ((c.tc : Thread Cert.RsWInSumIdeal.nD Cert.RsWInSumIdeal.τ).loc Cert.RsWInSumIdeal.main_arg0) = m ((c.tc : Thread Cert.RsWInSumIdeal.nD Cert.RsWInSumIdeal.τ).loc Cert.RsWInSumIdeal.main_arg0))
      ∧ θ_run (Cert.RsWInSumRefIdeal.defs (F := Ideal)) (onTc (τ := Cert.RsWInSumRefIdeal.τ) (Cert.RsWInSumRefIdeal.main (F := Ideal))) ⟨m', fun _ => 0, g'⟩ (fun r => ∀ c : Dev Cert.RsWInSumRefIdeal.nD,
          r.2.mem ((c.tc : Thread Cert.RsWInSumRefIdeal.nD Cert.RsWInSumRefIdeal.τ).loc Cert.RsWInSumRefIdeal.main_v1) = v0 c
          ∧ r.2.mem ((c.tc : Thread Cert.RsWInSumRefIdeal.nD Cert.RsWInSumRefIdeal.τ).loc Cert.RsWInSumRefIdeal.main_arg0) = m' ((c.tc : Thread Cert.RsWInSumRefIdeal.nD Cert.RsWInSumRefIdeal.τ).loc Cert.RsWInSumRefIdeal.main_arg0))

def preserves_RsWOutSum_RsWOutSumIdeal : Prop :=
  True

def algebraic_RsWOutSumIdeal_RsWOutSumRefIdeal [hRsWOutSumIdeal : Cert.RsWOutSumIdeal.Facts] [hRsWOutSumRefIdeal : Cert.RsWOutSumRefIdeal.Facts] : Prop :=
  ∀ (m : (ℓ : Loc Cert.RsWOutSumIdeal.nD Cert.RsWOutSumIdeal.τ Cert.RsWOutSumIdeal.sig) → Buf (Elt Ideal) ℓ) (g : Dev Cert.RsWOutSumIdeal.nD → PrngReg)
    (m' : (ℓ : Loc Cert.RsWOutSumRefIdeal.nD Cert.RsWOutSumRefIdeal.τ Cert.RsWOutSumRefIdeal.sig) → Buf (Elt Ideal) ℓ) (g' : Dev Cert.RsWOutSumRefIdeal.nD → PrngReg), Pre_RsWOutSumIdeal m →
    (∀ c : Dev Cert.RsWOutSumIdeal.nD,
      m' ((c.tc : Thread Cert.RsWOutSumRefIdeal.nD Cert.RsWOutSumRefIdeal.τ).loc Cert.RsWOutSumRefIdeal.main_arg0) = m ((c.tc : Thread Cert.RsWOutSumIdeal.nD Cert.RsWOutSumIdeal.τ).loc Cert.RsWOutSumIdeal.main_arg0)) →
    ∃ (v0 : (c : Dev Cert.RsWOutSumIdeal.nD) → Buf (Elt Ideal) ((c.tc : Thread Cert.RsWOutSumIdeal.nD Cert.RsWOutSumIdeal.τ).loc Cert.RsWOutSumIdeal.main_v0)),
      θ_run (Cert.RsWOutSumIdeal.defs (F := Ideal)) (onTc (τ := Cert.RsWOutSumIdeal.τ) (Cert.RsWOutSumIdeal.main (F := Ideal))) ⟨m, fun _ => 0, g⟩ (fun r => ∀ c : Dev Cert.RsWOutSumIdeal.nD,
          r.2.mem ((c.tc : Thread Cert.RsWOutSumIdeal.nD Cert.RsWOutSumIdeal.τ).loc Cert.RsWOutSumIdeal.main_v0) = v0 c
          ∧ r.2.mem ((c.tc : Thread Cert.RsWOutSumIdeal.nD Cert.RsWOutSumIdeal.τ).loc Cert.RsWOutSumIdeal.main_arg0) = m ((c.tc : Thread Cert.RsWOutSumIdeal.nD Cert.RsWOutSumIdeal.τ).loc Cert.RsWOutSumIdeal.main_arg0))
      ∧ θ_run (Cert.RsWOutSumRefIdeal.defs (F := Ideal)) (onTc (τ := Cert.RsWOutSumRefIdeal.τ) (Cert.RsWOutSumRefIdeal.main (F := Ideal))) ⟨m', fun _ => 0, g'⟩ (fun r => ∀ c : Dev Cert.RsWOutSumRefIdeal.nD,
          r.2.mem ((c.tc : Thread Cert.RsWOutSumRefIdeal.nD Cert.RsWOutSumRefIdeal.τ).loc Cert.RsWOutSumRefIdeal.main_v1) = v0 c
          ∧ r.2.mem ((c.tc : Thread Cert.RsWOutSumRefIdeal.nD Cert.RsWOutSumRefIdeal.τ).loc Cert.RsWOutSumRefIdeal.main_arg0) = m' ((c.tc : Thread Cert.RsWOutSumRefIdeal.nD Cert.RsWOutSumRefIdeal.τ).loc Cert.RsWOutSumRefIdeal.main_arg0))

def preserves_RsSmallSum_RsSmallSumIdeal : Prop :=
  True

def algebraic_RsSmallSumIdeal_RsSmallSumRefIdeal [hRsSmallSumIdeal : Cert.RsSmallSumIdeal.Facts] [hRsSmallSumRefIdeal : Cert.RsSmallSumRefIdeal.Facts] : Prop :=
  ∀ (m : (ℓ : Loc Cert.RsSmallSumIdeal.nD Cert.RsSmallSumIdeal.τ Cert.RsSmallSumIdeal.sig) → Buf (Elt Ideal) ℓ) (g : Dev Cert.RsSmallSumIdeal.nD → PrngReg)
    (m' : (ℓ : Loc Cert.RsSmallSumRefIdeal.nD Cert.RsSmallSumRefIdeal.τ Cert.RsSmallSumRefIdeal.sig) → Buf (Elt Ideal) ℓ) (g' : Dev Cert.RsSmallSumRefIdeal.nD → PrngReg), Pre_RsSmallSumIdeal m →
    (∀ c : Dev Cert.RsSmallSumIdeal.nD,
      m' ((c.tc : Thread Cert.RsSmallSumRefIdeal.nD Cert.RsSmallSumRefIdeal.τ).loc Cert.RsSmallSumRefIdeal.main_arg0) = m ((c.tc : Thread Cert.RsSmallSumIdeal.nD Cert.RsSmallSumIdeal.τ).loc Cert.RsSmallSumIdeal.main_arg0)) →
    ∃ (v0 : (c : Dev Cert.RsSmallSumIdeal.nD) → Buf (Elt Ideal) ((c.tc : Thread Cert.RsSmallSumIdeal.nD Cert.RsSmallSumIdeal.τ).loc Cert.RsSmallSumIdeal.main_v0)),
      θ_run (Cert.RsSmallSumIdeal.defs (F := Ideal)) (onTc (τ := Cert.RsSmallSumIdeal.τ) (Cert.RsSmallSumIdeal.main (F := Ideal))) ⟨m, fun _ => 0, g⟩ (fun r => ∀ c : Dev Cert.RsSmallSumIdeal.nD,
          r.2.mem ((c.tc : Thread Cert.RsSmallSumIdeal.nD Cert.RsSmallSumIdeal.τ).loc Cert.RsSmallSumIdeal.main_v0) = v0 c
          ∧ r.2.mem ((c.tc : Thread Cert.RsSmallSumIdeal.nD Cert.RsSmallSumIdeal.τ).loc Cert.RsSmallSumIdeal.main_arg0) = m ((c.tc : Thread Cert.RsSmallSumIdeal.nD Cert.RsSmallSumIdeal.τ).loc Cert.RsSmallSumIdeal.main_arg0))
      ∧ θ_run (Cert.RsSmallSumRefIdeal.defs (F := Ideal)) (onTc (τ := Cert.RsSmallSumRefIdeal.τ) (Cert.RsSmallSumRefIdeal.main (F := Ideal))) ⟨m', fun _ => 0, g'⟩ (fun r => ∀ c : Dev Cert.RsSmallSumRefIdeal.nD,
          r.2.mem ((c.tc : Thread Cert.RsSmallSumRefIdeal.nD Cert.RsSmallSumRefIdeal.τ).loc Cert.RsSmallSumRefIdeal.main_v1) = v0 c
          ∧ r.2.mem ((c.tc : Thread Cert.RsSmallSumRefIdeal.nD Cert.RsSmallSumRefIdeal.τ).loc Cert.RsSmallSumRefIdeal.main_arg0) = m' ((c.tc : Thread Cert.RsSmallSumRefIdeal.nD Cert.RsSmallSumRefIdeal.τ).loc Cert.RsSmallSumRefIdeal.main_arg0))

def preserves_AdamRep_AdamRepIdeal : Prop :=
  IdealRules.named_const.Statement Cert.AdamRepIdeal.κ "c1" .f32 0x3FC48605#32 ((8388608 / 5463681 : ℝ) : EReal)
  ∧ IdealRules.named_const.Statement Cert.AdamRepIdeal.κ "c2" .f32 0x42C8E6D3#32 ((268435456 / 2672307 : ℝ) : EReal)

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v0) = v0 c
          ∧ r.2.mem ((c.tc : Thread Cert.AdamRepRefIdeal.nD Cert.AdamRepRefIdeal.τ).loc Cert.AdamRepRefIdeal.main_v24) = v1 c
          ∧ r.2.mem ((c.tc : Thread Cert.AdamRepRefIdeal.nD Cert.AdamRepRefIdeal.τ).loc Cert.AdamRepRefIdeal.main_v5) = v2 c
          ∧ r.2.mem ((c.tc : Thread Cert.AdamRepRefIdeal.nD Cert.AdamRepRefIdeal.τ).loc Cert.AdamRepRefIdeal.main_v11) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamWOut_AdamWOutIdeal : Prop :=
  IdealRules.named_const.Statement Cert.AdamWOutIdeal.κ "c1" .f32 0x3FC48605#32 ((8388608 / 5463681 : ℝ) : EReal)
  ∧ IdealRules.named_const.Statement Cert.AdamWOutIdeal.κ "c2" .f32 0x42C8E6D3#32 ((268435456 / 2672307 : ℝ) : EReal)

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v0) = v0 c
          ∧ r.2.mem ((c.tc : Thread Cert.AdamWOutRefIdeal.nD Cert.AdamWOutRefIdeal.τ).loc Cert.AdamWOutRefIdeal.main_v24) = v1 c
          ∧ r.2.mem ((c.tc : Thread Cert.AdamWOutRefIdeal.nD Cert.AdamWOutRefIdeal.τ).loc Cert.AdamWOutRefIdeal.main_v5) = v2 c
          ∧ r.2.mem ((c.tc : Thread Cert.AdamWOutRefIdeal.nD Cert.AdamWOutRefIdeal.τ).loc Cert.AdamWOutRefIdeal.main_v11) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWIn_AdamWInIdeal : Prop :=
  IdealRules.named_const.Statement Cert.AdamWInIdeal.κ "c1" .f32 0x3FC48605#32 ((8388608 / 5463681 : ℝ) : EReal)
  ∧ IdealRules.named_const.Statement Cert.AdamWInIdeal.κ "c2" .f32 0x42C8E6D3#32 ((268435456 / 2672307 : ℝ) : EReal)

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v0) = v0 c
          ∧ r.2.mem ((c.tc : Thread Cert.AdamWInRefIdeal.nD Cert.AdamWInRefIdeal.τ).loc Cert.AdamWInRefIdeal.main_v24) = v1 c
          ∧ r.2.mem ((c.tc : Thread Cert.AdamWInRefIdeal.nD Cert.AdamWInRefIdeal.τ).loc Cert.AdamWInRefIdeal.main_v5) = v2 c
          ∧ r.2.mem ((c.tc : Thread Cert.AdamWInRefIdeal.nD Cert.AdamWInRefIdeal.τ).loc Cert.AdamWInRefIdeal.main_v11) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_RsWInSib_RsWInSibIdeal : Prop :=
  True

def algebraic_RsWInSibIdeal_RsWInSibRefIdeal [hRsWInSibIdeal : Cert.RsWInSibIdeal.Facts] [hRsWInSibRefIdeal : Cert.RsWInSibRefIdeal.Facts] : Prop :=
  ∀ (m : (ℓ : Loc Cert.RsWInSibIdeal.nD Cert.RsWInSibIdeal.τ Cert.RsWInSibIdeal.sig) → Buf (Elt Ideal) ℓ) (g : Dev Cert.RsWInSibIdeal.nD → PrngReg)
    (m' : (ℓ : Loc Cert.RsWInSibRefIdeal.nD Cert.RsWInSibRefIdeal.τ Cert.RsWInSibRefIdeal.sig) → Buf (Elt Ideal) ℓ) (g' : Dev Cert.RsWInSibRefIdeal.nD → PrngReg), Pre_RsWInSibIdeal m →
    (∀ c : Dev Cert.RsWInSibIdeal.nD,
      m ((c.tc : Thread Cert.RsWInSibIdeal.nD Cert.RsWInSibIdeal.τ).loc Cert.RsWInSibIdeal.main_arg0) = Layout.block ⟨2, ![2048, 8448]⟩ ⟨2, ![4096, 8448]⟩ 0 2 c (m' (((0 : Dev Cert.RsWInSibRefIdeal.nD).tc : Thread Cert.RsWInSibRefIdeal.nD Cert.RsWInSibRefIdeal.τ).loc Cert.RsWInSibRefIdeal.main_arg0))) →
    ∃ (v0 : Buf (Elt Ideal) (((0 : Dev Cert.RsWInSibRefIdeal.nD).tc : Thread Cert.RsWInSibRefIdeal.nD Cert.RsWInSibRefIdeal.τ).loc Cert.RsWInSibRefIdeal.main_v7)),
      θ_run (Cert.RsWInSibIdeal.defs (F := Ideal)) (onTc (τ := Cert.RsWInSibIdeal.τ) (Cert.RsWInSibIdeal.main (F := Ideal))) ⟨m, fun _ => 0, g⟩ (fun r => ∀ c : Dev Cert.RsWInSibIdeal.nD,
          r.2.mem ((c.tc : Thread Cert.RsWInSibIdeal.nD Cert.RsWInSibIdeal.τ).loc Cert.RsWInSibIdeal.main_v1) = Layout.block ⟨3, ![1, 1024, 8448]⟩ ⟨3, ![2, 1024, 8448]⟩ 0 2 c v0
          ∧ r.2.mem ((c.tc : Thread Cert.RsWInSibIdeal.nD Cert.RsWInSibIdeal.τ).loc Cert.RsWInSibIdeal.main_arg0) = m ((c.tc : Thread Cert.RsWInSibIdeal.nD Cert.RsWInSibIdeal.τ).loc Cert.RsWInSibIdeal.main_arg0))
      ∧ θ_run (Cert.RsWInSibRefIdeal.defs (F := Ideal)) (onTc (τ := Cert.RsWInSibRefIdeal.τ) (Cert.RsWInSibRefIdeal.main (F := Ideal))) ⟨m', fun _ => 0, g'⟩ (fun r =>
          r.2.mem (((0 : Dev Cert.RsWInSibRefIdeal.nD).tc : Thread Cert.RsWInSibRefIdeal.nD Cert.RsWInSibRefIdeal.τ).loc Cert.RsWInSibRefIdeal.main_v7) = v0
          ∧ r.2.mem (((0 : Dev Cert.RsWInSibRefIdeal.nD).tc : Thread Cert.RsWInSibRefIdeal.nD Cert.RsWInSibRefIdeal.τ).loc Cert.RsWInSibRefIdeal.main_arg0) = m' (((0 : Dev Cert.RsWInSibRefIdeal.nD).tc : Thread Cert.RsWInSibRefIdeal.nD Cert.RsWInSibRefIdeal.τ).loc Cert.RsWInSibRefIdeal.main_arg0))

def preserves_RsWOutSib_RsWOutSibIdeal : Prop :=
  True

def algebraic_RsWOutSibIdeal_RsWOutSibRefIdeal [hRsWOutSibIdeal : Cert.RsWOutSibIdeal.Facts] [hRsWOutSibRefIdeal : Cert.RsWOutSibRefIdeal.Facts] : Prop :=
  ∀ (m : (ℓ : Loc Cert.RsWOutSibIdeal.nD Cert.RsWOutSibIdeal.τ Cert.RsWOutSibIdeal.sig) → Buf (Elt Ideal) ℓ) (g : Dev Cert.RsWOutSibIdeal.nD → PrngReg)
    (m' : (ℓ : Loc Cert.RsWOutSibRefIdeal.nD Cert.RsWOutSibRefIdeal.τ Cert.RsWOutSibRefIdeal.sig) → Buf (Elt Ideal) ℓ) (g' : Dev Cert.RsWOutSibRefIdeal.nD → PrngReg), Pre_RsWOutSibIdeal m →
    (∀ c : Dev Cert.RsWOutSibIdeal.nD,
      m ((c.tc : Thread Cert.RsWOutSibIdeal.nD Cert.RsWOutSibIdeal.τ).loc Cert.RsWOutSibIdeal.main_arg0) = Layout.block ⟨3, ![4, 256, 2048]⟩ ⟨3, ![8, 256, 2048]⟩ 0 2 c (m' (((0 : Dev Cert.RsWOutSibRefIdeal.nD).tc : Thread Cert.RsWOutSibRefIdeal.nD Cert.RsWOutSibRefIdeal.τ).loc Cert.RsWOutSibRefIdeal.main_arg0))) →
    ∃ (v0 : Buf (Elt Ideal) (((0 : Dev Cert.RsWOutSibRefIdeal.nD).tc : Thread Cert.RsWOutSibRefIdeal.nD Cert.RsWOutSibRefIdeal.τ).loc Cert.RsWOutSibRefIdeal.main_v4)),
      θ_run (Cert.RsWOutSibIdeal.defs (F := Ideal)) (onTc (τ := Cert.RsWOutSibIdeal.τ) (Cert.RsWOutSibIdeal.main (F := Ideal))) ⟨m, fun _ => 0, g⟩ (fun r => ∀ c : Dev Cert.RsWOutSibIdeal.nD,
          r.2.mem ((c.tc : Thread Cert.RsWOutSibIdeal.nD Cert.RsWOutSibIdeal.τ).loc Cert.RsWOutSibIdeal.main_v1) = Layout.block ⟨4, ![1, 4, 256, 2048]⟩ ⟨4, ![2, 4, 256, 2048]⟩ 0 2 c v0
          ∧ r.2.mem ((c.tc : Thread Cert.RsWOutSibIdeal.nD Cert.RsWOutSibIdeal.τ).loc Cert.RsWOutSibIdeal.main_arg0) = m ((c.tc : Thread Cert.RsWOutSibIdeal.nD Cert.RsWOutSibIdeal.τ).loc Cert.RsWOutSibIdeal.main_arg0))
      ∧ θ_run (Cert.RsWOutSibRefIdeal.defs (F := Ideal)) (onTc (τ := Cert.RsWOutSibRefIdeal.τ) (Cert.RsWOutSibRefIdeal.main (F := Ideal))) ⟨m', fun _ => 0, g'⟩ (fun r =>
          r.2.mem (((0 : Dev Cert.RsWOutSibRefIdeal.nD).tc : Thread Cert.RsWOutSibRefIdeal.nD Cert.RsWOutSibRefIdeal.τ).loc Cert.RsWOutSibRefIdeal.main_v4) = v0
          ∧ r.2.mem (((0 : Dev Cert.RsWOutSibRefIdeal.nD).tc : Thread Cert.RsWOutSibRefIdeal.nD Cert.RsWOutSibRefIdeal.τ).loc Cert.RsWOutSibRefIdeal.main_arg0) = m' (((0 : Dev Cert.RsWOutSibRefIdeal.nD).tc : Thread Cert.RsWOutSibRefIdeal.nD Cert.RsWOutSibRefIdeal.τ).loc Cert.RsWOutSibRefIdeal.main_arg0))

def preserves_RsWInCores_RsWInCoresIdeal : Prop :=
  True

def algebraic_RsWInCoresIdeal_RsWInCoresRefIdeal [hRsWInCoresIdeal : Cert.RsWInCoresIdeal.Facts] [hRsWInCoresRefIdeal : Cert.RsWInCoresRefIdeal.Facts] : Prop :=
  ∀ (m : (ℓ : Loc Cert.RsWInCoresIdeal.nD Cert.RsWInCoresIdeal.τ Cert.RsWInCoresIdeal.sig) → Buf (Elt Ideal) ℓ) (g : Dev Cert.RsWInCoresIdeal.nD → PrngReg)
    (m' : (ℓ : Loc Cert.RsWInCoresRefIdeal.nD Cert.RsWInCoresRefIdeal.τ Cert.RsWInCoresRefIdeal.sig) → Buf (Elt Ideal) ℓ) (g' : Dev Cert.RsWInCoresRefIdeal.nD → PrngReg), Pre_RsWInCoresIdeal m →
    (∀ c : Dev Cert.RsWInCoresIdeal.nD,
      m ((c.tc : Thread Cert.RsWInCoresIdeal.nD Cert.RsWInCoresIdeal.τ).loc Cert.RsWInCoresIdeal.main_arg0) = Layout.block ⟨2, ![1024, 2084]⟩ ⟨2, ![2048, 2084]⟩ 0 2 c (m' (((0 : Dev Cert.RsWInCoresRefIdeal.nD).tc : Thread Cert.RsWInCoresRefIdeal.nD Cert.RsWInCoresRefIdeal.τ).loc Cert.RsWInCoresRefIdeal.main_arg0))) →
    ∃ (v0 : Buf (Elt Ideal) (((0 : Dev Cert.RsWInCoresRefIdeal.nD).tc : Thread Cert.RsWInCoresRefIdeal.nD Cert.RsWInCoresRefIdeal.τ).loc Cert.RsWInCoresRefIdeal.main_v0)),
      θ_run (Cert.RsWInCoresIdeal.defs (F := Ideal)) (onTc (τ := Cert.RsWInCoresIdeal.τ) (Cert.RsWInCoresIdeal.main (F := Ideal))) ⟨m, fun _ => 0, g⟩ (fun r => ∀ c : Dev Cert.RsWInCoresIdeal.nD,
          r.2.mem ((c.tc : Thread Cert.RsWInCoresIdeal.nD Cert.RsWInCoresIdeal.τ).loc Cert.RsWInCoresIdeal.main_v6) = v0
          ∧ r.2.mem ((c.tc : Thread Cert.RsWInCoresIdeal.nD Cert.RsWInCoresIdeal.τ).loc Cert.RsWInCoresIdeal.main_arg0) = m ((c.tc : Thread Cert.RsWInCoresIdeal.nD Cert.RsWInCoresIdeal.τ).loc Cert.RsWInCoresIdeal.main_arg0))
      ∧ θ_run (Cert.RsWInCoresRefIdeal.defs (F := Ideal)) (onTc (τ := Cert.RsWInCoresRefIdeal.τ) (Cert.RsWInCoresRefIdeal.main (F := Ideal))) ⟨m', fun _ => 0, g'⟩ (fun r =>
          r.2.mem (((0 : Dev Cert.RsWInCoresRefIdeal.nD).tc : Thread Cert.RsWInCoresRefIdeal.nD Cert.RsWInCoresRefIdeal.τ).loc Cert.RsWInCoresRefIdeal.main_v0) = v0
          ∧ r.2.mem (((0 : Dev Cert.RsWInCoresRefIdeal.nD).tc : Thread Cert.RsWInCoresRefIdeal.nD Cert.RsWInCoresRefIdeal.τ).loc Cert.RsWInCoresRefIdeal.main_arg0) = m' (((0 : Dev Cert.RsWInCoresRefIdeal.nD).tc : Thread Cert.RsWInCoresRefIdeal.nD Cert.RsWInCoresRefIdeal.τ).loc Cert.RsWInCoresRefIdeal.main_arg0))

def preserves_RsSmallSib_RsSmallSibIdeal : Prop :=
  True

def algebraic_RsSmallSibIdeal_RsSmallSibRefIdeal [hRsSmallSibIdeal : Cert.RsSmallSibIdeal.Facts] [hRsSmallSibRefIdeal : Cert.RsSmallSibRefIdeal.Facts] : Prop :=
  ∀ (m : (ℓ : Loc Cert.RsSmallSibIdeal.nD Cert.RsSmallSibIdeal.τ Cert.RsSmallSibIdeal.sig) → Buf (Elt Ideal) ℓ) (g : Dev Cert.RsSmallSibIdeal.nD → PrngReg)
    (m' : (ℓ : Loc Cert.RsSmallSibRefIdeal.nD Cert.RsSmallSibRefIdeal.τ Cert.RsSmallSibRefIdeal.sig) → Buf (Elt Ideal) ℓ) (g' : Dev Cert.RsSmallSibRefIdeal.nD → PrngReg), Pre_RsSmallSibIdeal m →
    (∀ c : Dev Cert.RsSmallSibIdeal.nD,
      m ((c.tc : Thread Cert.RsSmallSibIdeal.nD Cert.RsSmallSibIdeal.τ).loc Cert.RsSmallSibIdeal.main_arg0) = Layout.block ⟨3, ![4, 32, 1024]⟩ ⟨3, ![8, 32, 1024]⟩ 0 2 c (m' (((0 : Dev Cert.RsSmallSibRefIdeal.nD).tc : Thread Cert.RsSmallSibRefIdeal.nD Cert.RsSmallSibRefIdeal.τ).loc Cert.RsSmallSibRefIdeal.main_arg0))) →
    ∃ (v0 : Buf (Elt Ideal) (((0 : Dev Cert.RsSmallSibRefIdeal.nD).tc : Thread Cert.RsSmallSibRefIdeal.nD Cert.RsSmallSibRefIdeal.τ).loc Cert.RsSmallSibRefIdeal.main_v4)),
      θ_run (Cert.RsSmallSibIdeal.defs (F := Ideal)) (onTc (τ := Cert.RsSmallSibIdeal.τ) (Cert.RsSmallSibIdeal.main (F := Ideal))) ⟨m, fun _ => 0, g⟩ (fun r => ∀ c : Dev Cert.RsSmallSibIdeal.nD,
          r.2.mem ((c.tc : Thread Cert.RsSmallSibIdeal.nD Cert.RsSmallSibIdeal.τ).loc Cert.RsSmallSibIdeal.main_v1) = Layout.block ⟨4, ![1, 4, 32, 1024]⟩ ⟨4, ![2, 4, 32, 1024]⟩ 0 2 c v0
          ∧ r.2.mem ((c.tc : Thread Cert.RsSmallSibIdeal.nD Cert.RsSmallSibIdeal.τ).loc Cert.RsSmallSibIdeal.main_arg0) = m ((c.tc : Thread Cert.RsSmallSibIdeal.nD Cert.RsSmallSibIdeal.τ).loc Cert.RsSmallSibIdeal.main_arg0))
      ∧ θ_run (Cert.RsSmallSibRefIdeal.defs (F := Ideal)) (onTc (τ := Cert.RsSmallSibRefIdeal.τ) (Cert.RsSmallSibRefIdeal.main (F := Ideal))) ⟨m', fun _ => 0, g'⟩ (fun r =>
          r.2.mem (((0 : Dev Cert.RsSmallSibRefIdeal.nD).tc : Thread Cert.RsSmallSibRefIdeal.nD Cert.RsSmallSibRefIdeal.τ).loc Cert.RsSmallSibRefIdeal.main_v4) = v0
          ∧ r.2.mem (((0 : Dev Cert.RsSmallSibRefIdeal.nD).tc : Thread Cert.RsSmallSibRefIdeal.nD Cert.RsSmallSibRefIdeal.τ).loc Cert.RsSmallSibRefIdeal.main_arg0) = m' (((0 : Dev Cert.RsSmallSibRefIdeal.nD).tc : Thread Cert.RsSmallSibRefIdeal.nD Cert.RsSmallSibRefIdeal.τ).loc Cert.RsSmallSibRefIdeal.main_arg0))

def preserves_RsSmallCores_RsSmallCoresIdeal : Prop :=
  True

def algebraic_RsSmallCoresIdeal_RsSmallCoresRefIdeal [hRsSmallCoresIdeal : Cert.RsSmallCoresIdeal.Facts] [hRsSmallCoresRefIdeal : Cert.RsSmallCoresRefIdeal.Facts] : Prop :=
  ∀ (m : (ℓ : Loc Cert.RsSmallCoresIdeal.nD Cert.RsSmallCoresIdeal.τ Cert.RsSmallCoresIdeal.sig) → Buf (Elt Ideal) ℓ) (g : Dev Cert.RsSmallCoresIdeal.nD → PrngReg)
    (m' : (ℓ : Loc Cert.RsSmallCoresRefIdeal.nD Cert.RsSmallCoresRefIdeal.τ Cert.RsSmallCoresRefIdeal.sig) → Buf (Elt Ideal) ℓ) (g' : Dev Cert.RsSmallCoresRefIdeal.nD → PrngReg), Pre_RsSmallCoresIdeal m →
    (∀ c : Dev Cert.RsSmallCoresIdeal.nD,
      m ((c.tc : Thread Cert.RsSmallCoresIdeal.nD Cert.RsSmallCoresIdeal.τ).loc Cert.RsSmallCoresIdeal.main_arg0) = Layout.block ⟨2, ![32, 1024]⟩ ⟨2, ![64, 1024]⟩ 0 2 c (m' (((0 : Dev Cert.RsSmallCoresRefIdeal.nD).tc : Thread Cert.RsSmallCoresRefIdeal.nD Cert.RsSmallCoresRefIdeal.τ).loc Cert.RsSmallCoresRefIdeal.main_arg0))) →
    ∃ (v0 : Buf (Elt Ideal) (((0 : Dev Cert.RsSmallCoresRefIdeal.nD).tc : Thread Cert.RsSmallCoresRefIdeal.nD Cert.RsSmallCoresRefIdeal.τ).loc Cert.RsSmallCoresRefIdeal.main_v0)),
      θ_run (Cert.RsSmallCoresIdeal.defs (F := Ideal)) (onTc (τ := Cert.RsSmallCoresIdeal.τ) (Cert.RsSmallCoresIdeal.main (F := Ideal))) ⟨m, fun _ => 0, g⟩ (fun r => ∀ c : Dev Cert.RsSmallCoresIdeal.nD,
          r.2.mem ((c.tc : Thread Cert.RsSmallCoresIdeal.nD Cert.RsSmallCoresIdeal.τ).loc Cert.RsSmallCoresIdeal.main_v6) = v0
          ∧ r.2.mem ((c.tc : Thread Cert.RsSmallCoresIdeal.nD Cert.RsSmallCoresIdeal.τ).loc Cert.RsSmallCoresIdeal.main_arg0) = m ((c.tc : Thread Cert.RsSmallCoresIdeal.nD Cert.RsSmallCoresIdeal.τ).loc Cert.RsSmallCoresIdeal.main_arg0))
      ∧ θ_run (Cert.RsSmallCoresRefIdeal.defs (F := Ideal)) (onTc (τ := Cert.RsSmallCoresRefIdeal.τ) (Cert.RsSmallCoresRefIdeal.main (F := Ideal))) ⟨m', fun _ => 0, g'⟩ (fun r =>
          r.2.mem (((0 : Dev Cert.RsSmallCoresRefIdeal.nD).tc : Thread Cert.RsSmallCoresRefIdeal.nD Cert.RsSmallCoresRefIdeal.τ).loc Cert.RsSmallCoresRefIdeal.main_v0) = v0
          ∧ r.2.mem (((0 : Dev Cert.RsSmallCoresRefIdeal.nD).tc : Thread Cert.RsSmallCoresRefIdeal.nD Cert.RsSmallCoresRefIdeal.τ).loc Cert.RsSmallCoresRefIdeal.main_arg0) = m' (((0 : Dev Cert.RsSmallCoresRefIdeal.nD).tc : Thread Cert.RsSmallCoresRefIdeal.nD Cert.RsSmallCoresRefIdeal.τ).loc Cert.RsSmallCoresRefIdeal.main_arg0))

def preserves_RsWOutCores_RsWOutCoresIdeal : Prop :=
  True

def algebraic_RsWOutCoresIdeal_RsWOutCoresRefIdeal [hRsWOutCoresIdeal : Cert.RsWOutCoresIdeal.Facts] [hRsWOutCoresRefIdeal : Cert.RsWOutCoresRefIdeal.Facts] : Prop :=
  ∀ (m : (ℓ : Loc Cert.RsWOutCoresIdeal.nD Cert.RsWOutCoresIdeal.τ Cert.RsWOutCoresIdeal.sig) → Buf (Elt Ideal) ℓ) (g : Dev Cert.RsWOutCoresIdeal.nD → PrngReg)
    (m' : (ℓ : Loc Cert.RsWOutCoresRefIdeal.nD Cert.RsWOutCoresRefIdeal.τ Cert.RsWOutCoresRefIdeal.sig) → Buf (Elt Ideal) ℓ) (g' : Dev Cert.RsWOutCoresRefIdeal.nD → PrngReg), Pre_RsWOutCoresIdeal m →
    (∀ c : Dev Cert.RsWOutCoresIdeal.nD,
      m ((c.tc : Thread Cert.RsWOutCoresIdeal.nD Cert.RsWOutCoresIdeal.τ).loc Cert.RsWOutCoresIdeal.main_arg0) = Layout.block ⟨2, ![256, 2048]⟩ ⟨2, ![512, 2048]⟩ 0 2 c (m' (((0 : Dev Cert.RsWOutCoresRefIdeal.nD).tc : Thread Cert.RsWOutCoresRefIdeal.nD Cert.RsWOutCoresRefIdeal.τ).loc Cert.RsWOutCoresRefIdeal.main_arg0))) →
    ∃ (v0 : Buf (Elt Ideal) (((0 : Dev Cert.RsWOutCoresRefIdeal.nD).tc : Thread Cert.RsWOutCoresRefIdeal.nD Cert.RsWOutCoresRefIdeal.τ).loc Cert.RsWOutCoresRefIdeal.main_v0)),
      θ_run (Cert.RsWOutCoresIdeal.defs (F := Ideal)) (onTc (τ := Cert.RsWOutCoresIdeal.τ) (Cert.RsWOutCoresIdeal.main (F := Ideal))) ⟨m, fun _ => 0, g⟩ (fun r => ∀ c : Dev Cert.RsWOutCoresIdeal.nD,
          r.2.mem ((c.tc : Thread Cert.RsWOutCoresIdeal.nD Cert.RsWOutCoresIdeal.τ).loc Cert.RsWOutCoresIdeal.main_v6) = v0
          ∧ r.2.mem ((c.tc : Thread Cert.RsWOutCoresIdeal.nD Cert.RsWOutCoresIdeal.τ).loc Cert.RsWOutCoresIdeal.main_arg0) = m ((c.tc : Thread Cert.RsWOutCoresIdeal.nD Cert.RsWOutCoresIdeal.τ).loc Cert.RsWOutCoresIdeal.main_arg0))
      ∧ θ_run (Cert.RsWOutCoresRefIdeal.defs (F := Ideal)) (onTc (τ := Cert.RsWOutCoresRefIdeal.τ) (Cert.RsWOutCoresRefIdeal.main (F := Ideal))) ⟨m', fun _ => 0, g'⟩ (fun r =>
          r.2.mem (((0 : Dev Cert.RsWOutCoresRefIdeal.nD).tc : Thread Cert.RsWOutCoresRefIdeal.nD Cert.RsWOutCoresRefIdeal.τ).loc Cert.RsWOutCoresRefIdeal.main_v0) = v0
          ∧ r.2.mem (((0 : Dev Cert.RsWOutCoresRefIdeal.nD).tc : Thread Cert.RsWOutCoresRefIdeal.nD Cert.RsWOutCoresRefIdeal.τ).loc Cert.RsWOutCoresRefIdeal.main_arg0) = m' (((0 : Dev Cert.RsWOutCoresRefIdeal.nD).tc : Thread Cert.RsWOutCoresRefIdeal.nD Cert.RsWOutCoresRefIdeal.τ).loc Cert.RsWOutCoresRefIdeal.main_arg0))

def preserves_GatherWInCores_GatherWInCoresIdeal : Prop :=
  True

def algebraic_GatherWInCoresIdeal_GatherWInCoresRefIdeal [hGatherWInCoresIdeal : Cert.GatherWInCoresIdeal.Facts] [hGatherWInCoresRefIdeal : Cert.GatherWInCoresRefIdeal.Facts] : Prop :=
  ∀ (m : (ℓ : Loc Cert.GatherWInCoresIdeal.nD Cert.GatherWInCoresIdeal.τ Cert.GatherWInCoresIdeal.sig) → Buf (Elt Ideal) ℓ) (g : Dev Cert.GatherWInCoresIdeal.nD → PrngReg)
    (m' : (ℓ : Loc Cert.GatherWInCoresRefIdeal.nD Cert.GatherWInCoresRefIdeal.τ Cert.GatherWInCoresRefIdeal.sig) → Buf (Elt Ideal) ℓ) (g' : Dev Cert.GatherWInCoresRefIdeal.nD → PrngReg), Pre_GatherWInCoresIdeal m →
    (∀ c : Dev Cert.GatherWInCoresIdeal.nD,
      m ((c.tc : Thread Cert.GatherWInCoresIdeal.nD Cert.GatherWInCoresIdeal.τ).loc Cert.GatherWInCoresIdeal.main_arg0) = Layout.block ⟨2, ![1024, 8448]⟩ ⟨2, ![2048, 8448]⟩ 0 2 c (m' (((0 : Dev Cert.GatherWInCoresRefIdeal.nD).tc : Thread Cert.GatherWInCoresRefIdeal.nD Cert.GatherWInCoresRefIdeal.τ).loc Cert.GatherWInCoresRefIdeal.main_arg0))) →
    ∃ (v0 : Buf (Elt Ideal) (((0 : Dev Cert.GatherWInCoresRefIdeal.nD).tc : Thread Cert.GatherWInCoresRefIdeal.nD Cert.GatherWInCoresRefIdeal.τ).loc Cert.GatherWInCoresRefIdeal.main_v0)),
      θ_run (Cert.GatherWInCoresIdeal.defs (F := Ideal)) (onTc (τ := Cert.GatherWInCoresIdeal.τ) (Cert.GatherWInCoresIdeal.main (F := Ideal))) ⟨m, fun _ => 0, g⟩ (fun r => ∀ c : Dev Cert.GatherWInCoresIdeal.nD,
          r.2.mem ((c.tc : Thread Cert.GatherWInCoresIdeal.nD Cert.GatherWInCoresIdeal.τ).loc Cert.GatherWInCoresIdeal.main_v6) = v0
          ∧ r.2.mem ((c.tc : Thread Cert.GatherWInCoresIdeal.nD Cert.GatherWInCoresIdeal.τ).loc Cert.GatherWInCoresIdeal.main_arg0) = m ((c.tc : Thread Cert.GatherWInCoresIdeal.nD Cert.GatherWInCoresIdeal.τ).loc Cert.GatherWInCoresIdeal.main_arg0))
      ∧ θ_run (Cert.GatherWInCoresRefIdeal.defs (F := Ideal)) (onTc (τ := Cert.GatherWInCoresRefIdeal.τ) (Cert.GatherWInCoresRefIdeal.main (F := Ideal))) ⟨m', fun _ => 0, g'⟩ (fun r =>
          r.2.mem (((0 : Dev Cert.GatherWInCoresRefIdeal.nD).tc : Thread Cert.GatherWInCoresRefIdeal.nD Cert.GatherWInCoresRefIdeal.τ).loc Cert.GatherWInCoresRefIdeal.main_v0) = v0
          ∧ r.2.mem (((0 : Dev Cert.GatherWInCoresRefIdeal.nD).tc : Thread Cert.GatherWInCoresRefIdeal.nD Cert.GatherWInCoresRefIdeal.τ).loc Cert.GatherWInCoresRefIdeal.main_arg0) = m' (((0 : Dev Cert.GatherWInCoresRefIdeal.nD).tc : Thread Cert.GatherWInCoresRefIdeal.nD Cert.GatherWInCoresRefIdeal.τ).loc Cert.GatherWInCoresRefIdeal.main_arg0))

def preserves_GatherWOutCores_GatherWOutCoresIdeal : Prop :=
  True

def algebraic_GatherWOutCoresIdeal_GatherWOutCoresRefIdeal [hGatherWOutCoresIdeal : Cert.GatherWOutCoresIdeal.Facts] [hGatherWOutCoresRefIdeal : Cert.GatherWOutCoresRefIdeal.Facts] : Prop :=
  ∀ (m : (ℓ : Loc Cert.GatherWOutCoresIdeal.nD Cert.GatherWOutCoresIdeal.τ Cert.GatherWOutCoresIdeal.sig) → Buf (Elt Ideal) ℓ) (g : Dev Cert.GatherWOutCoresIdeal.nD → PrngReg)
    (m' : (ℓ : Loc Cert.GatherWOutCoresRefIdeal.nD Cert.GatherWOutCoresRefIdeal.τ Cert.GatherWOutCoresRefIdeal.sig) → Buf (Elt Ideal) ℓ) (g' : Dev Cert.GatherWOutCoresRefIdeal.nD → PrngReg), Pre_GatherWOutCoresIdeal m →
    (∀ c : Dev Cert.GatherWOutCoresIdeal.nD,
      m ((c.tc : Thread Cert.GatherWOutCoresIdeal.nD Cert.GatherWOutCoresIdeal.τ).loc Cert.GatherWOutCoresIdeal.main_arg0) = Layout.block ⟨3, ![4, 256, 2048]⟩ ⟨3, ![8, 256, 2048]⟩ 0 2 c (m' (((0 : Dev Cert.GatherWOutCoresRefIdeal.nD).tc : Thread Cert.GatherWOutCoresRefIdeal.nD Cert.GatherWOutCoresRefIdeal.τ).loc Cert.GatherWOutCoresRefIdeal.main_arg0))) →
    ∃ (v0 : Buf (Elt Ideal) (((0 : Dev Cert.GatherWOutCoresRefIdeal.nD).tc : Thread Cert.GatherWOutCoresRefIdeal.nD Cert.GatherWOutCoresRefIdeal.τ).loc Cert.GatherWOutCoresRefIdeal.main_v0)),
      θ_run (Cert.GatherWOutCoresIdeal.defs (F := Ideal)) (onTc (τ := Cert.GatherWOutCoresIdeal.τ) (Cert.GatherWOutCoresIdeal.main (F := Ideal))) ⟨m, fun _ => 0, g⟩ (fun r => ∀ c : Dev Cert.GatherWOutCoresIdeal.nD,
          r.2.mem ((c.tc : Thread Cert.GatherWOutCoresIdeal.nD Cert.GatherWOutCoresIdeal.τ).loc Cert.GatherWOutCoresIdeal.main_v6) = v0
          ∧ r.2.mem ((c.tc : Thread Cert.GatherWOutCoresIdeal.nD Cert.GatherWOutCoresIdeal.τ).loc Cert.GatherWOutCoresIdeal.main_arg0) = m ((c.tc : Thread Cert.GatherWOutCoresIdeal.nD Cert.GatherWOutCoresIdeal.τ).loc Cert.GatherWOutCoresIdeal.main_arg0))
      ∧ θ_run (Cert.GatherWOutCoresRefIdeal.defs (F := Ideal)) (onTc (τ := Cert.GatherWOutCoresRefIdeal.τ) (Cert.GatherWOutCoresRefIdeal.main (F := Ideal))) ⟨m', fun _ => 0, g'⟩ (fun r =>
          r.2.mem (((0 : Dev Cert.GatherWOutCoresRefIdeal.nD).tc : Thread Cert.GatherWOutCoresRefIdeal.nD Cert.GatherWOutCoresRefIdeal.τ).loc Cert.GatherWOutCoresRefIdeal.main_v0) = v0
          ∧ r.2.mem (((0 : Dev Cert.GatherWOutCoresRefIdeal.nD).tc : Thread Cert.GatherWOutCoresRefIdeal.nD Cert.GatherWOutCoresRefIdeal.τ).loc Cert.GatherWOutCoresRefIdeal.main_arg0) = m' (((0 : Dev Cert.GatherWOutCoresRefIdeal.nD).tc : Thread Cert.GatherWOutCoresRefIdeal.nD Cert.GatherWOutCoresRefIdeal.τ).loc Cert.GatherWOutCoresRefIdeal.main_arg0))

def preserves_RsSmallChips_RsSmallChipsIdeal : Prop :=
  True

def algebraic_RsSmallChipsIdeal_RsSmallChipsRefIdeal [hRsSmallChipsIdeal : Cert.RsSmallChipsIdeal.Facts] [hRsSmallChipsRefIdeal : Cert.RsSmallChipsRefIdeal.Facts] : Prop :=
  ∀ (m : (ℓ : Loc Cert.RsSmallChipsIdeal.nD Cert.RsSmallChipsIdeal.τ Cert.RsSmallChipsIdeal.sig) → Buf (Elt Ideal) ℓ) (g : Dev Cert.RsSmallChipsIdeal.nD → PrngReg)
    (m' : (ℓ : Loc Cert.RsSmallChipsRefIdeal.nD Cert.RsSmallChipsRefIdeal.τ Cert.RsSmallChipsRefIdeal.sig) → Buf (Elt Ideal) ℓ) (g' : Dev Cert.RsSmallChipsRefIdeal.nD → PrngReg), Pre_RsSmallChipsIdeal m →
    (∀ c : Dev Cert.RsSmallChipsIdeal.nD,
      m ((c.tc : Thread Cert.RsSmallChipsIdeal.nD Cert.RsSmallChipsIdeal.τ).loc Cert.RsSmallChipsIdeal.main_arg0) = Layout.block ⟨3, ![4, 32, 1024]⟩ ⟨3, ![16, 32, 1024]⟩ 0 4 c (m' (((0 : Dev Cert.RsSmallChipsRefIdeal.nD).tc : Thread Cert.RsSmallChipsRefIdeal.nD Cert.RsSmallChipsRefIdeal.τ).loc Cert.RsSmallChipsRefIdeal.main_arg0))) →
    ∃ (v0 : Buf (Elt Ideal) (((0 : Dev Cert.RsSmallChipsRefIdeal.nD).tc : Thread Cert.RsSmallChipsRefIdeal.nD Cert.RsSmallChipsRefIdeal.τ).loc Cert.RsSmallChipsRefIdeal.main_v2)),
      θ_run (Cert.RsSmallChipsIdeal.defs (F := Ideal)) (onTc (τ := Cert.RsSmallChipsIdeal.τ) (Cert.RsSmallChipsIdeal.main (F := Ideal))) ⟨m, fun _ => 0, g⟩ (fun r => ∀ c : Dev Cert.RsSmallChipsIdeal.nD,
          r.2.mem ((c.tc : Thread Cert.RsSmallChipsIdeal.nD Cert.RsSmallChipsIdeal.τ).loc Cert.RsSmallChipsIdeal.main_v13) = Layout.block ⟨3, ![4, 32, 1024]⟩ ⟨3, ![16, 32, 1024]⟩ 0 4 c v0
          ∧ r.2.mem ((c.tc : Thread Cert.RsSmallChipsIdeal.nD Cert.RsSmallChipsIdeal.τ).loc Cert.RsSmallChipsIdeal.main_arg0) = m ((c.tc : Thread Cert.RsSmallChipsIdeal.nD Cert.RsSmallChipsIdeal.τ).loc Cert.RsSmallChipsIdeal.main_arg0))
      ∧ θ_run (Cert.RsSmallChipsRefIdeal.defs (F := Ideal)) (onTc (τ := Cert.RsSmallChipsRefIdeal.τ) (Cert.RsSmallChipsRefIdeal.main (F := Ideal))) ⟨m', fun _ => 0, g'⟩ (fun r =>
          r.2.mem (((0 : Dev Cert.RsSmallChipsRefIdeal.nD).tc : Thread Cert.RsSmallChipsRefIdeal.nD Cert.RsSmallChipsRefIdeal.τ).loc Cert.RsSmallChipsRefIdeal.main_v2) = v0
          ∧ r.2.mem (((0 : Dev Cert.RsSmallChipsRefIdeal.nD).tc : Thread Cert.RsSmallChipsRefIdeal.nD Cert.RsSmallChipsRefIdeal.τ).loc Cert.RsSmallChipsRefIdeal.main_arg0) = m' (((0 : Dev Cert.RsSmallChipsRefIdeal.nD).tc : Thread Cert.RsSmallChipsRefIdeal.nD Cert.RsSmallChipsRefIdeal.τ).loc Cert.RsSmallChipsRefIdeal.main_arg0))

def preserves_RsWOutChips_RsWOutChipsIdeal : Prop :=
  True

def algebraic_RsWOutChipsIdeal_RsWOutChipsRefIdeal [hRsWOutChipsIdeal : Cert.RsWOutChipsIdeal.Facts] [hRsWOutChipsRefIdeal : Cert.RsWOutChipsRefIdeal.Facts] : Prop :=
  ∀ (m : (ℓ : Loc Cert.RsWOutChipsIdeal.nD Cert.RsWOutChipsIdeal.τ Cert.RsWOutChipsIdeal.sig) → Buf (Elt Ideal) ℓ) (g : Dev Cert.RsWOutChipsIdeal.nD → PrngReg)
    (m' : (ℓ : Loc Cert.RsWOutChipsRefIdeal.nD Cert.RsWOutChipsRefIdeal.τ Cert.RsWOutChipsRefIdeal.sig) → Buf (Elt Ideal) ℓ) (g' : Dev Cert.RsWOutChipsRefIdeal.nD → PrngReg), Pre_RsWOutChipsIdeal m →
    (∀ c : Dev Cert.RsWOutChipsIdeal.nD,
      m ((c.tc : Thread Cert.RsWOutChipsIdeal.nD Cert.RsWOutChipsIdeal.τ).loc Cert.RsWOutChipsIdeal.main_arg0) = Layout.block ⟨3, ![4, 256, 2048]⟩ ⟨3, ![16, 256, 2048]⟩ 0 4 c (m' (((0 : Dev Cert.RsWOutChipsRefIdeal.nD).tc : Thread Cert.RsWOutChipsRefIdeal.nD Cert.RsWOutChipsRefIdeal.τ).loc Cert.RsWOutChipsRefIdeal.main_arg0))) →
    ∃ (v0 : Buf (Elt Ideal) (((0 : Dev Cert.RsWOutChipsRefIdeal.nD).tc : Thread Cert.RsWOutChipsRefIdeal.nD Cert.RsWOutChipsRefIdeal.τ).loc Cert.RsWOutChipsRefIdeal.main_v2)),
      θ_run (Cert.RsWOutChipsIdeal.defs (F := Ideal)) (onTc (τ := Cert.RsWOutChipsIdeal.τ) (Cert.RsWOutChipsIdeal.main (F := Ideal))) ⟨m, fun _ => 0, g⟩ (fun r => ∀ c : Dev Cert.RsWOutChipsIdeal.nD,
          r.2.mem ((c.tc : Thread Cert.RsWOutChipsIdeal.nD Cert.RsWOutChipsIdeal.τ).loc Cert.RsWOutChipsIdeal.main_v13) = Layout.block ⟨3, ![4, 256, 2048]⟩ ⟨3, ![16, 256, 2048]⟩ 0 4 c v0
          ∧ r.2.mem ((c.tc : Thread Cert.RsWOutChipsIdeal.nD Cert.RsWOutChipsIdeal.τ).loc Cert.RsWOutChipsIdeal.main_arg0) = m ((c.tc : Thread Cert.RsWOutChipsIdeal.nD Cert.RsWOutChipsIdeal.τ).loc Cert.RsWOutChipsIdeal.main_arg0))
      ∧ θ_run (Cert.RsWOutChipsRefIdeal.defs (F := Ideal)) (onTc (τ := Cert.RsWOutChipsRefIdeal.τ) (Cert.RsWOutChipsRefIdeal.main (F := Ideal))) ⟨m', fun _ => 0, g'⟩ (fun r =>
          r.2.mem (((0 : Dev Cert.RsWOutChipsRefIdeal.nD).tc : Thread Cert.RsWOutChipsRefIdeal.nD Cert.RsWOutChipsRefIdeal.τ).loc Cert.RsWOutChipsRefIdeal.main_v2) = v0
          ∧ r.2.mem (((0 : Dev Cert.RsWOutChipsRefIdeal.nD).tc : Thread Cert.RsWOutChipsRefIdeal.nD Cert.RsWOutChipsRefIdeal.τ).loc Cert.RsWOutChipsRefIdeal.main_arg0) = m' (((0 : Dev Cert.RsWOutChipsRefIdeal.nD).tc : Thread Cert.RsWOutChipsRefIdeal.nD Cert.RsWOutChipsRefIdeal.τ).loc Cert.RsWOutChipsRefIdeal.main_arg0))

def preserves_RsWInChips_RsWInChipsIdeal : Prop :=
  True

def algebraic_RsWInChipsIdeal_RsWInChipsRefIdeal [hRsWInChipsIdeal : Cert.RsWInChipsIdeal.Facts] [hRsWInChipsRefIdeal : Cert.RsWInChipsRefIdeal.Facts] : Prop :=
  ∀ (m : (ℓ : Loc Cert.RsWInChipsIdeal.nD Cert.RsWInChipsIdeal.τ Cert.RsWInChipsIdeal.sig) → Buf (Elt Ideal) ℓ) (g : Dev Cert.RsWInChipsIdeal.nD → PrngReg)
    (m' : (ℓ : Loc Cert.RsWInChipsRefIdeal.nD Cert.RsWInChipsRefIdeal.τ Cert.RsWInChipsRefIdeal.sig) → Buf (Elt Ideal) ℓ) (g' : Dev Cert.RsWInChipsRefIdeal.nD → PrngReg), Pre_RsWInChipsIdeal m →
    (∀ c : Dev Cert.RsWInChipsIdeal.nD,
      m ((c.tc : Thread Cert.RsWInChipsIdeal.nD Cert.RsWInChipsIdeal.τ).loc Cert.RsWInChipsIdeal.main_arg0) = Layout.block ⟨3, ![4, 1024, 2084]⟩ ⟨3, ![16, 1024, 2084]⟩ 0 4 c (m' (((0 : Dev Cert.RsWInChipsRefIdeal.nD).tc : Thread Cert.RsWInChipsRefIdeal.nD Cert.RsWInChipsRefIdeal.τ).loc Cert.RsWInChipsRefIdeal.main_arg0))) →
    ∃ (v0 : Buf (Elt Ideal) (((0 : Dev Cert.RsWInChipsRefIdeal.nD).tc : Thread Cert.RsWInChipsRefIdeal.nD Cert.RsWInChipsRefIdeal.τ).loc Cert.RsWInChipsRefIdeal.main_v2)),
      θ_run (Cert.RsWInChipsIdeal.defs (F := Ideal)) (onTc (τ := Cert.RsWInChipsIdeal.τ) (Cert.RsWInChipsIdeal.main (F := Ideal))) ⟨m, fun _ => 0, g⟩ (fun r => ∀ c : Dev Cert.RsWInChipsIdeal.nD,
          r.2.mem ((c.tc : Thread Cert.RsWInChipsIdeal.nD Cert.RsWInChipsIdeal.τ).loc Cert.RsWInChipsIdeal.main_v13) = Layout.block ⟨3, ![4, 1024, 2084]⟩ ⟨3, ![16, 1024, 2084]⟩ 0 4 c v0
          ∧ r.2.mem ((c.tc : Thread Cert.RsWInChipsIdeal.nD Cert.RsWInChipsIdeal.τ).loc Cert.RsWInChipsIdeal.main_arg0) = m ((c.tc : Thread Cert.RsWInChipsIdeal.nD Cert.RsWInChipsIdeal.τ).loc Cert.RsWInChipsIdeal.main_arg0))
      ∧ θ_run (Cert.RsWInChipsRefIdeal.defs (F := Ideal)) (onTc (τ := Cert.RsWInChipsRefIdeal.τ) (Cert.RsWInChipsRefIdeal.main (F := Ideal))) ⟨m', fun _ => 0, g'⟩ (fun r =>
          r.2.mem (((0 : Dev Cert.RsWInChipsRefIdeal.nD).tc : Thread Cert.RsWInChipsRefIdeal.nD Cert.RsWInChipsRefIdeal.τ).loc Cert.RsWInChipsRefIdeal.main_v2) = v0
          ∧ r.2.mem (((0 : Dev Cert.RsWInChipsRefIdeal.nD).tc : Thread Cert.RsWInChipsRefIdeal.nD Cert.RsWInChipsRefIdeal.τ).loc Cert.RsWInChipsRefIdeal.main_arg0) = m' (((0 : Dev Cert.RsWInChipsRefIdeal.nD).tc : Thread Cert.RsWInChipsRefIdeal.nD Cert.RsWInChipsRefIdeal.τ).loc Cert.RsWInChipsRefIdeal.main_arg0))

def preserves_GatherWOutChips_GatherWOutChipsIdeal : Prop :=
  True

def algebraic_GatherWOutChipsIdeal_GatherWOutChipsRefIdeal [hGatherWOutChipsIdeal : Cert.GatherWOutChipsIdeal.Facts] [hGatherWOutChipsRefIdeal : Cert.GatherWOutChipsRefIdeal.Facts] : Prop :=
  ∀ (m : (ℓ : Loc Cert.GatherWOutChipsIdeal.nD Cert.GatherWOutChipsIdeal.τ Cert.GatherWOutChipsIdeal.sig) → Buf (Elt Ideal) ℓ) (g : Dev Cert.GatherWOutChipsIdeal.nD → PrngReg)
    (m' : (ℓ : Loc Cert.GatherWOutChipsRefIdeal.nD Cert.GatherWOutChipsRefIdeal.τ Cert.GatherWOutChipsRefIdeal.sig) → Buf (Elt Ideal) ℓ) (g' : Dev Cert.GatherWOutChipsRefIdeal.nD → PrngReg), Pre_GatherWOutChipsIdeal m →
    (∀ c : Dev Cert.GatherWOutChipsIdeal.nD,
      m ((c.tc : Thread Cert.GatherWOutChipsIdeal.nD Cert.GatherWOutChipsIdeal.τ).loc Cert.GatherWOutChipsIdeal.main_arg0) = Layout.block ⟨2, ![256, 2048]⟩ ⟨2, ![1024, 2048]⟩ 0 4 c (m' (((0 : Dev Cert.GatherWOutChipsRefIdeal.nD).tc : Thread Cert.GatherWOutChipsRefIdeal.nD Cert.GatherWOutChipsRefIdeal.τ).loc Cert.GatherWOutChipsRefIdeal.main_arg0))) →
    ∃ (v0 : Buf (Elt Ideal) (((0 : Dev Cert.GatherWOutChipsRefIdeal.nD).tc : Thread Cert.GatherWOutChipsRefIdeal.nD Cert.GatherWOutChipsRefIdeal.τ).loc Cert.GatherWOutChipsRefIdeal.main_v0)),
      θ_run (Cert.GatherWOutChipsIdeal.defs (F := Ideal)) (onTc (τ := Cert.GatherWOutChipsIdeal.τ) (Cert.GatherWOutChipsIdeal.main (F := Ideal))) ⟨m, fun _ => 0, g⟩ (fun r => ∀ c : Dev Cert.GatherWOutChipsIdeal.nD,
          r.2.mem ((c.tc : Thread Cert.GatherWOutChipsIdeal.nD Cert.GatherWOutChipsIdeal.τ).loc Cert.GatherWOutChipsIdeal.main_v12) = v0
          ∧ r.2.mem ((c.tc : Thread Cert.GatherWOutChipsIdeal.nD Cert.GatherWOutChipsIdeal.τ).loc Cert.GatherWOutChipsIdeal.main_arg0) = m ((c.tc : Thread Cert.GatherWOutChipsIdeal.nD Cert.GatherWOutChipsIdeal.τ).loc Cert.GatherWOutChipsIdeal.main_arg0))
      ∧ θ_run (Cert.GatherWOutChipsRefIdeal.defs (F := Ideal)) (onTc (τ := Cert.GatherWOutChipsRefIdeal.τ) (Cert.GatherWOutChipsRefIdeal.main (F := Ideal))) ⟨m', fun _ => 0, g'⟩ (fun r =>
          r.2.mem (((0 : Dev Cert.GatherWOutChipsRefIdeal.nD).tc : Thread Cert.GatherWOutChipsRefIdeal.nD Cert.GatherWOutChipsRefIdeal.τ).loc Cert.GatherWOutChipsRefIdeal.main_v0) = v0
          ∧ r.2.mem (((0 : Dev Cert.GatherWOutChipsRefIdeal.nD).tc : Thread Cert.GatherWOutChipsRefIdeal.nD Cert.GatherWOutChipsRefIdeal.τ).loc Cert.GatherWOutChipsRefIdeal.main_arg0) = m' (((0 : Dev Cert.GatherWOutChipsRefIdeal.nD).tc : Thread Cert.GatherWOutChipsRefIdeal.nD Cert.GatherWOutChipsRefIdeal.τ).loc Cert.GatherWOutChipsRefIdeal.main_arg0))

def preserves_GatherWInChips_GatherWInChipsIdeal : Prop :=
  True

def algebraic_GatherWInChipsIdeal_GatherWInChipsRefIdeal [hGatherWInChipsIdeal : Cert.GatherWInChipsIdeal.Facts] [hGatherWInChipsRefIdeal : Cert.GatherWInChipsRefIdeal.Facts] : Prop :=
  ∀ (m : (ℓ : Loc Cert.GatherWInChipsIdeal.nD Cert.GatherWInChipsIdeal.τ Cert.GatherWInChipsIdeal.sig) → Buf (Elt Ideal) ℓ) (g : Dev Cert.GatherWInChipsIdeal.nD → PrngReg)
    (m' : (ℓ : Loc Cert.GatherWInChipsRefIdeal.nD Cert.GatherWInChipsRefIdeal.τ Cert.GatherWInChipsRefIdeal.sig) → Buf (Elt Ideal) ℓ) (g' : Dev Cert.GatherWInChipsRefIdeal.nD → PrngReg), Pre_GatherWInChipsIdeal m →
    (∀ c : Dev Cert.GatherWInChipsIdeal.nD,
      m ((c.tc : Thread Cert.GatherWInChipsIdeal.nD Cert.GatherWInChipsIdeal.τ).loc Cert.GatherWInChipsIdeal.main_arg0) = Layout.block ⟨2, ![1024, 2084]⟩ ⟨2, ![4096, 2084]⟩ 0 4 c (m' (((0 : Dev Cert.GatherWInChipsRefIdeal.nD).tc : Thread Cert.GatherWInChipsRefIdeal.nD Cert.GatherWInChipsRefIdeal.τ).loc Cert.GatherWInChipsRefIdeal.main_arg0))) →
    ∃ (v0 : Buf (Elt Ideal) (((0 : Dev Cert.GatherWInChipsRefIdeal.nD).tc : Thread Cert.GatherWInChipsRefIdeal.nD Cert.GatherWInChipsRefIdeal.τ).loc Cert.GatherWInChipsRefIdeal.main_v0)),
      θ_run (Cert.GatherWInChipsIdeal.defs (F := Ideal)) (onTc (τ := Cert.GatherWInChipsIdeal.τ) (Cert.GatherWInChipsIdeal.main (F := Ideal))) ⟨m, fun _ => 0, g⟩ (fun r => ∀ c : Dev Cert.GatherWInChipsIdeal.nD,
          r.2.mem ((c.tc : Thread Cert.GatherWInChipsIdeal.nD Cert.GatherWInChipsIdeal.τ).loc Cert.GatherWInChipsIdeal.main_v12) = v0
          ∧ r.2.mem ((c.tc : Thread Cert.GatherWInChipsIdeal.nD Cert.GatherWInChipsIdeal.τ).loc Cert.GatherWInChipsIdeal.main_arg0) = m ((c.tc : Thread Cert.GatherWInChipsIdeal.nD Cert.GatherWInChipsIdeal.τ).loc Cert.GatherWInChipsIdeal.main_arg0))
      ∧ θ_run (Cert.GatherWInChipsRefIdeal.defs (F := Ideal)) (onTc (τ := Cert.GatherWInChipsRefIdeal.τ) (Cert.GatherWInChipsRefIdeal.main (F := Ideal))) ⟨m', fun _ => 0, g'⟩ (fun r =>
          r.2.mem (((0 : Dev Cert.GatherWInChipsRefIdeal.nD).tc : Thread Cert.GatherWInChipsRefIdeal.nD Cert.GatherWInChipsRefIdeal.τ).loc Cert.GatherWInChipsRefIdeal.main_v0) = v0
          ∧ r.2.mem (((0 : Dev Cert.GatherWInChipsRefIdeal.nD).tc : Thread Cert.GatherWInChipsRefIdeal.nD Cert.GatherWInChipsRefIdeal.τ).loc Cert.GatherWInChipsRefIdeal.main_arg0) = m' (((0 : Dev Cert.GatherWInChipsRefIdeal.nD).tc : Thread Cert.GatherWInChipsRefIdeal.nD Cert.GatherWInChipsRefIdeal.τ).loc Cert.GatherWInChipsRefIdeal.main_arg0))

def preserves_GatherSmall_GatherSmallIdeal : Prop :=
  True

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![48, 1024]⟩ ⟨2, ![192, 1024]⟩ 0 4 c (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def preserves_GatherRep_GatherRepIdeal : Prop :=
  True

def algebraic_GatherRepIdeal_GatherRepRefIdeal [hGatherRepIdeal : Cert.GatherRepIdeal.Facts] [hGatherRepRefIdeal : Cert.GatherRepRefIdeal.Facts] : Prop :=
  ∀ (m : (ℓ : Loc Cert.GatherRepIdeal.nD Cert.GatherRepIdeal.τ Cert.GatherRepIdeal.sig) → Buf (Elt Ideal) ℓ) (g : Dev Cert.GatherRepIdeal.nD → PrngReg)
    (m' : (ℓ : Loc Cert.GatherRepRefIdeal.nD Cert.GatherRepRefIdeal.τ Cert.GatherRepRefIdeal.sig) → Buf (Elt Ideal) ℓ) (g' : Dev Cert.GatherRepRefIdeal.nD → PrngReg), Pre_GatherRepIdeal m →
    (∀ c : Dev Cert.GatherRepIdeal.nD,
      m ((c.tc : Thread Cert.GatherRepIdeal.nD Cert.GatherRepIdeal.τ).loc Cert.GatherRepIdeal.main_arg0) = Layout.block ⟨2, ![120, 128]⟩ ⟨2, ![960, 128]⟩ 0 8 c (m' (((0 : Dev Cert.GatherRepRefIdeal.nD).tc : Thread Cert.GatherRepRefIdeal.nD Cert.GatherRepRefIdeal.τ).loc Cert.GatherRepRefIdeal.main_arg0))) →
    ∃ (v0 : Buf (Elt Ideal) (((0 : Dev Cert.GatherRepRefIdeal.nD).tc : Thread Cert.GatherRepRefIdeal.nD Cert.GatherRepRefIdeal.τ).loc Cert.GatherRepRefIdeal.main_v0)),
      θ_run (Cert.GatherRepIdeal.defs (F := Ideal)) (onTc (τ := Cert.GatherRepIdeal.τ) (Cert.GatherRepIdeal.main (F := Ideal))) ⟨m, fun _ => 0, g⟩ (fun r => ∀ c : Dev Cert.GatherRepIdeal.nD,
          r.2.mem ((c.tc : Thread Cert.GatherRepIdeal.nD Cert.GatherRepIdeal.τ).loc Cert.GatherRepIdeal.main_v1) = v0
          ∧ r.2.mem ((c.tc : Thread Cert.GatherRepIdeal.nD Cert.GatherRepIdeal.τ).loc Cert.GatherRepIdeal.main_arg0) = m ((c.tc : Thread Cert.GatherRepIdeal.nD Cert.GatherRepIdeal.τ).loc Cert.GatherRepIdeal.main_arg0))
      ∧ θ_run (Cert.GatherRepRefIdeal.defs (F := Ideal)) (onTc (τ := Cert.GatherRepRefIdeal.τ) (Cert.GatherRepRefIdeal.main (F := Ideal))) ⟨m', fun _ => 0, g'⟩ (fun r =>
          r.2.mem (((0 : Dev Cert.GatherRepRefIdeal.nD).tc : Thread Cert.GatherRepRefIdeal.nD Cert.GatherRepRefIdeal.τ).loc Cert.GatherRepRefIdeal.main_v0) = v0
          ∧ r.2.mem (((0 : Dev Cert.GatherRepRefIdeal.nD).tc : Thread Cert.GatherRepRefIdeal.nD Cert.GatherRepRefIdeal.τ).loc Cert.GatherRepRefIdeal.main_arg0) = m' (((0 : Dev Cert.GatherRepRefIdeal.nD).tc : Thread Cert.GatherRepRefIdeal.nD Cert.GatherRepRefIdeal.τ).loc Cert.GatherRepRefIdeal.main_arg0))

def preserves_RsWInAdd_RsWInAddIdeal : Prop :=
  True

def algebraic_RsWInAddIdeal_RsWInAddRefIdeal [hRsWInAddIdeal : Cert.RsWInAddIdeal.Facts] [hRsWInAddRefIdeal : Cert.RsWInAddRefIdeal.Facts] [hPre_a_core : Cert.Pre_a_core.Facts] : Prop :=
  ∀ (m : (ℓ : Loc Cert.RsWInAddIdeal.nD Cert.RsWInAddIdeal.τ Cert.RsWInAddIdeal.sig) → Buf (Elt Ideal) ℓ) (g : Dev Cert.RsWInAddIdeal.nD → PrngReg)
    (m' : (ℓ : Loc Cert.RsWInAddRefIdeal.nD Cert.RsWInAddRefIdeal.τ Cert.RsWInAddRefIdeal.sig) → Buf (Elt Ideal) ℓ) (g' : Dev Cert.RsWInAddRefIdeal.nD → PrngReg), Pre_RsWInAddIdeal m →
    (∀ c : Dev Cert.RsWInAddIdeal.nD,
      m' ((c.tc : Thread Cert.RsWInAddRefIdeal.nD Cert.RsWInAddRefIdeal.τ).loc Cert.RsWInAddRefIdeal.main_arg0) = m ((c.tc : Thread Cert.RsWInAddIdeal.nD Cert.RsWInAddIdeal.τ).loc Cert.RsWInAddIdeal.main_arg0)
      ∧ m' ((c.tc : Thread Cert.RsWInAddRefIdeal.nD Cert.RsWInAddRefIdeal.τ).loc Cert.RsWInAddRefIdeal.main_arg1) = m ((c.tc : Thread Cert.RsWInAddIdeal.nD Cert.RsWInAddIdeal.τ).loc Cert.RsWInAddIdeal.main_arg1)
      ∧ m' ((c.tc : Thread Cert.RsWInAddRefIdeal.nD Cert.RsWInAddRefIdeal.τ).loc Cert.RsWInAddRefIdeal.main_arg2) = m ((c.tc : Thread Cert.RsWInAddIdeal.nD Cert.RsWInAddIdeal.τ).loc Cert.RsWInAddIdeal.main_arg2)) →
    ∃ (v0 : (c : Dev Cert.RsWInAddIdeal.nD) → Buf (Elt Ideal) ((c.tc : Thread Cert.RsWInAddIdeal.nD Cert.RsWInAddIdeal.τ).loc Cert.RsWInAddIdeal.main_v1)),
      θ_run (Cert.RsWInAddIdeal.defs (F := Ideal)) (onTc (τ := Cert.RsWInAddIdeal.τ) (Cert.RsWInAddIdeal.main (F := Ideal))) ⟨m, fun _ => 0, g⟩ (fun r => ∀ c : Dev Cert.RsWInAddIdeal.nD,
          r.2.mem ((c.tc : Thread Cert.RsWInAddIdeal.nD Cert.RsWInAddIdeal.τ).loc Cert.RsWInAddIdeal.main_v1) = v0 c
          ∧ r.2.mem ((c.tc : Thread Cert.RsWInAddIdeal.nD Cert.RsWInAddIdeal.τ).loc Cert.RsWInAddIdeal.main_arg0) = m ((c.tc : Thread Cert.RsWInAddIdeal.nD Cert.RsWInAddIdeal.τ).loc Cert.RsWInAddIdeal.main_arg0)
          ∧ r.2.mem ((c.tc : Thread Cert.RsWInAddIdeal.nD Cert.RsWInAddIdeal.τ).loc Cert.RsWInAddIdeal.main_arg1) = m ((c.tc : Thread Cert.RsWInAddIdeal.nD Cert.RsWInAddIdeal.τ).loc Cert.RsWInAddIdeal.main_arg1)
          ∧ r.2.mem ((c.tc : Thread Cert.RsWInAddIdeal.nD Cert.RsWInAddIdeal.τ).loc Cert.RsWInAddIdeal.main_arg2) = m ((c.tc : Thread Cert.RsWInAddIdeal.nD Cert.RsWInAddIdeal.τ).loc Cert.RsWInAddIdeal.main_arg2))
      ∧ θ_run (Cert.RsWInAddRefIdeal.defs (F := Ideal)) (onTc (τ := Cert.RsWInAddRefIdeal.τ) (Cert.RsWInAddRefIdeal.main (F := Ideal))) ⟨m', fun _ => 0, g'⟩ (fun r => ∀ c : Dev Cert.RsWInAddRefIdeal.nD,
          r.2.mem ((c.tc : Thread Cert.RsWInAddRefIdeal.nD Cert.RsWInAddRefIdeal.τ).loc Cert.RsWInAddRefIdeal.main_v10) = v0 c
          ∧ r.2.mem ((c.tc : Thread Cert.RsWInAddRefIdeal.nD Cert.RsWInAddRefIdeal.τ).loc Cert.RsWInAddRefIdeal.main_arg0) = m' ((c.tc : Thread Cert.RsWInAddRefIdeal.nD Cert.RsWInAddRefIdeal.τ).loc Cert.RsWInAddRefIdeal.main_arg0)
          ∧ r.2.mem ((c.tc : Thread Cert.RsWInAddRefIdeal.nD Cert.RsWInAddRefIdeal.τ).loc Cert.RsWInAddRefIdeal.main_arg1) = m' ((c.tc : Thread Cert.RsWInAddRefIdeal.nD Cert.RsWInAddRefIdeal.τ).loc Cert.RsWInAddRefIdeal.main_arg1)
          ∧ r.2.mem ((c.tc : Thread Cert.RsWInAddRefIdeal.nD Cert.RsWInAddRefIdeal.τ).loc Cert.RsWInAddRefIdeal.main_arg2) = m' ((c.tc : Thread Cert.RsWInAddRefIdeal.nD Cert.RsWInAddRefIdeal.τ).loc Cert.RsWInAddRefIdeal.main_arg2))

def Claim : Prop :=
  ∃ (hDInProj : Cert.DInProj.Facts) (hDInProjIdeal : Cert.DInProjIdeal.Facts) (hDInProjRefIdeal : Cert.DInProjRefIdeal.Facts) (hDWIn : Cert.DWIn.Facts) (hDWInIdeal : Cert.DWInIdeal.Facts) (hDWInRefIdeal : Cert.DWInRefIdeal.Facts) (hDOutProj : Cert.DOutProj.Facts) (hDOutProjIdeal : Cert.DOutProjIdeal.Facts) (hDOutProjRefIdeal : Cert.DOutProjRefIdeal.Facts) (hDWOut : Cert.DWOut.Facts) (hDWOutIdeal : Cert.DWOutIdeal.Facts) (hDWOutRefIdeal : Cert.DWOutRefIdeal.Facts) (hInProj : Cert.InProj.Facts) (hInProjIdeal : Cert.InProjIdeal.Facts) (hInProjRefIdeal : Cert.InProjRefIdeal.Facts) (hRmsIn : Cert.RmsIn.Facts) (hRmsInIdeal : Cert.RmsInIdeal.Facts) (hRmsInRefIdeal : Cert.RmsInRefIdeal.Facts) (hRmsBwd : Cert.RmsBwd.Facts) (hRmsBwdIdeal : Cert.RmsBwdIdeal.Facts) (hRmsBwdRefIdeal : Cert.RmsBwdRefIdeal.Facts) (hMetaBwd : Cert.MetaBwd.Facts) (hMetaBwdIdeal : Cert.MetaBwdIdeal.Facts) (hMetaBwdRefIdeal : Cert.MetaBwdRefIdeal.Facts) (hLossHead : Cert.LossHead.Facts) (hLossHeadIdeal : Cert.LossHeadIdeal.Facts) (hLossHeadRefIdeal : Cert.LossHeadRefIdeal.Facts) (hRsWOutAdd : Cert.RsWOutAdd.Facts) (hRsWOutAddIdeal : Cert.RsWOutAddIdeal.Facts) (hRsWOutAddRefIdeal : Cert.RsWOutAddRefIdeal.Facts) (hRsSmallAdd : Cert.RsSmallAdd.Facts) (hRsSmallAddIdeal : Cert.RsSmallAddIdeal.Facts) (hRsSmallAddRefIdeal : Cert.RsSmallAddRefIdeal.Facts) (hRsWInSum : Cert.RsWInSum.Facts) (hRsWInSumIdeal : Cert.RsWInSumIdeal.Facts) (hRsWInSumRefIdeal : Cert.RsWInSumRefIdeal.Facts) (hRsWOutSum : Cert.RsWOutSum.Facts) (hRsWOutSumIdeal : Cert.RsWOutSumIdeal.Facts) (hRsWOutSumRefIdeal : Cert.RsWOutSumRefIdeal.Facts) (hRsSmallSum : Cert.RsSmallSum.Facts) (hRsSmallSumIdeal : Cert.RsSmallSumIdeal.Facts) (hRsSmallSumRefIdeal : Cert.RsSmallSumRefIdeal.Facts) (hAdamRep : Cert.AdamRep.Facts) (hAdamRepIdeal : Cert.AdamRepIdeal.Facts) (hAdamRepRefIdeal : Cert.AdamRepRefIdeal.Facts) (hAdamSmall : Cert.AdamSmall.Facts) (hAdamSmallIdeal : Cert.AdamSmallIdeal.Facts) (hAdamSmallRefIdeal : Cert.AdamSmallRefIdeal.Facts) (hAdamWOut : Cert.AdamWOut.Facts) (hAdamWOutIdeal : Cert.AdamWOutIdeal.Facts) (hAdamWOutRefIdeal : Cert.AdamWOutRefIdeal.Facts) (hAdamWIn : Cert.AdamWIn.Facts) (hAdamWInIdeal : Cert.AdamWInIdeal.Facts) (hAdamWInRefIdeal : Cert.AdamWInRefIdeal.Facts) (hRsWInSib : Cert.RsWInSib.Facts) (hRsWInSibIdeal : Cert.RsWInSibIdeal.Facts) (hRsWInSibRefIdeal : Cert.RsWInSibRefIdeal.Facts) (hRsWOutSib : Cert.RsWOutSib.Facts) (hRsWOutSibIdeal : Cert.RsWOutSibIdeal.Facts) (hRsWOutSibRefIdeal : Cert.RsWOutSibRefIdeal.Facts) (hRsWInCores : Cert.RsWInCores.Facts) (hRsWInCoresIdeal : Cert.RsWInCoresIdeal.Facts) (hRsWInCoresRefIdeal : Cert.RsWInCoresRefIdeal.Facts) (hRsSmallSib : Cert.RsSmallSib.Facts) (hRsSmallSibIdeal : Cert.RsSmallSibIdeal.Facts) (hRsSmallSibRefIdeal : Cert.RsSmallSibRefIdeal.Facts) (hRsSmallCores : Cert.RsSmallCores.Facts) (hRsSmallCoresIdeal : Cert.RsSmallCoresIdeal.Facts) (hRsSmallCoresRefIdeal : Cert.RsSmallCoresRefIdeal.Facts) (hRsWOutCores : Cert.RsWOutCores.Facts) (hRsWOutCoresIdeal : Cert.RsWOutCoresIdeal.Facts) (hRsWOutCoresRefIdeal : Cert.RsWOutCoresRefIdeal.Facts) (hGatherWInCores : Cert.GatherWInCores.Facts) (hGatherWInCoresIdeal : Cert.GatherWInCoresIdeal.Facts) (hGatherWInCoresRefIdeal : Cert.GatherWInCoresRefIdeal.Facts) (hGatherWOutCores : Cert.GatherWOutCores.Facts) (hGatherWOutCoresIdeal : Cert.GatherWOutCoresIdeal.Facts) (hGatherWOutCoresRefIdeal : Cert.GatherWOutCoresRefIdeal.Facts) (hRsSmallChips : Cert.RsSmallChips.Facts) (hRsSmallChipsIdeal : Cert.RsSmallChipsIdeal.Facts) (hRsSmallChipsRefIdeal : Cert.RsSmallChipsRefIdeal.Facts) (hRsWOutChips : Cert.RsWOutChips.Facts) (hRsWOutChipsIdeal : Cert.RsWOutChipsIdeal.Facts) (hRsWOutChipsRefIdeal : Cert.RsWOutChipsRefIdeal.Facts) (hRsWInChips : Cert.RsWInChips.Facts) (hRsWInChipsIdeal : Cert.RsWInChipsIdeal.Facts) (hRsWInChipsRefIdeal : Cert.RsWInChipsRefIdeal.Facts) (hGatherWOutChips : Cert.GatherWOutChips.Facts) (hGatherWOutChipsIdeal : Cert.GatherWOutChipsIdeal.Facts) (hGatherWOutChipsRefIdeal : Cert.GatherWOutChipsRefIdeal.Facts) (hGatherWInChips : Cert.GatherWInChips.Facts) (hGatherWInChipsIdeal : Cert.GatherWInChipsIdeal.Facts) (hGatherWInChipsRefIdeal : Cert.GatherWInChipsRefIdeal.Facts) (hGatherSmall : Cert.GatherSmall.Facts) (hGatherSmallIdeal : Cert.GatherSmallIdeal.Facts) (hGatherSmallRefIdeal : Cert.GatherSmallRefIdeal.Facts) (hGatherRep : Cert.GatherRep.Facts) (hGatherRepIdeal : Cert.GatherRepIdeal.Facts) (hGatherRepRefIdeal : Cert.GatherRepRefIdeal.Facts) (hRsWInAdd : Cert.RsWInAdd.Facts) (hRsWInAddIdeal : Cert.RsWInAddIdeal.Facts) (hRsWInAddRefIdeal : Cert.RsWInAddRefIdeal.Facts) (hPre_a_core : Cert.Pre_a_core.Facts),
    quiescent_DInProj (hDInProj := hDInProj)
    ∧ quiescent_DInProjIdeal (hDInProjIdeal := hDInProjIdeal)
    ∧ quiescent_DInProjRefIdeal (hDInProjRefIdeal := hDInProjRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_DOutProj (hDOutProj := hDOutProj)
    ∧ quiescent_DOutProjIdeal (hDOutProjIdeal := hDOutProjIdeal)
    ∧ quiescent_DOutProjRefIdeal (hDOutProjRefIdeal := hDOutProjRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_RmsIn (hRmsIn := hRmsIn)
    ∧ quiescent_RmsInIdeal (hRmsInIdeal := hRmsInIdeal)
    ∧ quiescent_RmsInRefIdeal (hRmsInRefIdeal := hRmsInRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_MetaBwd (hMetaBwd := hMetaBwd)
    ∧ quiescent_MetaBwdIdeal (hMetaBwdIdeal := hMetaBwdIdeal)
    ∧ quiescent_MetaBwdRefIdeal (hMetaBwdRefIdeal := hMetaBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_RsWOutAdd (hRsWOutAdd := hRsWOutAdd)
    ∧ quiescent_RsWOutAddIdeal (hRsWOutAddIdeal := hRsWOutAddIdeal)
    ∧ quiescent_RsWOutAddRefIdeal (hRsWOutAddRefIdeal := hRsWOutAddRefIdeal)
    ∧ quiescent_RsSmallAdd (hRsSmallAdd := hRsSmallAdd)
    ∧ quiescent_RsSmallAddIdeal (hRsSmallAddIdeal := hRsSmallAddIdeal)
    ∧ quiescent_RsSmallAddRefIdeal (hRsSmallAddRefIdeal := hRsSmallAddRefIdeal)
    ∧ quiescent_RsWInSum (hRsWInSum := hRsWInSum)
    ∧ quiescent_RsWInSumIdeal (hRsWInSumIdeal := hRsWInSumIdeal)
    ∧ quiescent_RsWInSumRefIdeal (hRsWInSumRefIdeal := hRsWInSumRefIdeal)
    ∧ quiescent_RsWOutSum (hRsWOutSum := hRsWOutSum)
    ∧ quiescent_RsWOutSumIdeal (hRsWOutSumIdeal := hRsWOutSumIdeal)
    ∧ quiescent_RsWOutSumRefIdeal (hRsWOutSumRefIdeal := hRsWOutSumRefIdeal)
    ∧ quiescent_RsSmallSum (hRsSmallSum := hRsSmallSum)
    ∧ quiescent_RsSmallSumIdeal (hRsSmallSumIdeal := hRsSmallSumIdeal)
    ∧ quiescent_RsSmallSumRefIdeal (hRsSmallSumRefIdeal := hRsSmallSumRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_RsWInSib (hRsWInSib := hRsWInSib)
    ∧ quiescent_RsWInSibIdeal (hRsWInSibIdeal := hRsWInSibIdeal)
    ∧ quiescent_RsWInSibRefIdeal (hRsWInSibRefIdeal := hRsWInSibRefIdeal)
    ∧ quiescent_RsWOutSib (hRsWOutSib := hRsWOutSib)
    ∧ quiescent_RsWOutSibIdeal (hRsWOutSibIdeal := hRsWOutSibIdeal)
    ∧ quiescent_RsWOutSibRefIdeal (hRsWOutSibRefIdeal := hRsWOutSibRefIdeal)
    ∧ quiescent_RsWInCores (hRsWInCores := hRsWInCores)
    ∧ quiescent_RsWInCoresIdeal (hRsWInCoresIdeal := hRsWInCoresIdeal)
    ∧ quiescent_RsWInCoresRefIdeal (hRsWInCoresRefIdeal := hRsWInCoresRefIdeal)
    ∧ quiescent_RsSmallSib (hRsSmallSib := hRsSmallSib)
    ∧ quiescent_RsSmallSibIdeal (hRsSmallSibIdeal := hRsSmallSibIdeal)
    ∧ quiescent_RsSmallSibRefIdeal (hRsSmallSibRefIdeal := hRsSmallSibRefIdeal)
    ∧ quiescent_RsSmallCores (hRsSmallCores := hRsSmallCores)
    ∧ quiescent_RsSmallCoresIdeal (hRsSmallCoresIdeal := hRsSmallCoresIdeal)
    ∧ quiescent_RsSmallCoresRefIdeal (hRsSmallCoresRefIdeal := hRsSmallCoresRefIdeal)
    ∧ quiescent_RsWOutCores (hRsWOutCores := hRsWOutCores)
    ∧ quiescent_RsWOutCoresIdeal (hRsWOutCoresIdeal := hRsWOutCoresIdeal)
    ∧ quiescent_RsWOutCoresRefIdeal (hRsWOutCoresRefIdeal := hRsWOutCoresRefIdeal)
    ∧ quiescent_GatherWInCores (hGatherWInCores := hGatherWInCores)
    ∧ quiescent_GatherWInCoresIdeal (hGatherWInCoresIdeal := hGatherWInCoresIdeal)
    ∧ quiescent_GatherWInCoresRefIdeal (hGatherWInCoresRefIdeal := hGatherWInCoresRefIdeal)
    ∧ quiescent_GatherWOutCores (hGatherWOutCores := hGatherWOutCores)
    ∧ quiescent_GatherWOutCoresIdeal (hGatherWOutCoresIdeal := hGatherWOutCoresIdeal)
    ∧ quiescent_GatherWOutCoresRefIdeal (hGatherWOutCoresRefIdeal := hGatherWOutCoresRefIdeal)
    ∧ quiescent_RsSmallChips (hRsSmallChips := hRsSmallChips)
    ∧ quiescent_RsSmallChipsIdeal (hRsSmallChipsIdeal := hRsSmallChipsIdeal)
    ∧ quiescent_RsSmallChipsRefIdeal (hRsSmallChipsRefIdeal := hRsSmallChipsRefIdeal)
    ∧ quiescent_RsWOutChips (hRsWOutChips := hRsWOutChips)
    ∧ quiescent_RsWOutChipsIdeal (hRsWOutChipsIdeal := hRsWOutChipsIdeal)
    ∧ quiescent_RsWOutChipsRefIdeal (hRsWOutChipsRefIdeal := hRsWOutChipsRefIdeal)
    ∧ quiescent_RsWInChips (hRsWInChips := hRsWInChips)
    ∧ quiescent_RsWInChipsIdeal (hRsWInChipsIdeal := hRsWInChipsIdeal)
    ∧ quiescent_RsWInChipsRefIdeal (hRsWInChipsRefIdeal := hRsWInChipsRefIdeal)
    ∧ quiescent_GatherWOutChips (hGatherWOutChips := hGatherWOutChips)
    ∧ quiescent_GatherWOutChipsIdeal (hGatherWOutChipsIdeal := hGatherWOutChipsIdeal)
    ∧ quiescent_GatherWOutChipsRefIdeal (hGatherWOutChipsRefIdeal := hGatherWOutChipsRefIdeal)
    ∧ quiescent_GatherWInChips (hGatherWInChips := hGatherWInChips)
    ∧ quiescent_GatherWInChipsIdeal (hGatherWInChipsIdeal := hGatherWInChipsIdeal)
    ∧ quiescent_GatherWInChipsRefIdeal (hGatherWInChipsRefIdeal := hGatherWInChipsRefIdeal)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherRep (hGatherRep := hGatherRep)
    ∧ quiescent_GatherRepIdeal (hGatherRepIdeal := hGatherRepIdeal)
    ∧ quiescent_GatherRepRefIdeal (hGatherRepRefIdeal := hGatherRepRefIdeal)
    ∧ quiescent_RsWInAdd (hRsWInAdd := hRsWInAdd) (hPre_a_core := hPre_a_core)
    ∧ quiescent_RsWInAddIdeal (hRsWInAddIdeal := hRsWInAddIdeal) (hPre_a_core := hPre_a_core)
    ∧ quiescent_RsWInAddRefIdeal (hRsWInAddRefIdeal := hRsWInAddRefIdeal)
    ∧ quiescent_RsWInAddRefIdeal_pre_a_core (hRsWInAddRefIdeal := hRsWInAddRefIdeal) (hPre_a_core := hPre_a_core)
    ∧ preserves_DInProj_DInProjIdeal
    ∧ algebraic_DInProjIdeal_DInProjRefIdeal (hDInProjIdeal := hDInProjIdeal) (hDInProjRefIdeal := hDInProjRefIdeal)
    ∧ preserves_DWIn_DWInIdeal
    ∧ algebraic_DWInIdeal_DWInRefIdeal (hDWInIdeal := hDWInIdeal) (hDWInRefIdeal := hDWInRefIdeal)
    ∧ preserves_DOutProj_DOutProjIdeal
    ∧ algebraic_DOutProjIdeal_DOutProjRefIdeal (hDOutProjIdeal := hDOutProjIdeal) (hDOutProjRefIdeal := hDOutProjRefIdeal)
    ∧ preserves_DWOut_DWOutIdeal
    ∧ algebraic_DWOutIdeal_DWOutRefIdeal (hDWOutIdeal := hDWOutIdeal) (hDWOutRefIdeal := hDWOutRefIdeal)
    ∧ preserves_InProj_InProjIdeal
    ∧ algebraic_InProjIdeal_InProjRefIdeal (hInProjIdeal := hInProjIdeal) (hInProjRefIdeal := hInProjRefIdeal)
    ∧ preserves_RmsIn_RmsInIdeal
    ∧ algebraic_RmsInIdeal_RmsInRefIdeal (hRmsInIdeal := hRmsInIdeal) (hRmsInRefIdeal := hRmsInRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_MetaBwd_MetaBwdIdeal
    ∧ algebraic_MetaBwdIdeal_MetaBwdRefIdeal (hMetaBwdIdeal := hMetaBwdIdeal) (hMetaBwdRefIdeal := hMetaBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_RsWOutAdd_RsWOutAddIdeal
    ∧ algebraic_RsWOutAddIdeal_RsWOutAddRefIdeal (hRsWOutAddIdeal := hRsWOutAddIdeal) (hRsWOutAddRefIdeal := hRsWOutAddRefIdeal)
    ∧ preserves_RsSmallAdd_RsSmallAddIdeal
    ∧ algebraic_RsSmallAddIdeal_RsSmallAddRefIdeal (hRsSmallAddIdeal := hRsSmallAddIdeal) (hRsSmallAddRefIdeal := hRsSmallAddRefIdeal)
    ∧ preserves_RsWInSum_RsWInSumIdeal
    ∧ algebraic_RsWInSumIdeal_RsWInSumRefIdeal (hRsWInSumIdeal := hRsWInSumIdeal) (hRsWInSumRefIdeal := hRsWInSumRefIdeal)
    ∧ preserves_RsWOutSum_RsWOutSumIdeal
    ∧ algebraic_RsWOutSumIdeal_RsWOutSumRefIdeal (hRsWOutSumIdeal := hRsWOutSumIdeal) (hRsWOutSumRefIdeal := hRsWOutSumRefIdeal)
    ∧ preserves_RsSmallSum_RsSmallSumIdeal
    ∧ algebraic_RsSmallSumIdeal_RsSmallSumRefIdeal (hRsSmallSumIdeal := hRsSmallSumIdeal) (hRsSmallSumRefIdeal := hRsSmallSumRefIdeal)
    ∧ preserves_AdamRep_AdamRepIdeal
    ∧ algebraic_AdamRepIdeal_AdamRepRefIdeal (hAdamRepIdeal := hAdamRepIdeal) (hAdamRepRefIdeal := hAdamRepRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_RsWInSib_RsWInSibIdeal
    ∧ algebraic_RsWInSibIdeal_RsWInSibRefIdeal (hRsWInSibIdeal := hRsWInSibIdeal) (hRsWInSibRefIdeal := hRsWInSibRefIdeal)
    ∧ preserves_RsWOutSib_RsWOutSibIdeal
    ∧ algebraic_RsWOutSibIdeal_RsWOutSibRefIdeal (hRsWOutSibIdeal := hRsWOutSibIdeal) (hRsWOutSibRefIdeal := hRsWOutSibRefIdeal)
    ∧ preserves_RsWInCores_RsWInCoresIdeal
    ∧ algebraic_RsWInCoresIdeal_RsWInCoresRefIdeal (hRsWInCoresIdeal := hRsWInCoresIdeal) (hRsWInCoresRefIdeal := hRsWInCoresRefIdeal)
    ∧ preserves_RsSmallSib_RsSmallSibIdeal
    ∧ algebraic_RsSmallSibIdeal_RsSmallSibRefIdeal (hRsSmallSibIdeal := hRsSmallSibIdeal) (hRsSmallSibRefIdeal := hRsSmallSibRefIdeal)
    ∧ preserves_RsSmallCores_RsSmallCoresIdeal
    ∧ algebraic_RsSmallCoresIdeal_RsSmallCoresRefIdeal (hRsSmallCoresIdeal := hRsSmallCoresIdeal) (hRsSmallCoresRefIdeal := hRsSmallCoresRefIdeal)
    ∧ preserves_RsWOutCores_RsWOutCoresIdeal
    ∧ algebraic_RsWOutCoresIdeal_RsWOutCoresRefIdeal (hRsWOutCoresIdeal := hRsWOutCoresIdeal) (hRsWOutCoresRefIdeal := hRsWOutCoresRefIdeal)
    ∧ preserves_GatherWInCores_GatherWInCoresIdeal
    ∧ algebraic_GatherWInCoresIdeal_GatherWInCoresRefIdeal (hGatherWInCoresIdeal := hGatherWInCoresIdeal) (hGatherWInCoresRefIdeal := hGatherWInCoresRefIdeal)
    ∧ preserves_GatherWOutCores_GatherWOutCoresIdeal
    ∧ algebraic_GatherWOutCoresIdeal_GatherWOutCoresRefIdeal (hGatherWOutCoresIdeal := hGatherWOutCoresIdeal) (hGatherWOutCoresRefIdeal := hGatherWOutCoresRefIdeal)
    ∧ preserves_RsSmallChips_RsSmallChipsIdeal
    ∧ algebraic_RsSmallChipsIdeal_RsSmallChipsRefIdeal (hRsSmallChipsIdeal := hRsSmallChipsIdeal) (hRsSmallChipsRefIdeal := hRsSmallChipsRefIdeal)
    ∧ preserves_RsWOutChips_RsWOutChipsIdeal
    ∧ algebraic_RsWOutChipsIdeal_RsWOutChipsRefIdeal (hRsWOutChipsIdeal := hRsWOutChipsIdeal) (hRsWOutChipsRefIdeal := hRsWOutChipsRefIdeal)
    ∧ preserves_RsWInChips_RsWInChipsIdeal
    ∧ algebraic_RsWInChipsIdeal_RsWInChipsRefIdeal (hRsWInChipsIdeal := hRsWInChipsIdeal) (hRsWInChipsRefIdeal := hRsWInChipsRefIdeal)
    ∧ preserves_GatherWOutChips_GatherWOutChipsIdeal
    ∧ algebraic_GatherWOutChipsIdeal_GatherWOutChipsRefIdeal (hGatherWOutChipsIdeal := hGatherWOutChipsIdeal) (hGatherWOutChipsRefIdeal := hGatherWOutChipsRefIdeal)
    ∧ preserves_GatherWInChips_GatherWInChipsIdeal
    ∧ algebraic_GatherWInChipsIdeal_GatherWInChipsRefIdeal (hGatherWInChipsIdeal := hGatherWInChipsIdeal) (hGatherWInChipsRefIdeal := hGatherWInChipsRefIdeal)
    ∧ preserves_GatherSmall_GatherSmallIdeal
    ∧ algebraic_GatherSmallIdeal_GatherSmallRefIdeal (hGatherSmallIdeal := hGatherSmallIdeal) (hGatherSmallRefIdeal := hGatherSmallRefIdeal)
    ∧ preserves_GatherRep_GatherRepIdeal
    ∧ algebraic_GatherRepIdeal_GatherRepRefIdeal (hGatherRepIdeal := hGatherRepIdeal) (hGatherRepRefIdeal := hGatherRepRefIdeal)
    ∧ preserves_RsWInAdd_RsWInAddIdeal
    ∧ algebraic_RsWInAddIdeal_RsWInAddRefIdeal (hRsWInAddIdeal := hRsWInAddIdeal) (hRsWInAddRefIdeal := hRsWInAddRefIdeal) (hPre_a_core := hPre_a_core)
-- ==== Pre_a_core.lean ====
abbrev S_ : Shape := ⟨0, ![]⟩
abbrev S2048x8448 : Shape := ⟨2, ![2048, 8448]⟩
abbrev S1024x8448 : Shape := ⟨2, ![1024, 8448]⟩

class Facts : Prop where

variable [Facts]

def fn {F : FTy → Type} [FloatOps F] (main_arg0 : IVec S_ 32) (main_arg1 : FVec F S2048x8448 .f32) (main_arg2 : FVec F S1024x8448 .f32) : IVec S_ 1 :=
  let main_c : IVec S_ 32 := constantI S_ 32 0#32
  let main_v0 : IVec S_ 1 := cmpi .eq main_arg0 main_c
  let main_c_0 : IVec S_ 32 := constantI S_ 32 1#32
  let main_v1 : IVec S_ 1 := cmpi .eq main_arg0 main_c_0
  let main_v2 : IVec S_ 1 := ori main_v0 main_v1
  main_v2
-- ==== DInProj.lean ====
abbrev S4160x8448 : Shape := ⟨2, ![4160, 8448]⟩
abbrev S2048x8336 : Shape := ⟨2, ![2048, 8336]⟩
abbrev S8x128 : Shape := ⟨2, ![8, 128]⟩
abbrev S2048x7312 : Shape := ⟨2, ![2048, 7312]⟩
abbrev S_ : Shape := ⟨0, ![]⟩
abbrev S2048x112 : Shape := ⟨2, ![2048, 112]⟩
abbrev S2048x1024 : Shape := ⟨2, ![2048, 1024]⟩
abbrev S2048x8448 : Shape := ⟨2, ![2048, 8448]⟩
abbrev S4160x2048 : Shape := ⟨2, ![4160, 2048]⟩
abbrev S832x1408 : Shape := ⟨2, ![832, 1408]⟩
abbrev S2048x1408 : Shape := ⟨2, ![2048, 1408]⟩
abbrev S832x2048 : Shape := ⟨2, ![832, 2048]⟩

abbrev nBuf : Space → Nat
  | .hbm => 10
  | .vmem => 7
  | .smem => 0
  | _ => 0

abbrev bufTy : (tb : Table) → Fin (tcTables nBuf tb) → BufTy
  | .hbm, ⟨0, _⟩ => ⟨S4160x8448, .bf16⟩
  | .hbm, ⟨1, _⟩ => ⟨S2048x8336, .f32⟩
  | .hbm, ⟨2, _⟩ => ⟨S8x128, .f32⟩
  | .hbm, ⟨3, _⟩ => ⟨S2048x8336, .bf16⟩
  | .hbm, ⟨4, _⟩ => ⟨S2048x7312, .bf16⟩
  | .hbm, ⟨5, _⟩ => ⟨S_, .bf16⟩
  | .hbm, ⟨6, _⟩ => ⟨S2048x112, .bf16⟩
  | .hbm, ⟨7, _⟩ => ⟨S2048x1024, .bf16⟩
  | .hbm, ⟨8, _⟩ => ⟨S2048x8448, .bf16⟩
  | .hbm, ⟨9, _⟩ => ⟨S4160x2048, .f32⟩
  | .local _ .vmem, ⟨0, _⟩ => ⟨S832x1408, .bf16⟩
  | .local _ .vmem, ⟨1, _⟩ => ⟨S832x1408, .bf16⟩
  | .local _ .vmem, ⟨2, _⟩ => ⟨S2048x1408, .bf16⟩
  | .local _ .vmem, ⟨3, _⟩ => ⟨S2048x1408, .bf16⟩
  | .local _ .vmem, ⟨4, _⟩ => ⟨S8x128, .f32⟩
  | .local _ .vmem, ⟨5, _⟩ => ⟨S832x2048, .f32⟩
  | .local _ .vmem, ⟨6, _⟩ => ⟨S832x2048, .f32⟩
  | _, _ => ⟨S4160x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 1, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S832x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DInProjRefIdeal.lean ====
abbrev S4160x8448 : Shape := ⟨2, ![4160, 8448]⟩
abbrev S2048x8336 : Shape := ⟨2, ![2048, 8336]⟩
abbrev S8x128 : Shape := ⟨2, ![8, 128]⟩
abbrev S4160x7312 : Shape := ⟨2, ![4160, 7312]⟩
abbrev S4160x1024 : Shape := ⟨2, ![4160, 1024]⟩
abbrev S4160x8336 : Shape := ⟨2, ![4160, 8336]⟩
abbrev S_ : Shape := ⟨0, ![]⟩
abbrev S4160x2048 : Shape := ⟨2, ![4160, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4160x8448, .bf16⟩
  | .hbm, ⟨1, _⟩ => ⟨S2048x8336, .f32⟩
  | .hbm, ⟨2, _⟩ => ⟨S8x128, .f32⟩
  | .hbm, ⟨3, _⟩ => ⟨S4160x7312, .bf16⟩
  | .hbm, ⟨4, _⟩ => ⟨S4160x1024, .bf16⟩
  | .hbm, ⟨5, _⟩ => ⟨S4160x8336, .bf16⟩
  | .hbm, ⟨6, _⟩ => ⟨S4160x8336, .f32⟩
  | .hbm, ⟨7, _⟩ => ⟨S_, .f32⟩
  | .hbm, ⟨8, _⟩ => ⟨S4160x2048, .f32⟩
  | .hbm, ⟨9, _⟩ => ⟨S4160x8336, .f32⟩
  | .hbm, ⟨10, _⟩ => ⟨S4160x2048, .f32⟩
  | _, _ => ⟨S4160x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DWIn.lean ====
abbrev S4160x2048 : Shape := ⟨2, ![4160, 2048]⟩
abbrev S4160x8448 : Shape := ⟨2, ![4160, 8448]⟩
abbrev S2048x4160 : Shape := ⟨2, ![2048, 4160]⟩
abbrev S2048x8448 : Shape := ⟨2, ![2048, 8448]⟩
abbrev S1024x4160 : Shape := ⟨2, ![1024, 4160]⟩
abbrev S4160x768 : Shape := ⟨2, ![4160, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S4160x2048, .bf16⟩
  | .hbm, ⟨1, _⟩ => ⟨S4160x8448, .bf16⟩
  | .hbm, ⟨2, _⟩ => ⟨S2048x4160, .bf16⟩
  | .hbm, ⟨3, _⟩ => ⟨S2048x8448, .f32⟩
  | .local _ .vmem, ⟨0, _⟩ => ⟨S1024x4160, .bf16⟩
  | .local _ .vmem, ⟨1, _⟩ => ⟨S1024x4160, .bf16⟩
  | .local _ .vmem, ⟨2, _⟩ => ⟨S4160x768, .bf16⟩
  | .local _ .vmem, ⟨3, _⟩ => ⟨S4160x768, .bf16⟩
  | .local _ .vmem, ⟨4, _⟩ => ⟨S1024x768, .f32⟩
  | .local _ .vmem, ⟨5, _⟩ => ⟨S1024x768, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S4160x2048 : Shape := ⟨2, ![4160, 2048]⟩
abbrev S4160x8448 : Shape := ⟨2, ![4160, 8448]⟩
abbrev S_ : Shape := ⟨0, ![]⟩
abbrev S2048x8448 : Shape := ⟨2, ![2048, 8448]⟩
abbrev S8448x2048 : Shape := ⟨2, ![8448, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4160x8448, .bf16⟩
  | .hbm, ⟨2, _⟩ => ⟨S4160x2048, .f32⟩
  | .hbm, ⟨3, _⟩ => ⟨S_, .f32⟩
  | .hbm, ⟨4, _⟩ => ⟨S2048x8448, .f32⟩
  | .hbm, ⟨5, _⟩ => ⟨S4160x8448, .f32⟩
  | .hbm, ⟨6, _⟩ => ⟨S4160x8448, .f32⟩
  | .hbm, ⟨7, _⟩ => ⟨S8448x2048, .f32⟩
  | .hbm, ⟨8, _⟩ => ⟨S2048x8448, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DOutProj.lean ====
abbrev S4160x2048 : Shape := ⟨2, ![4160, 2048]⟩
abbrev S2048x2048 : Shape := ⟨2, ![2048, 2048]⟩
abbrev S8x128 : Shape := ⟨2, ![8, 128]⟩
abbrev S832x2048 : Shape := ⟨2, ![832, 2048]⟩
abbrev S1024x2048 : Shape := ⟨2, ![1024, 2048]⟩
abbrev S832x1024 : Shape := ⟨2, ![832, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S2048x2048, .f32⟩
  | .hbm, ⟨2, _⟩ => ⟨S8x128, .f32⟩
  | .hbm, ⟨3, _⟩ => ⟨S2048x2048, .bf16⟩
  | .hbm, ⟨4, _⟩ => ⟨S4160x2048, .f32⟩
  | .local _ .vmem, ⟨0, _⟩ => ⟨S832x2048, .bf16⟩
  | .local _ .vmem, ⟨1, _⟩ => ⟨S832x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S832x1024, .f32⟩
  | .local _ .vmem, ⟨6, _⟩ => ⟨S832x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DOutProjRefIdeal.lean ====
abbrev S4160x2048 : Shape := ⟨2, ![4160, 2048]⟩
abbrev S2048x2048 : Shape := ⟨2, ![2048, 2048]⟩
abbrev S8x128 : Shape := ⟨2, ![8, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S2048x2048, .f32⟩
  | .hbm, ⟨2, _⟩ => ⟨S8x128, .f32⟩
  | .hbm, ⟨3, _⟩ => ⟨S_, .f32⟩
  | .hbm, ⟨4, _⟩ => ⟨S4160x2048, .f32⟩
  | .hbm, ⟨5, _⟩ => ⟨S4160x2048, .f32⟩
  | .hbm, ⟨6, _⟩ => ⟨S4160x2048, .f32⟩
  | .hbm, ⟨7, _⟩ => ⟨S4160x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DWOut.lean ====
abbrev S4160x2048 : Shape := ⟨2, ![4160, 2048]⟩
abbrev S2048x4160 : Shape := ⟨2, ![2048, 4160]⟩
abbrev S2048x2048 : Shape := ⟨2, ![2048, 2048]⟩
abbrev S512x4160 : Shape := ⟨2, ![512, 4160]⟩
abbrev S4160x1024 : Shape := ⟨2, ![4160, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4160x2048, .bf16⟩
  | .hbm, ⟨1, _⟩ => ⟨S4160x2048, .bf16⟩
  | .hbm, ⟨2, _⟩ => ⟨S2048x4160, .bf16⟩
  | .hbm, ⟨3, _⟩ => ⟨S2048x2048, .f32⟩
  | .local _ .vmem, ⟨0, _⟩ => ⟨S512x4160, .bf16⟩
  | .local _ .vmem, ⟨1, _⟩ => ⟨S512x4160, .bf16⟩
  | .local _ .vmem, ⟨2, _⟩ => ⟨S4160x1024, .bf16⟩
  | .local _ .vmem, ⟨3, _⟩ => ⟨S4160x1024, .bf16⟩
  | .local _ .vmem, ⟨4, _⟩ => ⟨S512x1024, .f32⟩
  | .local _ .vmem, ⟨5, _⟩ => ⟨S512x1024, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S4160x2048 : Shape := ⟨2, ![4160, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S4160x2048, .bf16⟩
  | .hbm, ⟨2, _⟩ => ⟨S4160x2048, .f32⟩
  | .hbm, ⟨3, _⟩ => ⟨S_, .f32⟩
  | .hbm, ⟨4, _⟩ => ⟨S2048x2048, .f32⟩
  | .hbm, ⟨5, _⟩ => ⟨S4160x2048, .f32⟩
  | .hbm, ⟨6, _⟩ => ⟨S4160x2048, .f32⟩
  | .hbm, ⟨7, _⟩ => ⟨S2048x2048, .f32⟩
  | .hbm, ⟨8, _⟩ => ⟨S2048x2048, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4160x2048 : Shape := ⟨2, ![4160, 2048]⟩
abbrev S2048x8336 : Shape := ⟨2, ![2048, 8336]⟩
abbrev S8x128 : Shape := ⟨2, ![8, 128]⟩
abbrev S2048x7312 : Shape := ⟨2, ![2048, 7312]⟩
abbrev S_ : Shape := ⟨0, ![]⟩
abbrev S2048x112 : Shape := ⟨2, ![2048, 112]⟩
abbrev S2048x1024 : Shape := ⟨2, ![2048, 1024]⟩
abbrev S2048x8448 : Shape := ⟨2, ![2048, 8448]⟩
abbrev S4160x8448 : Shape := ⟨2, ![4160, 8448]⟩
abbrev S832x2048 : Shape := ⟨2, ![832, 2048]⟩
abbrev S2048x1408 : Shape := ⟨2, ![2048, 1408]⟩
abbrev S832x1408 : Shape := ⟨2, ![832, 1408]⟩

abbrev nBuf : Space → Nat
  | .hbm => 10
  | .vmem => 7
  | .smem => 0
  | _ => 0

abbrev bufTy : (tb : Table) → Fin (tcTables nBuf tb) → BufTy
  | .hbm, ⟨0, _⟩ => ⟨S4160x2048, .bf16⟩
  | .hbm, ⟨1, _⟩ => ⟨S2048x8336, .f32⟩
  | .hbm, ⟨2, _⟩ => ⟨S8x128, .f32⟩
  | .hbm, ⟨3, _⟩ => ⟨S2048x8336, .bf16⟩
  | .hbm, ⟨4, _⟩ => ⟨S2048x7312, .bf16⟩
  | .hbm, ⟨5, _⟩ => ⟨S_, .bf16⟩
  | .hbm, ⟨6, _⟩ => ⟨S2048x112, .bf16⟩
  | .hbm, ⟨7, _⟩ => ⟨S2048x1024, .bf16⟩
  | .hbm, ⟨8, _⟩ => ⟨S2048x8448, .bf16⟩
  | .hbm, ⟨9, _⟩ => ⟨S4160x8448, .f32⟩
  | .local _ .vmem, ⟨0, _⟩ => ⟨S832x2048, .bf16⟩
  | .local _ .vmem, ⟨1, _⟩ => ⟨S832x2048, .bf16⟩
  | .local _ .vmem, ⟨2, _⟩ => ⟨S2048x1408, .bf16⟩
  | .local _ .vmem, ⟨3, _⟩ => ⟨S2048x1408, .bf16⟩
  | .local _ .vmem, ⟨4, _⟩ => ⟨S8x128, .f32⟩
  | .local _ .vmem, ⟨5, _⟩ => ⟨S832x1408, .f32⟩
  | .local _ .vmem, ⟨6, _⟩ => ⟨S832x1408, .f32⟩
  | _, _ => ⟨S4160x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S832x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjRefIdeal.lean ====
abbrev S4160x2048 : Shape := ⟨2, ![4160, 2048]⟩
abbrev S2048x8336 : Shape := ⟨2, ![2048, 8336]⟩
abbrev S8x128 : Shape := ⟨2, ![8, 128]⟩
abbrev S4160x8336 : Shape := ⟨2, ![4160, 8336]⟩
abbrev S4160x7312 : Shape := ⟨2, ![4160, 7312]⟩
abbrev S_ : Shape := ⟨0, ![]⟩
abbrev S4160x112 : Shape := ⟨2, ![4160, 112]⟩
abbrev S4160x1024 : Shape := ⟨2, ![4160, 1024]⟩
abbrev S4160x8448 : Shape := ⟨2, ![4160, 8448]⟩

abbrev nBuf : Space → Nat
  | .hbm => 10
  | .vmem => 0
  | .smem => 0
  | _ => 0

abbrev bufTy : (tb : Table) → Fin (tcTables nBuf tb) → BufTy
  | .hbm, ⟨0, _⟩ => ⟨S4160x2048, .bf16⟩
  | .hbm, ⟨1, _⟩ => ⟨S2048x8336, .f32⟩
  | .hbm, ⟨2, _⟩ => ⟨S8x128, .f32⟩
  | .hbm, ⟨3, _⟩ => ⟨S4160x2048, .f32⟩
  | .hbm, ⟨4, _⟩ => ⟨S4160x8336, .f32⟩
  | .hbm, ⟨5, _⟩ => ⟨S4160x7312, .f32⟩
  | .hbm, ⟨6, _⟩ => ⟨S_, .f32⟩
  | .hbm, ⟨7, _⟩ => ⟨S4160x112, .f32⟩
  | .hbm, ⟨8, _⟩ => ⟨S4160x1024, .f32⟩
  | .hbm, ⟨9, _⟩ => ⟨S4160x8448, .f32⟩
  | _, _ => ⟨S4160x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== RmsIn.lean ====
abbrev S16x2048 : Shape := ⟨2, ![16, 2048]⟩
abbrev S4096x2048 : Shape := ⟨2, ![4096, 2048]⟩
abbrev S1x2048 : Shape := ⟨2, ![1, 2048]⟩
abbrev S_ : Shape := ⟨0, ![]⟩
abbrev S48x2048 : Shape := ⟨2, ![48, 2048]⟩
abbrev S4160x2048 : Shape := ⟨2, ![4160, 2048]⟩
abbrev S208x2048 : Shape := ⟨2, ![208, 2048]⟩
abbrev S208 : Shape := ⟨1, ![208]⟩
abbrev S208x1 : Shape := ⟨2, ![208, 1]⟩

abbrev nBuf : Space → Nat
  | .hbm => 7
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S1x2048, .f32⟩
  | .hbm, ⟨3, _⟩ => ⟨S_, .f32⟩
  | .hbm, ⟨4, _⟩ => ⟨S48x2048, .f32⟩
  | .hbm, ⟨5, _⟩ => ⟨S4160x2048, .f32⟩
  | .hbm, ⟨6, _⟩ => ⟨S4160x2048, .bf16⟩
  | .local _ .vmem, ⟨0, _⟩ => ⟨S208x2048, .f32⟩
  | .local _ .vmem, ⟨1, _⟩ => ⟨S208x2048, .f32⟩
  | .local _ .vmem, ⟨2, _⟩ => ⟨S1x2048, .f32⟩
  | .local _ .vmem, ⟨3, _⟩ => ⟨S208x2048, .bf16⟩
  | .local _ .vmem, ⟨4, _⟩ => ⟨S208x2048, .bf16⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S208x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsInRefIdeal.lean ====
abbrev S16x2048 : Shape := ⟨2, ![16, 2048]⟩
abbrev S4096x2048 : Shape := ⟨2, ![4096, 2048]⟩
abbrev S1x2048 : Shape := ⟨2, ![1, 2048]⟩
abbrev S4112x2048 : Shape := ⟨2, ![4112, 2048]⟩
abbrev S2048 : Shape := ⟨1, ![2048]⟩
abbrev S_ : Shape := ⟨0, ![]⟩
abbrev S4112 : Shape := ⟨1, ![4112]⟩
abbrev S4112x1 : Shape := ⟨2, ![4112, 1]⟩
abbrev S4160x2048 : Shape := ⟨2, ![4160, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S1x2048, .f32⟩
  | .hbm, ⟨3, _⟩ => ⟨S4112x2048, .f32⟩
  | .hbm, ⟨4, _⟩ => ⟨S2048, .f32⟩
  | .hbm, ⟨5, _⟩ => ⟨S4112x2048, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x2048, .f32⟩
  | .hbm, ⟨17, _⟩ => ⟨S4112x2048, .f32⟩
  | .hbm, ⟨18, _⟩ => ⟨S1x2048, .f32⟩
  | .hbm, ⟨19, _⟩ => ⟨S4112x2048, .f32⟩
  | .hbm, ⟨20, _⟩ => ⟨S4112x2048, .f32⟩
  | .hbm, ⟨21, _⟩ => ⟨S_, .i32⟩
  | .hbm, ⟨22, _⟩ => ⟨S_, .f32⟩
  | .hbm, ⟨23, _⟩ => ⟨S4160x2048, .f32⟩
  | .hbm, ⟨24, _⟩ => ⟨S4160x2048, .bf16⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== RmsBwd.lean ====
abbrev S16x2048 : Shape := ⟨2, ![16, 2048]⟩
abbrev S4096x2048 : Shape := ⟨2, ![4096, 2048]⟩
abbrev S1x2048 : Shape := ⟨2, ![1, 2048]⟩
abbrev S4160x2048 : Shape := ⟨2, ![4160, 2048]⟩
abbrev S_ : Shape := ⟨0, ![]⟩
abbrev S48x2048 : Shape := ⟨2, ![48, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 10
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S1x2048, .f32⟩
  | .hbm, ⟨3, _⟩ => ⟨S4160x2048, .f32⟩
  | .hbm, ⟨4, _⟩ => ⟨S4160x2048, .f32⟩
  | .hbm, ⟨5, _⟩ => ⟨S_, .f32⟩
  | .hbm, ⟨6, _⟩ => ⟨S48x2048, .f32⟩
  | .hbm, ⟨7, _⟩ => ⟨S4160x2048, .f32⟩
  | .hbm, ⟨8, _⟩ => ⟨S4096x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c16_i32 : BitVec 32 := 16#32
  let arg0 : BitVec 32 := BitVec.ofNat 32 (i 0).val
  let c256_i32 : BitVec 32 := 256#32
  let v0 : BitVec 32 := Scalar.muli arg0 c256_i32
  let v1 : BitVec 32 := Scalar.addi c16_i32 v0
  v1
def k0_mult2 (i : grid0.Coords) : BitVec 32 :=
  let c16_i32 : BitVec 32 := 16#32
  let arg0 : BitVec 32 := BitVec.ofNat 32 (i 0).val
  let c256_i32 : BitVec 32 := 256#32
  let v0 : BitVec 32 := Scalar.muli arg0 c256_i32
  let v1 : BitVec 32 := Scalar.addi c16_i32 v0
  v1
def k0_mult3 (i : grid0.Coords) : BitVec 32 :=
  let c16_i32 : BitVec 32 := 16#32
  let arg0 : BitVec 32 := BitVec.ofNat 32 (i 0).val
  let c256_i32 : BitVec 32 := 256#32
  let v0 : BitVec 32 := Scalar.muli arg0 c256_i32
  let v1 : BitVec 32 := Scalar.addi c16_i32 v0
  v1
def cc0_transform_0 (i : grid0.Coords) : Fin 2 → Nat :=
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c256_i32 : BitVec 32 := 256#32
  let v0 : BitVec 32 := Scalar.muli arg0 c256_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S16x2048 : Shape := ⟨2, ![16, 2048]⟩
abbrev S4096x2048 : Shape := ⟨2, ![4096, 2048]⟩
abbrev S1x2048 : Shape := ⟨2, ![1, 2048]⟩
abbrev S4160x2048 : Shape := ⟨2, ![4160, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S1x2048, .f32⟩
  | .hbm, ⟨3, _⟩ => ⟨S4160x2048, .f32⟩
  | .hbm, ⟨4, _⟩ => ⟨S4160x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S1x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== MetaBwd.lean ====
abbrev S16x2048 : Shape := ⟨2, ![16, 2048]⟩
abbrev S4096x2048 : Shape := ⟨2, ![4096, 2048]⟩
abbrev S1x2048 : Shape := ⟨2, ![1, 2048]⟩
abbrev S4160x2048 : Shape := ⟨2, ![4160, 2048]⟩
abbrev S_ : Shape := ⟨0, ![]⟩
abbrev S48x2048 : Shape := ⟨2, ![48, 2048]⟩
abbrev S16 : Shape := ⟨1, ![16]⟩
abbrev S16x1 : Shape := ⟨2, ![16, 1]⟩
abbrev S2048 : Shape := ⟨1, ![2048]⟩

abbrev nBuf : Space → Nat
  | .hbm => 10
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S1x2048, .f32⟩
  | .hbm, ⟨3, _⟩ => ⟨S4160x2048, .f32⟩
  | .hbm, ⟨4, _⟩ => ⟨S4160x2048, .f32⟩
  | .hbm, ⟨5, _⟩ => ⟨S_, .f32⟩
  | .hbm, ⟨6, _⟩ => ⟨S48x2048, .f32⟩
  | .hbm, ⟨7, _⟩ => ⟨S4160x2048, .f32⟩
  | .hbm, ⟨8, _⟩ => ⟨S16x2048, .f32⟩
  | .hbm, ⟨9, _⟩ => ⟨S1x2048, .f32⟩
  | .local _ .vmem, ⟨0, _⟩ => ⟨S16x2048, .f32⟩
  | .local _ .vmem, ⟨1, _⟩ => ⟨S1x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MetaBwdRefIdeal.lean ====
abbrev S16x2048 : Shape := ⟨2, ![16, 2048]⟩
abbrev S4096x2048 : Shape := ⟨2, ![4096, 2048]⟩
abbrev S1x2048 : Shape := ⟨2, ![1, 2048]⟩
abbrev S4160x2048 : Shape := ⟨2, ![4160, 2048]⟩
abbrev S2048 : Shape := ⟨1, ![2048]⟩
abbrev S_ : Shape := ⟨0, ![]⟩
abbrev S16 : Shape := ⟨1, ![16]⟩
abbrev S16x1 : Shape := ⟨2, ![16, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S1x2048, .f32⟩
  | .hbm, ⟨3, _⟩ => ⟨S4160x2048, .f32⟩
  | .hbm, ⟨4, _⟩ => ⟨S4160x2048, .f32⟩
  | .hbm, ⟨5, _⟩ => ⟨S2048, .f32⟩
  | .hbm, ⟨6, _⟩ => ⟨S16x2048, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S16x1, .f32⟩
  | .hbm, ⟨12, _⟩ => ⟨S16x1, .f32⟩
  | .hbm, ⟨13, _⟩ => ⟨S_, .f32⟩
  | .hbm, ⟨14, _⟩ => ⟨S16x1, .f32⟩
  | .hbm, ⟨15, _⟩ => ⟨S16x1, .f32⟩
  | .hbm, ⟨16, _⟩ => ⟨S16x1, .f32⟩
  | .hbm, ⟨17, _⟩ => ⟨S16x1, .f32⟩
  | .hbm, ⟨18, _⟩ => ⟨S_, .f32⟩
  | .hbm, ⟨19, _⟩ => ⟨S16x1, .f32⟩
  | .hbm, ⟨20, _⟩ => ⟨S16x1, .f32⟩
  | .hbm, ⟨21, _⟩ => ⟨S16x2048, .f32⟩
  | .hbm, ⟨22, _⟩ => ⟨S16x2048, .f32⟩
  | .hbm, ⟨23, _⟩ => ⟨S1x2048, .f32⟩
  | .hbm, ⟨24, _⟩ => ⟨S16x2048, .f32⟩
  | .hbm, ⟨25, _⟩ => ⟨S16x2048, .f32⟩
  | .hbm, ⟨26, _⟩ => ⟨S16x2048, .f32⟩
  | .hbm, ⟨27, _⟩ => ⟨S16x2048, .f32⟩
  | .hbm, ⟨28, _⟩ => ⟨S16x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S16x2048, .f32⟩
  | .hbm, ⟨33, _⟩ => ⟨S16x2048, .f32⟩
  | .hbm, ⟨34, _⟩ => ⟨S_, .f32⟩
  | .hbm, ⟨35, _⟩ => ⟨S2048, .f32⟩
  | .hbm, ⟨36, _⟩ => ⟨S16x2048, .f32⟩
  | .hbm, ⟨37, _⟩ => ⟨S_, .f32⟩
  | .hbm, ⟨38, _⟩ => ⟨S16, .f32⟩
  | .hbm, ⟨39, _⟩ => ⟨S16x1, .f32⟩
  | .hbm, ⟨40, _⟩ => ⟨S16x2048, .f32⟩
  | .hbm, ⟨41, _⟩ => ⟨S16x2048, .f32⟩
  | .hbm, ⟨42, _⟩ => ⟨S16x2048, .f32⟩
  | .hbm, ⟨43, _⟩ => ⟨S16x1, .f32⟩
  | .hbm, ⟨44, _⟩ => ⟨S_, .f32⟩
  | .hbm, ⟨45, _⟩ => ⟨S16x1, .f32⟩
  | .hbm, ⟨46, _⟩ => ⟨S16x1, .f32⟩
  | .hbm, ⟨47, _⟩ => ⟨S_, .f32⟩
  | .hbm, ⟨48, _⟩ => ⟨S16, .f32⟩
  | .hbm, ⟨49, _⟩ => ⟨S16x2048, .f32⟩
  | .hbm, ⟨50, _⟩ => ⟨S16x2048, .f32⟩
  | .hbm, ⟨51, _⟩ => ⟨S16x2048, .f32⟩
  | .hbm, ⟨52, _⟩ => ⟨S16x2048, .f32⟩
  | .hbm, ⟨53, _⟩ => ⟨S16x2048, .f32⟩
  | .hbm, ⟨54, _⟩ => ⟨S1x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LossHead.lean ====
abbrev S16x2048 : Shape := ⟨2, ![16, 2048]⟩
abbrev S4096x2048 : Shape := ⟨2, ![4096, 2048]⟩
abbrev S4160x2048 : Shape := ⟨2, ![4160, 2048]⟩
abbrev S2048x2048 : Shape := ⟨2, ![2048, 2048]⟩
abbrev S2048 : Shape := ⟨1, ![2048]⟩
abbrev S_ : Shape := ⟨0, ![]⟩
abbrev S48x2048 : Shape := ⟨2, ![48, 2048]⟩
abbrev S1x2048 : Shape := ⟨2, ![1, 2048]⟩
abbrev S8x128 : Shape := ⟨2, ![8, 128]⟩
abbrev S208x2048 : Shape := ⟨2, ![208, 2048]⟩
abbrev S208x1 : Shape := ⟨2, ![208, 1]⟩
abbrev S208 : Shape := ⟨1, ![208]⟩
abbrev S1 : Shape := ⟨1, ![1]⟩
abbrev S1x1 : Shape := ⟨2, ![1, 1]⟩

abbrev nBuf : Space → Nat
  | .hbm => 15
  | .vmem => 14
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S4160x2048, .bf16⟩
  | .hbm, ⟨3, _⟩ => ⟨S2048x2048, .f32⟩
  | .hbm, ⟨4, _⟩ => ⟨S4096x2048, .f32⟩
  | .hbm, ⟨5, _⟩ => ⟨S2048, .f32⟩
  | .hbm, ⟨6, _⟩ => ⟨S_, .f32⟩
  | .hbm, ⟨7, _⟩ => ⟨S48x2048, .f32⟩
  | .hbm, ⟨8, _⟩ => ⟨S4160x2048, .f32⟩
  | .hbm, ⟨9, _⟩ => ⟨S2048x2048, .bf16⟩
  | .hbm, ⟨10, _⟩ => ⟨S1x2048, .f32⟩
  | .hbm, ⟨11, _⟩ => ⟨S8x128, .f32⟩
  | .hbm, ⟨12, _⟩ => ⟨S4160x2048, .f32⟩
  | .hbm, ⟨13, _⟩ => ⟨S4160x2048, .bf16⟩
  | .hbm, ⟨14, _⟩ => ⟨S1x2048, .f32⟩
  | .local _ .vmem, ⟨0, _⟩ => ⟨S208x2048, .f32⟩
  | .local _ .vmem, ⟨1, _⟩ => ⟨S208x2048, .f32⟩
  | .local _ .vmem, ⟨2, _⟩ => ⟨S208x2048, .bf16⟩
  | .local _ .vmem, ⟨3, _⟩ => ⟨S208x2048, .bf16⟩
  | .local _ .vmem, ⟨4, _⟩ => ⟨S2048x2048, .bf16⟩
  | .local _ .vmem, ⟨5, _⟩ => ⟨S208x2048, .f32⟩
  | .local _ .vmem, ⟨6, _⟩ => ⟨S208x2048, .f32⟩
  | .local _ .vmem, ⟨7, _⟩ => ⟨S1x2048, .f32⟩
  | .local _ .vmem, ⟨8, _⟩ => ⟨S8x128, .f32⟩
  | .local _ .vmem, ⟨9, _⟩ => ⟨S208x2048, .f32⟩
  | .local _ .vmem, ⟨10, _⟩ => ⟨S208x2048, .f32⟩
  | .local _ .vmem, ⟨11, _⟩ => ⟨S208x2048, .bf16⟩
  | .local _ .vmem, ⟨12, _⟩ => ⟨S208x2048, .bf16⟩
  | .local _ .vmem, ⟨13, _⟩ => ⟨S1x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![20], ![false]⟩

def k0_mult1 (i : grid0.Coords) : BitVec 32 :=
  let c3888_i32 : BitVec 32 := 3888#32
  let c0_i32 : BitVec 32 := 0#32
  let arg0 : BitVec 32 := BitVec.ofNat 32 (i 0).val
  let c208_i32 : BitVec 32 := 208#32
  let v0 : BitVec 32 := Scalar.muli arg0 c208_i32
  let c16_i32 : BitVec 32 := 16#32
  let v1 : BitVec 32 := Scalar.subi v0 c16_i32
  let v2 : BitVec 32 := Scalar.maxsi c0_i32 v1
  let v3 : BitVec 32 := Scalar.minsi c3888_i32 v2
  v3
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c208_i32 : BitVec 32 := 208#32
  let v0 : BitVec 32 := Scalar.muli arg0 c208_i32
  let c16_i32 : BitVec 32 := 16#32
  let v1 : BitVec 32 := Scalar.subi v0 c16_i32
  let c0_i32 : BitVec 32 := 0#32
  let c3888_i32 : BitVec 32 := 3888#32
  let v2 : BitVec 32 := Scalar.maxsi c0_i32 v1
  let v3 : BitVec 32 := Scalar.minsi c3888_i32 v2
  let v4 : BitVec 32 := v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S208x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S208x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossHeadRefIdeal.lean ====
abbrev S16x2048 : Shape := ⟨2, ![16, 2048]⟩
abbrev S4096x2048 : Shape := ⟨2, ![4096, 2048]⟩
abbrev S4160x2048 : Shape := ⟨2, ![4160, 2048]⟩
abbrev S2048x2048 : Shape := ⟨2, ![2048, 2048]⟩
abbrev S2048 : Shape := ⟨1, ![2048]⟩
abbrev S4112x2048 : Shape := ⟨2, ![4112, 2048]⟩
abbrev S_ : Shape := ⟨0, ![]⟩
abbrev S4112 : Shape := ⟨1, ![4112]⟩
abbrev S4112x1 : Shape := ⟨2, ![4112, 1]⟩
abbrev S1x2048 : Shape := ⟨2, ![1, 2048]⟩
abbrev S4096 : Shape := ⟨1, ![4096]⟩
abbrev S8x128 : Shape := ⟨2, ![8, 128]⟩

abbrev nBuf : Space → Nat
  | .hbm => 88
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4096x2048, .f32⟩
  | .hbm, ⟨2, _⟩ => ⟨S4160x2048, .bf16⟩
  | .hbm, ⟨3, _⟩ => ⟨S2048x2048, .f32⟩
  | .hbm, ⟨4, _⟩ => ⟨S4096x2048, .f32⟩
  | .hbm, ⟨5, _⟩ => ⟨S2048, .f32⟩
  | .hbm, ⟨6, _⟩ => ⟨S4112x2048, .f32⟩
  | .hbm, ⟨7, _⟩ => ⟨S4112x2048, .bf16⟩
  | .hbm, ⟨8, _⟩ => ⟨S4112x2048, .f32⟩
  | .hbm, ⟨9, _⟩ => ⟨S4112x2048, .f32⟩
  | .hbm, ⟨10, _⟩ => ⟨S4112x2048, .f32⟩
  | .hbm, ⟨11, _⟩ => ⟨S4112x2048, .f32⟩
  | .hbm, ⟨12, _⟩ => ⟨S_, .f32⟩
  | .hbm, ⟨13, _⟩ => ⟨S4112, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S_, .f32⟩
  | .hbm, ⟨19, _⟩ => ⟨S4112x1, .f32⟩
  | .hbm, ⟨20, _⟩ => ⟨S4112x1, .f32⟩
  | .hbm, ⟨21, _⟩ => ⟨S4112x1, .f32⟩
  | .hbm, ⟨22, _⟩ => ⟨S4112x1, .f32⟩
  | .hbm, ⟨23, _⟩ => ⟨S_, .f32⟩
  | .hbm, ⟨24, _⟩ => ⟨S4112x1, .f32⟩
  | .hbm, ⟨25, _⟩ => ⟨S4112x1, .f32⟩
  | .hbm, ⟨26, _⟩ => ⟨S4112x2048, .f32⟩
  | .hbm, ⟨27, _⟩ => ⟨S4112x2048, .f32⟩
  | .hbm, ⟨28, _⟩ => ⟨S1x2048, .f32⟩
  | .hbm, ⟨29, _⟩ => ⟨S4112x2048, .f32⟩
  | .hbm, ⟨30, _⟩ => ⟨S4112x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4112x2048, .f32⟩
  | .hbm, ⟨57, _⟩ => ⟨S4112x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S4112x2048, .f32⟩
  | .hbm, ⟨62, _⟩ => ⟨S4112x2048, .f32⟩
  | .hbm, ⟨63, _⟩ => ⟨S_, .f32⟩
  | .hbm, ⟨64, _⟩ => ⟨S2048, .f32⟩
  | .hbm, ⟨65, _⟩ => ⟨S4112x2048, .f32⟩
  | .hbm, ⟨66, _⟩ => ⟨S_, .f32⟩
  | .hbm, ⟨67, _⟩ => ⟨S4112, .f32⟩
  | .hbm, ⟨68, _⟩ => ⟨S4112x1, .f32⟩
  | .hbm, ⟨69, _⟩ => ⟨S4112x2048, .f32⟩
  | .hbm, ⟨70, _⟩ => ⟨S4112x2048, .f32⟩
  | .hbm, ⟨71, _⟩ => ⟨S4112x1, .f32⟩
  | .hbm, ⟨72, _⟩ => ⟨S_, .f32⟩
  | .hbm, ⟨73, _⟩ => ⟨S4112x1, .f32⟩
  | .hbm, ⟨74, _⟩ => ⟨S4112x1, .f32⟩
  | .hbm, ⟨75, _⟩ => ⟨S_, .f32⟩
  | .hbm, ⟨76, _⟩ => ⟨S4112, .f32⟩
  | .hbm, ⟨77, _⟩ => ⟨S4112x2048, .f32⟩
  | .hbm, ⟨78, _⟩ => ⟨S4112x2048, .f32⟩
  | .hbm, ⟨79, _⟩ => ⟨S4112x2048, .f32⟩
  | .hbm, ⟨80, _⟩ => ⟨S4112x2048, .f32⟩
  | .hbm, ⟨81, _⟩ => ⟨S4112x2048, .f32⟩
  | .hbm, ⟨82, _⟩ => ⟨S_, .i32⟩
  | .hbm, ⟨83, _⟩ => ⟨S_, .f32⟩
  | .hbm, ⟨84, _⟩ => ⟨S4160x2048, .f32⟩
  | .hbm, ⟨85, _⟩ => ⟨S8x128, .f32⟩
  | .hbm, ⟨86, _⟩ => ⟨S4160x2048, .bf16⟩
  | .hbm, ⟨87, _⟩ => ⟨S1x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c : Ref sig .tc := ⟨.hbm, 82, rfl⟩
abbrev main_call0_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]
-- ==== RsWOutAdd.lean ====
abbrev S4x256x2048 : Shape := ⟨3, ![4, 256, 2048]⟩
abbrev S4x128x2048 : Shape := ⟨3, ![4, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .bf16⟩
  | .local _ .vmem, ⟨0, _⟩ => ⟨S4x128x2048, .f32⟩
  | .local _ .vmem, ⟨1, _⟩ => ⟨S4x128x2048, .f32⟩
  | .local _ .vmem, ⟨2, _⟩ => ⟨S4x128x2048, .f32⟩
  | .local _ .vmem, ⟨3, _⟩ => ⟨S4x128x2048, .f32⟩
  | .local _ .vmem, ⟨4, _⟩ => ⟨S4x128x2048, .bf16⟩
  | .local _ .vmem, ⟨5, _⟩ => ⟨S4x128x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RsWOutAddIdeal.lean ====
abbrev S4x256x2048 : Shape := ⟨3, ![4, 256, 2048]⟩
abbrev S4x128x2048 : Shape := ⟨3, ![4, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .bf16⟩
  | .local _ .vmem, ⟨0, _⟩ => ⟨S4x128x2048, .f32⟩
  | .local _ .vmem, ⟨1, _⟩ => ⟨S4x128x2048, .f32⟩
  | .local _ .vmem, ⟨2, _⟩ => ⟨S4x128x2048, .f32⟩
  | .local _ .vmem, ⟨3, _⟩ => ⟨S4x128x2048, .f32⟩
  | .local _ .vmem, ⟨4, _⟩ => ⟨S4x128x2048, .bf16⟩
  | .local _ .vmem, ⟨5, _⟩ => ⟨S4x128x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RsWOutAddRefIdeal.lean ====
abbrev S4x256x2048 : Shape := ⟨3, ![4, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x256x2048, .f32⟩
  | .hbm, ⟨2, _⟩ => ⟨S4x256x2048, .f32⟩
  | .hbm, ⟨3, _⟩ => ⟨S4x256x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RsSmallAdd.lean ====
abbrev S4x32x1024 : Shape := ⟨3, ![4, 32, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x32x1024, .f32⟩
  | .hbm, ⟨1, _⟩ => ⟨S4x32x1024, .f32⟩
  | .hbm, ⟨2, _⟩ => ⟨S4x32x1024, .bf16⟩
  | .local _ .vmem, ⟨0, _⟩ => ⟨S4x32x1024, .f32⟩
  | .local _ .vmem, ⟨1, _⟩ => ⟨S4x32x1024, .f32⟩
  | .local _ .vmem, ⟨2, _⟩ => ⟨S4x32x1024, .bf16⟩
  | _, _ => ⟨S4x32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RsSmallAddIdeal.lean ====
abbrev S4x32x1024 : Shape := ⟨3, ![4, 32, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x32x1024, .f32⟩
  | .hbm, ⟨1, _⟩ => ⟨S4x32x1024, .f32⟩
  | .hbm, ⟨2, _⟩ => ⟨S4x32x1024, .bf16⟩
  | .local _ .vmem, ⟨0, _⟩ => ⟨S4x32x1024, .f32⟩
  | .local _ .vmem, ⟨1, _⟩ => ⟨S4x32x1024, .f32⟩
  | .local _ .vmem, ⟨2, _⟩ => ⟨S4x32x1024, .bf16⟩
  | _, _ => ⟨S4x32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RsSmallAddRefIdeal.lean ====
abbrev S4x32x1024 : Shape := ⟨3, ![4, 32, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x32x1024, .f32⟩
  | .hbm, ⟨1, _⟩ => ⟨S4x32x1024, .f32⟩
  | .hbm, ⟨2, _⟩ => ⟨S4x32x1024, .f32⟩
  | .hbm, ⟨3, _⟩ => ⟨S4x32x1024, .bf16⟩
  | _, _ => ⟨S4x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RsWInSum.lean ====
abbrev S4x1024x2084 : Shape := ⟨3, ![4, 1024, 2084]⟩
abbrev S1024x2084 : Shape := ⟨2, ![1024, 2084]⟩
abbrev S4x128x2084 : Shape := ⟨3, ![4, 128, 2084]⟩
abbrev S128x2084 : Shape := ⟨2, ![128, 2084]⟩
abbrev S1x128x2084 : Shape := ⟨3, ![1, 128, 2084]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2084, .bf16⟩
  | .hbm, ⟨1, _⟩ => ⟨S1024x2084, .f32⟩
  | .local _ .vmem, ⟨0, _⟩ => ⟨S4x128x2084, .bf16⟩
  | .local _ .vmem, ⟨1, _⟩ => ⟨S4x128x2084, .bf16⟩
  | .local _ .vmem, ⟨2, _⟩ => ⟨S128x2084, .f32⟩
  | .local _ .vmem, ⟨3, _⟩ => ⟨S128x2084, .f32⟩
  | _, _ => ⟨S4x1024x2084, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2084 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RsWInSumIdeal.lean ====
abbrev S4x1024x2084 : Shape := ⟨3, ![4, 1024, 2084]⟩
abbrev S1024x2084 : Shape := ⟨2, ![1024, 2084]⟩
abbrev S4x128x2084 : Shape := ⟨3, ![4, 128, 2084]⟩
abbrev S128x2084 : Shape := ⟨2, ![128, 2084]⟩
abbrev S1x128x2084 : Shape := ⟨3, ![1, 128, 2084]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2084, .bf16⟩
  | .hbm, ⟨1, _⟩ => ⟨S1024x2084, .f32⟩
  | .local _ .vmem, ⟨0, _⟩ => ⟨S4x128x2084, .bf16⟩
  | .local _ .vmem, ⟨1, _⟩ => ⟨S4x128x2084, .bf16⟩
  | .local _ .vmem, ⟨2, _⟩ => ⟨S128x2084, .f32⟩
  | .local _ .vmem, ⟨3, _⟩ => ⟨S128x2084, .f32⟩
  | _, _ => ⟨S4x1024x2084, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2084 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RsWInSumRefIdeal.lean ====
abbrev S4x1024x2084 : Shape := ⟨3, ![4, 1024, 2084]⟩
abbrev S_ : Shape := ⟨0, ![]⟩
abbrev S1024x2084 : Shape := ⟨2, ![1024, 2084]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x2084, .bf16⟩
  | .hbm, ⟨1, _⟩ => ⟨S4x1024x2084, .f32⟩
  | .hbm, ⟨2, _⟩ => ⟨S_, .f32⟩
  | .hbm, ⟨3, _⟩ => ⟨S1024x2084, .f32⟩
  | _, _ => ⟨S4x1024x2084, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RsWOutSum.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RsWOutSumIdeal.lean ====
abbrev S4x256x2048 : Shape := ⟨3, ![4, 256, 2048]⟩
abbrev S256x2048 : Shape := ⟨2, ![256, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S128x2048, .f32⟩
  | .local _ .vmem, ⟨3, _⟩ => ⟨S128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RsWOutSumRefIdeal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RsSmallSum.lean ====
abbrev S4x32x1024 : Shape := ⟨3, ![4, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x32x1024, .bf16⟩
  | .hbm, ⟨1, _⟩ => ⟨S32x1024, .f32⟩
  | .local _ .vmem, ⟨0, _⟩ => ⟨S4x32x1024, .bf16⟩
  | .local _ .vmem, ⟨1, _⟩ => ⟨S32x1024, .f32⟩
  | _, _ => ⟨S4x32x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== RsSmallSumIdeal.lean ====
abbrev S4x32x1024 : Shape := ⟨3, ![4, 32, 1024]⟩
abbrev S32x1024 : Shape := ⟨2, ![32, 1024]⟩
abbrev S1x32x1024 : Shape := ⟨3, ![1, 32, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x32x1024, .bf16⟩
  | .hbm, ⟨1, _⟩ => ⟨S32x1024, .f32⟩
  | .local _ .vmem, ⟨0, _⟩ => ⟨S4x32x1024, .bf16⟩
  | .local _ .vmem, ⟨1, _⟩ => ⟨S32x1024, .f32⟩
  | _, _ => ⟨S4x32x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== RsSmallSumRefIdeal.lean ====
abbrev S4x32x1024 : Shape := ⟨3, ![4, 32, 1024]⟩
abbrev S_ : Shape := ⟨0, ![]⟩
abbrev S32x1024 : Shape := ⟨2, ![32, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x32x1024, .bf16⟩
  | .hbm, ⟨1, _⟩ => ⟨S4x32x1024, .f32⟩
  | .hbm, ⟨2, _⟩ => ⟨S_, .f32⟩
  | .hbm, ⟨3, _⟩ => ⟨S32x1024, .f32⟩
  | _, _ => ⟨S4x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamRep.lean ====
abbrev S8x120x128 : Shape := ⟨3, ![8, 120, 128]⟩
abbrev S120x128 : Shape := ⟨2, ![120, 128]⟩
abbrev S1x120x128 : Shape := ⟨3, ![1, 120, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .hbm, ⟨7, _⟩ => ⟨S120x128, .f32⟩
  | .local _ .vmem, ⟨0, _⟩ => ⟨S8x120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | .local _ .vmem, ⟨7, _⟩ => ⟨S120x128, .f32⟩
  | _, _ => ⟨S8x120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRepIdeal.lean ====
abbrev S8x120x128 : Shape := ⟨3, ![8, 120, 128]⟩
abbrev S120x128 : Shape := ⟨2, ![120, 128]⟩
abbrev S1x120x128 : Shape := ⟨3, ![1, 120, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .hbm, ⟨7, _⟩ => ⟨S120x128, .f32⟩
  | .local _ .vmem, ⟨0, _⟩ => ⟨S8x120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | .local _ .vmem, ⟨7, _⟩ => ⟨S120x128, .f32⟩
  | _, _ => ⟨S8x120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S120x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRepRefIdeal.lean ====
abbrev S8x120x128 : Shape := ⟨3, ![8, 120, 128]⟩
abbrev S120x128 : Shape := ⟨2, ![120, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S120x128, .f32⟩
  | .hbm, ⟨6, _⟩ => ⟨S_, .f32⟩
  | .hbm, ⟨7, _⟩ => ⟨S120x128, .f32⟩
  | .hbm, ⟨8, _⟩ => ⟨S120x128, .f32⟩
  | .hbm, ⟨9, _⟩ => ⟨S_, .f32⟩
  | .hbm, ⟨10, _⟩ => ⟨S120x128, .f32⟩
  | .hbm, ⟨11, _⟩ => ⟨S120x128, .f32⟩
  | .hbm, ⟨12, _⟩ => ⟨S120x128, .f32⟩
  | .hbm, ⟨13, _⟩ => ⟨S_, .f32⟩
  | .hbm, ⟨14, _⟩ => ⟨S120x128, .f32⟩
  | .hbm, ⟨15, _⟩ => ⟨S120x128, .f32⟩
  | .hbm, ⟨16, _⟩ => ⟨S120x128, .f32⟩
  | .hbm, ⟨17, _⟩ => ⟨S_, .f32⟩
  | .hbm, ⟨18, _⟩ => ⟨S120x128, .f32⟩
  | .hbm, ⟨19, _⟩ => ⟨S120x128, .f32⟩
  | .hbm, ⟨20, _⟩ => ⟨S120x128, .f32⟩
  | .hbm, ⟨21, _⟩ => ⟨S_, .f32⟩
  | .hbm, ⟨22, _⟩ => ⟨S120x128, .f32⟩
  | .hbm, ⟨23, _⟩ => ⟨S120x128, .f32⟩
  | .hbm, ⟨24, _⟩ => ⟨S_, .f32⟩
  | .hbm, ⟨25, _⟩ => ⟨S120x128, .f32⟩
  | .hbm, ⟨26, _⟩ => ⟨S120x128, .f32⟩
  | .hbm, ⟨27, _⟩ => ⟨S120x128, .f32⟩
  | .hbm, ⟨28, _⟩ => ⟨S_, .f32⟩
  | .hbm, ⟨29, _⟩ => ⟨S120x128, .f32⟩
  | .hbm, ⟨30, _⟩ => ⟨S120x128, .f32⟩
  | .hbm, ⟨31, _⟩ => ⟨S120x128, .f32⟩
  | .hbm, ⟨32, _⟩ => ⟨S_, .f32⟩
  | .hbm, ⟨33, _⟩ => ⟨S120x128, .f32⟩
  | .hbm, ⟨34, _⟩ => ⟨S120x128, .f32⟩
  | .hbm, ⟨35, _⟩ => ⟨S120x128, .f32⟩
  | .hbm, ⟨36, _⟩ => ⟨S_, .f32⟩
  | .hbm, ⟨37, _⟩ => ⟨S120x128, .f32⟩
  | .hbm, ⟨38, _⟩ => ⟨S120x128, .f32⟩
  | _, _ => ⟨S8x120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S1x64x1024 : Shape := ⟨3, ![1, 64, 1024]⟩
abbrev S64x1024 : Shape := ⟨2, ![64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .local _ .vmem, ⟨0, _⟩ => ⟨S1x64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | _, _ => ⟨S1x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
abbrev S1x64x1024 : Shape := ⟨3, ![1, 64, 1024]⟩
abbrev S64x1024 : Shape := ⟨2, ![64, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .hbm, ⟨7, _⟩ => ⟨S64x1024, .f32⟩
  | .local _ .vmem, ⟨0, _⟩ => ⟨S1x64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | _, _ => ⟨S1x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S1x64x1024 : Shape := ⟨3, ![1, 64, 1024]⟩
abbrev S64x1024 : Shape := ⟨2, ![64, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S_, .f32⟩
  | .hbm, ⟨7, _⟩ => ⟨S64x1024, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S64x1024, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x1024, .f32⟩
  | .hbm, ⟨17, _⟩ => ⟨S_, .f32⟩
  | .hbm, ⟨18, _⟩ => ⟨S64x1024, .f32⟩
  | .hbm, ⟨19, _⟩ => ⟨S64x1024, .f32⟩
  | .hbm, ⟨20, _⟩ => ⟨S64x1024, .f32⟩
  | .hbm, ⟨21, _⟩ => ⟨S_, .f32⟩
  | .hbm, ⟨22, _⟩ => ⟨S64x1024, .f32⟩
  | .hbm, ⟨23, _⟩ => ⟨S64x1024, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S64x1024, .f32⟩
  | .hbm, ⟨32, _⟩ => ⟨S_, .f32⟩
  | .hbm, ⟨33, _⟩ => ⟨S64x1024, .f32⟩
  | .hbm, ⟨34, _⟩ => ⟨S64x1024, .f32⟩
  | .hbm, ⟨35, _⟩ => ⟨S64x1024, .f32⟩
  | .hbm, ⟨36, _⟩ => ⟨S_, .f32⟩
  | .hbm, ⟨37, _⟩ => ⟨S64x1024, .f32⟩
  | .hbm, ⟨38, _⟩ => ⟨S64x1024, .f32⟩
  | _, _ => ⟨S1x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWOut.lean ====
abbrev S1x512x2048 : Shape := ⟨3, ![1, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWOutIdeal.lean ====
abbrev S1x512x2048 : Shape := ⟨3, ![1, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWOutRefIdeal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWIn.lean ====
abbrev S1x2048x2084 : Shape := ⟨3, ![1, 2048, 2084]⟩
abbrev S2048x2084 : Shape := ⟨2, ![2048, 2084]⟩
abbrev S1x128x2084 : Shape := ⟨3, ![1, 128, 2084]⟩
abbrev S128x2084 : Shape := ⟨2, ![128, 2084]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2084, .f32⟩
  | .hbm, ⟨1, _⟩ => ⟨S2048x2084, .f32⟩
  | .hbm, ⟨2, _⟩ => ⟨S2048x2084, .f32⟩
  | .hbm, ⟨3, _⟩ => ⟨S2048x2084, .f32⟩
  | .hbm, ⟨4, _⟩ => ⟨S2048x2084, .f32⟩
  | .hbm, ⟨5, _⟩ => ⟨S2048x2084, .f32⟩
  | .hbm, ⟨6, _⟩ => ⟨S2048x2084, .f32⟩
  | .hbm, ⟨7, _⟩ => ⟨S2048x2084, .f32⟩
  | .local _ .vmem, ⟨0, _⟩ => ⟨S1x128x2084, .f32⟩
  | .local _ .vmem, ⟨1, _⟩ => ⟨S1x128x2084, .f32⟩
  | .local _ .vmem, ⟨2, _⟩ => ⟨S128x2084, .f32⟩
  | .local _ .vmem, ⟨3, _⟩ => ⟨S128x2084, .f32⟩
  | .local _ .vmem, ⟨4, _⟩ => ⟨S128x2084, .f32⟩
  | .local _ .vmem, ⟨5, _⟩ => ⟨S128x2084, .f32⟩
  | .local _ .vmem, ⟨6, _⟩ => ⟨S128x2084, .f32⟩
  | .local _ .vmem, ⟨7, _⟩ => ⟨S128x2084, .f32⟩
  | .local _ .vmem, ⟨8, _⟩ => ⟨S128x2084, .f32⟩
  | .local _ .vmem, ⟨9, _⟩ => ⟨S128x2084, .f32⟩
  | .local _ .vmem, ⟨10, _⟩ => ⟨S128x2084, .f32⟩
  | .local _ .vmem, ⟨11, _⟩ => ⟨S128x2084, .f32⟩
  | .local _ .vmem, ⟨12, _⟩ => ⟨S128x2084, .f32⟩
  | .local _ .vmem, ⟨13, _⟩ => ⟨S128x2084, .f32⟩
  | .local _ .vmem, ⟨14, _⟩ => ⟨S128x2084, .f32⟩
  | .local _ .vmem, ⟨15, _⟩ => ⟨S128x2084, .f32⟩
  | _, _ => ⟨S1x2048x2084, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2084 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2084 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2084 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2084 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2084 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2084 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2084 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInIdeal.lean ====
abbrev S1x2048x2084 : Shape := ⟨3, ![1, 2048, 2084]⟩
abbrev S2048x2084 : Shape := ⟨2, ![2048, 2084]⟩
abbrev S1x128x2084 : Shape := ⟨3, ![1, 128, 2084]⟩
abbrev S128x2084 : Shape := ⟨2, ![128, 2084]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2084, .f32⟩
  | .hbm, ⟨1, _⟩ => ⟨S2048x2084, .f32⟩
  | .hbm, ⟨2, _⟩ => ⟨S2048x2084, .f32⟩
  | .hbm, ⟨3, _⟩ => ⟨S2048x2084, .f32⟩
  | .hbm, ⟨4, _⟩ => ⟨S2048x2084, .f32⟩
  | .hbm, ⟨5, _⟩ => ⟨S2048x2084, .f32⟩
  | .hbm, ⟨6, _⟩ => ⟨S2048x2084, .f32⟩
  | .hbm, ⟨7, _⟩ => ⟨S2048x2084, .f32⟩
  | .local _ .vmem, ⟨0, _⟩ => ⟨S1x128x2084, .f32⟩
  | .local _ .vmem, ⟨1, _⟩ => ⟨S1x128x2084, .f32⟩
  | .local _ .vmem, ⟨2, _⟩ => ⟨S128x2084, .f32⟩
  | .local _ .vmem, ⟨3, _⟩ => ⟨S128x2084, .f32⟩
  | .local _ .vmem, ⟨4, _⟩ => ⟨S128x2084, .f32⟩
  | .local _ .vmem, ⟨5, _⟩ => ⟨S128x2084, .f32⟩
  | .local _ .vmem, ⟨6, _⟩ => ⟨S128x2084, .f32⟩
  | .local _ .vmem, ⟨7, _⟩ => ⟨S128x2084, .f32⟩
  | .local _ .vmem, ⟨8, _⟩ => ⟨S128x2084, .f32⟩
  | .local _ .vmem, ⟨9, _⟩ => ⟨S128x2084, .f32⟩
  | .local _ .vmem, ⟨10, _⟩ => ⟨S128x2084, .f32⟩
  | .local _ .vmem, ⟨11, _⟩ => ⟨S128x2084, .f32⟩
  | .local _ .vmem, ⟨12, _⟩ => ⟨S128x2084, .f32⟩
  | .local _ .vmem, ⟨13, _⟩ => ⟨S128x2084, .f32⟩
  | .local _ .vmem, ⟨14, _⟩ => ⟨S128x2084, .f32⟩
  | .local _ .vmem, ⟨15, _⟩ => ⟨S128x2084, .f32⟩
  | _, _ => ⟨S1x2048x2084, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2084 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2084 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2084 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2084 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2084 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2084 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2084 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2084 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInRefIdeal.lean ====
abbrev S1x2048x2084 : Shape := ⟨3, ![1, 2048, 2084]⟩
abbrev S2048x2084 : Shape := ⟨2, ![2048, 2084]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x2084, .f32⟩
  | .hbm, ⟨1, _⟩ => ⟨S2048x2084, .f32⟩
  | .hbm, ⟨2, _⟩ => ⟨S2048x2084, .f32⟩
  | .hbm, ⟨3, _⟩ => ⟨S2048x2084, .f32⟩
  | .hbm, ⟨4, _⟩ => ⟨S_, .f32⟩
  | .hbm, ⟨5, _⟩ => ⟨S2048x2084, .f32⟩
  | .hbm, ⟨6, _⟩ => ⟨S_, .f32⟩
  | .hbm, ⟨7, _⟩ => ⟨S2048x2084, .f32⟩
  | .hbm, ⟨8, _⟩ => ⟨S2048x2084, .f32⟩
  | .hbm, ⟨9, _⟩ => ⟨S_, .f32⟩
  | .hbm, ⟨10, _⟩ => ⟨S2048x2084, .f32⟩
  | .hbm, ⟨11, _⟩ => ⟨S2048x2084, .f32⟩
  | .hbm, ⟨12, _⟩ => ⟨S2048x2084, .f32⟩
  | .hbm, ⟨13, _⟩ => ⟨S_, .f32⟩
  | .hbm, ⟨14, _⟩ => ⟨S2048x2084, .f32⟩
  | .hbm, ⟨15, _⟩ => ⟨S2048x2084, .f32⟩
  | .hbm, ⟨16, _⟩ => ⟨S2048x2084, .f32⟩
  | .hbm, ⟨17, _⟩ => ⟨S_, .f32⟩
  | .hbm, ⟨18, _⟩ => ⟨S2048x2084, .f32⟩
  | .hbm, ⟨19, _⟩ => ⟨S2048x2084, .f32⟩
  | .hbm, ⟨20, _⟩ => ⟨S2048x2084, .f32⟩
  | .hbm, ⟨21, _⟩ => ⟨S_, .f32⟩
  | .hbm, ⟨22, _⟩ => ⟨S2048x2084, .f32⟩
  | .hbm, ⟨23, _⟩ => ⟨S2048x2084, .f32⟩
  | .hbm, ⟨24, _⟩ => ⟨S_, .f32⟩
  | .hbm, ⟨25, _⟩ => ⟨S2048x2084, .f32⟩
  | .hbm, ⟨26, _⟩ => ⟨S2048x2084, .f32⟩
  | .hbm, ⟨27, _⟩ => ⟨S2048x2084, .f32⟩
  | .hbm, ⟨28, _⟩ => ⟨S_, .f32⟩
  | .hbm, ⟨29, _⟩ => ⟨S2048x2084, .f32⟩
  | .hbm, ⟨30, _⟩ => ⟨S2048x2084, .f32⟩
  | .hbm, ⟨31, _⟩ => ⟨S2048x2084, .f32⟩
  | .hbm, ⟨32, _⟩ => ⟨S_, .f32⟩
  | .hbm, ⟨33, _⟩ => ⟨S2048x2084, .f32⟩
  | .hbm, ⟨34, _⟩ => ⟨S2048x2084, .f32⟩
  | .hbm, ⟨35, _⟩ => ⟨S2048x2084, .f32⟩
  | .hbm, ⟨36, _⟩ => ⟨S_, .f32⟩
  | .hbm, ⟨37, _⟩ => ⟨S2048x2084, .f32⟩
  | .hbm, ⟨38, _⟩ => ⟨S2048x2084, .f32⟩
  | _, _ => ⟨S1x2048x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== RsWInSib.lean ====
abbrev S2048x8448 : Shape := ⟨2, ![2048, 8448]⟩
abbrev S1x1024x8448 : Shape := ⟨3, ![1, 1024, 8448]⟩
abbrev S8 : Shape := ⟨1, ![8]⟩
abbrev S1 : Shape := ⟨1, ![1]⟩
abbrev S_ : Shape := ⟨0, ![]⟩
abbrev S1024x8448 : Shape := ⟨2, ![1024, 8448]⟩
abbrev S128x8448 : Shape := ⟨2, ![128, 8448]⟩

abbrev nBuf : Space → Nat
  | .hbm => 2
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S1x1024x8448, .f32⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_off1 (d0 : Dev nD) : Fin 2 → Nat :=
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1024_i32 : BitVec 32 := 1024#32
  let v4 : BitVec 32 := Scalar.muli v3 c1024_i32
  let c0_i32_16 : BitVec 32 := 0#32
  ![v4.toNat, 0]
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_10 : BitVec 32 := 1#32
  let v16 : BitVec 32 := Scalar.muli v15 c1_i32_10
  let v17 : BitVec 32 := Scalar.addi c0_i32_11 v16
  v17.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_22 : BitVec 32 := 1#32
  let v27 : BitVec 32 := Scalar.muli v15 c1_i32_22
  let v28 : BitVec 32 := Scalar.addi c0_i32_23 v27
  v28.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_33 : BitVec 32 := 1#32
  let v38 : BitVec 32 := Scalar.muli v15 c1_i32_33
  let v39 : BitVec 32 := Scalar.addi c0_i32_34 v38
  v39.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_43 : BitVec 32 := 1#32
  let v49 : BitVec 32 := Scalar.muli v15 c1_i32_43
  let v50 : BitVec 32 := Scalar.addi c0_i32_44 v49
  v50.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_53 : BitVec 32 := 1#32
  let v60 : BitVec 32 := Scalar.muli v15 c1_i32_53
  let v61 : BitVec 32 := Scalar.addi c0_i32_54 v60
  v61.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_63 : BitVec 32 := 1#32
  let v71 : BitVec 32 := Scalar.muli v15 c1_i32_63
  let v72 : BitVec 32 := Scalar.addi c0_i32_64 v71
  v72.toNat
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_73 : BitVec 32 := 1#32
  let v82 : BitVec 32 := Scalar.muli v15 c1_i32_73
  let v83 : BitVec 32 := Scalar.addi c0_i32_74 v82
  v83.toNat
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_1 : BitVec 32 := 1#32
  let v5 : BitVec 32 := Scalar.addi v2 c1_i32_1
  let c2_i32_2 : BitVec 32 := 2#32
  let c0_i32 : BitVec 32 := 0#32
  let v6 : BitVec 1 := Scalar.cmpi .eq c2_i32_2 c0_i32
  let c1_i32_3 : BitVec 32 := 1#32
  let v7 : BitVec 32 := Scalar.select v6 c1_i32_3 c2_i32_2
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_83 : BitVec 32 := 1#32
  let v93 : BitVec 32 := Scalar.muli v15 c1_i32_83
  let v94 : BitVec 32 := Scalar.addi c0_i32_84 v93
  v94.toNat
-- ==== RsWInSibRefIdeal.lean ====
abbrev S4096x8448 : Shape := ⟨2, ![4096, 8448]⟩
abbrev S2x2x1024x8448 : Shape := ⟨4, ![2, 2, 1024, 8448]⟩
abbrev S1x1x1024x8448 : Shape := ⟨4, ![1, 1, 1024, 8448]⟩
abbrev S1024x8448 : Shape := ⟨2, ![1024, 8448]⟩
abbrev S1x1024x8448 : Shape := ⟨3, ![1, 1024, 8448]⟩
abbrev S2x1024x8448 : Shape := ⟨3, ![2, 1024, 8448]⟩

abbrev nBuf : Space → Nat
  | .hbm => 9
  | .vmem => 0
  | .smem => 0
  | _ => 0

abbrev bufTy : (tb : Table) → Fin (tcTables nBuf tb) → BufTy
  | .hbm, ⟨0, _⟩ => ⟨S4096x8448, .f32⟩
  | .hbm, ⟨1, _⟩ => ⟨S2x2x1024x8448, .f32⟩
  | .hbm, ⟨2, _⟩ => ⟨S1x1x1024x8448, .f32⟩
  | .hbm, ⟨3, _⟩ => ⟨S1024x8448, .f32⟩
  | .hbm, ⟨4, _⟩ => ⟨S1x1x1024x8448, .f32⟩
  | .hbm, ⟨5, _⟩ => ⟨S1024x8448, .f32⟩
  | .hbm, ⟨6, _⟩ => ⟨S1x1024x8448, .f32⟩
  | .hbm, ⟨7, _⟩ => ⟨S1x1024x8448, .f32⟩
  | .hbm, ⟨8, _⟩ => ⟨S2x1024x8448, .f32⟩
  | _, _ => ⟨S4096x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== RsWOutSib.lean ====
abbrev S4x256x2048 : Shape := ⟨3, ![4, 256, 2048]⟩
abbrev S1x4x256x2048 : Shape := ⟨4, ![1, 4, 256, 2048]⟩
abbrev S4 : Shape := ⟨1, ![4]⟩
abbrev S1 : Shape := ⟨1, ![1]⟩
abbrev S_ : Shape := ⟨0, ![]⟩
abbrev S1x256x2048 : Shape := ⟨3, ![1, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x4x256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9 : BitVec 32 := 1#32
  let v14 : BitVec 32 := Scalar.muli v13 c1_i32_9
  let v15 : BitVec 32 := Scalar.addi c0_i32_10 v14
  v15.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v24 : BitVec 32 := Scalar.muli v13 c1_i32_23
  let v25 : BitVec 32 := Scalar.addi c0_i32_24 v24
  v25.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v34 : BitVec 32 := Scalar.muli v13 c1_i32_37
  let v35 : BitVec 32 := Scalar.addi c0_i32_38 v34
  v35.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v44 : BitVec 32 := Scalar.muli v13 c1_i32_50
  let v45 : BitVec 32 := Scalar.addi c0_i32_51 v44
  v45.toNat
-- ==== RsWOutSibIdeal.lean ====
abbrev S4x256x2048 : Shape := ⟨3, ![4, 256, 2048]⟩
abbrev S1x4x256x2048 : Shape := ⟨4, ![1, 4, 256, 2048]⟩
abbrev S4 : Shape := ⟨1, ![4]⟩
abbrev S1 : Shape := ⟨1, ![1]⟩
abbrev S_ : Shape := ⟨0, ![]⟩
abbrev S1x256x2048 : Shape := ⟨3, ![1, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x4x256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9 : BitVec 32 := 1#32
  let v14 : BitVec 32 := Scalar.muli v13 c1_i32_9
  let v15 : BitVec 32 := Scalar.addi c0_i32_10 v14
  v15.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v24 : BitVec 32 := Scalar.muli v13 c1_i32_23
  let v25 : BitVec 32 := Scalar.addi c0_i32_24 v24
  v25.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v34 : BitVec 32 := Scalar.muli v13 c1_i32_37
  let v35 : BitVec 32 := Scalar.addi c0_i32_38 v34
  v35.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v44 : BitVec 32 := Scalar.muli v13 c1_i32_50
  let v45 : BitVec 32 := Scalar.addi c0_i32_51 v44
  v45.toNat
-- ==== RsWOutSibRefIdeal.lean ====
abbrev S8x256x2048 : Shape := ⟨3, ![8, 256, 2048]⟩
abbrev S4x256x2048 : Shape := ⟨3, ![4, 256, 2048]⟩
abbrev S1x4x256x2048 : Shape := ⟨4, ![1, 4, 256, 2048]⟩
abbrev S2x4x256x2048 : Shape := ⟨4, ![2, 4, 256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S4x256x2048, .f32⟩
  | .hbm, ⟨2, _⟩ => ⟨S4x256x2048, .f32⟩
  | .hbm, ⟨3, _⟩ => ⟨S1x4x256x2048, .f32⟩
  | .hbm, ⟨4, _⟩ => ⟨S1x4x256x2048, .f32⟩
  | .hbm, ⟨5, _⟩ => ⟨S2x4x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== RsWInCores.lean ====
abbrev S1024x2084 : Shape := ⟨2, ![1024, 2084]⟩
abbrev S2x1024x2084 : Shape := ⟨3, ![2, 1024, 2084]⟩
abbrev S8 : Shape := ⟨1, ![8]⟩
abbrev S1 : Shape := ⟨1, ![1]⟩
abbrev S_ : Shape := ⟨0, ![]⟩
abbrev S1x1024x2084 : Shape := ⟨3, ![1, 1024, 2084]⟩
abbrev S128x2084 : Shape := ⟨2, ![128, 2084]⟩

abbrev nBuf : Space → Nat
  | .hbm => 17
  | .vmem => 0
  | .smem => 0
  | _ => 0

abbrev bufTy : (tb : Table) → Fin (tcTables nBuf tb) → BufTy
  | .hbm, ⟨0, _⟩ => ⟨S1024x2084, .f32⟩
  | .hbm, ⟨1, _⟩ => ⟨S2x1024x2084, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x2084, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x2084, .f32⟩
  | _, _ => ⟨S1024x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v24 : BitVec 32 := Scalar.muli v13 c1_i32_18
  let v25 : BitVec 32 := Scalar.addi c0_i32_19 v24
  v25.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v34 : BitVec 32 := Scalar.muli v13 c1_i32_27
  let v35 : BitVec 32 := Scalar.addi c0_i32_28 v34
  v35.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v44 : BitVec 32 := Scalar.muli v13 c1_i32_35
  let v45 : BitVec 32 := Scalar.addi c0_i32_36 v44
  v45.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v54 : BitVec 32 := Scalar.muli v13 c1_i32_43
  let v55 : BitVec 32 := Scalar.addi c0_i32_44 v54
  v55.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v64 : BitVec 32 := Scalar.muli v13 c1_i32_51
  let v65 : BitVec 32 := Scalar.addi c0_i32_52 v64
  v65.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v74 : BitVec 32 := Scalar.muli v13 c1_i32_59
  let v75 : BitVec 32 := Scalar.addi c0_i32_60 v74
  v75.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v84 : BitVec 32 := Scalar.muli v13 c1_i32_67
  let v85 : BitVec 32 := Scalar.addi c0_i32_68 v84
  v85.toNat
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_74 : BitVec 32 := 1#32
  let v94 : BitVec 32 := Scalar.addi v2 c1_i32_74
  let c2_i32_75 : BitVec 32 := 2#32
  let c0_i32_76 : BitVec 32 := 0#32
  let v95 : BitVec 1 := Scalar.cmpi .eq c2_i32_75 c0_i32_76
  let c1_i32_77 : BitVec 32 := 1#32
  let v96 : BitVec 32 := Scalar.select v95 c1_i32_77 c2_i32_75
  let v97 : BitVec 32 := Scalar.remsi v94 v96
  let c0_i32_79 : BitVec 32 := 0#32
  let v99 : BitVec 1 := Scalar.cmpi .slt v97 c0_i32_79
  let c0_i32_80 : BitVec 32 := 0#32
  let v100 : BitVec 1 := Scalar.cmpi .slt v96 c0_i32_80
  let v101 : BitVec 1 := Scalar.xori v99 v100
  let c0_i32_78 : BitVec 32 := 0#32
  let v98 : BitVec 1 := Scalar.cmpi .ne v97 c0_i32_78
  let v102 : BitVec 1 := Scalar.andi v101 v98
  let v103 : BitVec 32 := Scalar.addi v97 v96
  let v104 : BitVec 32 := Scalar.select v102 v103 v97
  let c0_i32_85 : BitVec 32 := 0#32
  let c0_i32_86 : BitVec 32 := 0#32
  ![v104.toNat, 0, 0]
-- ==== RsWInCoresIdeal.lean ====
abbrev S1024x2084 : Shape := ⟨2, ![1024, 2084]⟩
abbrev S2x1024x2084 : Shape := ⟨3, ![2, 1024, 2084]⟩
abbrev S8 : Shape := ⟨1, ![8]⟩
abbrev S1 : Shape := ⟨1, ![1]⟩
abbrev S_ : Shape := ⟨0, ![]⟩
abbrev S1x1024x2084 : Shape := ⟨3, ![1, 1024, 2084]⟩
abbrev S128x2084 : Shape := ⟨2, ![128, 2084]⟩

abbrev nBuf : Space → Nat
  | .hbm => 17
  | .vmem => 0
  | .smem => 0
  | _ => 0

abbrev bufTy : (tb : Table) → Fin (tcTables nBuf tb) → BufTy
  | .hbm, ⟨0, _⟩ => ⟨S1024x2084, .f32⟩
  | .hbm, ⟨1, _⟩ => ⟨S2x1024x2084, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x2084, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x2084, .f32⟩
  | _, _ => ⟨S1024x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v24 : BitVec 32 := Scalar.muli v13 c1_i32_18
  let v25 : BitVec 32 := Scalar.addi c0_i32_19 v24
  v25.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v34 : BitVec 32 := Scalar.muli v13 c1_i32_27
  let v35 : BitVec 32 := Scalar.addi c0_i32_28 v34
  v35.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v44 : BitVec 32 := Scalar.muli v13 c1_i32_35
  let v45 : BitVec 32 := Scalar.addi c0_i32_36 v44
  v45.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v54 : BitVec 32 := Scalar.muli v13 c1_i32_43
  let v55 : BitVec 32 := Scalar.addi c0_i32_44 v54
  v55.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v64 : BitVec 32 := Scalar.muli v13 c1_i32_51
  let v65 : BitVec 32 := Scalar.addi c0_i32_52 v64
  v65.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v74 : BitVec 32 := Scalar.muli v13 c1_i32_59
  let v75 : BitVec 32 := Scalar.addi c0_i32_60 v74
  v75.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v84 : BitVec 32 := Scalar.muli v13 c1_i32_67
  let v85 : BitVec 32 := Scalar.addi c0_i32_68 v84
  v85.toNat
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_74 : BitVec 32 := 1#32
  let v94 : BitVec 32 := Scalar.addi v2 c1_i32_74
  let c2_i32_75 : BitVec 32 := 2#32
  let c0_i32_76 : BitVec 32 := 0#32
  let v95 : BitVec 1 := Scalar.cmpi .eq c2_i32_75 c0_i32_76
  let c1_i32_77 : BitVec 32 := 1#32
  let v96 : BitVec 32 := Scalar.select v95 c1_i32_77 c2_i32_75
  let v97 : BitVec 32 := Scalar.remsi v94 v96
  let c0_i32_79 : BitVec 32 := 0#32
  let v99 : BitVec 1 := Scalar.cmpi .slt v97 c0_i32_79
  let c0_i32_80 : BitVec 32 := 0#32
  let v100 : BitVec 1 := Scalar.cmpi .slt v96 c0_i32_80
  let v101 : BitVec 1 := Scalar.xori v99 v100
  let c0_i32_78 : BitVec 32 := 0#32
  let v98 : BitVec 1 := Scalar.cmpi .ne v97 c0_i32_78
  let v102 : BitVec 1 := Scalar.andi v101 v98
  let v103 : BitVec 32 := Scalar.addi v97 v96
  let v104 : BitVec 32 := Scalar.select v102 v103 v97
  let c0_i32_85 : BitVec 32 := 0#32
  let c0_i32_86 : BitVec 32 := 0#32
  ![v104.toNat, 0, 0]
-- ==== RsWInCoresRefIdeal.lean ====
abbrev S2048x2084 : Shape := ⟨2, ![2048, 2084]⟩
abbrev S2x1024x2084 : Shape := ⟨3, ![2, 1024, 2084]⟩

abbrev nBuf : Space → Nat
  | .hbm => 2
  | .vmem => 0
  | .smem => 0
  | _ => 0

abbrev bufTy : (tb : Table) → Fin (tcTables nBuf tb) → BufTy
  | .hbm, ⟨0, _⟩ => ⟨S2048x2084, .f32⟩
  | .hbm, ⟨1, _⟩ => ⟨S2x1024x2084, .f32⟩
  | _, _ => ⟨S2048x2084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== RsSmallSib.lean ====
abbrev S4x32x1024 : Shape := ⟨3, ![4, 32, 1024]⟩
abbrev S1x4x32x1024 : Shape := ⟨4, ![1, 4, 32, 1024]⟩
abbrev S4 : Shape := ⟨1, ![4]⟩
abbrev S1 : Shape := ⟨1, ![1]⟩
abbrev S_ : Shape := ⟨0, ![]⟩
abbrev S1x32x1024 : Shape := ⟨3, ![1, 32, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x32x1024, .f32⟩
  | .hbm, ⟨1, _⟩ => ⟨S1x4x32x1024, .f32⟩
  | _, _ => ⟨S4x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9 : BitVec 32 := 1#32
  let v14 : BitVec 32 := Scalar.muli v13 c1_i32_9
  let v15 : BitVec 32 := Scalar.addi c0_i32_10 v14
  v15.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v24 : BitVec 32 := Scalar.muli v13 c1_i32_23
  let v25 : BitVec 32 := Scalar.addi c0_i32_24 v24
  v25.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v34 : BitVec 32 := Scalar.muli v13 c1_i32_37
  let v35 : BitVec 32 := Scalar.addi c0_i32_38 v34
  v35.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v44 : BitVec 32 := Scalar.muli v13 c1_i32_50
  let v45 : BitVec 32 := Scalar.addi c0_i32_51 v44
  v45.toNat
-- ==== RsSmallSibIdeal.lean ====
abbrev S4x32x1024 : Shape := ⟨3, ![4, 32, 1024]⟩
abbrev S1x4x32x1024 : Shape := ⟨4, ![1, 4, 32, 1024]⟩
abbrev S4 : Shape := ⟨1, ![4]⟩
abbrev S1 : Shape := ⟨1, ![1]⟩
abbrev S_ : Shape := ⟨0, ![]⟩
abbrev S1x32x1024 : Shape := ⟨3, ![1, 32, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x32x1024, .f32⟩
  | .hbm, ⟨1, _⟩ => ⟨S1x4x32x1024, .f32⟩
  | _, _ => ⟨S4x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9 : BitVec 32 := 1#32
  let v14 : BitVec 32 := Scalar.muli v13 c1_i32_9
  let v15 : BitVec 32 := Scalar.addi c0_i32_10 v14
  v15.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v24 : BitVec 32 := Scalar.muli v13 c1_i32_23
  let v25 : BitVec 32 := Scalar.addi c0_i32_24 v24
  v25.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v34 : BitVec 32 := Scalar.muli v13 c1_i32_37
  let v35 : BitVec 32 := Scalar.addi c0_i32_38 v34
  v35.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v44 : BitVec 32 := Scalar.muli v13 c1_i32_50
  let v45 : BitVec 32 := Scalar.addi c0_i32_51 v44
  v45.toNat
-- ==== RsSmallSibRefIdeal.lean ====
abbrev S8x32x1024 : Shape := ⟨3, ![8, 32, 1024]⟩
abbrev S4x32x1024 : Shape := ⟨3, ![4, 32, 1024]⟩
abbrev S1x4x32x1024 : Shape := ⟨4, ![1, 4, 32, 1024]⟩
abbrev S2x4x32x1024 : Shape := ⟨4, ![2, 4, 32, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S4x32x1024, .f32⟩
  | .hbm, ⟨2, _⟩ => ⟨S4x32x1024, .f32⟩
  | .hbm, ⟨3, _⟩ => ⟨S1x4x32x1024, .f32⟩
  | .hbm, ⟨4, _⟩ => ⟨S1x4x32x1024, .f32⟩
  | .hbm, ⟨5, _⟩ => ⟨S2x4x32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== RsSmallCores.lean ====
abbrev S32x1024 : Shape := ⟨2, ![32, 1024]⟩
abbrev S2x32x1024 : Shape := ⟨3, ![2, 32, 1024]⟩
abbrev S1 : Shape := ⟨1, ![1]⟩
abbrev S_ : Shape := ⟨0, ![]⟩
abbrev S1x32x1024 : Shape := ⟨3, ![1, 32, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x32x1024, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_16 : BitVec 32 := 1#32
  let v24 : BitVec 32 := Scalar.addi v2 c1_i32_16
  let c2_i32_17 : BitVec 32 := 2#32
  let c0_i32_18 : BitVec 32 := 0#32
  let v25 : BitVec 1 := Scalar.cmpi .eq c2_i32_17 c0_i32_18
  let c1_i32_19 : BitVec 32 := 1#32
  let v26 : BitVec 32 := Scalar.select v25 c1_i32_19 c2_i32_17
  let v27 : BitVec 32 := Scalar.remsi v24 v26
  let c0_i32_21 : BitVec 32 := 0#32
  let v29 : BitVec 1 := Scalar.cmpi .slt v27 c0_i32_21
  let c0_i32_22 : BitVec 32 := 0#32
  let v30 : BitVec 1 := Scalar.cmpi .slt v26 c0_i32_22
  let v31 : BitVec 1 := Scalar.xori v29 v30
  let c0_i32_20 : BitVec 32 := 0#32
  let v28 : BitVec 1 := Scalar.cmpi .ne v27 c0_i32_20
  let v32 : BitVec 1 := Scalar.andi v31 v28
  let v33 : BitVec 32 := Scalar.addi v27 v26
  let v34 : BitVec 32 := Scalar.select v32 v33 v27
  let c0_i32_27 : BitVec 32 := 0#32
  let c0_i32_28 : BitVec 32 := 0#32
  ![v34.toNat, 0, 0]
-- ==== RsSmallCoresIdeal.lean ====
abbrev S32x1024 : Shape := ⟨2, ![32, 1024]⟩
abbrev S2x32x1024 : Shape := ⟨3, ![2, 32, 1024]⟩
abbrev S1 : Shape := ⟨1, ![1]⟩
abbrev S_ : Shape := ⟨0, ![]⟩
abbrev S1x32x1024 : Shape := ⟨3, ![1, 32, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x1024, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x32x1024, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_16 : BitVec 32 := 1#32
  let v24 : BitVec 32 := Scalar.addi v2 c1_i32_16
  let c2_i32_17 : BitVec 32 := 2#32
  let c0_i32_18 : BitVec 32 := 0#32
  let v25 : BitVec 1 := Scalar.cmpi .eq c2_i32_17 c0_i32_18
  let c1_i32_19 : BitVec 32 := 1#32
  let v26 : BitVec 32 := Scalar.select v25 c1_i32_19 c2_i32_17
  let v27 : BitVec 32 := Scalar.remsi v24 v26
  let c0_i32_21 : BitVec 32 := 0#32
  let v29 : BitVec 1 := Scalar.cmpi .slt v27 c0_i32_21
  let c0_i32_22 : BitVec 32 := 0#32
  let v30 : BitVec 1 := Scalar.cmpi .slt v26 c0_i32_22
  let v31 : BitVec 1 := Scalar.xori v29 v30
  let c0_i32_20 : BitVec 32 := 0#32
  let v28 : BitVec 1 := Scalar.cmpi .ne v27 c0_i32_20
  let v32 : BitVec 1 := Scalar.andi v31 v28
  let v33 : BitVec 32 := Scalar.addi v27 v26
  let v34 : BitVec 32 := Scalar.select v32 v33 v27
  let c0_i32_27 : BitVec 32 := 0#32
  let c0_i32_28 : BitVec 32 := 0#32
  ![v34.toNat, 0, 0]
-- ==== RsSmallCoresRefIdeal.lean ====
abbrev S64x1024 : Shape := ⟨2, ![64, 1024]⟩
abbrev S2x32x1024 : Shape := ⟨3, ![2, 32, 1024]⟩

abbrev nBuf : Space → Nat
  | .hbm => 2
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S2x32x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== RsWOutCores.lean ====
abbrev S256x2048 : Shape := ⟨2, ![256, 2048]⟩
abbrev S2x256x2048 : Shape := ⟨3, ![2, 256, 2048]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S32x2048 : Shape := ⟨2, ![32, 2048]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x256x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x256x2048, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v24 : BitVec 32 := Scalar.muli v13 c1_i32_18
  let v25 : BitVec 32 := Scalar.addi c0_i32_19 v24
  v25.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v34 : BitVec 32 := Scalar.muli v13 c1_i32_27
  let v35 : BitVec 32 := Scalar.addi c0_i32_28 v34
  v35.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v44 : BitVec 32 := Scalar.muli v13 c1_i32_35
  let v45 : BitVec 32 := Scalar.addi c0_i32_36 v44
  v45.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v54 : BitVec 32 := Scalar.muli v13 c1_i32_43
  let v55 : BitVec 32 := Scalar.addi c0_i32_44 v54
  v55.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v64 : BitVec 32 := Scalar.muli v13 c1_i32_51
  let v65 : BitVec 32 := Scalar.addi c0_i32_52 v64
  v65.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v74 : BitVec 32 := Scalar.muli v13 c1_i32_59
  let v75 : BitVec 32 := Scalar.addi c0_i32_60 v74
  v75.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v84 : BitVec 32 := Scalar.muli v13 c1_i32_67
  let v85 : BitVec 32 := Scalar.addi c0_i32_68 v84
  v85.toNat
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_74 : BitVec 32 := 1#32
  let v94 : BitVec 32 := Scalar.addi v2 c1_i32_74
  let c2_i32_75 : BitVec 32 := 2#32
  let c0_i32_76 : BitVec 32 := 0#32
  let v95 : BitVec 1 := Scalar.cmpi .eq c2_i32_75 c0_i32_76
  let c1_i32_77 : BitVec 32 := 1#32
  let v96 : BitVec 32 := Scalar.select v95 c1_i32_77 c2_i32_75
  let v97 : BitVec 32 := Scalar.remsi v94 v96
  let c0_i32_79 : BitVec 32 := 0#32
  let v99 : BitVec 1 := Scalar.cmpi .slt v97 c0_i32_79
  let c0_i32_80 : BitVec 32 := 0#32
  let v100 : BitVec 1 := Scalar.cmpi .slt v96 c0_i32_80
  let v101 : BitVec 1 := Scalar.xori v99 v100
  let c0_i32_78 : BitVec 32 := 0#32
  let v98 : BitVec 1 := Scalar.cmpi .ne v97 c0_i32_78
  let v102 : BitVec 1 := Scalar.andi v101 v98
  let v103 : BitVec 32 := Scalar.addi v97 v96
  let v104 : BitVec 32 := Scalar.select v102 v103 v97
  let c0_i32_85 : BitVec 32 := 0#32
  let c0_i32_86 : BitVec 32 := 0#32
  ![v104.toNat, 0, 0]
-- ==== RsWOutCoresIdeal.lean ====
abbrev S256x2048 : Shape := ⟨2, ![256, 2048]⟩
abbrev S2x256x2048 : Shape := ⟨3, ![2, 256, 2048]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S32x2048 : Shape := ⟨2, ![32, 2048]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2x256x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x256x2048, .f32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v24 : BitVec 32 := Scalar.muli v13 c1_i32_18
  let v25 : BitVec 32 := Scalar.addi c0_i32_19 v24
  v25.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v34 : BitVec 32 := Scalar.muli v13 c1_i32_27
  let v35 : BitVec 32 := Scalar.addi c0_i32_28 v34
  v35.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v44 : BitVec 32 := Scalar.muli v13 c1_i32_35
  let v45 : BitVec 32 := Scalar.addi c0_i32_36 v44
  v45.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v54 : BitVec 32 := Scalar.muli v13 c1_i32_43
  let v55 : BitVec 32 := Scalar.addi c0_i32_44 v54
  v55.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v64 : BitVec 32 := Scalar.muli v13 c1_i32_51
  let v65 : BitVec 32 := Scalar.addi c0_i32_52 v64
  v65.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v74 : BitVec 32 := Scalar.muli v13 c1_i32_59
  let v75 : BitVec 32 := Scalar.addi c0_i32_60 v74
  v75.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v84 : BitVec 32 := Scalar.muli v13 c1_i32_67
  let v85 : BitVec 32 := Scalar.addi c0_i32_68 v84
  v85.toNat
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_74 : BitVec 32 := 1#32
  let v94 : BitVec 32 := Scalar.addi v2 c1_i32_74
  let c2_i32_75 : BitVec 32 := 2#32
  let c0_i32_76 : BitVec 32 := 0#32
  let v95 : BitVec 1 := Scalar.cmpi .eq c2_i32_75 c0_i32_76
  let c1_i32_77 : BitVec 32 := 1#32
  let v96 : BitVec 32 := Scalar.select v95 c1_i32_77 c2_i32_75
  let v97 : BitVec 32 := Scalar.remsi v94 v96
  let c0_i32_79 : BitVec 32 := 0#32
  let v99 : BitVec 1 := Scalar.cmpi .slt v97 c0_i32_79
  let c0_i32_80 : BitVec 32 := 0#32
  let v100 : BitVec 1 := Scalar.cmpi .slt v96 c0_i32_80
  let v101 : BitVec 1 := Scalar.xori v99 v100
  let c0_i32_78 : BitVec 32 := 0#32
  let v98 : BitVec 1 := Scalar.cmpi .ne v97 c0_i32_78
  let v102 : BitVec 1 := Scalar.andi v101 v98
  let v103 : BitVec 32 := Scalar.addi v97 v96
  let v104 : BitVec 32 := Scalar.select v102 v103 v97
  let c0_i32_85 : BitVec 32 := 0#32
  let c0_i32_86 : BitVec 32 := 0#32
  ![v104.toNat, 0, 0]
-- ==== RsWOutCoresRefIdeal.lean ====
abbrev S512x2048 : Shape := ⟨2, ![512, 2048]⟩
abbrev S2x256x2048 : Shape := ⟨3, ![2, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x256x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherWInCores.lean ====
abbrev S1024x8448 : Shape := ⟨2, ![1024, 8448]⟩
abbrev S2x1024x8448 : Shape := ⟨3, ![2, 1024, 8448]⟩
abbrev S4 : Shape := ⟨1, ![4]⟩
abbrev S1 : Shape := ⟨1, ![1]⟩
abbrev S_ : Shape := ⟨0, ![]⟩
abbrev S1x1024x8448 : Shape := ⟨3, ![1, 1024, 8448]⟩
abbrev S256x8448 : Shape := ⟨2, ![256, 8448]⟩
abbrev S1x256x8448 : Shape := ⟨3, ![1, 256, 8448]⟩

abbrev nBuf : Space → Nat
  | .hbm => 17
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S2x1024x8448, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x8448, .bf16⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x8448, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_off3 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_21 : BitVec 32 := 0#32
  ![v2.toNat, 256, 0]
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v24 : BitVec 32 := Scalar.muli v13 c1_i32_18
  let v25 : BitVec 32 := Scalar.addi c0_i32_19 v24
  v25.toNat
def k0_off4 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_30 : BitVec 32 := 0#32
  ![v2.toNat, 512, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v34 : BitVec 32 := Scalar.muli v13 c1_i32_27
  let v35 : BitVec 32 := Scalar.addi c0_i32_28 v34
  v35.toNat
def k0_off5 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_38 : BitVec 32 := 0#32
  ![v2.toNat, 768, 0]
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v44 : BitVec 32 := Scalar.muli v13 c1_i32_35
  let v45 : BitVec 32 := Scalar.addi c0_i32_36 v44
  v45.toNat
def k0_off6 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_53 : BitVec 32 := 0#32
  let c0_i32_54 : BitVec 32 := 0#32
  ![v64.toNat, 0, 0]
def k0_off7 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_53 : BitVec 32 := 0#32
  let c0_i32_54 : BitVec 32 := 0#32
  ![v64.toNat, 0, 0]
def k0_off8 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_64 : BitVec 32 := 0#32
  ![v64.toNat, 256, 0]
def k0_off9 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_74 : BitVec 32 := 0#32
  ![v64.toNat, 512, 0]
def k0_off10 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_84 : BitVec 32 := 0#32
  ![v64.toNat, 768, 0]
-- ==== GatherWInCoresIdeal.lean ====
abbrev S1024x8448 : Shape := ⟨2, ![1024, 8448]⟩
abbrev S2x1024x8448 : Shape := ⟨3, ![2, 1024, 8448]⟩
abbrev S4 : Shape := ⟨1, ![4]⟩
abbrev S1 : Shape := ⟨1, ![1]⟩
abbrev S_ : Shape := ⟨0, ![]⟩
abbrev S1x1024x8448 : Shape := ⟨3, ![1, 1024, 8448]⟩
abbrev S256x8448 : Shape := ⟨2, ![256, 8448]⟩
abbrev S1x256x8448 : Shape := ⟨3, ![1, 256, 8448]⟩

abbrev nBuf : Space → Nat
  | .hbm => 17
  | .vmem => 0
  | .smem => 0
  | _ => 0

abbrev bufTy : (tb : Table) → Fin (tcTables nBuf tb) → BufTy
  | .hbm, ⟨0, _⟩ => ⟨S1024x8448, .bf16⟩
  | .hbm, ⟨1, _⟩ => ⟨S2x1024x8448, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x1024x8448, .bf16⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2x1024x8448, .bf16⟩
  | _, _ => ⟨S1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_v6 : Ref sig .tc := ⟨.hbm, 16, rfl⟩

abbrev nD : Nat := 2
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_off2 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  ![v2.toNat, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_off3 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_21 : BitVec 32 := 0#32
  ![v2.toNat, 256, 0]
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18 : BitVec 32 := 1#32
  let v24 : BitVec 32 := Scalar.muli v13 c1_i32_18
  let v25 : BitVec 32 := Scalar.addi c0_i32_19 v24
  v25.toNat
def k0_off4 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_30 : BitVec 32 := 0#32
  ![v2.toNat, 512, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v34 : BitVec 32 := Scalar.muli v13 c1_i32_27
  let v35 : BitVec 32 := Scalar.addi c0_i32_28 v34
  v35.toNat
def k0_off5 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_38 : BitVec 32 := 0#32
  ![v2.toNat, 768, 0]
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_35 : BitVec 32 := 1#32
  let v44 : BitVec 32 := Scalar.muli v13 c1_i32_35
  let v45 : BitVec 32 := Scalar.addi c0_i32_36 v44
  v45.toNat
def k0_off6 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_53 : BitVec 32 := 0#32
  let c0_i32_54 : BitVec 32 := 0#32
  ![v64.toNat, 0, 0]
def k0_off7 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_53 : BitVec 32 := 0#32
  let c0_i32_54 : BitVec 32 := 0#32
  ![v64.toNat, 0, 0]
def k0_off8 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_64 : BitVec 32 := 0#32
  ![v64.toNat, 256, 0]
def k0_off9 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_74 : BitVec 32 := 0#32
  ![v64.toNat, 512, 0]
def k0_off10 (d0 : Dev nD) : Fin 3 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_42 : BitVec 32 := 1#32
  let v54 : BitVec 32 := Scalar.addi v2 c1_i32_42
  let c2_i32_43 : BitVec 32 := 2#32
  let c0_i32_44 : BitVec 32 := 0#32
  let v55 : BitVec 1 := Scalar.cmpi .eq c2_i32_43 c0_i32_44
  let c1_i32_45 : BitVec 32 := 1#32
  let v56 : BitVec 32 := Scalar.select v55 c1_i32_45 c2_i32_43
  let v57 : BitVec 32 := Scalar.remsi v54 v56
  let c0_i32_47 : BitVec 32 := 0#32
  let v59 : BitVec 1 := Scalar.cmpi .slt v57 c0_i32_47
  let c0_i32_48 : BitVec 32 := 0#32
  let v60 : BitVec 1 := Scalar.cmpi .slt v56 c0_i32_48
  let v61 : BitVec 1 := Scalar.xori v59 v60
  let c0_i32_46 : BitVec 32 := 0#32
  let v58 : BitVec 1 := Scalar.cmpi .ne v57 c0_i32_46
  let v62 : BitVec 1 := Scalar.andi v61 v58
  let v63 : BitVec 32 := Scalar.addi v57 v56
  let v64 : BitVec 32 := Scalar.select v62 v63 v57
  let c0_i32_84 : BitVec 32 := 0#32
  ![v64.toNat, 768, 0]
-- ==== GatherWInCoresRefIdeal.lean ====
abbrev S2048x8448 : Shape := ⟨2, ![2048, 8448]⟩
abbrev S2x1024x8448 : Shape := ⟨3, ![2, 1024, 8448]⟩

abbrev nBuf : Space → Nat
  | .hbm => 2
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S2x1024x8448, .bf16⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherWOutCores.lean ====
abbrev S4x256x2048 : Shape := ⟨3, ![4, 256, 2048]⟩
abbrev S2x4x256x2048 : Shape := ⟨4, ![2, 4, 256, 2048]⟩
abbrev S4 : Shape := ⟨1, ![4]⟩
abbrev S1 : Shape := ⟨1, ![1]⟩
abbrev S_ : Shape := ⟨0, ![]⟩
abbrev S1x4x256x2048 : Shape := ⟨4, ![1, 4, 256, 2048]⟩
abbrev S1x256x2048 : Shape := ⟨3, ![1, 256, 2048]⟩
abbrev S1x1x256x2048 : Shape := ⟨4, ![1, 1, 256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S2x4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1x4x256x2048, .bf16⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S2x4x256x2048, .bf16⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_c_1 : Ref sig .tc := ⟨.hbm, 14, rfl⟩
abbrev main_call0_c_2 : Ref sig .tc := ⟨.hbm, 15, rfl⟩
abbrev main_call0_c_3 : Ref sig .tc := ⟨.hbm, 16, rfl⟩
abbrev main_v6 : Ref sig .tc := ⟨.hbm, 17, rfl⟩

abbrev nD : Nat := 2
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  let c0_i32_12 : BitVec 32 := 0#32
  ![v2.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_10 : BitVec 32 := 0#32
  let c0_i32_11 : BitVec 32 := 0#32
  let c0_i32_12 : BitVec 32 := 0#32
  ![v2.toNat, 0, 0, 0]
def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8 : BitVec 32 := 1#32
  let v14 : BitVec 32 := Scalar.muli v13 c1_i32_8
  let v15 : BitVec 32 := Scalar.addi c0_i32_9 v14
  v15.toNat
def k0_off3 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_24 : BitVec 32 := 0#32
  let c0_i32_25 : BitVec 32 := 0#32
  ![v2.toNat, 1, 0, 0]
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v24 : BitVec 32 := Scalar.muli v13 c1_i32_21
  let v25 : BitVec 32 := Scalar.addi c0_i32_22 v24
  v25.toNat
def k0_off4 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_37 : BitVec 32 := 0#32
  let c0_i32_38 : BitVec 32 := 0#32
  ![v2.toNat, 2, 0, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_34 : BitVec 32 := 1#32
  let v34 : BitVec 32 := Scalar.muli v13 c1_i32_34
  let v35 : BitVec 32 := Scalar.addi c0_i32_35 v34
  v35.toNat
def k0_off5 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c0_i32_49 : BitVec 32 := 0#32
  let c0_i32_50 : BitVec 32 := 0#32
  ![v2.toNat, 3, 0, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_0 : BitVec 32 := 1#32
  let v3 : BitVec 32 := Scalar.addi v2 c1_i32_0
  let c2_i32_1 : BitVec 32 := 2#32
  let c0_i32 : BitVec 32 := 0#32
  let v4 : BitVec 1 := Scalar.cmpi .eq c2_i32_1 c0_i32
  let c1_i32_2 : BitVec 32 := 1#32
  let v5 : BitVec 32 := Scalar.select v4 c1_i32_2 c2_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_46 : BitVec 32 := 1#32
  let v44 : BitVec 32 := Scalar.muli v13 c1_i32_46
  let v45 : BitVec 32 := Scalar.addi c0_i32_47 v44
  v45.toNat
def k0_off6 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_57 : BitVec 32 := 1#32
  let v54 : BitVec 32 := Scalar.addi v2 c1_i32_57
  let c2_i32_58 : BitVec 32 := 2#32
  let c0_i32_59 : BitVec 32 := 0#32
  let v55 : BitVec 1 := Scalar.cmpi .eq c2_i32_58 c0_i32_59
  let c1_i32_60 : BitVec 32 := 1#32
  let v56 : BitVec 32 := Scalar.select v55 c1_i32_60 c2_i32_58
  let v57 : BitVec 32 := Scalar.remsi v54 v56
  let c0_i32_62 : BitVec 32 := 0#32
  let v59 : BitVec 1 := Scalar.cmpi .slt v57 c0_i32_62
  let c0_i32_63 : BitVec 32 := 0#32
  let v60 : BitVec 1 := Scalar.cmpi .slt v56 c0_i32_63
  let v61 : BitVec 1 := Scalar.xori v59 v60
  let c0_i32_61 : BitVec 32 := 0#32
  let v58 : BitVec 1 := Scalar.cmpi .ne v57 c0_i32_61
  let v62 : BitVec 1 := Scalar.andi v61 v58
  let v63 : BitVec 32 := Scalar.addi v57 v56
  let v64 : BitVec 32 := Scalar.select v62 v63 v57
  let c0_i32_68 : BitVec 32 := 0#32
  let c0_i32_69 : BitVec 32 := 0#32
  let c0_i32_70 : BitVec 32 := 0#32
  ![v64.toNat, 0, 0, 0]
def k0_off7 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_57 : BitVec 32 := 1#32
  let v54 : BitVec 32 := Scalar.addi v2 c1_i32_57
  let c2_i32_58 : BitVec 32 := 2#32
  let c0_i32_59 : BitVec 32 := 0#32
  let v55 : BitVec 1 := Scalar.cmpi .eq c2_i32_58 c0_i32_59
  let c1_i32_60 : BitVec 32 := 1#32
  let v56 : BitVec 32 := Scalar.select v55 c1_i32_60 c2_i32_58
  let v57 : BitVec 32 := Scalar.remsi v54 v56
  let c0_i32_62 : BitVec 32 := 0#32
  let v59 : BitVec 1 := Scalar.cmpi .slt v57 c0_i32_62
  let c0_i32_63 : BitVec 32 := 0#32
  let v60 : BitVec 1 := Scalar.cmpi .slt v56 c0_i32_63
  let v61 : BitVec 1 := Scalar.xori v59 v60
  let c0_i32_61 : BitVec 32 := 0#32
  let v58 : BitVec 1 := Scalar.cmpi .ne v57 c0_i32_61
  let v62 : BitVec 1 := Scalar.andi v61 v58
  let v63 : BitVec 32 := Scalar.addi v57 v56
  let v64 : BitVec 32 := Scalar.select v62 v63 v57
  let c0_i32_68 : BitVec 32 := 0#32
  let c0_i32_69 : BitVec 32 := 0#32
  let c0_i32_70 : BitVec 32 := 0#32
  ![v64.toNat, 0, 0, 0]
def k0_off8 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_57 : BitVec 32 := 1#32
  let v54 : BitVec 32 := Scalar.addi v2 c1_i32_57
  let c2_i32_58 : BitVec 32 := 2#32
  let c0_i32_59 : BitVec 32 := 0#32
  let v55 : BitVec 1 := Scalar.cmpi .eq c2_i32_58 c0_i32_59
  let c1_i32_60 : BitVec 32 := 1#32
  let v56 : BitVec 32 := Scalar.select v55 c1_i32_60 c2_i32_58
  let v57 : BitVec 32 := Scalar.remsi v54 v56
  let c0_i32_62 : BitVec 32 := 0#32
  let v59 : BitVec 1 := Scalar.cmpi .slt v57 c0_i32_62
  let c0_i32_63 : BitVec 32 := 0#32
  let v60 : BitVec 1 := Scalar.cmpi .slt v56 c0_i32_63
  let v61 : BitVec 1 := Scalar.xori v59 v60
  let c0_i32_61 : BitVec 32 := 0#32
  let v58 : BitVec 1 := Scalar.cmpi .ne v57 c0_i32_61
  let v62 : BitVec 1 := Scalar.andi v61 v58
  let v63 : BitVec 32 := Scalar.addi v57 v56
  let v64 : BitVec 32 := Scalar.select v62 v63 v57
  let c0_i32_82 : BitVec 32 := 0#32
  let c0_i32_83 : BitVec 32 := 0#32
  ![v64.toNat, 1, 0, 0]
def k0_off9 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_57 : BitVec 32 := 1#32
  let v54 : BitVec 32 := Scalar.addi v2 c1_i32_57
  let c2_i32_58 : BitVec 32 := 2#32
  let c0_i32_59 : BitVec 32 := 0#32
  let v55 : BitVec 1 := Scalar.cmpi .eq c2_i32_58 c0_i32_59
  let c1_i32_60 : BitVec 32 := 1#32
  let v56 : BitVec 32 := Scalar.select v55 c1_i32_60 c2_i32_58
  let v57 : BitVec 32 := Scalar.remsi v54 v56
  let c0_i32_62 : BitVec 32 := 0#32
  let v59 : BitVec 1 := Scalar.cmpi .slt v57 c0_i32_62
  let c0_i32_63 : BitVec 32 := 0#32
  let v60 : BitVec 1 := Scalar.cmpi .slt v56 c0_i32_63
  let v61 : BitVec 1 := Scalar.xori v59 v60
  let c0_i32_61 : BitVec 32 := 0#32
  let v58 : BitVec 1 := Scalar.cmpi .ne v57 c0_i32_61
  let v62 : BitVec 1 := Scalar.andi v61 v58
  let v63 : BitVec 32 := Scalar.addi v57 v56
  let v64 : BitVec 32 := Scalar.select v62 v63 v57
  let c0_i32_95 : BitVec 32 := 0#32
  let c0_i32_96 : BitVec 32 := 0#32
  ![v64.toNat, 2, 0, 0]
def k0_off10 (d0 : Dev nD) : Fin 4 → Nat :=
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let c1_i32_57 : BitVec 32 := 1#32
  let v54 : BitVec 32 := Scalar.addi v2 c1_i32_57
  let c2_i32_58 : BitVec 32 := 2#32
  let c0_i32_59 : BitVec 32 := 0#32
  let v55 : BitVec 1 := Scalar.cmpi .eq c2_i32_58 c0_i32_59
  let c1_i32_60 : BitVec 32 := 1#32
  let v56 : BitVec 32 := Scalar.select v55 c1_i32_60 c2_i32_58
  let v57 : BitVec 32 := Scalar.remsi v54 v56
  let c0_i32_62 : BitVec 32 := 0#32
  let v59 : BitVec 1 := Scalar.cmpi .slt v57 c0_i32_62
  let c0_i32_63 : BitVec 32 := 0#32
  let v60 : BitVec 1 := Scalar.cmpi .slt v56 c0_i32_63
  let v61 : BitVec 1 := Scalar.xori v59 v60
  let c0_i32_61 : BitVec 32 := 0#32
  let v58 : BitVec 1 := Scalar.cmpi .ne v57 c0_i32_61
  let v62 : BitVec 1 := Scalar.andi v61 v58
  let v63 : BitVec 32 := Scalar.addi v57 v56
  let v64 : BitVec 32 := Scalar.select v62 v63 v57
  let c0_i32_108 : BitVec 32 := 0#32
  let c0_i32_109 : BitVec 32 := 0#32
  ![v64.toNat, 3, 0, 0]
-- ==== GatherWOutCoresRefIdeal.lean ====
abbrev S8x256x2048 : Shape := ⟨3, ![8, 256, 2048]⟩
abbrev S2x4x256x2048 : Shape := ⟨4, ![2, 4, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2x4x256x2048, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== RsSmallChips.lean ====
abbrev S4x32x1024 : Shape := ⟨3, ![4, 32, 1024]⟩
abbrev S3 : Shape := ⟨1, ![3]⟩
abbrev S1 : Shape := ⟨1, ![1]⟩
abbrev S_ : Shape := ⟨0, ![]⟩
abbrev S1x32x1024 : Shape := ⟨3, ![1, 32, 1024]⟩
abbrev S32x1024 : Shape := ⟨2, ![32, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x32x1024, .bf16⟩
  | .hbm, ⟨1, _⟩ => ⟨S4x32x1024, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x32x1024, .bf16⟩
  | .hbm, ⟨25, _⟩ => ⟨S32x1024, .bf16⟩
  | .hbm, ⟨26, _⟩ => ⟨S1x32x1024, .bf16⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x32x1024, .bf16⟩
  | _, _ => ⟨S4x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_c_0 : Ref sig .tc := ⟨.hbm, 19, rfl⟩
abbrev main_call0_v1 : Ref sig .tc := ⟨.hbm, 20, rfl⟩
abbrev main_call0_v2 : Ref sig .tc := ⟨.hbm, 21, rfl⟩
abbrev main_call0_c_1 : Ref sig .tc := ⟨.hbm, 22, rfl⟩
abbrev main_call0_c_2 : Ref sig .tc := ⟨.hbm, 23, rfl⟩
abbrev main_call0_v3 : Ref sig .tc := ⟨.hbm, 24, rfl⟩
abbrev main_v12 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_v13 : Ref sig .tc := ⟨.hbm, 34, rfl⟩

abbrev nD : Nat := 4
abbrev τ : Topo := Topo.v7x

variable {F : FTy → Type} [FloatOps F]

abbrev grid0 : Pipeline.Grid := .none

def k0_off1 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_off2 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off2_at (r : Fin 3) : BitVec 32 × BitVec 32 :=
  if r.val < 1 then
    (1#32, 0#32)
  else
    if r.val < 2 then
      (0#32, 1#32)
    else
      (1#32, 1#32)
def k0_dev1 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_52 : BitVec 32 := 2#32
  let v86 : BitVec 32 := Scalar.muli v18 c2_i32_52
  let v87 : BitVec 32 := Scalar.addi c0_i32_53 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_54 : BitVec 32 := 1#32
  let v88 : BitVec 32 := Scalar.muli v29 c1_i32_54
  let v89 : BitVec 32 := Scalar.addi v87 v88
  v89.toNat
def k0_dev2 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_65 : BitVec 32 := 2#32
  let v100 : BitVec 32 := Scalar.muli v44 c2_i32_65
  let v101 : BitVec 32 := Scalar.addi c0_i32_66 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_67 : BitVec 32 := 1#32
  let v102 : BitVec 32 := Scalar.muli v55 c1_i32_67
  let v103 : BitVec 32 := Scalar.addi v101 v102
  v103.toNat
def k0_dev3 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_78 : BitVec 32 := 2#32
  let v114 : BitVec 32 := Scalar.muli v70 c2_i32_78
  let v115 : BitVec 32 := Scalar.addi c0_i32_79 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_80 : BitVec 32 := 1#32
  let v116 : BitVec 32 := Scalar.muli v81 c1_i32_80
  let v117 : BitVec 32 := Scalar.addi v115 v116
  v117.toNat
-- ==== RsSmallChipsIdeal.lean ====
abbrev S4x32x1024 : Shape := ⟨3, ![4, 32, 1024]⟩
abbrev S3 : Shape := ⟨1, ![3]⟩
abbrev S1 : Shape := ⟨1, ![1]⟩
abbrev S_ : Shape := ⟨0, ![]⟩
abbrev S1x32x1024 : Shape := ⟨3, ![1, 32, 1024]⟩
abbrev S32x1024 : Shape := ⟨2, ![32, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x32x1024, .bf16⟩
  | .hbm, ⟨1, _⟩ => ⟨S4x32x1024, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x32x1024, .bf16⟩
  | .hbm, ⟨25, _⟩ => ⟨S32x1024, .bf16⟩
  | .hbm, ⟨26, _⟩ => ⟨S1x32x1024, .bf16⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x32x1024, .bf16⟩
  | _, _ => ⟨S4x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_c_0 : Ref sig .tc := ⟨.hbm, 19, rfl⟩
abbrev main_call0_v1 : Ref sig .tc := ⟨.hbm, 20, rfl⟩
abbrev main_call0_v2 : Ref sig .tc := ⟨.hbm, 21, rfl⟩
abbrev main_call0_c_1 : Ref sig .tc := ⟨.hbm, 22, rfl⟩
abbrev main_call0_c_2 : Ref sig .tc := ⟨.hbm, 23, rfl⟩
abbrev main_call0_v3 : Ref sig .tc := ⟨.hbm, 24, rfl⟩
abbrev main_v12 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_v13 : Ref sig .tc := ⟨.hbm, 34, rfl⟩

abbrev nD : Nat := 4
abbrev τ : Topo := Topo.v7x

variable {F : FTy → Type} [FloatOps F]

abbrev grid0 : Pipeline.Grid := .none

def k0_off1 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_off2 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off2_at (r : Fin 3) : BitVec 32 × BitVec 32 :=
  if r.val < 1 then
    (1#32, 0#32)
  else
    if r.val < 2 then
      (0#32, 1#32)
    else
      (1#32, 1#32)
def k0_dev1 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_52 : BitVec 32 := 2#32
  let v86 : BitVec 32 := Scalar.muli v18 c2_i32_52
  let v87 : BitVec 32 := Scalar.addi c0_i32_53 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_54 : BitVec 32 := 1#32
  let v88 : BitVec 32 := Scalar.muli v29 c1_i32_54
  let v89 : BitVec 32 := Scalar.addi v87 v88
  v89.toNat
def k0_dev2 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_65 : BitVec 32 := 2#32
  let v100 : BitVec 32 := Scalar.muli v44 c2_i32_65
  let v101 : BitVec 32 := Scalar.addi c0_i32_66 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_67 : BitVec 32 := 1#32
  let v102 : BitVec 32 := Scalar.muli v55 c1_i32_67
  let v103 : BitVec 32 := Scalar.addi v101 v102
  v103.toNat
def k0_dev3 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_78 : BitVec 32 := 2#32
  let v114 : BitVec 32 := Scalar.muli v70 c2_i32_78
  let v115 : BitVec 32 := Scalar.addi c0_i32_79 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_80 : BitVec 32 := 1#32
  let v116 : BitVec 32 := Scalar.muli v81 c1_i32_80
  let v117 : BitVec 32 := Scalar.addi v115 v116
  v117.toNat
-- ==== RsSmallChipsRefIdeal.lean ====
abbrev S16x32x1024 : Shape := ⟨3, ![16, 32, 1024]⟩
abbrev S4x4x32x1024 : Shape := ⟨4, ![4, 4, 32, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16x32x1024, .bf16⟩
  | .hbm, ⟨1, _⟩ => ⟨S4x4x32x1024, .bf16⟩
  | .hbm, ⟨2, _⟩ => ⟨S4x4x32x1024, .bf16⟩
  | .hbm, ⟨3, _⟩ => ⟨S16x32x1024, .bf16⟩
  | _, _ => ⟨S16x32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== RsWOutChips.lean ====
abbrev S4x256x2048 : Shape := ⟨3, ![4, 256, 2048]⟩
abbrev S24 : Shape := ⟨1, ![24]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S32x2048 : Shape := ⟨2, ![32, 2048]⟩
abbrev S1x32x2048 : Shape := ⟨3, ![1, 32, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x256x2048, .bf16⟩
  | .hbm, ⟨25, _⟩ => ⟨S256x2048, .bf16⟩
  | .hbm, ⟨26, _⟩ => ⟨S1x256x2048, .bf16⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x256x2048, .bf16⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_c_0 : Ref sig .tc := ⟨.hbm, 19, rfl⟩
abbrev main_call0_v1 : Ref sig .tc := ⟨.hbm, 20, rfl⟩
abbrev main_call0_v2 : Ref sig .tc := ⟨.hbm, 21, rfl⟩
abbrev main_call0_c_1 : Ref sig .tc := ⟨.hbm, 22, rfl⟩
abbrev main_call0_c_2 : Ref sig .tc := ⟨.hbm, 23, rfl⟩
abbrev main_call0_v3 : Ref sig .tc := ⟨.hbm, 24, rfl⟩
abbrev main_v12 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_v13 : Ref sig .tc := ⟨.hbm, 34, rfl⟩

abbrev nD : Nat := 4
abbrev τ : Topo := Topo.v7x

variable {F : FTy → Type} [FloatOps F]

abbrev grid0 : Pipeline.Grid := .none

def k0_off1 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_off2 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off2_at (r : Fin 3) : BitVec 32 × BitVec 32 :=
  if r.val < 1 then
    (1#32, 0#32)
  else
    if r.val < 2 then
      (0#32, 1#32)
    else
      (1#32, 1#32)
def k0_off3 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off3_at (r : Fin 3) : BitVec 32 × BitVec 32 :=
  if r.val < 1 then
    (1#32, 0#32)
  else
    if r.val < 2 then
      (0#32, 1#32)
    else
      (1#32, 1#32)
def k0_off4 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_dev1 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_52 : BitVec 32 := 2#32
  let v86 : BitVec 32 := Scalar.muli v18 c2_i32_52
  let v87 : BitVec 32 := Scalar.addi c0_i32_53 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_54 : BitVec 32 := 1#32
  let v88 : BitVec 32 := Scalar.muli v29 c1_i32_54
  let v89 : BitVec 32 := Scalar.addi v87 v88
  v89.toNat
def k0_off5 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_72 : BitVec 32 := 0#32
  ![v31.toNat, 32, 0]
def k0_off5_at (r : Fin 3) : BitVec 32 × BitVec 32 :=
  if r.val < 1 then
    (1#32, 0#32)
  else
    if r.val < 2 then
      (0#32, 1#32)
    else
      (1#32, 1#32)
def k0_off6 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_69 : BitVec 32 := 0#32
  ![v33.toNat, 32, 0]
def k0_dev2 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_65 : BitVec 32 := 2#32
  let v100 : BitVec 32 := Scalar.muli v18 c2_i32_65
  let v101 : BitVec 32 := Scalar.addi c0_i32_66 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_67 : BitVec 32 := 1#32
  let v102 : BitVec 32 := Scalar.muli v29 c1_i32_67
  let v103 : BitVec 32 := Scalar.addi v101 v102
  v103.toNat
def k0_off7 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_84 : BitVec 32 := 0#32
  ![v31.toNat, 64, 0]
def k0_off7_at (r : Fin 3) : BitVec 32 × BitVec 32 :=
  if r.val < 1 then
    (1#32, 0#32)
  else
    if r.val < 2 then
      (0#32, 1#32)
    else
      (1#32, 1#32)
def k0_off8 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_81 : BitVec 32 := 0#32
  ![v33.toNat, 64, 0]
def k0_dev3 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_77 : BitVec 32 := 2#32
  let v114 : BitVec 32 := Scalar.muli v18 c2_i32_77
  let v115 : BitVec 32 := Scalar.addi c0_i32_78 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_79 : BitVec 32 := 1#32
  let v116 : BitVec 32 := Scalar.muli v29 c1_i32_79
  let v117 : BitVec 32 := Scalar.addi v115 v116
  v117.toNat
def k0_off9 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_95 : BitVec 32 := 0#32
  ![v31.toNat, 96, 0]
def k0_off9_at (r : Fin 3) : BitVec 32 × BitVec 32 :=
  if r.val < 1 then
    (1#32, 0#32)
  else
    if r.val < 2 then
      (0#32, 1#32)
    else
      (1#32, 1#32)
def k0_off10 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_92 : BitVec 32 := 0#32
  ![v33.toNat, 96, 0]
def k0_dev4 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_88 : BitVec 32 := 2#32
  let v128 : BitVec 32 := Scalar.muli v18 c2_i32_88
  let v129 : BitVec 32 := Scalar.addi c0_i32_89 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_90 : BitVec 32 := 1#32
  let v130 : BitVec 32 := Scalar.muli v29 c1_i32_90
  let v131 : BitVec 32 := Scalar.addi v129 v130
  v131.toNat
def k0_off11 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_106 : BitVec 32 := 0#32
  ![v31.toNat, 128, 0]
def k0_off11_at (r : Fin 3) : BitVec 32 × BitVec 32 :=
  if r.val < 1 then
    (1#32, 0#32)
  else
    if r.val < 2 then
      (0#32, 1#32)
    else
      (1#32, 1#32)
def k0_off12 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_103 : BitVec 32 := 0#32
  ![v33.toNat, 128, 0]
def k0_dev5 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_99 : BitVec 32 := 2#32
  let v142 : BitVec 32 := Scalar.muli v18 c2_i32_99
  let v143 : BitVec 32 := Scalar.addi c0_i32_100 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_101 : BitVec 32 := 1#32
  let v144 : BitVec 32 := Scalar.muli v29 c1_i32_101
  let v145 : BitVec 32 := Scalar.addi v143 v144
  v145.toNat
def k0_off13 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_117 : BitVec 32 := 0#32
  ![v31.toNat, 160, 0]
def k0_off13_at (r : Fin 3) : BitVec 32 × BitVec 32 :=
  if r.val < 1 then
    (1#32, 0#32)
  else
    if r.val < 2 then
      (0#32, 1#32)
    else
      (1#32, 1#32)
def k0_off14 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_114 : BitVec 32 := 0#32
  ![v33.toNat, 160, 0]
def k0_dev6 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_110 : BitVec 32 := 2#32
  let v156 : BitVec 32 := Scalar.muli v18 c2_i32_110
  let v157 : BitVec 32 := Scalar.addi c0_i32_111 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_112 : BitVec 32 := 1#32
  let v158 : BitVec 32 := Scalar.muli v29 c1_i32_112
  let v159 : BitVec 32 := Scalar.addi v157 v158
  v159.toNat
def k0_off15 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_128 : BitVec 32 := 0#32
  ![v31.toNat, 192, 0]
def k0_off15_at (r : Fin 3) : BitVec 32 × BitVec 32 :=
  if r.val < 1 then
    (1#32, 0#32)
  else
    if r.val < 2 then
      (0#32, 1#32)
    else
      (1#32, 1#32)
def k0_off16 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_125 : BitVec 32 := 0#32
  ![v33.toNat, 192, 0]
def k0_dev7 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_121 : BitVec 32 := 2#32
  let v170 : BitVec 32 := Scalar.muli v18 c2_i32_121
  let v171 : BitVec 32 := Scalar.addi c0_i32_122 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_123 : BitVec 32 := 1#32
  let v172 : BitVec 32 := Scalar.muli v29 c1_i32_123
  let v173 : BitVec 32 := Scalar.addi v171 v172
  v173.toNat
def k0_off17 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_139 : BitVec 32 := 0#32
  ![v31.toNat, 224, 0]
def k0_off17_at (r : Fin 3) : BitVec 32 × BitVec 32 :=
  if r.val < 1 then
    (1#32, 0#32)
  else
    if r.val < 2 then
      (0#32, 1#32)
    else
      (1#32, 1#32)
def k0_off18 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_136 : BitVec 32 := 0#32
  ![v33.toNat, 224, 0]
def k0_dev8 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_132 : BitVec 32 := 2#32
  let v184 : BitVec 32 := Scalar.muli v18 c2_i32_132
  let v185 : BitVec 32 := Scalar.addi c0_i32_133 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_134 : BitVec 32 := 1#32
  let v186 : BitVec 32 := Scalar.muli v29 c1_i32_134
  let v187 : BitVec 32 := Scalar.addi v185 v186
  v187.toNat
def k0_dev9 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_143 : BitVec 32 := 2#32
  let v198 : BitVec 32 := Scalar.muli v44 c2_i32_143
  let v199 : BitVec 32 := Scalar.addi c0_i32_144 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_145 : BitVec 32 := 1#32
  let v200 : BitVec 32 := Scalar.muli v55 c1_i32_145
  let v201 : BitVec 32 := Scalar.addi v199 v200
  v201.toNat
def k0_dev10 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_155 : BitVec 32 := 2#32
  let v212 : BitVec 32 := Scalar.muli v44 c2_i32_155
  let v213 : BitVec 32 := Scalar.addi c0_i32_156 v212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_157 : BitVec 32 := 1#32
  let v214 : BitVec 32 := Scalar.muli v55 c1_i32_157
  let v215 : BitVec 32 := Scalar.addi v213 v214
  v215.toNat
def k0_dev11 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_167 : BitVec 32 := 2#32
  let v226 : BitVec 32 := Scalar.muli v44 c2_i32_167
  let v227 : BitVec 32 := Scalar.addi c0_i32_168 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_169 : BitVec 32 := 1#32
  let v228 : BitVec 32 := Scalar.muli v55 c1_i32_169
  let v229 : BitVec 32 := Scalar.addi v227 v228
  v229.toNat
def k0_dev12 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_179 : BitVec 32 := 2#32
  let v240 : BitVec 32 := Scalar.muli v44 c2_i32_179
  let v241 : BitVec 32 := Scalar.addi c0_i32_180 v240
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_181 : BitVec 32 := 1#32
  let v242 : BitVec 32 := Scalar.muli v55 c1_i32_181
  let v243 : BitVec 32 := Scalar.addi v241 v242
  v243.toNat
def k0_dev13 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_191 : BitVec 32 := 2#32
  let v254 : BitVec 32 := Scalar.muli v44 c2_i32_191
  let v255 : BitVec 32 := Scalar.addi c0_i32_192 v254
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_193 : BitVec 32 := 1#32
  let v256 : BitVec 32 := Scalar.muli v55 c1_i32_193
  let v257 : BitVec 32 := Scalar.addi v255 v256
  v257.toNat
def k0_dev14 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_203 : BitVec 32 := 2#32
  let v268 : BitVec 32 := Scalar.muli v44 c2_i32_203
  let v269 : BitVec 32 := Scalar.addi c0_i32_204 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_205 : BitVec 32 := 1#32
  let v270 : BitVec 32 := Scalar.muli v55 c1_i32_205
  let v271 : BitVec 32 := Scalar.addi v269 v270
  v271.toNat
def k0_dev15 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_215 : BitVec 32 := 2#32
  let v282 : BitVec 32 := Scalar.muli v44 c2_i32_215
  let v283 : BitVec 32 := Scalar.addi c0_i32_216 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_217 : BitVec 32 := 1#32
  let v284 : BitVec 32 := Scalar.muli v55 c1_i32_217
  let v285 : BitVec 32 := Scalar.addi v283 v284
  v285.toNat
def k0_dev16 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_227 : BitVec 32 := 2#32
  let v296 : BitVec 32 := Scalar.muli v44 c2_i32_227
  let v297 : BitVec 32 := Scalar.addi c0_i32_228 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_229 : BitVec 32 := 1#32
  let v298 : BitVec 32 := Scalar.muli v55 c1_i32_229
  let v299 : BitVec 32 := Scalar.addi v297 v298
  v299.toNat
def k0_dev17 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_239 : BitVec 32 := 2#32
  let v310 : BitVec 32 := Scalar.muli v70 c2_i32_239
  let v311 : BitVec 32 := Scalar.addi c0_i32_240 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_241 : BitVec 32 := 1#32
  let v312 : BitVec 32 := Scalar.muli v81 c1_i32_241
  let v313 : BitVec 32 := Scalar.addi v311 v312
  v313.toNat
def k0_dev18 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_251 : BitVec 32 := 2#32
  let v324 : BitVec 32 := Scalar.muli v70 c2_i32_251
  let v325 : BitVec 32 := Scalar.addi c0_i32_252 v324
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_253 : BitVec 32 := 1#32
  let v326 : BitVec 32 := Scalar.muli v81 c1_i32_253
  let v327 : BitVec 32 := Scalar.addi v325 v326
  v327.toNat
def k0_dev19 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_263 : BitVec 32 := 2#32
  let v338 : BitVec 32 := Scalar.muli v70 c2_i32_263
  let v339 : BitVec 32 := Scalar.addi c0_i32_264 v338
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_265 : BitVec 32 := 1#32
  let v340 : BitVec 32 := Scalar.muli v81 c1_i32_265
  let v341 : BitVec 32 := Scalar.addi v339 v340
  v341.toNat
def k0_dev20 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_275 : BitVec 32 := 2#32
  let v352 : BitVec 32 := Scalar.muli v70 c2_i32_275
  let v353 : BitVec 32 := Scalar.addi c0_i32_276 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_277 : BitVec 32 := 1#32
  let v354 : BitVec 32 := Scalar.muli v81 c1_i32_277
  let v355 : BitVec 32 := Scalar.addi v353 v354
  v355.toNat
def k0_dev21 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_287 : BitVec 32 := 2#32
  let v366 : BitVec 32 := Scalar.muli v70 c2_i32_287
  let v367 : BitVec 32 := Scalar.addi c0_i32_288 v366
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_289 : BitVec 32 := 1#32
  let v368 : BitVec 32 := Scalar.muli v81 c1_i32_289
  let v369 : BitVec 32 := Scalar.addi v367 v368
  v369.toNat
def k0_dev22 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_299 : BitVec 32 := 2#32
  let v380 : BitVec 32 := Scalar.muli v70 c2_i32_299
  let v381 : BitVec 32 := Scalar.addi c0_i32_300 v380
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_301 : BitVec 32 := 1#32
  let v382 : BitVec 32 := Scalar.muli v81 c1_i32_301
  let v383 : BitVec 32 := Scalar.addi v381 v382
  v383.toNat
def k0_dev23 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_311 : BitVec 32 := 2#32
  let v394 : BitVec 32 := Scalar.muli v70 c2_i32_311
  let v395 : BitVec 32 := Scalar.addi c0_i32_312 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_313 : BitVec 32 := 1#32
  let v396 : BitVec 32 := Scalar.muli v81 c1_i32_313
  let v397 : BitVec 32 := Scalar.addi v395 v396
  v397.toNat
def k0_dev24 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_323 : BitVec 32 := 2#32
  let v408 : BitVec 32 := Scalar.muli v70 c2_i32_323
  let v409 : BitVec 32 := Scalar.addi c0_i32_324 v408
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_325 : BitVec 32 := 1#32
  let v410 : BitVec 32 := Scalar.muli v81 c1_i32_325
  let v411 : BitVec 32 := Scalar.addi v409 v410
  v411.toNat
-- ==== RsWOutChipsIdeal.lean ====
abbrev S4x256x2048 : Shape := ⟨3, ![4, 256, 2048]⟩
abbrev S24 : Shape := ⟨1, ![24]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S32x2048 : Shape := ⟨2, ![32, 2048]⟩
abbrev S1x32x2048 : Shape := ⟨3, ![1, 32, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x256x2048, .bf16⟩
  | .hbm, ⟨25, _⟩ => ⟨S256x2048, .bf16⟩
  | .hbm, ⟨26, _⟩ => ⟨S1x256x2048, .bf16⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x256x2048, .bf16⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_c_0 : Ref sig .tc := ⟨.hbm, 19, rfl⟩
abbrev main_call0_v1 : Ref sig .tc := ⟨.hbm, 20, rfl⟩
abbrev main_call0_v2 : Ref sig .tc := ⟨.hbm, 21, rfl⟩
abbrev main_call0_c_1 : Ref sig .tc := ⟨.hbm, 22, rfl⟩
abbrev main_call0_c_2 : Ref sig .tc := ⟨.hbm, 23, rfl⟩
abbrev main_call0_v3 : Ref sig .tc := ⟨.hbm, 24, rfl⟩
abbrev main_v12 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_v13 : Ref sig .tc := ⟨.hbm, 34, rfl⟩

abbrev nD : Nat := 4
abbrev τ : Topo := Topo.v7x

variable {F : FTy → Type} [FloatOps F]

abbrev grid0 : Pipeline.Grid := .none

def k0_off1 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_off2 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off2_at (r : Fin 3) : BitVec 32 × BitVec 32 :=
  if r.val < 1 then
    (1#32, 0#32)
  else
    if r.val < 2 then
      (0#32, 1#32)
    else
      (1#32, 1#32)
def k0_off3 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off3_at (r : Fin 3) : BitVec 32 × BitVec 32 :=
  if r.val < 1 then
    (1#32, 0#32)
  else
    if r.val < 2 then
      (0#32, 1#32)
    else
      (1#32, 1#32)
def k0_off4 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_dev1 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_52 : BitVec 32 := 2#32
  let v86 : BitVec 32 := Scalar.muli v18 c2_i32_52
  let v87 : BitVec 32 := Scalar.addi c0_i32_53 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_54 : BitVec 32 := 1#32
  let v88 : BitVec 32 := Scalar.muli v29 c1_i32_54
  let v89 : BitVec 32 := Scalar.addi v87 v88
  v89.toNat
def k0_off5 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_72 : BitVec 32 := 0#32
  ![v31.toNat, 32, 0]
def k0_off5_at (r : Fin 3) : BitVec 32 × BitVec 32 :=
  if r.val < 1 then
    (1#32, 0#32)
  else
    if r.val < 2 then
      (0#32, 1#32)
    else
      (1#32, 1#32)
def k0_off6 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_69 : BitVec 32 := 0#32
  ![v33.toNat, 32, 0]
def k0_dev2 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_65 : BitVec 32 := 2#32
  let v100 : BitVec 32 := Scalar.muli v18 c2_i32_65
  let v101 : BitVec 32 := Scalar.addi c0_i32_66 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_67 : BitVec 32 := 1#32
  let v102 : BitVec 32 := Scalar.muli v29 c1_i32_67
  let v103 : BitVec 32 := Scalar.addi v101 v102
  v103.toNat
def k0_off7 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_84 : BitVec 32 := 0#32
  ![v31.toNat, 64, 0]
def k0_off7_at (r : Fin 3) : BitVec 32 × BitVec 32 :=
  if r.val < 1 then
    (1#32, 0#32)
  else
    if r.val < 2 then
      (0#32, 1#32)
    else
      (1#32, 1#32)
def k0_off8 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_81 : BitVec 32 := 0#32
  ![v33.toNat, 64, 0]
def k0_dev3 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_77 : BitVec 32 := 2#32
  let v114 : BitVec 32 := Scalar.muli v18 c2_i32_77
  let v115 : BitVec 32 := Scalar.addi c0_i32_78 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_79 : BitVec 32 := 1#32
  let v116 : BitVec 32 := Scalar.muli v29 c1_i32_79
  let v117 : BitVec 32 := Scalar.addi v115 v116
  v117.toNat
def k0_off9 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_95 : BitVec 32 := 0#32
  ![v31.toNat, 96, 0]
def k0_off9_at (r : Fin 3) : BitVec 32 × BitVec 32 :=
  if r.val < 1 then
    (1#32, 0#32)
  else
    if r.val < 2 then
      (0#32, 1#32)
    else
      (1#32, 1#32)
def k0_off10 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_92 : BitVec 32 := 0#32
  ![v33.toNat, 96, 0]
def k0_dev4 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_88 : BitVec 32 := 2#32
  let v128 : BitVec 32 := Scalar.muli v18 c2_i32_88
  let v129 : BitVec 32 := Scalar.addi c0_i32_89 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_90 : BitVec 32 := 1#32
  let v130 : BitVec 32 := Scalar.muli v29 c1_i32_90
  let v131 : BitVec 32 := Scalar.addi v129 v130
  v131.toNat
def k0_off11 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_106 : BitVec 32 := 0#32
  ![v31.toNat, 128, 0]
def k0_off11_at (r : Fin 3) : BitVec 32 × BitVec 32 :=
  if r.val < 1 then
    (1#32, 0#32)
  else
    if r.val < 2 then
      (0#32, 1#32)
    else
      (1#32, 1#32)
def k0_off12 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_103 : BitVec 32 := 0#32
  ![v33.toNat, 128, 0]
def k0_dev5 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_99 : BitVec 32 := 2#32
  let v142 : BitVec 32 := Scalar.muli v18 c2_i32_99
  let v143 : BitVec 32 := Scalar.addi c0_i32_100 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_101 : BitVec 32 := 1#32
  let v144 : BitVec 32 := Scalar.muli v29 c1_i32_101
  let v145 : BitVec 32 := Scalar.addi v143 v144
  v145.toNat
def k0_off13 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_117 : BitVec 32 := 0#32
  ![v31.toNat, 160, 0]
def k0_off13_at (r : Fin 3) : BitVec 32 × BitVec 32 :=
  if r.val < 1 then
    (1#32, 0#32)
  else
    if r.val < 2 then
      (0#32, 1#32)
    else
      (1#32, 1#32)
def k0_off14 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_114 : BitVec 32 := 0#32
  ![v33.toNat, 160, 0]
def k0_dev6 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_110 : BitVec 32 := 2#32
  let v156 : BitVec 32 := Scalar.muli v18 c2_i32_110
  let v157 : BitVec 32 := Scalar.addi c0_i32_111 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_112 : BitVec 32 := 1#32
  let v158 : BitVec 32 := Scalar.muli v29 c1_i32_112
  let v159 : BitVec 32 := Scalar.addi v157 v158
  v159.toNat
def k0_off15 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_128 : BitVec 32 := 0#32
  ![v31.toNat, 192, 0]
def k0_off15_at (r : Fin 3) : BitVec 32 × BitVec 32 :=
  if r.val < 1 then
    (1#32, 0#32)
  else
    if r.val < 2 then
      (0#32, 1#32)
    else
      (1#32, 1#32)
def k0_off16 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_125 : BitVec 32 := 0#32
  ![v33.toNat, 192, 0]
def k0_dev7 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_121 : BitVec 32 := 2#32
  let v170 : BitVec 32 := Scalar.muli v18 c2_i32_121
  let v171 : BitVec 32 := Scalar.addi c0_i32_122 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_123 : BitVec 32 := 1#32
  let v172 : BitVec 32 := Scalar.muli v29 c1_i32_123
  let v173 : BitVec 32 := Scalar.addi v171 v172
  v173.toNat
def k0_off17 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_139 : BitVec 32 := 0#32
  ![v31.toNat, 224, 0]
def k0_off17_at (r : Fin 3) : BitVec 32 × BitVec 32 :=
  if r.val < 1 then
    (1#32, 0#32)
  else
    if r.val < 2 then
      (0#32, 1#32)
    else
      (1#32, 1#32)
def k0_off18 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_136 : BitVec 32 := 0#32
  ![v33.toNat, 224, 0]
def k0_dev8 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_132 : BitVec 32 := 2#32
  let v184 : BitVec 32 := Scalar.muli v18 c2_i32_132
  let v185 : BitVec 32 := Scalar.addi c0_i32_133 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_134 : BitVec 32 := 1#32
  let v186 : BitVec 32 := Scalar.muli v29 c1_i32_134
  let v187 : BitVec 32 := Scalar.addi v185 v186
  v187.toNat
def k0_dev9 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_143 : BitVec 32 := 2#32
  let v198 : BitVec 32 := Scalar.muli v44 c2_i32_143
  let v199 : BitVec 32 := Scalar.addi c0_i32_144 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_145 : BitVec 32 := 1#32
  let v200 : BitVec 32 := Scalar.muli v55 c1_i32_145
  let v201 : BitVec 32 := Scalar.addi v199 v200
  v201.toNat
def k0_dev10 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_155 : BitVec 32 := 2#32
  let v212 : BitVec 32 := Scalar.muli v44 c2_i32_155
  let v213 : BitVec 32 := Scalar.addi c0_i32_156 v212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_157 : BitVec 32 := 1#32
  let v214 : BitVec 32 := Scalar.muli v55 c1_i32_157
  let v215 : BitVec 32 := Scalar.addi v213 v214
  v215.toNat
def k0_dev11 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_167 : BitVec 32 := 2#32
  let v226 : BitVec 32 := Scalar.muli v44 c2_i32_167
  let v227 : BitVec 32 := Scalar.addi c0_i32_168 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_169 : BitVec 32 := 1#32
  let v228 : BitVec 32 := Scalar.muli v55 c1_i32_169
  let v229 : BitVec 32 := Scalar.addi v227 v228
  v229.toNat
def k0_dev12 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_179 : BitVec 32 := 2#32
  let v240 : BitVec 32 := Scalar.muli v44 c2_i32_179
  let v241 : BitVec 32 := Scalar.addi c0_i32_180 v240
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_181 : BitVec 32 := 1#32
  let v242 : BitVec 32 := Scalar.muli v55 c1_i32_181
  let v243 : BitVec 32 := Scalar.addi v241 v242
  v243.toNat
def k0_dev13 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_191 : BitVec 32 := 2#32
  let v254 : BitVec 32 := Scalar.muli v44 c2_i32_191
  let v255 : BitVec 32 := Scalar.addi c0_i32_192 v254
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_193 : BitVec 32 := 1#32
  let v256 : BitVec 32 := Scalar.muli v55 c1_i32_193
  let v257 : BitVec 32 := Scalar.addi v255 v256
  v257.toNat
def k0_dev14 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_203 : BitVec 32 := 2#32
  let v268 : BitVec 32 := Scalar.muli v44 c2_i32_203
  let v269 : BitVec 32 := Scalar.addi c0_i32_204 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_205 : BitVec 32 := 1#32
  let v270 : BitVec 32 := Scalar.muli v55 c1_i32_205
  let v271 : BitVec 32 := Scalar.addi v269 v270
  v271.toNat
def k0_dev15 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_215 : BitVec 32 := 2#32
  let v282 : BitVec 32 := Scalar.muli v44 c2_i32_215
  let v283 : BitVec 32 := Scalar.addi c0_i32_216 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_217 : BitVec 32 := 1#32
  let v284 : BitVec 32 := Scalar.muli v55 c1_i32_217
  let v285 : BitVec 32 := Scalar.addi v283 v284
  v285.toNat
def k0_dev16 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_227 : BitVec 32 := 2#32
  let v296 : BitVec 32 := Scalar.muli v44 c2_i32_227
  let v297 : BitVec 32 := Scalar.addi c0_i32_228 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_229 : BitVec 32 := 1#32
  let v298 : BitVec 32 := Scalar.muli v55 c1_i32_229
  let v299 : BitVec 32 := Scalar.addi v297 v298
  v299.toNat
def k0_dev17 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_239 : BitVec 32 := 2#32
  let v310 : BitVec 32 := Scalar.muli v70 c2_i32_239
  let v311 : BitVec 32 := Scalar.addi c0_i32_240 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_241 : BitVec 32 := 1#32
  let v312 : BitVec 32 := Scalar.muli v81 c1_i32_241
  let v313 : BitVec 32 := Scalar.addi v311 v312
  v313.toNat
def k0_dev18 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_251 : BitVec 32 := 2#32
  let v324 : BitVec 32 := Scalar.muli v70 c2_i32_251
  let v325 : BitVec 32 := Scalar.addi c0_i32_252 v324
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_253 : BitVec 32 := 1#32
  let v326 : BitVec 32 := Scalar.muli v81 c1_i32_253
  let v327 : BitVec 32 := Scalar.addi v325 v326
  v327.toNat
def k0_dev19 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_263 : BitVec 32 := 2#32
  let v338 : BitVec 32 := Scalar.muli v70 c2_i32_263
  let v339 : BitVec 32 := Scalar.addi c0_i32_264 v338
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_265 : BitVec 32 := 1#32
  let v340 : BitVec 32 := Scalar.muli v81 c1_i32_265
  let v341 : BitVec 32 := Scalar.addi v339 v340
  v341.toNat
def k0_dev20 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_275 : BitVec 32 := 2#32
  let v352 : BitVec 32 := Scalar.muli v70 c2_i32_275
  let v353 : BitVec 32 := Scalar.addi c0_i32_276 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_277 : BitVec 32 := 1#32
  let v354 : BitVec 32 := Scalar.muli v81 c1_i32_277
  let v355 : BitVec 32 := Scalar.addi v353 v354
  v355.toNat
def k0_dev21 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_287 : BitVec 32 := 2#32
  let v366 : BitVec 32 := Scalar.muli v70 c2_i32_287
  let v367 : BitVec 32 := Scalar.addi c0_i32_288 v366
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_289 : BitVec 32 := 1#32
  let v368 : BitVec 32 := Scalar.muli v81 c1_i32_289
  let v369 : BitVec 32 := Scalar.addi v367 v368
  v369.toNat
def k0_dev22 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_299 : BitVec 32 := 2#32
  let v380 : BitVec 32 := Scalar.muli v70 c2_i32_299
  let v381 : BitVec 32 := Scalar.addi c0_i32_300 v380
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_301 : BitVec 32 := 1#32
  let v382 : BitVec 32 := Scalar.muli v81 c1_i32_301
  let v383 : BitVec 32 := Scalar.addi v381 v382
  v383.toNat
def k0_dev23 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_311 : BitVec 32 := 2#32
  let v394 : BitVec 32 := Scalar.muli v70 c2_i32_311
  let v395 : BitVec 32 := Scalar.addi c0_i32_312 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_313 : BitVec 32 := 1#32
  let v396 : BitVec 32 := Scalar.muli v81 c1_i32_313
  let v397 : BitVec 32 := Scalar.addi v395 v396
  v397.toNat
def k0_dev24 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_323 : BitVec 32 := 2#32
  let v408 : BitVec 32 := Scalar.muli v70 c2_i32_323
  let v409 : BitVec 32 := Scalar.addi c0_i32_324 v408
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_325 : BitVec 32 := 1#32
  let v410 : BitVec 32 := Scalar.muli v81 c1_i32_325
  let v411 : BitVec 32 := Scalar.addi v409 v410
  v411.toNat
-- ==== RsWOutChipsRefIdeal.lean ====
abbrev S16x256x2048 : Shape := ⟨3, ![16, 256, 2048]⟩
abbrev S4x4x256x2048 : Shape := ⟨4, ![4, 4, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16x256x2048, .bf16⟩
  | .hbm, ⟨1, _⟩ => ⟨S4x4x256x2048, .bf16⟩
  | .hbm, ⟨2, _⟩ => ⟨S4x4x256x2048, .bf16⟩
  | .hbm, ⟨3, _⟩ => ⟨S16x256x2048, .bf16⟩
  | _, _ => ⟨S16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== RsWInChips.lean ====
abbrev S4x1024x2084 : Shape := ⟨3, ![4, 1024, 2084]⟩
abbrev S24 : Shape := ⟨1, ![24]⟩
abbrev S8 : Shape := ⟨1, ![8]⟩
abbrev S1 : Shape := ⟨1, ![1]⟩
abbrev S_ : Shape := ⟨0, ![]⟩
abbrev S1x1024x2084 : Shape := ⟨3, ![1, 1024, 2084]⟩
abbrev S1024x2084 : Shape := ⟨2, ![1024, 2084]⟩
abbrev S128x2084 : Shape := ⟨2, ![128, 2084]⟩
abbrev S1x128x2084 : Shape := ⟨3, ![1, 128, 2084]⟩

abbrev nBuf : Space → Nat
  | .hbm => 35
  | .vmem => 0
  | .smem => 0
  | _ => 0

abbrev bufTy : (tb : Table) → Fin (tcTables nBuf tb) → BufTy
  | .hbm, ⟨0, _⟩ => ⟨S4x1024x2084, .bf16⟩
  | .hbm, ⟨1, _⟩ => ⟨S4x1024x2084, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x1024x2084, .bf16⟩
  | .hbm, ⟨25, _⟩ => ⟨S1024x2084, .bf16⟩
  | .hbm, ⟨26, _⟩ => ⟨S1x1024x2084, .bf16⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x1024x2084, .bf16⟩
  | _, _ => ⟨S4x1024x2084, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_c_0 : Ref sig .tc := ⟨.hbm, 19, rfl⟩
abbrev main_call0_v1 : Ref sig .tc := ⟨.hbm, 20, rfl⟩
abbrev main_call0_v2 : Ref sig .tc := ⟨.hbm, 21, rfl⟩
abbrev main_call0_c_1 : Ref sig .tc := ⟨.hbm, 22, rfl⟩
abbrev main_call0_c_2 : Ref sig .tc := ⟨.hbm, 23, rfl⟩
abbrev main_call0_v3 : Ref sig .tc := ⟨.hbm, 24, rfl⟩
abbrev main_v12 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_v13 : Ref sig .tc := ⟨.hbm, 34, rfl⟩

abbrev nD : Nat := 4
abbrev τ : Topo := Topo.v7x

variable {F : FTy → Type} [FloatOps F]

abbrev grid0 : Pipeline.Grid := .none

def k0_off1 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_off2 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off2_at (r : Fin 3) : BitVec 32 × BitVec 32 :=
  if r.val < 1 then
    (1#32, 0#32)
  else
    if r.val < 2 then
      (0#32, 1#32)
    else
      (1#32, 1#32)
def k0_off3 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off3_at (r : Fin 3) : BitVec 32 × BitVec 32 :=
  if r.val < 1 then
    (1#32, 0#32)
  else
    if r.val < 2 then
      (0#32, 1#32)
    else
      (1#32, 1#32)
def k0_off4 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_dev1 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_52 : BitVec 32 := 2#32
  let v86 : BitVec 32 := Scalar.muli v18 c2_i32_52
  let v87 : BitVec 32 := Scalar.addi c0_i32_53 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_54 : BitVec 32 := 1#32
  let v88 : BitVec 32 := Scalar.muli v29 c1_i32_54
  let v89 : BitVec 32 := Scalar.addi v87 v88
  v89.toNat
def k0_off5 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_72 : BitVec 32 := 0#32
  ![v31.toNat, 128, 0]
def k0_off5_at (r : Fin 3) : BitVec 32 × BitVec 32 :=
  if r.val < 1 then
    (1#32, 0#32)
  else
    if r.val < 2 then
      (0#32, 1#32)
    else
      (1#32, 1#32)
def k0_off6 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_69 : BitVec 32 := 0#32
  ![v33.toNat, 128, 0]
def k0_dev2 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_65 : BitVec 32 := 2#32
  let v100 : BitVec 32 := Scalar.muli v18 c2_i32_65
  let v101 : BitVec 32 := Scalar.addi c0_i32_66 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_67 : BitVec 32 := 1#32
  let v102 : BitVec 32 := Scalar.muli v29 c1_i32_67
  let v103 : BitVec 32 := Scalar.addi v101 v102
  v103.toNat
def k0_off7 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_84 : BitVec 32 := 0#32
  ![v31.toNat, 256, 0]
def k0_off7_at (r : Fin 3) : BitVec 32 × BitVec 32 :=
  if r.val < 1 then
    (1#32, 0#32)
  else
    if r.val < 2 then
      (0#32, 1#32)
    else
      (1#32, 1#32)
def k0_off8 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_81 : BitVec 32 := 0#32
  ![v33.toNat, 256, 0]
def k0_dev3 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_77 : BitVec 32 := 2#32
  let v114 : BitVec 32 := Scalar.muli v18 c2_i32_77
  let v115 : BitVec 32 := Scalar.addi c0_i32_78 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_79 : BitVec 32 := 1#32
  let v116 : BitVec 32 := Scalar.muli v29 c1_i32_79
  let v117 : BitVec 32 := Scalar.addi v115 v116
  v117.toNat
def k0_off9 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_95 : BitVec 32 := 0#32
  ![v31.toNat, 384, 0]
def k0_off9_at (r : Fin 3) : BitVec 32 × BitVec 32 :=
  if r.val < 1 then
    (1#32, 0#32)
  else
    if r.val < 2 then
      (0#32, 1#32)
    else
      (1#32, 1#32)
def k0_off10 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_92 : BitVec 32 := 0#32
  ![v33.toNat, 384, 0]
def k0_dev4 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_88 : BitVec 32 := 2#32
  let v128 : BitVec 32 := Scalar.muli v18 c2_i32_88
  let v129 : BitVec 32 := Scalar.addi c0_i32_89 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_90 : BitVec 32 := 1#32
  let v130 : BitVec 32 := Scalar.muli v29 c1_i32_90
  let v131 : BitVec 32 := Scalar.addi v129 v130
  v131.toNat
def k0_off11 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_106 : BitVec 32 := 0#32
  ![v31.toNat, 512, 0]
def k0_off11_at (r : Fin 3) : BitVec 32 × BitVec 32 :=
  if r.val < 1 then
    (1#32, 0#32)
  else
    if r.val < 2 then
      (0#32, 1#32)
    else
      (1#32, 1#32)
def k0_off12 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_103 : BitVec 32 := 0#32
  ![v33.toNat, 512, 0]
def k0_dev5 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_99 : BitVec 32 := 2#32
  let v142 : BitVec 32 := Scalar.muli v18 c2_i32_99
  let v143 : BitVec 32 := Scalar.addi c0_i32_100 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_101 : BitVec 32 := 1#32
  let v144 : BitVec 32 := Scalar.muli v29 c1_i32_101
  let v145 : BitVec 32 := Scalar.addi v143 v144
  v145.toNat
def k0_off13 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_117 : BitVec 32 := 0#32
  ![v31.toNat, 640, 0]
def k0_off13_at (r : Fin 3) : BitVec 32 × BitVec 32 :=
  if r.val < 1 then
    (1#32, 0#32)
  else
    if r.val < 2 then
      (0#32, 1#32)
    else
      (1#32, 1#32)
def k0_off14 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_114 : BitVec 32 := 0#32
  ![v33.toNat, 640, 0]
def k0_dev6 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_110 : BitVec 32 := 2#32
  let v156 : BitVec 32 := Scalar.muli v18 c2_i32_110
  let v157 : BitVec 32 := Scalar.addi c0_i32_111 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_112 : BitVec 32 := 1#32
  let v158 : BitVec 32 := Scalar.muli v29 c1_i32_112
  let v159 : BitVec 32 := Scalar.addi v157 v158
  v159.toNat
def k0_off15 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_128 : BitVec 32 := 0#32
  ![v31.toNat, 768, 0]
def k0_off15_at (r : Fin 3) : BitVec 32 × BitVec 32 :=
  if r.val < 1 then
    (1#32, 0#32)
  else
    if r.val < 2 then
      (0#32, 1#32)
    else
      (1#32, 1#32)
def k0_off16 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_125 : BitVec 32 := 0#32
  ![v33.toNat, 768, 0]
def k0_dev7 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_121 : BitVec 32 := 2#32
  let v170 : BitVec 32 := Scalar.muli v18 c2_i32_121
  let v171 : BitVec 32 := Scalar.addi c0_i32_122 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_123 : BitVec 32 := 1#32
  let v172 : BitVec 32 := Scalar.muli v29 c1_i32_123
  let v173 : BitVec 32 := Scalar.addi v171 v172
  v173.toNat
def k0_off17 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_139 : BitVec 32 := 0#32
  ![v31.toNat, 896, 0]
def k0_off17_at (r : Fin 3) : BitVec 32 × BitVec 32 :=
  if r.val < 1 then
    (1#32, 0#32)
  else
    if r.val < 2 then
      (0#32, 1#32)
    else
      (1#32, 1#32)
def k0_off18 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_136 : BitVec 32 := 0#32
  ![v33.toNat, 896, 0]
def k0_dev8 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_132 : BitVec 32 := 2#32
  let v184 : BitVec 32 := Scalar.muli v18 c2_i32_132
  let v185 : BitVec 32 := Scalar.addi c0_i32_133 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_134 : BitVec 32 := 1#32
  let v186 : BitVec 32 := Scalar.muli v29 c1_i32_134
  let v187 : BitVec 32 := Scalar.addi v185 v186
  v187.toNat
def k0_dev9 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_143 : BitVec 32 := 2#32
  let v198 : BitVec 32 := Scalar.muli v44 c2_i32_143
  let v199 : BitVec 32 := Scalar.addi c0_i32_144 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_145 : BitVec 32 := 1#32
  let v200 : BitVec 32 := Scalar.muli v55 c1_i32_145
  let v201 : BitVec 32 := Scalar.addi v199 v200
  v201.toNat
def k0_dev10 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_155 : BitVec 32 := 2#32
  let v212 : BitVec 32 := Scalar.muli v44 c2_i32_155
  let v213 : BitVec 32 := Scalar.addi c0_i32_156 v212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_157 : BitVec 32 := 1#32
  let v214 : BitVec 32 := Scalar.muli v55 c1_i32_157
  let v215 : BitVec 32 := Scalar.addi v213 v214
  v215.toNat
def k0_dev11 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_167 : BitVec 32 := 2#32
  let v226 : BitVec 32 := Scalar.muli v44 c2_i32_167
  let v227 : BitVec 32 := Scalar.addi c0_i32_168 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_169 : BitVec 32 := 1#32
  let v228 : BitVec 32 := Scalar.muli v55 c1_i32_169
  let v229 : BitVec 32 := Scalar.addi v227 v228
  v229.toNat
def k0_dev12 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_179 : BitVec 32 := 2#32
  let v240 : BitVec 32 := Scalar.muli v44 c2_i32_179
  let v241 : BitVec 32 := Scalar.addi c0_i32_180 v240
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_181 : BitVec 32 := 1#32
  let v242 : BitVec 32 := Scalar.muli v55 c1_i32_181
  let v243 : BitVec 32 := Scalar.addi v241 v242
  v243.toNat
def k0_dev13 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_191 : BitVec 32 := 2#32
  let v254 : BitVec 32 := Scalar.muli v44 c2_i32_191
  let v255 : BitVec 32 := Scalar.addi c0_i32_192 v254
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_193 : BitVec 32 := 1#32
  let v256 : BitVec 32 := Scalar.muli v55 c1_i32_193
  let v257 : BitVec 32 := Scalar.addi v255 v256
  v257.toNat
def k0_dev14 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_203 : BitVec 32 := 2#32
  let v268 : BitVec 32 := Scalar.muli v44 c2_i32_203
  let v269 : BitVec 32 := Scalar.addi c0_i32_204 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_205 : BitVec 32 := 1#32
  let v270 : BitVec 32 := Scalar.muli v55 c1_i32_205
  let v271 : BitVec 32 := Scalar.addi v269 v270
  v271.toNat
def k0_dev15 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_215 : BitVec 32 := 2#32
  let v282 : BitVec 32 := Scalar.muli v44 c2_i32_215
  let v283 : BitVec 32 := Scalar.addi c0_i32_216 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_217 : BitVec 32 := 1#32
  let v284 : BitVec 32 := Scalar.muli v55 c1_i32_217
  let v285 : BitVec 32 := Scalar.addi v283 v284
  v285.toNat
def k0_dev16 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_227 : BitVec 32 := 2#32
  let v296 : BitVec 32 := Scalar.muli v44 c2_i32_227
  let v297 : BitVec 32 := Scalar.addi c0_i32_228 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_229 : BitVec 32 := 1#32
  let v298 : BitVec 32 := Scalar.muli v55 c1_i32_229
  let v299 : BitVec 32 := Scalar.addi v297 v298
  v299.toNat
def k0_dev17 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_239 : BitVec 32 := 2#32
  let v310 : BitVec 32 := Scalar.muli v70 c2_i32_239
  let v311 : BitVec 32 := Scalar.addi c0_i32_240 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_241 : BitVec 32 := 1#32
  let v312 : BitVec 32 := Scalar.muli v81 c1_i32_241
  let v313 : BitVec 32 := Scalar.addi v311 v312
  v313.toNat
def k0_dev18 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_251 : BitVec 32 := 2#32
  let v324 : BitVec 32 := Scalar.muli v70 c2_i32_251
  let v325 : BitVec 32 := Scalar.addi c0_i32_252 v324
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_253 : BitVec 32 := 1#32
  let v326 : BitVec 32 := Scalar.muli v81 c1_i32_253
  let v327 : BitVec 32 := Scalar.addi v325 v326
  v327.toNat
def k0_dev19 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_263 : BitVec 32 := 2#32
  let v338 : BitVec 32 := Scalar.muli v70 c2_i32_263
  let v339 : BitVec 32 := Scalar.addi c0_i32_264 v338
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_265 : BitVec 32 := 1#32
  let v340 : BitVec 32 := Scalar.muli v81 c1_i32_265
  let v341 : BitVec 32 := Scalar.addi v339 v340
  v341.toNat
def k0_dev20 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_275 : BitVec 32 := 2#32
  let v352 : BitVec 32 := Scalar.muli v70 c2_i32_275
  let v353 : BitVec 32 := Scalar.addi c0_i32_276 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_277 : BitVec 32 := 1#32
  let v354 : BitVec 32 := Scalar.muli v81 c1_i32_277
  let v355 : BitVec 32 := Scalar.addi v353 v354
  v355.toNat
def k0_dev21 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_287 : BitVec 32 := 2#32
  let v366 : BitVec 32 := Scalar.muli v70 c2_i32_287
  let v367 : BitVec 32 := Scalar.addi c0_i32_288 v366
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_289 : BitVec 32 := 1#32
  let v368 : BitVec 32 := Scalar.muli v81 c1_i32_289
  let v369 : BitVec 32 := Scalar.addi v367 v368
  v369.toNat
def k0_dev22 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_299 : BitVec 32 := 2#32
  let v380 : BitVec 32 := Scalar.muli v70 c2_i32_299
  let v381 : BitVec 32 := Scalar.addi c0_i32_300 v380
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_301 : BitVec 32 := 1#32
  let v382 : BitVec 32 := Scalar.muli v81 c1_i32_301
  let v383 : BitVec 32 := Scalar.addi v381 v382
  v383.toNat
def k0_dev23 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_311 : BitVec 32 := 2#32
  let v394 : BitVec 32 := Scalar.muli v70 c2_i32_311
  let v395 : BitVec 32 := Scalar.addi c0_i32_312 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_313 : BitVec 32 := 1#32
  let v396 : BitVec 32 := Scalar.muli v81 c1_i32_313
  let v397 : BitVec 32 := Scalar.addi v395 v396
  v397.toNat
def k0_dev24 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_323 : BitVec 32 := 2#32
  let v408 : BitVec 32 := Scalar.muli v70 c2_i32_323
  let v409 : BitVec 32 := Scalar.addi c0_i32_324 v408
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_325 : BitVec 32 := 1#32
  let v410 : BitVec 32 := Scalar.muli v81 c1_i32_325
  let v411 : BitVec 32 := Scalar.addi v409 v410
  v411.toNat
-- ==== RsWInChipsIdeal.lean ====
abbrev S4x1024x2084 : Shape := ⟨3, ![4, 1024, 2084]⟩
abbrev S24 : Shape := ⟨1, ![24]⟩
abbrev S8 : Shape := ⟨1, ![8]⟩
abbrev S1 : Shape := ⟨1, ![1]⟩
abbrev S_ : Shape := ⟨0, ![]⟩
abbrev S1x1024x2084 : Shape := ⟨3, ![1, 1024, 2084]⟩
abbrev S1024x2084 : Shape := ⟨2, ![1024, 2084]⟩
abbrev S128x2084 : Shape := ⟨2, ![128, 2084]⟩
abbrev S1x128x2084 : Shape := ⟨3, ![1, 128, 2084]⟩

abbrev nBuf : Space → Nat
  | .hbm => 35
  | .vmem => 0
  | .smem => 0
  | _ => 0

abbrev bufTy : (tb : Table) → Fin (tcTables nBuf tb) → BufTy
  | .hbm, ⟨0, _⟩ => ⟨S4x1024x2084, .bf16⟩
  | .hbm, ⟨1, _⟩ => ⟨S4x1024x2084, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x1024x2084, .bf16⟩
  | .hbm, ⟨25, _⟩ => ⟨S1024x2084, .bf16⟩
  | .hbm, ⟨26, _⟩ => ⟨S1x1024x2084, .bf16⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x1024x2084, .bf16⟩
  | _, _ => ⟨S4x1024x2084, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_c_0 : Ref sig .tc := ⟨.hbm, 19, rfl⟩
abbrev main_call0_v1 : Ref sig .tc := ⟨.hbm, 20, rfl⟩
abbrev main_call0_v2 : Ref sig .tc := ⟨.hbm, 21, rfl⟩
abbrev main_call0_c_1 : Ref sig .tc := ⟨.hbm, 22, rfl⟩
abbrev main_call0_c_2 : Ref sig .tc := ⟨.hbm, 23, rfl⟩
abbrev main_call0_v3 : Ref sig .tc := ⟨.hbm, 24, rfl⟩
abbrev main_v12 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_c_1 : Ref sig .tc := ⟨.hbm, 32, rfl⟩
abbrev main_call1_c_2 : Ref sig .tc := ⟨.hbm, 33, rfl⟩
abbrev main_v13 : Ref sig .tc := ⟨.hbm, 34, rfl⟩

abbrev nD : Nat := 4
abbrev τ : Topo := Topo.v7x

variable {F : FTy → Type} [FloatOps F]

abbrev grid0 : Pipeline.Grid := .none

def k0_off1 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_off2 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off2_at (r : Fin 3) : BitVec 32 × BitVec 32 :=
  if r.val < 1 then
    (1#32, 0#32)
  else
    if r.val < 2 then
      (0#32, 1#32)
    else
      (1#32, 1#32)
def k0_off3 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_59 : BitVec 32 := 0#32
  let c0_i32_60 : BitVec 32 := 0#32
  ![v31.toNat, 0, 0]
def k0_off3_at (r : Fin 3) : BitVec 32 × BitVec 32 :=
  if r.val < 1 then
    (1#32, 0#32)
  else
    if r.val < 2 then
      (0#32, 1#32)
    else
      (1#32, 1#32)
def k0_off4 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_55 : BitVec 32 := 0#32
  let c0_i32_56 : BitVec 32 := 0#32
  ![v33.toNat, 0, 0]
def k0_dev1 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_52 : BitVec 32 := 2#32
  let v86 : BitVec 32 := Scalar.muli v18 c2_i32_52
  let v87 : BitVec 32 := Scalar.addi c0_i32_53 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_54 : BitVec 32 := 1#32
  let v88 : BitVec 32 := Scalar.muli v29 c1_i32_54
  let v89 : BitVec 32 := Scalar.addi v87 v88
  v89.toNat
def k0_off5 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_72 : BitVec 32 := 0#32
  ![v31.toNat, 128, 0]
def k0_off5_at (r : Fin 3) : BitVec 32 × BitVec 32 :=
  if r.val < 1 then
    (1#32, 0#32)
  else
    if r.val < 2 then
      (0#32, 1#32)
    else
      (1#32, 1#32)
def k0_off6 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_69 : BitVec 32 := 0#32
  ![v33.toNat, 128, 0]
def k0_dev2 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_65 : BitVec 32 := 2#32
  let v100 : BitVec 32 := Scalar.muli v18 c2_i32_65
  let v101 : BitVec 32 := Scalar.addi c0_i32_66 v100
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_67 : BitVec 32 := 1#32
  let v102 : BitVec 32 := Scalar.muli v29 c1_i32_67
  let v103 : BitVec 32 := Scalar.addi v101 v102
  v103.toNat
def k0_off7 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_84 : BitVec 32 := 0#32
  ![v31.toNat, 256, 0]
def k0_off7_at (r : Fin 3) : BitVec 32 × BitVec 32 :=
  if r.val < 1 then
    (1#32, 0#32)
  else
    if r.val < 2 then
      (0#32, 1#32)
    else
      (1#32, 1#32)
def k0_off8 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_81 : BitVec 32 := 0#32
  ![v33.toNat, 256, 0]
def k0_dev3 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_77 : BitVec 32 := 2#32
  let v114 : BitVec 32 := Scalar.muli v18 c2_i32_77
  let v115 : BitVec 32 := Scalar.addi c0_i32_78 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_79 : BitVec 32 := 1#32
  let v116 : BitVec 32 := Scalar.muli v29 c1_i32_79
  let v117 : BitVec 32 := Scalar.addi v115 v116
  v117.toNat
def k0_off9 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_95 : BitVec 32 := 0#32
  ![v31.toNat, 384, 0]
def k0_off9_at (r : Fin 3) : BitVec 32 × BitVec 32 :=
  if r.val < 1 then
    (1#32, 0#32)
  else
    if r.val < 2 then
      (0#32, 1#32)
    else
      (1#32, 1#32)
def k0_off10 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_92 : BitVec 32 := 0#32
  ![v33.toNat, 384, 0]
def k0_dev4 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_88 : BitVec 32 := 2#32
  let v128 : BitVec 32 := Scalar.muli v18 c2_i32_88
  let v129 : BitVec 32 := Scalar.addi c0_i32_89 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_90 : BitVec 32 := 1#32
  let v130 : BitVec 32 := Scalar.muli v29 c1_i32_90
  let v131 : BitVec 32 := Scalar.addi v129 v130
  v131.toNat
def k0_off11 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_106 : BitVec 32 := 0#32
  ![v31.toNat, 512, 0]
def k0_off11_at (r : Fin 3) : BitVec 32 × BitVec 32 :=
  if r.val < 1 then
    (1#32, 0#32)
  else
    if r.val < 2 then
      (0#32, 1#32)
    else
      (1#32, 1#32)
def k0_off12 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_103 : BitVec 32 := 0#32
  ![v33.toNat, 512, 0]
def k0_dev5 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_99 : BitVec 32 := 2#32
  let v142 : BitVec 32 := Scalar.muli v18 c2_i32_99
  let v143 : BitVec 32 := Scalar.addi c0_i32_100 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_101 : BitVec 32 := 1#32
  let v144 : BitVec 32 := Scalar.muli v29 c1_i32_101
  let v145 : BitVec 32 := Scalar.addi v143 v144
  v145.toNat
def k0_off13 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_117 : BitVec 32 := 0#32
  ![v31.toNat, 640, 0]
def k0_off13_at (r : Fin 3) : BitVec 32 × BitVec 32 :=
  if r.val < 1 then
    (1#32, 0#32)
  else
    if r.val < 2 then
      (0#32, 1#32)
    else
      (1#32, 1#32)
def k0_off14 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_114 : BitVec 32 := 0#32
  ![v33.toNat, 640, 0]
def k0_dev6 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_110 : BitVec 32 := 2#32
  let v156 : BitVec 32 := Scalar.muli v18 c2_i32_110
  let v157 : BitVec 32 := Scalar.addi c0_i32_111 v156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_112 : BitVec 32 := 1#32
  let v158 : BitVec 32 := Scalar.muli v29 c1_i32_112
  let v159 : BitVec 32 := Scalar.addi v157 v158
  v159.toNat
def k0_off15 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_128 : BitVec 32 := 0#32
  ![v31.toNat, 768, 0]
def k0_off15_at (r : Fin 3) : BitVec 32 × BitVec 32 :=
  if r.val < 1 then
    (1#32, 0#32)
  else
    if r.val < 2 then
      (0#32, 1#32)
    else
      (1#32, 1#32)
def k0_off16 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_125 : BitVec 32 := 0#32
  ![v33.toNat, 768, 0]
def k0_dev7 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_121 : BitVec 32 := 2#32
  let v170 : BitVec 32 := Scalar.muli v18 c2_i32_121
  let v171 : BitVec 32 := Scalar.addi c0_i32_122 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_123 : BitVec 32 := 1#32
  let v172 : BitVec 32 := Scalar.muli v29 c1_i32_123
  let v173 : BitVec 32 := Scalar.addi v171 v172
  v173.toNat
def k0_off17 (d0 : Dev nD) (c1_i32_3 : BitVec 32) (c0_i32_9 : BitVec 32) : Fin 3 → Nat :=
  let c2_i32_16 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let v30 : BitVec 32 := Scalar.muli c2_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let v31 : BitVec 32 := Scalar.addi v30 v29
  let c0_i32_139 : BitVec 32 := 0#32
  ![v31.toNat, 896, 0]
def k0_off17_at (r : Fin 3) : BitVec 32 × BitVec 32 :=
  if r.val < 1 then
    (1#32, 0#32)
  else
    if r.val < 2 then
      (0#32, 1#32)
    else
      (1#32, 1#32)
def k0_off18 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v33 : BitVec 32 := Scalar.addi v32 v5
  let c0_i32_136 : BitVec 32 := 0#32
  ![v33.toNat, 896, 0]
def k0_dev8 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_3 : BitVec 32 := 1#32
  let v8 : BitVec 32 := Scalar.addi v2 c1_i32_3
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c2_i32_132 : BitVec 32 := 2#32
  let v184 : BitVec 32 := Scalar.muli v18 c2_i32_132
  let v185 : BitVec 32 := Scalar.addi c0_i32_133 v184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_9 : BitVec 32 := 0#32
  let v19 : BitVec 32 := Scalar.addi v5 c0_i32_9
  let c2_i32_10 : BitVec 32 := 2#32
  let c0_i32_11 : BitVec 32 := 0#32
  let v20 : BitVec 1 := Scalar.cmpi .eq c2_i32_10 c0_i32_11
  let c1_i32_12 : BitVec 32 := 1#32
  let v21 : BitVec 32 := Scalar.select v20 c1_i32_12 c2_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_134 : BitVec 32 := 1#32
  let v186 : BitVec 32 := Scalar.muli v29 c1_i32_134
  let v187 : BitVec 32 := Scalar.addi v185 v186
  v187.toNat
def k0_dev9 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_143 : BitVec 32 := 2#32
  let v198 : BitVec 32 := Scalar.muli v44 c2_i32_143
  let v199 : BitVec 32 := Scalar.addi c0_i32_144 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_145 : BitVec 32 := 1#32
  let v200 : BitVec 32 := Scalar.muli v55 c1_i32_145
  let v201 : BitVec 32 := Scalar.addi v199 v200
  v201.toNat
def k0_dev10 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_155 : BitVec 32 := 2#32
  let v212 : BitVec 32 := Scalar.muli v44 c2_i32_155
  let v213 : BitVec 32 := Scalar.addi c0_i32_156 v212
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_157 : BitVec 32 := 1#32
  let v214 : BitVec 32 := Scalar.muli v55 c1_i32_157
  let v215 : BitVec 32 := Scalar.addi v213 v214
  v215.toNat
def k0_dev11 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_167 : BitVec 32 := 2#32
  let v226 : BitVec 32 := Scalar.muli v44 c2_i32_167
  let v227 : BitVec 32 := Scalar.addi c0_i32_168 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_169 : BitVec 32 := 1#32
  let v228 : BitVec 32 := Scalar.muli v55 c1_i32_169
  let v229 : BitVec 32 := Scalar.addi v227 v228
  v229.toNat
def k0_dev12 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_179 : BitVec 32 := 2#32
  let v240 : BitVec 32 := Scalar.muli v44 c2_i32_179
  let v241 : BitVec 32 := Scalar.addi c0_i32_180 v240
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_181 : BitVec 32 := 1#32
  let v242 : BitVec 32 := Scalar.muli v55 c1_i32_181
  let v243 : BitVec 32 := Scalar.addi v241 v242
  v243.toNat
def k0_dev13 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_191 : BitVec 32 := 2#32
  let v254 : BitVec 32 := Scalar.muli v44 c2_i32_191
  let v255 : BitVec 32 := Scalar.addi c0_i32_192 v254
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_193 : BitVec 32 := 1#32
  let v256 : BitVec 32 := Scalar.muli v55 c1_i32_193
  let v257 : BitVec 32 := Scalar.addi v255 v256
  v257.toNat
def k0_dev14 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_203 : BitVec 32 := 2#32
  let v268 : BitVec 32 := Scalar.muli v44 c2_i32_203
  let v269 : BitVec 32 := Scalar.addi c0_i32_204 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_205 : BitVec 32 := 1#32
  let v270 : BitVec 32 := Scalar.muli v55 c1_i32_205
  let v271 : BitVec 32 := Scalar.addi v269 v270
  v271.toNat
def k0_dev15 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_215 : BitVec 32 := 2#32
  let v282 : BitVec 32 := Scalar.muli v44 c2_i32_215
  let v283 : BitVec 32 := Scalar.addi c0_i32_216 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_217 : BitVec 32 := 1#32
  let v284 : BitVec 32 := Scalar.muli v55 c1_i32_217
  let v285 : BitVec 32 := Scalar.addi v283 v284
  v285.toNat
def k0_dev16 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_18 : BitVec 32 := 0#32
  let v34 : BitVec 32 := Scalar.addi v2 c0_i32_18
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c2_i32_227 : BitVec 32 := 2#32
  let v296 : BitVec 32 := Scalar.muli v44 c2_i32_227
  let v297 : BitVec 32 := Scalar.addi c0_i32_228 v296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v45 : BitVec 32 := Scalar.addi v5 c1_i32_25
  let c2_i32_26 : BitVec 32 := 2#32
  let c0_i32_27 : BitVec 32 := 0#32
  let v46 : BitVec 1 := Scalar.cmpi .eq c2_i32_26 c0_i32_27
  let c1_i32_28 : BitVec 32 := 1#32
  let v47 : BitVec 32 := Scalar.select v46 c1_i32_28 c2_i32_26
  let v48 : BitVec 32 := Scalar.remsi v45 v47
  let c0_i32_30 : BitVec 32 := 0#32
  let v50 : BitVec 1 := Scalar.cmpi .slt v48 c0_i32_30
  let c0_i32_31 : BitVec 32 := 0#32
  let v51 : BitVec 1 := Scalar.cmpi .slt v47 c0_i32_31
  let v52 : BitVec 1 := Scalar.xori v50 v51
  let c0_i32_29 : BitVec 32 := 0#32
  let v49 : BitVec 1 := Scalar.cmpi .ne v48 c0_i32_29
  let v53 : BitVec 1 := Scalar.andi v52 v49
  let v54 : BitVec 32 := Scalar.addi v48 v47
  let v55 : BitVec 32 := Scalar.select v53 v54 v48
  let c1_i32_229 : BitVec 32 := 1#32
  let v298 : BitVec 32 := Scalar.muli v55 c1_i32_229
  let v299 : BitVec 32 := Scalar.addi v297 v298
  v299.toNat
def k0_dev17 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_239 : BitVec 32 := 2#32
  let v310 : BitVec 32 := Scalar.muli v70 c2_i32_239
  let v311 : BitVec 32 := Scalar.addi c0_i32_240 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_241 : BitVec 32 := 1#32
  let v312 : BitVec 32 := Scalar.muli v81 c1_i32_241
  let v313 : BitVec 32 := Scalar.addi v311 v312
  v313.toNat
def k0_dev18 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_251 : BitVec 32 := 2#32
  let v324 : BitVec 32 := Scalar.muli v70 c2_i32_251
  let v325 : BitVec 32 := Scalar.addi c0_i32_252 v324
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_253 : BitVec 32 := 1#32
  let v326 : BitVec 32 := Scalar.muli v81 c1_i32_253
  let v327 : BitVec 32 := Scalar.addi v325 v326
  v327.toNat
def k0_dev19 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_263 : BitVec 32 := 2#32
  let v338 : BitVec 32 := Scalar.muli v70 c2_i32_263
  let v339 : BitVec 32 := Scalar.addi c0_i32_264 v338
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_265 : BitVec 32 := 1#32
  let v340 : BitVec 32 := Scalar.muli v81 c1_i32_265
  let v341 : BitVec 32 := Scalar.addi v339 v340
  v341.toNat
def k0_dev20 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_275 : BitVec 32 := 2#32
  let v352 : BitVec 32 := Scalar.muli v70 c2_i32_275
  let v353 : BitVec 32 := Scalar.addi c0_i32_276 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_277 : BitVec 32 := 1#32
  let v354 : BitVec 32 := Scalar.muli v81 c1_i32_277
  let v355 : BitVec 32 := Scalar.addi v353 v354
  v355.toNat
def k0_dev21 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_287 : BitVec 32 := 2#32
  let v366 : BitVec 32 := Scalar.muli v70 c2_i32_287
  let v367 : BitVec 32 := Scalar.addi c0_i32_288 v366
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_289 : BitVec 32 := 1#32
  let v368 : BitVec 32 := Scalar.muli v81 c1_i32_289
  let v369 : BitVec 32 := Scalar.addi v367 v368
  v369.toNat
def k0_dev22 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_299 : BitVec 32 := 2#32
  let v380 : BitVec 32 := Scalar.muli v70 c2_i32_299
  let v381 : BitVec 32 := Scalar.addi c0_i32_300 v380
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_301 : BitVec 32 := 1#32
  let v382 : BitVec 32 := Scalar.muli v81 c1_i32_301
  let v383 : BitVec 32 := Scalar.addi v381 v382
  v383.toNat
def k0_dev23 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_311 : BitVec 32 := 2#32
  let v394 : BitVec 32 := Scalar.muli v70 c2_i32_311
  let v395 : BitVec 32 := Scalar.addi c0_i32_312 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_313 : BitVec 32 := 1#32
  let v396 : BitVec 32 := Scalar.muli v81 c1_i32_313
  let v397 : BitVec 32 := Scalar.addi v395 v396
  v397.toNat
def k0_dev24 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_34 : BitVec 32 := 1#32
  let v60 : BitVec 32 := Scalar.addi v2 c1_i32_34
  let c2_i32_35 : BitVec 32 := 2#32
  let c0_i32_36 : BitVec 32 := 0#32
  let v61 : BitVec 1 := Scalar.cmpi .eq c2_i32_35 c0_i32_36
  let c1_i32_37 : BitVec 32 := 1#32
  let v62 : BitVec 32 := Scalar.select v61 c1_i32_37 c2_i32_35
  let v63 : BitVec 32 := Scalar.remsi v60 v62
  let c0_i32_39 : BitVec 32 := 0#32
  let v65 : BitVec 1 := Scalar.cmpi .slt v63 c0_i32_39
  let c0_i32_40 : BitVec 32 := 0#32
  let v66 : BitVec 1 := Scalar.cmpi .slt v62 c0_i32_40
  let v67 : BitVec 1 := Scalar.xori v65 v66
  let c0_i32_38 : BitVec 32 := 0#32
  let v64 : BitVec 1 := Scalar.cmpi .ne v63 c0_i32_38
  let v68 : BitVec 1 := Scalar.andi v67 v64
  let v69 : BitVec 32 := Scalar.addi v63 v62
  let v70 : BitVec 32 := Scalar.select v68 v69 v63
  let c2_i32_323 : BitVec 32 := 2#32
  let v408 : BitVec 32 := Scalar.muli v70 c2_i32_323
  let v409 : BitVec 32 := Scalar.addi c0_i32_324 v408
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v71 : BitVec 32 := Scalar.addi v5 c1_i32_41
  let c2_i32_42 : BitVec 32 := 2#32
  let c0_i32_43 : BitVec 32 := 0#32
  let v72 : BitVec 1 := Scalar.cmpi .eq c2_i32_42 c0_i32_43
  let c1_i32_44 : BitVec 32 := 1#32
  let v73 : BitVec 32 := Scalar.select v72 c1_i32_44 c2_i32_42
  let v74 : BitVec 32 := Scalar.remsi v71 v73
  let c0_i32_46 : BitVec 32 := 0#32
  let v76 : BitVec 1 := Scalar.cmpi .slt v74 c0_i32_46
  let c0_i32_47 : BitVec 32 := 0#32
  let v77 : BitVec 1 := Scalar.cmpi .slt v73 c0_i32_47
  let v78 : BitVec 1 := Scalar.xori v76 v77
  let c0_i32_45 : BitVec 32 := 0#32
  let v75 : BitVec 1 := Scalar.cmpi .ne v74 c0_i32_45
  let v79 : BitVec 1 := Scalar.andi v78 v75
  let v80 : BitVec 32 := Scalar.addi v74 v73
  let v81 : BitVec 32 := Scalar.select v79 v80 v74
  let c1_i32_325 : BitVec 32 := 1#32
  let v410 : BitVec 32 := Scalar.muli v81 c1_i32_325
  let v411 : BitVec 32 := Scalar.addi v409 v410
  v411.toNat
-- ==== RsWInChipsRefIdeal.lean ====
abbrev S16x1024x2084 : Shape := ⟨3, ![16, 1024, 2084]⟩
abbrev S4x4x1024x2084 : Shape := ⟨4, ![4, 4, 1024, 2084]⟩

abbrev nBuf : Space → Nat
  | .hbm => 4
  | .vmem => 0
  | .smem => 0
  | _ => 0

abbrev bufTy : (tb : Table) → Fin (tcTables nBuf tb) → BufTy
  | .hbm, ⟨0, _⟩ => ⟨S16x1024x2084, .bf16⟩
  | .hbm, ⟨1, _⟩ => ⟨S4x4x1024x2084, .bf16⟩
  | .hbm, ⟨2, _⟩ => ⟨S4x4x1024x2084, .bf16⟩
  | .hbm, ⟨3, _⟩ => ⟨S16x1024x2084, .bf16⟩
  | _, _ => ⟨S16x1024x2084, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== GatherWOutChips.lean ====
abbrev S256x2048 : Shape := ⟨2, ![256, 2048]⟩
abbrev S4x256x2048 : Shape := ⟨3, ![4, 256, 2048]⟩
abbrev S24 : Shape := ⟨1, ![24]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S32x2048 : Shape := ⟨2, ![32, 2048]⟩
abbrev S1x32x2048 : Shape := ⟨3, ![1, 32, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x256x2048, .bf16⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_c_1 : Ref sig .tc := ⟨.hbm, 23, rfl⟩
abbrev main_call0_c_2 : Ref sig .tc := ⟨.hbm, 24, rfl⟩
abbrev main_v12 : Ref sig .tc := ⟨.hbm, 25, rfl⟩

abbrev nD : Nat := 4
abbrev τ : Topo := Topo.v7x

variable {F : FTy → Type} [FloatOps F]

abbrev grid0 : Pipeline.Grid := .none

def k0_off1 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_51 : BitVec 32 := 0#32
  let c0_i32_52 : BitVec 32 := 0#32
  ![v29.toNat, 0, 0]
def k0_off2 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_51 : BitVec 32 := 0#32
  let c0_i32_52 : BitVec 32 := 0#32
  ![v29.toNat, 0, 0]
def k0_dev1 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_48 : BitVec 32 := 2#32
  let v78 : BitVec 32 := Scalar.muli v16 c2_i32_48
  let v79 : BitVec 32 := Scalar.addi c0_i32_49 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_50 : BitVec 32 := 1#32
  let v80 : BitVec 32 := Scalar.muli v27 c1_i32_50
  let v81 : BitVec 32 := Scalar.addi v79 v80
  v81.toNat
def k0_off3 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_63 : BitVec 32 := 0#32
  ![v29.toNat, 32, 0]
def k0_dev2 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_59 : BitVec 32 := 2#32
  let v90 : BitVec 32 := Scalar.muli v16 c2_i32_59
  let v91 : BitVec 32 := Scalar.addi c0_i32_60 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_61 : BitVec 32 := 1#32
  let v92 : BitVec 32 := Scalar.muli v27 c1_i32_61
  let v93 : BitVec 32 := Scalar.addi v91 v92
  v93.toNat
def k0_off4 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_73 : BitVec 32 := 0#32
  ![v29.toNat, 64, 0]
def k0_dev3 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_69 : BitVec 32 := 2#32
  let v102 : BitVec 32 := Scalar.muli v16 c2_i32_69
  let v103 : BitVec 32 := Scalar.addi c0_i32_70 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_71 : BitVec 32 := 1#32
  let v104 : BitVec 32 := Scalar.muli v27 c1_i32_71
  let v105 : BitVec 32 := Scalar.addi v103 v104
  v105.toNat
def k0_off5 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_82 : BitVec 32 := 0#32
  ![v29.toNat, 96, 0]
def k0_dev4 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_78 : BitVec 32 := 2#32
  let v114 : BitVec 32 := Scalar.muli v16 c2_i32_78
  let v115 : BitVec 32 := Scalar.addi c0_i32_79 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_80 : BitVec 32 := 1#32
  let v116 : BitVec 32 := Scalar.muli v27 c1_i32_80
  let v117 : BitVec 32 := Scalar.addi v115 v116
  v117.toNat
def k0_off6 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_91 : BitVec 32 := 0#32
  ![v29.toNat, 128, 0]
def k0_dev5 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_87 : BitVec 32 := 2#32
  let v126 : BitVec 32 := Scalar.muli v16 c2_i32_87
  let v127 : BitVec 32 := Scalar.addi c0_i32_88 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_89 : BitVec 32 := 1#32
  let v128 : BitVec 32 := Scalar.muli v27 c1_i32_89
  let v129 : BitVec 32 := Scalar.addi v127 v128
  v129.toNat
def k0_off7 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_100 : BitVec 32 := 0#32
  ![v29.toNat, 160, 0]
def k0_dev6 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_96 : BitVec 32 := 2#32
  let v138 : BitVec 32 := Scalar.muli v16 c2_i32_96
  let v139 : BitVec 32 := Scalar.addi c0_i32_97 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_98 : BitVec 32 := 1#32
  let v140 : BitVec 32 := Scalar.muli v27 c1_i32_98
  let v141 : BitVec 32 := Scalar.addi v139 v140
  v141.toNat
def k0_off8 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_109 : BitVec 32 := 0#32
  ![v29.toNat, 192, 0]
def k0_dev7 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_105 : BitVec 32 := 2#32
  let v150 : BitVec 32 := Scalar.muli v16 c2_i32_105
  let v151 : BitVec 32 := Scalar.addi c0_i32_106 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_107 : BitVec 32 := 1#32
  let v152 : BitVec 32 := Scalar.muli v27 c1_i32_107
  let v153 : BitVec 32 := Scalar.addi v151 v152
  v153.toNat
def k0_off9 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_118 : BitVec 32 := 0#32
  ![v29.toNat, 224, 0]
def k0_dev8 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_114 : BitVec 32 := 2#32
  let v162 : BitVec 32 := Scalar.muli v16 c2_i32_114
  let v163 : BitVec 32 := Scalar.addi c0_i32_115 v162
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_116 : BitVec 32 := 1#32
  let v164 : BitVec 32 := Scalar.muli v27 c1_i32_116
  let v165 : BitVec 32 := Scalar.addi v163 v164
  v165.toNat
def k0_dev9 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_123 : BitVec 32 := 2#32
  let v174 : BitVec 32 := Scalar.muli v40 c2_i32_123
  let v175 : BitVec 32 := Scalar.addi c0_i32_124 v174
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_125 : BitVec 32 := 1#32
  let v176 : BitVec 32 := Scalar.muli v51 c1_i32_125
  let v177 : BitVec 32 := Scalar.addi v175 v176
  v177.toNat
def k0_dev10 (d0 : Dev nD) : Nat :=
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_133 : BitVec 32 := 2#32
  let v186 : BitVec 32 := Scalar.muli v40 c2_i32_133
  let v187 : BitVec 32 := Scalar.addi c0_i32_134 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_135 : BitVec 32 := 1#32
  let v188 : BitVec 32 := Scalar.muli v51 c1_i32_135
  let v189 : BitVec 32 := Scalar.addi v187 v188
  v189.toNat
def k0_dev11 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_143 : BitVec 32 := 2#32
  let v198 : BitVec 32 := Scalar.muli v40 c2_i32_143
  let v199 : BitVec 32 := Scalar.addi c0_i32_144 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_145 : BitVec 32 := 1#32
  let v200 : BitVec 32 := Scalar.muli v51 c1_i32_145
  let v201 : BitVec 32 := Scalar.addi v199 v200
  v201.toNat
def k0_dev12 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_153 : BitVec 32 := 2#32
  let v210 : BitVec 32 := Scalar.muli v40 c2_i32_153
  let v211 : BitVec 32 := Scalar.addi c0_i32_154 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_155 : BitVec 32 := 1#32
  let v212 : BitVec 32 := Scalar.muli v51 c1_i32_155
  let v213 : BitVec 32 := Scalar.addi v211 v212
  v213.toNat
def k0_dev13 (d0 : Dev nD) : Nat :=
  let c0_i32_164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_163 : BitVec 32 := 2#32
  let v222 : BitVec 32 := Scalar.muli v40 c2_i32_163
  let v223 : BitVec 32 := Scalar.addi c0_i32_164 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_165 : BitVec 32 := 1#32
  let v224 : BitVec 32 := Scalar.muli v51 c1_i32_165
  let v225 : BitVec 32 := Scalar.addi v223 v224
  v225.toNat
def k0_dev14 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_173 : BitVec 32 := 2#32
  let v234 : BitVec 32 := Scalar.muli v40 c2_i32_173
  let v235 : BitVec 32 := Scalar.addi c0_i32_174 v234
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_175 : BitVec 32 := 1#32
  let v236 : BitVec 32 := Scalar.muli v51 c1_i32_175
  let v237 : BitVec 32 := Scalar.addi v235 v236
  v237.toNat
def k0_dev15 (d0 : Dev nD) : Nat :=
  let c0_i32_184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_183 : BitVec 32 := 2#32
  let v246 : BitVec 32 := Scalar.muli v40 c2_i32_183
  let v247 : BitVec 32 := Scalar.addi c0_i32_184 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_185 : BitVec 32 := 1#32
  let v248 : BitVec 32 := Scalar.muli v51 c1_i32_185
  let v249 : BitVec 32 := Scalar.addi v247 v248
  v249.toNat
def k0_dev16 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_193 : BitVec 32 := 2#32
  let v258 : BitVec 32 := Scalar.muli v40 c2_i32_193
  let v259 : BitVec 32 := Scalar.addi c0_i32_194 v258
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_195 : BitVec 32 := 1#32
  let v260 : BitVec 32 := Scalar.muli v51 c1_i32_195
  let v261 : BitVec 32 := Scalar.addi v259 v260
  v261.toNat
def k0_dev17 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_203 : BitVec 32 := 2#32
  let v270 : BitVec 32 := Scalar.muli v64 c2_i32_203
  let v271 : BitVec 32 := Scalar.addi c0_i32_204 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_205 : BitVec 32 := 1#32
  let v272 : BitVec 32 := Scalar.muli v75 c1_i32_205
  let v273 : BitVec 32 := Scalar.addi v271 v272
  v273.toNat
def k0_dev18 (d0 : Dev nD) : Nat :=
  let c0_i32_214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_213 : BitVec 32 := 2#32
  let v282 : BitVec 32 := Scalar.muli v64 c2_i32_213
  let v283 : BitVec 32 := Scalar.addi c0_i32_214 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_215 : BitVec 32 := 1#32
  let v284 : BitVec 32 := Scalar.muli v75 c1_i32_215
  let v285 : BitVec 32 := Scalar.addi v283 v284
  v285.toNat
def k0_dev19 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_223 : BitVec 32 := 2#32
  let v294 : BitVec 32 := Scalar.muli v64 c2_i32_223
  let v295 : BitVec 32 := Scalar.addi c0_i32_224 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_225 : BitVec 32 := 1#32
  let v296 : BitVec 32 := Scalar.muli v75 c1_i32_225
  let v297 : BitVec 32 := Scalar.addi v295 v296
  v297.toNat
def k0_dev20 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_233 : BitVec 32 := 2#32
  let v306 : BitVec 32 := Scalar.muli v64 c2_i32_233
  let v307 : BitVec 32 := Scalar.addi c0_i32_234 v306
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_235 : BitVec 32 := 1#32
  let v308 : BitVec 32 := Scalar.muli v75 c1_i32_235
  let v309 : BitVec 32 := Scalar.addi v307 v308
  v309.toNat
def k0_dev21 (d0 : Dev nD) : Nat :=
  let c0_i32_244 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_243 : BitVec 32 := 2#32
  let v318 : BitVec 32 := Scalar.muli v64 c2_i32_243
  let v319 : BitVec 32 := Scalar.addi c0_i32_244 v318
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_245 : BitVec 32 := 1#32
  let v320 : BitVec 32 := Scalar.muli v75 c1_i32_245
  let v321 : BitVec 32 := Scalar.addi v319 v320
  v321.toNat
def k0_dev22 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_253 : BitVec 32 := 2#32
  let v330 : BitVec 32 := Scalar.muli v64 c2_i32_253
  let v331 : BitVec 32 := Scalar.addi c0_i32_254 v330
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_255 : BitVec 32 := 1#32
  let v332 : BitVec 32 := Scalar.muli v75 c1_i32_255
  let v333 : BitVec 32 := Scalar.addi v331 v332
  v333.toNat
def k0_dev23 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_263 : BitVec 32 := 2#32
  let v342 : BitVec 32 := Scalar.muli v64 c2_i32_263
  let v343 : BitVec 32 := Scalar.addi c0_i32_264 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_265 : BitVec 32 := 1#32
  let v344 : BitVec 32 := Scalar.muli v75 c1_i32_265
  let v345 : BitVec 32 := Scalar.addi v343 v344
  v345.toNat
def k0_dev24 (d0 : Dev nD) : Nat :=
  let c0_i32_274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_273 : BitVec 32 := 2#32
  let v354 : BitVec 32 := Scalar.muli v64 c2_i32_273
  let v355 : BitVec 32 := Scalar.addi c0_i32_274 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_275 : BitVec 32 := 1#32
  let v356 : BitVec 32 := Scalar.muli v75 c1_i32_275
  let v357 : BitVec 32 := Scalar.addi v355 v356
  v357.toNat
def k0_off10 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_302 : BitVec 32 := 0#32
  let c0_i32_303 : BitVec 32 := 0#32
  ![v389.toNat, 0, 0]
def k0_off10_at (r : Fin 3) : BitVec 32 × BitVec 32 :=
  if r.val < 1 then
    (1#32, 0#32)
  else
    if r.val < 2 then
      (0#32, 1#32)
    else
      (1#32, 1#32)
def k0_off11 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_302 : BitVec 32 := 0#32
  let c0_i32_303 : BitVec 32 := 0#32
  ![v389.toNat, 0, 0]
def k0_off11_at (r : Fin 3) : BitVec 32 × BitVec 32 :=
  if r.val < 1 then
    (1#32, 0#32)
  else
    if r.val < 2 then
      (0#32, 1#32)
    else
      (1#32, 1#32)
def k0_off12 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_314 : BitVec 32 := 0#32
  ![v389.toNat, 32, 0]
def k0_off12_at (r : Fin 3) : BitVec 32 × BitVec 32 :=
  if r.val < 1 then
    (1#32, 0#32)
  else
    if r.val < 2 then
      (0#32, 1#32)
    else
      (1#32, 1#32)
def k0_off13 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_325 : BitVec 32 := 0#32
  ![v389.toNat, 64, 0]
def k0_off13_at (r : Fin 3) : BitVec 32 × BitVec 32 :=
  if r.val < 1 then
    (1#32, 0#32)
  else
    if r.val < 2 then
      (0#32, 1#32)
    else
      (1#32, 1#32)
def k0_off14 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_336 : BitVec 32 := 0#32
  ![v389.toNat, 96, 0]
def k0_off14_at (r : Fin 3) : BitVec 32 × BitVec 32 :=
  if r.val < 1 then
    (1#32, 0#32)
  else
    if r.val < 2 then
      (0#32, 1#32)
    else
      (1#32, 1#32)
def k0_off15 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_347 : BitVec 32 := 0#32
  ![v389.toNat, 128, 0]
def k0_off15_at (r : Fin 3) : BitVec 32 × BitVec 32 :=
  if r.val < 1 then
    (1#32, 0#32)
  else
    if r.val < 2 then
      (0#32, 1#32)
    else
      (1#32, 1#32)
def k0_off16 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_358 : BitVec 32 := 0#32
  ![v389.toNat, 160, 0]
def k0_off16_at (r : Fin 3) : BitVec 32 × BitVec 32 :=
  if r.val < 1 then
    (1#32, 0#32)
  else
    if r.val < 2 then
      (0#32, 1#32)
    else
      (1#32, 1#32)
def k0_off17 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_369 : BitVec 32 := 0#32
  ![v389.toNat, 192, 0]
def k0_off17_at (r : Fin 3) : BitVec 32 × BitVec 32 :=
  if r.val < 1 then
    (1#32, 0#32)
  else
    if r.val < 2 then
      (0#32, 1#32)
    else
      (1#32, 1#32)
def k0_off18 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_380 : BitVec 32 := 0#32
  ![v389.toNat, 224, 0]
def k0_off18_at (r : Fin 3) : BitVec 32 × BitVec 32 :=
  if r.val < 1 then
    (1#32, 0#32)
  else
    if r.val < 2 then
      (0#32, 1#32)
    else
      (1#32, 1#32)
-- ==== GatherWOutChipsIdeal.lean ====
abbrev S256x2048 : Shape := ⟨2, ![256, 2048]⟩
abbrev S4x256x2048 : Shape := ⟨3, ![4, 256, 2048]⟩
abbrev S24 : Shape := ⟨1, ![24]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S32x2048 : Shape := ⟨2, ![32, 2048]⟩
abbrev S1x32x2048 : Shape := ⟨3, ![1, 32, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x256x2048, .bf16⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_c_1 : Ref sig .tc := ⟨.hbm, 23, rfl⟩
abbrev main_call0_c_2 : Ref sig .tc := ⟨.hbm, 24, rfl⟩
abbrev main_v12 : Ref sig .tc := ⟨.hbm, 25, rfl⟩

abbrev nD : Nat := 4
abbrev τ : Topo := Topo.v7x

variable {F : FTy → Type} [FloatOps F]

abbrev grid0 : Pipeline.Grid := .none

def k0_off1 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_51 : BitVec 32 := 0#32
  let c0_i32_52 : BitVec 32 := 0#32
  ![v29.toNat, 0, 0]
def k0_off2 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_51 : BitVec 32 := 0#32
  let c0_i32_52 : BitVec 32 := 0#32
  ![v29.toNat, 0, 0]
def k0_dev1 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_48 : BitVec 32 := 2#32
  let v78 : BitVec 32 := Scalar.muli v16 c2_i32_48
  let v79 : BitVec 32 := Scalar.addi c0_i32_49 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_50 : BitVec 32 := 1#32
  let v80 : BitVec 32 := Scalar.muli v27 c1_i32_50
  let v81 : BitVec 32 := Scalar.addi v79 v80
  v81.toNat
def k0_off3 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_63 : BitVec 32 := 0#32
  ![v29.toNat, 32, 0]
def k0_dev2 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_59 : BitVec 32 := 2#32
  let v90 : BitVec 32 := Scalar.muli v16 c2_i32_59
  let v91 : BitVec 32 := Scalar.addi c0_i32_60 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_61 : BitVec 32 := 1#32
  let v92 : BitVec 32 := Scalar.muli v27 c1_i32_61
  let v93 : BitVec 32 := Scalar.addi v91 v92
  v93.toNat
def k0_off4 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_73 : BitVec 32 := 0#32
  ![v29.toNat, 64, 0]
def k0_dev3 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_69 : BitVec 32 := 2#32
  let v102 : BitVec 32 := Scalar.muli v16 c2_i32_69
  let v103 : BitVec 32 := Scalar.addi c0_i32_70 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_71 : BitVec 32 := 1#32
  let v104 : BitVec 32 := Scalar.muli v27 c1_i32_71
  let v105 : BitVec 32 := Scalar.addi v103 v104
  v105.toNat
def k0_off5 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_82 : BitVec 32 := 0#32
  ![v29.toNat, 96, 0]
def k0_dev4 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_78 : BitVec 32 := 2#32
  let v114 : BitVec 32 := Scalar.muli v16 c2_i32_78
  let v115 : BitVec 32 := Scalar.addi c0_i32_79 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_80 : BitVec 32 := 1#32
  let v116 : BitVec 32 := Scalar.muli v27 c1_i32_80
  let v117 : BitVec 32 := Scalar.addi v115 v116
  v117.toNat
def k0_off6 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_91 : BitVec 32 := 0#32
  ![v29.toNat, 128, 0]
def k0_dev5 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_87 : BitVec 32 := 2#32
  let v126 : BitVec 32 := Scalar.muli v16 c2_i32_87
  let v127 : BitVec 32 := Scalar.addi c0_i32_88 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_89 : BitVec 32 := 1#32
  let v128 : BitVec 32 := Scalar.muli v27 c1_i32_89
  let v129 : BitVec 32 := Scalar.addi v127 v128
  v129.toNat
def k0_off7 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_100 : BitVec 32 := 0#32
  ![v29.toNat, 160, 0]
def k0_dev6 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_96 : BitVec 32 := 2#32
  let v138 : BitVec 32 := Scalar.muli v16 c2_i32_96
  let v139 : BitVec 32 := Scalar.addi c0_i32_97 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_98 : BitVec 32 := 1#32
  let v140 : BitVec 32 := Scalar.muli v27 c1_i32_98
  let v141 : BitVec 32 := Scalar.addi v139 v140
  v141.toNat
def k0_off8 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_109 : BitVec 32 := 0#32
  ![v29.toNat, 192, 0]
def k0_dev7 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_105 : BitVec 32 := 2#32
  let v150 : BitVec 32 := Scalar.muli v16 c2_i32_105
  let v151 : BitVec 32 := Scalar.addi c0_i32_106 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_107 : BitVec 32 := 1#32
  let v152 : BitVec 32 := Scalar.muli v27 c1_i32_107
  let v153 : BitVec 32 := Scalar.addi v151 v152
  v153.toNat
def k0_off9 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_118 : BitVec 32 := 0#32
  ![v29.toNat, 224, 0]
def k0_dev8 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_114 : BitVec 32 := 2#32
  let v162 : BitVec 32 := Scalar.muli v16 c2_i32_114
  let v163 : BitVec 32 := Scalar.addi c0_i32_115 v162
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_116 : BitVec 32 := 1#32
  let v164 : BitVec 32 := Scalar.muli v27 c1_i32_116
  let v165 : BitVec 32 := Scalar.addi v163 v164
  v165.toNat
def k0_dev9 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_123 : BitVec 32 := 2#32
  let v174 : BitVec 32 := Scalar.muli v40 c2_i32_123
  let v175 : BitVec 32 := Scalar.addi c0_i32_124 v174
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_125 : BitVec 32 := 1#32
  let v176 : BitVec 32 := Scalar.muli v51 c1_i32_125
  let v177 : BitVec 32 := Scalar.addi v175 v176
  v177.toNat
def k0_dev10 (d0 : Dev nD) : Nat :=
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_133 : BitVec 32 := 2#32
  let v186 : BitVec 32 := Scalar.muli v40 c2_i32_133
  let v187 : BitVec 32 := Scalar.addi c0_i32_134 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_135 : BitVec 32 := 1#32
  let v188 : BitVec 32 := Scalar.muli v51 c1_i32_135
  let v189 : BitVec 32 := Scalar.addi v187 v188
  v189.toNat
def k0_dev11 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_143 : BitVec 32 := 2#32
  let v198 : BitVec 32 := Scalar.muli v40 c2_i32_143
  let v199 : BitVec 32 := Scalar.addi c0_i32_144 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_145 : BitVec 32 := 1#32
  let v200 : BitVec 32 := Scalar.muli v51 c1_i32_145
  let v201 : BitVec 32 := Scalar.addi v199 v200
  v201.toNat
def k0_dev12 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_153 : BitVec 32 := 2#32
  let v210 : BitVec 32 := Scalar.muli v40 c2_i32_153
  let v211 : BitVec 32 := Scalar.addi c0_i32_154 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_155 : BitVec 32 := 1#32
  let v212 : BitVec 32 := Scalar.muli v51 c1_i32_155
  let v213 : BitVec 32 := Scalar.addi v211 v212
  v213.toNat
def k0_dev13 (d0 : Dev nD) : Nat :=
  let c0_i32_164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_163 : BitVec 32 := 2#32
  let v222 : BitVec 32 := Scalar.muli v40 c2_i32_163
  let v223 : BitVec 32 := Scalar.addi c0_i32_164 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_165 : BitVec 32 := 1#32
  let v224 : BitVec 32 := Scalar.muli v51 c1_i32_165
  let v225 : BitVec 32 := Scalar.addi v223 v224
  v225.toNat
def k0_dev14 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_173 : BitVec 32 := 2#32
  let v234 : BitVec 32 := Scalar.muli v40 c2_i32_173
  let v235 : BitVec 32 := Scalar.addi c0_i32_174 v234
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_175 : BitVec 32 := 1#32
  let v236 : BitVec 32 := Scalar.muli v51 c1_i32_175
  let v237 : BitVec 32 := Scalar.addi v235 v236
  v237.toNat
def k0_dev15 (d0 : Dev nD) : Nat :=
  let c0_i32_184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_183 : BitVec 32 := 2#32
  let v246 : BitVec 32 := Scalar.muli v40 c2_i32_183
  let v247 : BitVec 32 := Scalar.addi c0_i32_184 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_185 : BitVec 32 := 1#32
  let v248 : BitVec 32 := Scalar.muli v51 c1_i32_185
  let v249 : BitVec 32 := Scalar.addi v247 v248
  v249.toNat
def k0_dev16 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_193 : BitVec 32 := 2#32
  let v258 : BitVec 32 := Scalar.muli v40 c2_i32_193
  let v259 : BitVec 32 := Scalar.addi c0_i32_194 v258
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_195 : BitVec 32 := 1#32
  let v260 : BitVec 32 := Scalar.muli v51 c1_i32_195
  let v261 : BitVec 32 := Scalar.addi v259 v260
  v261.toNat
def k0_dev17 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_203 : BitVec 32 := 2#32
  let v270 : BitVec 32 := Scalar.muli v64 c2_i32_203
  let v271 : BitVec 32 := Scalar.addi c0_i32_204 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_205 : BitVec 32 := 1#32
  let v272 : BitVec 32 := Scalar.muli v75 c1_i32_205
  let v273 : BitVec 32 := Scalar.addi v271 v272
  v273.toNat
def k0_dev18 (d0 : Dev nD) : Nat :=
  let c0_i32_214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_213 : BitVec 32 := 2#32
  let v282 : BitVec 32 := Scalar.muli v64 c2_i32_213
  let v283 : BitVec 32 := Scalar.addi c0_i32_214 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_215 : BitVec 32 := 1#32
  let v284 : BitVec 32 := Scalar.muli v75 c1_i32_215
  let v285 : BitVec 32 := Scalar.addi v283 v284
  v285.toNat
def k0_dev19 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_223 : BitVec 32 := 2#32
  let v294 : BitVec 32 := Scalar.muli v64 c2_i32_223
  let v295 : BitVec 32 := Scalar.addi c0_i32_224 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_225 : BitVec 32 := 1#32
  let v296 : BitVec 32 := Scalar.muli v75 c1_i32_225
  let v297 : BitVec 32 := Scalar.addi v295 v296
  v297.toNat
def k0_dev20 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_233 : BitVec 32 := 2#32
  let v306 : BitVec 32 := Scalar.muli v64 c2_i32_233
  let v307 : BitVec 32 := Scalar.addi c0_i32_234 v306
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_235 : BitVec 32 := 1#32
  let v308 : BitVec 32 := Scalar.muli v75 c1_i32_235
  let v309 : BitVec 32 := Scalar.addi v307 v308
  v309.toNat
def k0_dev21 (d0 : Dev nD) : Nat :=
  let c0_i32_244 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_243 : BitVec 32 := 2#32
  let v318 : BitVec 32 := Scalar.muli v64 c2_i32_243
  let v319 : BitVec 32 := Scalar.addi c0_i32_244 v318
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_245 : BitVec 32 := 1#32
  let v320 : BitVec 32 := Scalar.muli v75 c1_i32_245
  let v321 : BitVec 32 := Scalar.addi v319 v320
  v321.toNat
def k0_dev22 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_253 : BitVec 32 := 2#32
  let v330 : BitVec 32 := Scalar.muli v64 c2_i32_253
  let v331 : BitVec 32 := Scalar.addi c0_i32_254 v330
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_255 : BitVec 32 := 1#32
  let v332 : BitVec 32 := Scalar.muli v75 c1_i32_255
  let v333 : BitVec 32 := Scalar.addi v331 v332
  v333.toNat
def k0_dev23 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_263 : BitVec 32 := 2#32
  let v342 : BitVec 32 := Scalar.muli v64 c2_i32_263
  let v343 : BitVec 32 := Scalar.addi c0_i32_264 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_265 : BitVec 32 := 1#32
  let v344 : BitVec 32 := Scalar.muli v75 c1_i32_265
  let v345 : BitVec 32 := Scalar.addi v343 v344
  v345.toNat
def k0_dev24 (d0 : Dev nD) : Nat :=
  let c0_i32_274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_273 : BitVec 32 := 2#32
  let v354 : BitVec 32 := Scalar.muli v64 c2_i32_273
  let v355 : BitVec 32 := Scalar.addi c0_i32_274 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_275 : BitVec 32 := 1#32
  let v356 : BitVec 32 := Scalar.muli v75 c1_i32_275
  let v357 : BitVec 32 := Scalar.addi v355 v356
  v357.toNat
def k0_off10 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_302 : BitVec 32 := 0#32
  let c0_i32_303 : BitVec 32 := 0#32
  ![v389.toNat, 0, 0]
def k0_off10_at (r : Fin 3) : BitVec 32 × BitVec 32 :=
  if r.val < 1 then
    (1#32, 0#32)
  else
    if r.val < 2 then
      (0#32, 1#32)
    else
      (1#32, 1#32)
def k0_off11 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_302 : BitVec 32 := 0#32
  let c0_i32_303 : BitVec 32 := 0#32
  ![v389.toNat, 0, 0]
def k0_off11_at (r : Fin 3) : BitVec 32 × BitVec 32 :=
  if r.val < 1 then
    (1#32, 0#32)
  else
    if r.val < 2 then
      (0#32, 1#32)
    else
      (1#32, 1#32)
def k0_off12 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_314 : BitVec 32 := 0#32
  ![v389.toNat, 32, 0]
def k0_off12_at (r : Fin 3) : BitVec 32 × BitVec 32 :=
  if r.val < 1 then
    (1#32, 0#32)
  else
    if r.val < 2 then
      (0#32, 1#32)
    else
      (1#32, 1#32)
def k0_off13 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_325 : BitVec 32 := 0#32
  ![v389.toNat, 64, 0]
def k0_off13_at (r : Fin 3) : BitVec 32 × BitVec 32 :=
  if r.val < 1 then
    (1#32, 0#32)
  else
    if r.val < 2 then
      (0#32, 1#32)
    else
      (1#32, 1#32)
def k0_off14 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_336 : BitVec 32 := 0#32
  ![v389.toNat, 96, 0]
def k0_off14_at (r : Fin 3) : BitVec 32 × BitVec 32 :=
  if r.val < 1 then
    (1#32, 0#32)
  else
    if r.val < 2 then
      (0#32, 1#32)
    else
      (1#32, 1#32)
def k0_off15 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_347 : BitVec 32 := 0#32
  ![v389.toNat, 128, 0]
def k0_off15_at (r : Fin 3) : BitVec 32 × BitVec 32 :=
  if r.val < 1 then
    (1#32, 0#32)
  else
    if r.val < 2 then
      (0#32, 1#32)
    else
      (1#32, 1#32)
def k0_off16 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_358 : BitVec 32 := 0#32
  ![v389.toNat, 160, 0]
def k0_off16_at (r : Fin 3) : BitVec 32 × BitVec 32 :=
  if r.val < 1 then
    (1#32, 0#32)
  else
    if r.val < 2 then
      (0#32, 1#32)
    else
      (1#32, 1#32)
def k0_off17 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_369 : BitVec 32 := 0#32
  ![v389.toNat, 192, 0]
def k0_off17_at (r : Fin 3) : BitVec 32 × BitVec 32 :=
  if r.val < 1 then
    (1#32, 0#32)
  else
    if r.val < 2 then
      (0#32, 1#32)
    else
      (1#32, 1#32)
def k0_off18 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_380 : BitVec 32 := 0#32
  ![v389.toNat, 224, 0]
def k0_off18_at (r : Fin 3) : BitVec 32 × BitVec 32 :=
  if r.val < 1 then
    (1#32, 0#32)
  else
    if r.val < 2 then
      (0#32, 1#32)
    else
      (1#32, 1#32)
-- ==== GatherWOutChipsRefIdeal.lean ====
abbrev S1024x2048 : Shape := ⟨2, ![1024, 2048]⟩
abbrev S4x256x2048 : Shape := ⟨3, ![4, 256, 2048]⟩

abbrev nBuf : Space → Nat
  | .hbm => 2
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S4x256x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherWInChips.lean ====
abbrev S1024x2084 : Shape := ⟨2, ![1024, 2084]⟩
abbrev S4x1024x2084 : Shape := ⟨3, ![4, 1024, 2084]⟩
abbrev S24 : Shape := ⟨1, ![24]⟩
abbrev S8 : Shape := ⟨1, ![8]⟩
abbrev S1 : Shape := ⟨1, ![1]⟩
abbrev S_ : Shape := ⟨0, ![]⟩
abbrev S1x1024x2084 : Shape := ⟨3, ![1, 1024, 2084]⟩
abbrev S128x2084 : Shape := ⟨2, ![128, 2084]⟩
abbrev S1x128x2084 : Shape := ⟨3, ![1, 128, 2084]⟩

abbrev nBuf : Space → Nat
  | .hbm => 26
  | .vmem => 0
  | .smem => 0
  | _ => 0

abbrev bufTy : (tb : Table) → Fin (tcTables nBuf tb) → BufTy
  | .hbm, ⟨0, _⟩ => ⟨S1024x2084, .bf16⟩
  | .hbm, ⟨1, _⟩ => ⟨S4x1024x2084, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x1024x2084, .bf16⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4x1024x2084, .bf16⟩
  | _, _ => ⟨S1024x2084, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_c : Ref sig .tc := ⟨.hbm, 2, rfl⟩
abbrev main_c_0 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_c_2 : Ref sig .tc := ⟨.hbm, 10, rfl⟩
abbrev main_c_3 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_c_1 : Ref sig .tc := ⟨.hbm, 23, rfl⟩
abbrev main_call0_c_2 : Ref sig .tc := ⟨.hbm, 24, rfl⟩
abbrev main_v12 : Ref sig .tc := ⟨.hbm, 25, rfl⟩

abbrev nD : Nat := 4
abbrev τ : Topo := Topo.v7x

variable {F : FTy → Type} [FloatOps F]

abbrev grid0 : Pipeline.Grid := .none

def k0_off1 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_51 : BitVec 32 := 0#32
  let c0_i32_52 : BitVec 32 := 0#32
  ![v29.toNat, 0, 0]
def k0_off2 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_51 : BitVec 32 := 0#32
  let c0_i32_52 : BitVec 32 := 0#32
  ![v29.toNat, 0, 0]
def k0_dev1 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_48 : BitVec 32 := 2#32
  let v78 : BitVec 32 := Scalar.muli v16 c2_i32_48
  let v79 : BitVec 32 := Scalar.addi c0_i32_49 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_50 : BitVec 32 := 1#32
  let v80 : BitVec 32 := Scalar.muli v27 c1_i32_50
  let v81 : BitVec 32 := Scalar.addi v79 v80
  v81.toNat
def k0_off3 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_63 : BitVec 32 := 0#32
  ![v29.toNat, 128, 0]
def k0_dev2 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_59 : BitVec 32 := 2#32
  let v90 : BitVec 32 := Scalar.muli v16 c2_i32_59
  let v91 : BitVec 32 := Scalar.addi c0_i32_60 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_61 : BitVec 32 := 1#32
  let v92 : BitVec 32 := Scalar.muli v27 c1_i32_61
  let v93 : BitVec 32 := Scalar.addi v91 v92
  v93.toNat
def k0_off4 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_73 : BitVec 32 := 0#32
  ![v29.toNat, 256, 0]
def k0_dev3 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_69 : BitVec 32 := 2#32
  let v102 : BitVec 32 := Scalar.muli v16 c2_i32_69
  let v103 : BitVec 32 := Scalar.addi c0_i32_70 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_71 : BitVec 32 := 1#32
  let v104 : BitVec 32 := Scalar.muli v27 c1_i32_71
  let v105 : BitVec 32 := Scalar.addi v103 v104
  v105.toNat
def k0_off5 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_82 : BitVec 32 := 0#32
  ![v29.toNat, 384, 0]
def k0_dev4 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_78 : BitVec 32 := 2#32
  let v114 : BitVec 32 := Scalar.muli v16 c2_i32_78
  let v115 : BitVec 32 := Scalar.addi c0_i32_79 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_80 : BitVec 32 := 1#32
  let v116 : BitVec 32 := Scalar.muli v27 c1_i32_80
  let v117 : BitVec 32 := Scalar.addi v115 v116
  v117.toNat
def k0_off6 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_91 : BitVec 32 := 0#32
  ![v29.toNat, 512, 0]
def k0_dev5 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_87 : BitVec 32 := 2#32
  let v126 : BitVec 32 := Scalar.muli v16 c2_i32_87
  let v127 : BitVec 32 := Scalar.addi c0_i32_88 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_89 : BitVec 32 := 1#32
  let v128 : BitVec 32 := Scalar.muli v27 c1_i32_89
  let v129 : BitVec 32 := Scalar.addi v127 v128
  v129.toNat
def k0_off7 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_100 : BitVec 32 := 0#32
  ![v29.toNat, 640, 0]
def k0_dev6 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_96 : BitVec 32 := 2#32
  let v138 : BitVec 32 := Scalar.muli v16 c2_i32_96
  let v139 : BitVec 32 := Scalar.addi c0_i32_97 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_98 : BitVec 32 := 1#32
  let v140 : BitVec 32 := Scalar.muli v27 c1_i32_98
  let v141 : BitVec 32 := Scalar.addi v139 v140
  v141.toNat
def k0_off8 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_109 : BitVec 32 := 0#32
  ![v29.toNat, 768, 0]
def k0_dev7 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_105 : BitVec 32 := 2#32
  let v150 : BitVec 32 := Scalar.muli v16 c2_i32_105
  let v151 : BitVec 32 := Scalar.addi c0_i32_106 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_107 : BitVec 32 := 1#32
  let v152 : BitVec 32 := Scalar.muli v27 c1_i32_107
  let v153 : BitVec 32 := Scalar.addi v151 v152
  v153.toNat
def k0_off9 (d0 : Dev nD) : Fin 3 → Nat :=
  let c2_i32_15 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v28 : BitVec 32 := Scalar.muli c2_i32_15 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v29 : BitVec 32 := Scalar.addi v28 v5
  let c0_i32_118 : BitVec 32 := 0#32
  ![v29.toNat, 896, 0]
def k0_dev8 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_2 : BitVec 32 := 1#32
  let v6 : BitVec 32 := Scalar.addi v2 c1_i32_2
  let c2_i32_3 : BitVec 32 := 2#32
  let c0_i32 : BitVec 32 := 0#32
  let v7 : BitVec 1 := Scalar.cmpi .eq c2_i32_3 c0_i32
  let c1_i32_4 : BitVec 32 := 1#32
  let v8 : BitVec 32 := Scalar.select v7 c1_i32_4 c2_i32_3
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c2_i32_114 : BitVec 32 := 2#32
  let v162 : BitVec 32 := Scalar.muli v16 c2_i32_114
  let v163 : BitVec 32 := Scalar.addi c0_i32_115 v162
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_8 : BitVec 32 := 0#32
  let v17 : BitVec 32 := Scalar.addi v5 c0_i32_8
  let c2_i32_9 : BitVec 32 := 2#32
  let c0_i32_10 : BitVec 32 := 0#32
  let v18 : BitVec 1 := Scalar.cmpi .eq c2_i32_9 c0_i32_10
  let c1_i32_11 : BitVec 32 := 1#32
  let v19 : BitVec 32 := Scalar.select v18 c1_i32_11 c2_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_116 : BitVec 32 := 1#32
  let v164 : BitVec 32 := Scalar.muli v27 c1_i32_116
  let v165 : BitVec 32 := Scalar.addi v163 v164
  v165.toNat
def k0_dev9 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_123 : BitVec 32 := 2#32
  let v174 : BitVec 32 := Scalar.muli v40 c2_i32_123
  let v175 : BitVec 32 := Scalar.addi c0_i32_124 v174
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_125 : BitVec 32 := 1#32
  let v176 : BitVec 32 := Scalar.muli v51 c1_i32_125
  let v177 : BitVec 32 := Scalar.addi v175 v176
  v177.toNat
def k0_dev10 (d0 : Dev nD) : Nat :=
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_133 : BitVec 32 := 2#32
  let v186 : BitVec 32 := Scalar.muli v40 c2_i32_133
  let v187 : BitVec 32 := Scalar.addi c0_i32_134 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_135 : BitVec 32 := 1#32
  let v188 : BitVec 32 := Scalar.muli v51 c1_i32_135
  let v189 : BitVec 32 := Scalar.addi v187 v188
  v189.toNat
def k0_dev11 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_143 : BitVec 32 := 2#32
  let v198 : BitVec 32 := Scalar.muli v40 c2_i32_143
  let v199 : BitVec 32 := Scalar.addi c0_i32_144 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_145 : BitVec 32 := 1#32
  let v200 : BitVec 32 := Scalar.muli v51 c1_i32_145
  let v201 : BitVec 32 := Scalar.addi v199 v200
  v201.toNat
def k0_dev12 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_153 : BitVec 32 := 2#32
  let v210 : BitVec 32 := Scalar.muli v40 c2_i32_153
  let v211 : BitVec 32 := Scalar.addi c0_i32_154 v210
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_155 : BitVec 32 := 1#32
  let v212 : BitVec 32 := Scalar.muli v51 c1_i32_155
  let v213 : BitVec 32 := Scalar.addi v211 v212
  v213.toNat
def k0_dev13 (d0 : Dev nD) : Nat :=
  let c0_i32_164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_163 : BitVec 32 := 2#32
  let v222 : BitVec 32 := Scalar.muli v40 c2_i32_163
  let v223 : BitVec 32 := Scalar.addi c0_i32_164 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_165 : BitVec 32 := 1#32
  let v224 : BitVec 32 := Scalar.muli v51 c1_i32_165
  let v225 : BitVec 32 := Scalar.addi v223 v224
  v225.toNat
def k0_dev14 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_173 : BitVec 32 := 2#32
  let v234 : BitVec 32 := Scalar.muli v40 c2_i32_173
  let v235 : BitVec 32 := Scalar.addi c0_i32_174 v234
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_175 : BitVec 32 := 1#32
  let v236 : BitVec 32 := Scalar.muli v51 c1_i32_175
  let v237 : BitVec 32 := Scalar.addi v235 v236
  v237.toNat
def k0_dev15 (d0 : Dev nD) : Nat :=
  let c0_i32_184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_183 : BitVec 32 := 2#32
  let v246 : BitVec 32 := Scalar.muli v40 c2_i32_183
  let v247 : BitVec 32 := Scalar.addi c0_i32_184 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_185 : BitVec 32 := 1#32
  let v248 : BitVec 32 := Scalar.muli v51 c1_i32_185
  let v249 : BitVec 32 := Scalar.addi v247 v248
  v249.toNat
def k0_dev16 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_16 : BitVec 32 := 0#32
  let v30 : BitVec 32 := Scalar.addi v2 c0_i32_16
  let c2_i32_17 : BitVec 32 := 2#32
  let c0_i32_18 : BitVec 32 := 0#32
  let v31 : BitVec 1 := Scalar.cmpi .eq c2_i32_17 c0_i32_18
  let c1_i32_19 : BitVec 32 := 1#32
  let v32 : BitVec 32 := Scalar.select v31 c1_i32_19 c2_i32_17
  let v33 : BitVec 32 := Scalar.remsi v30 v32
  let c0_i32_21 : BitVec 32 := 0#32
  let v35 : BitVec 1 := Scalar.cmpi .slt v33 c0_i32_21
  let c0_i32_22 : BitVec 32 := 0#32
  let v36 : BitVec 1 := Scalar.cmpi .slt v32 c0_i32_22
  let v37 : BitVec 1 := Scalar.xori v35 v36
  let c0_i32_20 : BitVec 32 := 0#32
  let v34 : BitVec 1 := Scalar.cmpi .ne v33 c0_i32_20
  let v38 : BitVec 1 := Scalar.andi v37 v34
  let v39 : BitVec 32 := Scalar.addi v33 v32
  let v40 : BitVec 32 := Scalar.select v38 v39 v33
  let c2_i32_193 : BitVec 32 := 2#32
  let v258 : BitVec 32 := Scalar.muli v40 c2_i32_193
  let v259 : BitVec 32 := Scalar.addi c0_i32_194 v258
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v41 : BitVec 32 := Scalar.addi v5 c1_i32_23
  let c2_i32_24 : BitVec 32 := 2#32
  let c0_i32_25 : BitVec 32 := 0#32
  let v42 : BitVec 1 := Scalar.cmpi .eq c2_i32_24 c0_i32_25
  let c1_i32_26 : BitVec 32 := 1#32
  let v43 : BitVec 32 := Scalar.select v42 c1_i32_26 c2_i32_24
  let v44 : BitVec 32 := Scalar.remsi v41 v43
  let c0_i32_28 : BitVec 32 := 0#32
  let v46 : BitVec 1 := Scalar.cmpi .slt v44 c0_i32_28
  let c0_i32_29 : BitVec 32 := 0#32
  let v47 : BitVec 1 := Scalar.cmpi .slt v43 c0_i32_29
  let v48 : BitVec 1 := Scalar.xori v46 v47
  let c0_i32_27 : BitVec 32 := 0#32
  let v45 : BitVec 1 := Scalar.cmpi .ne v44 c0_i32_27
  let v49 : BitVec 1 := Scalar.andi v48 v45
  let v50 : BitVec 32 := Scalar.addi v44 v43
  let v51 : BitVec 32 := Scalar.select v49 v50 v44
  let c1_i32_195 : BitVec 32 := 1#32
  let v260 : BitVec 32 := Scalar.muli v51 c1_i32_195
  let v261 : BitVec 32 := Scalar.addi v259 v260
  v261.toNat
def k0_dev17 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_203 : BitVec 32 := 2#32
  let v270 : BitVec 32 := Scalar.muli v64 c2_i32_203
  let v271 : BitVec 32 := Scalar.addi c0_i32_204 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_205 : BitVec 32 := 1#32
  let v272 : BitVec 32 := Scalar.muli v75 c1_i32_205
  let v273 : BitVec 32 := Scalar.addi v271 v272
  v273.toNat
def k0_dev18 (d0 : Dev nD) : Nat :=
  let c0_i32_214 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_213 : BitVec 32 := 2#32
  let v282 : BitVec 32 := Scalar.muli v64 c2_i32_213
  let v283 : BitVec 32 := Scalar.addi c0_i32_214 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_215 : BitVec 32 := 1#32
  let v284 : BitVec 32 := Scalar.muli v75 c1_i32_215
  let v285 : BitVec 32 := Scalar.addi v283 v284
  v285.toNat
def k0_dev19 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_223 : BitVec 32 := 2#32
  let v294 : BitVec 32 := Scalar.muli v64 c2_i32_223
  let v295 : BitVec 32 := Scalar.addi c0_i32_224 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_225 : BitVec 32 := 1#32
  let v296 : BitVec 32 := Scalar.muli v75 c1_i32_225
  let v297 : BitVec 32 := Scalar.addi v295 v296
  v297.toNat
def k0_dev20 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_233 : BitVec 32 := 2#32
  let v306 : BitVec 32 := Scalar.muli v64 c2_i32_233
  let v307 : BitVec 32 := Scalar.addi c0_i32_234 v306
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_235 : BitVec 32 := 1#32
  let v308 : BitVec 32 := Scalar.muli v75 c1_i32_235
  let v309 : BitVec 32 := Scalar.addi v307 v308
  v309.toNat
def k0_dev21 (d0 : Dev nD) : Nat :=
  let c0_i32_244 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_243 : BitVec 32 := 2#32
  let v318 : BitVec 32 := Scalar.muli v64 c2_i32_243
  let v319 : BitVec 32 := Scalar.addi c0_i32_244 v318
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_245 : BitVec 32 := 1#32
  let v320 : BitVec 32 := Scalar.muli v75 c1_i32_245
  let v321 : BitVec 32 := Scalar.addi v319 v320
  v321.toNat
def k0_dev22 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_253 : BitVec 32 := 2#32
  let v330 : BitVec 32 := Scalar.muli v64 c2_i32_253
  let v331 : BitVec 32 := Scalar.addi c0_i32_254 v330
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_255 : BitVec 32 := 1#32
  let v332 : BitVec 32 := Scalar.muli v75 c1_i32_255
  let v333 : BitVec 32 := Scalar.addi v331 v332
  v333.toNat
def k0_dev23 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_263 : BitVec 32 := 2#32
  let v342 : BitVec 32 := Scalar.muli v64 c2_i32_263
  let v343 : BitVec 32 := Scalar.addi c0_i32_264 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_265 : BitVec 32 := 1#32
  let v344 : BitVec 32 := Scalar.muli v75 c1_i32_265
  let v345 : BitVec 32 := Scalar.addi v343 v344
  v345.toNat
def k0_dev24 (d0 : Dev nD) : Nat :=
  let c0_i32_274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_31 : BitVec 32 := 1#32
  let v54 : BitVec 32 := Scalar.addi v2 c1_i32_31
  let c2_i32_32 : BitVec 32 := 2#32
  let c0_i32_33 : BitVec 32 := 0#32
  let v55 : BitVec 1 := Scalar.cmpi .eq c2_i32_32 c0_i32_33
  let c1_i32_34 : BitVec 32 := 1#32
  let v56 : BitVec 32 := Scalar.select v55 c1_i32_34 c2_i32_32
  let v57 : BitVec 32 := Scalar.remsi v54 v56
  let c0_i32_36 : BitVec 32 := 0#32
  let v59 : BitVec 1 := Scalar.cmpi .slt v57 c0_i32_36
  let c0_i32_37 : BitVec 32 := 0#32
  let v60 : BitVec 1 := Scalar.cmpi .slt v56 c0_i32_37
  let v61 : BitVec 1 := Scalar.xori v59 v60
  let c0_i32_35 : BitVec 32 := 0#32
  let v58 : BitVec 1 := Scalar.cmpi .ne v57 c0_i32_35
  let v62 : BitVec 1 := Scalar.andi v61 v58
  let v63 : BitVec 32 := Scalar.addi v57 v56
  let v64 : BitVec 32 := Scalar.select v62 v63 v57
  let c2_i32_273 : BitVec 32 := 2#32
  let v354 : BitVec 32 := Scalar.muli v64 c2_i32_273
  let v355 : BitVec 32 := Scalar.addi c0_i32_274 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v65 : BitVec 32 := Scalar.addi v5 c1_i32_38
  let c2_i32_39 : BitVec 32 := 2#32
  let c0_i32_40 : BitVec 32 := 0#32
  let v66 : BitVec 1 := Scalar.cmpi .eq c2_i32_39 c0_i32_40
  let c1_i32_41 : BitVec 32 := 1#32
  let v67 : BitVec 32 := Scalar.select v66 c1_i32_41 c2_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1_i32_275 : BitVec 32 := 1#32
  let v356 : BitVec 32 := Scalar.muli v75 c1_i32_275
  let v357 : BitVec 32 := Scalar.addi v355 v356
  v357.toNat
def k0_off10 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_302 : BitVec 32 := 0#32
  let c0_i32_303 : BitVec 32 := 0#32
  ![v389.toNat, 0, 0]
def k0_off10_at (r : Fin 3) : BitVec 32 × BitVec 32 :=
  if r.val < 1 then
    (1#32, 0#32)
  else
    if r.val < 2 then
      (0#32, 1#32)
    else
      (1#32, 1#32)
def k0_off11 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_302 : BitVec 32 := 0#32
  let c0_i32_303 : BitVec 32 := 0#32
  ![v389.toNat, 0, 0]
def k0_off11_at (r : Fin 3) : BitVec 32 × BitVec 32 :=
  if r.val < 1 then
    (1#32, 0#32)
  else
    if r.val < 2 then
      (0#32, 1#32)
    else
      (1#32, 1#32)
def k0_off12 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_314 : BitVec 32 := 0#32
  ![v389.toNat, 128, 0]
def k0_off12_at (r : Fin 3) : BitVec 32 × BitVec 32 :=
  if r.val < 1 then
    (1#32, 0#32)
  else
    if r.val < 2 then
      (0#32, 1#32)
    else
      (1#32, 1#32)
def k0_off13 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_325 : BitVec 32 := 0#32
  ![v389.toNat, 256, 0]
def k0_off13_at (r : Fin 3) : BitVec 32 × BitVec 32 :=
  if r.val < 1 then
    (1#32, 0#32)
  else
    if r.val < 2 then
      (0#32, 1#32)
    else
      (1#32, 1#32)
def k0_off14 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_336 : BitVec 32 := 0#32
  ![v389.toNat, 384, 0]
def k0_off14_at (r : Fin 3) : BitVec 32 × BitVec 32 :=
  if r.val < 1 then
    (1#32, 0#32)
  else
    if r.val < 2 then
      (0#32, 1#32)
    else
      (1#32, 1#32)
def k0_off15 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_347 : BitVec 32 := 0#32
  ![v389.toNat, 512, 0]
def k0_off15_at (r : Fin 3) : BitVec 32 × BitVec 32 :=
  if r.val < 1 then
    (1#32, 0#32)
  else
    if r.val < 2 then
      (0#32, 1#32)
    else
      (1#32, 1#32)
def k0_off16 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_358 : BitVec 32 := 0#32
  ![v389.toNat, 640, 0]
def k0_off16_at (r : Fin 3) : BitVec 32 × BitVec 32 :=
  if r.val < 1 then
    (1#32, 0#32)
  else
    if r.val < 2 then
      (0#32, 1#32)
    else
      (1#32, 1#32)
def k0_off17 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_369 : BitVec 32 := 0#32
  ![v389.toNat, 768, 0]
def k0_off17_at (r : Fin 3) : BitVec 32 × BitVec 32 :=
  if r.val < 1 then
    (1#32, 0#32)
  else
    if r.val < 2 then
      (0#32, 1#32)
    else
      (1#32, 1#32)
def k0_off18 (d0 : Dev nD) (c1_i32_282 : BitVec 32) (c0_i32_289 : BitVec 32) : Fin 3 → Nat :=
  let c2_i32_296 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v366 : BitVec 32 := Scalar.addi v2 c1_i32_282
  let c2_i32_283 : BitVec 32 := 2#32
  let c0_i32_284 : BitVec 32 := 0#32
  let v367 : BitVec 1 := Scalar.cmpi .eq c2_i32_283 c0_i32_284
  let c1_i32_285 : BitVec 32 := 1#32
  let v368 : BitVec 32 := Scalar.select v367 c1_i32_285 c2_i32_283
  let v369 : BitVec 32 := Scalar.remsi v366 v368
  let c0_i32_287 : BitVec 32 := 0#32
  let v371 : BitVec 1 := Scalar.cmpi .slt v369 c0_i32_287
  let c0_i32_288 : BitVec 32 := 0#32
  let v372 : BitVec 1 := Scalar.cmpi .slt v368 c0_i32_288
  let v373 : BitVec 1 := Scalar.xori v371 v372
  let c0_i32_286 : BitVec 32 := 0#32
  let v370 : BitVec 1 := Scalar.cmpi .ne v369 c0_i32_286
  let v374 : BitVec 1 := Scalar.andi v373 v370
  let v375 : BitVec 32 := Scalar.addi v369 v368
  let v376 : BitVec 32 := Scalar.select v374 v375 v369
  let v388 : BitVec 32 := Scalar.muli c2_i32_296 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v377 : BitVec 32 := Scalar.addi v5 c0_i32_289
  let c2_i32_290 : BitVec 32 := 2#32
  let c0_i32_291 : BitVec 32 := 0#32
  let v378 : BitVec 1 := Scalar.cmpi .eq c2_i32_290 c0_i32_291
  let c1_i32_292 : BitVec 32 := 1#32
  let v379 : BitVec 32 := Scalar.select v378 c1_i32_292 c2_i32_290
  let v380 : BitVec 32 := Scalar.remsi v377 v379
  let c0_i32_294 : BitVec 32 := 0#32
  let v382 : BitVec 1 := Scalar.cmpi .slt v380 c0_i32_294
  let c0_i32_295 : BitVec 32 := 0#32
  let v383 : BitVec 1 := Scalar.cmpi .slt v379 c0_i32_295
  let v384 : BitVec 1 := Scalar.xori v382 v383
  let c0_i32_293 : BitVec 32 := 0#32
  let v381 : BitVec 1 := Scalar.cmpi .ne v380 c0_i32_293
  let v385 : BitVec 1 := Scalar.andi v384 v381
  let v386 : BitVec 32 := Scalar.addi v380 v379
  let v387 : BitVec 32 := Scalar.select v385 v386 v380
  let v389 : BitVec 32 := Scalar.addi v388 v387
  let c0_i32_380 : BitVec 32 := 0#32
  ![v389.toNat, 896, 0]
def k0_off18_at (r : Fin 3) : BitVec 32 × BitVec 32 :=
  if r.val < 1 then
    (1#32, 0#32)
  else
    if r.val < 2 then
      (0#32, 1#32)
    else
      (1#32, 1#32)
-- ==== GatherWInChipsRefIdeal.lean ====
abbrev S4096x2084 : Shape := ⟨2, ![4096, 2084]⟩
abbrev S4x1024x2084 : Shape := ⟨3, ![4, 1024, 2084]⟩

abbrev nBuf : Space → Nat
  | .hbm => 2
  | .vmem => 0
  | .smem => 0
  | _ => 0

abbrev bufTy : (tb : Table) → Fin (tcTables nBuf tb) → BufTy
  | .hbm, ⟨0, _⟩ => ⟨S4096x2084, .bf16⟩
  | .hbm, ⟨1, _⟩ => ⟨S4x1024x2084, .bf16⟩
  | _, _ => ⟨S4096x2084, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmall.lean ====
abbrev S48x1024 : Shape := ⟨2, ![48, 1024]⟩
abbrev S4x48x1024 : Shape := ⟨3, ![4, 48, 1024]⟩
abbrev S3 : Shape := ⟨1, ![3]⟩
abbrev S1 : Shape := ⟨1, ![1]⟩
abbrev S_ : Shape := ⟨0, ![]⟩
abbrev S1x48x1024 : Shape := ⟨3, ![1, 48, 1024]⟩

abbrev nBuf : Space → Nat
  | .hbm => 2
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S4x48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 4
abbrev τ : Topo := Topo.v7x

variable {F : FTy → Type} [FloatOps F]

abbrev grid0 : Pipeline.Grid := .none

def k0_off1 (d0 : Dev nD) : Fin 3 → Nat :=
  let c2_i32_2 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.muli c2_i32_2 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.addi v6 v5
  let c0_i32_3 : BitVec 32 := 0#32
  let c0_i32_4 : BitVec 32 := 0#32
  ![v7.toNat, 0, 0]
def k0_dev1 (d0 : Dev nD) : Nat :=
  let c0_i32_57 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_9 : BitVec 32 := 1#32
  let v14 : BitVec 32 := Scalar.addi v2 c1_i32_9
  let c2_i32_10 : BitVec 32 := 2#32
  let c0_i32_11 : BitVec 32 := 0#32
  let v15 : BitVec 1 := Scalar.cmpi .eq c2_i32_10 c0_i32_11
  let c1_i32_12 : BitVec 32 := 1#32
  let v16 : BitVec 32 := Scalar.select v15 c1_i32_12 c2_i32_10
  let v17 : BitVec 32 := Scalar.remsi v14 v16
  let c0_i32_14 : BitVec 32 := 0#32
  let v19 : BitVec 1 := Scalar.cmpi .slt v17 c0_i32_14
  let c0_i32_15 : BitVec 32 := 0#32
  let v20 : BitVec 1 := Scalar.cmpi .slt v16 c0_i32_15
  let v21 : BitVec 1 := Scalar.xori v19 v20
  let c0_i32_13 : BitVec 32 := 0#32
  let v18 : BitVec 1 := Scalar.cmpi .ne v17 c0_i32_13
  let v22 : BitVec 1 := Scalar.andi v21 v18
  let v23 : BitVec 32 := Scalar.addi v17 v16
  let v24 : BitVec 32 := Scalar.select v22 v23 v17
  let c2_i32_56 : BitVec 32 := 2#32
  let v86 : BitVec 32 := Scalar.muli v24 c2_i32_56
  let v87 : BitVec 32 := Scalar.addi c0_i32_57 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_16 : BitVec 32 := 0#32
  let v25 : BitVec 32 := Scalar.addi v5 c0_i32_16
  let c2_i32_17 : BitVec 32 := 2#32
  let c0_i32_18 : BitVec 32 := 0#32
  let v26 : BitVec 1 := Scalar.cmpi .eq c2_i32_17 c0_i32_18
  let c1_i32_19 : BitVec 32 := 1#32
  let v27 : BitVec 32 := Scalar.select v26 c1_i32_19 c2_i32_17
  let v28 : BitVec 32 := Scalar.remsi v25 v27
  let c0_i32_21 : BitVec 32 := 0#32
  let v30 : BitVec 1 := Scalar.cmpi .slt v28 c0_i32_21
  let c0_i32_22 : BitVec 32 := 0#32
  let v31 : BitVec 1 := Scalar.cmpi .slt v27 c0_i32_22
  let v32 : BitVec 1 := Scalar.xori v30 v31
  let c0_i32_20 : BitVec 32 := 0#32
  let v29 : BitVec 1 := Scalar.cmpi .ne v28 c0_i32_20
  let v33 : BitVec 1 := Scalar.andi v32 v29
  let v34 : BitVec 32 := Scalar.addi v28 v27
  let v35 : BitVec 32 := Scalar.select v33 v34 v28
  let c1_i32_58 : BitVec 32 := 1#32
  let v88 : BitVec 32 := Scalar.muli v35 c1_i32_58
  let v89 : BitVec 32 := Scalar.addi v87 v88
  v89.toNat
def k0_dev2 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_24 : BitVec 32 := 0#32
  let v38 : BitVec 32 := Scalar.addi v2 c0_i32_24
  let c2_i32_25 : BitVec 32 := 2#32
  let c0_i32_26 : BitVec 32 := 0#32
  let v39 : BitVec 1 := Scalar.cmpi .eq c2_i32_25 c0_i32_26
  let c1_i32_27 : BitVec 32 := 1#32
  let v40 : BitVec 32 := Scalar.select v39 c1_i32_27 c2_i32_25
  let v41 : BitVec 32 := Scalar.remsi v38 v40
  let c0_i32_29 : BitVec 32 := 0#32
  let v43 : BitVec 1 := Scalar.cmpi .slt v41 c0_i32_29
  let c0_i32_30 : BitVec 32 := 0#32
  let v44 : BitVec 1 := Scalar.cmpi .slt v40 c0_i32_30
  let v45 : BitVec 1 := Scalar.xori v43 v44
  let c0_i32_28 : BitVec 32 := 0#32
  let v42 : BitVec 1 := Scalar.cmpi .ne v41 c0_i32_28
  let v46 : BitVec 1 := Scalar.andi v45 v42
  let v47 : BitVec 32 := Scalar.addi v41 v40
  let v48 : BitVec 32 := Scalar.select v46 v47 v41
  let c2_i32_67 : BitVec 32 := 2#32
  let v98 : BitVec 32 := Scalar.muli v48 c2_i32_67
  let v99 : BitVec 32 := Scalar.addi c0_i32_68 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v49 : BitVec 32 := Scalar.addi v5 c1_i32_31
  let c2_i32_32 : BitVec 32 := 2#32
  let c0_i32_33 : BitVec 32 := 0#32
  let v50 : BitVec 1 := Scalar.cmpi .eq c2_i32_32 c0_i32_33
  let c1_i32_34 : BitVec 32 := 1#32
  let v51 : BitVec 32 := Scalar.select v50 c1_i32_34 c2_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_69 : BitVec 32 := 1#32
  let v100 : BitVec 32 := Scalar.muli v59 c1_i32_69
  let v101 : BitVec 32 := Scalar.addi v99 v100
  v101.toNat
def k0_dev3 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_39 : BitVec 32 := 1#32
  let v62 : BitVec 32 := Scalar.addi v2 c1_i32_39
  let c2_i32_40 : BitVec 32 := 2#32
  let c0_i32_41 : BitVec 32 := 0#32
  let v63 : BitVec 1 := Scalar.cmpi .eq c2_i32_40 c0_i32_41
  let c1_i32_42 : BitVec 32 := 1#32
  let v64 : BitVec 32 := Scalar.select v63 c1_i32_42 c2_i32_40
  let v65 : BitVec 32 := Scalar.remsi v62 v64
  let c0_i32_44 : BitVec 32 := 0#32
  let v67 : BitVec 1 := Scalar.cmpi .slt v65 c0_i32_44
  let c0_i32_45 : BitVec 32 := 0#32
  let v68 : BitVec 1 := Scalar.cmpi .slt v64 c0_i32_45
  let v69 : BitVec 1 := Scalar.xori v67 v68
  let c0_i32_43 : BitVec 32 := 0#32
  let v66 : BitVec 1 := Scalar.cmpi .ne v65 c0_i32_43
  let v70 : BitVec 1 := Scalar.andi v69 v66
  let v71 : BitVec 32 := Scalar.addi v65 v64
  let v72 : BitVec 32 := Scalar.select v70 v71 v65
  let c2_i32_78 : BitVec 32 := 2#32
  let v110 : BitVec 32 := Scalar.muli v72 c2_i32_78
  let v111 : BitVec 32 := Scalar.addi c0_i32_79 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v73 : BitVec 32 := Scalar.addi v5 c1_i32_46
  let c2_i32_47 : BitVec 32 := 2#32
  let c0_i32_48 : BitVec 32 := 0#32
  let v74 : BitVec 1 := Scalar.cmpi .eq c2_i32_47 c0_i32_48
  let c1_i32_49 : BitVec 32 := 1#32
  let v75 : BitVec 32 := Scalar.select v74 c1_i32_49 c2_i32_47
  let v76 : BitVec 32 := Scalar.remsi v73 v75
  let c0_i32_51 : BitVec 32 := 0#32
  let v78 : BitVec 1 := Scalar.cmpi .slt v76 c0_i32_51
  let c0_i32_52 : BitVec 32 := 0#32
  let v79 : BitVec 1 := Scalar.cmpi .slt v75 c0_i32_52
  let v80 : BitVec 1 := Scalar.xori v78 v79
  let c0_i32_50 : BitVec 32 := 0#32
  let v77 : BitVec 1 := Scalar.cmpi .ne v76 c0_i32_50
  let v81 : BitVec 1 := Scalar.andi v80 v77
  let v82 : BitVec 32 := Scalar.addi v76 v75
  let v83 : BitVec 32 := Scalar.select v81 v82 v76
  let c1_i32_80 : BitVec 32 := 1#32
  let v112 : BitVec 32 := Scalar.muli v83 c1_i32_80
  let v113 : BitVec 32 := Scalar.addi v111 v112
  v113.toNat
def k0_off2 (d0 : Dev nD) (c1_i32_87 : BitVec 32) (c0_i32_94 : BitVec 32) : Fin 3 → Nat :=
  let c2_i32_101 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v122 : BitVec 32 := Scalar.addi v2 c1_i32_87
  let c2_i32_88 : BitVec 32 := 2#32
  let c0_i32_89 : BitVec 32 := 0#32
  let v123 : BitVec 1 := Scalar.cmpi .eq c2_i32_88 c0_i32_89
  let c1_i32_90 : BitVec 32 := 1#32
  let v124 : BitVec 32 := Scalar.select v123 c1_i32_90 c2_i32_88
  let v125 : BitVec 32 := Scalar.remsi v122 v124
  let c0_i32_92 : BitVec 32 := 0#32
  let v127 : BitVec 1 := Scalar.cmpi .slt v125 c0_i32_92
  let c0_i32_93 : BitVec 32 := 0#32
  let v128 : BitVec 1 := Scalar.cmpi .slt v124 c0_i32_93
  let v129 : BitVec 1 := Scalar.xori v127 v128
  let c0_i32_91 : BitVec 32 := 0#32
  let v126 : BitVec 1 := Scalar.cmpi .ne v125 c0_i32_91
  let v130 : BitVec 1 := Scalar.andi v129 v126
  let v131 : BitVec 32 := Scalar.addi v125 v124
  let v132 : BitVec 32 := Scalar.select v130 v131 v125
  let v144 : BitVec 32 := Scalar.muli c2_i32_101 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v133 : BitVec 32 := Scalar.addi v5 c0_i32_94
  let c2_i32_95 : BitVec 32 := 2#32
  let c0_i32_96 : BitVec 32 := 0#32
  let v134 : BitVec 1 := Scalar.cmpi .eq c2_i32_95 c0_i32_96
  let c1_i32_97 : BitVec 32 := 1#32
  let v135 : BitVec 32 := Scalar.select v134 c1_i32_97 c2_i32_95
  let v136 : BitVec 32 := Scalar.remsi v133 v135
  let c0_i32_99 : BitVec 32 := 0#32
  let v138 : BitVec 1 := Scalar.cmpi .slt v136 c0_i32_99
  let c0_i32_100 : BitVec 32 := 0#32
  let v139 : BitVec 1 := Scalar.cmpi .slt v135 c0_i32_100
  let v140 : BitVec 1 := Scalar.xori v138 v139
  let c0_i32_98 : BitVec 32 := 0#32
  let v137 : BitVec 1 := Scalar.cmpi .ne v136 c0_i32_98
  let v141 : BitVec 1 := Scalar.andi v140 v137
  let v142 : BitVec 32 := Scalar.addi v136 v135
  let v143 : BitVec 32 := Scalar.select v141 v142 v136
  let v145 : BitVec 32 := Scalar.addi v144 v143
  let c0_i32_107 : BitVec 32 := 0#32
  let c0_i32_108 : BitVec 32 := 0#32
  ![v145.toNat, 0, 0]
def k0_off2_at (r : Fin 3) : BitVec 32 × BitVec 32 :=
  if r.val < 1 then
    (1#32, 0#32)
  else
    if r.val < 2 then
      (0#32, 1#32)
    else
      (1#32, 1#32)
-- ==== GatherSmallRefIdeal.lean ====
abbrev S192x1024 : Shape := ⟨2, ![192, 1024]⟩
abbrev S4x48x1024 : Shape := ⟨3, ![4, 48, 1024]⟩

abbrev nBuf : Space → Nat
  | .hbm => 2
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S4x48x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherRep.lean ====
abbrev S120x128 : Shape := ⟨2, ![120, 128]⟩
abbrev S8x120x128 : Shape := ⟨3, ![8, 120, 128]⟩
abbrev S7 : Shape := ⟨1, ![7]⟩
abbrev S1 : Shape := ⟨1, ![1]⟩
abbrev S_ : Shape := ⟨0, ![]⟩
abbrev S1x120x128 : Shape := ⟨3, ![1, 120, 128]⟩

abbrev nBuf : Space → Nat
  | .hbm => 2
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S8x120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_11 : BitVec 32 := 0#32
  let v19 : BitVec 32 := Scalar.addi v2 c0_i32_11
  let c2_i32_12 : BitVec 32 := 2#32
  let c0_i32_13 : BitVec 32 := 0#32
  let v20 : BitVec 1 := Scalar.cmpi .eq c2_i32_12 c0_i32_13
  let c1_i32_14 : BitVec 32 := 1#32
  let v21 : BitVec 32 := Scalar.select v20 c1_i32_14 c2_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c4_i32_174 : BitVec 32 := 4#32
  let v278 : BitVec 32 := Scalar.muli v29 c4_i32_174
  let v279 : BitVec 32 := Scalar.addi c0_i32_175 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_18 : BitVec 32 := 0#32
  let v30 : BitVec 32 := Scalar.addi v5 c0_i32_18
  let c2_i32_19 : BitVec 32 := 2#32
  let c0_i32_20 : BitVec 32 := 0#32
  let v31 : BitVec 1 := Scalar.cmpi .eq c2_i32_19 c0_i32_20
  let c1_i32_21 : BitVec 32 := 1#32
  let v32 : BitVec 32 := Scalar.select v31 c1_i32_21 c2_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c2_i32_176 : BitVec 32 := 2#32
  let v280 : BitVec 32 := Scalar.muli v40 c2_i32_176
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v41 : BitVec 32 := Scalar.addi v8 c1_i32_25
  let c2_i32_26 : BitVec 32 := 2#32
  let c0_i32_27 : BitVec 32 := 0#32
  let v42 : BitVec 1 := Scalar.cmpi .eq c2_i32_26 c0_i32_27
  let c1_i32_28 : BitVec 32 := 1#32
  let v43 : BitVec 32 := Scalar.select v42 c1_i32_28 c2_i32_26
  let v44 : BitVec 32 := Scalar.remsi v41 v43
  let c0_i32_30 : BitVec 32 := 0#32
  let v46 : BitVec 1 := Scalar.cmpi .slt v44 c0_i32_30
  let c0_i32_31 : BitVec 32 := 0#32
  let v47 : BitVec 1 := Scalar.cmpi .slt v43 c0_i32_31
  let v48 : BitVec 1 := Scalar.xori v46 v47
  let c0_i32_29 : BitVec 32 := 0#32
  let v45 : BitVec 1 := Scalar.cmpi .ne v44 c0_i32_29
  let v49 : BitVec 1 := Scalar.andi v48 v45
  let v50 : BitVec 32 := Scalar.addi v44 v43
  let v51 : BitVec 32 := Scalar.select v49 v50 v44
  let c1_i32_177 : BitVec 32 := 1#32
  let v282 : BitVec 32 := Scalar.muli v51 c1_i32_177
  let v283 : BitVec 32 := Scalar.addi v281 v282
  v283.toNat
def k0_dev2 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_34 : BitVec 32 := 0#32
  let v56 : BitVec 32 := Scalar.addi v2 c0_i32_34
  let c2_i32_35 : BitVec 32 := 2#32
  let c0_i32_36 : BitVec 32 := 0#32
  let v57 : BitVec 1 := Scalar.cmpi .eq c2_i32_35 c0_i32_36
  let c1_i32_37 : BitVec 32 := 1#32
  let v58 : BitVec 32 := Scalar.select v57 c1_i32_37 c2_i32_35
  let v59 : BitVec 32 := Scalar.remsi v56 v58
  let c0_i32_39 : BitVec 32 := 0#32
  let v61 : BitVec 1 := Scalar.cmpi .slt v59 c0_i32_39
  let c0_i32_40 : BitVec 32 := 0#32
  let v62 : BitVec 1 := Scalar.cmpi .slt v58 c0_i32_40
  let v63 : BitVec 1 := Scalar.xori v61 v62
  let c0_i32_38 : BitVec 32 := 0#32
  let v60 : BitVec 1 := Scalar.cmpi .ne v59 c0_i32_38
  let v64 : BitVec 1 := Scalar.andi v63 v60
  let v65 : BitVec 32 := Scalar.addi v59 v58
  let v66 : BitVec 32 := Scalar.select v64 v65 v59
  let c4_i32_186 : BitVec 32 := 4#32
  let v292 : BitVec 32 := Scalar.muli v66 c4_i32_186
  let v293 : BitVec 32 := Scalar.addi c0_i32_187 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_41 : BitVec 32 := 1#32
  let v67 : BitVec 32 := Scalar.addi v5 c1_i32_41
  let c2_i32_42 : BitVec 32 := 2#32
  let c0_i32_43 : BitVec 32 := 0#32
  let v68 : BitVec 1 := Scalar.cmpi .eq c2_i32_42 c0_i32_43
  let c1_i32_44 : BitVec 32 := 1#32
  let v69 : BitVec 32 := Scalar.select v68 c1_i32_44 c2_i32_42
  let v70 : BitVec 32 := Scalar.remsi v67 v69
  let c0_i32_46 : BitVec 32 := 0#32
  let v72 : BitVec 1 := Scalar.cmpi .slt v70 c0_i32_46
  let c0_i32_47 : BitVec 32 := 0#32
  let v73 : BitVec 1 := Scalar.cmpi .slt v69 c0_i32_47
  let v74 : BitVec 1 := Scalar.xori v72 v73
  let c0_i32_45 : BitVec 32 := 0#32
  let v71 : BitVec 1 := Scalar.cmpi .ne v70 c0_i32_45
  let v75 : BitVec 1 := Scalar.andi v74 v71
  let v76 : BitVec 32 := Scalar.addi v70 v69
  let v77 : BitVec 32 := Scalar.select v75 v76 v70
  let c2_i32_188 : BitVec 32 := 2#32
  let v294 : BitVec 32 := Scalar.muli v77 c2_i32_188
  let v295 : BitVec 32 := Scalar.addi v293 v294
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_48 : BitVec 32 := 0#32
  let v78 : BitVec 32 := Scalar.addi v8 c0_i32_48
  let c2_i32_49 : BitVec 32 := 2#32
  let c0_i32_50 : BitVec 32 := 0#32
  let v79 : BitVec 1 := Scalar.cmpi .eq c2_i32_49 c0_i32_50
  let c1_i32_51 : BitVec 32 := 1#32
  let v80 : BitVec 32 := Scalar.select v79 c1_i32_51 c2_i32_49
  let v81 : BitVec 32 := Scalar.remsi v78 v80
  let c0_i32_53 : BitVec 32 := 0#32
  let v83 : BitVec 1 := Scalar.cmpi .slt v81 c0_i32_53
  let c0_i32_54 : BitVec 32 := 0#32
  let v84 : BitVec 1 := Scalar.cmpi .slt v80 c0_i32_54
  let v85 : BitVec 1 := Scalar.xori v83 v84
  let c0_i32_52 : BitVec 32 := 0#32
  let v82 : BitVec 1 := Scalar.cmpi .ne v81 c0_i32_52
  let v86 : BitVec 1 := Scalar.andi v85 v82
  let v87 : BitVec 32 := Scalar.addi v81 v80
  let v88 : BitVec 32 := Scalar.select v86 v87 v81
  let c1_i32_189 : BitVec 32 := 1#32
  let v296 : BitVec 32 := Scalar.muli v88 c1_i32_189
  let v297 : BitVec 32 := Scalar.addi v295 v296
  v297.toNat
def k0_dev3 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_57 : BitVec 32 := 0#32
  let v93 : BitVec 32 := Scalar.addi v2 c0_i32_57
  let c2_i32_58 : BitVec 32 := 2#32
  let c0_i32_59 : BitVec 32 := 0#32
  let v94 : BitVec 1 := Scalar.cmpi .eq c2_i32_58 c0_i32_59
  let c1_i32_60 : BitVec 32 := 1#32
  let v95 : BitVec 32 := Scalar.select v94 c1_i32_60 c2_i32_58
  let v96 : BitVec 32 := Scalar.remsi v93 v95
  let c0_i32_62 : BitVec 32 := 0#32
  let v98 : BitVec 1 := Scalar.cmpi .slt v96 c0_i32_62
  let c0_i32_63 : BitVec 32 := 0#32
  let v99 : BitVec 1 := Scalar.cmpi .slt v95 c0_i32_63
  let v100 : BitVec 1 := Scalar.xori v98 v99
  let c0_i32_61 : BitVec 32 := 0#32
  let v97 : BitVec 1 := Scalar.cmpi .ne v96 c0_i32_61
  let v101 : BitVec 1 := Scalar.andi v100 v97
  let v102 : BitVec 32 := Scalar.addi v96 v95
  let v103 : BitVec 32 := Scalar.select v101 v102 v96
  let c4_i32_198 : BitVec 32 := 4#32
  let v306 : BitVec 32 := Scalar.muli v103 c4_i32_198
  let v307 : BitVec 32 := Scalar.addi c0_i32_199 v306
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_64 : BitVec 32 := 1#32
  let v104 : BitVec 32 := Scalar.addi v5 c1_i32_64
  let c2_i32_65 : BitVec 32 := 2#32
  let c0_i32_66 : BitVec 32 := 0#32
  let v105 : BitVec 1 := Scalar.cmpi .eq c2_i32_65 c0_i32_66
  let c1_i32_67 : BitVec 32 := 1#32
  let v106 : BitVec 32 := Scalar.select v105 c1_i32_67 c2_i32_65
  let v107 : BitVec 32 := Scalar.remsi v104 v106
  let c0_i32_69 : BitVec 32 := 0#32
  let v109 : BitVec 1 := Scalar.cmpi .slt v107 c0_i32_69
  let c0_i32_70 : BitVec 32 := 0#32
  let v110 : BitVec 1 := Scalar.cmpi .slt v106 c0_i32_70
  let v111 : BitVec 1 := Scalar.xori v109 v110
  let c0_i32_68 : BitVec 32 := 0#32
  let v108 : BitVec 1 := Scalar.cmpi .ne v107 c0_i32_68
  let v112 : BitVec 1 := Scalar.andi v111 v108
  let v113 : BitVec 32 := Scalar.addi v107 v106
  let v114 : BitVec 32 := Scalar.select v112 v113 v107
  let c2_i32_200 : BitVec 32 := 2#32
  let v308 : BitVec 32 := Scalar.muli v114 c2_i32_200
  let v309 : BitVec 32 := Scalar.addi v307 v308
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v115 : BitVec 32 := Scalar.addi v8 c1_i32_71
  let c2_i32_72 : BitVec 32 := 2#32
  let c0_i32_73 : BitVec 32 := 0#32
  let v116 : BitVec 1 := Scalar.cmpi .eq c2_i32_72 c0_i32_73
  let c1_i32_74 : BitVec 32 := 1#32
  let v117 : BitVec 32 := Scalar.select v116 c1_i32_74 c2_i32_72
  let v118 : BitVec 32 := Scalar.remsi v115 v117
  let c0_i32_76 : BitVec 32 := 0#32
  let v120 : BitVec 1 := Scalar.cmpi .slt v118 c0_i32_76
  let c0_i32_77 : BitVec 32 := 0#32
  let v121 : BitVec 1 := Scalar.cmpi .slt v117 c0_i32_77
  let v122 : BitVec 1 := Scalar.xori v120 v121
  let c0_i32_75 : BitVec 32 := 0#32
  let v119 : BitVec 1 := Scalar.cmpi .ne v118 c0_i32_75
  let v123 : BitVec 1 := Scalar.andi v122 v119
  let v124 : BitVec 32 := Scalar.addi v118 v117
  let v125 : BitVec 32 := Scalar.select v123 v124 v118
  let c1_i32_201 : BitVec 32 := 1#32
  let v310 : BitVec 32 := Scalar.muli v125 c1_i32_201
  let v311 : BitVec 32 := Scalar.addi v309 v310
  v311.toNat
def k0_dev4 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_80 : BitVec 32 := 1#32
  let v130 : BitVec 32 := Scalar.addi v2 c1_i32_80
  let c2_i32_81 : BitVec 32 := 2#32
  let c0_i32_82 : BitVec 32 := 0#32
  let v131 : BitVec 1 := Scalar.cmpi .eq c2_i32_81 c0_i32_82
  let c1_i32_83 : BitVec 32 := 1#32
  let v132 : BitVec 32 := Scalar.select v131 c1_i32_83 c2_i32_81
  let v133 : BitVec 32 := Scalar.remsi v130 v132
  let c0_i32_85 : BitVec 32 := 0#32
  let v135 : BitVec 1 := Scalar.cmpi .slt v133 c0_i32_85
  let c0_i32_86 : BitVec 32 := 0#32
  let v136 : BitVec 1 := Scalar.cmpi .slt v132 c0_i32_86
  let v137 : BitVec 1 := Scalar.xori v135 v136
  let c0_i32_84 : BitVec 32 := 0#32
  let v134 : BitVec 1 := Scalar.cmpi .ne v133 c0_i32_84
  let v138 : BitVec 1 := Scalar.andi v137 v134
  let v139 : BitVec 32 := Scalar.addi v133 v132
  let v140 : BitVec 32 := Scalar.select v138 v139 v133
  let c4_i32_209 : BitVec 32 := 4#32
  let v320 : BitVec 32 := Scalar.muli v140 c4_i32_209
  let v321 : BitVec 32 := Scalar.addi c0_i32_210 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_87 : BitVec 32 := 0#32
  let v141 : BitVec 32 := Scalar.addi v5 c0_i32_87
  let c2_i32_88 : BitVec 32 := 2#32
  let c0_i32_89 : BitVec 32 := 0#32
  let v142 : BitVec 1 := Scalar.cmpi .eq c2_i32_88 c0_i32_89
  let c1_i32_90 : BitVec 32 := 1#32
  let v143 : BitVec 32 := Scalar.select v142 c1_i32_90 c2_i32_88
  let v144 : BitVec 32 := Scalar.remsi v141 v143
  let c0_i32_92 : BitVec 32 := 0#32
  let v146 : BitVec 1 := Scalar.cmpi .slt v144 c0_i32_92
  let c0_i32_93 : BitVec 32 := 0#32
  let v147 : BitVec 1 := Scalar.cmpi .slt v143 c0_i32_93
  let v148 : BitVec 1 := Scalar.xori v146 v147
  let c0_i32_91 : BitVec 32 := 0#32
  let v145 : BitVec 1 := Scalar.cmpi .ne v144 c0_i32_91
  let v149 : BitVec 1 := Scalar.andi v148 v145
  let v150 : BitVec 32 := Scalar.addi v144 v143
  let v151 : BitVec 32 := Scalar.select v149 v150 v144
  let c2_i32_211 : BitVec 32 := 2#32
  let v322 : BitVec 32 := Scalar.muli v151 c2_i32_211
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_94 : BitVec 32 := 0#32
  let v152 : BitVec 32 := Scalar.addi v8 c0_i32_94
  let c2_i32_95 : BitVec 32 := 2#32
  let c0_i32_96 : BitVec 32 := 0#32
  let v153 : BitVec 1 := Scalar.cmpi .eq c2_i32_95 c0_i32_96
  let c1_i32_97 : BitVec 32 := 1#32
  let v154 : BitVec 32 := Scalar.select v153 c1_i32_97 c2_i32_95
  let v155 : BitVec 32 := Scalar.remsi v152 v154
  let c0_i32_99 : BitVec 32 := 0#32
  let v157 : BitVec 1 := Scalar.cmpi .slt v155 c0_i32_99
  let c0_i32_100 : BitVec 32 := 0#32
  let v158 : BitVec 1 := Scalar.cmpi .slt v154 c0_i32_100
  let v159 : BitVec 1 := Scalar.xori v157 v158
  let c0_i32_98 : BitVec 32 := 0#32
  let v156 : BitVec 1 := Scalar.cmpi .ne v155 c0_i32_98
  let v160 : BitVec 1 := Scalar.andi v159 v156
  let v161 : BitVec 32 := Scalar.addi v155 v154
  let v162 : BitVec 32 := Scalar.select v160 v161 v155
  let c1_i32_212 : BitVec 32 := 1#32
  let v324 : BitVec 32 := Scalar.muli v162 c1_i32_212
  let v325 : BitVec 32 := Scalar.addi v323 v324
  v325.toNat
def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_103 : BitVec 32 := 1#32
  let v167 : BitVec 32 := Scalar.addi v2 c1_i32_103
  let c2_i32_104 : BitVec 32 := 2#32
  let c0_i32_105 : BitVec 32 := 0#32
  let v168 : BitVec 1 := Scalar.cmpi .eq c2_i32_104 c0_i32_105
  let c1_i32_106 : BitVec 32 := 1#32
  let v169 : BitVec 32 := Scalar.select v168 c1_i32_106 c2_i32_104
  let v170 : BitVec 32 := Scalar.remsi v167 v169
  let c0_i32_108 : BitVec 32 := 0#32
  let v172 : BitVec 1 := Scalar.cmpi .slt v170 c0_i32_108
  let c0_i32_109 : BitVec 32 := 0#32
  let v173 : BitVec 1 := Scalar.cmpi .slt v169 c0_i32_109
  let v174 : BitVec 1 := Scalar.xori v172 v173
  let c0_i32_107 : BitVec 32 := 0#32
  let v171 : BitVec 1 := Scalar.cmpi .ne v170 c0_i32_107
  let v175 : BitVec 1 := Scalar.andi v174 v171
  let v176 : BitVec 32 := Scalar.addi v170 v169
  let v177 : BitVec 32 := Scalar.select v175 v176 v170
  let c4_i32_221 : BitVec 32 := 4#32
  let v334 : BitVec 32 := Scalar.muli v177 c4_i32_221
  let v335 : BitVec 32 := Scalar.addi c0_i32_222 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_110 : BitVec 32 := 0#32
  let v178 : BitVec 32 := Scalar.addi v5 c0_i32_110
  let c2_i32_111 : BitVec 32 := 2#32
  let c0_i32_112 : BitVec 32 := 0#32
  let v179 : BitVec 1 := Scalar.cmpi .eq c2_i32_111 c0_i32_112
  let c1_i32_113 : BitVec 32 := 1#32
  let v180 : BitVec 32 := Scalar.select v179 c1_i32_113 c2_i32_111
  let v181 : BitVec 32 := Scalar.remsi v178 v180
  let c0_i32_115 : BitVec 32 := 0#32
  let v183 : BitVec 1 := Scalar.cmpi .slt v181 c0_i32_115
  let c0_i32_116 : BitVec 32 := 0#32
  let v184 : BitVec 1 := Scalar.cmpi .slt v180 c0_i32_116
  let v185 : BitVec 1 := Scalar.xori v183 v184
  let c0_i32_114 : BitVec 32 := 0#32
  let v182 : BitVec 1 := Scalar.cmpi .ne v181 c0_i32_114
  let v186 : BitVec 1 := Scalar.andi v185 v182
  let v187 : BitVec 32 := Scalar.addi v181 v180
  let v188 : BitVec 32 := Scalar.select v186 v187 v181
  let c2_i32_223 : BitVec 32 := 2#32
  let v336 : BitVec 32 := Scalar.muli v188 c2_i32_223
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v189 : BitVec 32 := Scalar.addi v8 c1_i32_117
  let c2_i32_118 : BitVec 32 := 2#32
  let c0_i32_119 : BitVec 32 := 0#32
  let v190 : BitVec 1 := Scalar.cmpi .eq c2_i32_118 c0_i32_119
  let c1_i32_120 : BitVec 32 := 1#32
  let v191 : BitVec 32 := Scalar.select v190 c1_i32_120 c2_i32_118
  let v192 : BitVec 32 := Scalar.remsi v189 v191
  let c0_i32_122 : BitVec 32 := 0#32
  let v194 : BitVec 1 := Scalar.cmpi .slt v192 c0_i32_122
  let c0_i32_123 : BitVec 32 := 0#32
  let v195 : BitVec 1 := Scalar.cmpi .slt v191 c0_i32_123
  let v196 : BitVec 1 := Scalar.xori v194 v195
  let c0_i32_121 : BitVec 32 := 0#32
  let v193 : BitVec 1 := Scalar.cmpi .ne v192 c0_i32_121
  let v197 : BitVec 1 := Scalar.andi v196 v193
  let v198 : BitVec 32 := Scalar.addi v192 v191
  let v199 : BitVec 32 := Scalar.select v197 v198 v192
  let c1_i32_224 : BitVec 32 := 1#32
  let v338 : BitVec 32 := Scalar.muli v199 c1_i32_224
  let v339 : BitVec 32 := Scalar.addi v337 v338
  v339.toNat
def k0_dev6 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_126 : BitVec 32 := 1#32
  let v204 : BitVec 32 := Scalar.addi v2 c1_i32_126
  let c2_i32_127 : BitVec 32 := 2#32
  let c0_i32_128 : BitVec 32 := 0#32
  let v205 : BitVec 1 := Scalar.cmpi .eq c2_i32_127 c0_i32_128
  let c1_i32_129 : BitVec 32 := 1#32
  let v206 : BitVec 32 := Scalar.select v205 c1_i32_129 c2_i32_127
  let v207 : BitVec 32 := Scalar.remsi v204 v206
  let c0_i32_131 : BitVec 32 := 0#32
  let v209 : BitVec 1 := Scalar.cmpi .slt v207 c0_i32_131
  let c0_i32_132 : BitVec 32 := 0#32
  let v210 : BitVec 1 := Scalar.cmpi .slt v206 c0_i32_132
  let v211 : BitVec 1 := Scalar.xori v209 v210
  let c0_i32_130 : BitVec 32 := 0#32
  let v208 : BitVec 1 := Scalar.cmpi .ne v207 c0_i32_130
  let v212 : BitVec 1 := Scalar.andi v211 v208
  let v213 : BitVec 32 := Scalar.addi v207 v206
  let v214 : BitVec 32 := Scalar.select v212 v213 v207
  let c4_i32_232 : BitVec 32 := 4#32
  let v348 : BitVec 32 := Scalar.muli v214 c4_i32_232
  let v349 : BitVec 32 := Scalar.addi c0_i32_233 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_133 : BitVec 32 := 1#32
  let v215 : BitVec 32 := Scalar.addi v5 c1_i32_133
  let c2_i32_134 : BitVec 32 := 2#32
  let c0_i32_135 : BitVec 32 := 0#32
  let v216 : BitVec 1 := Scalar.cmpi .eq c2_i32_134 c0_i32_135
  let c1_i32_136 : BitVec 32 := 1#32
  let v217 : BitVec 32 := Scalar.select v216 c1_i32_136 c2_i32_134
  let v218 : BitVec 32 := Scalar.remsi v215 v217
  let c0_i32_138 : BitVec 32 := 0#32
  let v220 : BitVec 1 := Scalar.cmpi .slt v218 c0_i32_138
  let c0_i32_139 : BitVec 32 := 0#32
  let v221 : BitVec 1 := Scalar.cmpi .slt v217 c0_i32_139
  let v222 : BitVec 1 := Scalar.xori v220 v221
  let c0_i32_137 : BitVec 32 := 0#32
  let v219 : BitVec 1 := Scalar.cmpi .ne v218 c0_i32_137
  let v223 : BitVec 1 := Scalar.andi v222 v219
  let v224 : BitVec 32 := Scalar.addi v218 v217
  let v225 : BitVec 32 := Scalar.select v223 v224 v218
  let c2_i32_234 : BitVec 32 := 2#32
  let v350 : BitVec 32 := Scalar.muli v225 c2_i32_234
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_140 : BitVec 32 := 0#32
  let v226 : BitVec 32 := Scalar.addi v8 c0_i32_140
  let c2_i32_141 : BitVec 32 := 2#32
  let c0_i32_142 : BitVec 32 := 0#32
  let v227 : BitVec 1 := Scalar.cmpi .eq c2_i32_141 c0_i32_142
  let c1_i32_143 : BitVec 32 := 1#32
  let v228 : BitVec 32 := Scalar.select v227 c1_i32_143 c2_i32_141
  let v229 : BitVec 32 := Scalar.remsi v226 v228
  let c0_i32_145 : BitVec 32 := 0#32
  let v231 : BitVec 1 := Scalar.cmpi .slt v229 c0_i32_145
  let c0_i32_146 : BitVec 32 := 0#32
  let v232 : BitVec 1 := Scalar.cmpi .slt v228 c0_i32_146
  let v233 : BitVec 1 := Scalar.xori v231 v232
  let c0_i32_144 : BitVec 32 := 0#32
  let v230 : BitVec 1 := Scalar.cmpi .ne v229 c0_i32_144
  let v234 : BitVec 1 := Scalar.andi v233 v230
  let v235 : BitVec 32 := Scalar.addi v229 v228
  let v236 : BitVec 32 := Scalar.select v234 v235 v229
  let c1_i32_235 : BitVec 32 := 1#32
  let v352 : BitVec 32 := Scalar.muli v236 c1_i32_235
  let v353 : BitVec 32 := Scalar.addi v351 v352
  v353.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_149 : BitVec 32 := 1#32
  let v241 : BitVec 32 := Scalar.addi v2 c1_i32_149
  let c2_i32_150 : BitVec 32 := 2#32
  let c0_i32_151 : BitVec 32 := 0#32
  let v242 : BitVec 1 := Scalar.cmpi .eq c2_i32_150 c0_i32_151
  let c1_i32_152 : BitVec 32 := 1#32
  let v243 : BitVec 32 := Scalar.select v242 c1_i32_152 c2_i32_150
  let v244 : BitVec 32 := Scalar.remsi v241 v243
  let c0_i32_154 : BitVec 32 := 0#32
  let v246 : BitVec 1 := Scalar.cmpi .slt v244 c0_i32_154
  let c0_i32_155 : BitVec 32 := 0#32
  let v247 : BitVec 1 := Scalar.cmpi .slt v243 c0_i32_155
  let v248 : BitVec 1 := Scalar.xori v246 v247
  let c0_i32_153 : BitVec 32 := 0#32
  let v245 : BitVec 1 := Scalar.cmpi .ne v244 c0_i32_153
  let v249 : BitVec 1 := Scalar.andi v248 v245
  let v250 : BitVec 32 := Scalar.addi v244 v243
  let v251 : BitVec 32 := Scalar.select v249 v250 v244
  let c4_i32_243 : BitVec 32 := 4#32
  let v362 : BitVec 32 := Scalar.muli v251 c4_i32_243
  let v363 : BitVec 32 := Scalar.addi c0_i32_244 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_156 : BitVec 32 := 1#32
  let v252 : BitVec 32 := Scalar.addi v5 c1_i32_156
  let c2_i32_157 : BitVec 32 := 2#32
  let c0_i32_158 : BitVec 32 := 0#32
  let v253 : BitVec 1 := Scalar.cmpi .eq c2_i32_157 c0_i32_158
  let c1_i32_159 : BitVec 32 := 1#32
  let v254 : BitVec 32 := Scalar.select v253 c1_i32_159 c2_i32_157
  let v255 : BitVec 32 := Scalar.remsi v252 v254
  let c0_i32_161 : BitVec 32 := 0#32
  let v257 : BitVec 1 := Scalar.cmpi .slt v255 c0_i32_161
  let c0_i32_162 : BitVec 32 := 0#32
  let v258 : BitVec 1 := Scalar.cmpi .slt v254 c0_i32_162
  let v259 : BitVec 1 := Scalar.xori v257 v258
  let c0_i32_160 : BitVec 32 := 0#32
  let v256 : BitVec 1 := Scalar.cmpi .ne v255 c0_i32_160
  let v260 : BitVec 1 := Scalar.andi v259 v256
  let v261 : BitVec 32 := Scalar.addi v255 v254
  let v262 : BitVec 32 := Scalar.select v260 v261 v255
  let c2_i32_245 : BitVec 32 := 2#32
  let v364 : BitVec 32 := Scalar.muli v262 c2_i32_245
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_163 : BitVec 32 := 1#32
  let v263 : BitVec 32 := Scalar.addi v8 c1_i32_163
  let c2_i32_164 : BitVec 32 := 2#32
  let c0_i32_165 : BitVec 32 := 0#32
  let v264 : BitVec 1 := Scalar.cmpi .eq c2_i32_164 c0_i32_165
  let c1_i32_166 : BitVec 32 := 1#32
  let v265 : BitVec 32 := Scalar.select v264 c1_i32_166 c2_i32_164
  let v266 : BitVec 32 := Scalar.remsi v263 v265
  let c0_i32_168 : BitVec 32 := 0#32
  let v268 : BitVec 1 := Scalar.cmpi .slt v266 c0_i32_168
  let c0_i32_169 : BitVec 32 := 0#32
  let v269 : BitVec 1 := Scalar.cmpi .slt v265 c0_i32_169
  let v270 : BitVec 1 := Scalar.xori v268 v269
  let c0_i32_167 : BitVec 32 := 0#32
  let v267 : BitVec 1 := Scalar.cmpi .ne v266 c0_i32_167
  let v271 : BitVec 1 := Scalar.andi v270 v267
  let v272 : BitVec 32 := Scalar.addi v266 v265
  let v273 : BitVec 32 := Scalar.select v271 v272 v266
  let c1_i32_246 : BitVec 32 := 1#32
  let v366 : BitVec 32 := Scalar.muli v273 c1_i32_246
  let v367 : BitVec 32 := Scalar.addi v365 v366
  v367.toNat
def k0_off2 (d0 : Dev nD) (c0_i32_253 : BitVec 32) (c0_i32_260 : BitVec 32) (c1_i32_267 : BitVec 32) : Fin 3 → Nat :=
  let c4_i32_274 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v376 : BitVec 32 := Scalar.addi v2 c0_i32_253
  let c2_i32_254 : BitVec 32 := 2#32
  let c0_i32_255 : BitVec 32 := 0#32
  let v377 : BitVec 1 := Scalar.cmpi .eq c2_i32_254 c0_i32_255
  let c1_i32_256 : BitVec 32 := 1#32
  let v378 : BitVec 32 := Scalar.select v377 c1_i32_256 c2_i32_254
  let v379 : BitVec 32 := Scalar.remsi v376 v378
  let c0_i32_258 : BitVec 32 := 0#32
  let v381 : BitVec 1 := Scalar.cmpi .slt v379 c0_i32_258
  let c0_i32_259 : BitVec 32 := 0#32
  let v382 : BitVec 1 := Scalar.cmpi .slt v378 c0_i32_259
  let v383 : BitVec 1 := Scalar.xori v381 v382
  let c0_i32_257 : BitVec 32 := 0#32
  let v380 : BitVec 1 := Scalar.cmpi .ne v379 c0_i32_257
  let v384 : BitVec 1 := Scalar.andi v383 v380
  let v385 : BitVec 32 := Scalar.addi v379 v378
  let v386 : BitVec 32 := Scalar.select v384 v385 v379
  let v409 : BitVec 32 := Scalar.muli c4_i32_274 v386
  let c2_i32_275 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v387 : BitVec 32 := Scalar.addi v5 c0_i32_260
  let c2_i32_261 : BitVec 32 := 2#32
  let c0_i32_262 : BitVec 32 := 0#32
  let v388 : BitVec 1 := Scalar.cmpi .eq c2_i32_261 c0_i32_262
  let c1_i32_263 : BitVec 32 := 1#32
  let v389 : BitVec 32 := Scalar.select v388 c1_i32_263 c2_i32_261
  let v390 : BitVec 32 := Scalar.remsi v387 v389
  let c0_i32_265 : BitVec 32 := 0#32
  let v392 : BitVec 1 := Scalar.cmpi .slt v390 c0_i32_265
  let c0_i32_266 : BitVec 32 := 0#32
  let v393 : BitVec 1 := Scalar.cmpi .slt v389 c0_i32_266
  let v394 : BitVec 1 := Scalar.xori v392 v393
  let c0_i32_264 : BitVec 32 := 0#32
  let v391 : BitVec 1 := Scalar.cmpi .ne v390 c0_i32_264
  let v395 : BitVec 1 := Scalar.andi v394 v391
  let v396 : BitVec 32 := Scalar.addi v390 v389
  let v397 : BitVec 32 := Scalar.select v395 v396 v390
  let v410 : BitVec 32 := Scalar.muli c2_i32_275 v397
  let v411 : BitVec 32 := Scalar.addi v409 v410
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v398 : BitVec 32 := Scalar.addi v8 c1_i32_267
  let c2_i32_268 : BitVec 32 := 2#32
  let c0_i32_269 : BitVec 32 := 0#32
  let v399 : BitVec 1 := Scalar.cmpi .eq c2_i32_268 c0_i32_269
  let c1_i32_270 : BitVec 32 := 1#32
  let v400 : BitVec 32 := Scalar.select v399 c1_i32_270 c2_i32_268
  let v401 : BitVec 32 := Scalar.remsi v398 v400
  let c0_i32_272 : BitVec 32 := 0#32
  let v403 : BitVec 1 := Scalar.cmpi .slt v401 c0_i32_272
  let c0_i32_273 : BitVec 32 := 0#32
  let v404 : BitVec 1 := Scalar.cmpi .slt v400 c0_i32_273
  let v405 : BitVec 1 := Scalar.xori v403 v404
  let c0_i32_271 : BitVec 32 := 0#32
  let v402 : BitVec 1 := Scalar.cmpi .ne v401 c0_i32_271
  let v406 : BitVec 1 := Scalar.andi v405 v402
  let v407 : BitVec 32 := Scalar.addi v401 v400
  let v408 : BitVec 32 := Scalar.select v406 v407 v401
  let v412 : BitVec 32 := Scalar.addi v411 v408
  let c0_i32_282 : BitVec 32 := 0#32
  let c0_i32_283 : BitVec 32 := 0#32
  ![v412.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== GatherRepRefIdeal.lean ====
abbrev S960x128 : Shape := ⟨2, ![960, 128]⟩
abbrev S8x120x128 : Shape := ⟨3, ![8, 120, 128]⟩

abbrev nBuf : Space → Nat
  | .hbm => 2
  | .vmem => 0
  | .smem => 0
  | _ => 0

abbrev bufTy : (tb : Table) → Fin (tcTables nBuf tb) → BufTy
  | .hbm, ⟨0, _⟩ => ⟨S960x128, .f32⟩
  | .hbm, ⟨1, _⟩ => ⟨S8x120x128, .f32⟩
  | _, _ => ⟨S960x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== RsWInAdd.lean ====
abbrev S_ : Shape := ⟨0, ![]⟩
abbrev S2048x8448 : Shape := ⟨2, ![2048, 8448]⟩
abbrev S1024x8448 : Shape := ⟨2, ![1024, 8448]⟩
abbrev S1 : Shape := ⟨1, ![1]⟩
abbrev S4x1024x2084 : Shape := ⟨3, ![4, 1024, 2084]⟩
abbrev S64x8448 : Shape := ⟨2, ![64, 8448]⟩
abbrev S4x64x2084 : Shape := ⟨3, ![4, 64, 2084]⟩
abbrev S64x2084 : Shape := ⟨2, ![64, 2084]⟩
abbrev S1x64x2084 : Shape := ⟨3, ![1, 64, 2084]⟩
abbrev S64x1060 : Shape := ⟨2, ![64, 1060]⟩
abbrev S64x1024 : Shape := ⟨2, ![64, 1024]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S2048x8448, .f32⟩
  | .hbm, ⟨2, _⟩ => ⟨S1024x8448, .f32⟩
  | .hbm, ⟨3, _⟩ => ⟨S4x1024x2084, .bf16⟩
  | .local _ .vmem, ⟨0, _⟩ => ⟨S64x8448, .f32⟩
  | .local _ .vmem, ⟨1, _⟩ => ⟨S64x8448, .f32⟩
  | .local _ .vmem, ⟨2, _⟩ => ⟨S64x8448, .f32⟩
  | .local _ .vmem, ⟨3, _⟩ => ⟨S64x8448, .f32⟩
  | .local _ .vmem, ⟨4, _⟩ => ⟨S4x64x2084, .bf16⟩
  | .local _ .vmem, ⟨5, _⟩ => ⟨S4x64x2084, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c16_i32 : BitVec 32 := 16#32
  let v1 : BitVec 32 := Scalar.muli v0 c16_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x8448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x2084 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RsWInAddRefIdeal.lean ====
abbrev S_ : Shape := ⟨0, ![]⟩
abbrev S2048x8448 : Shape := ⟨2, ![2048, 8448]⟩
abbrev S1024x8448 : Shape := ⟨2, ![1024, 8448]⟩
abbrev S1024x7312 : Shape := ⟨2, ![1024, 7312]⟩
abbrev S1024x1024 : Shape := ⟨2, ![1024, 1024]⟩
abbrev S1024x8336 : Shape := ⟨2, ![1024, 8336]⟩
abbrev S1024x4x2084 : Shape := ⟨3, ![1024, 4, 2084]⟩
abbrev S4x1024x2084 : Shape := ⟨3, ![4, 1024, 2084]⟩

abbrev nBuf : Space → Nat
  | .hbm => 15
  | .vmem => 0
  | .smem => 0
  | _ => 0

abbrev bufTy : (tb : Table) → Fin (tcTables nBuf tb) → BufTy
  | .hbm, ⟨0, _⟩ => ⟨S_, .i32⟩
  | .hbm, ⟨1, _⟩ => ⟨S2048x8448, .f32⟩
  | .hbm, ⟨2, _⟩ => ⟨S1024x8448, .f32⟩
  | .hbm, ⟨3, _⟩ => ⟨S_, .i32⟩
  | .hbm, ⟨4, _⟩ => ⟨S_, .i1⟩
  | .hbm, ⟨5, _⟩ => ⟨S1024x8448, .f32⟩
  | .hbm, ⟨6, _⟩ => ⟨S1024x8448, .f32⟩
  | .hbm, ⟨7, _⟩ => ⟨S1024x8448, .f32⟩
  | .hbm, ⟨8, _⟩ => ⟨S1024x8448, .f32⟩
  | .hbm, ⟨9, _⟩ => ⟨S1024x7312, .f32⟩
  | .hbm, ⟨10, _⟩ => ⟨S1024x1024, .f32⟩
  | .hbm, ⟨11, _⟩ => ⟨S1024x8336, .f32⟩
  | .hbm, ⟨12, _⟩ => ⟨S1024x8336, .bf16⟩
  | .hbm, ⟨13, _⟩ => ⟨S1024x4x2084, .bf16⟩
  | .hbm, ⟨14, _⟩ => ⟨S4x1024x2084, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Products.lean ====
/- Facts shared by the value proofs of the matrix products: the two forms of a tile's product read at any
   index of the tile, and a zero added in front. -/
module

public import Idealize.ShloMosaic.Lib.MatmulPlain
public import Idealize.ShloMosaic.Lib.Pipeline.Value
public import Idealize.ShloMosaic.Lib.IdealHost

@[expose] public section

noncomputable section

namespace Cert.Products

open Idealize.ShloMosaic Idealize.ShloMosaic.ValueIdx

/-- An index of a matrix is its row and its column. -/
theorem idx_two {M N : ℕ} (i : Shape.Idx ⟨2, ![M, N]⟩) : i = ix2 (⟨(i 0).val, (i 0).isLt⟩ : Fin M) (⟨(i 1).val, (i 1).isLt⟩ : Fin N) := by
  funext a
  match a with
  | ⟨0, _⟩ => rfl
  | ⟨1, _⟩ => rfl

/-- The product of two matrices, rows against columns. -/
def nn {M K N : ℕ} (x : Shape.Idx ⟨2, ![M, K]⟩ → EReal) (w : Shape.Idx ⟨2, ![K, N]⟩ → EReal) (i : Shape.Idx ⟨2, ![M, N]⟩) : EReal :=
  ∑ k : Fin K, x (ix2 (⟨(i 0).val, (i 0).isLt⟩ : Fin M) k) * w (ix2 k (⟨(i 1).val, (i 1).isLt⟩ : Fin N))

/-- The product of a matrix by the transpose of another, rows against rows. -/
def nt {M K N : ℕ} (x : Shape.Idx ⟨2, ![M, K]⟩ → EReal) (w : Shape.Idx ⟨2, ![N, K]⟩ → EReal) (i : Shape.Idx ⟨2, ![M, N]⟩) : EReal :=
  ∑ k : Fin K, x (ix2 (⟨(i 0).val, (i 0).isLt⟩ : Fin M) k) * w (ix2 (⟨(i 1).val, (i 1).isLt⟩ : Fin N) k)

/-- The step of an accumulating product, rows against columns: what was there plus the sum over the tile's
    contracted positions. -/
theorem acc_nn {M K N : ℕ} {φ₁ φ₂ : FTy} (acc : FVec Ideal ⟨2, ![M, N]⟩ .f32) (l : FVec Ideal ⟨2, ![M, K]⟩ φ₁)
    (r : FVec Ideal ⟨2, ![K, N]⟩ φ₂) (i : Shape.Idx ⟨2, ![M, N]⟩) :
    addf acc (matmul (DotDims.plain M K N) none l r (constant ⟨2, ![M, N]⟩ .f32 0x00000000#32)) i
      = acc i + nn (M := M) (K := K) (N := N) l r i := by
  have h := Ideal.matmul_plain_apply none l r (constant ⟨2, ![M, N]⟩ .f32 0x00000000#32)
    (⟨(i 0).val, (i 0).isLt⟩ : Fin M) (⟨(i 1).val, (i 1).isLt⟩ : Fin N)
  rw [← idx_two i] at h
  show acc i + FloatOps.matmul (DotDims.plain M K N) none l r (constant ⟨2, ![M, N]⟩ .f32 0x00000000#32) i = _
  rw [h]
  show acc i + (Ideal.ofBits .f32 0x00000000#32 + _) = _
  rw [Ideal.ofBits_zero_f32, zero_add]
  rfl

/-- The same, rows against rows (the right operand contracted over its last axis). -/
theorem acc_nt {M K N : ℕ} {φ₁ φ₂ : FTy} (acc : FVec Ideal ⟨2, ![M, N]⟩ .f32) (l : FVec Ideal ⟨2, ![M, K]⟩ φ₁)
    (r : FVec Ideal ⟨2, ![N, K]⟩ φ₂) (i : Shape.Idx ⟨2, ![M, N]⟩) :
    addf acc (matmul (DotDims.transposedRhs M K N) none l r (constant ⟨2, ![M, N]⟩ .f32 0x00000000#32)) i
      = acc i + nt (M := M) (K := K) (N := N) l r i := by
  have h := Ideal.matmul_transposedRhs_apply none l r (constant ⟨2, ![M, N]⟩ .f32 0x00000000#32)
    (⟨(i 0).val, (i 0).isLt⟩ : Fin M) (⟨(i 1).val, (i 1).isLt⟩ : Fin N)
  rw [← idx_two i] at h
  show acc i + FloatOps.matmul (DotDims.transposedRhs M K N) none l r (constant ⟨2, ![M, N]⟩ .f32 0x00000000#32) i = _
  rw [h]
  show acc i + (Ideal.ofBits .f32 0x00000000#32 + _) = _
  rw [Ideal.ofBits_zero_f32, zero_add]
  rfl

/-- The zero tile an accumulation starts from is zero at every index. -/
theorem zero_tile {s : Shape} (i : s.Idx) : (broadcast s (Scalar.ofBits .f32 0x00000000#32 : Ideal .f32) : FVec Ideal s .f32) i = (0 : EReal) :=
  Ideal.ofBits_zero_f32

end Cert.Products

end
-- ==== Proof.Gap.lean ====
/- The projection weights with 112 columns of zeros put in at column 7312: what a product with them is, and sums
   taken block by block. -/
module

public import proofs.«01_k».proof.Proof.Products

@[expose] public section

noncomputable section

namespace Cert.Products

open Idealize.ShloMosaic Idealize.ShloMosaic.ValueIdx

/-- A sum over consecutive blocks of `b` terms is the sum over all of them. -/
theorem sum_blocks (f : ℕ → EReal) (b n : ℕ) : ∑ s ∈ Finset.range n, ∑ k ∈ Finset.range b, f (b * s + k) = ∑ k ∈ Finset.range (b * n), f k := by
  induction n with
  | zero => simp
  | succ n ih => rw [Finset.sum_range_succ, ih, Nat.mul_succ, Finset.sum_range_add]

/-- A matrix of 8336 columns with 112 columns of zeros put in before column 7312. -/
def gap {R : ℕ} (x : Shape.Idx ⟨2, ![R, 8336]⟩ → EReal) (i : Shape.Idx ⟨2, ![R, 8448]⟩) : EReal :=
  if h : (i 1).val < 7312 then x (ix2 (⟨(i 0).val, (i 0).isLt⟩ : Fin R) (⟨(i 1).val, by omega⟩ : Fin 8336))
  else if (i 1).val < 7424 then 0
  else x (ix2 (⟨(i 0).val, (i 0).isLt⟩ : Fin R) (⟨(i 1).val - 112, by have h1 : (i 1).val < 8448 := (i 1).isLt; omega⟩ : Fin 8336))

/-- A matrix of 8448 columns without its columns 7312 to 7423. -/
def ungap {R : ℕ} (x : Shape.Idx ⟨2, ![R, 8448]⟩ → EReal) (i : Shape.Idx ⟨2, ![R, 8336]⟩) : EReal :=
  if h : (i 1).val < 7312 then x (ix2 (⟨(i 0).val, (i 0).isLt⟩ : Fin R) (⟨(i 1).val, by omega⟩ : Fin 8448))
  else x (ix2 (⟨(i 0).val, (i 0).isLt⟩ : Fin R) (⟨(i 1).val + 112, by have h1 : (i 1).val < 8336 := (i 1).isLt; omega⟩ : Fin 8448))

/-- The widened matrix after the gap. -/
theorem gap_after {R : ℕ} (x : Shape.Idx ⟨2, ![R, 8336]⟩ → EReal) (r : Fin R) (k : Fin 8336) (h : ¬ k.val < 7312) :
    gap x (ix2 r (⟨k.val + 112, by omega⟩ : Fin 8448)) = x (ix2 r k) :=
  (dif_neg (show ¬ k.val + 112 < 7312 by omega)).trans ((if_neg (show ¬ k.val + 112 < 7424 by omega)).trans
    (congrArg x (congrArg (ix2 r) (Fin.ext (show k.val + 112 - 112 = k.val by omega)))))

/-- The narrowed matrix before the gap. -/
theorem ungap_before {R : ℕ} (x : Shape.Idx ⟨2, ![R, 8448]⟩ → EReal) (r : Fin R) (k : Fin 8336) (h : k.val < 7312) :
    ungap x (ix2 r k) = x (ix2 r (⟨k.val, by omega⟩ : Fin 8448)) :=
  dif_pos (show ((ix2 r k : Shape.Idx ⟨2, ![R, 8336]⟩) 1).val < 7312 from h)

/-- The narrowed matrix after the gap. -/
theorem ungap_after {R : ℕ} (x : Shape.Idx ⟨2, ![R, 8448]⟩ → EReal) (r : Fin R) (k : Fin 8336) (h : ¬ k.val < 7312) :
    ungap x (ix2 r k) = x (ix2 r (⟨k.val + 112, by omega⟩ : Fin 8448)) :=
  dif_neg (show ¬ ((ix2 r k : Shape.Idx ⟨2, ![R, 8336]⟩) 1).val < 7312 from h)

/-- Multiplying by the widened weights is multiplying by the weights and widening the product. -/
theorem nn_gap {M K : ℕ} (x : Shape.Idx ⟨2, ![M, K]⟩ → EReal) (w : Shape.Idx ⟨2, ![K, 8336]⟩ → EReal) :
    nn (M := M) (K := K) (N := 8448) x (gap w) = gap (nn (M := M) (K := K) (N := 8336) x w) := by
  funext i
  by_cases h : (i 1).val < 7312
  · unfold nn gap
    rw [dif_pos h]
    refine Finset.sum_congr rfl fun k _ => ?_
    refine congrArg₂ (· * ·) rfl ?_
    exact dif_pos h
  · by_cases h2 : (i 1).val < 7424
    · unfold nn gap
      rw [dif_neg h, if_pos h2]
      refine Finset.sum_eq_zero fun k _ => ?_
      have e : ∀ a b : EReal, b = 0 → a * b = 0 := fun a b hb => by rw [hb, mul_zero]
      refine e _ _ ?_
      exact (dif_neg h).trans (if_pos h2)
    · unfold nn gap
      rw [dif_neg h, if_neg h2]
      refine Finset.sum_congr rfl fun k _ => ?_
      refine congrArg₂ (· * ·) rfl ?_
      exact (dif_neg h).trans (if_neg h2)

/-- A sum of 8448 products of which the 112 in the gap have a factor zero is the sum of the other 8336. -/
theorem sum_gap (f g : ℕ → EReal) (h0 : ∀ k, k < 112 → g (7312 + k) = 0) :
    ∑ k ∈ Finset.range 8448, f k * g k
      = ∑ k ∈ Finset.range 8336, (if k < 7312 then f k else f (k + 112)) * (if k < 7312 then g k else g (k + 112)) := by
  rw [show (8448 : ℕ) = 7312 + (112 + 1024) from rfl, Finset.sum_range_add, Finset.sum_range_add,
    show (8336 : ℕ) = 7312 + 1024 from rfl, Finset.sum_range_add]
  refine congrArg₂ (· + ·) ?_ ?_
  · refine Finset.sum_congr rfl fun k hk => ?_
    have hk' := Finset.mem_range.mp hk
    rw [if_pos hk', if_pos hk']
  · rw [Finset.sum_eq_zero (s := Finset.range 112), zero_add]
    · refine Finset.sum_congr rfl fun k _ => ?_
      rw [if_neg (by omega), if_neg (by omega), show 7312 + k + 112 = 7312 + (112 + k) by omega]
    · intro k hk
      rw [h0 k (Finset.mem_range.mp hk), mul_zero]

/-- Rows against rows: the widened weights see only the columns outside the gap. -/
theorem nt_gap {M N : ℕ} (x : Shape.Idx ⟨2, ![M, 8448]⟩ → EReal) (w : Shape.Idx ⟨2, ![N, 8336]⟩ → EReal) :
    nt (M := M) (K := 8448) (N := N) x (gap w) = nt (M := M) (K := 8336) (N := N) (ungap x) w := by
  funext i
  unfold nt
  have e := sum_gap (fun k => if h : k < 8448 then x (ix2 (⟨(i 0).val, (i 0).isLt⟩ : Fin M) (⟨k, h⟩ : Fin 8448)) else 0)
    (fun k => if h : k < 8448 then gap w (ix2 (⟨(i 1).val, (i 1).isLt⟩ : Fin N) (⟨k, h⟩ : Fin 8448)) else 0)
    (fun k hk => by
      simp only [show 7312 + k < 8448 by omega, dif_pos]
      unfold gap
      rw [dif_neg (by show ¬ 7312 + k < 7312; omega), if_pos (by show 7312 + k < 7424; omega)])
  rw [← Fin.sum_univ_eq_sum_range, ← Fin.sum_univ_eq_sum_range] at e
  refine (Finset.sum_congr rfl fun k _ => ?_).trans (e.trans (Finset.sum_congr rfl fun k _ => ?_))
  · simp only [k.isLt, dif_pos]
  · have hk := k.isLt
    refine congrArg₂ (· * ·) ?_ ?_
    · by_cases h : k.val < 7312
      · rw [if_pos h, dif_pos (show k.val < 8448 by omega)]
        exact (ungap_before x _ k h).symm
      · rw [if_neg h, dif_pos (show k.val + 112 < 8448 by omega)]
        exact (ungap_after x _ k h).symm
    · by_cases h : k.val < 7312
      · rw [if_pos h, dif_pos (show k.val < 8448 by omega)]
        exact dif_pos h
      · rw [if_neg h, dif_pos (show k.val + 112 < 8448 by omega)]
        exact gap_after w _ k h

/-- Arrays laid side by side are equal when the pieces are. -/
theorem concat3 {α : Type} {s₁ s₂ s₃ t : Shape} {ax : Fin t.rank} {a a' : s₁.Idx → α} {b b' : s₂.Idx → α} {c c' : s₃.Idx → α}
    (ha : a = a') (hb : b = b') (hc : c = c') (h : Shape.Concatenates [s₁, s₂, s₃] t ax) :
    concatenate t ax [⟨s₁, a⟩, ⟨s₂, b⟩, ⟨s₃, c⟩] h = concatenate t ax [⟨s₁, a'⟩, ⟨s₂, b'⟩, ⟨s₃, c'⟩] h := by
  subst ha; subst hb; subst hc; rfl

/-- Three column blocks side by side, the middle one zero, are the widened matrix when the outer two are its two parts. -/
theorem concat_gap {R : ℕ} (x : Shape.Idx ⟨2, ![R, 8336]⟩ → EReal) (a : Shape.Idx ⟨2, ![R, 7312]⟩ → EReal) (z : Shape.Idx ⟨2, ![R, 112]⟩ → EReal)
    (b : Shape.Idx ⟨2, ![R, 1024]⟩ → EReal)
    (ha : ∀ (r : Fin R) (k : Fin 7312), a (ix2 r k) = x (ix2 r (⟨k.val, by omega⟩ : Fin 8336)))
    (hz : ∀ j, z j = 0)
    (hb : ∀ (r : Fin R) (k : Fin 1024), b (ix2 r k) = x (ix2 r (⟨7312 + k.val, by omega⟩ : Fin 8336)))
    (h : Shape.Concatenates [⟨2, ![R, 7312]⟩, ⟨2, ![R, 112]⟩, ⟨2, ![R, 1024]⟩] ⟨2, ![R, 8448]⟩ 1) :
    concatenate ⟨2, ![R, 8448]⟩ 1 [⟨⟨2, ![R, 7312]⟩, a⟩, ⟨⟨2, ![R, 112]⟩, z⟩, ⟨⟨2, ![R, 1024]⟩, b⟩] h = gap x := by
  funext i
  have h1 : (i 1).val < 8448 := (i 1).isLt
  have hne : ∀ c : Fin 2, c ≠ 1 → c = 0 := fun c hc => by omega
  unfold gap
  by_cases c1 : (i 1).val < 7312
  · rw [dif_pos c1]
    refine (concatenate_apply_piece (t := ⟨2, ![R, 8448]⟩) 1 [⟨⟨2, ![R, 7312]⟩, a⟩, ⟨⟨2, ![R, 112]⟩, z⟩, ⟨⟨2, ![R, 1024]⟩, b⟩] h i 0 (by show 0 < 3; omega) _ a rfl rfl 0 rfl
      (ix2 (⟨(i 0).val, (i 0).isLt⟩ : Fin R) (⟨(i 1).val, c1⟩ : Fin 7312)) (fun c hc => ?_) ?_).trans ?_
    · obtain rfl := hne c hc
      rfl
    · show 0 + (i 1).val = (i 1).val
      omega
    · exact ha _ _
  · rw [dif_neg c1]
    by_cases c2 : (i 1).val < 7424
    · rw [if_pos c2]
      refine (concatenate_apply_piece (t := ⟨2, ![R, 8448]⟩) 1 [⟨⟨2, ![R, 7312]⟩, a⟩, ⟨⟨2, ![R, 112]⟩, z⟩, ⟨⟨2, ![R, 1024]⟩, b⟩] h i 1 (by show 1 < 3; omega) _ z rfl rfl 7312 rfl
        (ix2 (⟨(i 0).val, (i 0).isLt⟩ : Fin R) (⟨(i 1).val - 7312, by omega⟩ : Fin 112)) (fun c hc => ?_) ?_).trans ?_
      · obtain rfl := hne c hc
        rfl
      · show 7312 + ((i 1).val - 7312) = (i 1).val
        omega
      · exact hz _
    · rw [if_neg c2]
      refine (concatenate_apply_piece (t := ⟨2, ![R, 8448]⟩) 1 [⟨⟨2, ![R, 7312]⟩, a⟩, ⟨⟨2, ![R, 112]⟩, z⟩, ⟨⟨2, ![R, 1024]⟩, b⟩] h i 2 (by show 2 < 3; omega) _ b rfl rfl 7424 rfl
        (ix2 (⟨(i 0).val, (i 0).isLt⟩ : Fin R) (⟨(i 1).val - 7424, by omega⟩ : Fin 1024)) (fun c hc => ?_) ?_).trans ?_
      · obtain rfl := hne c hc
        rfl
      · show 7424 + ((i 1).val - 7424) = (i 1).val
        omega
      · refine (hb _ _).trans (congrArg x (congrArg (ix2 _) (Fin.ext ?_)))
        show 7312 + ((i 1).val - 7424) = (i 1).val - 112
        omega

/-- Two column blocks side by side are the narrowed matrix when they are its parts before and after the gap. -/
theorem concat_ungap {R : ℕ} (x : Shape.Idx ⟨2, ![R, 8448]⟩ → EReal) (a : Shape.Idx ⟨2, ![R, 7312]⟩ → EReal)
    (b : Shape.Idx ⟨2, ![R, 1024]⟩ → EReal)
    (ha : ∀ (r : Fin R) (k : Fin 7312), a (ix2 r k) = x (ix2 r (⟨k.val, by omega⟩ : Fin 8448)))
    (hb : ∀ (r : Fin R) (k : Fin 1024), b (ix2 r k) = x (ix2 r (⟨7424 + k.val, by omega⟩ : Fin 8448)))
    (h : Shape.Concatenates [⟨2, ![R, 7312]⟩, ⟨2, ![R, 1024]⟩] ⟨2, ![R, 8336]⟩ 1) :
    concatenate ⟨2, ![R, 8336]⟩ 1 [⟨⟨2, ![R, 7312]⟩, a⟩, ⟨⟨2, ![R, 1024]⟩, b⟩] h = ungap x := by
  funext i
  have h1 : (i 1).val < 8336 := (i 1).isLt
  have hne : ∀ c : Fin 2, c ≠ 1 → c = 0 := fun c hc => by omega
  unfold ungap
  by_cases c1 : (i 1).val < 7312
  · rw [dif_pos c1]
    refine (concatenate_apply_piece (t := ⟨2, ![R, 8336]⟩) 1 [⟨⟨2, ![R, 7312]⟩, a⟩, ⟨⟨2, ![R, 1024]⟩, b⟩] h i 0 (by show 0 < 2; omega) _ a rfl rfl 0 rfl
      (ix2 (⟨(i 0).val, (i 0).isLt⟩ : Fin R) (⟨(i 1).val, c1⟩ : Fin 7312)) (fun c hc => ?_) ?_).trans ?_
    · obtain rfl := hne c hc
      rfl
    · show 0 + (i 1).val = (i 1).val
      omega
    · exact ha _ _
  · rw [dif_neg c1]
    refine (concatenate_apply_piece (t := ⟨2, ![R, 8336]⟩) 1 [⟨⟨2, ![R, 7312]⟩, a⟩, ⟨⟨2, ![R, 1024]⟩, b⟩] h i 1 (by show 1 < 2; omega) _ b rfl rfl 7312 rfl
      (ix2 (⟨(i 0).val, (i 0).isLt⟩ : Fin R) (⟨(i 1).val - 7312, by omega⟩ : Fin 1024)) (fun c hc => ?_) ?_).trans ?_
    · obtain rfl := hne c hc
      rfl
    · show 7312 + ((i 1).val - 7312) = (i 1).val
      omega
    · refine (hb _ _).trans (congrArg x (congrArg (ix2 _) (Fin.ext ?_)))
      show 7424 + ((i 1).val - 7312) = (i 1).val + 112
      omega

end Cert.Products

end
-- ==== Proof.DInProjValue.lean ====
/- The gradient of the input projection by its input: what a run of six grid points computes, what the array holds after
   the run, and that this is the reference's product. -/
module

public import proofs.«01_k».proof.Proof.Gap
public import proofs.«01_k».proof.Proof.Gen.DInProjIdeal.Value
public import proofs.«01_k».proof.Proof.Gen.DInProjRefIdeal.Read

@[expose] public section

noncomputable section

namespace Cert.DInProjIdeal.Equal

open Cert.DInProjIdeal Cert.DInProjIdeal.Gen Idealize.ShloMosaic Idealize.ShloMosaic.TcCoe Idealize.SL.Sem
open Idealize.ShloMosaic.ValueIdx
open Cert.DInProjRefIdeal.Read

variable (m : (ℓ : Loc nD τ sig) → Buf (Elt Ideal) ℓ)

/-- The weights reach the grid rounded to bf16, which over the reals changes nothing, with 112 columns of zeros put in. -/
theorem weights (c : Dev nD) : V m c main_v4 = Products.gap (R := 2048) (m ((c : Thread nD τ).loc main_arg1)) := by
  have e : V m c main_v4 = concatenate S2048x8448 1 [⟨S2048x7312, extractStridedSlice S2048x7312 ![0, 0] (truncf (F := Ideal) (s := S2048x8336) (φ := .f32) .bf16 (m ((c : Thread nD τ).loc main_arg1)) bitsLt_bf16_f32) slices_S2048x8336_S2048x7312_0_0⟩,
      ⟨S2048x112, broadcastInDim S2048x112 ![] bcast_S_S2048x112 (constant (F := Ideal) S_ .bf16 0x0000#16)⟩,
      ⟨S2048x1024, extractStridedSlice S2048x1024 ![0, 7312] (truncf (F := Ideal) (s := S2048x8336) (φ := .f32) .bf16 (m ((c : Thread nD τ).loc main_arg1)) bitsLt_bf16_f32) slices_S2048x8336_S2048x1024_0_7312⟩] concatenates_S2048x7312_S2048x112_S2048x1024_S2048x8448_d1 := by
    show StableHlo.after hostOps0 (fun b => m (c, b)) main_v4 = _
    after_results
    refine Products.concat3 ?_ ?_ ?_ _
    · show (StableHlo.after hostOps0 (fun b => m (c, b))) main_v1 = _
      after_results
    · show (StableHlo.after hostOps0 (fun b => m (c, b))) main_v2 = _
      after_results
    · show (StableHlo.after hostOps0 (fun b => m (c, b))) main_v3 = _
      after_results
  rw [e]
  refine Products.concat_gap (R := 2048) (m ((c : Thread nD τ).loc main_arg1)) _ _ _ (fun r k => ?_) (fun j => Ideal.ofBits_zero_bf16) (fun r k => ?_) _
  · refine congrArg (m ((c : Thread nD τ).loc main_arg1)) (funext fun a => Fin.ext ?_)
    match a with
    | ⟨0, _⟩ => show 0 + r.val = r.val; omega
    | ⟨1, _⟩ => show 0 + k.val = k.val; omega
  · refine congrArg (m ((c : Thread nD τ).loc main_arg1)) (funext fun a => Fin.ext ?_)
    match a with
    | ⟨0, _⟩ => show 0 + r.val = r.val; omega
    | ⟨1, _⟩ => show 7312 + k.val = 7312 + k.val; rfl

/-- The whole product: the sum over the 8448 contracted positions. -/
abbrev G (c : Dev nD) : S4160x2048.Idx → EReal :=
  Products.nt (M := 4160) (K := 8448) (N := 2048) (m ((c : Thread nD τ).loc main_arg0)) (Products.gap (R := 2048) (m ((c : Thread nD τ).loc main_arg1)))

/-- Which tiles a grid point reads: row block `n / 6` and column block `n mod 6` of the left operand, column block
    `n mod 6` of the right. -/
theorem where_tiles : ∀ t : Fin cfg0.N, win0_0.index t (0 : Fin 2) = t.val / 6 ∧ win0_0.index t (1 : Fin 2) = t.val % 6
    ∧ win0_1.index t (0 : Fin 2) = 0 ∧ win0_1.index t (1 : Fin 2) = t.val % 6 :=
  (by decide +kernel : ∀ t : Fin grid0.N, _)

/-- What one grid point adds to its output tile. -/
def addend (c : Dev nD) (n : ℕ) (i : S832x2048.Idx) : EReal :=
  if h : n < cfg0.N then Products.nt (M := 832) (K := 1408) (N := 2048) (iblk m c 0 ⟨n, h⟩) (iblk m c 1 ⟨n, h⟩) i else 0

/-- The first point of a run leaves its addend. -/
theorem first (c : Dev nD) (n : ℕ) (h : n < cfg0.N) (i : S832x2048.Idx) : Value.reset3 m c n h i = 0 + addend m c n i := by
  unfold Value.reset3 addend k0_pay2 k0_pay1
  rw [shapeCast_self, shapeCast_self, dif_pos h]
  refine (Products.acc_nt (M := 832) (K := 1408) (N := 2048) _ (iblk m c 0 ⟨n, h⟩) (iblk m c 1 ⟨n, h⟩) i).trans ?_
  rw [Products.zero_tile]

/-- Every later point adds its addend to what the points before left. -/
theorem later (c : Dev nD) (n : ℕ) (h : n < cfg0.N) (acc : S832x2048.Idx → EReal) (i : S832x2048.Idx) :
    Value.step3 m c n h acc i = acc i + addend m c n i := by
  unfold Value.step3 addend k0_pay2
  rw [shapeCast_self, shapeCast_self, dif_pos h]
  exact Products.acc_nt (M := 832) (K := 1408) (N := 2048) _ (iblk m c 0 ⟨n, h⟩) (iblk m c 1 ⟨n, h⟩) i

/-- The term of the whole product at contracted position `k`. -/
def term (c : Dev nD) (i : S4160x2048.Idx) (k : ℕ) : EReal :=
  if h : k < 8448 then
    (show EReal from m ((c : Thread nD τ).loc main_arg0) (ix2 (⟨(i 0).val, (i 0).isLt⟩ : Fin 4160) (⟨k, h⟩ : Fin 8448)))
      * Products.gap (R := 2048) (m ((c : Thread nD τ).loc main_arg1)) (ix2 (⟨(i 1).val, (i 1).isLt⟩ : Fin 2048) (⟨k, h⟩ : Fin 8448))
  else 0

/-- Point `s` of a run adds the terms of positions `1408 s` to `1408 s + 1407`. -/
theorem addend_eq (c : Dev nD) (i : S4160x2048.Idx) (s : ℕ) (hs : s < 6) (hr : 6 * Value.run3Of i + 5 < cfg0.N) :
    addend m c (6 * Value.run3Of i + s) (Value.loc3Of i) = ∑ k ∈ Finset.range 1408, term m c i (1408 * s + k) := by
  have hN : 6 * Value.run3Of i + s < cfg0.N := by omega
  have i0 : (i 0).val < 4160 := (i 0).isLt
  have i1 : (i 1).val < 2048 := (i 1).isLt
  unfold addend
  rw [dif_pos hN, ← Fin.sum_univ_eq_sum_range]
  obtain ⟨e0, e1, e2, e3⟩ := where_tiles ⟨_, hN⟩
  have er : Value.run3Of i = (i 0).val / 832 := by show 1 * ((i 0).val / 832 - 0) + 1 * ((i 1).val / 2048 - 0) = _; omega
  have d0 : (6 * Value.run3Of i + s) / 6 = (i 0).val / 832 := by omega
  have d1 : (6 * Value.run3Of i + s) % 6 = s := by omega
  unfold Products.nt
  refine Finset.sum_congr rfl fun k _ => ?_
  have hk : 1408 * s + k.val < 8448 := by have := k.isLt; omega
  unfold term
  rw [dif_pos hk]
  refine congrArg₂ (· * ·) ?_ ?_
  · unfold iblk
    rw [View.read_apply]
    show V m c main_arg0 _ = _
    rw [V_main_arg0]
    refine congrArg _ (funext fun a => Fin.ext ?_)
    match a with
    | ⟨0, _⟩ => show win0_0.index ⟨6 * Value.run3Of i + s, hN⟩ (0 : Fin 2) * 832 + 1 * ((i 0).val % 832) = (i 0).val; rw [e0]; show (6 * Value.run3Of i + s) / 6 * 832 + _ = _; omega
    | ⟨1, _⟩ => show win0_0.index ⟨6 * Value.run3Of i + s, hN⟩ (1 : Fin 2) * 1408 + 1 * k.val = 1408 * s + k.val; rw [e1]; show (6 * Value.run3Of i + s) % 6 * 1408 + _ = _; omega
  · unfold iblk
    rw [View.read_apply]
    show V m c main_v4 _ = _
    rw [weights]
    refine congrArg _ (funext fun a => Fin.ext ?_)
    match a with
    | ⟨0, _⟩ => show win0_1.index ⟨6 * Value.run3Of i + s, hN⟩ (0 : Fin 2) * 2048 + 1 * ((i 1).val % 2048) = (i 1).val; rw [e2]; omega
    | ⟨1, _⟩ => show win0_1.index ⟨6 * Value.run3Of i + s, hN⟩ (1 : Fin 2) * 1408 + 1 * k.val = 1408 * s + k.val; rw [e3]; show (6 * Value.run3Of i + s) % 6 * 1408 + _ = _; omega

/-- After the run the output array is the whole product. -/
theorem final (c : Dev nD) : Value.G3 m c = G m c := by
  funext i
  have i0 : (i 0).val < 4160 := (i 0).isLt
  have i1 : (i 1).val < 2048 := (i 1).isLt
  have er : Value.run3Of i = (i 0).val / 832 := by show 1 * ((i 0).val / 832 - 0) + 1 * ((i 1).val / 2048 - 0) = _; omega
  have hr : 6 * Value.run3Of i + 5 < cfg0.N := by rw [show cfg0.N = 30 from N_0]; omega
  unfold Value.G3
  rw [dif_pos hr]
  refine (Pipeline.accAt_add_apply (Value.reset3 m c) (Value.step3 m c) (fun _ => (0 : EReal)) (addend m c) (6 * Value.run3Of i) 5
    (fun h j => first m c _ h j) (fun n h acc j _ _ => later m c n h acc j) 5 (Nat.le_refl 5) hr (Value.loc3Of i)).trans ?_
  rw [zero_add, Finset.sum_congr rfl fun s hs => addend_eq m c i s (Finset.mem_range.mp hs) hr, Products.sum_blocks,
    show 1408 * (5 + 1) = 8448 from rfl, ← Fin.sum_univ_eq_sum_range]
  unfold G Products.nt
  refine Finset.sum_congr rfl fun k _ => ?_
  unfold term
  rw [dif_pos k.isLt]

/-- The reference's left operand, whose zero columns are cut out before the product. -/
theorem cut_ref (x0 : S4160x8448.Idx → EReal) :
    val_main_v3 (F := Ideal) x0 = Products.ungap (R := 4160) x0 := by
  show val_main_v2 (F := Ideal) x0 = _
  unfold val_main_v2
  refine Products.concat_ungap (R := 4160) x0 _ _ (fun r k => ?_) (fun r k => ?_) _
  · rw [val_main_v0_apply]
    refine congrArg x0 (funext fun a => ?_)
    match a with
    | ⟨0, _⟩ => rfl
    | ⟨1, _⟩ => rfl
  · rw [val_main_v1_apply]
    refine congrArg x0 (funext fun a => ?_)
    match a with
    | ⟨0, _⟩ => rfl
    | ⟨1, _⟩ => rfl

/-- The whole product is the reference's. -/
theorem eq_ref (c : Dev nD) : G m c
    = val_main_v6 (F := Ideal) (m ((c : Thread nD τ).loc main_arg0)) (m ((c : Thread nD τ).loc main_arg1)) := by
  unfold G
  rw [Products.nt_gap]
  funext i
  rw [val_main_v6_apply]
  rw [cut_ref]
  unfold Products.nt
  refine Finset.sum_congr rfl fun k _ => ?_
  refine congrArg₂ (· * ·) ?_ ?_
  · refine congrArg (Products.ungap (R := 4160) _) (funext fun a => ?_)
    match a with
    | ⟨0, _⟩ => rfl
    | ⟨1, _⟩ => rfl
  · refine congrArg _ (funext fun a => ?_)
    match a with
    | ⟨0, _⟩ => rfl
    | ⟨1, _⟩ => rfl

end Cert.DInProjIdeal.Equal

end
-- ==== Proof.DInProjClaim.lean ====
/- The value claim of the gradient of the input projection by its input. -/
module

public import proofs.«01_k».proof.Defs
public import proofs.«01_k».proof.Proof.DInProjValue

@[expose] public section

noncomputable section

namespace Cert.Proof.DInProj

open Idealize.ShloMosaic Idealize.SL.Sem

set_option maxRecDepth 65536 in
/-- Kernel and reference end with the same array. -/
theorem algebraic : Cert.algebraic_DInProjIdeal_DInProjRefIdeal := by
  pair_intro
  · run_from Cert.DInProjIdeal.Value.run_blocks m g
  · run_from Cert.DInProjRefIdeal.Value.run m' g'
    rw [Cert.DInProjIdeal.Value.final3 m c, Cert.DInProjIdeal.Equal.final m c, Cert.DInProjIdeal.Equal.eq_ref]
    rfl

end Cert.Proof.DInProj

end
-- ==== Proof.DWInValue.lean ====
/- The gradient of the input projection by its weights: what one grid point computes, what the array holds after
   the run, and that this is the reference's product. -/
module

public import proofs.«01_k».proof.Proof.Products
public import proofs.«01_k».proof.Proof.Gen.DWInIdeal.Value
public import proofs.«01_k».proof.Proof.Gen.DWInRefIdeal.Read

@[expose] public section

noncomputable section

namespace Cert.DWInIdeal.Equal

open Cert.DWInIdeal Cert.DWInIdeal.Gen Idealize.ShloMosaic Idealize.ShloMosaic.TcCoe Idealize.SL.Sem
open Idealize.ShloMosaic.ValueIdx
open Cert.DWInRefIdeal.Read

/-- The literal offset of every access is the zero offset. -/
theorem off_zero : (![0, 0] : Fin 2 → Nat) = fun _ => 0 := funext (Fin.forall_fin_two.mpr ⟨rfl, rfl⟩)

section AnyFloat
variable {F : FTy → Type} [FloatOps F]

/-- A grid point leaves in its output tile the product of its two input tiles, added to a tile of zeros. -/
theorem tile (c : Dev nD) (i : grid0.Coords) (a3 : Memref sig .tc .vmem S1024x4160 .bf16) (h3 : a3.IsWhole) (a4 : Memref sig .tc .vmem S4160x768 .bf16) (h4 : a4.IsWhole) (a5 : Memref sig .tc .vmem S1024x768 .f32) (h5 : a5.IsWhole) (hc : cond0_0 i)
    (x0 : Vec F S1024x4160 .bf16) (x1 : Vec F S4160x768 .bf16) :
    out0_A_2 c i a3 h3 a4 h4 a5 h5 hc x0 x1 = k0_pay2 (k0_pay1 (F := F)) x0 x1 := by
  unfold out0_A_2
  rw [View.read_writes_eq_canon _ _ _ (cover0_A_2 c i a3 h3 a4 h4 a5 h5 hc x0 x1)]
  unfold kernelRun0_A
  dsimp only
  try sl_unfold_words
  rw [View.canon_cons_unit_zero (S := S1024x768) off_zero, View.readCov_unit_zero (S := S1024x768) _ off_zero]
  simp only [View.readAt_eq_ld, h3.read_unread, h4.read_unread, View.ld_unit_zero (S := S1024x4160) off_zero,
    View.ld_unit_zero (S := S4160x768) off_zero]

end AnyFloat

variable (m : (ℓ : Loc nD τ sig) → Buf (Elt Ideal) ℓ)

/-- The forward input reaches the grid transposed. -/
theorem turned (c : Dev nD) (j : S2048x4160.Idx) :
    V m c main_v0 j = m ((c : Thread nD τ).loc main_arg0) (ix2 (⟨(j 1).val, (j 1).isLt⟩ : Fin 4160) (⟨(j 0).val, (j 0).isLt⟩ : Fin 2048)) := by
  have e : V m c main_v0 = transpose (s := S4160x2048) S2048x4160 [1, 0] (m ((c : Thread nD τ).loc main_arg0)) transposes_S4160x2048_S2048x4160_1_0 := by
    show StableHlo.after hostOps0 (fun b => m (c, b)) main_v0 = _
    after_results
  rw [e]
  exact transpose_apply [1, 0] _ transposes_S4160x2048_S2048x4160_1_0 j
    (ix2 (⟨(j 1).val, (j 1).isLt⟩ : Fin 4160) (⟨(j 0).val, (j 0).isLt⟩ : Fin 2048)) (fun b => match b with
      | ⟨0, _⟩ => rfl
      | ⟨1, _⟩ => rfl)

/-- The whole product: the sum over the 4160 rows. -/
abbrev G (c : Dev nD) : S2048x8448.Idx → EReal := fun i =>
  ∑ k : Fin 4160, (show EReal from m ((c : Thread nD τ).loc main_arg0) (ix2 k (⟨(i 0).val, (i 0).isLt⟩ : Fin 2048)))
    * (show EReal from m ((c : Thread nD τ).loc main_arg1) (ix2 k (⟨(i 1).val, (i 1).isLt⟩ : Fin 8448)))

/-- Which tiles a grid point reads and writes. -/
theorem where_tiles : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every tile of the output is written by some grid point. -/
theorem some_point : ∀ (p : Fin 2) (q : Fin 11), ∃ t : Fin cfg0.N, (cfg0.win 2).flush t = true ∧ win0_2.index t = ![p.val, q.val] :=
  (by decide +kernel : ∀ (p : Fin 2) (q : Fin 11), ∃ t : Fin grid0.N, win0_2.flush t = true ∧ win0_2.index t = ![p.val, q.val])

/-- A grid point writes its tile of the whole product. -/
theorem written (c : Dev nD) (t : Fin cfg0.N) :
    (Gen.dats m 0 c).flushed 2 t = ((cfg0.win 2).blk t).view.read (Elt Ideal) (G m c) := by
  rw [Value.flushed2_A, tile]
  obtain ⟨e0, e1, e2, e3⟩ := where_tiles t
  funext y
  have hb0 : (((cfg0.win 2).blk t).view.emb y 0).val = win0_2.index t (0 : Fin 2) * 1024 + 1 * (y 0).val := rfl
  have hb1 : (((cfg0.win 2).blk t).view.emb y 1).val = win0_2.index t (1 : Fin 2) * 768 + 1 * (y 1).val := rfl
  show k0_pay2 (F := Ideal) (k0_pay1 (F := Ideal)) (iblk m c 0 t) (iblk m c 1 t) ((cfg0.win 2).xinj (grid0.coords t) y) = G m c (((cfg0.win 2).blk t).view.emb y)
  unfold k0_pay2 k0_pay1
  rw [shapeCast_self, shapeCast_self]
  refine (Products.acc_nn (M := 1024) (K := 4160) (N := 768) _ (iblk m c 0 t) (iblk m c 1 t) ((cfg0.win 2).xinj (grid0.coords t) y)).trans ?_
  rw [Products.zero_tile, zero_add]
  unfold Products.nn
  refine Finset.sum_congr rfl fun k _ => ?_
  refine congrArg₂ (· * ·) ?_ ?_
  · unfold iblk
    rw [View.read_apply]
    show V m c main_v0 _ = _
    rw [turned]
    refine congrArg _ (funext fun a => Fin.ext ?_)
    match a with
    | ⟨0, _⟩ => show win0_0.index t (1 : Fin 2) * 4160 + 1 * k.val = k.val; rw [e1]; omega
    | ⟨1, _⟩ => show win0_0.index t (0 : Fin 2) * 1024 + 1 * (y 0).val = (((cfg0.win 2).blk t).view.emb y 0).val; rw [hb0, e0]
  · unfold iblk
    rw [View.read_apply]
    show V m c main_arg1 _ = _
    rw [V_main_arg1]
    refine congrArg _ (funext fun a => Fin.ext ?_)
    match a with
    | ⟨0, _⟩ => show win0_1.index t (0 : Fin 2) * 4160 + 1 * k.val = k.val; rw [e2]; omega
    | ⟨1, _⟩ => show win0_1.index t (1 : Fin 2) * 768 + 1 * (y 1).val = (((cfg0.win 2).blk t).view.emb y 1).val; rw [hb1, e3]

/-- The tiles cover the output. -/
theorem covered (i : S2048x8448.Idx) : ∃ t : Fin cfg0.N, (cfg0.win 2).flush t = true ∧ i ∈ ((cfg0.win 2).blk t).view.set := by
  have h0 : (i 0).val < 2048 := (i 0).isLt
  have h1 : (i 1).val < 8448 := (i 1).isLt
  obtain ⟨t, hf, ht⟩ := some_point ⟨(i 0).val / 1024, by omega⟩ ⟨(i 1).val / 768, by omega⟩
  have q0 : win0_2.index t (0 : Fin 2) = (i 0).val / 1024 := congrFun ht 0
  have q1 : win0_2.index t (1 : Fin 2) = (i 1).val / 768 := congrFun ht 1
  refine ⟨t, hf, ?_⟩
  show i ∈ ((View.whole main_v1).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 768 ≤ (i 1).val ∧ (i 1).val < win0_2.index t (1 : Fin 2) * 768 + 768; omega

/-- After the run the output array is the whole product. -/
theorem final (c : Dev nD) : (Gen.dats m 0 c).arrAt 2 cfg0.N = G m c :=
  (Gen.dats m 0 c).arrAt_eq_of_cover 2 _ (fun t _ => written m c t) covered

/-- The whole product is the reference's. -/
theorem eq_ref (c : Dev nD) : G m c
    = val_main_v5 (F := Ideal) (m ((c : Thread nD τ).loc main_arg0)) (m ((c : Thread nD τ).loc main_arg1)) := by
  funext i
  rw [val_main_v5_apply, val_main_v4_apply]
  unfold G
  refine Finset.sum_congr rfl fun k _ => (mul_comm _ _).trans ?_
  refine congrArg₂ (· * ·) ?_ ?_
  · rw [val_main_v3_apply]
    refine congrArg _ (funext fun a => ?_)
    match a with
    | ⟨0, _⟩ => rfl
    | ⟨1, _⟩ => rfl
  · rw [val_main_v0_apply]
    refine congrArg _ (funext fun a => ?_)
    match a with
    | ⟨0, _⟩ => rfl
    | ⟨1, _⟩ => rfl

end Cert.DWInIdeal.Equal

end
-- ==== Proof.DWInClaim.lean ====
/- The value claim of the gradient of the input projection by its weights. -/
module

public import proofs.«01_k».proof.Defs
public import proofs.«01_k».proof.Proof.DWInValue

@[expose] public section

noncomputable section

namespace Cert.Proof.DWIn

open Idealize.ShloMosaic Idealize.SL.Sem

/-- Kernel and reference end with the same array. -/
theorem algebraic : Cert.algebraic_DWInIdeal_DWInRefIdeal := by
  pair_intro
  · run_from Cert.DWInIdeal.Value.run_blocks m g
  · run_from Cert.DWInRefIdeal.Value.run m' g'
    rw [Cert.DWInIdeal.Equal.final m c, Cert.DWInIdeal.Equal.eq_ref]
    rfl

end Cert.Proof.DWIn

end
-- ==== Proof.DOutProjValue.lean ====
/- The gradient of the output projection by its input: what one grid point computes, what the array holds after
   the run, and that this is the reference's product. -/
module

public import proofs.«01_k».proof.Proof.Products
public import proofs.«01_k».proof.Proof.Gen.DOutProjIdeal.Value
public import proofs.«01_k».proof.Proof.Gen.DOutProjRefIdeal.Read

@[expose] public section

noncomputable section

namespace Cert.DOutProjIdeal.Equal

open Cert.DOutProjIdeal Cert.DOutProjIdeal.Gen Idealize.ShloMosaic Idealize.ShloMosaic.TcCoe Idealize.SL.Sem
open Idealize.ShloMosaic.ValueIdx
open Cert.DOutProjRefIdeal.Read

/-- The literal offset of every access is the zero offset. -/
theorem off_zero : (![0, 0] : Fin 2 → Nat) = fun _ => 0 := funext (Fin.forall_fin_two.mpr ⟨rfl, rfl⟩)

section AnyFloat
variable {F : FTy → Type} [FloatOps F]

/-- A grid point leaves in its output tile the product of its two input tiles, added to a tile of zeros. -/
theorem tile (c : Dev nD) (i : grid0.Coords) (a3 : Memref sig .tc .vmem S832x2048 .bf16) (h3 : a3.IsWhole) (a4 : Memref sig .tc .vmem S1024x2048 .bf16) (h4 : a4.IsWhole) (a5 : Memref sig .tc .vmem S8x128 .f32) (h5 : a5.IsWhole) (a6 : Memref sig .tc .vmem S832x1024 .f32) (h6 : a6.IsWhole) (hc : cond0_0 i)
    (x0 : Vec F S832x2048 .bf16) (x1 : Vec F S1024x2048 .bf16) (x2 : Vec F S8x128 .f32) :
    out0_A_3 c i a3 h3 a4 h4 a5 h5 a6 h6 hc x0 x1 x2 = k0_pay2 (k0_pay1 (F := F)) x0 x1 := by
  unfold out0_A_3
  rw [View.read_writes_eq_canon _ _ _ (cover0_A_3 c i a3 h3 a4 h4 a5 h5 a6 h6 hc x0 x1 x2)]
  unfold kernelRun0_A
  dsimp only
  try sl_unfold_words
  rw [View.canon_cons_unit_zero (S := S832x1024) off_zero, View.readCov_unit_zero (S := S832x1024) _ off_zero]
  simp only [View.readAt_eq_ld, h3.read_unread, h4.read_unread, View.ld_unit_zero (S := S832x2048) off_zero,
    View.ld_unit_zero (S := S1024x2048) off_zero]

end AnyFloat

variable (m : (ℓ : Loc nD τ sig) → Buf (Elt Ideal) ℓ)

/-- The weights reach the grid rounded to bf16, which over the reals changes nothing. -/
theorem weights (c : Dev nD) (j : S2048x2048.Idx) : V m c main_v0 j = m ((c : Thread nD τ).loc main_arg1) j := by
  have e : V m c main_v0 = truncf (F := Ideal) (s := S2048x2048) (φ := .f32) .bf16 (m ((c : Thread nD τ).loc main_arg1)) bitsLt_bf16_f32 := by
    show StableHlo.after hostOps0 (fun b => m (c, b)) main_v0 = _
    after_results
  rw [e]
  rfl

/-- The whole product: the sum over the 2048 contracted positions. -/
abbrev G (c : Dev nD) : S4160x2048.Idx → EReal :=
  Products.nt (M := 4160) (K := 2048) (N := 2048) (m ((c : Thread nD τ).loc main_arg0)) (m ((c : Thread nD τ).loc main_arg1))

/-- Which tiles a grid point reads and writes. -/
theorem where_tiles : ∀ t : Fin cfg0.N, win0_0.index t (0 : Fin 2) = win0_3.index t (0 : Fin 2) ∧ win0_0.index t (1 : Fin 2) = 0
    ∧ win0_1.index t (0 : Fin 2) = win0_3.index t (1 : Fin 2) ∧ win0_1.index t (1 : Fin 2) = 0 :=
  (by decide +kernel : ∀ t : Fin grid0.N, _)

/-- Every tile of the output is written by some grid point. -/
theorem some_point : ∀ (p : Fin 5) (q : Fin 2), ∃ t : Fin cfg0.N, (cfg0.win 3).flush t = true ∧ win0_3.index t = ![p.val, q.val] :=
  (by decide +kernel : ∀ (p : Fin 5) (q : Fin 2), ∃ t : Fin grid0.N, win0_3.flush t = true ∧ win0_3.index t = ![p.val, q.val])

/-- A grid point writes its tile of the whole product. -/
theorem written (c : Dev nD) (t : Fin cfg0.N) :
    (Gen.dats m 0 c).flushed 3 t = ((cfg0.win 3).blk t).view.read (Elt Ideal) (G m c) := by
  rw [Value.flushed3_A, tile]
  obtain ⟨e0, e1, e2, e3⟩ := where_tiles t
  funext y
  have hb0 : (((cfg0.win 3).blk t).view.emb y 0).val = win0_3.index t (0 : Fin 2) * 832 + 1 * (y 0).val := rfl
  have hb1 : (((cfg0.win 3).blk t).view.emb y 1).val = win0_3.index t (1 : Fin 2) * 1024 + 1 * (y 1).val := rfl
  show k0_pay2 (F := Ideal) (k0_pay1 (F := Ideal)) (iblk m c 0 t) (iblk m c 1 t) ((cfg0.win 3).xinj (grid0.coords t) y) = G m c (((cfg0.win 3).blk t).view.emb y)
  unfold k0_pay2 k0_pay1
  rw [shapeCast_self, shapeCast_self]
  refine (Products.acc_nt (M := 832) (K := 2048) (N := 1024) _ (iblk m c 0 t) (iblk m c 1 t) ((cfg0.win 3).xinj (grid0.coords t) y)).trans ?_
  rw [Products.zero_tile, zero_add]
  unfold G Products.nt
  refine Finset.sum_congr rfl fun k _ => ?_
  refine congrArg₂ (· * ·) ?_ ?_
  · unfold iblk
    rw [View.read_apply]
    show V m c main_arg0 _ = _
    rw [V_main_arg0]
    refine congrArg _ (funext fun a => Fin.ext ?_)
    match a with
    | ⟨0, _⟩ => show win0_0.index t (0 : Fin 2) * 832 + 1 * (y 0).val = (((cfg0.win 3).blk t).view.emb y 0).val; rw [hb0, e0]
    | ⟨1, _⟩ => show win0_0.index t (1 : Fin 2) * 2048 + 1 * k.val = k.val; rw [e1]; omega
  · unfold iblk
    rw [View.read_apply]
    show V m c main_v0 _ = _
    rw [weights]
    refine congrArg _ (funext fun a => Fin.ext ?_)
    match a with
    | ⟨0, _⟩ => show win0_1.index t (0 : Fin 2) * 1024 + 1 * (y 1).val = (((cfg0.win 3).blk t).view.emb y 1).val; rw [hb1, e2]
    | ⟨1, _⟩ => show win0_1.index t (1 : Fin 2) * 2048 + 1 * k.val = k.val; rw [e3]; omega

/-- The tiles cover the output. -/
theorem covered (i : S4160x2048.Idx) : ∃ t : Fin cfg0.N, (cfg0.win 3).flush t = true ∧ i ∈ ((cfg0.win 3).blk t).view.set := by
  have h0 : (i 0).val < 4160 := (i 0).isLt
  have h1 : (i 1).val < 2048 := (i 1).isLt
  obtain ⟨t, hf, ht⟩ := some_point ⟨(i 0).val / 832, by omega⟩ ⟨(i 1).val / 1024, by omega⟩
  have q0 : win0_3.index t (0 : Fin 2) = (i 0).val / 832 := congrFun ht 0
  have q1 : win0_3.index t (1 : Fin 2) = (i 1).val / 1024 := congrFun ht 1
  refine ⟨t, hf, ?_⟩
  show i ∈ ((View.whole main_v1).slice (win0_3.rect t)).set
  rw [View.set_slice_whole, Rect.mem_set_unit]
  intro a
  match a with
  | ⟨0, _⟩ => show win0_3.index t (0 : Fin 2) * 832 ≤ (i 0).val ∧ (i 0).val < win0_3.index t (0 : Fin 2) * 832 + 832; omega
  | ⟨1, _⟩ => show win0_3.index t (1 : Fin 2) * 1024 ≤ (i 1).val ∧ (i 1).val < win0_3.index t (1 : Fin 2) * 1024 + 1024; omega

/-- After the run the output array is the whole product. -/
theorem final (c : Dev nD) : (Gen.dats m 0 c).arrAt 3 cfg0.N = G m c :=
  (Gen.dats m 0 c).arrAt_eq_of_cover 3 _ (fun t _ => written m c t) covered

/-- The whole product is the reference's. -/
theorem eq_ref (c : Dev nD) : G m c
    = val_main_v3 (F := Ideal) (m ((c : Thread nD τ).loc main_arg0)) (m ((c : Thread nD τ).loc main_arg1)) := by
  funext i
  rw [val_main_v3_apply]
  unfold G Products.nt
  refine Finset.sum_congr rfl fun k _ => ?_
  refine congrArg₂ (· * ·) ?_ ?_
  · rw [val_main_v2_apply]
    refine congrArg _ (funext fun a => ?_)
    match a with
    | ⟨0, _⟩ => rfl
    | ⟨1, _⟩ => rfl
  · refine congrArg _ (funext fun a => ?_)
    match a with
    | ⟨0, _⟩ => rfl
    | ⟨1, _⟩ => rfl

end Cert.DOutProjIdeal.Equal

end
-- ==== Proof.DOutProjClaim.lean ====
/- The value claim of the gradient of the output projection by its input. -/
module

public import proofs.«01_k».proof.Defs
public import proofs.«01_k».proof.Proof.DOutProjValue

@[expose] public section

noncomputable section

namespace Cert.Proof.DOutProj

open Idealize.ShloMosaic Idealize.SL.Sem

/-- Kernel and reference end with the same array. -/
theorem algebraic : Cert.algebraic_DOutProjIdeal_DOutProjRefIdeal := by
  pair_intro
  · run_from Cert.DOutProjIdeal.Value.run_blocks m g
  · run_from Cert.DOutProjRefIdeal.Value.run m' g'
    rw [Cert.DOutProjIdeal.Equal.final m c, Cert.DOutProjIdeal.Equal.eq_ref]
    rfl

end Cert.Proof.DOutProj

end
-- ==== Proof.DWOutValue.lean ====
/- The gradient of the output projection by its weights: what one grid point computes, what the array holds after
   the run, and that this is the reference's product. -/
module

public import proofs.«01_k».proof.Proof.Products
public import proofs.«01_k».proof.Proof.Gen.DWOutIdeal.Value
public import proofs.«01_k».proof.Proof.Gen.DWOutRefIdeal.Read

@[expose] public section

noncomputable section

namespace Cert.DWOutIdeal.Equal

open Cert.DWOutIdeal Cert.DWOutIdeal.Gen Idealize.ShloMosaic Idealize.ShloMosaic.TcCoe Idealize.SL.Sem
open Idealize.ShloMosaic.ValueIdx
open Cert.DWOutRefIdeal.Read

/-- The literal offset of every access is the zero offset. -/
theorem off_zero : (![0, 0] : Fin 2 → Nat) = fun _ => 0 := funext (Fin.forall_fin_two.mpr ⟨rfl, rfl⟩)

section AnyFloat
variable {F : FTy → Type} [FloatOps F]

/-- A grid point leaves in its output tile the product of its two input tiles, added to a tile of zeros. -/
theorem tile (c : Dev nD) (i : grid0.Coords) (a3 : Memref sig .tc .vmem S512x4160 .bf16) (h3 : a3.IsWhole) (a4 : Memref sig .tc .vmem S4160x1024 .bf16) (h4 : a4.IsWhole) (a5 : Memref sig .tc .vmem S512x1024 .f32) (h5 : a5.IsWhole) (hc : cond0_0 i)
    (x0 : Vec F S512x4160 .bf16) (x1 : Vec F S4160x1024 .bf16) :
    out0_A_2 c i a3 h3 a4 h4 a5 h5 hc x0 x1 = k0_pay2 (k0_pay1 (F := F)) x0 x1 := by
  unfold out0_A_2
  rw [View.read_writes_eq_canon _ _ _ (cover0_A_2 c i a3 h3 a4 h4 a5 h5 hc x0 x1)]
  unfold kernelRun0_A
  dsimp only
  try sl_unfold_words
  rw [View.canon_cons_unit_zero (S := S512x1024) off_zero, View.readCov_unit_zero (S := S512x1024) _ off_zero]
  simp only [View.readAt_eq_ld, h3.read_unread, h4.read_unread, View.ld_unit_zero (S := S512x4160) off_zero,
    View.ld_unit_zero (S := S4160x1024) off_zero]

end AnyFloat

variable (m : (ℓ : Loc nD τ sig) → Buf (Elt Ideal) ℓ)

/-- The forward input reaches the grid transposed. -/
theorem turned (c : Dev nD) (j : S2048x4160.Idx) :
    V m c main_v0 j = m ((c : Thread nD τ).loc main_arg0) (ix2 (⟨(j 1).val, (j 1).isLt⟩ : Fin 4160) (⟨(j 0).val, (j 0).isLt⟩ : Fin 2048)) := by
  have e : V m c main_v0 = transpose (s := S4160x2048) S2048x4160 [1, 0] (m ((c : Thread nD τ).loc main_arg0)) transposes_S4160x2048_S2048x4160_1_0 := by
    show StableHlo.after hostOps0 (fun b => m (c, b)) main_v0 = _
    after_results
  rw [e]
  exact transpose_apply [1, 0] _ transposes_S4160x2048_S2048x4160_1_0 j
    (ix2 (⟨(j 1).val, (j 1).isLt⟩ : Fin 4160) (⟨(j 0).val, (j 0).isLt⟩ : Fin 2048)) (fun b => match b with
      | ⟨0, _⟩ => rfl
      | ⟨1, _⟩ => rfl)

/-- The whole product: the sum over the 4160 rows. -/
abbrev G (c : Dev nD) : S2048x2048.Idx → EReal := fun i =>
  ∑ k : Fin 4160, (show EReal from m ((c : Thread nD τ).loc main_arg0) (ix2 k (⟨(i 0).val, (i 0).isLt⟩ : Fin 2048)))
    * (show EReal from m ((c : Thread nD τ).loc main_arg1) (ix2 k (⟨(i 1).val, (i 1).isLt⟩ : Fin 2048)))

/-- Which tiles a grid point reads and writes. -/
theorem where_tiles : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every tile of the output is written by some grid point. -/
theorem some_point : ∀ (p : Fin 4) (q : Fin 2), ∃ t : Fin cfg0.N, (cfg0.win 2).flush t = true ∧ win0_2.index t = ![p.val, q.val] :=
  (by decide +kernel : ∀ (p : Fin 4) (q : Fin 2), ∃ t : Fin grid0.N, win0_2.flush t = true ∧ win0_2.index t = ![p.val, q.val])

/-- A grid point writes its tile of the whole product. -/
theorem written (c : Dev nD) (t : Fin cfg0.N) :
    (Gen.dats m 0 c).flushed 2 t = ((cfg0.win 2).blk t).view.read (Elt Ideal) (G m c) := by
  rw [Value.flushed2_A, tile]
  obtain ⟨e0, e1, e2, e3⟩ := where_tiles t
  funext y
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  show k0_pay2 (F := Ideal) (k0_pay1 (F := Ideal)) (iblk m c 0 t) (iblk m c 1 t) ((cfg0.win 2).xinj (grid0.coords t) y) = G m c (((cfg0.win 2).blk t).view.emb y)
  unfold k0_pay2 k0_pay1
  rw [shapeCast_self, shapeCast_self]
  refine (Products.acc_nn (M := 512) (K := 4160) (N := 1024) _ (iblk m c 0 t) (iblk m c 1 t) ((cfg0.win 2).xinj (grid0.coords t) y)).trans ?_
  rw [Products.zero_tile, zero_add]
  unfold Products.nn
  refine Finset.sum_congr rfl fun k _ => ?_
  refine congrArg₂ (· * ·) ?_ ?_
  · unfold iblk
    rw [View.read_apply]
    show V m c main_v0 _ = _
    rw [turned]
    refine congrArg _ (funext fun a => Fin.ext ?_)
    match a with
    | ⟨0, _⟩ => show win0_0.index t (1 : Fin 2) * 4160 + 1 * k.val = k.val; rw [e1]; omega
    | ⟨1, _⟩ => show win0_0.index t (0 : Fin 2) * 512 + 1 * (y 0).val = (((cfg0.win 2).blk t).view.emb y 0).val; rw [hb0, e0]
  · unfold iblk
    rw [View.read_apply]
    show V m c main_arg1 _ = _
    rw [V_main_arg1]
    refine congrArg _ (funext fun a => Fin.ext ?_)
    match a with
    | ⟨0, _⟩ => show win0_1.index t (0 : Fin 2) * 4160 + 1 * k.val = k.val; rw [e2]; omega
    | ⟨1, _⟩ => show win0_1.index t (1 : Fin 2) * 1024 + 1 * (y 1).val = (((cfg0.win 2).blk t).view.emb y 1).val; rw [hb1, e3]

/-- The tiles cover the output. -/
theorem covered (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  obtain ⟨t, hf, ht⟩ := some_point ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, hf, ?_⟩
  show i ∈ ((View.whole main_v1).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the run the output array is the whole product. -/
theorem final (c : Dev nD) : (Gen.dats m 0 c).arrAt 2 cfg0.N = G m c :=
  (Gen.dats m 0 c).arrAt_eq_of_cover 2 _ (fun t _ => written m c t) covered

/-- The whole product is the reference's. -/
theorem eq_ref (c : Dev nD) : G m c
    = val_main_v5 (F := Ideal) (m ((c : Thread nD τ).loc main_arg0)) (m ((c : Thread nD τ).loc main_arg1)) := by
  funext i
  rw [val_main_v5_apply, val_main_v4_apply]
  unfold G
  refine Finset.sum_congr rfl fun k _ => (mul_comm _ _).trans ?_
  refine congrArg₂ (· * ·) ?_ ?_
  · rw [val_main_v3_apply]
    refine congrArg _ (funext fun a => ?_)
    match a with
    | ⟨0, _⟩ => rfl
    | ⟨1, _⟩ => rfl
  · rw [val_main_v0_apply]
    refine congrArg _ (funext fun a => ?_)
    match a with
    | ⟨0, _⟩ => rfl
    | ⟨1, _⟩ => rfl

end Cert.DWOutIdeal.Equal

end
-- ==== Proof.DWOutClaim.lean ====
/- The value claim of the gradient of the output projection by its weights. -/
module

public import proofs.«01_k».proof.Defs
public import proofs.«01_k».proof.Proof.DWOutValue

@[expose] public section

noncomputable section

namespace Cert.Proof.DWOut

open Idealize.ShloMosaic Idealize.SL.Sem

/-- Kernel and reference end with the same array. -/
theorem algebraic : Cert.algebraic_DWOutIdeal_DWOutRefIdeal := by
  pair_intro
  · run_from Cert.DWOutIdeal.Value.run_blocks m g
  · run_from Cert.DWOutRefIdeal.Value.run m' g'
    rw [Cert.DWOutIdeal.Equal.final m c, Cert.DWOutIdeal.Equal.eq_ref]
    rfl

end Cert.Proof.DWOut

end
-- ==== Proof.InProjValue.lean ====
/- The input projection: what one grid point computes, what the array holds after
   the run, and that this is the reference's product. -/
module

public import proofs.«01_k».proof.Proof.Gap
public import proofs.«01_k».proof.Proof.Gen.InProjIdeal.Value
public import proofs.«01_k».proof.Proof.Gen.InProjRefIdeal.Read

@[expose] public section

noncomputable section

namespace Cert.InProjIdeal.Equal

open Cert.InProjIdeal Cert.InProjIdeal.Gen Idealize.ShloMosaic Idealize.ShloMosaic.TcCoe Idealize.SL.Sem
open Idealize.ShloMosaic.ValueIdx
open Cert.InProjRefIdeal.Read

/-- The literal offset of every access is the zero offset. -/
theorem off_zero : (![0, 0] : Fin 2 → Nat) = fun _ => 0 := funext (Fin.forall_fin_two.mpr ⟨rfl, rfl⟩)

section AnyFloat
variable {F : FTy → Type} [FloatOps F]

/-- A grid point leaves in its output tile the product of its two input tiles, added to a tile of zeros. -/
theorem tile (c : Dev nD) (i : grid0.Coords) (a3 : Memref sig .tc .vmem S832x2048 .bf16) (h3 : a3.IsWhole) (a4 : Memref sig .tc .vmem S2048x1408 .bf16) (h4 : a4.IsWhole) (a5 : Memref sig .tc .vmem S8x128 .f32) (h5 : a5.IsWhole) (a6 : Memref sig .tc .vmem S832x1408 .f32) (h6 : a6.IsWhole) (hc : cond0_0 i)
    (x0 : Vec F S832x2048 .bf16) (x1 : Vec F S2048x1408 .bf16) (x2 : Vec F S8x128 .f32) :
    out0_A_3 c i a3 h3 a4 h4 a5 h5 a6 h6 hc x0 x1 x2 = k0_pay2 (k0_pay1 (F := F)) x0 x1 := by
  unfold out0_A_3
  rw [View.read_writes_eq_canon _ _ _ (cover0_A_3 c i a3 h3 a4 h4 a5 h5 a6 h6 hc x0 x1 x2)]
  unfold kernelRun0_A
  dsimp only
  try sl_unfold_words
  rw [View.canon_cons_unit_zero (S := S832x1408) off_zero, View.readCov_unit_zero (S := S832x1408) _ off_zero]
  simp only [View.readAt_eq_ld, h3.read_unread, h4.read_unread, View.ld_unit_zero (S := S832x2048) off_zero,
    View.ld_unit_zero (S := S2048x1408) off_zero]

end AnyFloat

variable (m : (ℓ : Loc nD τ sig) → Buf (Elt Ideal) ℓ)

/-- The weights reach the grid rounded to bf16, which over the reals changes nothing, with 112 columns of zeros put in. -/
theorem weights (c : Dev nD) : V m c main_v4 = Products.gap (R := 2048) (m ((c : Thread nD τ).loc main_arg1)) := by
  have e : V m c main_v4 = concatenate S2048x8448 1 [⟨S2048x7312, extractStridedSlice S2048x7312 ![0, 0] (truncf (F := Ideal) (s := S2048x8336) (φ := .f32) .bf16 (m ((c : Thread nD τ).loc main_arg1)) bitsLt_bf16_f32) slices_S2048x8336_S2048x7312_0_0⟩,
      ⟨S2048x112, broadcastInDim S2048x112 ![] bcast_S_S2048x112 (constant (F := Ideal) S_ .bf16 0x0000#16)⟩,
      ⟨S2048x1024, extractStridedSlice S2048x1024 ![0, 7312] (truncf (F := Ideal) (s := S2048x8336) (φ := .f32) .bf16 (m ((c : Thread nD τ).loc main_arg1)) bitsLt_bf16_f32) slices_S2048x8336_S2048x1024_0_7312⟩] concatenates_S2048x7312_S2048x112_S2048x1024_S2048x8448_d1 := by
    show StableHlo.after hostOps0 (fun b => m (c, b)) main_v4 = _
    after_results
    refine Products.concat3 ?_ ?_ ?_ _
    · show (StableHlo.after hostOps0 (fun b => m (c, b))) main_v1 = _
      after_results
    · show (StableHlo.after hostOps0 (fun b => m (c, b))) main_v2 = _
      after_results
    · show (StableHlo.after hostOps0 (fun b => m (c, b))) main_v3 = _
      after_results
  rw [e]
  refine Products.concat_gap (R := 2048) (m ((c : Thread nD τ).loc main_arg1)) _ _ _ (fun r k => ?_) (fun j => Ideal.ofBits_zero_bf16) (fun r k => ?_) _
  · refine congrArg (m ((c : Thread nD τ).loc main_arg1)) (funext fun a => Fin.ext ?_)
    match a with
    | ⟨0, _⟩ => show 0 + r.val = r.val; omega
    | ⟨1, _⟩ => show 0 + k.val = k.val; omega
  · refine congrArg (m ((c : Thread nD τ).loc main_arg1)) (funext fun a => Fin.ext ?_)
    match a with
    | ⟨0, _⟩ => show 0 + r.val = r.val; omega
    | ⟨1, _⟩ => show 7312 + k.val = 7312 + k.val; rfl

/-- The whole product: the sum over the 2048 contracted positions. -/
abbrev G (c : Dev nD) : S4160x8448.Idx → EReal :=
  Products.nn (M := 4160) (K := 2048) (N := 8448) (m ((c : Thread nD τ).loc main_arg0)) (Products.gap (R := 2048) (m ((c : Thread nD τ).loc main_arg1)))

/-- Which tiles a grid point reads and writes. -/
theorem where_tiles : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2) :=
  (by decide +kernel : ∀ t : Fin grid0.N, _)

/-- Every tile of the output is written by some grid point. -/
theorem some_point : ∀ (p : Fin 5) (q : Fin 6), ∃ t : Fin cfg0.N, (cfg0.win 3).flush t = true ∧ win0_3.index t = ![p.val, q.val] :=
  (by decide +kernel : ∀ (p : Fin 5) (q : Fin 6), ∃ t : Fin grid0.N, win0_3.flush t = true ∧ win0_3.index t = ![p.val, q.val])

/-- A grid point writes its tile of the whole product. -/
theorem written (c : Dev nD) (t : Fin cfg0.N) :
    (Gen.dats m 0 c).flushed 3 t = ((cfg0.win 3).blk t).view.read (Elt Ideal) (G m c) := by
  rw [Value.flushed3_A, tile]
  obtain ⟨e0, e1, e2, e3⟩ := where_tiles t
  funext y
  have hb0 : (((cfg0.win 3).blk t).view.emb y 0).val = win0_3.index t (0 : Fin 2) * 832 + 1 * (y 0).val := rfl
  have hb1 : (((cfg0.win 3).blk t).view.emb y 1).val = win0_3.index t (1 : Fin 2) * 1408 + 1 * (y 1).val := rfl
  show k0_pay2 (F := Ideal) (k0_pay1 (F := Ideal)) (iblk m c 0 t) (iblk m c 1 t) ((cfg0.win 3).xinj (grid0.coords t) y) = G m c (((cfg0.win 3).blk t).view.emb y)
  unfold k0_pay2 k0_pay1
  rw [shapeCast_self, shapeCast_self]
  refine (Products.acc_nn (M := 832) (K := 2048) (N := 1408) _ (iblk m c 0 t) (iblk m c 1 t) ((cfg0.win 3).xinj (grid0.coords t) y)).trans ?_
  rw [Products.zero_tile, zero_add]
  unfold Products.nn
  refine Finset.sum_congr rfl fun k _ => ?_
  refine congrArg₂ (· * ·) ?_ ?_
  · unfold iblk
    rw [View.read_apply]
    show V m c main_arg0 _ = _
    rw [V_main_arg0]
    refine congrArg _ (funext fun a => Fin.ext ?_)
    match a with
    | ⟨0, _⟩ => show win0_0.index t (0 : Fin 2) * 832 + 1 * (y 0).val = (((cfg0.win 3).blk t).view.emb y 0).val; rw [hb0, e0]
    | ⟨1, _⟩ => show win0_0.index t (1 : Fin 2) * 2048 + 1 * k.val = k.val; rw [e1]; omega
  · unfold iblk
    rw [View.read_apply]
    show V m c main_v4 _ = _
    rw [weights]
    refine congrArg _ (funext fun a => Fin.ext ?_)
    match a with
    | ⟨0, _⟩ => show win0_1.index t (0 : Fin 2) * 2048 + 1 * k.val = k.val; rw [e2]; omega
    | ⟨1, _⟩ => show win0_1.index t (1 : Fin 2) * 1408 + 1 * (y 1).val = (((cfg0.win 3).blk t).view.emb y 1).val; rw [hb1, e3]

/-- The tiles cover the output. -/
theorem covered (i : S4160x8448.Idx) : ∃ t : Fin cfg0.N, (cfg0.win 3).flush t = true ∧ i ∈ ((cfg0.win 3).blk t).view.set := by
  have h0 : (i 0).val < 4160 := (i 0).isLt
  have h1 : (i 1).val < 8448 := (i 1).isLt
  obtain ⟨t, hf, ht⟩ := some_point ⟨(i 0).val / 832, by omega⟩ ⟨(i 1).val / 1408, by omega⟩
  have q0 : win0_3.index t (0 : Fin 2) = (i 0).val / 832 := congrFun ht 0
  have q1 : win0_3.index t (1 : Fin 2) = (i 1).val / 1408 := congrFun ht 1
  refine ⟨t, hf, ?_⟩
  show i ∈ ((View.whole main_v5).slice (win0_3.rect t)).set
  rw [View.set_slice_whole, Rect.mem_set_unit]
  intro a
  match a with
  | ⟨0, _⟩ => show win0_3.index t (0 : Fin 2) * 832 ≤ (i 0).val ∧ (i 0).val < win0_3.index t (0 : Fin 2) * 832 + 832; omega
  | ⟨1, _⟩ => show win0_3.index t (1 : Fin 2) * 1408 ≤ (i 1).val ∧ (i 1).val < win0_3.index t (1 : Fin 2) * 1408 + 1408; omega

/-- After the run the output array is the whole product. -/
theorem final (c : Dev nD) : (Gen.dats m 0 c).arrAt 3 cfg0.N = G m c :=
  (Gen.dats m 0 c).arrAt_eq_of_cover 3 _ (fun t _ => written m c t) covered

/-- The reference's plain product. -/
theorem plain_ref (x0 : S4160x2048.Idx → EReal) (x1 : S2048x8336.Idx → EReal) :
    val_main_v1 (F := Ideal) x0 x1 = Products.nn (M := 4160) (K := 2048) (N := 8336) x0 x1 := by
  funext i
  rw [val_main_v1_apply]
  unfold Products.nn
  refine Finset.sum_congr rfl fun k _ => ?_
  refine congrArg₂ (· * ·) ?_ ?_
  · refine congrArg x0 (funext fun a => ?_)
    match a with
    | ⟨0, _⟩ => rfl
    | ⟨1, _⟩ => rfl
  · refine congrArg x1 (funext fun a => ?_)
    match a with
    | ⟨0, _⟩ => rfl
    | ⟨1, _⟩ => rfl

/-- The whole product is the reference's, whose zero columns are put in after the product. -/
theorem eq_ref (c : Dev nD) : G m c
    = val_main_v5 (F := Ideal) (m ((c : Thread nD τ).loc main_arg0)) (m ((c : Thread nD τ).loc main_arg1)) := by
  unfold G
  rw [Products.nn_gap]
  unfold val_main_v5
  refine (Products.concat_gap (R := 4160) _ _ _ _ (fun r k => ?_) (fun j => Ideal.ofBits_zero_f32) (fun r k => ?_) _).symm
  · unfold val_main_v2
    rw [plain_ref]
    refine congrArg (Products.nn (M := 4160) (K := 2048) (N := 8336) _ _) (funext fun a => Fin.ext ?_)
    match a with
    | ⟨0, _⟩ => show 0 + r.val = r.val; omega
    | ⟨1, _⟩ => show 0 + k.val = k.val; omega
  · unfold val_main_v4
    rw [plain_ref]
    refine congrArg (Products.nn (M := 4160) (K := 2048) (N := 8336) _ _) (funext fun a => Fin.ext ?_)
    match a with
    | ⟨0, _⟩ => show 0 + r.val = r.val; omega
    | ⟨1, _⟩ => show 7312 + k.val = 7312 + k.val; rfl

end Cert.InProjIdeal.Equal

end
-- ==== Proof.InProjClaim.lean ====
/- The value claim of the input projection. -/
module

public import proofs.«01_k».proof.Defs
public import proofs.«01_k».proof.Proof.InProjValue

@[expose] public section

noncomputable section

namespace Cert.Proof.InProj

open Idealize.ShloMosaic Idealize.SL.Sem

/-- Kernel and reference end with the same array. -/
theorem algebraic : Cert.algebraic_InProjIdeal_InProjRefIdeal := by
  pair_intro
  · run_from Cert.InProjIdeal.Value.run_blocks m g
  · run_from Cert.InProjRefIdeal.Value.run m' g'
    rw [Cert.InProjIdeal.Equal.final m c, Cert.InProjIdeal.Equal.eq_ref]
    rfl

end Cert.Proof.InProj

end
-- ==== Proof.Norm.lean ====
/- The rows entering the first norm - the meta rows, the rows of x, and rows of zeros up to the tiles' end - and the
   norm of one row. -/
module

public import Idealize.ShloMosaic.Lib.Pipeline.Value
public import Idealize.ShloMosaic.Lib.IdealHost

@[expose] public section

noncomputable section

namespace Cert.Norm

open Idealize.ShloMosaic Idealize.ShloMosaic.ValueIdx

/-- The shape of a matrix. -/
abbrev Mat (r n : Nat) : Shape := ⟨2, ![r, n]⟩

/-- Row `r` of the stacked rows: 16 meta rows, 4096 rows of x, then zeros. -/
def stack (mt : (Mat 16 2048).Idx → EReal) (x : (Mat 4096 2048).Idx → EReal) (r : Nat) (k : Fin 2048) : EReal :=
  if h : r < 16 then mt (ValueIdx.ix2 (⟨r, h⟩ : Fin 16) k)
  else if h' : r < 4112 then x (ValueIdx.ix2 (⟨r - 16, by omega⟩ : Fin 4096) k)
  else 0

/-- A row past the rows of x is zeros. -/
theorem stack_past (mt : (Mat 16 2048).Idx → EReal) (x : (Mat 4096 2048).Idx → EReal) (r : Nat) (hr : 4112 ≤ r) (k : Fin 2048) :
    stack mt x r k = 0 := by
  unfold stack
  rw [dif_neg (by omega), dif_neg (by omega)]

/-- The meta rows, the rows of x and a block of zeros, one below the other, are the stacked rows. -/
theorem concat_three (mt : (Mat 16 2048).Idx → EReal) (x : (Mat 4096 2048).Idx → EReal) (z : (Mat 48 2048).Idx → EReal)
    (hz : ∀ j, z j = 0) (h : Shape.Concatenates [Mat 16 2048, Mat 4096 2048, Mat 48 2048] (Mat 4160 2048) 0) (j : (Mat 4160 2048).Idx) :
    concatenate (Mat 4160 2048) 0 [⟨Mat 16 2048, mt⟩, ⟨Mat 4096 2048, x⟩, ⟨Mat 48 2048, z⟩] h j
      = stack mt x (j 0).val ⟨(j 1).val, (j 1).isLt⟩ := by
  have hj : (j 0).val < 4160 := (j 0).isLt
  unfold stack
  by_cases h1 : (j 0).val < 16
  · rw [dif_pos h1]
    refine concatenate_apply_piece (t := Mat 4160 2048) 0 [⟨Mat 16 2048, mt⟩, ⟨Mat 4096 2048, x⟩, ⟨Mat 48 2048, z⟩] h j 0 (by show 0 < 3; omega) (Mat 16 2048) mt rfl rfl 0 rfl (ValueIdx.ix2 (⟨(j 0).val, h1⟩ : Fin 16) (⟨(j 1).val, (j 1).isLt⟩ : Fin 2048)) (fun b hb => ?_) ?_
    · match b with
      | ⟨0, _⟩ => exact absurd rfl hb
      | ⟨1, _⟩ => rfl
    · exact Nat.zero_add _
  · rw [dif_neg h1]
    by_cases h2 : (j 0).val < 4112
    · rw [dif_pos h2]
      refine concatenate_apply_piece (t := Mat 4160 2048) 0 [⟨Mat 16 2048, mt⟩, ⟨Mat 4096 2048, x⟩, ⟨Mat 48 2048, z⟩] h j 1 (by show 1 < 3; omega) (Mat 4096 2048) x rfl rfl 16 rfl (ValueIdx.ix2 (⟨(j 0).val - 16, by omega⟩ : Fin 4096) (⟨(j 1).val, (j 1).isLt⟩ : Fin 2048)) (fun b hb => ?_) ?_
      · match b with
        | ⟨0, _⟩ => exact absurd rfl hb
        | ⟨1, _⟩ => rfl
      · show 16 + ((j 0).val - 16) = (j 0).val
        omega
    · rw [dif_neg h2]
      refine (concatenate_apply_piece (t := Mat 4160 2048) 0 [⟨Mat 16 2048, mt⟩, ⟨Mat 4096 2048, x⟩, ⟨Mat 48 2048, z⟩] h j 2 (by show 2 < 3; omega) (Mat 48 2048) z rfl rfl 4112 rfl
        (ValueIdx.ix2 (⟨(j 0).val - 4112, by omega⟩ : Fin 48) (⟨(j 1).val, (j 1).isLt⟩ : Fin 2048)) (fun b hb => ?_) ?_).trans (hz _)
      · match b with
        | ⟨0, _⟩ => exact absurd rfl hb
        | ⟨1, _⟩ => rfl
      · show 4112 + ((j 0).val - 4112) = (j 0).val
        omega

/-- The meta rows and the rows of x, one below the other, are the stacked rows before the zeros. -/
theorem concat_two (mt : (Mat 16 2048).Idx → EReal) (x : (Mat 4096 2048).Idx → EReal)
    (h : Shape.Concatenates [Mat 16 2048, Mat 4096 2048] (Mat 4112 2048) 0) (j : (Mat 4112 2048).Idx) :
    concatenate (Mat 4112 2048) 0 [⟨Mat 16 2048, mt⟩, ⟨Mat 4096 2048, x⟩] h j
      = stack mt x (j 0).val ⟨(j 1).val, (j 1).isLt⟩ := by
  have hj : (j 0).val < 4112 := (j 0).isLt
  unfold stack
  by_cases h1 : (j 0).val < 16
  · rw [dif_pos h1]
    refine concatenate_apply_piece (t := Mat 4112 2048) 0 [⟨Mat 16 2048, mt⟩, ⟨Mat 4096 2048, x⟩] h j 0 (by show 0 < 2; omega) (Mat 16 2048) mt rfl rfl 0 rfl (ValueIdx.ix2 (⟨(j 0).val, h1⟩ : Fin 16) (⟨(j 1).val, (j 1).isLt⟩ : Fin 2048)) (fun b hb => ?_) ?_
    · match b with
      | ⟨0, _⟩ => exact absurd rfl hb
      | ⟨1, _⟩ => rfl
    · exact Nat.zero_add _
  · rw [dif_neg h1, dif_pos hj]
    refine concatenate_apply_piece (t := Mat 4112 2048) 0 [⟨Mat 16 2048, mt⟩, ⟨Mat 4096 2048, x⟩] h j 1 (by show 1 < 2; omega) (Mat 4096 2048) x rfl rfl 16 rfl (ValueIdx.ix2 (⟨(j 0).val - 16, by omega⟩ : Fin 4096) (⟨(j 1).val, (j 1).isLt⟩ : Fin 2048)) (fun b hb => ?_) ?_
    · match b with
      | ⟨0, _⟩ => exact absurd rfl hb
      | ⟨1, _⟩ => rfl
    · show 16 + ((j 0).val - 16) = (j 0).val
      omega

/-- The reciprocal root of a row's mean square, the small constant added. -/
def scale (row : Fin 2048 → EReal) : EReal :=
  Ideal.rsqrt (Ideal.div (∑ k : Fin 2048, row k * row k) (Ideal.ofBits .f32 0x45000000#32) + Ideal.ofBits .f32 0x358637BD#32)

/-- An entry of the norm of a row. -/
def normed (row : Fin 2048 → EReal) (k : Fin 2048) (w : EReal) : EReal := row k * scale row * w

/-- The norm of an entry that is zero is zero. -/
theorem normed_zero (row : Fin 2048 → EReal) (k : Fin 2048) (w : EReal) (h : row k = 0) : normed row k w = 0 := by
  unfold normed
  rw [h, zero_mul, zero_mul]

end Cert.Norm

end
-- ==== Proof.RmsInValue.lean ====
/- The first norm: what one grid point computes, what the array holds after the run, and that it is the
   reference's. -/
module

public import proofs.«01_k».proof.Proof.Norm
public import proofs.«01_k».proof.Proof.Gap
public import proofs.«01_k».proof.Proof.Gen.RmsInIdeal.Value
public import proofs.«01_k».proof.Proof.Gen.RmsInRefIdeal.Read
public import Idealize.ShloMosaic.Lib.KernelVsHost

@[expose] public section

noncomputable section

namespace Cert.RmsInIdeal.Equal

open Cert.RmsInIdeal Cert.RmsInIdeal.Gen Idealize.ShloMosaic Idealize.ShloMosaic.TcCoe Idealize.SL.Sem
open Idealize.ShloMosaic.ValueIdx
open Cert.RmsInRefIdeal.Read

/-- The literal offset of every access is the zero offset. -/
theorem off_zero : (![0, 0] : Fin 2 → Nat) = fun _ => 0 := funext (Fin.forall_fin_two.mpr ⟨rfl, rfl⟩)

/-- A position of a block, spelt by its coordinates, is itself. -/
theorem same (y : S208x2048.Idx) : Value.ix2_0 y = ix2 (⟨(y 0).val, (y 0).isLt⟩ : Fin 208) (⟨(y 1).val, (y 1).isLt⟩ : Fin 2048) := by
  funext a
  match a with
  | ⟨0, _⟩ => rfl
  | ⟨1, _⟩ => rfl

/-- What a grid point computes: the norm of each of its rows. -/
theorem point (x0 : Vec Ideal S208x2048 .f32) (x1 : Vec Ideal S1x2048 .f32) (y : S208x2048.Idx) :
    out0_2 (F := Ideal) x0 x1 y = Norm.normed (fun k => x0 (ix2 (⟨(y 0).val, (y 0).isLt⟩ : Fin 208) k)) ⟨(y 1).val, (y 1).isLt⟩
      (x1 (Value.ix2_2 y)) := by
  unfold out0_2
  rw [Value.canon2_eq, View.ld_unit_zero off_zero, View.ld_unit_zero off_zero]
  have e : multiReduction (F := Ideal) .add [1] S208 (mulf (shapeCast S208x2048 x0 shapeCasts_S208x2048_S208x2048) (shapeCast S208x2048 x0 shapeCasts_S208x2048_S208x2048)) 0x00000000#32 reduces_S208x2048_S208 (.inl rfl) rfl (Value.ix2_1 y)
      = ∑ k : Fin 2048, x0 (ix2 (⟨(y 0).val, (y 0).isLt⟩ : Fin 208) k) * x0 (ix2 (⟨(y 0).val, (y 0).isLt⟩ : Fin 208) k) := by
    rw [shapeCast_self]
    refine (Ideal.multiReduction_add_single (φ := .f32) _ _ reduces_S208x2048_S208 (.inl rfl) rfl (Value.ix2_1 y)).trans ?_
    refine Finset.sum_congr rfl fun k _ => ?_
    have hk : reduces_S208x2048_S208.lift (Value.ix2_1 y) k = ix2 (⟨(y 0).val, (y 0).isLt⟩ : Fin 208) k := by
      refine funext fun a => ?_
      match a with
      | ⟨0, _⟩ => rfl
      | ⟨1, _⟩ => rfl
    rw [hk]
    rfl
  show FloatOps.truncf .bf16 bitsLt_bf16_f32 (FloatOps.mulf (F := Ideal) (FloatOps.mulf (x0 (Value.ix2_0 y)) (FloatOps.rsqrt (FloatOps.addf (FloatOps.divf
    (multiReduction (F := Ideal) .add [1] S208 (mulf (shapeCast S208x2048 x0 shapeCasts_S208x2048_S208x2048) (shapeCast S208x2048 x0 shapeCasts_S208x2048_S208x2048)) 0x00000000#32 reduces_S208x2048_S208 (.inl rfl) rfl (Value.ix2_1 y)) _) _))) _) = _
  rw [e, same]
  rfl

variable (m : (ℓ : Loc nD τ sig) → Buf (Elt Ideal) ℓ)

/-- The rows reach the grid stacked. -/
theorem rows (c : Dev nD) (j : S4160x2048.Idx) : V m c main_v1 j
    = Norm.stack (m ((c : Thread nD τ).loc main_arg0)) (m ((c : Thread nD τ).loc main_arg1)) (j 0).val ⟨(j 1).val, (j 1).isLt⟩ := by
  have e : V m c main_v1 = concatenate S4160x2048 0 [⟨S16x2048, m ((c : Thread nD τ).loc main_arg0)⟩, ⟨S4096x2048, m ((c : Thread nD τ).loc main_arg1)⟩,
      ⟨S48x2048, broadcastInDim S48x2048 ![] bcast_S_S48x2048 (constant (F := Ideal) S_ .f32 0x00000000#32)⟩] concatenates_S16x2048_S4096x2048_S48x2048_S4160x2048_d0 := by
    show StableHlo.after hostOps0 (fun b => m (c, b)) main_v1 = _
    after_results
    refine Products.concat3 (V_main_arg0 m c) (V_main_arg1 m c) ?_ _
    show StableHlo.after hostOps0 (fun b => m (c, b)) main_v0 = _
    after_results
  rw [e]
  exact Norm.concat_three _ _ _ (fun _ => Ideal.ofBits_zero_f32) _ j

/-- The windows of the rows and of the result move together; the weights' is the whole array. -/
theorem where_tiles : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- Every grid point writes its block back. -/
theorem flushes : ∀ t : Fin cfg0.N, (cfg0.win 2).flush t = true :=
  (by decide +kernel : ∀ t : Fin grid0.N, win0_2.flush t = true)

/-- What the array is to hold: the reference's rows. -/
abbrev G (c : Dev nD) : Vec Ideal S4160x2048 .bf16 := val_main_v16 (F := Ideal) (m ((c : Thread nD τ).loc main_arg0))
  (m ((c : Thread nD τ).loc main_arg1)) (m ((c : Thread nD τ).loc main_arg2))

/-- The reference's rows before they are padded: the norm of each. -/
theorem ref_row (mt : Vec Ideal S16x2048 .f32) (x : Vec Ideal S4096x2048 .f32) (w : Vec Ideal S1x2048 .f32) (i : Cert.RmsInRefIdeal.S4112x2048.Idx) :
    val_main_v14 (F := Ideal) mt x w i
      = Norm.normed (Norm.stack mt x (i 0).val) ⟨(i 1).val, (i 1).isLt⟩ (w (ix2 (0 : Fin 1) (⟨(i 1).val, (i 1).isLt⟩ : Fin 2048))) := by
  have h0 : ∀ j, val_main_v0 (F := Ideal) mt x j = Norm.stack mt x (j 0).val ⟨(j 1).val, (j 1).isLt⟩ :=
    fun j => Norm.concat_two mt x _ j
  rw [val_main_v14_apply, val_main_v11_apply, val_main_v10_apply,
    val_main_v9_apply, val_main_v8_apply, val_main_v6_apply,
    val_main_v4_apply, val_main_v3_apply, val_main_v5_apply,
    val_main_v7_apply, val_main_v13_apply, val_main_v12_apply,
    val_main_v1_apply, h0]
  have hz : val_main_cst (F := Ideal) (Shape.Idx.first Cert.RmsInRefIdeal.Gen.h_S_) = 0 := Ideal.ofBits_zero_f32
  rw [hz, zero_add]
  have hs : ∀ k : Fin 2048, val_main_v2 (F := Ideal) mt x (idx_main_v3 (idx_main_v4 (idx_main_v10 i)) k)
      = Norm.stack mt x (i 0).val k * Norm.stack mt x (i 0).val k := fun k => by
    rw [val_main_v2_apply, h0]
    rfl
  simp only [hs]
  have hw : idx_main_v1 (idx_main_v12 (idx_main_v13 i))
      = ix2 (0 : Fin 1) (⟨(i 1).val, (i 1).isLt⟩ : Fin 2048) := by
    refine funext fun a => ?_
    match a with
    | ⟨0, _⟩ => rfl
    | ⟨1, _⟩ => exact Fin.ext (Nat.mod_eq_of_lt (i 1).isLt)
  rw [hw]
  rfl

/-- The reference's rows: the norm of each, and zeros past the rows of x. -/
theorem ref_all (mt : Vec Ideal S16x2048 .f32) (x : Vec Ideal S4096x2048 .f32) (w : Vec Ideal S1x2048 .f32) (i : S4160x2048.Idx) :
    val_main_v16 (F := Ideal) mt x w i
      = Norm.normed (Norm.stack mt x (i 0).val) ⟨(i 1).val, (i 1).isLt⟩ (w (ix2 (0 : Fin 1) (⟨(i 1).val, (i 1).isLt⟩ : Fin 2048))) := by
  rw [val_main_v16_apply]
  show val_main_v15 (F := Ideal) mt x w i = _
  unfold val_main_v15
  by_cases h : (i 0).val < 4112
  · refine (pad_apply_of_inside _ _ _ _ _ _ _ i (ix2 (⟨(i 0).val, h⟩ : Fin 4112) (⟨(i 1).val, (i 1).isLt⟩ : Fin 2048)) fun a => ?_).trans ?_
    · match a with
      | ⟨0, _⟩ => show (i 0).val = 0 + (i 0).val * 1; omega
      | ⟨1, _⟩ => show (i 1).val = 0 + (i 1).val * 1; omega
    · exact ref_row mt x w _
  · rw [Norm.normed_zero _ _ _ (Norm.stack_past mt x _ (by omega) _)]
    refine (pad_apply_of_not_inside _ _ _ _ _ _ _ i 0 fun hh => ?_).trans ?_
    · have h2 : ((i 0).val - 0) / 1 < 4112 := hh.2.2
      omega
    · show val_main_call0_v0 (F := Ideal) _ = _
      rw [val_main_call0_v0_apply, val_main_c_apply]
      show (((0#32 : BitVec 32).toInt : ℝ) : EReal) = 0
      simp

/-- A grid point writes its block of the reference's rows. -/
theorem written (c : Dev nD) (t : Fin cfg0.N) :
    (Gen.dats m 0 c).flushed 2 t = ((cfg0.win 2).blk t).view.read (Elt Ideal) (G m c) := by
  rw [Value.flushed2]
  obtain ⟨⟨a0, a1⟩, ⟨b0, b1⟩, ⟨c0, c1⟩⟩ := where_tiles t
  funext y
  have h0 : (((cfg0.win 2).blk t).view.emb y 0).val = t.val * 208 + (y 0).val := by
    show win0_2.index t (0 : Fin 2) * 208 + 1 * (y 0).val = _
    rw [c0]; omega
  have h1 : (((cfg0.win 2).blk t).view.emb y 1).val = (y 1).val := by
    show win0_2.index t (1 : Fin 2) * 2048 + 1 * (y 1).val = _
    rw [c1]; omega
  show out0_2 (iblk m c 0 t) (iblk m c 1 t) y = G m c (((cfg0.win 2).blk t).view.emb y)
  unfold G
  rw [point, ref_all]
  have hr : (fun k : Fin 2048 => iblk m c 0 t (ix2 (⟨(y 0).val, (y 0).isLt⟩ : Fin 208) k))
      = Norm.stack (m ((c : Thread nD τ).loc main_arg0)) (m ((c : Thread nD τ).loc main_arg1)) (t.val * 208 + (y 0).val) := by
    funext k
    unfold iblk
    rw [View.read_apply]
    show V m c main_v1 _ = _
    rw [rows]
    refine congrArg₂ (Norm.stack _ _) ?_ (Fin.ext ?_)
    · show win0_0.index t (0 : Fin 2) * 208 + 1 * (y 0).val = _
      rw [a0]; omega
    · show win0_0.index t (1 : Fin 2) * 2048 + 1 * k.val = k.val
      rw [a1]; omega
  have hw : iblk m c 1 t (Value.ix2_2 y) = m ((c : Thread nD τ).loc main_arg2) (ix2 (0 : Fin 1) (⟨(y 1).val, (y 1).isLt⟩ : Fin 2048)) := by
    unfold iblk
    rw [View.read_apply]
    show V m c main_arg2 _ = _
    rw [V_main_arg2]
    refine congrArg _ (funext fun a => Fin.ext ?_)
    match a with
    | ⟨0, _⟩ => show win0_1.index t (0 : Fin 2) * 1 + 1 * 0 = 0; rw [b0]
    | ⟨1, _⟩ => show win0_1.index t (1 : Fin 2) * 2048 + 1 * (y 1).val = (y 1).val; rw [b1]; omega
  have hk : (⟨(((cfg0.win 2).blk t).view.emb y 1).val, (((cfg0.win 2).blk t).view.emb y 1).isLt⟩ : Fin 2048) = ⟨(y 1).val, (y 1).isLt⟩ := Fin.ext h1
  rw [hr, hw, h0]
  exact congrArg (fun k : Fin 2048 => Norm.normed _ k (m ((c : Thread nD τ).loc main_arg2) (ix2 (0 : Fin 1) k))) hk.symm

/-- The blocks cover the array. -/
theorem covered (i : S4160x2048.Idx) : ∃ t : Fin cfg0.N, (cfg0.win 2).flush t = true ∧ i ∈ ((cfg0.win 2).blk t).view.set := by
  have h0 : (i 0).val < 4160 := (i 0).isLt
  have h1 : (i 1).val < 2048 := (i 1).isLt
  have ht : (i 0).val / 208 < 20 := by omega
  obtain ⟨-, -, ⟨a0', a1⟩⟩ := where_tiles ⟨(i 0).val / 208, ht⟩
  have a0 : win0_2.index ⟨(i 0).val / 208, ht⟩ (0 : Fin 2) = (i 0).val / 208 := a0'
  refine ⟨⟨(i 0).val / 208, ht⟩, flushes _, ?_⟩
  show i ∈ ((View.whole main_v2).slice (win0_2.rect ⟨(i 0).val / 208, ht⟩)).set
  rw [View.set_slice_whole, Rect.mem_set_unit]
  intro a
  match a with
  | ⟨0, _⟩ =>
    show win0_2.index ⟨(i 0).val / 208, ht⟩ (0 : Fin 2) * 208 ≤ (i 0).val ∧ (i 0).val < win0_2.index ⟨(i 0).val / 208, ht⟩ (0 : Fin 2) * 208 + 208
    rw [a0]; omega
  | ⟨1, _⟩ =>
    show win0_2.index ⟨(i 0).val / 208, ht⟩ (1 : Fin 2) * 2048 ≤ (i 1).val ∧ (i 1).val < win0_2.index ⟨(i 0).val / 208, ht⟩ (1 : Fin 2) * 2048 + 2048
    rw [a1]; omega

/-- After the run the array holds the reference's rows. -/
theorem final (c : Dev nD) : (Gen.dats m 0 c).arrAt 2 cfg0.N = G m c :=
  (Gen.dats m 0 c).arrAt_eq_of_cover 2 _ (fun t _ => written m c t) covered

end Cert.RmsInIdeal.Equal

end
-- ==== Proof.RmsInClaim.lean ====
/- The value claim of the first norm. -/
module

public import proofs.«01_k».proof.Defs
public import proofs.«01_k».proof.Proof.RmsInValue

@[expose] public section

noncomputable section

namespace Cert.Proof.RmsIn

open Idealize.ShloMosaic Idealize.SL.Sem

/-- Kernel and reference end with the same normed rows. -/
theorem algebraic : Cert.algebraic_RmsInIdeal_RmsInRefIdeal := by
  intro m g m' g' _ h
  refine ⟨fun c => Cert.RmsInIdeal.Equal.G m c,
    (θ_run Cert.RmsInIdeal.defs _ _).mono (fun _ k c => ⟨(k c).1.trans (Cert.RmsInIdeal.Equal.final m c), (k c).2⟩)
      (Cert.RmsInIdeal.Value.run_blocks m g),
    (θ_run Cert.RmsInRefIdeal.defs _ _).mono (fun _ k c => ⟨(k c).1.trans ?_, (k c).2⟩) (Cert.RmsInRefIdeal.Value.run (F := Ideal) m' g')⟩
  rw [(h c).1, (h c).2.1, (h c).2.2]
  rfl

end Cert.Proof.RmsIn

end
-- ==== Proof.NormGrad.lean ====
/- The gradient of the norm of one row, the row's share of the gradient of the norm's weights, and the
   sums over the rows and columns of a block. -/
module

public import proofs.«01_k».proof.Proof.Norm
public import Idealize.ShloMosaic.Lib.KernelVsHost
public import Idealize.ShloMosaic.Lib.ValueLayoutCasts

@[expose] public section

noncomputable section

namespace Cert.Norm

open Idealize.ShloMosaic Idealize.ShloMosaic.ValueIdx

/-- A row's mean square, the small constant added. -/
def msq (row : Fin 2048 → EReal) : EReal :=
  Ideal.div (∑ k : Fin 2048, row k * row k) (Ideal.ofBits .f32 0x45000000#32) + Ideal.ofBits .f32 0x358637BD#32

/-- What reaches each entry of a row through its mean square, before the entry itself multiplies it. -/
def pull (row w du : Fin 2048 → EReal) : EReal :=
  Ideal.div ((∑ k : Fin 2048, row k * (du k * w k)) * (Ideal.ofBits .f32 0xBF000000#32 * Ideal.div (scale row) (msq row))) (Ideal.ofBits .f32 0x45000000#32)

/-- An entry of the gradient by a row: the gradient arriving beside the norm, plus the norm's own. -/
def grad (row w du : Fin 2048 → EReal) (dz : EReal) (k : Fin 2048) : EReal :=
  dz + du k * w k * scale row + row k * pull row w du + pull row w du * row k

/-- A row's share of the gradient by one weight. -/
def share (row du : Fin 2048 → EReal) (k : Fin 2048) : EReal := row k * scale row * du k

/-- A stacked row among the first 16 is a meta row. -/
theorem stack_mt (mt : (Mat 16 2048).Idx → EReal) (x : (Mat 4096 2048).Idx → EReal) (r : Fin 16) (k : Fin 2048) :
    stack mt x r.val k = mt (ValueIdx.ix2 r k) := by
  unfold stack
  rw [dif_pos r.isLt]

/-- A stacked row after the first 16 is a row of x. -/
theorem stack_x (mt : (Mat 16 2048).Idx → EReal) (x : (Mat 4096 2048).Idx → EReal) (r : Fin 4096) (k : Fin 2048) :
    stack mt x (16 + r.val) k = x (ValueIdx.ix2 r k) := by
  have hr := r.isLt
  unfold stack
  rw [dif_neg (by omega), dif_pos (by omega)]
  refine congrArg x (funext fun a => Fin.ext ?_)
  match a with
  | ⟨0, _⟩ => show 16 + r.val - 16 = r.val; omega
  | ⟨1, _⟩ => rfl

/-- The offset of an access of a whole matrix, written out, is the zero offset. -/
theorem off_zero : (![0, 0] : Fin 2 → Nat) = fun _ => 0 := funext (Fin.forall_fin_two.mpr ⟨rfl, rfl⟩)

section Sums

variable {R C : Nat}

/-- A column spread over a block's columns reads, at each, its entry of the same row. -/
theorem spread (v : (Mat R 1).Idx → EReal) (h : (Mat R 1).Broadcasts (Mat R C)) (r : Fin R) (k : Fin C) :
    broadcastTo (Mat R C) v h (ix2 r k) = v (ix2 r (0 : Fin 1)) := by
  refine broadcastTo_apply v _ (ix2 r k) (ix2 r (0 : Fin 1)) fun a => ?_
  match a with
  | ⟨0, _⟩ =>
    by_cases hR : R = 1
    · subst hR; exact (if_pos rfl).symm ▸ Nat.lt_one_iff.mp r.2
    · exact (if_neg hR).symm
  | ⟨1, _⟩ => rfl

/-- A sum over the columns of a block, as a column. -/
theorem col_sum (v : FVec Ideal (Mat R C) .f32) (h : (Mat R C).Reduces [1] ⟨1, ![R]⟩) (h' : (⟨1, ![R]⟩ : Shape).ShapeCasts (Mat R 1)) (r : Fin R) (u : Fin 1) :
    shapeCast (Mat R 1) (multiReduction (F := Ideal) .add [1] ⟨1, ![R]⟩ v 0x00000000#32 h (.inl rfl) rfl) h' (ix2 r u) = ∑ k : Fin C, v (ix2 r k) := by
  refine (shapeCast_a_a1_apply _ h' r u).trans ?_
  refine (Ideal.multiReduction_add_single (φ := .f32) v _ h (.inl rfl) rfl (ix1 r)).trans ?_
  refine Finset.sum_congr rfl fun k _ => congrArg v (funext fun a => ?_)
  match a with
  | ⟨0, _⟩ => rfl
  | ⟨1, _⟩ => rfl

/-- The sum over the one column of a column is the column. -/
theorem one_sum (v : FVec Ideal (Mat R 1) .f32) (h : (Mat R 1).Reduces [1] ⟨1, ![R]⟩) (h' : (⟨1, ![R]⟩ : Shape).ShapeCasts (Mat R 1)) (r : Fin R) (u : Fin 1) :
    shapeCast (Mat R 1) (multiReduction (F := Ideal) .add [1] ⟨1, ![R]⟩ v 0x00000000#32 h (.inl rfl) rfl) h' (ix2 r u) = v (ix2 r (0 : Fin 1)) :=
  (col_sum v h h' r u).trans (Fin.sum_univ_one _)

/-- A sum over the rows of a block, as a row. -/
theorem row_sum (v : FVec Ideal (Mat R C) .f32) (h : (Mat R C).Reduces [0] ⟨1, ![C]⟩) (h' : (⟨1, ![C]⟩ : Shape).ShapeCasts (Mat 1 C)) (k : Fin C) :
    shapeCast (Mat 1 C) (multiReduction (F := Ideal) .add [0] ⟨1, ![C]⟩ v 0x00000000#32 h (.inl rfl) rfl) h' (ix2 (0 : Fin 1) k) = ∑ r : Fin R, v (ix2 r k) := by
  refine (shapeCast_a_1a_apply _ h' 0 k).trans ?_
  refine (Ideal.multiReduction_add_single (φ := .f32) v _ h (.inl rfl) rfl (ix1 k)).trans ?_
  refine Finset.sum_congr rfl fun k _ => congrArg v (funext fun a => ?_)
  match a with
  | ⟨0, _⟩ => rfl
  | ⟨1, _⟩ => rfl

end Sums

end Cert.Norm

end
-- ==== Proof.RmsBwdValue.lean ====
/- The gradient of the first norm by the rows of x and by its weights: what one grid point computes, what the arrays hold after the run, and that they are the
   reference's. -/
module

public import proofs.«01_k».proof.Proof.NormGrad
public import proofs.«01_k».proof.Proof.Gap
public import proofs.«01_k».proof.Proof.Gen.RmsBwdIdeal.Value
public import proofs.«01_k».proof.Proof.Gen.RmsBwdRefIdeal.Read

@[expose] public section

noncomputable section

namespace Cert.RmsBwdIdeal.Equal

open Cert.RmsBwdIdeal Cert.RmsBwdIdeal.Gen Idealize.ShloMosaic Idealize.ShloMosaic.TcCoe Idealize.SL.Sem
open Idealize.ShloMosaic.ValueIdx
open Cert.RmsBwdRefIdeal.Read
open Cert.Norm (off_zero spread col_sum one_sum row_sum)

section AnyFloat
variable {F : FTy → Type} [FloatOps F]
variable (c : Dev nD) (i : grid0.Coords)
  (a1 : Memref sig .tc .vmem S256x2048 .f32) (h1 : a1.IsWhole) (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .f32) (h5 : a5.IsWhole) (a6 : Memref sig .tc .vmem S1x2048 .f32) (h6 : a6.IsWhole)
  (x0 : Vec F S256x2048 .f32) (x1 : Vec F S1x2048 .f32) (x2 x3 : Vec F S256x2048 .f32)

/-- The first grid point leaves as its block of rows the gradient by its rows. -/
theorem tile4_A (hc : cond0_0 i) :
    out0_A_4 c i a1 h1 a2 h2 a3 h3 a4 h4 a5 h5 a6 h6 hc x0 x1 x2 x3 = k0_pay7 x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  try sl_unfold_words
  rw [View.canon_cons_unit_zero (S := S256x2048) off_zero]
  simp only [View.readAt_eq_ld, h1.read_unread, h2.read_unread, h3.read_unread, h4.read_unread, h6.read_unread, View.ld_unit_zero (S := S256x2048) off_zero,
    View.ld_unit_zero (S := S1x2048) off_zero]

/-- The first grid point leaves as its row of weights its share, added to zeros. -/
theorem tile5_A (hc : cond0_0 i) :
    out0_A_5 c i a1 h1 a2 h2 a3 h3 a4 h4 a5 h5 a6 h6 hc x0 x1 x2 x3 = k0_pay2 (k0_pay6 x0 x2) (k0_pay1 (F := F)) := by
  unfold out0_A_5
  rw [View.read_writes_eq_canon _ _ _ (cover0_A_5 c i a1 h1 a2 h2 a3 h3 a4 h4 a5 h5 a6 h6 hc x0 x1 x2 x3)]
  unfold kernelRun0_A
  dsimp only
  try sl_unfold_words
  rw [View.canon_cons_unit_zero (S := S1x2048) off_zero, View.readCov_unit_zero (S := S1x2048) _ off_zero]
  simp only [View.readAt_eq_ld, h1.read_unread, h2.read_unread, h3.read_unread, h4.read_unread, h6.read_unread, View.ld_unit_zero (S := S256x2048) off_zero,
    View.ld_unit_zero (S := S1x2048) off_zero]

/-- A later grid point leaves as its block of rows the gradient by its rows. -/
theorem tile4_B (hc : ¬cond0_0 i) (xo5 : Vec F S1x2048 .f32) :
    out0_B_4 c i a1 h1 a2 h2 a3 h3 a4 h4 a5 h5 a6 h6 hc x0 x1 x2 x3 xo5 = k0_pay7 x0 x1 x2 x3 := by
  unfold out0_B_4
  rw [View.read_writes_eq_canon _ _ _ (cover0_B_4 c i a1 h1 a2 h2 a3 h3 a4 h4 a5 h5 a6 h6 hc x0 x1 x2 x3 xo5)]
  unfold kernelRun0_B
  dsimp only
  try sl_unfold_words
  rw [View.canon_cons_unit_zero (S := S256x2048) off_zero]
  simp only [View.readAt_eq_ld, h1.read_unread, h2.read_unread, h3.read_unread, h4.read_unread, h6.read_unread, View.ld_unit_zero (S := S256x2048) off_zero,
    View.ld_unit_zero (S := S1x2048) off_zero]

/-- A later grid point leaves as its row of weights its share, added to what the point before left. -/
theorem tile5_B (hc : ¬cond0_0 i) (xo5 : Vec F S1x2048 .f32) :
    out0_B_5 c i a1 h1 a2 h2 a3 h3 a4 h4 a5 h5 a6 h6 hc x0 x1 x2 x3 xo5 = k0_pay2 (k0_pay6 x0 x2) xo5 := by
  unfold out0_B_5
  rw [View.read_writes_eq_canon _ _ _ (cover0_B_5 c i a1 h1 a2 h2 a3 h3 a4 h4 a5 h5 a6 h6 hc x0 x1 x2 x3 xo5)]
  unfold kernelRun0_B
  dsimp only
  try sl_unfold_words
  rw [View.canon_cons_unit_zero (S := S1x2048) off_zero]
  simp only [View.readAt_eq_ld, h1.read_unread, h2.read_unread, h3.read_unread, h4.read_unread, h6.read_unread, View.ld_unit_zero (S := S256x2048) off_zero,
    View.ld_unit_zero (S := S1x2048) off_zero]

end AnyFloat

/-- Row `r` of a block. -/
abbrev row (x : Vec Ideal S256x2048 .f32) (r : Fin 256) : Fin 2048 → EReal := fun k => x (ix2 r k)

/-- The one row of weights. -/
abbrev wts (x : Vec Ideal S1x2048 .f32) : Fin 2048 → EReal := fun k => x (ix2 (0 : Fin 1) k)

/-- The column of the rows' mean squares. -/
theorem col_msq (x0 : Vec Ideal S256x2048 .f32) (r : Fin 256) (u : Fin 1) : k0_pay4 (F := Ideal) x0 (ix2 r u) = Norm.msq (row x0 r) := by
  unfold k0_pay4 k0_pay3
  rw [shapeCast_self]
  show Ideal.div (shapeCast S256x1 (multiReduction (F := Ideal) .add [1] S256 (mulf x0 x0) 0x00000000#32 reduces_S256x2048_S256 (.inl rfl) rfl) shapeCasts_S256_S256x1 (ix2 r u)) _ + _ = _
  rw [col_sum]
  rfl

/-- The column of the rows' scales. -/
theorem col_scale (x0 : Vec Ideal S256x2048 .f32) (r : Fin 256) (u : Fin 1) : k0_pay5 (F := Ideal) x0 (ix2 r u) = Norm.scale (row x0 r) := by
  unfold k0_pay5
  show Ideal.rsqrt (k0_pay4 (F := Ideal) x0 (ix2 r u)) = _
  rw [col_msq]
  rfl

/-- The block's share of the gradient by the weights. -/
theorem block_share (x0 x2 : Vec Ideal S256x2048 .f32) (k : Fin 2048) :
    k0_pay6 (F := Ideal) x0 x2 (ix2 (0 : Fin 1) k) = ∑ r : Fin 256, Norm.share (row x0 r) (row x2 r) k := by
  unfold k0_pay6 k0_pay3
  rw [shapeCast_self]
  refine (row_sum _ _ _ k).trans (Finset.sum_congr rfl fun r _ => ?_)
  show x0 (ix2 r k) * broadcastTo S256x2048 (k0_pay5 (F := Ideal) x0) broadcasts_S256x1_S256x2048 (ix2 r k) * x2 (ix2 r k) = _
  rw [spread, col_scale]
  rfl

/-- The block of the gradient by the rows. -/
theorem block_grad (x0 : Vec Ideal S256x2048 .f32) (x1 : Vec Ideal S1x2048 .f32) (x2 x3 : Vec Ideal S256x2048 .f32) (r : Fin 256) (k : Fin 2048) :
    k0_pay7 (F := Ideal) x0 x1 x2 x3 (ix2 r k) = Norm.grad (row x0 r) (wts x1) (row x2 r) (x3 (ix2 r k)) k := by
  have hw : ∀ k : Fin 2048, broadcastTo S256x2048 x1 broadcasts_S1x2048_S256x2048 (ix2 r k) = wts x1 k :=
    fun k => broadcastTo_1b_ab_apply x1 broadcasts_S1x2048_S256x2048 r k
  unfold k0_pay7 k0_pay3
  rw [shapeCast_self]
  simp only [addf, mulf, spread, one_sum, col_scale]
  have hp : ∀ a b : EReal, a = b → (x3 (ix2 r k) + x2 (ix2 r k) * broadcastTo S256x2048 x1 broadcasts_S1x2048_S256x2048 (ix2 r k) * Norm.scale (row x0 r) + x0 (ix2 r k) * a + a * x0 (ix2 r k) : EReal)
      = x3 (ix2 r k) + x2 (ix2 r k) * wts x1 k * Norm.scale (row x0 r) + x0 (ix2 r k) * b + b * x0 (ix2 r k) := fun a b e => by rw [e, hw]
  refine hp _ (Norm.pull (row x0 r) (wts x1) (row x2 r)) ?_
  refine (one_sum _ _ _ r 0).trans ?_
  show Ideal.div (shapeCast S256x1 (multiReduction (F := Ideal) .add [1] S256 (mulf x0 (mulf x2 (broadcastTo S256x2048 x1 broadcasts_S1x2048_S256x2048))) 0x00000000#32 reduces_S256x2048_S256 (.inl rfl) rfl) shapeCasts_S256_S256x1 (ix2 r (0 : Fin 1))
    * (Ideal.ofBits .f32 0xBF000000#32 * Ideal.div (k0_pay5 (F := Ideal) x0 (ix2 r (0 : Fin 1))) (k0_pay4 (F := Ideal) x0 (ix2 r (0 : Fin 1))))) (Ideal.ofBits .f32 0x45000000#32) = _
  rw [col_sum, col_scale, col_msq]
  unfold Norm.pull
  refine congrArg (fun s => Ideal.div (s * _) _) (Finset.sum_congr rfl fun k _ => ?_)
  show x0 (ix2 r k) * (x2 (ix2 r k) * broadcastTo S256x2048 x1 broadcasts_S1x2048_S256x2048 (ix2 r k)) = _
  rw [hw]

/-- Row `r` of the part of a longer array the reference takes. -/
abbrev part (x : Vec Ideal S4160x2048 .f32) (r : Fin 4096) : Fin 2048 → EReal := fun k => x (ix2 (⟨16 + r.val, by omega⟩ : Fin 4160) k)

/-- Row `r` of the reference's rows. -/
abbrev whole (x : Vec Ideal S4096x2048 .f32) (r : Fin 4096) : Fin 2048 → EReal := fun k => x (ix2 r k)

/-- The reference's column of mean squares. -/
theorem ref_msq (x : Vec Ideal S4096x2048 .f32) (r : Fin 4096) (u : Fin 1) :
    val_main_v7 (F := Ideal) x (ix2 r u) = Norm.msq (whole x r) := by
  rw [val_main_v7_apply, val_main_v5_apply, val_main_v3_apply, val_main_v2_apply]
  have hz : val_main_cst (F := Ideal) (Shape.Idx.first Cert.RmsBwdRefIdeal.Gen.h_S_) = 0 := Ideal.ofBits_zero_f32
  rw [hz, zero_add]
  have hs : ∀ k : Fin 2048, val_main_v1 (F := Ideal) x (idx_main_v2 (idx_main_v3 (ix2 r u)) k) = whole x r k * whole x r k := fun k => by
    have hi : idx_main_v2 (idx_main_v3 (ix2 r u)) k = ix2 r k := by
      funext a
      match a with
      | ⟨0, _⟩ => rfl
      | ⟨1, _⟩ => rfl
    rw [val_main_v1_apply, hi]
    rfl
  simp only [hs]
  rfl

/-- The reference's column of scales. -/
theorem ref_scale (x : Vec Ideal S4096x2048 .f32) (r : Fin 4096) (u : Fin 1) :
    val_main_v8 (F := Ideal) x (ix2 r u) = Norm.scale (whole x r) := by
  rw [val_main_v8_apply, ref_msq]
  rfl

/-- The reference's weights, spread over the rows. -/
theorem ref_wts (w : Vec Ideal S1x2048 .f32) (r : Fin 4096) (k : Fin 2048) : val_main_v22 (F := Ideal) w (ix2 r k) = wts w k := by
  rw [val_main_v22_apply, val_main_v14_apply, val_main_v0_apply]
  refine congrArg w (funext fun a => ?_)
  match a with
  | ⟨0, _⟩ => rfl
  | ⟨1, _⟩ => exact Fin.ext (Nat.mod_eq_of_lt k.isLt)

/-- The reference takes the rows of the norm's incoming gradient. -/
theorem ref_du (d : Vec Ideal S4160x2048 .f32) (r : Fin 4096) (k : Fin 2048) : val_main_v17 (F := Ideal) d (ix2 r k) = part d r k := by
  rw [val_main_v17_apply]
  refine congrArg d (funext fun a => Fin.ext ?_)
  match a with
  | ⟨0, _⟩ => first | rfl | (show 16 + r.val = 16 + r.val; rfl) | (show 0 + r.val = r.val; omega)
  | ⟨1, _⟩ => first | rfl | (show 0 + k.val = k.val; omega)

/-- The reference takes the rows of the gradient arriving beside the norm. -/
theorem ref_dz (d : Vec Ideal S4160x2048 .f32) (r : Fin 4096) (k : Fin 2048) : val_main_v18 (F := Ideal) d (ix2 r k) = part d r k := by
  rw [val_main_v18_apply]
  refine congrArg d (funext fun a => Fin.ext ?_)
  match a with
  | ⟨0, _⟩ => first | rfl | (show 16 + r.val = 16 + r.val; rfl) | (show 0 + r.val = r.val; omega)
  | ⟨1, _⟩ => first | rfl | (show 0 + k.val = k.val; omega)

/-- What the reference sends back through the mean square. -/
theorem ref_pull (x : Vec Ideal S4096x2048 .f32) (w : Vec Ideal S1x2048 .f32) (d : Vec Ideal S4160x2048 .f32) (r : Fin 4096) (k : Fin 2048) :
    val_main_v35 (F := Ideal) x w d (ix2 r k) = Norm.pull (whole x r) (wts w) (part d r) := by
  rw [val_main_v35_apply, val_main_v34_apply]
  have hz : val_main_cst_7 (F := Ideal) (Shape.Idx.first Cert.RmsBwdRefIdeal.Gen.h_S_) = 0 := Ideal.ofBits_zero_f32
  have hz' : val_main_cst_5 (F := Ideal) (Shape.Idx.first Cert.RmsBwdRefIdeal.Gen.h_S_) = 0 := Ideal.ofBits_zero_f32
  rw [hz, zero_add, Fin.sum_univ_one]
  have hi : idx_main_v34 (idx_main_v35 (ix2 r k)) 0 = ix2 r (0 : Fin 1) := by
    funext a
    match a with
    | ⟨0, _⟩ => rfl
    | ⟨1, _⟩ => rfl
  rw [hi, val_main_v33_apply, val_main_v31_apply, val_main_v27_apply, val_main_v26_apply, val_main_v11_apply,
    val_main_v9_apply, ref_scale, ref_msq, hz', zero_add]
  have hs : ∀ j : Fin 2048, val_main_v25 (F := Ideal) x w d (idx_main_v26 (idx_main_v27 (ix2 r (0 : Fin 1))) j)
      = whole x r j * (part d r j * wts w j) := fun j => by
    have hj : idx_main_v26 (idx_main_v27 (ix2 r (0 : Fin 1))) j = ix2 r j := by
      funext a
      match a with
      | ⟨0, _⟩ => exact Fin.ext (by show r.val * 1 + 0 = r.val; omega)
      | ⟨1, _⟩ => rfl
    rw [val_main_v25_apply, val_main_v23_apply, hj, ref_wts, ref_du]
    rfl
  simp only [hs]
  rfl

/-- An entry of the reference's gradient by the rows. -/
theorem ref_grad (x : Vec Ideal S4096x2048 .f32) (w : Vec Ideal S1x2048 .f32) (d z : Vec Ideal S4160x2048 .f32) (r : Fin 4096) (k : Fin 2048) :
    val_main_v39 (F := Ideal) x w d z (ix2 r k) = Norm.grad (whole x r) (wts w) (part d r) (part z r k) k := by
  have hi : idx_main_v28 (ix2 r k) = ix2 r (0 : Fin 1) := by
    funext a
    match a with
    | ⟨0, _⟩ => rfl
    | ⟨1, _⟩ => rfl
  rw [val_main_v39_apply, val_main_v37_apply, val_main_v38_apply, val_main_v36_apply, val_main_v30_apply, val_main_v29_apply,
    val_main_v23_apply, val_main_v28_apply, hi, ref_scale, ref_pull, ref_wts, ref_du, ref_dz]
  rfl

/-- An entry of the reference's gradient by the weights. -/
theorem ref_share (x : Vec Ideal S4096x2048 .f32) (d : Vec Ideal S4160x2048 .f32) (k : Fin 2048) :
    val_main_v40 (F := Ideal) x d (ix2 (0 : Fin 1) k) = ∑ r : Fin 4096, Norm.share (whole x r) (part d r) k := by
  have hz : val_main_cst_4 (F := Ideal) (Shape.Idx.first Cert.RmsBwdRefIdeal.Gen.h_S_) = 0 := Ideal.ofBits_zero_f32
  have hz' : val_main_cst_3 (F := Ideal) (Shape.Idx.first Cert.RmsBwdRefIdeal.Gen.h_S_) = 0 := Ideal.ofBits_zero_f32
  rw [val_main_v40_apply, val_main_v24_apply, hz, zero_add, Fin.sum_univ_one, val_main_v21_apply, val_main_v20_apply, hz', zero_add]
  refine Finset.sum_congr rfl fun r _ => ?_
  have hr : idx_main_v20 (idx_main_v21 (idx_main_v24 (idx_main_v40 (ix2 (0 : Fin 1) k)) 0)) r = ix2 r k := by
    funext a
    match a with
    | ⟨0, _⟩ => rfl
    | ⟨1, _⟩ => exact Fin.ext (by show 0 * 2048 + k.val = k.val; omega)
  have hi : idx_main_v12 (ix2 r k) = ix2 r (0 : Fin 1) := by
    funext a
    match a with
    | ⟨0, _⟩ => rfl
    | ⟨1, _⟩ => rfl
  rw [hr, val_main_v19_apply, val_main_v13_apply, val_main_v12_apply, hi, ref_scale, ref_du]
  rfl

variable (m : (ℓ : Loc nD τ sig) → Buf (Elt Ideal) ℓ)

/-- The rows reach the grid stacked. -/
theorem rows (c : Dev nD) (j : S4160x2048.Idx) : V m c main_v1 j
    = Norm.stack (m ((c : Thread nD τ).loc main_arg0)) (m ((c : Thread nD τ).loc main_arg1)) (j 0).val ⟨(j 1).val, (j 1).isLt⟩ := by
  have e : V m c main_v1 = concatenate S4160x2048 0 [⟨S16x2048, m ((c : Thread nD τ).loc main_arg0)⟩, ⟨S4096x2048, m ((c : Thread nD τ).loc main_arg1)⟩,
      ⟨S48x2048, broadcastInDim S48x2048 ![] bcast_S_S48x2048 (constant (F := Ideal) S_ .f32 0x00000000#32)⟩] concatenates_S16x2048_S4096x2048_S48x2048_S4160x2048_d0 := by
    show StableHlo.after hostOps0 (fun b => m (c, b)) main_v1 = _
    after_results
    refine Products.concat3 (V_main_arg0 m c) (V_main_arg1 m c) ?_ _
    show StableHlo.after hostOps0 (fun b => m (c, b)) main_v0 = _
    after_results
  rw [e]
  exact Norm.concat_three _ _ _ (fun _ => Ideal.ofBits_zero_f32) _ j

/-- Where the windows of a grid point lie. -/
theorem where_tiles : ∀ t : Fin cfg0.N, (win0_0.index t (0 : Fin 2) = 16 + t.val * 256 ∧ win0_0.index t (1 : Fin 2) = 0)
    ∧ (win0_1.index t (0 : Fin 2) = 0 ∧ win0_1.index t (1 : Fin 2) = 0)
    ∧ (win0_2.index t (0 : Fin 2) = 16 + t.val * 256 ∧ win0_2.index t (1 : Fin 2) = 0)
    ∧ (win0_3.index t (0 : Fin 2) = 16 + t.val * 256 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

/-- Every grid point writes its block of rows back. -/
theorem flushes : ∀ t : Fin cfg0.N, (cfg0.win 4).flush t = true :=
  (by decide +kernel : ∀ t : Fin grid0.N, win0_4.flush t = true)

/-- The row of the reference a grid point's row is. -/
abbrev at_row (t : Fin cfg0.N) (r : Fin 256) : Fin 4096 := ⟨t.val * 256 + r.val, by have : t.val < 16 := t.isLt; omega⟩

/-- A grid point's rows. -/
theorem in_rows (c : Dev nD) (t : Fin cfg0.N) (r : Fin 256) : row (iblk m c 0 t) r = whole (m ((c : Thread nD τ).loc main_arg1)) (at_row t r) := by
  obtain ⟨⟨a0, a1⟩, -, -, -, -, -⟩ := where_tiles t
  funext k
  show iblk m c 0 t (ix2 r k) = _
  unfold iblk
  rw [View.read_apply]
  show V m c main_v1 _ = _
  rw [rows]
  refine Eq.trans ?_ (Norm.stack_x (m ((c : Thread nD τ).loc main_arg0)) (m ((c : Thread nD τ).loc main_arg1)) (at_row t r) k)
  refine congrArg₂ (Norm.stack _ _) ?_ (Fin.ext ?_)
  · show win0_0.index t (0 : Fin 2) + 1 * r.val = 16 + (t.val * 256 + r.val)
    rw [a0]; omega
  · show win0_0.index t (1 : Fin 2) + 1 * k.val = k.val
    rw [a1]; omega

/-- A grid point's weights. -/
theorem in_wts (c : Dev nD) (t : Fin cfg0.N) : wts (iblk m c 1 t) = wts (m ((c : Thread nD τ).loc main_arg2)) := by
  obtain ⟨-, ⟨b0, b1⟩, -, -, -, -⟩ := where_tiles t
  funext k
  show iblk m c 1 t (ix2 (0 : Fin 1) k) = _
  unfold iblk
  rw [View.read_apply]
  show V m c main_arg2 _ = _
  rw [V_main_arg2]
  refine congrArg _ (funext fun a => Fin.ext ?_)
  match a with
  | ⟨0, _⟩ => show win0_1.index t (0 : Fin 2) * 1 + 1 * 0 = 0; rw [b0]
  | ⟨1, _⟩ => show win0_1.index t (1 : Fin 2) * 2048 + 1 * k.val = k.val; rw [b1]; omega

/-- A grid point's rows of the norm's incoming gradient. -/
theorem in_du (c : Dev nD) (t : Fin cfg0.N) (r : Fin 256) : row (iblk m c 2 t) r = part (m ((c : Thread nD τ).loc main_arg3)) (at_row t r) := by
  obtain ⟨-, -, ⟨a0, a1⟩, -, -, -⟩ := where_tiles t
  funext k
  show iblk m c 2 t (ix2 r k) = _
  unfold iblk
  rw [View.read_apply]
  show V m c main_arg3 _ = _
  rw [V_main_arg3]
  refine congrArg _ (funext fun a => Fin.ext ?_)
  match a with
  | ⟨0, _⟩ => show win0_2.index t (0 : Fin 2) + 1 * r.val = 16 + (t.val * 256 + r.val); rw [a0]; omega
  | ⟨1, _⟩ => show win0_2.index t (1 : Fin 2) + 1 * k.val = k.val; rw [a1]; omega

/-- A grid point's rows of the gradient arriving beside the norm. -/
theorem in_dz (c : Dev nD) (t : Fin cfg0.N) (r : Fin 256) (k : Fin 2048) :
    iblk m c 3 t (ix2 r k) = part (m ((c : Thread nD τ).loc main_arg4)) (at_row t r) k := by
  obtain ⟨-, -, -, ⟨a0, a1⟩, -, -⟩ := where_tiles t
  unfold iblk
  rw [View.read_apply]
  show V m c main_arg4 _ = _
  rw [V_main_arg4]
  refine congrArg _ (funext fun a => Fin.ext ?_)
  match a with
  | ⟨0, _⟩ => show win0_3.index t (0 : Fin 2) + 1 * r.val = 16 + (t.val * 256 + r.val); rw [a0]; omega
  | ⟨1, _⟩ => show win0_3.index t (1 : Fin 2) + 1 * k.val = k.val; rw [a1]; omega

/-- What the array of gradients by the rows is to hold: the reference's. -/
abbrev G (c : Dev nD) : Vec Ideal S4096x2048 .f32 := val_main_v39 (F := Ideal) (m ((c : Thread nD τ).loc main_arg1))
  (m ((c : Thread nD τ).loc main_arg2)) (m ((c : Thread nD τ).loc main_arg3)) (m ((c : Thread nD τ).loc main_arg4))

/-- What the array of the gradient by the weights is to hold: the reference's. -/
abbrev W (c : Dev nD) : Vec Ideal S1x2048 .f32 := val_main_v40 (F := Ideal) (m ((c : Thread nD τ).loc main_arg1))
  (m ((c : Thread nD τ).loc main_arg3))

/-- What a grid point leaves as its block of rows. -/
theorem point (c : Dev nD) (t : Fin cfg0.N) : (Gen.dats m 0 c).flushed 4 t
    = (cfg0.win 4).cut (grid0.coords t) (k0_pay7 (F := Ideal) (iblk m c 0 t) (iblk m c 1 t) (iblk m c 2 t) (iblk m c 3 t)) := by
  by_cases h : t.val % 16 = 0
  · rw [Value.flushed4_A m c t h, tile4_A]
  · rw [Value.flushed4_B m c t h, tile4_B]

/-- A grid point writes its block of the reference's gradient by the rows. -/
theorem written (c : Dev nD) (t : Fin cfg0.N) :
    (Gen.dats m 0 c).flushed 4 t = ((cfg0.win 4).blk t).view.read (Elt Ideal) (G m c) := by
  rw [point]
  obtain ⟨-, -, -, -, ⟨c0, c1⟩, -⟩ := where_tiles t
  funext y
  have hy : ((cfg0.win 4).blk t).view.emb y = ix2 (at_row t ⟨(y 0).val, (y 0).isLt⟩) (⟨(y 1).val, (y 1).isLt⟩ : Fin 2048) := by
    funext a
    refine Fin.ext ?_
    match a with
    | ⟨0, _⟩ => show win0_4.index t (0 : Fin 2) * 256 + 1 * (y 0).val = t.val * 256 + (y 0).val; rw [c0]; omega
    | ⟨1, _⟩ => show win0_4.index t (1 : Fin 2) * 2048 + 1 * (y 1).val = (y 1).val; rw [c1]; omega
  show k0_pay7 (F := Ideal) (iblk m c 0 t) (iblk m c 1 t) (iblk m c 2 t) (iblk m c 3 t) ((cfg0.win 4).xinj (grid0.coords t) y) = G m c (((cfg0.win 4).blk t).view.emb y)
  have hx : (cfg0.win 4).xinj (grid0.coords t) y = ix2 (⟨(y 0).val, (y 0).isLt⟩ : Fin 256) (⟨(y 1).val, (y 1).isLt⟩ : Fin 2048) := by
    funext a
    match a with
    | ⟨0, _⟩ => rfl
    | ⟨1, _⟩ => rfl
  rw [hx, hy]
  unfold G
  rw [block_grad, ref_grad, in_rows, in_wts, in_du, in_dz]

/-- The blocks cover the array. -/
theorem covered (i : S4096x2048.Idx) : ∃ t : Fin cfg0.N, (cfg0.win 4).flush t = true ∧ i ∈ ((cfg0.win 4).blk t).view.set := by
  have h0 : (i 0).val < 4096 := (i 0).isLt
  have h1 : (i 1).val < 2048 := (i 1).isLt
  have ht : (i 0).val / 256 < 16 := by omega
  obtain ⟨-, -, -, -, ⟨a0', a1⟩, -⟩ := where_tiles ⟨(i 0).val / 256, ht⟩
  have a0 : win0_4.index ⟨(i 0).val / 256, ht⟩ (0 : Fin 2) = (i 0).val / 256 := a0'
  refine ⟨⟨(i 0).val / 256, ht⟩, flushes _, ?_⟩
  show i ∈ ((View.whole main_v2_0).slice (win0_4.rect ⟨(i 0).val / 256, ht⟩)).set
  rw [View.set_slice_whole, Rect.mem_set_unit]
  intro a
  match a with
  | ⟨0, _⟩ =>
    show win0_4.index ⟨(i 0).val / 256, ht⟩ (0 : Fin 2) * 256 ≤ (i 0).val ∧ (i 0).val < win0_4.index ⟨(i 0).val / 256, ht⟩ (0 : Fin 2) * 256 + 256
    rw [a0]; omega
  | ⟨1, _⟩ =>
    show win0_4.index ⟨(i 0).val / 256, ht⟩ (1 : Fin 2) * 2048 ≤ (i 1).val ∧ (i 1).val < win0_4.index ⟨(i 0).val / 256, ht⟩ (1 : Fin 2) * 2048 + 2048
    rw [a1]; omega

/-- After the run the array of gradients by the rows is the reference's. -/
theorem final (c : Dev nD) : (Gen.dats m 0 c).arrAt 4 cfg0.N = G m c :=
  (Gen.dats m 0 c).arrAt_eq_of_cover 4 _ (fun t _ => written m c t) covered

/-- A grid point's share of the gradient by the weights. -/
theorem point_share (c : Dev nD) (t : Fin cfg0.N) (k : Fin 2048) : k0_pay6 (F := Ideal) (iblk m c 0 t) (iblk m c 2 t) (ix2 (0 : Fin 1) k)
    = ∑ r : Fin 256, Norm.share (whole (m ((c : Thread nD τ).loc main_arg1)) (at_row t r)) (part (m ((c : Thread nD τ).loc main_arg3)) (at_row t r)) k := by
  rw [block_share]
  refine Finset.sum_congr rfl fun r _ => ?_
  rw [in_rows, in_du]

/-- Row `r`'s share of the gradient by the weights, zero past the last row. -/
def sh (c : Dev nD) (k : Fin 2048) (r : Nat) : EReal :=
  if h : r < 4096 then Norm.share (whole (m ((c : Thread nD τ).loc main_arg1)) ⟨r, h⟩) (part (m ((c : Thread nD τ).loc main_arg3)) ⟨r, h⟩) k else 0

/-- What the block of the gradient by the weights holds after a grid point: the shares of the rows so far. -/
theorem so_far (c : Dev nD) (k : Fin 2048) : ∀ (n : Nat) (hn : n < cfg0.N),
    (outsAt0 m c n hn).2 (ix2 (0 : Fin 1) k) = ∑ r ∈ Finset.range ((n + 1) * 256), sh m c k r := by
  have step : ∀ (n : Nat) (hn : n < cfg0.N), k0_pay6 (F := Ideal) (iblk m c 0 ⟨n, hn⟩) (iblk m c 2 ⟨n, hn⟩) (ix2 (0 : Fin 1) k)
      = ∑ r ∈ Finset.range 256, sh m c k (n * 256 + r) := fun n hn => by
    have hn' : n < 16 := hn
    rw [point_share, Finset.sum_range]
    refine Finset.sum_congr rfl fun r _ => ?_
    have hr : n * 256 + r.val < 4096 := by omega
    unfold sh
    rw [dif_pos hr]
  have more : ∀ n : Nat, ∑ r ∈ Finset.range ((n + 1) * 256), sh m c k r
      = ∑ r ∈ Finset.range (n * 256), sh m c k r + ∑ r ∈ Finset.range 256, sh m c k (n * 256 + r) := fun n => by
    rw [show (n + 1) * 256 = n * 256 + 256 by omega, Finset.sum_range_add]
  intro n
  induction n with
  | zero =>
    intro hn
    rw [outsAt0_A m c ⟨0, hn⟩ rfl]
    dsimp only
    rw [tile5_A]
    unfold k0_pay2 k0_pay1
    rw [shapeCast_self]
    show Ideal.ofBits .f32 0x00000000#32 + k0_pay6 (F := Ideal) (iblk m c 0 ⟨0, hn⟩) (iblk m c 2 ⟨0, hn⟩) (ix2 (0 : Fin 1) k) = _
    rw [Ideal.ofBits_zero_f32, step, more, Nat.zero_mul, Finset.range_zero, Finset.sum_empty]
  | succ n ih =>
    intro hn
    have hn' : n + 1 < 16 := hn
    rw [outsAt0_B m c ⟨n + 1, hn⟩ (by show ¬(n + 1) % 16 = 0; omega)]
    dsimp only
    rw [tile5_B]
    unfold k0_pay2
    rw [shapeCast_self]
    show (outsAt0 m c n _).2 (ix2 (0 : Fin 1) k) + k0_pay6 (F := Ideal) (iblk m c 0 ⟨n + 1, hn⟩) (iblk m c 2 ⟨n + 1, hn⟩) (ix2 (0 : Fin 1) k) = _
    rw [ih, step, more (n + 1)]

/-- Only the last grid point writes the block of the gradient by the weights back. -/
theorem only_last : ∀ t : Fin cfg0.N, (cfg0.win 5).flush t = true → t.val = 15 :=
  (by decide +kernel : ∀ t : Fin grid0.N, win0_5.flush t = true → t.val = 15)

/-- After the last grid point the one block of the gradient by the weights is the reference's. -/
theorem written_w (c : Dev nD) (t : Fin cfg0.N) (hf : (cfg0.win 5).flush t = true) :
    (Gen.dats m 0 c).flushed 5 t = ((cfg0.win 5).blk t).view.read (Elt Ideal) (W m c) := by
  have hl := only_last t hf
  rw [Value.flushed5]
  obtain ⟨-, -, -, -, -, ⟨d0, d1⟩⟩ := where_tiles t
  funext y
  have h0 : (y 0).val < 1 := (y 0).isLt
  have hy : ((cfg0.win 5).blk t).view.emb y = ix2 (0 : Fin 1) (⟨(y 1).val, (y 1).isLt⟩ : Fin 2048) := by
    funext a
    refine Fin.ext ?_
    match a with
    | ⟨0, _⟩ => show win0_5.index t (0 : Fin 2) * 1 + 1 * (y 0).val = 0; rw [d0]; omega
    | ⟨1, _⟩ => show win0_5.index t (1 : Fin 2) * 2048 + 1 * (y 1).val = (y 1).val; rw [d1]; omega
  show (outsAt0 m c t.val t.isLt).2 ((cfg0.win 5).xinj (grid0.coords t) y) = W m c (((cfg0.win 5).blk t).view.emb y)
  have hx : (cfg0.win 5).xinj (grid0.coords t) y = ix2 (0 : Fin 1) (⟨(y 1).val, (y 1).isLt⟩ : Fin 2048) := by
    funext a
    refine Fin.ext ?_
    match a with
    | ⟨0, _⟩ => show (y 0).val = 0; omega
    | ⟨1, _⟩ => rfl
  rw [hx, hy]
  unfold W
  rw [ref_share]
  rw [so_far, hl, Finset.sum_range]
  refine Finset.sum_congr rfl fun r _ => ?_
  unfold sh
  rw [dif_pos (show r.val < 4096 from r.isLt)]

/-- The last grid point writes the one block back. -/
theorem some_last : ∃ t : Fin cfg0.N, (cfg0.win 5).flush t = true :=
  (by decide +kernel : ∃ t : Fin grid0.N, win0_5.flush t = true)

/-- The one block is the array. -/
theorem covered_w (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  obtain ⟨t, ht⟩ := some_last
  obtain ⟨-, -, -, -, -, ⟨d0, d1⟩⟩ := where_tiles t
  refine ⟨t, ht, ?_⟩
  show i ∈ ((View.whole main_v2_1).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; rw [d0]; omega
  | ⟨1, _⟩ => show win0_5.index t (1 : Fin 2) * 2048 ≤ (i 1).val ∧ (i 1).val < win0_5.index t (1 : Fin 2) * 2048 + 2048; rw [d1]; omega

/-- After the run the array of the gradient by the weights is the reference's. -/
theorem final_w (c : Dev nD) : (Gen.dats m 0 c).arrAt 5 cfg0.N = W m c :=
  (Gen.dats m 0 c).arrAt_eq_of_cover 5 _ (fun t hf => written_w m c t hf) covered_w

end Cert.RmsBwdIdeal.Equal

end
-- ==== Proof.RmsBwdClaim.lean ====
/- The value claim of the gradient of the first norm by the rows of x and by its weights. -/
module

public import proofs.«01_k».proof.Defs
public import proofs.«01_k».proof.Proof.RmsBwdValue

@[expose] public section

noncomputable section

namespace Cert.Proof.RmsBwd

open Idealize.ShloMosaic Idealize.SL.Sem

/-- The reference's run, its two results read by the operation that writes each. -/
theorem ref_run (m : (ℓ : Loc Cert.RmsBwdRefIdeal.nD Cert.RmsBwdRefIdeal.τ Cert.RmsBwdRefIdeal.sig) → Buf (Elt Ideal) ℓ)
    (g : Dev Cert.RmsBwdRefIdeal.nD → PrngReg) :
    θ_run (Cert.RmsBwdRefIdeal.defs (F := Ideal)) (onTc (τ := Cert.RmsBwdRefIdeal.τ) (Cert.RmsBwdRefIdeal.main (F := Ideal))) ⟨m, fun _ => 0, g⟩
      fun r => ∀ c : Dev Cert.RmsBwdRefIdeal.nD,
      r.2.mem ((c.tc : Thread Cert.RmsBwdRefIdeal.nD Cert.RmsBwdRefIdeal.τ).loc Cert.RmsBwdRefIdeal.main_v39) = Cert.RmsBwdRefIdeal.Read.val_main_v39 (F := Ideal) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3)) (m ((c.tc : Thread Cert.RmsBwdRefIdeal.nD Cert.RmsBwdRefIdeal.τ).loc Cert.RmsBwdRefIdeal.main_arg4))
      ∧ r.2.mem ((c.tc : Thread Cert.RmsBwdRefIdeal.nD Cert.RmsBwdRefIdeal.τ).loc Cert.RmsBwdRefIdeal.main_v40) = Cert.RmsBwdRefIdeal.Read.val_main_v40 (F := Ideal) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg3))
      ∧ r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3)
      ∧ r.2.mem ((c.tc : Thread Cert.RmsBwdRefIdeal.nD Cert.RmsBwdRefIdeal.τ).loc Cert.RmsBwdRefIdeal.main_arg4) = m ((c.tc : Thread Cert.RmsBwdRefIdeal.nD Cert.RmsBwdRefIdeal.τ).loc Cert.RmsBwdRefIdeal.main_arg4) :=
  (θ_run Cert.RmsBwdRefIdeal.defs _ _).mono (fun _ h c => ⟨(h c).1.trans (Cert.RmsBwdRefIdeal.Read.val_main_v39_eq m c), (h c).2.1.trans rfl, (h c).2.2⟩)
    (Cert.RmsBwdRefIdeal.Value.run (F := Ideal) m g)

/-- Kernel and reference end with the same two gradients. -/
theorem algebraic : Cert.algebraic_RmsBwdIdeal_RmsBwdRefIdeal := by
  intro m g m' g' _ h
  refine ⟨fun c => Cert.RmsBwdIdeal.Equal.G m c, fun c => Cert.RmsBwdIdeal.Equal.W m c,
    (θ_run Cert.RmsBwdIdeal.defs _ _).mono (fun _ k c => ⟨(k c).1.trans (Cert.RmsBwdIdeal.Equal.final m c),
      (k c).2.1.trans (Cert.RmsBwdIdeal.Equal.final_w m c), (k c).2.2⟩) (Cert.RmsBwdIdeal.Value.run_blocks m g),
    (θ_run Cert.RmsBwdRefIdeal.defs _ _).mono (fun _ k c => ⟨(k c).1.trans ?_, (k c).2.1.trans ?_, (k c).2.2⟩) (ref_run m' g')⟩
  · rw [(h c).2.1, (h c).2.2.1, (h c).2.2.2.1, (h c).2.2.2.2]
  · rw [(h c).2.1, (h c).2.2.2.1]

end Cert.Proof.RmsBwd

end
-- ==== Proof.MetaBwdValue.lean ====
/- The gradient of the first norm by the meta rows and by its weights: what one grid point computes, what the arrays hold after the run, and that they are the
   reference's. -/
module

public import proofs.«01_k».proof.Proof.NormGrad
public import proofs.«01_k».proof.Proof.Gap
public import proofs.«01_k».proof.Proof.Gen.MetaBwdIdeal.Value
public import proofs.«01_k».proof.Proof.Gen.MetaBwdRefIdeal.Read

@[expose] public section

noncomputable section

namespace Cert.MetaBwdIdeal.Equal

open Cert.MetaBwdIdeal Cert.MetaBwdIdeal.Gen Idealize.ShloMosaic Idealize.ShloMosaic.TcCoe Idealize.SL.Sem
open Idealize.ShloMosaic.ValueIdx
open Cert.MetaBwdRefIdeal.Read
open Cert.Norm (off_zero spread col_sum one_sum row_sum)

section AnyFloat
variable {F : FTy → Type} [FloatOps F]
variable (c : Dev nD) (i : grid0.Coords)
  (a1 : Memref sig .tc .vmem S16x2048 .f32) (h1 : a1.IsWhole) (a2 : Memref sig .tc .vmem S1x2048 .f32) (h2 : a2.IsWhole) (a3 : Memref sig .tc .vmem S16x2048 .f32) (h3 : a3.IsWhole)
  (a4 : Memref sig .tc .vmem S16x2048 .f32) (h4 : a4.IsWhole) (a5 : Memref sig .tc .vmem S16x2048 .f32) (h5 : a5.IsWhole) (a6 : Memref sig .tc .vmem S1x2048 .f32) (h6 : a6.IsWhole)
  (x0 : Vec F S16x2048 .f32) (x1 : Vec F S1x2048 .f32) (x2 x3 : Vec F S16x2048 .f32)

/-- The first grid point leaves as its block of rows the gradient by its rows. -/
theorem tile4_A (hc : cond0_0 i) :
    out0_A_4 c i a1 h1 a2 h2 a3 h3 a4 h4 a5 h5 a6 h6 hc x0 x1 x2 x3 = k0_pay7 x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  try sl_unfold_words
  rw [View.canon_cons_unit_zero (S := S16x2048) off_zero]
  simp only [View.readAt_eq_ld, h1.read_unread, h2.read_unread, h3.read_unread, h4.read_unread, h6.read_unread, View.ld_unit_zero (S := S16x2048) off_zero,
    View.ld_unit_zero (S := S1x2048) off_zero]

/-- The first grid point leaves as its row of weights its share, added to zeros. -/
theorem tile5_A (hc : cond0_0 i) :
    out0_A_5 c i a1 h1 a2 h2 a3 h3 a4 h4 a5 h5 a6 h6 hc x0 x1 x2 x3 = k0_pay2 (k0_pay6 x0 x2) (k0_pay1 (F := F)) := by
  unfold out0_A_5
  rw [View.read_writes_eq_canon _ _ _ (cover0_A_5 c i a1 h1 a2 h2 a3 h3 a4 h4 a5 h5 a6 h6 hc x0 x1 x2 x3)]
  unfold kernelRun0_A
  dsimp only
  try sl_unfold_words
  rw [View.canon_cons_unit_zero (S := S1x2048) off_zero, View.readCov_unit_zero (S := S1x2048) _ off_zero]
  simp only [View.readAt_eq_ld, h1.read_unread, h2.read_unread, h3.read_unread, h4.read_unread, h6.read_unread, View.ld_unit_zero (S := S16x2048) off_zero,
    View.ld_unit_zero (S := S1x2048) off_zero]

end AnyFloat

/-- Row `r` of a block. -/
abbrev row (x : Vec Ideal S16x2048 .f32) (r : Fin 16) : Fin 2048 → EReal := fun k => x (ix2 r k)

/-- The one row of weights. -/
abbrev wts (x : Vec Ideal S1x2048 .f32) : Fin 2048 → EReal := fun k => x (ix2 (0 : Fin 1) k)

/-- The column of the rows' mean squares. -/
theorem col_msq (x0 : Vec Ideal S16x2048 .f32) (r : Fin 16) (u : Fin 1) : k0_pay4 (F := Ideal) x0 (ix2 r u) = Norm.msq (row x0 r) := by
  unfold k0_pay4 k0_pay3
  rw [shapeCast_self]
  show Ideal.div (shapeCast S16x1 (multiReduction (F := Ideal) .add [1] S16 (mulf x0 x0) 0x00000000#32 reduces_S16x2048_S16 (.inl rfl) rfl) shapeCasts_S16_S16x1 (ix2 r u)) _ + _ = _
  rw [col_sum]
  rfl

/-- The column of the rows' scales. -/
theorem col_scale (x0 : Vec Ideal S16x2048 .f32) (r : Fin 16) (u : Fin 1) : k0_pay5 (F := Ideal) x0 (ix2 r u) = Norm.scale (row x0 r) := by
  unfold k0_pay5
  show Ideal.rsqrt (k0_pay4 (F := Ideal) x0 (ix2 r u)) = _
  rw [col_msq]
  rfl

/-- The block's share of the gradient by the weights. -/
theorem block_share (x0 x2 : Vec Ideal S16x2048 .f32) (k : Fin 2048) :
    k0_pay6 (F := Ideal) x0 x2 (ix2 (0 : Fin 1) k) = ∑ r : Fin 16, Norm.share (row x0 r) (row x2 r) k := by
  unfold k0_pay6 k0_pay3
  rw [shapeCast_self]
  refine (row_sum _ _ _ k).trans (Finset.sum_congr rfl fun r _ => ?_)
  show x0 (ix2 r k) * broadcastTo S16x2048 (k0_pay5 (F := Ideal) x0) broadcasts_S16x1_S16x2048 (ix2 r k) * x2 (ix2 r k) = _
  rw [spread, col_scale]
  rfl

/-- The block of the gradient by the rows. -/
theorem block_grad (x0 : Vec Ideal S16x2048 .f32) (x1 : Vec Ideal S1x2048 .f32) (x2 x3 : Vec Ideal S16x2048 .f32) (r : Fin 16) (k : Fin 2048) :
    k0_pay7 (F := Ideal) x0 x1 x2 x3 (ix2 r k) = Norm.grad (row x0 r) (wts x1) (row x2 r) (x3 (ix2 r k)) k := by
  have hw : ∀ k : Fin 2048, broadcastTo S16x2048 x1 broadcasts_S1x2048_S16x2048 (ix2 r k) = wts x1 k :=
    fun k => broadcastTo_1b_ab_apply x1 broadcasts_S1x2048_S16x2048 r k
  unfold k0_pay7 k0_pay3
  rw [shapeCast_self]
  simp only [addf, mulf, spread, one_sum, col_scale]
  have hp : ∀ a b : EReal, a = b → (x3 (ix2 r k) + x2 (ix2 r k) * broadcastTo S16x2048 x1 broadcasts_S1x2048_S16x2048 (ix2 r k) * Norm.scale (row x0 r) + x0 (ix2 r k) * a + a * x0 (ix2 r k) : EReal)
      = x3 (ix2 r k) + x2 (ix2 r k) * wts x1 k * Norm.scale (row x0 r) + x0 (ix2 r k) * b + b * x0 (ix2 r k) := fun a b e => by rw [e, hw]
  refine hp _ (Norm.pull (row x0 r) (wts x1) (row x2 r)) ?_
  refine (one_sum _ _ _ r 0).trans ?_
  show Ideal.div (shapeCast S16x1 (multiReduction (F := Ideal) .add [1] S16 (mulf x0 (mulf x2 (broadcastTo S16x2048 x1 broadcasts_S1x2048_S16x2048))) 0x00000000#32 reduces_S16x2048_S16 (.inl rfl) rfl) shapeCasts_S16_S16x1 (ix2 r (0 : Fin 1))
    * (Ideal.ofBits .f32 0xBF000000#32 * Ideal.div (k0_pay5 (F := Ideal) x0 (ix2 r (0 : Fin 1))) (k0_pay4 (F := Ideal) x0 (ix2 r (0 : Fin 1))))) (Ideal.ofBits .f32 0x45000000#32) = _
  rw [col_sum, col_scale, col_msq]
  unfold Norm.pull
  refine congrArg (fun s => Ideal.div (s * _) _) (Finset.sum_congr rfl fun k _ => ?_)
  show x0 (ix2 r k) * (x2 (ix2 r k) * broadcastTo S16x2048 x1 broadcasts_S1x2048_S16x2048 (ix2 r k)) = _
  rw [hw]

/-- Row `r` of the part of a longer array the reference takes. -/
abbrev part (x : Vec Ideal S4160x2048 .f32) (r : Fin 16) : Fin 2048 → EReal := fun k => x (ix2 (⟨r.val, by omega⟩ : Fin 4160) k)

/-- Row `r` of the reference's rows. -/
abbrev whole (x : Vec Ideal S16x2048 .f32) (r : Fin 16) : Fin 2048 → EReal := fun k => x (ix2 r k)

/-- The reference's column of mean squares. -/
theorem ref_msq (x : Vec Ideal S16x2048 .f32) (r : Fin 16) (u : Fin 1) :
    val_main_v7 (F := Ideal) x (ix2 r u) = Norm.msq (whole x r) := by
  rw [val_main_v7_apply, val_main_v5_apply, val_main_v3_apply, val_main_v2_apply]
  have hz : val_main_cst (F := Ideal) (Shape.Idx.first Cert.MetaBwdRefIdeal.Gen.h_S_) = 0 := Ideal.ofBits_zero_f32
  rw [hz, zero_add]
  have hs : ∀ k : Fin 2048, val_main_v1 (F := Ideal) x (idx_main_v2 (idx_main_v3 (ix2 r u)) k) = whole x r k * whole x r k := fun k => by
    have hi : idx_main_v2 (idx_main_v3 (ix2 r u)) k = ix2 r k := by
      funext a
      match a with
      | ⟨0, _⟩ => rfl
      | ⟨1, _⟩ => rfl
    rw [val_main_v1_apply, hi]
    rfl
  simp only [hs]
  rfl

/-- The reference's column of scales. -/
theorem ref_scale (x : Vec Ideal S16x2048 .f32) (r : Fin 16) (u : Fin 1) :
    val_main_v8 (F := Ideal) x (ix2 r u) = Norm.scale (whole x r) := by
  rw [val_main_v8_apply, ref_msq]
  rfl

/-- The reference's weights, spread over the rows. -/
theorem ref_wts (w : Vec Ideal S1x2048 .f32) (r : Fin 16) (k : Fin 2048) : val_main_v22 (F := Ideal) w (ix2 r k) = wts w k := by
  rw [val_main_v22_apply, val_main_v14_apply, val_main_v0_apply]
  refine congrArg w (funext fun a => ?_)
  match a with
  | ⟨0, _⟩ => rfl
  | ⟨1, _⟩ => exact Fin.ext (Nat.mod_eq_of_lt k.isLt)

/-- The reference takes the rows of the norm's incoming gradient. -/
theorem ref_du (d : Vec Ideal S4160x2048 .f32) (r : Fin 16) (k : Fin 2048) : val_main_v17 (F := Ideal) d (ix2 r k) = part d r k := by
  rw [val_main_v17_apply]
  refine congrArg d (funext fun a => Fin.ext ?_)
  match a with
  | ⟨0, _⟩ => first | rfl | (show 16 + r.val = 16 + r.val; rfl) | (show 0 + r.val = r.val; omega)
  | ⟨1, _⟩ => first | rfl | (show 0 + k.val = k.val; omega)

/-- The reference takes the rows of the gradient arriving beside the norm. -/
theorem ref_dz (d : Vec Ideal S4160x2048 .f32) (r : Fin 16) (k : Fin 2048) : val_main_v18 (F := Ideal) d (ix2 r k) = part d r k := by
  rw [val_main_v18_apply]
  refine congrArg d (funext fun a => Fin.ext ?_)
  match a with
  | ⟨0, _⟩ => first | rfl | (show 16 + r.val = 16 + r.val; rfl) | (show 0 + r.val = r.val; omega)
  | ⟨1, _⟩ => first | rfl | (show 0 + k.val = k.val; omega)

/-- What the reference sends back through the mean square. -/
theorem ref_pull (x : Vec Ideal S16x2048 .f32) (w : Vec Ideal S1x2048 .f32) (d : Vec Ideal S4160x2048 .f32) (r : Fin 16) (k : Fin 2048) :
    val_main_v35 (F := Ideal) x w d (ix2 r k) = Norm.pull (whole x r) (wts w) (part d r) := by
  rw [val_main_v35_apply, val_main_v34_apply]
  have hz : val_main_cst_7 (F := Ideal) (Shape.Idx.first Cert.MetaBwdRefIdeal.Gen.h_S_) = 0 := Ideal.ofBits_zero_f32
  have hz' : val_main_cst_5 (F := Ideal) (Shape.Idx.first Cert.MetaBwdRefIdeal.Gen.h_S_) = 0 := Ideal.ofBits_zero_f32
  rw [hz, zero_add, Fin.sum_univ_one]
  have hi : idx_main_v34 (idx_main_v35 (ix2 r k)) 0 = ix2 r (0 : Fin 1) := by
    funext a
    match a with
    | ⟨0, _⟩ => rfl
    | ⟨1, _⟩ => rfl
  rw [hi, val_main_v33_apply, val_main_v31_apply, val_main_v27_apply, val_main_v26_apply, val_main_v11_apply,
    val_main_v9_apply, ref_scale, ref_msq, hz', zero_add]
  have hs : ∀ j : Fin 2048, val_main_v25 (F := Ideal) x w d (idx_main_v26 (idx_main_v27 (ix2 r (0 : Fin 1))) j)
      = whole x r j * (part d r j * wts w j) := fun j => by
    have hj : idx_main_v26 (idx_main_v27 (ix2 r (0 : Fin 1))) j = ix2 r j := by
      funext a
      match a with
      | ⟨0, _⟩ => exact Fin.ext (by show r.val * 1 + 0 = r.val; omega)
      | ⟨1, _⟩ => rfl
    rw [val_main_v25_apply, val_main_v23_apply, hj, ref_wts, ref_du]
    rfl
  simp only [hs]
  rfl

/-- An entry of the reference's gradient by the rows. -/
theorem ref_grad (x : Vec Ideal S16x2048 .f32) (w : Vec Ideal S1x2048 .f32) (d z : Vec Ideal S4160x2048 .f32) (r : Fin 16) (k : Fin 2048) :
    val_main_v39 (F := Ideal) x w d z (ix2 r k) = Norm.grad (whole x r) (wts w) (part d r) (part z r k) k := by
  have hi : idx_main_v28 (ix2 r k) = ix2 r (0 : Fin 1) := by
    funext a
    match a with
    | ⟨0, _⟩ => rfl
    | ⟨1, _⟩ => rfl
  rw [val_main_v39_apply, val_main_v37_apply, val_main_v38_apply, val_main_v36_apply, val_main_v30_apply, val_main_v29_apply,
    val_main_v23_apply, val_main_v28_apply, hi, ref_scale, ref_pull, ref_wts, ref_du, ref_dz]
  rfl

/-- An entry of the reference's gradient by the weights. -/
theorem ref_share (x : Vec Ideal S16x2048 .f32) (d : Vec Ideal S4160x2048 .f32) (k : Fin 2048) :
    val_main_v40 (F := Ideal) x d (ix2 (0 : Fin 1) k) = ∑ r : Fin 16, Norm.share (whole x r) (part d r) k := by
  have hz : val_main_cst_4 (F := Ideal) (Shape.Idx.first Cert.MetaBwdRefIdeal.Gen.h_S_) = 0 := Ideal.ofBits_zero_f32
  have hz' : val_main_cst_3 (F := Ideal) (Shape.Idx.first Cert.MetaBwdRefIdeal.Gen.h_S_) = 0 := Ideal.ofBits_zero_f32
  rw [val_main_v40_apply, val_main_v24_apply, hz, zero_add, Fin.sum_univ_one, val_main_v21_apply, val_main_v20_apply, hz', zero_add]
  refine Finset.sum_congr rfl fun r _ => ?_
  have hr : idx_main_v20 (idx_main_v21 (idx_main_v24 (idx_main_v40 (ix2 (0 : Fin 1) k)) 0)) r = ix2 r k := by
    funext a
    match a with
    | ⟨0, _⟩ => rfl
    | ⟨1, _⟩ => exact Fin.ext (by show 0 * 2048 + k.val = k.val; omega)
  have hi : idx_main_v12 (ix2 r k) = ix2 r (0 : Fin 1) := by
    funext a
    match a with
    | ⟨0, _⟩ => rfl
    | ⟨1, _⟩ => rfl
  rw [hr, val_main_v19_apply, val_main_v13_apply, val_main_v12_apply, hi, ref_scale, ref_du]
  rfl

variable (m : (ℓ : Loc nD τ sig) → Buf (Elt Ideal) ℓ)

/-- The rows reach the grid stacked. -/
theorem rows (c : Dev nD) (j : S4160x2048.Idx) : V m c main_v1 j
    = Norm.stack (m ((c : Thread nD τ).loc main_arg0)) (m ((c : Thread nD τ).loc main_arg1)) (j 0).val ⟨(j 1).val, (j 1).isLt⟩ := by
  have e : V m c main_v1 = concatenate S4160x2048 0 [⟨S16x2048, m ((c : Thread nD τ).loc main_arg0)⟩, ⟨S4096x2048, m ((c : Thread nD τ).loc main_arg1)⟩,
      ⟨S48x2048, broadcastInDim S48x2048 ![] bcast_S_S48x2048 (constant (F := Ideal) S_ .f32 0x00000000#32)⟩] concatenates_S16x2048_S4096x2048_S48x2048_S4160x2048_d0 := by
    show StableHlo.after hostOps0 (fun b => m (c, b)) main_v1 = _
    after_results
    refine Products.concat3 (V_main_arg0 m c) (V_main_arg1 m c) ?_ _
    show StableHlo.after hostOps0 (fun b => m (c, b)) main_v0 = _
    after_results
  rw [e]
  exact Norm.concat_three _ _ _ (fun _ => Ideal.ofBits_zero_f32) _ j

/-- Where the windows of a grid point lie. -/
theorem where_tiles : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

/-- Every grid point writes its block of rows back. -/
theorem flushes : ∀ t : Fin cfg0.N, (cfg0.win 4).flush t = true :=
  (by decide +kernel : ∀ t : Fin grid0.N, win0_4.flush t = true)

/-- The row of the reference a grid point's row is. -/
abbrev at_row (t : Fin cfg0.N) (r : Fin 16) : Fin 16 := ⟨t.val * 16 + r.val, by have : t.val < 1 := t.isLt; omega⟩

/-- A grid point's rows. -/
theorem in_rows (c : Dev nD) (t : Fin cfg0.N) (r : Fin 16) : row (iblk m c 0 t) r = whole (m ((c : Thread nD τ).loc main_arg0)) (at_row t r) := by
  obtain ⟨⟨a0, a1⟩, -, -, -, -, -⟩ := where_tiles t
  funext k
  show iblk m c 0 t (ix2 r k) = _
  unfold iblk
  rw [View.read_apply]
  show V m c main_v1 _ = _
  rw [rows]
  refine Eq.trans ?_ (Norm.stack_mt (m ((c : Thread nD τ).loc main_arg0)) (m ((c : Thread nD τ).loc main_arg1)) (at_row t r) k)
  refine congrArg₂ (Norm.stack _ _) ?_ (Fin.ext ?_)
  · show win0_0.index t (0 : Fin 2) * 16 + 1 * r.val = (t.val * 16 + r.val)
    rw [a0]; omega
  · show win0_0.index t (1 : Fin 2) * 2048 + 1 * k.val = k.val
    rw [a1]; omega

/-- A grid point's weights. -/
theorem in_wts (c : Dev nD) (t : Fin cfg0.N) : wts (iblk m c 1 t) = wts (m ((c : Thread nD τ).loc main_arg2)) := by
  obtain ⟨-, ⟨b0, b1⟩, -, -, -, -⟩ := where_tiles t
  funext k
  show iblk m c 1 t (ix2 (0 : Fin 1) k) = _
  unfold iblk
  rw [View.read_apply]
  show V m c main_arg2 _ = _
  rw [V_main_arg2]
  refine congrArg _ (funext fun a => Fin.ext ?_)
  match a with
  | ⟨0, _⟩ => show win0_1.index t (0 : Fin 2) * 1 + 1 * 0 = 0; rw [b0]
  | ⟨1, _⟩ => show win0_1.index t (1 : Fin 2) * 2048 + 1 * k.val = k.val; rw [b1]; omega

/-- A grid point's rows of the norm's incoming gradient. -/
theorem in_du (c : Dev nD) (t : Fin cfg0.N) (r : Fin 16) : row (iblk m c 2 t) r = part (m ((c : Thread nD τ).loc main_arg3)) (at_row t r) := by
  obtain ⟨-, -, ⟨a0, a1⟩, -, -, -⟩ := where_tiles t
  funext k
  show iblk m c 2 t (ix2 r k) = _
  unfold iblk
  rw [View.read_apply]
  show V m c main_arg3 _ = _
  rw [V_main_arg3]
  refine congrArg _ (funext fun a => Fin.ext ?_)
  match a with
  | ⟨0, _⟩ => show win0_2.index t (0 : Fin 2) * 16 + 1 * r.val = (t.val * 16 + r.val); rw [a0]; omega
  | ⟨1, _⟩ => show win0_2.index t (1 : Fin 2) * 2048 + 1 * k.val = k.val; rw [a1]; omega

/-- A grid point's rows of the gradient arriving beside the norm. -/
theorem in_dz (c : Dev nD) (t : Fin cfg0.N) (r : Fin 16) (k : Fin 2048) :
    iblk m c 3 t (ix2 r k) = part (m ((c : Thread nD τ).loc main_arg4)) (at_row t r) k := by
  obtain ⟨-, -, -, ⟨a0, a1⟩, -, -⟩ := where_tiles t
  unfold iblk
  rw [View.read_apply]
  show V m c main_arg4 _ = _
  rw [V_main_arg4]
  refine congrArg _ (funext fun a => Fin.ext ?_)
  match a with
  | ⟨0, _⟩ => show win0_3.index t (0 : Fin 2) * 16 + 1 * r.val = (t.val * 16 + r.val); rw [a0]; omega
  | ⟨1, _⟩ => show win0_3.index t (1 : Fin 2) * 2048 + 1 * k.val = k.val; rw [a1]; omega

/-- What the array of gradients by the rows is to hold: the reference's. -/
abbrev G (c : Dev nD) : Vec Ideal S16x2048 .f32 := val_main_v39 (F := Ideal) (m ((c : Thread nD τ).loc main_arg0))
  (m ((c : Thread nD τ).loc main_arg2)) (m ((c : Thread nD τ).loc main_arg3)) (m ((c : Thread nD τ).loc main_arg4))

/-- What the array of the gradient by the weights is to hold: the reference's. -/
abbrev W (c : Dev nD) : Vec Ideal S1x2048 .f32 := val_main_v40 (F := Ideal) (m ((c : Thread nD τ).loc main_arg0))
  (m ((c : Thread nD τ).loc main_arg3))

/-- What a grid point leaves as its block of rows. -/
theorem point (c : Dev nD) (t : Fin cfg0.N) : (Gen.dats m 0 c).flushed 4 t
    = (cfg0.win 4).cut (grid0.coords t) (k0_pay7 (F := Ideal) (iblk m c 0 t) (iblk m c 1 t) (iblk m c 2 t) (iblk m c 3 t)) := by
  rw [Value.flushed4_A, tile4_A]

/-- A grid point writes its block of the reference's gradient by the rows. -/
theorem written (c : Dev nD) (t : Fin cfg0.N) :
    (Gen.dats m 0 c).flushed 4 t = ((cfg0.win 4).blk t).view.read (Elt Ideal) (G m c) := by
  rw [point]
  obtain ⟨-, -, -, -, ⟨c0, c1⟩, -⟩ := where_tiles t
  funext y
  have hy : ((cfg0.win 4).blk t).view.emb y = ix2 (at_row t ⟨(y 0).val, (y 0).isLt⟩) (⟨(y 1).val, (y 1).isLt⟩ : Fin 2048) := by
    funext a
    refine Fin.ext ?_
    match a with
    | ⟨0, _⟩ => show win0_4.index t (0 : Fin 2) * 16 + 1 * (y 0).val = t.val * 16 + (y 0).val; rw [c0]; omega
    | ⟨1, _⟩ => show win0_4.index t (1 : Fin 2) * 2048 + 1 * (y 1).val = (y 1).val; rw [c1]; omega
  show k0_pay7 (F := Ideal) (iblk m c 0 t) (iblk m c 1 t) (iblk m c 2 t) (iblk m c 3 t) ((cfg0.win 4).xinj (grid0.coords t) y) = G m c (((cfg0.win 4).blk t).view.emb y)
  have hx : (cfg0.win 4).xinj (grid0.coords t) y = ix2 (⟨(y 0).val, (y 0).isLt⟩ : Fin 16) (⟨(y 1).val, (y 1).isLt⟩ : Fin 2048) := by
    funext a
    match a with
    | ⟨0, _⟩ => rfl
    | ⟨1, _⟩ => rfl
  rw [hx, hy]
  unfold G
  rw [block_grad, ref_grad, in_rows, in_wts, in_du, in_dz]

/-- The blocks cover the array. -/
theorem covered (i : S16x2048.Idx) : ∃ t : Fin cfg0.N, (cfg0.win 4).flush t = true ∧ i ∈ ((cfg0.win 4).blk t).view.set := by
  have h0 : (i 0).val < 16 := (i 0).isLt
  have h1 : (i 1).val < 2048 := (i 1).isLt
  have ht : (i 0).val / 16 < 1 := by omega
  obtain ⟨-, -, -, -, ⟨a0', a1⟩, -⟩ := where_tiles ⟨(i 0).val / 16, ht⟩
  have a0 : win0_4.index ⟨(i 0).val / 16, ht⟩ (0 : Fin 2) = (i 0).val / 16 := a0'
  refine ⟨⟨(i 0).val / 16, ht⟩, flushes _, ?_⟩
  show i ∈ ((View.whole main_v2_0).slice (win0_4.rect ⟨(i 0).val / 16, ht⟩)).set
  rw [View.set_slice_whole, Rect.mem_set_unit]
  intro a
  match a with
  | ⟨0, _⟩ =>
    show win0_4.index ⟨(i 0).val / 16, ht⟩ (0 : Fin 2) * 16 ≤ (i 0).val ∧ (i 0).val < win0_4.index ⟨(i 0).val / 16, ht⟩ (0 : Fin 2) * 16 + 16
    rw [a0]; omega
  | ⟨1, _⟩ =>
    show win0_4.index ⟨(i 0).val / 16, ht⟩ (1 : Fin 2) * 2048 ≤ (i 1).val ∧ (i 1).val < win0_4.index ⟨(i 0).val / 16, ht⟩ (1 : Fin 2) * 2048 + 2048
    rw [a1]; omega

/-- After the run the array of gradients by the rows is the reference's. -/
theorem final (c : Dev nD) : (Gen.dats m 0 c).arrAt 4 cfg0.N = G m c :=
  (Gen.dats m 0 c).arrAt_eq_of_cover 4 _ (fun t _ => written m c t) covered

/-- After the last grid point the one block of the gradient by the weights is the reference's. -/
theorem written_w (c : Dev nD) (t : Fin cfg0.N) (hf : (cfg0.win 5).flush t = true) :
    (Gen.dats m 0 c).flushed 5 t = ((cfg0.win 5).blk t).view.read (Elt Ideal) (W m c) := by
  rw [Value.flushed5_A, tile5_A]
  obtain ⟨-, -, -, -, -, ⟨d0, d1⟩⟩ := where_tiles t
  funext y
  have h0 : (y 0).val < 1 := (y 0).isLt
  have hy : ((cfg0.win 5).blk t).view.emb y = ix2 (0 : Fin 1) (⟨(y 1).val, (y 1).isLt⟩ : Fin 2048) := by
    funext a
    refine Fin.ext ?_
    match a with
    | ⟨0, _⟩ => show win0_5.index t (0 : Fin 2) * 1 + 1 * (y 0).val = 0; rw [d0]; omega
    | ⟨1, _⟩ => show win0_5.index t (1 : Fin 2) * 2048 + 1 * (y 1).val = (y 1).val; rw [d1]; omega
  show k0_pay2 (F := Ideal) (k0_pay6 (F := Ideal) (iblk m c 0 t) (iblk m c 2 t)) (k0_pay1 (F := Ideal)) ((cfg0.win 5).xinj (grid0.coords t) y) = W m c (((cfg0.win 5).blk t).view.emb y)
  have hx : (cfg0.win 5).xinj (grid0.coords t) y = ix2 (0 : Fin 1) (⟨(y 1).val, (y 1).isLt⟩ : Fin 2048) := by
    funext a
    refine Fin.ext ?_
    match a with
    | ⟨0, _⟩ => show (y 0).val = 0; omega
    | ⟨1, _⟩ => rfl
  rw [hx, hy]
  unfold W
  rw [ref_share]
  unfold k0_pay2 k0_pay1
  rw [shapeCast_self]
  show Ideal.ofBits .f32 0x00000000#32 + k0_pay6 (F := Ideal) (iblk m c 0 t) (iblk m c 2 t) (ix2 (0 : Fin 1) _) = _
  rw [Ideal.ofBits_zero_f32, zero_add, block_share]
  refine Finset.sum_congr rfl fun r _ => ?_
  have hr : at_row t r = r := Fin.ext (by have : t.val < 1 := t.isLt; show t.val * 16 + r.val = r.val; omega)
  rw [in_rows, in_du, hr]

/-- The last grid point writes the one block back. -/
theorem some_last : ∃ t : Fin cfg0.N, (cfg0.win 5).flush t = true :=
  (by decide +kernel : ∃ t : Fin grid0.N, win0_5.flush t = true)

/-- The one block is the array. -/
theorem covered_w (i : S1x2048.Idx) : ∃ t : Fin cfg0.N, (cfg0.win 5).flush t = true ∧ i ∈ ((cfg0.win 5).blk t).view.set := by
  have h0 : (i 0).val < 1 := (i 0).isLt
  have h1 : (i 1).val < 2048 := (i 1).isLt
  obtain ⟨t, ht⟩ := some_last
  obtain ⟨-, -, -, -, -, ⟨d0, d1⟩⟩ := where_tiles t
  refine ⟨t, ht, ?_⟩
  show i ∈ ((View.whole main_v2_1).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; rw [d0]; omega
  | ⟨1, _⟩ => show win0_5.index t (1 : Fin 2) * 2048 ≤ (i 1).val ∧ (i 1).val < win0_5.index t (1 : Fin 2) * 2048 + 2048; rw [d1]; omega

/-- After the run the array of the gradient by the weights is the reference's. -/
theorem final_w (c : Dev nD) : (Gen.dats m 0 c).arrAt 5 cfg0.N = W m c :=
  (Gen.dats m 0 c).arrAt_eq_of_cover 5 _ (fun t hf => written_w m c t hf) covered_w

end Cert.MetaBwdIdeal.Equal

end
-- ==== Proof.MetaBwdClaim.lean ====
/- The value claim of the gradient of the first norm by the meta rows and by its weights. -/
module

public import proofs.«01_k».proof.Defs
public import proofs.«01_k».proof.Proof.MetaBwdValue

@[expose] public section

noncomputable section

namespace Cert.Proof.MetaBwd

open Idealize.ShloMosaic Idealize.SL.Sem

/-- The reference's run, its two results read by the operation that writes each. -/
theorem ref_run (m : (ℓ : Loc Cert.MetaBwdRefIdeal.nD Cert.MetaBwdRefIdeal.τ Cert.MetaBwdRefIdeal.sig) → Buf (Elt Ideal) ℓ)
    (g : Dev Cert.MetaBwdRefIdeal.nD → PrngReg) :
    θ_run (Cert.MetaBwdRefIdeal.defs (F := Ideal)) (onTc (τ := Cert.MetaBwdRefIdeal.τ) (Cert.MetaBwdRefIdeal.main (F := Ideal))) ⟨m, fun _ => 0, g⟩
      fun r => ∀ c : Dev Cert.MetaBwdRefIdeal.nD,
      r.2.mem ((c.tc : Thread Cert.MetaBwdRefIdeal.nD Cert.MetaBwdRefIdeal.τ).loc Cert.MetaBwdRefIdeal.main_v39) = Cert.MetaBwdRefIdeal.Read.val_main_v39 (F := Ideal) (m ((c.tc : Thread Cert.MetaBwdRefIdeal.nD Cert.MetaBwdRefIdeal.τ).loc Cert.MetaBwdRefIdeal.main_arg0)) (m ((c.tc : Thread Cert.MetaBwdRefIdeal.nD Cert.MetaBwdRefIdeal.τ).loc Cert.MetaBwdRefIdeal.main_arg2)) (m ((c.tc : Thread Cert.MetaBwdRefIdeal.nD Cert.MetaBwdRefIdeal.τ).loc Cert.MetaBwdRefIdeal.main_arg3)) (m ((c.tc : Thread Cert.MetaBwdRefIdeal.nD Cert.MetaBwdRefIdeal.τ).loc Cert.MetaBwdRefIdeal.main_arg4))
      ∧ r.2.mem ((c.tc : Thread Cert.MetaBwdRefIdeal.nD Cert.MetaBwdRefIdeal.τ).loc Cert.MetaBwdRefIdeal.main_v40) = Cert.MetaBwdRefIdeal.Read.val_main_v40 (F := Ideal) (m ((c.tc : Thread Cert.MetaBwdRefIdeal.nD Cert.MetaBwdRefIdeal.τ).loc Cert.MetaBwdRefIdeal.main_arg0)) (m ((c.tc : Thread Cert.MetaBwdRefIdeal.nD Cert.MetaBwdRefIdeal.τ).loc Cert.MetaBwdRefIdeal.main_arg3))
      ∧ r.2.mem ((c.tc : Thread Cert.MetaBwdRefIdeal.nD Cert.MetaBwdRefIdeal.τ).loc Cert.MetaBwdRefIdeal.main_arg0) = m ((c.tc : Thread Cert.MetaBwdRefIdeal.nD Cert.MetaBwdRefIdeal.τ).loc Cert.MetaBwdRefIdeal.main_arg0)
      ∧ r.2.mem ((c.tc : Thread Cert.MetaBwdRefIdeal.nD Cert.MetaBwdRefIdeal.τ).loc Cert.MetaBwdRefIdeal.main_arg1) = m ((c.tc : Thread Cert.MetaBwdRefIdeal.nD Cert.MetaBwdRefIdeal.τ).loc Cert.MetaBwdRefIdeal.main_arg1)
      ∧ r.2.mem ((c.tc : Thread Cert.MetaBwdRefIdeal.nD Cert.MetaBwdRefIdeal.τ).loc Cert.MetaBwdRefIdeal.main_arg2) = m ((c.tc : Thread Cert.MetaBwdRefIdeal.nD Cert.MetaBwdRefIdeal.τ).loc Cert.MetaBwdRefIdeal.main_arg2)
      ∧ r.2.mem ((c.tc : Thread Cert.MetaBwdRefIdeal.nD Cert.MetaBwdRefIdeal.τ).loc Cert.MetaBwdRefIdeal.main_arg3) = m ((c.tc : Thread Cert.MetaBwdRefIdeal.nD Cert.MetaBwdRefIdeal.τ).loc Cert.MetaBwdRefIdeal.main_arg3)
      ∧ r.2.mem ((c.tc : Thread Cert.MetaBwdRefIdeal.nD Cert.MetaBwdRefIdeal.τ).loc Cert.MetaBwdRefIdeal.main_arg4) = m ((c.tc : Thread Cert.MetaBwdRefIdeal.nD Cert.MetaBwdRefIdeal.τ).loc Cert.MetaBwdRefIdeal.main_arg4) :=
  (θ_run Cert.MetaBwdRefIdeal.defs _ _).mono (fun _ h c => ⟨(h c).1.trans (Cert.MetaBwdRefIdeal.Read.val_main_v39_eq m c), (h c).2.1.trans rfl, (h c).2.2⟩)
    (Cert.MetaBwdRefIdeal.Value.run (F := Ideal) m g)

/-- Kernel and reference end with the same two gradients. -/
theorem algebraic : Cert.algebraic_MetaBwdIdeal_MetaBwdRefIdeal := by
  intro m g m' g' _ h
  refine ⟨fun c => Cert.MetaBwdIdeal.Equal.G m c, fun c => Cert.MetaBwdIdeal.Equal.W m c,
    (θ_run Cert.MetaBwdIdeal.defs _ _).mono (fun _ k c => ⟨(k c).1.trans (Cert.MetaBwdIdeal.Equal.final m c),
      (k c).2.1.trans (Cert.MetaBwdIdeal.Equal.final_w m c), (k c).2.2⟩) (Cert.MetaBwdIdeal.Value.run_blocks m g),
    (θ_run Cert.MetaBwdRefIdeal.defs _ _).mono (fun _ k c => ⟨(k c).1.trans ?_, (k c).2.1.trans ?_, (k c).2.2⟩) (ref_run m' g')⟩
  · rw [(h c).1, (h c).2.2.1, (h c).2.2.2.1, (h c).2.2.2.2]
  · rw [(h c).1, (h c).2.2.2.1]

end Cert.Proof.MetaBwd

end
-- ==== Proof.LossHeadTiles.lean ====
/- What one grid point of the loss head leaves in its four blocks, in terms of the blocks it reads. -/
module

public import proofs.«01_k».proof.Proof.Gen.LossHeadIdeal.Value

@[expose] public section

noncomputable section

namespace Cert.LossHeadIdeal.Tiles

open Cert.LossHeadIdeal Cert.LossHeadIdeal.Gen Idealize.ShloMosaic Idealize.ShloMosaic.TcCoe Idealize.SL.Sem

/-- The literal offset of every access is the zero offset. -/
theorem off_zero : (![0, 0] : Fin 2 → Nat) = fun _ => 0 := funext (Fin.forall_fin_two.mpr ⟨rfl, rfl⟩)

variable {F : FTy → Type} [FloatOps F]
variable (c : Dev nD) (i : grid0.Coords)
  (a1 : Memref sig .tc .vmem S208x2048 .f32) (h1 : a1.IsWhole) (a2 : Memref sig .tc .vmem S208x2048 .bf16) (h2 : a2.IsWhole) (a3 : Memref sig .tc .vmem S2048x2048 .bf16) (h3 : a3.IsWhole)
  (a4 : Memref sig .tc .vmem S208x2048 .f32) (h4 : a4.IsWhole) (a5 : Memref sig .tc .vmem S1x2048 .f32) (h5 : a5.IsWhole) (a6 : Memref sig .tc .vmem S8x128 .f32) (h6 : a6.IsWhole)
  (a7 : Memref sig .tc .vmem S208x2048 .f32) (h7 : a7.IsWhole) (a8 : Memref sig .tc .vmem S208x2048 .bf16) (h8 : a8.IsWhole) (a9 : Memref sig .tc .vmem S1x2048 .f32) (h9 : a9.IsWhole)
  (x0 : Vec F S208x2048 .f32) (x1 : Vec F S208x2048 .bf16) (x2 : Vec F S2048x2048 .bf16) (x3 : Vec F S208x2048 .f32) (x4 : Vec F S1x2048 .f32)

/-- The first grid point leaves its share of the loss, added to zeros. -/
theorem tile5_A (hc : cond0_0 i) :
    out0_A_5 c i a1 h1 a2 h2 a3 h3 a4 h4 a5 h5 a6 h6 a7 h7 a8 h8 a9 h9 hc x0 x1 x2 x3 x4 = k0_pay17 (BitVec.ofNat 32 (i 0).val) (k0_pay5 i) (k0_pay12 x0 x1 x2 x4) x3 (k0_pay3 (F := F)) := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  try sl_unfold_words
  rw [View.canon_cons_unit_zero (S := S8x128) off_zero, View.readCov_unit_zero (S := S8x128) _ off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

/-- A later grid point leaves its share of the loss, added to what the point before left. -/
theorem tile5_B (hc : ¬cond0_0 i) (xo5 : Vec F S8x128 .f32) (xo8 : Vec F S1x2048 .f32) :
    out0_B_5 c i a1 h1 a2 h2 a3 h3 a4 h4 a5 h5 a6 h6 a7 h7 a8 h8 a9 h9 hc x0 x1 x2 x3 x4 xo5 xo8 = k0_pay17 (BitVec.ofNat 32 (i 0).val) (k0_pay5 i) (k0_pay12 x0 x1 x2 x4) x3 xo5 := by
  unfold out0_B_5
  rw [View.read_writes_eq_canon _ _ _ (cover0_B_5 c i a1 h1 a2 h2 a3 h3 a4 h4 a5 h5 a6 h6 a7 h7 a8 h8 a9 h9 hc x0 x1 x2 x3 x4 xo5 xo8)]
  unfold kernelRun0_B
  dsimp only
  try sl_unfold_words
  rw [View.canon_cons_unit_zero (S := S8x128) off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

/-- The first grid point leaves the gradient by its rows. -/
theorem tile6_A (hc : cond0_0 i) :
    out0_A_6 c i a1 h1 a2 h2 a3 h3 a4 h4 a5 h5 a6 h6 a7 h7 a8 h8 a9 h9 hc x0 x1 x2 x3 x4 = k0_pay16 (BitVec.ofNat 32 (i 0).val) (k0_pay5 i) (k0_pay6 x0 x1 x2) (k0_pay7 x4) (k0_pay9 x0 x1 x2) (k0_pay10 x0 x1 x2) (k0_pay12 x0 x1 x2 x4) x3 := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  try sl_unfold_words
  rw [View.canon_cons_unit_zero (S := S208x2048) off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

/-- A later grid point leaves the gradient by its rows. -/
theorem tile6_B (hc : ¬cond0_0 i) (xo5 : Vec F S8x128 .f32) (xo8 : Vec F S1x2048 .f32) :
    out0_B_6 c i a1 h1 a2 h2 a3 h3 a4 h4 a5 h5 a6 h6 a7 h7 a8 h8 a9 h9 hc x0 x1 x2 x3 x4 xo5 xo8 = k0_pay16 (BitVec.ofNat 32 (i 0).val) (k0_pay5 i) (k0_pay6 x0 x1 x2) (k0_pay7 x4) (k0_pay9 x0 x1 x2) (k0_pay10 x0 x1 x2) (k0_pay12 x0 x1 x2 x4) x3 := by
  unfold out0_B_6
  rw [View.read_writes_eq_canon _ _ _ (cover0_B_6 c i a1 h1 a2 h2 a3 h3 a4 h4 a5 h5 a6 h6 a7 h7 a8 h8 a9 h9 hc x0 x1 x2 x3 x4 xo5 xo8)]
  unfold kernelRun0_B
  dsimp only
  try sl_unfold_words
  rw [View.canon_cons_unit_zero (S := S208x2048) off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

/-- The first grid point leaves the same gradient, rounded. -/
theorem tile7_A (hc : cond0_0 i) :
    out0_A_7 c i a1 h1 a2 h2 a3 h3 a4 h4 a5 h5 a6 h6 a7 h7 a8 h8 a9 h9 hc x0 x1 x2 x3 x4 = k0_pay1 (k0_pay16 (BitVec.ofNat 32 (i 0).val) (k0_pay5 i) (k0_pay6 x0 x1 x2) (k0_pay7 x4) (k0_pay9 x0 x1 x2) (k0_pay10 x0 x1 x2) (k0_pay12 x0 x1 x2 x4) x3) := by
  unfold out0_A_7
  rw [View.read_writes_eq_canon _ _ _ (cover0_A_7 c i a1 h1 a2 h2 a3 h3 a4 h4 a5 h5 a6 h6 a7 h7 a8 h8 a9 h9 hc x0 x1 x2 x3 x4)]
  unfold kernelRun0_A
  dsimp only
  try sl_unfold_words
  rw [View.canon_cons_unit_zero (S := S208x2048) off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

/-- A later grid point leaves the same gradient, rounded. -/
theorem tile7_B (hc : ¬cond0_0 i) (xo5 : Vec F S8x128 .f32) (xo8 : Vec F S1x2048 .f32) :
    out0_B_7 c i a1 h1 a2 h2 a3 h3 a4 h4 a5 h5 a6 h6 a7 h7 a8 h8 a9 h9 hc x0 x1 x2 x3 x4 xo5 xo8 = k0_pay1 (k0_pay16 (BitVec.ofNat 32 (i 0).val) (k0_pay5 i) (k0_pay6 x0 x1 x2) (k0_pay7 x4) (k0_pay9 x0 x1 x2) (k0_pay10 x0 x1 x2) (k0_pay12 x0 x1 x2 x4) x3) := by
  unfold out0_B_7
  rw [View.read_writes_eq_canon _ _ _ (cover0_B_7 c i a1 h1 a2 h2 a3 h3 a4 h4 a5 h5 a6 h6 a7 h7 a8 h8 a9 h9 hc x0 x1 x2 x3 x4 xo5 xo8)]
  unfold kernelRun0_B
  dsimp only
  try sl_unfold_words
  rw [View.canon_cons_unit_zero (S := S208x2048) off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

/-- The first grid point leaves its share of the gradient by the weights, added to zeros. -/
theorem tile8_A (hc : cond0_0 i) :
    out0_A_8 c i a1 h1 a2 h2 a3 h3 a4 h4 a5 h5 a6 h6 a7 h7 a8 h8 a9 h9 hc x0 x1 x2 x3 x4 = k0_pay2 (k0_pay15 (BitVec.ofNat 32 (i 0).val) (k0_pay5 i) (k0_pay11 x0 x1 x2) (k0_pay12 x0 x1 x2 x4) x3) (k0_pay4 (F := F)) := by
  unfold out0_A_8
  rw [View.read_writes_eq_canon _ _ _ (cover0_A_8 c i a1 h1 a2 h2 a3 h3 a4 h4 a5 h5 a6 h6 a7 h7 a8 h8 a9 h9 hc x0 x1 x2 x3 x4)]
  unfold kernelRun0_A
  dsimp only
  try sl_unfold_words
  rw [View.canon_cons_unit_zero (S := S1x2048) off_zero, View.readCov_unit_zero (S := S1x2048) _ off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

/-- A later grid point leaves its share of the gradient by the weights, added to what the point before left. -/
theorem tile8_B (hc : ¬cond0_0 i) (xo5 : Vec F S8x128 .f32) (xo8 : Vec F S1x2048 .f32) :
    out0_B_8 c i a1 h1 a2 h2 a3 h3 a4 h4 a5 h5 a6 h6 a7 h7 a8 h8 a9 h9 hc x0 x1 x2 x3 x4 xo5 xo8 = k0_pay2 (k0_pay15 (BitVec.ofNat 32 (i 0).val) (k0_pay5 i) (k0_pay11 x0 x1 x2) (k0_pay12 x0 x1 x2 x4) x3) xo8 := by
  unfold out0_B_8
  rw [View.read_writes_eq_canon _ _ _ (cover0_B_8 c i a1 h1 a2 h2 a3 h3 a4 h4 a5 h5 a6 h6 a7 h7 a8 h8 a9 h9 hc x0 x1 x2 x3 x4 xo5 xo8)]
  unfold kernelRun0_B
  dsimp only
  try sl_unfold_words
  rw [View.canon_cons_unit_zero (S := S1x2048) off_zero]
  simp only [View.readAt_eq_ld, h1.read_unread, h2.read_unread, h3.read_unread, h4.read_unread, h5.read_unread, h6.read_unread, h9.read_unread, View.ld_unit_zero (S := S208x2048) off_zero,
    View.ld_unit_zero (S := S2048x2048) off_zero, View.ld_unit_zero (S := S1x2048) off_zero, View.ld_unit_zero (S := S8x128) off_zero]

end Cert.LossHeadIdeal.Tiles

end
-- ==== Proof.Head.lean ====
/- The loss and the last norm's gradient, row by row: the row entering the norm, its distance to the target, the row's share of the loss,
   and the gradients by the row and by the weights. -/
module

public import proofs.«01_k».proof.Proof.NormGrad

@[expose] public section

noncomputable section

namespace Cert.Head

open Idealize.ShloMosaic Idealize.ShloMosaic.ValueIdx Cert.Norm

/-- Row `R` entering the last norm: the stacked row plus the mixers' row times the output weights. -/
def zrow (mt : (Mat 16 2048).Idx → EReal) (x : (Mat 4096 2048).Idx → EReal) (y : (Mat 4160 2048).Idx → EReal) (wo : (Mat 2048 2048).Idx → EReal)
    (R : Fin 4160) (k : Fin 2048) : EReal :=
  stack mt x R.val k + ∑ j : Fin 2048, y (ValueIdx.ix2 R j) * wo (ValueIdx.ix2 j k)

/-- The distance of row `R`'s norm to its target, zero on the meta rows and past the sequence. -/
def delta (z : Fin 4160 → Fin 2048 → EReal) (tg : (Mat 4096 2048).Idx → EReal) (w : Fin 2048 → EReal) (R : Fin 4160) (k : Fin 2048) : EReal :=
  if h : 16 ≤ R.val ∧ R.val < 4112 then normed (z R) k (w k) - tg (ValueIdx.ix2 (⟨R.val - 16, by omega⟩ : Fin 4096) k) else 0

/-- The gradient that reaches the norm of row `R`. -/
def du (z : Fin 4160 → Fin 2048 → EReal) (tg : (Mat 4096 2048).Idx → EReal) (w : Fin 2048 → EReal) (R : Fin 4160) (k : Fin 2048) : EReal :=
  delta z tg w R k * Ideal.ofBits .f32 0x3A000000#32

/-- An entry of the norm's gradient by a row. -/
def own (row w d : Fin 2048 → EReal) (k : Fin 2048) : EReal :=
  d k * w k * scale row + row k * pull row w d + pull row w d * row k

/-- A row's share of the loss, from its distances. -/
def loss (d : Fin 2048 → EReal) : EReal :=
  Ideal.ofBits .f32 0x3F000000#32 * Ideal.div (∑ k : Fin 2048, d k * d k) (Ideal.ofBits .f32 0x45000000#32)

/-- The word of 2048. -/
theorem word_2048 : Ideal.ofBits .f32 0x45000000#32 = ((2048 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The word of one. -/
theorem word_one : Ideal.ofBits .f32 0x3F800000#32 = ((1 : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of 1/2048. -/
theorem word_inv : Ideal.ofBits .f32 0x3A000000#32 = ((1 / 2048 : ℝ) : EReal) := by
  simp [Ideal.ofBits, Ideal.ieee, -EReal.coe_mul]; norm_num

/-- Zero divided by 2048 is zero. -/
theorem zero_over : Ideal.div 0 (Ideal.ofBits .f32 0x45000000#32) = 0 := by
  rw [word_2048]
  exact Ideal.zero_div (by norm_num)

/-- What differentiating half the mean of the squares sends back: the distance over 2048. -/
theorem back (d : EReal) : Ideal.div (Ideal.ofBits .f32 0x3F000000#32 * Ideal.ofBits .f32 0x3F800000#32) (Ideal.ofBits .f32 0x45000000#32)
    * (Ideal.ofBits .f32 0x40000000#32 * d) = d * Ideal.ofBits .f32 0x3A000000#32 := by
  rw [word_2048, word_half, word_one, word_two, word_inv, Ideal.div_coe (by norm_num), ← EReal.coe_mul, ← EReal.coe_mul, ← mul_assoc, ← EReal.coe_mul, mul_comm]
  refine congrArg (d * ·) (congrArg _ ?_)
  norm_num

/-- Half a sum is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  classical
  rw [word_half]
  induction s using Finset.induction_on with
  | empty => rw [Finset.sum_empty, Finset.sum_empty, mul_zero]
  | insert a s ha ih =>
    rw [Finset.sum_insert ha, Finset.sum_insert ha, ← ih]
    exact EReal.left_distrib_of_nonneg_of_ne_top (EReal.coe_nonneg.mpr (by norm_num)) (EReal.coe_ne_top _) _ _

/-- No gradient arriving, none sent back. -/
theorem own_zero (row w d : Fin 2048 → EReal) (k : Fin 2048) (h : ∀ j, d j = 0) : own row w d k = 0 := by
  have hp : pull row w d = 0 := by
    unfold pull
    rw [Finset.sum_eq_zero (fun j _ => by rw [h j, zero_mul, mul_zero]), zero_mul, zero_over]
  unfold own
  rw [hp, h k, zero_mul, zero_mul, mul_zero, zero_mul, add_zero, add_zero]

/-- No gradient arriving, no share of the weights' gradient. -/
theorem share_zero (row d : Fin 2048 → EReal) (k : Fin 2048) (h : d k = 0) : share row d k = 0 := by
  unfold share
  rw [h, mul_zero]

/-- No distance, no loss. -/
theorem loss_zero (d : Fin 2048 → EReal) (h : ∀ j, d j = 0) : loss d = 0 := by
  unfold loss
  rw [Finset.sum_eq_zero (fun j _ => by rw [h j, mul_zero]), zero_over, mul_zero]

/-- Outside the sequence there is no distance. -/
theorem delta_out (z : Fin 4160 → Fin 2048 → EReal) (tg : (Mat 4096 2048).Idx → EReal) (w : Fin 2048 → EReal) (R : Fin 4160)
    (h : ¬(16 ≤ R.val ∧ R.val < 4112)) (k : Fin 2048) : delta z tg w R k = 0 := by
  unfold delta
  rw [dif_neg h]

/-- Outside the sequence no gradient arrives. -/
theorem du_out (z : Fin 4160 → Fin 2048 → EReal) (tg : (Mat 4096 2048).Idx → EReal) (w : Fin 2048 → EReal) (R : Fin 4160)
    (h : ¬(16 ≤ R.val ∧ R.val < 4112)) (k : Fin 2048) : du z tg w R k = 0 := by
  unfold du
  rw [delta_out z tg w R h, zero_mul]

/-- The row of the sequence's entry `r`. -/
abbrev seq (r : Fin 4096) : Fin 4160 := ⟨16 + r.val, by omega⟩

/-- The distance on a row of the sequence. -/
theorem delta_seq (z : Fin 4160 → Fin 2048 → EReal) (tg : (Mat 4096 2048).Idx → EReal) (w : Fin 2048 → EReal) (r : Fin 4096) (k : Fin 2048) :
    delta z tg w (seq r) k = normed (z (seq r)) k (w k) - tg (ValueIdx.ix2 r k) := by
  have hr := r.isLt
  unfold delta
  rw [dif_pos ⟨by show 16 ≤ 16 + r.val; omega, by show 16 + r.val < 4112; omega⟩]
  refine congrArg (_ - ·) (congrArg tg (funext fun a => Fin.ext ?_))
  match a with
  | ⟨0, _⟩ => show 16 + r.val - 16 = r.val; omega
  | ⟨1, _⟩ => rfl

/-- A sum over all rows of what is zero outside the sequence is the sum over the sequence. -/
theorem sum_seq (f : Fin 4160 → EReal) (h : ∀ R : Fin 4160, ¬(16 ≤ R.val ∧ R.val < 4112) → f R = 0) :
    ∑ R : Fin 4160, f R = ∑ r : Fin 4096, f (seq r) := by
  refine (Finset.sum_of_injOn seq (fun a _ b _ e => ?_) (fun _ _ => Finset.mem_univ _) (fun R _ hR => h R fun hb => hR ?_) (fun _ _ => rfl)).symm
  · have := congrArg Fin.val e
    exact Fin.ext (by simp only [seq] at this; omega)
  · exact ⟨⟨R.val - 16, by omega⟩, Finset.mem_coe.mpr (Finset.mem_univ _), Fin.ext (by show 16 + (R.val - 16) = R.val; omega)⟩

/-- A sum over all rows of what is zero past the sequence is the sum over the rows up to its end. -/
theorem sum_real (f : Fin 4160 → EReal) (h : ∀ R : Fin 4160, ¬R.val < 4112 → f R = 0) :
    ∑ R : Fin 4160, f R = ∑ r : Fin 4112, f ⟨r.val, by omega⟩ := by
  refine (Finset.sum_of_injOn (fun r : Fin 4112 => (⟨r.val, by omega⟩ : Fin 4160)) (fun a _ b _ e => ?_) (fun _ _ => Finset.mem_univ _)
    (fun R _ hR => h R fun hb => hR ?_) (fun _ _ => rfl)).symm
  · exact Fin.ext (Fin.mk.inj e)
  · exact ⟨⟨R.val, hb⟩, Finset.mem_coe.mpr (Finset.mem_univ _), rfl⟩

end Cert.Head

end
-- ==== Proof.LossHeadBlocks.lean ====
/- The blocks of one grid point of the loss head, entry by entry. -/
module

public import proofs.«01_k».proof.Proof.Head
public import proofs.«01_k».proof.Proof.Products
public import proofs.«01_k».proof.Proof.Gen.LossHeadIdeal.Value

@[expose] public section

noncomputable section

namespace Cert.LossHeadIdeal.Blocks

open Cert.LossHeadIdeal Cert.LossHeadIdeal.Gen Idealize.ShloMosaic Idealize.ShloMosaic.TcCoe Idealize.SL.Sem
open Idealize.ShloMosaic.ValueIdx
open Cert.Norm (spread col_sum one_sum row_sum)

/-- The one row of weights. -/
abbrev wts (x : Vec Ideal S1x2048 .f32) : Fin 2048 → EReal := fun k => x (ix2 (0 : Fin 1) k)

/-- A sum over a column, spread over the block of losses. -/
theorem all_sum (v : FVec Ideal S208x1 .f32) (i : S8x128.Idx) :
    broadcastTo S8x128 (shapeCast S1x1 (multiReduction (F := Ideal) .add [0] S1 v 0x00000000#32 reduces_S208x1_S1 (.inl rfl) rfl) shapeCasts_S1_S1x1) broadcasts_S1x1_S8x128 i
      = ∑ r : Fin 208, v (ix2 r (0 : Fin 1)) := by
  refine (broadcastTo_apply _ _ i (ix2 (0 : Fin 1) (0 : Fin 1)) fun a => ?_).trans ?_
  · match a with
    | ⟨0, _⟩ => rfl
    | ⟨1, _⟩ => rfl
  refine (shapeCast_a_1a_apply _ shapeCasts_S1_S1x1 0 0).trans ?_
  refine (Ideal.multiReduction_add_single (φ := .f32) v _ reduces_S208x1_S1 (.inl rfl) rfl (ix1 0)).trans ?_
  refine Finset.sum_congr rfl fun k _ => congrArg v (funext fun a => ?_)
  match a with
  | ⟨0, _⟩ => rfl
  | ⟨1, _⟩ => rfl

variable (x0 : Vec Ideal S208x2048 .f32) (x1 : Vec Ideal S208x2048 .bf16) (x2 : Vec Ideal S2048x2048 .bf16) (x3 : Vec Ideal S208x2048 .f32) (x4 : Vec Ideal S1x2048 .f32)

/-- Row `r` of the block entering the norm. -/
def zs (r : Fin 208) (k : Fin 2048) : EReal := x0 (ix2 r k) + ∑ j : Fin 2048, x1 (ix2 r j) * x2 (ix2 j k)

/-- The block entering the norm: the stacked rows plus a product. -/
theorem block_z (r : Fin 208) (k : Fin 2048) : k0_pay6 (F := Ideal) x0 x1 x2 (ix2 r k) = zs x0 x1 x2 r k := by
  unfold k0_pay6
  rw [shapeCast_self, shapeCast_self]
  exact Products.acc_nn (M := 208) (K := 2048) (N := 2048) x0 x1 x2 (ix2 r k)

/-- The column of the rows' mean squares. -/
theorem col_msq (r : Fin 208) (u : Fin 1) : k0_pay8 (F := Ideal) x0 x1 x2 (ix2 r u) = Norm.msq (zs x0 x1 x2 r) := by
  unfold k0_pay8
  show Ideal.div (shapeCast S208x1 (multiReduction (F := Ideal) .add [1] S208 (mulf (k0_pay6 (F := Ideal) x0 x1 x2) (k0_pay6 (F := Ideal) x0 x1 x2)) 0x00000000#32 reduces_S208x2048_S208 (.inl rfl) rfl) shapeCasts_S208_S208x1 (ix2 r u)) _ + _ = _
  rw [col_sum]
  unfold Norm.msq
  refine congrArg (fun s => Ideal.div s _ + _) (Finset.sum_congr rfl fun k _ => ?_)
  show k0_pay6 (F := Ideal) x0 x1 x2 (ix2 r k) * k0_pay6 (F := Ideal) x0 x1 x2 (ix2 r k) = _
  rw [block_z]

/-- The column of the rows' scales. -/
theorem col_scale (r : Fin 208) (u : Fin 1) : k0_pay9 (F := Ideal) x0 x1 x2 (ix2 r u) = Norm.scale (zs x0 x1 x2 r) := by
  unfold k0_pay9
  show Ideal.rsqrt (k0_pay8 (F := Ideal) x0 x1 x2 (ix2 r u)) = _
  rw [col_msq]
  rfl

/-- The column of what differentiating the scales multiplies by. -/
theorem col_half (r : Fin 208) (u : Fin 1) : k0_pay10 (F := Ideal) x0 x1 x2 (ix2 r u)
    = Ideal.ofBits .f32 0xBF000000#32 * Ideal.div (Norm.scale (zs x0 x1 x2 r)) (Norm.msq (zs x0 x1 x2 r)) := by
  unfold k0_pay10
  show Ideal.ofBits .f32 0xBF000000#32 * Ideal.div (k0_pay9 (F := Ideal) x0 x1 x2 (ix2 r u)) (k0_pay8 (F := Ideal) x0 x1 x2 (ix2 r u)) = _
  rw [col_msq, col_scale]

/-- The block times its scales. -/
theorem block_scaled (r : Fin 208) (k : Fin 2048) : k0_pay11 (F := Ideal) x0 x1 x2 (ix2 r k) = zs x0 x1 x2 r k * Norm.scale (zs x0 x1 x2 r) := by
  unfold k0_pay11
  show k0_pay6 (F := Ideal) x0 x1 x2 (ix2 r k) * broadcastTo S208x2048 (k0_pay9 (F := Ideal) x0 x1 x2) broadcasts_S208x1_S208x2048 (ix2 r k) = _
  rw [spread, col_scale, block_z]

/-- The weights spread over the rows. -/
theorem block_wts (r : Fin 208) (k : Fin 2048) : broadcastTo S208x2048 (k0_pay7 (F := Ideal) x4) broadcasts_S1x2048_S208x2048 (ix2 r k) = wts x4 k := by
  unfold k0_pay7
  rw [shapeCast_self]
  exact broadcastTo_1b_ab_apply x4 broadcasts_S1x2048_S208x2048 r k

/-- The block of norms. -/
theorem block_normed (r : Fin 208) (k : Fin 2048) : k0_pay12 (F := Ideal) x0 x1 x2 x4 (ix2 r k) = Norm.normed (zs x0 x1 x2 r) k (wts x4 k) := by
  unfold k0_pay12
  show k0_pay11 (F := Ideal) x0 x1 x2 (ix2 r k) * broadcastTo S208x2048 (k0_pay7 (F := Ideal) x4) broadcasts_S1x2048_S208x2048 (ix2 r k) = _
  rw [block_wts, block_scaled]
  rfl

variable (a : BitVec 32) (v13 : FVec Ideal S208x1 .f32) (v37 : FVec Ideal S208x2048 .f32)

/-- The gradient that reaches the norm of a block's row, from its distances to the target. -/
abbrev du (r : Fin 208) : Fin 2048 → EReal := fun k => k0_pay13 (F := Ideal) a v13 v37 x3 (ix2 r k) * Ideal.ofBits .f32 0x3A000000#32

/-- The block of the gradient by the rows. -/
theorem block_own (r : Fin 208) (k : Fin 2048) :
    k0_pay16 (F := Ideal) a v13 (k0_pay6 x0 x1 x2) (k0_pay7 x4) (k0_pay9 x0 x1 x2) (k0_pay10 x0 x1 x2) v37 x3 (ix2 r k)
      = Head.own (zs x0 x1 x2 r) (wts x4) (du x3 a v13 v37 r) k := by
  unfold k0_pay16 k0_pay14
  unfold du
  generalize k0_pay13 (F := Ideal) a v13 v37 x3 = D
  simp only [addf, mulf, spread, one_sum, col_scale]
  have hp : ∀ p q : EReal, p = q → (D (ix2 r k) * Ideal.ofBits .f32 0x3A000000#32 * broadcastTo S208x2048 (k0_pay7 (F := Ideal) x4) broadcasts_S1x2048_S208x2048 (ix2 r k) * Norm.scale (zs x0 x1 x2 r)
        + k0_pay6 (F := Ideal) x0 x1 x2 (ix2 r k) * p + p * k0_pay6 (F := Ideal) x0 x1 x2 (ix2 r k) : EReal)
      = D (ix2 r k) * Ideal.ofBits .f32 0x3A000000#32 * wts x4 k * Norm.scale (zs x0 x1 x2 r) + zs x0 x1 x2 r k * q + q * zs x0 x1 x2 r k := fun p q e => by rw [e, block_wts, block_z]
  refine hp _ (Norm.pull (zs x0 x1 x2 r) (wts x4) (fun k => D (ix2 r k) * Ideal.ofBits .f32 0x3A000000#32)) ?_
  refine (one_sum _ _ _ r 0).trans ?_
  show Ideal.div (shapeCast S208x1 (multiReduction (F := Ideal) .add [1] S208 (mulf (k0_pay6 (F := Ideal) x0 x1 x2) (mulf (mulf D (broadcast S208x2048 (Ideal.ofBits .f32 0x3A000000#32))) (broadcastTo S208x2048 (k0_pay7 (F := Ideal) x4) broadcasts_S1x2048_S208x2048))) 0x00000000#32 reduces_S208x2048_S208 (.inl rfl) rfl) shapeCasts_S208_S208x1 (ix2 r (0 : Fin 1))
    * k0_pay10 (F := Ideal) x0 x1 x2 (ix2 r (0 : Fin 1))) (Ideal.ofBits .f32 0x45000000#32) = _
  rw [col_sum, col_half]
  unfold Norm.pull
  refine congrArg (fun s => Ideal.div (s * _) _) (Finset.sum_congr rfl fun k _ => ?_)
  show k0_pay6 (F := Ideal) x0 x1 x2 (ix2 r k) * (D (ix2 r k) * Ideal.ofBits .f32 0x3A000000#32 * broadcastTo S208x2048 (k0_pay7 (F := Ideal) x4) broadcasts_S1x2048_S208x2048 (ix2 r k)) = _
  rw [block_wts, block_z]

/-- The block's share of the gradient by the weights. -/
theorem block_share (k : Fin 2048) : k0_pay15 (F := Ideal) a v13 (k0_pay11 x0 x1 x2) v37 x3 (ix2 (0 : Fin 1) k)
    = ∑ r : Fin 208, Norm.share (zs x0 x1 x2 r) (du x3 a v13 v37 r) k := by
  unfold k0_pay15
  refine (row_sum _ _ _ k).trans (Finset.sum_congr rfl fun r _ => ?_)
  unfold k0_pay14
  show k0_pay11 (F := Ideal) x0 x1 x2 (ix2 r k) * (k0_pay13 (F := Ideal) a v13 v37 x3 (ix2 r k) * Ideal.ofBits .f32 0x3A000000#32) = _
  rw [block_scaled]
  rfl

/-- The block of losses: what it held, plus the rows' shares. -/
theorem block_loss (acc : Vec Ideal S8x128 .f32) (i : S8x128.Idx) : k0_pay17 (F := Ideal) a v13 v37 x3 acc i
    = acc i + ∑ r : Fin 208, Head.loss (fun k => k0_pay13 (F := Ideal) a v13 v37 x3 (ix2 r k)) := by
  unfold k0_pay17
  generalize k0_pay13 (F := Ideal) a v13 v37 x3 = D
  rw [shapeCast_self]
  refine congrArg (acc i + ·) ((all_sum _ i).trans (Finset.sum_congr rfl fun r _ => ?_))
  show Ideal.ofBits .f32 0x3F000000#32 * Ideal.div (shapeCast S208x1 (multiReduction (F := Ideal) .add [1] S208 (mulf D D) 0x00000000#32 reduces_S208x2048_S208 (.inl rfl) rfl) shapeCasts_S208_S208x1 (ix2 r (0 : Fin 1))) (Ideal.ofBits .f32 0x45000000#32) = _
  rw [col_sum]
  rfl

/-- The word that says whether a row belongs to the sequence. -/
def belongs (t : Fin 20) (r : Fin 208) : BitVec 32 :=
  (IntOp.andi (IntOp.cmpi .sge (IntOp.addi (Scalar.muli (BitVec.ofNat 32 t.val) 208#32) (BitVec.ofNat 32 (0 * 208 + r.val))) 16#32)
    (IntOp.cmpi .slt (IntOp.addi (Scalar.muli (BitVec.ofNat 32 t.val) 208#32) (BitVec.ofNat 32 (0 * 208 + r.val))) 4112#32)).setWidth 32

/-- It is one on the sequence's rows and zero elsewhere. -/
theorem belongs_eq : ∀ (t : Fin 20) (r : Fin 208), (belongs t r).toInt = if 16 ≤ t.val * 208 + r.val ∧ t.val * 208 + r.val < 4112 then 1 else 0 := by
  decide +kernel

/-- The column that masks a block's rows. -/
theorem col_mask (i : grid0.Coords) (t : Fin 20) (ht : (i 0).val = t.val) (r : Fin 208) (u : Fin 1) :
    k0_pay5 (F := Ideal) i (ix2 r u) = if 16 ≤ t.val * 208 + r.val ∧ t.val * 208 + r.val < 4112 then 1 else 0 := by
  have e : k0_pay5 (F := Ideal) i (ix2 r u) = (((belongs t r).toInt : ℝ) : EReal) := by
    unfold k0_pay5 belongs
    rw [ht]
    rfl
  rw [e, belongs_eq]
  split <;> simp

/-- The row of the block of targets a row is compared with. -/
def src (t : Fin 20) (r : Fin 208) : Fin 208 :=
  if t.val = 0 then ⟨(r.val + 192) % 208, Nat.mod_lt _ (by decide)⟩ else if t.val = 19 then ⟨(r.val + 48) % 208, Nat.mod_lt _ (by decide)⟩ else r

/-- The block of targets, turned by 16 rows. -/
theorem turned (x : FVec Ideal S208x2048 .f32) (r : Fin 208) (k : Fin 2048) :
    dynamicRotate 0 16#32 none x rotates_S208x2048_d0 (ix2 r k) = x (ix2 (⟨(r.val + 192) % 208, Nat.mod_lt _ (by decide)⟩ : Fin 208) k) := by
  refine dynamicRotate_apply _ _ _ _ _ _ fun b => ?_
  match b with
  | ⟨0, _⟩ => show (r.val + 192) % 208 = (r.val + 208 - 16) % 208; omega
  | ⟨1, _⟩ => rfl

/-- The block of targets, turned by 160 rows. -/
theorem turned_more (x : FVec Ideal S208x2048 .f32) (r : Fin 208) (k : Fin 2048) :
    dynamicRotate 0 160#32 none x rotates_S208x2048_d0 (ix2 r k) = x (ix2 (⟨(r.val + 48) % 208, Nat.mod_lt _ (by decide)⟩ : Fin 208) k) := by
  refine dynamicRotate_apply _ _ _ _ _ _ fun b => ?_
  match b with
  | ⟨0, _⟩ => show (r.val + 48) % 208 = (r.val + 208 - 160) % 208; omega
  | ⟨1, _⟩ => rfl

/-- Whether this is the first grid point. -/
theorem first : ∀ t : Fin 20, Scalar.cmpi .eq (BitVec.ofNat 32 t.val) 0#32 = if t.val = 0 then 1 else 0 := by decide +kernel

/-- Whether this is the last grid point. -/
theorem last : ∀ t : Fin 20, Scalar.cmpi .eq (BitVec.ofNat 32 t.val) 19#32 = if t.val = 19 then 1 else 0 := by decide +kernel

/-- The block of distances: the norm less its target, masked. -/
theorem block_delta (i : grid0.Coords) (t : Fin 20) (ht : (i 0).val = t.val) (r : Fin 208) (k : Fin 2048) :
    k0_pay13 (F := Ideal) (BitVec.ofNat 32 (i 0).val) (k0_pay5 i) v37 x3 (ix2 r k)
      = (v37 (ix2 r k) - x3 (ix2 (src t r) k)) * (if 16 ≤ t.val * 208 + r.val ∧ t.val * 208 + r.val < 4112 then 1 else 0) := by
  rw [← col_mask i t ht r 0]
  unfold k0_pay13
  rw [ht]
  simp only [mulf, subf, spread, first, last]
  refine congrArg (fun q : EReal => (v37 (ix2 r k) - q) * k0_pay5 (F := Ideal) i (ix2 r (0 : Fin 1))) ?_
  unfold src
  by_cases h0 : t.val = 0
  · have h1 : ¬t.val = 19 := by omega
    rw [if_pos h0, if_neg h1, if_pos h0]
    exact turned x3 r k
  · by_cases h1 : t.val = 19
    · rw [if_neg h0, if_pos h1, if_neg h0, if_pos h1]
      exact turned_more x3 r k
    · rw [if_neg h0, if_neg h1, if_neg h0, if_neg h1]
      rfl

end Cert.LossHeadIdeal.Blocks

end
-- ==== Proof.LossHeadRef.lean ====
/- What the reference of the loss head computes, row by row. -/
module

public import proofs.«01_k».proof.Proof.Head
public import proofs.«01_k».proof.Proof.Gen.LossHeadRefIdeal.Read
public import Idealize.ShloMosaic.Lib.ValueIdxRank1

@[expose] public section

noncomputable section

namespace Cert.LossHeadRefIdeal.Rows

open Cert.LossHeadRefIdeal Cert.LossHeadRefIdeal.Gen Cert.LossHeadRefIdeal.Read Idealize.ShloMosaic Idealize.ShloMosaic.ValueIdx

variable (x0 : Vec Ideal S16x2048 .f32) (x1 : Vec Ideal S4096x2048 .f32) (x2 : Vec Ideal S4160x2048 .bf16) (x3 : Vec Ideal S2048x2048 .f32)
  (x4 : Vec Ideal S4096x2048 .f32) (x5 : Vec Ideal S2048 .f32)

/-- The weights of the last norm. -/
abbrev wts : Fin 2048 → EReal := fun k => x5 (ix1 k)

/-- The rows entering the last norm. -/
abbrev zs : Fin 4160 → Fin 2048 → EReal := Head.zrow x0 x1 x2 x3

/-- A row of the sequence and the meta tokens, among all rows. -/
abbrev up (r : Fin 4112) : Fin 4160 := ⟨r.val, by omega⟩

/-- The reference's rows entering the last norm. -/
theorem ref_z (r : Fin 4112) (k : Fin 2048) : val_main_v4 (F := Ideal) x0 x1 x2 x3 (ix2 r k) = zs x0 x1 x2 x3 (up r) k := by
  rw [val_main_v4_apply]
  have h0 : val_main_v0 (F := Ideal) x0 x1 (ix2 r k) = Norm.stack x0 x1 r.val k := Norm.concat_two x0 x1 _ (ix2 r k)
  rw [h0, val_main_v3_apply]
  refine congrArg (Norm.stack x0 x1 r.val k + ·) (Finset.sum_congr rfl fun j _ => ?_)
  rw [val_main_v2_apply, val_main_v1_apply]
  refine congrArg₂ (· * ·) (congrArg x2 (funext fun a => ?_)) (congrArg x3 (funext fun a => ?_))
  · match a with
    | ⟨0, _⟩ => rfl
    | ⟨1, _⟩ => rfl
  · match a with
    | ⟨0, _⟩ => rfl
    | ⟨1, _⟩ => rfl

/-- The reference's column of mean squares. -/
theorem ref_msq (r : Fin 4112) (u : Fin 1) : val_main_v11 (F := Ideal) x0 x1 x2 x3 (ix2 r u) = Norm.msq (zs x0 x1 x2 x3 (up r)) := by
  rw [val_main_v11_apply, val_main_v9_apply, val_main_v7_apply, val_main_v6_apply]
  have hz : val_main_cst (F := Ideal) (Shape.Idx.first h_S_) = 0 := Ideal.ofBits_zero_f32
  rw [hz, zero_add]
  have hs : ∀ k : Fin 2048, val_main_v5 (F := Ideal) x0 x1 x2 x3 (idx_main_v6 (idx_main_v7 (ix2 r u)) k) = zs x0 x1 x2 x3 (up r) k * zs x0 x1 x2 x3 (up r) k := fun k => by
    have hi : idx_main_v6 (idx_main_v7 (ix2 r u)) k = ix2 r k := by
      funext a
      match a with
      | ⟨0, _⟩ => rfl
      | ⟨1, _⟩ => rfl
    rw [val_main_v5_apply, hi, ref_z]
    rfl
  simp only [hs]
  rfl

/-- The reference's column of scales. -/
theorem ref_scale (r : Fin 4112) (u : Fin 1) : val_main_v12 (F := Ideal) x0 x1 x2 x3 (ix2 r u) = Norm.scale (zs x0 x1 x2 x3 (up r)) := by
  rw [val_main_v12_apply, ref_msq]
  rfl

/-- The reference's rows times their scales. -/
theorem ref_scaled (r : Fin 4112) (k : Fin 2048) :
    val_main_v17 (F := Ideal) x0 x1 x2 x3 (ix2 r k) = zs x0 x1 x2 x3 (up r) k * Norm.scale (zs x0 x1 x2 x3 (up r)) := by
  have hi : idx_main_v16 (ix2 r k) = ix2 r (0 : Fin 1) := by
    funext a
    match a with
    | ⟨0, _⟩ => rfl
    | ⟨1, _⟩ => rfl
  rw [val_main_v17_apply, val_main_v16_apply, hi, ref_scale, ref_z]
  rfl

/-- The reference's weights as a row. -/
theorem ref_wts (k : Fin 2048) : val_main_v18 (F := Ideal) x5 (ix2 (0 : Fin 1) k) = wts x5 k := by
  rw [val_main_v18_apply]
  refine congrArg x5 (funext fun a => ?_)
  match a with
  | ⟨0, _⟩ => first | rfl | exact Fin.ext (by show 0 * 2048 + k.val = k.val; omega) | exact Fin.ext (Nat.mod_eq_of_lt k.isLt)

/-- The reference's norm of a row. -/
theorem ref_normed (r : Fin 4112) (k : Fin 2048) :
    val_main_v20 (F := Ideal) x0 x1 x2 x3 x5 (ix2 r k) = Norm.normed (zs x0 x1 x2 x3 (up r)) k (wts x5 k) := by
  have hi : idx_main_v19 (ix2 r k) = ix2 (0 : Fin 1) k := by
    funext a
    match a with
    | ⟨0, _⟩ => rfl
    | ⟨1, _⟩ => rfl
  rw [val_main_v20_apply, val_main_v19_apply, hi, ref_wts, ref_scaled]
  rfl

/-- The reference's distance to the target. -/
theorem ref_err (r : Fin 4096) (k : Fin 2048) :
    val_main_v22 (F := Ideal) x0 x1 x2 x3 x4 x5 (ix2 r k) = Head.delta (zs x0 x1 x2 x3) x4 (wts x5) (Head.seq r) k := by
  have hi : idx_main_v21 (ix2 r k) = ix2 (⟨16 + r.val, by omega⟩ : Fin 4112) k := by
    funext a
    match a with
    | ⟨0, _⟩ => rfl
    | ⟨1, _⟩ => first | rfl | exact Fin.ext (by show 0 + k.val = k.val; omega)
  rw [val_main_v22_apply, val_main_v21_apply, hi, ref_normed, Head.delta_seq]
  rfl

/-- The gradient that reaches the reference's norm on the sequence. -/
theorem ref_back (r : Fin 4096) (k : Fin 2048) :
    val_main_v36 (F := Ideal) x0 x1 x2 x3 x4 x5 (ix2 r k) = Head.du (zs x0 x1 x2 x3) x4 (wts x5) (Head.seq r) k := by
  rw [val_main_v36_apply, val_main_v35_apply, val_main_v34_apply, val_main_v32_apply, val_main_v33_apply, val_main_v31_apply, val_main_v25_apply, val_main_v24_apply, ref_err]
  exact Head.back _

/-- The gradient that reaches the reference's norm, zero on the meta rows. -/
theorem ref_du (r : Fin 4112) (k : Fin 2048) :
    val_main_v37 (F := Ideal) x0 x1 x2 x3 x4 x5 (ix2 r k) = Head.du (zs x0 x1 x2 x3) x4 (wts x5) (up r) k := by
  have hr := r.isLt
  unfold val_main_v37
  by_cases h : 16 ≤ r.val
  · refine (pad_apply_of_inside _ _ _ _ _ _ _ (ix2 r k) (ix2 (⟨r.val - 16, by omega⟩ : Fin 4096) k) fun a => ?_).trans ?_
    · match a with
      | ⟨0, _⟩ => show r.val = 16 + (r.val - 16) * 1; omega
      | ⟨1, _⟩ => show k.val = 0 + k.val * 1; omega
    · rw [ref_back]
      refine congrArg (fun R => Head.du _ _ _ R k) (Fin.ext ?_)
      show 16 + (r.val - 16) = r.val
      omega
  · rw [Head.du_out _ _ _ _ (fun hh => h hh.1)]
    refine (pad_apply_of_not_inside _ _ _ _ _ _ _ (ix2 r k) 0 fun hh => ?_).trans ?_
    · have h2 : 16 ≤ r.val := hh.1
      omega
    · exact Ideal.ofBits_zero_f32

/-- The reference's gradient by the weights. -/
theorem ref_share (k : Fin 2048) : val_main_v61 (F := Ideal) x0 x1 x2 x3 x4 x5 (ix2 (0 : Fin 1) k)
    = ∑ r : Fin 4112, Norm.share (zs x0 x1 x2 x3 (up r)) (Head.du (zs x0 x1 x2 x3) x4 (wts x5) (up r)) k := by
  have hz : val_main_cst_13 (F := Ideal) (Shape.Idx.first h_S_) = 0 := Ideal.ofBits_zero_f32
  have hz' : val_main_cst_12 (F := Ideal) (Shape.Idx.first h_S_) = 0 := Ideal.ofBits_zero_f32
  rw [val_main_v61_apply, val_main_v43_apply, hz, zero_add, Fin.sum_univ_one, val_main_v40_apply, val_main_v39_apply, hz', zero_add]
  refine Finset.sum_congr rfl fun r _ => ?_
  have hr : idx_main_v39 (idx_main_v40 (idx_main_v43 (idx_main_v61 (ix2 (0 : Fin 1) k)) 0)) r = ix2 r k := by
    funext a
    match a with
    | ⟨0, _⟩ => rfl
    | ⟨1, _⟩ => exact Fin.ext (by show 0 * 2048 + (0 * 2048 + k.val) = k.val; omega)
  rw [hr, val_main_v38_apply, ref_scaled, ref_du]
  rfl

/-- The gradient that reaches the reference's scaled rows. -/
theorem ref_dw (r : Fin 4112) (k : Fin 2048) : val_main_v42 (F := Ideal) x0 x1 x2 x3 x4 x5 (ix2 r k)
    = Head.du (zs x0 x1 x2 x3) x4 (wts x5) (up r) k * wts x5 k := by
  have hi : idx_main_v41 (ix2 r k) = ix2 (0 : Fin 1) k := by
    funext a
    match a with
    | ⟨0, _⟩ => rfl
    | ⟨1, _⟩ => rfl
  rw [val_main_v42_apply, val_main_v41_apply, hi, ref_wts, ref_du]
  rfl

/-- What the reference sends back through the mean square. -/
theorem ref_pull (r : Fin 4112) (k : Fin 2048) : val_main_v53 (F := Ideal) x0 x1 x2 x3 x4 x5 (ix2 r k)
    = Norm.pull (zs x0 x1 x2 x3 (up r)) (wts x5) (Head.du (zs x0 x1 x2 x3) x4 (wts x5) (up r)) := by
  rw [val_main_v53_apply, val_main_v52_apply]
  have hz : val_main_cst_16 (F := Ideal) (Shape.Idx.first h_S_) = 0 := Ideal.ofBits_zero_f32
  have hz' : val_main_cst_14 (F := Ideal) (Shape.Idx.first h_S_) = 0 := Ideal.ofBits_zero_f32
  rw [hz, zero_add, Fin.sum_univ_one]
  have hi : idx_main_v52 (idx_main_v53 (ix2 r k)) 0 = ix2 r (0 : Fin 1) := by
    funext a
    match a with
    | ⟨0, _⟩ => rfl
    | ⟨1, _⟩ => rfl
  rw [hi, val_main_v51_apply, val_main_v49_apply, val_main_v46_apply, val_main_v45_apply, val_main_v15_apply, val_main_v13_apply, ref_scale, ref_msq, hz', zero_add]
  have hs : ∀ j : Fin 2048, val_main_v44 (F := Ideal) x0 x1 x2 x3 x4 x5 (idx_main_v45 (idx_main_v46 (ix2 r (0 : Fin 1))) j)
      = zs x0 x1 x2 x3 (up r) j * (Head.du (zs x0 x1 x2 x3) x4 (wts x5) (up r) j * wts x5 j) := fun j => by
    have hj : idx_main_v45 (idx_main_v46 (ix2 r (0 : Fin 1))) j = ix2 r j := by
      funext a
      match a with
      | ⟨0, _⟩ => exact Fin.ext (by show r.val * 1 + 0 = r.val; omega)
      | ⟨1, _⟩ => rfl
    rw [val_main_v44_apply, hj, ref_z, ref_dw]
    rfl
  simp only [hs]
  rfl

/-- An entry of the reference's gradient by the rows. -/
theorem ref_own (r : Fin 4112) (k : Fin 2048) : val_main_v57 (F := Ideal) x0 x1 x2 x3 x4 x5 (ix2 r k)
    = Head.own (zs x0 x1 x2 x3 (up r)) (wts x5) (Head.du (zs x0 x1 x2 x3) x4 (wts x5) (up r)) k := by
  have hi : idx_main_v47 (ix2 r k) = ix2 r (0 : Fin 1) := by
    funext a
    match a with
    | ⟨0, _⟩ => rfl
    | ⟨1, _⟩ => rfl
  rw [val_main_v57_apply, val_main_v55_apply, val_main_v56_apply, val_main_v54_apply, val_main_v48_apply, val_main_v47_apply, hi, ref_scale, ref_pull, ref_dw, ref_z]
  rfl

/-- The same past the sequence, where the reference fills up with zeros. -/
theorem ref_all (R : Fin 4160) (k : Fin 2048) : val_main_v58 (F := Ideal) x0 x1 x2 x3 x4 x5 (ix2 R k)
    = Head.own (zs x0 x1 x2 x3 R) (wts x5) (Head.du (zs x0 x1 x2 x3) x4 (wts x5) R) k := by
  unfold val_main_v58
  by_cases h : R.val < 4112
  · refine (pad_apply_of_inside _ _ _ _ _ _ _ (ix2 R k) (ix2 (⟨R.val, h⟩ : Fin 4112) k) fun a => ?_).trans ?_
    · match a with
      | ⟨0, _⟩ => show R.val = 0 + R.val * 1; omega
      | ⟨1, _⟩ => show k.val = 0 + k.val * 1; omega
    · exact ref_own x0 x1 x2 x3 x4 x5 ⟨R.val, h⟩ k
  · rw [Head.own_zero _ _ _ _ (Head.du_out _ _ _ _ (fun hh => h hh.2))]
    refine (pad_apply_of_not_inside _ _ _ _ _ _ _ (ix2 R k) 0 fun hh => ?_).trans ?_
    · have h2 : (R.val - 0) / 1 < 4112 := hh.2.2
      omega
    · show val_main_call0_v0 (F := Ideal) _ = _
      rw [val_main_call0_v0_apply, val_main_c_apply]
      show (((0#32 : BitVec 32).toInt : ℝ) : EReal) = 0
      simp

/-- The reference's loss. -/
theorem ref_loss (i : S8x128.Idx) : val_main_v59 (F := Ideal) x0 x1 x2 x3 x4 x5 i
    = ∑ r : Fin 4096, Head.loss (Head.delta (zs x0 x1 x2 x3) x4 (wts x5) (Head.seq r)) := by
  have hz : val_main_cst_6 (F := Ideal) (Shape.Idx.first h_S_) = 0 := Ideal.ofBits_zero_f32
  have hz' : val_main_cst_4 (F := Ideal) (Shape.Idx.first h_S_) = 0 := Ideal.ofBits_zero_f32
  rw [val_main_v59_apply, val_main_v30_apply, val_main_v29_apply, hz, zero_add]
  rw [← Equiv.sum_comp (idxEquiv1 (n := 4096)).symm]
  refine (Head.half_sum Finset.univ _).trans (Finset.sum_congr rfl fun r _ => ?_)
  unfold Head.loss
  refine congrArg (_ * ·) ?_
  have hr : (idxEquiv1 (n := 4096)).symm r = ix1 r := rfl
  rw [hr, val_main_v28_apply, val_main_v26_apply, hz', zero_add]
  have hs : ∀ k : Fin 2048, val_main_v23 (F := Ideal) x0 x1 x2 x3 x4 x5 (idx_main_v26 (ix1 r) k)
      = Head.delta (zs x0 x1 x2 x3) x4 (wts x5) (Head.seq r) k * Head.delta (zs x0 x1 x2 x3) x4 (wts x5) (Head.seq r) k := fun k => by
    have hk : idx_main_v26 (ix1 r) k = ix2 r k := by
      funext a
      match a with
      | ⟨0, _⟩ => rfl
      | ⟨1, _⟩ => rfl
    rw [val_main_v23_apply, hk, ref_err]
    rfl
  simp only [hs]
  rfl

end Cert.LossHeadRefIdeal.Rows

end
-- ==== Proof.LossHeadValue.lean ====
/- The loss, the last norm's gradient by the rows and by its weights: what the arrays hold after the run, and that it is what the
   reference computes. -/
module

public import proofs.«01_k».proof.Proof.Gap
public import proofs.«01_k».proof.Proof.LossHeadTiles
public import proofs.«01_k».proof.Proof.LossHeadBlocks
public import proofs.«01_k».proof.Proof.LossHeadRef

@[expose] public section

noncomputable section

namespace Cert.LossHeadIdeal.Equal

open Cert.LossHeadIdeal Cert.LossHeadIdeal.Gen Idealize.ShloMosaic Idealize.ShloMosaic.TcCoe Idealize.SL.Sem
open Idealize.ShloMosaic.ValueIdx

variable (m : (ℓ : Loc nD τ sig) → Buf (Elt Ideal) ℓ)

/-- The rows entering the last norm. -/
abbrev Z (c : Dev nD) : Fin 4160 → Fin 2048 → EReal := Head.zrow (m ((c : Thread nD τ).loc main_arg0)) (m ((c : Thread nD τ).loc main_arg1))
  (m ((c : Thread nD τ).loc main_arg2)) (m ((c : Thread nD τ).loc main_arg3))

/-- The last norm's weights. -/
abbrev S (c : Dev nD) : Fin 2048 → EReal := Cert.LossHeadRefIdeal.Rows.wts (m ((c : Thread nD τ).loc main_arg5))

/-- The distances of a row to its target. -/
abbrev D (c : Dev nD) (R : Fin 4160) : Fin 2048 → EReal := Head.delta (Z m c) (m ((c : Thread nD τ).loc main_arg4)) (S m c) R

/-- The gradient that reaches the norm of a row. -/
abbrev U (c : Dev nD) (R : Fin 4160) : Fin 2048 → EReal := Head.du (Z m c) (m ((c : Thread nD τ).loc main_arg4)) (S m c) R

/-- The rows reach the grid stacked. -/
theorem rows (c : Dev nD) (j : S4160x2048.Idx) : V m c main_v1 j
    = Norm.stack (m ((c : Thread nD τ).loc main_arg0)) (m ((c : Thread nD τ).loc main_arg1)) (j 0).val ⟨(j 1).val, (j 1).isLt⟩ := by
  have e : V m c main_v1 = concatenate S4160x2048 0 [⟨S16x2048, m ((c : Thread nD τ).loc main_arg0)⟩, ⟨S4096x2048, m ((c : Thread nD τ).loc main_arg1)⟩,
      ⟨S48x2048, broadcastInDim S48x2048 ![] bcast_S_S48x2048 (constant (F := Ideal) S_ .f32 0x00000000#32)⟩] concatenates_S16x2048_S4096x2048_S48x2048_S4160x2048_d0 := by
    show StableHlo.after hostOps0 (fun b => m (c, b)) main_v1 = _
    after_results
    refine Products.concat3 (V_main_arg0 m c) (V_main_arg1 m c) ?_ _
    show StableHlo.after hostOps0 (fun b => m (c, b)) main_v0 = _
    after_results
  rw [e]
  exact Norm.concat_three _ _ _ (fun _ => Ideal.ofBits_zero_f32) _ j

/-- The output weights reach the grid rounded to bf16, which over the reals changes nothing. -/
theorem weights (c : Dev nD) (j : S2048x2048.Idx) : V m c main_v2 j = m ((c : Thread nD τ).loc main_arg3) j := by
  have e : V m c main_v2 = truncf (F := Ideal) (s := S2048x2048) (φ := .f32) .bf16 (m ((c : Thread nD τ).loc main_arg3)) bitsLt_bf16_f32 := by
    show StableHlo.after hostOps0 (fun b => m (c, b)) main_v2 = _
    after_results
  rw [e]
  rfl

/-- The norm's weights reach the grid as a row. -/
theorem scales (c : Dev nD) (k : Fin 2048) : V m c main_v3 (ix2 (0 : Fin 1) k) = S m c k := by
  have e : V m c main_v3 = shapeCast S1x2048 (m ((c : Thread nD τ).loc main_arg5)) shapeCasts_S2048_S1x2048 := by
    show StableHlo.after hostOps0 (fun b => m (c, b)) main_v3 = _
    after_results
    rfl
  rw [e]
  exact shapeCast_a_1a_apply _ shapeCasts_S2048_S1x2048 0 k

/-- Where the windows of a grid point lie. -/
theorem where_in : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = (if t.val = 0 then 0 else if t.val = 19 then 3888 else t.val * 208 - 16) ∧ win0_3.index t (1 : Fin 2) = 0)
    ∧ (win0_4.index t (0 : Fin 2) = 0 ∧ win0_4.index t (1 : Fin 2) = 0) :=
  (by decide +kernel : ∀ t : Fin grid0.N, _)

/-- Where the blocks a grid point writes lie. -/
theorem where_out : ∀ t : Fin cfg0.N, (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-- A grid point's coordinate is its number. -/
theorem coord : ∀ t : Fin cfg0.N, (grid0.coords t 0).val = t.val :=
  (by decide +kernel : ∀ t : Fin grid0.N, (grid0.coords t 0).val = t.val)

/-- The row a grid point's row is. -/
abbrev at_row (t : Fin cfg0.N) (r : Fin 208) : Fin 4160 := ⟨t.val * 208 + r.val, by have : t.val < 20 := t.isLt; omega⟩

/-- A grid point's stacked rows. -/
theorem in_stack (c : Dev nD) (t : Fin cfg0.N) (r : Fin 208) (k : Fin 2048) : iblk m c 0 t (ix2 r k)
    = Norm.stack (m ((c : Thread nD τ).loc main_arg0)) (m ((c : Thread nD τ).loc main_arg1)) (at_row t r).val k := by
  obtain ⟨⟨a0, a1⟩, -, -, -, -⟩ := where_in t
  unfold iblk
  rw [View.read_apply]
  show V m c main_v1 _ = _
  rw [rows]
  refine congrArg₂ (Norm.stack _ _) ?_ (Fin.ext ?_)
  · show win0_0.index t (0 : Fin 2) * 208 + 1 * r.val = t.val * 208 + r.val
    rw [a0]; omega
  · show win0_0.index t (1 : Fin 2) * 2048 + 1 * k.val = k.val
    rw [a1]; omega

/-- A grid point's rows of the mixers. -/
theorem in_mix (c : Dev nD) (t : Fin cfg0.N) (r : Fin 208) (k : Fin 2048) : iblk m c 1 t (ix2 r k)
    = m ((c : Thread nD τ).loc main_arg2) (ix2 (at_row t r) k) := by
  obtain ⟨-, ⟨a0, a1⟩, -, -, -⟩ := where_in t
  unfold iblk
  rw [View.read_apply]
  show V m c main_arg2 _ = _
  rw [V_main_arg2]
  refine congrArg _ (funext fun a => Fin.ext ?_)
  match a with
  | ⟨0, _⟩ => show win0_1.index t (0 : Fin 2) * 208 + 1 * r.val = t.val * 208 + r.val; rw [a0]; omega
  | ⟨1, _⟩ => show win0_1.index t (1 : Fin 2) * 2048 + 1 * k.val = k.val; rw [a1]; omega

/-- A grid point's output weights. -/
theorem in_out (c : Dev nD) (t : Fin cfg0.N) (j k : Fin 2048) : iblk m c 2 t (ix2 j k) = m ((c : Thread nD τ).loc main_arg3) (ix2 j k) := by
  obtain ⟨-, -, ⟨a0, a1⟩, -, -⟩ := where_in t
  unfold iblk
  rw [View.read_apply]
  show V m c main_v2 _ = _
  rw [weights]
  refine congrArg _ (funext fun a => Fin.ext ?_)
  match a with
  | ⟨0, _⟩ => show win0_2.index t (0 : Fin 2) * 2048 + 1 * j.val = j.val; rw [a0]; omega
  | ⟨1, _⟩ => show win0_2.index t (1 : Fin 2) * 2048 + 1 * k.val = k.val; rw [a1]; omega

/-- A grid point's rows entering the norm. -/
theorem in_z (c : Dev nD) (t : Fin cfg0.N) (r : Fin 208) : Blocks.zs (iblk m c 0 t) (iblk m c 1 t) (iblk m c 2 t) r = Z m c (at_row t r) := by
  funext k
  unfold Blocks.zs
  rw [in_stack]
  refine congrArg (_ + ·) (Finset.sum_congr rfl fun j _ => ?_)
  rw [in_mix, in_out]

/-- A grid point's weights of the norm. -/
theorem in_wts (c : Dev nD) (t : Fin cfg0.N) : Blocks.wts (iblk m c 4 t) = S m c := by
  obtain ⟨-, -, -, -, ⟨a0, a1⟩⟩ := where_in t
  funext k
  rw [← scales]
  show iblk m c 4 t (ix2 (0 : Fin 1) k) = _
  unfold iblk
  rw [View.read_apply]
  show V m c main_v3 _ = _
  refine congrArg _ (funext fun a => Fin.ext ?_)
  match a with
  | ⟨0, _⟩ => show win0_4.index t (0 : Fin 2) * 1 + 1 * 0 = 0; rw [a0]
  | ⟨1, _⟩ => show win0_4.index t (1 : Fin 2) * 2048 + 1 * k.val = k.val; rw [a1]; omega

/-- The target a row of the sequence is compared with is its own. -/
theorem in_target (c : Dev nD) (t : Fin cfg0.N) (r : Fin 208) (k : Fin 2048) (h : 16 ≤ t.val * 208 + r.val ∧ t.val * 208 + r.val < 4112) :
    iblk m c 3 t (ix2 (Blocks.src t r) k) = m ((c : Thread nD τ).loc main_arg4) (ix2 (⟨t.val * 208 + r.val - 16, by omega⟩ : Fin 4096) k) := by
  obtain ⟨-, -, -, ⟨a0, a1⟩, -⟩ := where_in t
  have hr := r.isLt
  unfold iblk
  rw [View.read_apply]
  show V m c main_arg4 _ = _
  rw [V_main_arg4]
  refine congrArg _ (funext fun a => Fin.ext ?_)
  match a with
  | ⟨0, _⟩ =>
    show win0_3.index t (0 : Fin 2) + 1 * (Blocks.src t r).val = t.val * 208 + r.val - 16
    rw [a0]
    unfold Blocks.src
    by_cases h0 : t.val = 0
    · rw [if_pos h0, if_pos h0]
      show 0 + 1 * ((r.val + 192) % 208) = _
      omega
    · by_cases h1 : t.val = 19
      · rw [if_neg h0, if_pos h1, if_neg h0, if_pos h1]
        show 3888 + 1 * ((r.val + 48) % 208) = _
        omega
      · rw [if_neg h0, if_neg h1, if_neg h0, if_neg h1]
        omega
  | ⟨1, _⟩ => show win0_3.index t (1 : Fin 2) + 1 * k.val = k.val; rw [a1]; omega

/-- A grid point's block of distances, before its readings are named. -/
abbrev dist (c : Dev nD) (t : Fin cfg0.N) : FVec Ideal S208x2048 .f32 := k0_pay13 (F := Ideal) (BitVec.ofNat 32 (grid0.coords t 0).val) (k0_pay5 (grid0.coords t))
  (k0_pay12 (iblk m c 0 t) (iblk m c 1 t) (iblk m c 2 t) (iblk m c 4 t)) (iblk m c 3 t)

/-- A grid point's distances. -/
theorem in_dist (c : Dev nD) (t : Fin cfg0.N) (r : Fin 208) (k : Fin 2048) : dist m c t (ix2 r k) = D m c (at_row t r) k := by
  unfold dist
  rw [Blocks.block_delta _ _ (grid0.coords t) t (coord t), Blocks.block_normed, in_z, in_wts]
  show _ = Head.delta _ _ _ _ _
  unfold Head.delta
  by_cases h : 16 ≤ t.val * 208 + r.val ∧ t.val * 208 + r.val < 4112
  · rw [if_pos h, dif_pos h, mul_one, in_target m c t r k h]
  · rw [if_neg h, dif_neg h, mul_zero]

/-- The gradient that reaches a grid point's norms. -/
theorem in_du (c : Dev nD) (t : Fin cfg0.N) (r : Fin 208) : Blocks.du (iblk m c 3 t) (BitVec.ofNat 32 (grid0.coords t 0).val) (k0_pay5 (grid0.coords t))
    (k0_pay12 (iblk m c 0 t) (iblk m c 1 t) (iblk m c 2 t) (iblk m c 4 t)) r = U m c (at_row t r) := by
  funext k
  exact congrArg (· * Ideal.ofBits .f32 0x3A000000#32) (in_dist m c t r k)

/-- What the array of losses is to hold: the reference's. -/
abbrev L (c : Dev nD) : Vec Ideal S8x128 .f32 := Cert.LossHeadRefIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the array of gradients by the rows is to hold: the reference's. -/
abbrev G (c : Dev nD) : Vec Ideal S4160x2048 .f32 := Cert.LossHeadRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the array of rounded gradients by the rows is to hold: the reference's. -/
abbrev H (c : Dev nD) : Vec Ideal S4160x2048 .bf16 := Cert.LossHeadRefIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the array of the gradient by the weights is to hold: the reference's. -/
abbrev W (c : Dev nD) : Vec Ideal S1x2048 .f32 := Cert.LossHeadRefIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A grid point's block of gradients by the rows. -/
abbrev grad (c : Dev nD) (t : Fin cfg0.N) : FVec Ideal S208x2048 .f32 := k0_pay16 (F := Ideal) (BitVec.ofNat 32 (grid0.coords t 0).val) (k0_pay5 (grid0.coords t))
  (k0_pay6 (iblk m c 0 t) (iblk m c 1 t) (iblk m c 2 t)) (k0_pay7 (iblk m c 4 t)) (k0_pay9 (iblk m c 0 t) (iblk m c 1 t) (iblk m c 2 t)) (k0_pay10 (iblk m c 0 t) (iblk m c 1 t) (iblk m c 2 t))
  (k0_pay12 (iblk m c 0 t) (iblk m c 1 t) (iblk m c 2 t) (iblk m c 4 t)) (iblk m c 3 t)

/-- It is the reference's at those rows. -/
theorem in_grad (c : Dev nD) (t : Fin cfg0.N) (r : Fin 208) (k : Fin 2048) : grad m c t (ix2 r k) = G m c (ix2 (at_row t r) k) := by
  unfold grad G
  rw [Blocks.block_own, Cert.LossHeadRefIdeal.Rows.ref_all, in_z, in_wts, in_du]

/-- What a grid point leaves as its block of gradients. -/
theorem point6 (c : Dev nD) (t : Fin cfg0.N) : (Gen.dats m 0 c).flushed 6 t = (cfg0.win 6).cut (grid0.coords t) (grad m c t) := by
  by_cases h : t.val % 20 = 0
  · rw [Value.flushed6_A m c t h, Tiles.tile6_A]
  · rw [Value.flushed6_B m c t h, Tiles.tile6_B]

/-- What a grid point leaves as its block of rounded gradients. -/
theorem point7 (c : Dev nD) (t : Fin cfg0.N) : (Gen.dats m 0 c).flushed 7 t = (cfg0.win 7).cut (grid0.coords t) (k0_pay1 (grad m c t)) := by
  by_cases h : t.val % 20 = 0
  · rw [Value.flushed7_A m c t h, Tiles.tile7_A]
  · rw [Value.flushed7_B m c t h, Tiles.tile7_B]

/-- A grid point writes its block of the reference's gradients. -/
theorem written6 (c : Dev nD) (t : Fin cfg0.N) : (Gen.dats m 0 c).flushed 6 t = ((cfg0.win 6).blk t).view.read (Elt Ideal) (G m c) := by
  rw [point6]
  obtain ⟨-, ⟨c0, c1⟩, -, -⟩ := where_out t
  funext y
  have hy : ((cfg0.win 6).blk t).view.emb y = ix2 (at_row t ⟨(y 0).val, (y 0).isLt⟩) (⟨(y 1).val, (y 1).isLt⟩ : Fin 2048) := by
    funext a
    refine Fin.ext ?_
    match a with
    | ⟨0, _⟩ => show win0_6.index t (0 : Fin 2) * 208 + 1 * (y 0).val = t.val * 208 + (y 0).val; rw [c0]; omega
    | ⟨1, _⟩ => show win0_6.index t (1 : Fin 2) * 2048 + 1 * (y 1).val = (y 1).val; rw [c1]; omega
  show grad m c t ((cfg0.win 6).xinj (grid0.coords t) y) = G m c (((cfg0.win 6).blk t).view.emb y)
  have hx : (cfg0.win 6).xinj (grid0.coords t) y = ix2 (⟨(y 0).val, (y 0).isLt⟩ : Fin 208) (⟨(y 1).val, (y 1).isLt⟩ : Fin 2048) := by
    funext a
    match a with
    | ⟨0, _⟩ => rfl
    | ⟨1, _⟩ => rfl
  rw [hx, hy]
  exact in_grad m c t _ _

/-- Every grid point writes its block back. -/
theorem flushes6 : ∀ t : Fin cfg0.N, (cfg0.win 6).flush t = true :=
  (by decide +kernel : ∀ t : Fin grid0.N, win0_6.flush t = true)

/-- The blocks cover the array. -/
theorem covered6 (i : S4160x2048.Idx) : ∃ t : Fin cfg0.N, (cfg0.win 6).flush t = true ∧ i ∈ ((cfg0.win 6).blk t).view.set := by
  have h0 : (i 0).val < 4160 := (i 0).isLt
  have h1 : (i 1).val < 2048 := (i 1).isLt
  have ht : (i 0).val / 208 < 20 := by omega
  obtain ⟨-, ⟨a0', a1⟩, -, -⟩ := where_out ⟨(i 0).val / 208, ht⟩
  have a0 : win0_6.index ⟨(i 0).val / 208, ht⟩ (0 : Fin 2) = (i 0).val / 208 := a0'
  refine ⟨⟨(i 0).val / 208, ht⟩, flushes6 _, ?_⟩
  show i ∈ ((View.whole main_v4_1).slice (win0_6.rect ⟨(i 0).val / 208, ht⟩)).set
  rw [View.set_slice_whole, Rect.mem_set_unit]
  intro a
  match a with
  | ⟨0, _⟩ =>
    show win0_6.index ⟨(i 0).val / 208, ht⟩ (0 : Fin 2) * 208 ≤ (i 0).val ∧ (i 0).val < win0_6.index ⟨(i 0).val / 208, ht⟩ (0 : Fin 2) * 208 + 208
    rw [a0]; omega
  | ⟨1, _⟩ =>
    show win0_6.index ⟨(i 0).val / 208, ht⟩ (1 : Fin 2) * 2048 ≤ (i 1).val ∧ (i 1).val < win0_6.index ⟨(i 0).val / 208, ht⟩ (1 : Fin 2) * 2048 + 2048
    rw [a1]; omega

/-- After the run the array of gradients is the reference's. -/
theorem final6 (c : Dev nD) : (Gen.dats m 0 c).arrAt 6 cfg0.N = G m c :=
  (Gen.dats m 0 c).arrAt_eq_of_cover 6 _ (fun t _ => written6 m c t) covered6

/-- A grid point writes its block of the reference's rounded gradients. -/
theorem written7 (c : Dev nD) (t : Fin cfg0.N) : (Gen.dats m 0 c).flushed 7 t = ((cfg0.win 7).blk t).view.read (Elt Ideal) (H m c) := by
  rw [point7]
  obtain ⟨-, -, ⟨c0, c1⟩, -⟩ := where_out t
  funext y
  have hy : ((cfg0.win 7).blk t).view.emb y = ix2 (at_row t ⟨(y 0).val, (y 0).isLt⟩) (⟨(y 1).val, (y 1).isLt⟩ : Fin 2048) := by
    funext a
    refine Fin.ext ?_
    match a with
    | ⟨0, _⟩ => show win0_7.index t (0 : Fin 2) * 208 + 1 * (y 0).val = t.val * 208 + (y 0).val; rw [c0]; omega
    | ⟨1, _⟩ => show win0_7.index t (1 : Fin 2) * 2048 + 1 * (y 1).val = (y 1).val; rw [c1]; omega
  show (k0_pay1 (F := Ideal) (grad m c t)) ((cfg0.win 7).xinj (grid0.coords t) y) = H m c (((cfg0.win 7).blk t).view.emb y)
  have hx : (cfg0.win 7).xinj (grid0.coords t) y = ix2 (⟨(y 0).val, (y 0).isLt⟩ : Fin 208) (⟨(y 1).val, (y 1).isLt⟩ : Fin 2048) := by
    funext a
    match a with
    | ⟨0, _⟩ => rfl
    | ⟨1, _⟩ => rfl
  rw [hx, hy]
  exact in_grad m c t _ _

/-- Every grid point writes its block back. -/
theorem flushes7 : ∀ t : Fin cfg0.N, (cfg0.win 7).flush t = true :=
  (by decide +kernel : ∀ t : Fin grid0.N, win0_7.flush t = true)

/-- The blocks cover the array. -/
theorem covered7 (i : S4160x2048.Idx) : ∃ t : Fin cfg0.N, (cfg0.win 7).flush t = true ∧ i ∈ ((cfg0.win 7).blk t).view.set := by
  have h0 : (i 0).val < 4160 := (i 0).isLt
  have h1 : (i 1).val < 2048 := (i 1).isLt
  have ht : (i 0).val / 208 < 20 := by omega
  obtain ⟨-, -, ⟨a0', a1⟩, -⟩ := where_out ⟨(i 0).val / 208, ht⟩
  have a0 : win0_7.index ⟨(i 0).val / 208, ht⟩ (0 : Fin 2) = (i 0).val / 208 := a0'
  refine ⟨⟨(i 0).val / 208, ht⟩, flushes7 _, ?_⟩
  show i ∈ ((View.whole main_v4_2).slice (win0_7.rect ⟨(i 0).val / 208, ht⟩)).set
  rw [View.set_slice_whole, Rect.mem_set_unit]
  intro a
  match a with
  | ⟨0, _⟩ =>
    show win0_7.index ⟨(i 0).val / 208, ht⟩ (0 : Fin 2) * 208 ≤ (i 0).val ∧ (i 0).val < win0_7.index ⟨(i 0).val / 208, ht⟩ (0 : Fin 2) * 208 + 208
    rw [a0]; omega
  | ⟨1, _⟩ =>
    show win0_7.index ⟨(i 0).val / 208, ht⟩ (1 : Fin 2) * 2048 ≤ (i 1).val ∧ (i 1).val < win0_7.index ⟨(i 0).val / 208, ht⟩ (1 : Fin 2) * 2048 + 2048
    rw [a1]; omega

/-- After the run the array of rounded gradients is the reference's. -/
theorem final7 (c : Dev nD) : (Gen.dats m 0 c).arrAt 7 cfg0.N = H m c :=
  (Gen.dats m 0 c).arrAt_eq_of_cover 7 _ (fun t _ => written7 m c t) covered7

/-- What row `r` adds to the loss, zero past the last row. -/
def lo (c : Dev nD) (r : Nat) : EReal := if h : r < 4160 then Head.loss (D m c ⟨r, h⟩) else 0

/-- What row `r` adds to the gradient by the weights, zero past the last row. -/
def sh (c : Dev nD) (k : Fin 2048) (r : Nat) : EReal := if h : r < 4160 then Norm.share (Z m c ⟨r, h⟩) (U m c ⟨r, h⟩) k else 0

/-- A sum up to the next grid point's rows. -/
theorem more (f : Nat → EReal) (n : Nat) : ∑ r ∈ Finset.range ((n + 1) * 208), f r
    = ∑ r ∈ Finset.range (n * 208), f r + ∑ r ∈ Finset.range 208, f (n * 208 + r) := by
  rw [show (n + 1) * 208 = n * 208 + 208 by omega, Finset.sum_range_add]

/-- A grid point's share of the loss. -/
theorem point_loss (c : Dev nD) (n : Nat) (hn : n < cfg0.N) : ∑ r : Fin 208, Head.loss (fun k => dist m c ⟨n, hn⟩ (ix2 r k))
    = ∑ r ∈ Finset.range 208, lo m c (n * 208 + r) := by
  have hn' : n < 20 := hn
  rw [Finset.sum_range]
  refine Finset.sum_congr rfl fun r _ => ?_
  have hr : n * 208 + r.val < 4160 := by omega
  unfold lo
  rw [dif_pos hr]
  exact congrArg Head.loss (funext fun k => in_dist m c ⟨n, hn⟩ r k)

/-- A grid point's share of the gradient by the weights. -/
theorem point_share (c : Dev nD) (n : Nat) (hn : n < cfg0.N) (k : Fin 2048) :
    k0_pay15 (F := Ideal) (BitVec.ofNat 32 (grid0.coords ⟨n, hn⟩ 0).val) (k0_pay5 (grid0.coords ⟨n, hn⟩)) (k0_pay11 (iblk m c 0 ⟨n, hn⟩) (iblk m c 1 ⟨n, hn⟩) (iblk m c 2 ⟨n, hn⟩))
      (k0_pay12 (iblk m c 0 ⟨n, hn⟩) (iblk m c 1 ⟨n, hn⟩) (iblk m c 2 ⟨n, hn⟩) (iblk m c 4 ⟨n, hn⟩)) (iblk m c 3 ⟨n, hn⟩) (ix2 (0 : Fin 1) k)
    = ∑ r ∈ Finset.range 208, sh m c k (n * 208 + r) := by
  have hn' : n < 20 := hn
  rw [Blocks.block_share, Finset.sum_range]
  refine Finset.sum_congr rfl fun r _ => ?_
  have hr : n * 208 + r.val < 4160 := by omega
  unfold sh
  rw [dif_pos hr, in_z, in_du]

/-- What the block of the loss holds after a grid point: the shares of the rows so far. -/
theorem so_far5 (c : Dev nD) (i : S8x128.Idx) : ∀ (n : Nat) (hn : n < cfg0.N), (outsAt0 m c n hn).1 i = ∑ r ∈ Finset.range ((n + 1) * 208), lo m c r := by
  intro n
  induction n with
  | zero =>
    intro hn
    rw [outsAt0_A m c ⟨0, hn⟩ rfl]
    dsimp only
    rw [Tiles.tile5_A, Blocks.block_loss]
    have hz : k0_pay3 (F := Ideal) i = 0 := Ideal.ofBits_zero_f32
    rw [hz, zero_add, more, Nat.zero_mul, Finset.range_zero, Finset.sum_empty, zero_add]
    exact (point_loss m c 0 hn).trans (by rw [Nat.zero_mul])
  | succ n ih =>
    intro hn
    have hn' : n + 1 < 20 := hn
    rw [outsAt0_B m c ⟨n + 1, hn⟩ (by show ¬(n + 1) % 20 = 0; omega)]
    dsimp only
    rw [Tiles.tile5_B, Blocks.block_loss, more (lo m c) (n + 1)]
    exact congrArg₂ (· + ·) (ih _) (point_loss m c (n + 1) hn)

/-- What the block of the gradient by the weights holds after a grid point: the shares of the rows so far. -/
theorem so_far8 (c : Dev nD) (k : Fin 2048) : ∀ (n : Nat) (hn : n < cfg0.N),
    (outsAt0 m c n hn).2.2.2 (ix2 (0 : Fin 1) k) = ∑ r ∈ Finset.range ((n + 1) * 208), sh m c k r := by
  intro n
  induction n with
  | zero =>
    intro hn
    rw [outsAt0_A m c ⟨0, hn⟩ rfl]
    dsimp only
    rw [Tiles.tile8_A]
    unfold k0_pay2
    rw [shapeCast_self]
    have hz : k0_pay4 (F := Ideal) (ix2 (0 : Fin 1) k) = 0 := Ideal.ofBits_zero_f32
    rw [more, Nat.zero_mul, Finset.range_zero, Finset.sum_empty]
    exact congrArg₂ (· + ·) hz ((point_share m c 0 hn k).trans (by rw [Nat.zero_mul]))
  | succ n ih =>
    intro hn
    have hn' : n + 1 < 20 := hn
    rw [outsAt0_B m c ⟨n + 1, hn⟩ (by show ¬(n + 1) % 20 = 0; omega)]
    dsimp only
    rw [Tiles.tile8_B]
    unfold k0_pay2
    rw [shapeCast_self, more (sh m c k) (n + 1)]
    exact congrArg₂ (· + ·) (ih _) (point_share m c (n + 1) hn k)

/-- The reference's loss, summed over all rows. -/
theorem loss_all (c : Dev nD) (i : S8x128.Idx) : L m c i = ∑ r ∈ Finset.range 4160, lo m c r := by
  unfold L
  rw [Cert.LossHeadRefIdeal.Rows.ref_loss, Finset.sum_range]
  refine (Head.sum_seq (fun R => Head.loss (D m c R)) fun R hR => Head.loss_zero _ (Head.delta_out _ _ _ R hR)).symm.trans (Finset.sum_congr rfl fun R _ => ?_)
  unfold lo
  rw [dif_pos R.isLt]

/-- The reference's gradient by the weights, summed over all rows. -/
theorem share_all (c : Dev nD) (k : Fin 2048) : W m c (ix2 (0 : Fin 1) k) = ∑ r ∈ Finset.range 4160, sh m c k r := by
  unfold W
  rw [Cert.LossHeadRefIdeal.Rows.ref_share, Finset.sum_range]
  refine (Head.sum_real (fun R => Norm.share (Z m c R) (U m c R) k) fun R hR => Head.share_zero _ _ k (Head.du_out _ _ _ R (fun hh => hR hh.2) k)).symm.trans (Finset.sum_congr rfl fun R _ => ?_)
  unfold sh
  rw [dif_pos R.isLt]

/-- Only the last grid point writes the block of the loss back. -/
theorem only5 : ∀ t : Fin cfg0.N, (cfg0.win 5).flush t = true → t.val = 19 :=
  (by decide +kernel : ∀ t : Fin grid0.N, win0_5.flush t = true → t.val = 19)

/-- The last grid point writes the one block back. -/
theorem some5 : ∃ t : Fin cfg0.N, (cfg0.win 5).flush t = true :=
  (by decide +kernel : ∃ t : Fin grid0.N, win0_5.flush t = true)

/-- After the last grid point the one block of the loss is the reference's. -/
theorem written5 (c : Dev nD) (t : Fin cfg0.N) (hf : (cfg0.win 5).flush t = true) :
    (Gen.dats m 0 c).flushed 5 t = ((cfg0.win 5).blk t).view.read (Elt Ideal) (L m c) := by
  have hl := only5 t hf
  rw [Value.flushed5]
  obtain ⟨⟨d0, d1⟩, -, -, -⟩ := where_out t
  funext y
  have h0 : (y 0).val < 8 := (y 0).isLt
  have hy : ((cfg0.win 5).blk t).view.emb y = ix2 (⟨(y 0).val, (y 0).isLt⟩ : Fin 8) (⟨(y 1).val, (y 1).isLt⟩ : Fin 128) := by
    funext a
    refine Fin.ext ?_
    match a with
    | ⟨0, _⟩ => show win0_5.index t (0 : Fin 2) * 8 + 1 * (y 0).val = (y 0).val; rw [d0]; omega
    | ⟨1, _⟩ => show win0_5.index t (1 : Fin 2) * 128 + 1 * (y 1).val = (y 1).val; rw [d1]; omega
  show (outsAt0 m c t.val t.isLt).1 ((cfg0.win 5).xinj (grid0.coords t) y) = L m c (((cfg0.win 5).blk t).view.emb y)
  have hx : (cfg0.win 5).xinj (grid0.coords t) y = ix2 (⟨(y 0).val, (y 0).isLt⟩ : Fin 8) (⟨(y 1).val, (y 1).isLt⟩ : Fin 128) := by
    funext a
    refine Fin.ext ?_
    match a with
    | ⟨0, _⟩ => show (y 0).val = (y 0).val; omega
    | ⟨1, _⟩ => rfl
  rw [hx, hy, loss_all, so_far5, hl]

/-- The one block is the array. -/
theorem covered5 (i : S8x128.Idx) : ∃ t : Fin cfg0.N, (cfg0.win 5).flush t = true ∧ i ∈ ((cfg0.win 5).blk t).view.set := by
  have h0 : (i 0).val < 8 := (i 0).isLt
  have h1 : (i 1).val < 128 := (i 1).isLt
  obtain ⟨t, ht⟩ := some5
  obtain ⟨⟨d0, d1⟩, -, -, -⟩ := where_out t
  refine ⟨t, ht, ?_⟩
  show i ∈ ((View.whole main_v4_0).slice (win0_5.rect t)).set
  rw [View.set_slice_whole, Rect.mem_set_unit]
  intro a
  match a with
  | ⟨0, _⟩ => show win0_5.index t (0 : Fin 2) * 8 ≤ (i 0).val ∧ (i 0).val < win0_5.index t (0 : Fin 2) * 8 + 8; rw [d0]; omega
  | ⟨1, _⟩ => show win0_5.index t (1 : Fin 2) * 128 ≤ (i 1).val ∧ (i 1).val < win0_5.index t (1 : Fin 2) * 128 + 128; rw [d1]; omega

/-- After the run the array of the loss is the reference's. -/
theorem final5 (c : Dev nD) : (Gen.dats m 0 c).arrAt 5 cfg0.N = L m c :=
  (Gen.dats m 0 c).arrAt_eq_of_cover 5 _ (fun t hf => written5 m c t hf) covered5

/-- Only the last grid point writes the block of the gradient by the weights back. -/
theorem only8 : ∀ t : Fin cfg0.N, (cfg0.win 8).flush t = true → t.val = 19 :=
  (by decide +kernel : ∀ t : Fin grid0.N, win0_8.flush t = true → t.val = 19)

/-- The last grid point writes the one block back. -/
theorem some8 : ∃ t : Fin cfg0.N, (cfg0.win 8).flush t = true :=
  (by decide +kernel : ∃ t : Fin grid0.N, win0_8.flush t = true)

/-- After the last grid point the one block of the gradient by the weights is the reference's. -/
theorem written8 (c : Dev nD) (t : Fin cfg0.N) (hf : (cfg0.win 8).flush t = true) :
    (Gen.dats m 0 c).flushed 8 t = ((cfg0.win 8).blk t).view.read (Elt Ideal) (W m c) := by
  have hl := only8 t hf
  rw [Value.flushed8]
  obtain ⟨-, -, -, ⟨d0, d1⟩⟩ := where_out t
  funext y
  have h0 : (y 0).val < 1 := (y 0).isLt
  have hy : ((cfg0.win 8).blk t).view.emb y = ix2 (0 : Fin 1) (⟨(y 1).val, (y 1).isLt⟩ : Fin 2048) := by
    funext a
    refine Fin.ext ?_
    match a with
    | ⟨0, _⟩ => show win0_8.index t (0 : Fin 2) * 1 + 1 * (y 0).val = 0; rw [d0]; omega
    | ⟨1, _⟩ => show win0_8.index t (1 : Fin 2) * 2048 + 1 * (y 1).val = (y 1).val; rw [d1]; omega
  show (outsAt0 m c t.val t.isLt).2.2.2 ((cfg0.win 8).xinj (grid0.coords t) y) = W m c (((cfg0.win 8).blk t).view.emb y)
  have hx : (cfg0.win 8).xinj (grid0.coords t) y = ix2 (0 : Fin 1) (⟨(y 1).val, (y 1).isLt⟩ : Fin 2048) := by
    funext a
    refine Fin.ext ?_
    match a with
    | ⟨0, _⟩ => show (y 0).val = 0; omega
    | ⟨1, _⟩ => rfl
  rw [hx, hy, share_all, so_far8, hl]

/-- The one block is the array. -/
theorem covered8 (i : S1x2048.Idx) : ∃ t : Fin cfg0.N, (cfg0.win 8).flush t = true ∧ i ∈ ((cfg0.win 8).blk t).view.set := by
  have h0 : (i 0).val < 1 := (i 0).isLt
  have h1 : (i 1).val < 2048 := (i 1).isLt
  obtain ⟨t, ht⟩ := some8
  obtain ⟨-, -, -, ⟨d0, d1⟩⟩ := where_out t
  refine ⟨t, ht, ?_⟩
  show i ∈ ((View.whole main_v4_3).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; rw [d0]; omega
  | ⟨1, _⟩ => show win0_8.index t (1 : Fin 2) * 2048 ≤ (i 1).val ∧ (i 1).val < win0_8.index t (1 : Fin 2) * 2048 + 2048; rw [d1]; omega

/-- After the run the array of the gradient by the weights is the reference's. -/
theorem final8 (c : Dev nD) : (Gen.dats m 0 c).arrAt 8 cfg0.N = W m c :=
  (Gen.dats m 0 c).arrAt_eq_of_cover 8 _ (fun t hf => written8 m c t hf) covered8

end Cert.LossHeadIdeal.Equal

end
-- ==== Proof.LossHeadClaim.lean ====
/- The value claim of the loss and of the last norm's gradient. -/
module

public import proofs.«01_k».proof.Defs
public import proofs.«01_k».proof.Proof.LossHeadValue

@[expose] public section

noncomputable section

namespace Cert.Proof.LossHead

open Idealize.ShloMosaic Idealize.SL.Sem

/-- The reference's run, its four results read by the operation that writes each. -/
theorem ref_run (m : (ℓ : Loc Cert.LossHeadRefIdeal.nD Cert.LossHeadRefIdeal.τ Cert.LossHeadRefIdeal.sig) → Buf (Elt Ideal) ℓ)
    (g : Dev Cert.LossHeadRefIdeal.nD → PrngReg) :
    θ_run (Cert.LossHeadRefIdeal.defs (F := Ideal)) (onTc (τ := Cert.LossHeadRefIdeal.τ) (Cert.LossHeadRefIdeal.main (F := Ideal))) ⟨m, fun _ => 0, g⟩
      fun r => ∀ c : Dev Cert.LossHeadRefIdeal.nD,
      r.2.mem ((c.tc : Thread Cert.LossHeadRefIdeal.nD Cert.LossHeadRefIdeal.τ).loc Cert.LossHeadRefIdeal.main_v59) = Cert.LossHeadRefIdeal.Read.val_main_v59 (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))
      ∧ r.2.mem ((c.tc : Thread Cert.LossHeadRefIdeal.nD Cert.LossHeadRefIdeal.τ).loc Cert.LossHeadRefIdeal.main_v58) = Cert.LossHeadRefIdeal.Read.val_main_v58 (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))
      ∧ r.2.mem ((c.tc : Thread Cert.LossHeadRefIdeal.nD Cert.LossHeadRefIdeal.τ).loc Cert.LossHeadRefIdeal.main_v60) = Cert.LossHeadRefIdeal.Read.val_main_v60 (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))
      ∧ r.2.mem ((c.tc : Thread Cert.LossHeadRefIdeal.nD Cert.LossHeadRefIdeal.τ).loc Cert.LossHeadRefIdeal.main_v61) = Cert.LossHeadRefIdeal.Read.val_main_v61 (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))
      ∧ r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5) :=
  (θ_run Cert.LossHeadRefIdeal.defs _ _).mono (fun _ h c => ⟨(h c).1.trans (Cert.LossHeadRefIdeal.Read.val_main_v59_eq m c), (h c).2.1.trans (Cert.LossHeadRefIdeal.Read.val_main_v58_eq m c),
      (h c).2.2.1.trans (Cert.LossHeadRefIdeal.Read.val_main_v60_eq m c), (h c).2.2.2.1.trans (Cert.LossHeadRefIdeal.Read.val_main_v61_eq m c), (h c).2.2.2.2⟩)
    (Cert.LossHeadRefIdeal.Value.run (F := Ideal) m g)

/-- Kernel and reference end with the same loss and the same gradients. -/
theorem algebraic : Cert.algebraic_LossHeadIdeal_LossHeadRefIdeal := by
  intro m g m' g' _ h
  refine ⟨fun c => Cert.LossHeadIdeal.Equal.L m c, fun c => Cert.LossHeadIdeal.Equal.G m c, fun c => Cert.LossHeadIdeal.Equal.H m c, fun c => Cert.LossHeadIdeal.Equal.W m c,
    (θ_run Cert.LossHeadIdeal.defs _ _).mono (fun _ k c => ⟨(k c).1.trans (Cert.LossHeadIdeal.Equal.final5 m c), (k c).2.1.trans (Cert.LossHeadIdeal.Equal.final6 m c),
      (k c).2.2.1.trans (Cert.LossHeadIdeal.Equal.final7 m c), (k c).2.2.2.1.trans (Cert.LossHeadIdeal.Equal.final8 m c), (k c).2.2.2.2⟩) (Cert.LossHeadIdeal.Value.run_blocks m g),
    (θ_run Cert.LossHeadRefIdeal.defs _ _).mono (fun _ k c => ⟨(k c).1.trans ?_, (k c).2.1.trans ?_, (k c).2.2.1.trans ?_, (k c).2.2.2.1.trans ?_, (k c).2.2.2.2⟩) (ref_run m' g')⟩
  all_goals rw [(h c).1, (h c).2.1, (h c).2.2.1, (h c).2.2.2.1, (h c).2.2.2.2.1, (h c).2.2.2.2.2]

end Cert.Proof.LossHead

end
-- ==== Proof.RsWOutAddClaim.lean ====
/- The value claim of the sum of the two cores' gradients of the output projection's weights, rounded to bf16. -/
module

public import proofs.«01_k».proof.Defs
public import proofs.«01_k».proof.Proof.Gen.RsWOutAddIdeal.Value
public import proofs.«01_k».proof.Proof.Gen.RsWOutAddRefIdeal.Read

@[expose] public section

noncomputable section

namespace Cert.Proof.RsWOutAdd

open Idealize.ShloMosaic Idealize.SL.Sem

/-- Kernel and reference end with the same sums. -/
theorem algebraic : Cert.algebraic_RsWOutAddIdeal_RsWOutAddRefIdeal := by
  intro m g m' g' _ h
  refine ⟨_, Cert.RsWOutAddIdeal.Value.run m g,
    (θ_run Cert.RsWOutAddRefIdeal.defs _ _).mono (fun _ k c => ⟨(k c).1.trans ?_, (k c).2⟩) (Cert.RsWOutAddRefIdeal.Value.run (F := Ideal) m' g')⟩
  rw [(h c).1, (h c).2]
  rfl

end Cert.Proof.RsWOutAdd

end
-- ==== Proof.RsSmallAddClaim.lean ====
/- The value claim of the sum of the two cores' gradients of the small parameters, rounded to bf16. -/
module

public import proofs.«01_k».proof.Defs
public import proofs.«01_k».proof.Proof.Gen.RsSmallAddIdeal.Value
public import proofs.«01_k».proof.Proof.Gen.RsSmallAddRefIdeal.Read

@[expose] public section

noncomputable section

namespace Cert.Proof.RsSmallAdd

open Idealize.ShloMosaic Idealize.SL.Sem

/-- Kernel and reference end with the same sums. -/
theorem algebraic : Cert.algebraic_RsSmallAddIdeal_RsSmallAddRefIdeal := by
  intro m g m' g' _ h
  refine ⟨_, Cert.RsSmallAddIdeal.Value.run m g,
    (θ_run Cert.RsSmallAddRefIdeal.defs _ _).mono (fun _ k c => ⟨(k c).1.trans ?_, (k c).2⟩) (Cert.RsSmallAddRefIdeal.Value.run (F := Ideal) m' g')⟩
  rw [(h c).1, (h c).2]
  rfl

end Cert.Proof.RsSmallAdd

end
-- ==== Proof.RsWInSumClaim.lean ====
/- The value claim of the sum of the four chips' gradients of the input projection's weights: what one grid point computes,
   what the array holds after the run, and that it is the reference's. -/
module

public import proofs.«01_k».proof.Defs
public import proofs.«01_k».proof.Proof.Gen.RsWInSumIdeal.Value
public import proofs.«01_k».proof.Proof.Gen.RsWInSumRefIdeal.Read
public import Idealize.ShloMosaic.Lib.IdealHost

@[expose] public section

noncomputable section

namespace Cert.Proof.RsWInSum

open Cert.RsWInSumIdeal Cert.RsWInSumIdeal.Gen Idealize.ShloMosaic Idealize.ShloMosaic.TcCoe Idealize.SL.Sem
open Idealize.ShloMosaic.ValueIdx
open Cert.RsWInSumRefIdeal.Read (val_main_v1 val_main_v1_apply idx_main_v1)

/-- Where a block of the four chips' rows is read for one of its entries. -/
def chip (k : Fin 4) (y : S128x2084.Idx) : S4x128x2084.Idx := fun a => match a with
  | ⟨0, _⟩ => ⟨k.val, k.isLt⟩
  | ⟨1, _⟩ => ⟨(y 0).val, (y 0).isLt⟩
  | ⟨2, _⟩ => ⟨(y 1).val, (y 1).isLt⟩

/-- A grid point adds the four chips' entries. -/
theorem point (x0 : Vec Ideal S4x128x2084 .bf16) (y : S128x2084.Idx) : out0_1 x0 y = ∑ k : Fin 4, (x0 (chip k y) : EReal) := by
  have e (k : Fin 4) (z : S4x128x2084.Idx) (h0 : (z 0).val = k.val) (h1 : (z 1).val = (y 0).val) (h2 : (z 2).val = (y 1).val) : x0 z = x0 (chip k y) :=
    congrArg x0 (funext fun a => Fin.ext (by match a with | ⟨0, _⟩ => exact h0 | ⟨1, _⟩ => exact h1 | ⟨2, _⟩ => exact h2))
  have one (j : ℕ) : 0 + 1 * j = j := by omega
  unfold out0_1
  rw [Value.canon1_eq, Fin.sum_univ_four, ← e 0 (r0_0.emb (Value.ix1_0 y)) rfl (one _) (one _), ← e 1 (r0_1.emb (Value.ix1_1 y)) rfl (one _) (one _),
    ← e 2 (r0_2.emb (Value.ix1_2 y)) rfl (one _) (one _), ← e 3 (r0_3.emb (Value.ix1_3 y)) rfl (one _) (one _)]
  rfl

variable (m : (ℓ : Loc nD τ sig) → Buf (Elt Ideal) ℓ)

/-- Both windows move by whole blocks of rows with the grid point. -/
theorem where_tiles : ∀ t : Fin cfg0.N,
    (win0_0.index t (0 : Fin 3) = 0 ∧ win0_0.index t (1 : Fin 3) = t.val ∧ win0_0.index t (2 : Fin 3) = 0)
    ∧ win0_1.index t (0 : Fin 2) = t.val ∧ win0_1.index t (1 : Fin 2) = 0 :=
  (by decide +kernel : ∀ t : Fin grid0.N, _)

/-- What the array is to hold. -/
abbrev G (c : Dev nD) : Vec Ideal S1024x2084 .f32 := val_main_v1 (F := Ideal) (m ((c : Thread nD τ).loc main_arg0))

/-- A grid point writes its block of it. -/
theorem written (c : Dev nD) (t : Fin cfg0.N) : (Gen.dats m 0 c).flushed 1 t = ((cfg0.win 1).blk t).view.read (Elt Ideal) (G m c) := by
  obtain ⟨⟨a0, a1, a2⟩, b0, b1⟩ := where_tiles t
  rw [Value.flushed1]
  funext y
  show out0_1 (iblk m c 0 t) y = G m c (((cfg0.win 1).blk t).view.emb y)
  rw [point, G, val_main_v1_apply]
  show _ = Ideal.ofBits .f32 0x00000000#32 + _
  rw [Ideal.ofBits_zero_f32, zero_add]
  refine Finset.sum_congr rfl fun k _ => ?_
  unfold iblk
  rw [View.read_apply]
  show V m c main_arg0 _ = m _ _
  rw [V_main_arg0]
  refine congrArg _ (funext fun a => Fin.ext ?_)
  match a with
  | ⟨0, _⟩ => show win0_0.index t (0 : Fin 3) * 4 + 1 * k.val = k.val; omega
  | ⟨1, _⟩ => show win0_0.index t (1 : Fin 3) * 128 + 1 * (y 0).val = win0_1.index t (0 : Fin 2) * 128 + 1 * (y 0).val; omega
  | ⟨2, _⟩ => show win0_0.index t (2 : Fin 3) * 2084 + 1 * (y 1).val = win0_1.index t (1 : Fin 2) * 2084 + 1 * (y 1).val; omega

/-- The blocks cover the array. -/
theorem covered (i : S1024x2084.Idx) : ∃ t : Fin cfg0.N, (cfg0.win 1).flush t = true ∧ i ∈ ((cfg0.win 1).blk t).view.set := by
  have h0 : (i 0).val < 1024 := (i 0).isLt
  have h1 : (i 1).val < 2084 := (i 1).isLt
  have ht : (i 0).val / 128 < 8 := by omega
  obtain ⟨-, b0, b1⟩ := where_tiles ⟨(i 0).val / 128, ht⟩
  have b0 : win0_1.index ⟨(i 0).val / 128, ht⟩ (0 : Fin 2) = (i 0).val / 128 := b0
  refine ⟨⟨(i 0).val / 128, ht⟩, flush0_1 _, ?_⟩
  show i ∈ ((View.whole main_v0).slice (win0_1.rect ⟨(i 0).val / 128, ht⟩)).set
  rw [View.set_slice_whole, Rect.mem_set_unit]
  intro a
  match a with
  | ⟨0, _⟩ =>
    show win0_1.index ⟨(i 0).val / 128, ht⟩ (0 : Fin 2) * 128 ≤ (i 0).val ∧ (i 0).val < win0_1.index ⟨(i 0).val / 128, ht⟩ (0 : Fin 2) * 128 + 128
    rw [b0]; omega
  | ⟨1, _⟩ =>
    show win0_1.index ⟨(i 0).val / 128, ht⟩ (1 : Fin 2) * 2084 ≤ (i 1).val ∧ (i 1).val < win0_1.index ⟨(i 0).val / 128, ht⟩ (1 : Fin 2) * 2084 + 2084
    rw [b1]; omega

/-- Kernel and reference end with the same sums. -/
theorem algebraic : Cert.algebraic_RsWInSumIdeal_RsWInSumRefIdeal := by
  intro m g m' g' _ h
  refine ⟨fun c => G m c,
    (θ_run Cert.RsWInSumIdeal.defs _ _).mono (fun _ k c => ⟨(k c).1.trans ((Gen.dats m 0 c).arrAt_eq_of_cover 1 _ (fun t _ => written m c t) covered), (k c).2⟩)
      (Value.run_blocks m g),
    (θ_run Cert.RsWInSumRefIdeal.defs _ _).mono (fun _ k c => ⟨(k c).1.trans ?_, (k c).2⟩) (Cert.RsWInSumRefIdeal.Value.run (F := Ideal) m' g')⟩
  rw [h c]
  rfl

end Cert.Proof.RsWInSum

end
-- ==== Proof.RsWOutSumClaim.lean ====
/- The value claim of the sum of the four chips' gradients of the output projection's weights: what one grid point computes,
   what the array holds after the run, and that it is the reference's. -/
module

public import proofs.«01_k».proof.Defs
public import proofs.«01_k».proof.Proof.Gen.RsWOutSumIdeal.Value
public import proofs.«01_k».proof.Proof.Gen.RsWOutSumRefIdeal.Read
public import Idealize.ShloMosaic.Lib.IdealHost

@[expose] public section

noncomputable section

namespace Cert.Proof.RsWOutSum

open Cert.RsWOutSumIdeal Cert.RsWOutSumIdeal.Gen Idealize.ShloMosaic Idealize.ShloMosaic.TcCoe Idealize.SL.Sem
open Idealize.ShloMosaic.ValueIdx
open Cert.RsWOutSumRefIdeal.Read (val_main_v1 val_main_v1_apply idx_main_v1)

/-- Where a block of the four chips' rows is read for one of its entries. -/
def chip (k : Fin 4) (y : S128x2048.Idx) : S4x128x2048.Idx := fun a => match a with
  | ⟨0, _⟩ => ⟨k.val, k.isLt⟩
  | ⟨1, _⟩ => ⟨(y 0).val, (y 0).isLt⟩
  | ⟨2, _⟩ => ⟨(y 1).val, (y 1).isLt⟩

/-- A grid point adds the four chips' entries. -/
theorem point (x0 : Vec Ideal S4x128x2048 .bf16) (y : S128x2048.Idx) : out0_1 x0 y = ∑ k : Fin 4, (x0 (chip k y) : EReal) := by
  have e (k : Fin 4) (z : S4x128x2048.Idx) (h0 : (z 0).val = k.val) (h1 : (z 1).val = (y 0).val) (h2 : (z 2).val = (y 1).val) : x0 z = x0 (chip k y) :=
    congrArg x0 (funext fun a => Fin.ext (by match a with | ⟨0, _⟩ => exact h0 | ⟨1, _⟩ => exact h1 | ⟨2, _⟩ => exact h2))
  have one (j : ℕ) : 0 + 1 * j = j := by omega
  unfold out0_1
  rw [Value.canon1_eq, Fin.sum_univ_four, ← e 0 (r0_0.emb (Value.ix1_0 y)) rfl (one _) (one _), ← e 1 (r0_1.emb (Value.ix1_1 y)) rfl (one _) (one _),
    ← e 2 (r0_2.emb (Value.ix1_2 y)) rfl (one _) (one _), ← e 3 (r0_3.emb (Value.ix1_3 y)) rfl (one _) (one _)]
  rfl

variable (m : (ℓ : Loc nD τ sig) → Buf (Elt Ideal) ℓ)

/-- Both windows move by whole blocks of rows with the grid point. -/
theorem where_tiles : ∀ t : Fin cfg0.N,
    (win0_0.index t (0 : Fin 3) = 0 ∧ win0_0.index t (1 : Fin 3) = t.val ∧ win0_0.index t (2 : Fin 3) = 0)
    ∧ win0_1.index t (0 : Fin 2) = t.val ∧ win0_1.index t (1 : Fin 2) = 0 :=
  (by decide +kernel : ∀ t : Fin grid0.N, _)

/-- What the array is to hold. -/
abbrev G (c : Dev nD) : Vec Ideal S256x2048 .f32 := val_main_v1 (F := Ideal) (m ((c : Thread nD τ).loc main_arg0))

/-- A grid point writes its block of it. -/
theorem written (c : Dev nD) (t : Fin cfg0.N) : (Gen.dats m 0 c).flushed 1 t = ((cfg0.win 1).blk t).view.read (Elt Ideal) (G m c) := by
  obtain ⟨⟨a0, a1, a2⟩, b0, b1⟩ := where_tiles t
  rw [Value.flushed1]
  funext y
  show out0_1 (iblk m c 0 t) y = G m c (((cfg0.win 1).blk t).view.emb y)
  rw [point, G, val_main_v1_apply]
  show _ = Ideal.ofBits .f32 0x00000000#32 + _
  rw [Ideal.ofBits_zero_f32, zero_add]
  refine Finset.sum_congr rfl fun k _ => ?_
  unfold iblk
  rw [View.read_apply]
  show V m c main_arg0 _ = m _ _
  rw [V_main_arg0]
  refine congrArg _ (funext fun a => Fin.ext ?_)
  match a with
  | ⟨0, _⟩ => show win0_0.index t (0 : Fin 3) * 4 + 1 * k.val = k.val; omega
  | ⟨1, _⟩ => show win0_0.index t (1 : Fin 3) * 128 + 1 * (y 0).val = win0_1.index t (0 : Fin 2) * 128 + 1 * (y 0).val; omega
  | ⟨2, _⟩ => show win0_0.index t (2 : Fin 3) * 2048 + 1 * (y 1).val = win0_1.index t (1 : Fin 2) * 2048 + 1 * (y 1).val; omega

/-- The blocks cover the array. -/
theorem covered (i : S256x2048.Idx) : ∃ t : Fin cfg0.N, (cfg0.win 1).flush t = true ∧ i ∈ ((cfg0.win 1).blk t).view.set := by
  have h0 : (i 0).val < 256 := (i 0).isLt
  have h1 : (i 1).val < 2048 := (i 1).isLt
  have ht : (i 0).val / 128 < 2 := by omega
  obtain ⟨-, b0, b1⟩ := where_tiles ⟨(i 0).val / 128, ht⟩
  have b0 : win0_1.index ⟨(i 0).val / 128, ht⟩ (0 : Fin 2) = (i 0).val / 128 := b0
  refine ⟨⟨(i 0).val / 128, ht⟩, flush0_1 _, ?_⟩
  show i ∈ ((View.whole main_v0).slice (win0_1.rect ⟨(i 0).val / 128, ht⟩)).set
  rw [View.set_slice_whole, Rect.mem_set_unit]
  intro a
  match a with
  | ⟨0, _⟩ =>
    show win0_1.index ⟨(i 0).val / 128, ht⟩ (0 : Fin 2) * 128 ≤ (i 0).val ∧ (i 0).val < win0_1.index ⟨(i 0).val / 128, ht⟩ (0 : Fin 2) * 128 + 128
    rw [b0]; omega
  | ⟨1, _⟩ =>
    show win0_1.index ⟨(i 0).val / 128, ht⟩ (1 : Fin 2) * 2048 ≤ (i 1).val ∧ (i 1).val < win0_1.index ⟨(i 0).val / 128, ht⟩ (1 : Fin 2) * 2048 + 2048
    rw [b1]; omega

/-- Kernel and reference end with the same sums. -/
theorem algebraic : Cert.algebraic_RsWOutSumIdeal_RsWOutSumRefIdeal := by
  intro m g m' g' _ h
  refine ⟨fun c => G m c,
    (θ_run Cert.RsWOutSumIdeal.defs _ _).mono (fun _ k c => ⟨(k c).1.trans ((Gen.dats m 0 c).arrAt_eq_of_cover 1 _ (fun t _ => written m c t) covered), (k c).2⟩)
      (Value.run_blocks m g),
    (θ_run Cert.RsWOutSumRefIdeal.defs _ _).mono (fun _ k c => ⟨(k c).1.trans ?_, (k c).2⟩) (Cert.RsWOutSumRefIdeal.Value.run (F := Ideal) m' g')⟩
  rw [h c]
  rfl

end Cert.Proof.RsWOutSum

end
-- ==== Proof.RsSmallSumClaim.lean ====
/- The value claim of the sum of the four chips' gradients of the small parameters, which takes one grid point. -/
module

public import proofs.«01_k».proof.Defs
public import proofs.«01_k».proof.Proof.Gen.RsSmallSumIdeal.Value
public import proofs.«01_k».proof.Proof.Gen.RsSmallSumRefIdeal.Read
public import Idealize.ShloMosaic.Lib.IdealHost

@[expose] public section

noncomputable section

namespace Cert.Proof.RsSmallSum

open Cert.RsSmallSumIdeal Cert.RsSmallSumIdeal.Gen Idealize.ShloMosaic Idealize.SL.Sem
open Cert.RsSmallSumRefIdeal.Read (val_main_v1 val_main_v1_apply idx_main_v1)

/-- The call adds the four chips' entries. -/
theorem total (x0 : Vec Ideal S4x32x1024 .bf16) : Value.G1 (F := Ideal) x0 = val_main_v1 (F := Ideal) x0 := by
  funext y
  have e (k : Fin 4) (z : S4x32x1024.Idx) (h0 : (z 0).val = k.val) (h1 : (z 1).val = (y 0).val) (h2 : (z 2).val = (y 1).val) : x0 z = x0 (idx_main_v1 y k) :=
    congrArg x0 (funext fun a => Fin.ext (by match a with | ⟨0, _⟩ => exact h0 | ⟨1, _⟩ => exact h1 | ⟨2, _⟩ => exact h2))
  have one (j : ℕ) : 0 + 1 * j = j := by omega
  rw [← Value.out1_eq]
  unfold out0_1
  rw [Value.canon1_eq, val_main_v1_apply]
  show _ = Ideal.ofBits .f32 0x00000000#32 + ∑ k : Fin 4, (x0 (idx_main_v1 y k) : EReal)
  rw [Ideal.ofBits_zero_f32, zero_add, Fin.sum_univ_four, ← e 0 (r0_0.emb (Value.ix1_0 y)) rfl (one _) (one _),
    ← e 1 (r0_1.emb (Value.ix1_1 y)) rfl (one _) (one _), ← e 2 (r0_2.emb (Value.ix1_2 y)) rfl (one _) (one _),
    ← e 3 (r0_3.emb (Value.ix1_3 y)) rfl (one _) (one _)]
  rfl

/-- Kernel and reference end with the same sums. -/
theorem algebraic : Cert.algebraic_RsSmallSumIdeal_RsSmallSumRefIdeal := by
  intro m g m' g' _ h
  refine ⟨_, (θ_run Cert.RsSmallSumIdeal.defs _ _).mono (fun _ k c => ⟨(k c).1.trans (total _), (k c).2⟩) (Value.run m g),
    (θ_run Cert.RsSmallSumRefIdeal.defs _ _).mono (fun _ k c => ⟨(k c).1.trans ?_, (k c).2⟩) (Cert.RsSmallSumRefIdeal.Value.run (F := Ideal) m' g')⟩
  rw [h c]
  rfl

end Cert.Proof.RsSmallSum

end
-- ==== Proof.Adam.lean ====
/- The optimiser's step on one entry, shared by its four calls: the kernel multiplies by the reciprocals of the two
   bias corrections, and the reference divides by the corrections. Where the entries of a block of rows lie. -/
module

public import Idealize.ShloMosaic.Lib.Pipeline.Value
public import Idealize.ShloMosaic.Lib.IdealHost

@[expose] public section

noncomputable section

namespace Cert.Adam

open Idealize.ShloMosaic

/-- The new first moment of an entry, from the old one and the gradient. -/
def newM (mo g : EReal) : EReal := Ideal.ofBits .f32 0x3F666666#32 * mo + Ideal.ofBits .f32 0x3DCCCCCD#32 * g

/-- The new second moment of an entry, from the old one and the gradient. -/
def newV (vo g : EReal) : EReal := Ideal.ofBits .f32 0x3F7FBE77#32 * vo + Ideal.ofBits .f32 0x3A83126F#32 * (g * g)

/-- The change of an entry: minus the rate times the corrected first moment over the root of the corrected second one,
    with the weight decay. -/
def delta (g w mo vo : EReal) : EReal :=
  Ideal.ofBits .f32 0xBA83126F#32 *
    (Ideal.div (Ideal.div (newM mo g) (Ideal.ofBits .f32 0x3F26BD02#32))
        (Ideal.sqrt (Ideal.div (newV vo g) (Ideal.ofBits .f32 0x3C231ACC#32)) + Ideal.ofBits .f32 0x322BCC77#32)
      + Ideal.ofBits .f32 0x3C23D70A#32 * w)

/-- Dividing by the first correction is multiplying by its reciprocal. -/
theorem div_first (x : EReal) : Ideal.div x (Ideal.ofBits .f32 0x3F26BD02#32) = x * ((8388608 / 5463681 : ℝ) : EReal) := by
  have h : Ideal.ofBits .f32 0x3F26BD02#32 = ((5463681 / 8388608 : ℝ) : EReal) := by
    simp [Ideal.ofBits, Ideal.ieee, -EReal.coe_mul]; norm_num
  rw [h, Ideal.div_coe (by norm_num)]
  norm_num

/-- Dividing by the second correction is multiplying by its reciprocal. -/
theorem div_second (x : EReal) : Ideal.div x (Ideal.ofBits .f32 0x3C231ACC#32) = x * ((268435456 / 2672307 : ℝ) : EReal) := by
  have h : Ideal.ofBits .f32 0x3C231ACC#32 = ((2672307 / 268435456 : ℝ) : EReal) := by
    simp [Ideal.ofBits, Ideal.ieee, -EReal.coe_mul]; norm_num
  rw [h, Ideal.div_coe (by norm_num)]
  norm_num

/-- The offset of an access of a whole matrix, written out, is the zero offset; -/
theorem off_two : (![0, 0] : Fin 2 → Nat) = fun _ => 0 := funext (Fin.forall_fin_two.mpr ⟨rfl, rfl⟩)

/-- so is that of the access of the gradient. -/
theorem off_three : (![0, 0, 0] : Fin 3 → Nat) = fun _ => 0 := by
  funext a
  match a with
  | ⟨0, _⟩ => rfl
  | ⟨1, _⟩ => rfl
  | ⟨2, _⟩ => rfl

section Rows

variable {R B W : ℕ}

/-- The entry of the whole array at position `y` of the block of rows `t`. -/
def place (t : ℕ) (h : t * B + B ≤ R) (y : (⟨2, ![B, W]⟩ : Shape).Idx) : (⟨2, ![R, W]⟩ : Shape).Idx := fun a => match a with
  | ⟨0, _⟩ => ⟨t * B + (y 0).val, Nat.lt_of_lt_of_le (Nat.add_lt_add_left (y 0).isLt _) h⟩
  | ⟨1, _⟩ => ⟨(y 1).val, (y 1).isLt⟩

/-- An entry at the place a block of rows says is that entry. -/
theorem place_eq {t : ℕ} (h : t * B + B ≤ R) (y : (⟨2, ![B, W]⟩ : Shape).Idx) (i : (⟨2, ![R, W]⟩ : Shape).Idx) {a b : ℕ} (hab : a = t ∧ b = 0)
    (h0 : (i 0).val = a * B + 1 * (y 0).val) (h1 : (i 1).val = b * W + 1 * (y 1).val) : i = place t h y := by
  obtain ⟨rfl, rfl⟩ := hab
  refine funext fun c => Fin.ext ?_
  match c with
  | ⟨0, _⟩ => show (i 0).val = a * B + (y 0).val; omega
  | ⟨1, _⟩ => show (i 1).val = (y 1).val; omega

/-- A position of a block is its two coordinates. -/
theorem pos_ext {z y : (⟨2, ![B, W]⟩ : Shape).Idx} (h0 : z 0 = y 0) (h1 : z 1 = y 1) : z = y := funext (Fin.forall_fin_two.mpr ⟨h0, h1⟩)

/-- An entry lies in the block of its row. -/
theorem in_block (hB : 0 < B) (i : (⟨2, ![R, W]⟩ : Shape).Idx) {a b : ℕ} (hab : a = (i 0).val / B ∧ b = 0) :
    (a * B ≤ (i 0).val ∧ (i 0).val < a * B + B) ∧ b * W ≤ (i 1).val ∧ (i 1).val < b * W + W := by
  obtain ⟨rfl, rfl⟩ := hab
  have h1 : (i 1).val < W := (i 1).isLt
  have e := Nat.div_add_mod (i 0).val B
  have l := Nat.mod_lt (i 0).val hB
  rw [Nat.mul_comm] at e
  omega

end Rows

end Cert.Adam

end
-- ==== Proof.AdamRepValue.lean ====
/- The optimiser's call on the parameters every device holds whole: what one grid point computes, what the four arrays hold after the
   run, and that they are the reference's. -/
module

public import proofs.«01_k».proof.Proof.Adam
public import proofs.«01_k».proof.Proof.Gen.AdamRepIdeal.Value
public import proofs.«01_k».proof.Proof.Gen.AdamRepRefIdeal.Read

@[expose] public section

noncomputable section

namespace Cert.AdamRepIdeal.Equal

open Cert.AdamRepIdeal Cert.AdamRepIdeal.Gen Idealize.ShloMosaic Idealize.ShloMosaic.TcCoe Idealize.SL.Sem
open Idealize.ShloMosaic.ValueIdx
open Cert.AdamRepRefIdeal.Read

/-- The literal offset of every access of a matrix is the zero offset. -/
theorem off_two : (![0, 0] : Fin 2 → Nat) = fun _ => 0 := by
  funext a
  match a with
  | ⟨0, _⟩ => rfl
  | ⟨1, _⟩ => rfl

/-- Slice 0 of the gradients is device 0's gradient. -/
theorem slice0 (a0 : Vec Ideal S8x120x128 .f32) (y : S120x128.Idx) :
    View.ld a0 r0_0 (Value.ix4_0 y) = a0 (idx_main_v0 y 0) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Slice 1 of the gradients is device 1's gradient. -/
theorem slice1 (a0 : Vec Ideal S8x120x128 .f32) (y : S120x128.Idx) :
    View.ld a0 r0_1 (Value.ix4_1 y) = a0 (idx_main_v0 y 1) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Slice 2 of the gradients is device 2's gradient. -/
theorem slice2 (a0 : Vec Ideal S8x120x128 .f32) (y : S120x128.Idx) :
    View.ld a0 r0_2 (Value.ix4_2 y) = a0 (idx_main_v0 y 2) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Slice 3 of the gradients is device 3's gradient. -/
theorem slice3 (a0 : Vec Ideal S8x120x128 .f32) (y : S120x128.Idx) :
    View.ld a0 r0_3 (Value.ix4_3 y) = a0 (idx_main_v0 y 3) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Slice 4 of the gradients is device 4's gradient. -/
theorem slice4 (a0 : Vec Ideal S8x120x128 .f32) (y : S120x128.Idx) :
    View.ld a0 r0_4 (Value.ix4_4 y) = a0 (idx_main_v0 y 4) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Slice 5 of the gradients is device 5's gradient. -/
theorem slice5 (a0 : Vec Ideal S8x120x128 .f32) (y : S120x128.Idx) :
    View.ld a0 r0_5 (Value.ix4_5 y) = a0 (idx_main_v0 y 5) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Slice 6 of the gradients is device 6's gradient. -/
theorem slice6 (a0 : Vec Ideal S8x120x128 .f32) (y : S120x128.Idx) :
    View.ld a0 r0_6 (Value.ix4_6 y) = a0 (idx_main_v0 y 6) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Slice 7 of the gradients is device 7's gradient. -/
theorem slice7 (a0 : Vec Ideal S8x120x128 .f32) (y : S120x128.Idx) :
    View.ld a0 r0_7 (Value.ix4_7 y) = a0 (idx_main_v0 y 7) := by
  refine congrArg a0 (funext fun a => Fin.ext ?_)
  match a with
  | ⟨0, _⟩ => rfl
  | ⟨1, _⟩ => show 0 + 1 * (y 0).val = (y 0).val; omega
  | ⟨2, _⟩ => show 0 + 1 * (y 1).val = (y 1).val; omega

/-- The eight slices, added one after the other, are the sum over the devices. -/
theorem total (a0 : Vec Ideal S8x120x128 .f32) (y : S120x128.Idx) :
    Value.E4 (View.ld a0 r0_0) (View.ld a0 r0_1) (View.ld a0 r0_2) (View.ld a0 r0_3) (View.ld a0 r0_4) (View.ld a0 r0_5) (View.ld a0 r0_6) (View.ld a0 r0_7) y = val_main_v0 (F := Ideal) a0 y := by
  rw [val_main_v0_apply, Fin.sum_univ_eight, ← slice0 a0 y, ← slice1 a0 y, ← slice2 a0 y, ← slice3 a0 y, ← slice4 a0 y,
    ← slice5 a0 y, ← slice6 a0 y, ← slice7 a0 y]
  show _ = Ideal.ofBits .f32 0x00000000#32 + _
  rw [Ideal.ofBits_zero_f32, zero_add]
  rfl

/-- Over the reals the change of an entry is the optimiser's step. -/
theorem step5 (x0 x1 x2 x3 x4 x5 x6 x7 : Vec Ideal S1x120x128 .f32) (mo vo w : Vec Ideal S120x128 .f32) (y : S120x128.Idx) :
    Value.E5 mo x0 x1 x2 x3 x4 x5 x6 x7 vo w y = Adam.delta (Value.E4 x0 x1 x2 x3 x4 x5 x6 x7 y) (w y) (mo y) (vo y) := by
  unfold Adam.delta
  rw [Adam.div_first, Adam.div_second]
  have e1 : Named.named (F := Ideal) κ "c1" (φ := .f32) 0x3FC48605#32 = ((8388608 / 5463681 : ℝ) : EReal) :=
    IdealRules.named_const.ideal_named_scalar _ _ _ _ rfl
  have e2 : Named.named (F := Ideal) κ "c2" (φ := .f32) 0x42C8E6D3#32 = ((268435456 / 2672307 : ℝ) : EReal) :=
    IdealRules.named_const.ideal_named_scalar _ _ _ _ rfl
  show FloatOps.mulf (F := Ideal) (φ := .f32) _ (FloatOps.addf (FloatOps.divf (FloatOps.mulf _ (Named.named (F := Ideal) κ "c1" (φ := .f32) 0x3FC48605#32))
    (FloatOps.addf (FloatOps.sqrt (FloatOps.mulf _ (Named.named (F := Ideal) κ "c2" (φ := .f32) 0x42C8E6D3#32))) _)) _) = _
  rw [e1, e2]
  have hy : y = fun a => match a with | ⟨0, _⟩ => ⟨(y 0).val, (y 0).isLt⟩ | ⟨1, _⟩ => ⟨(y 1).val, (y 1).isLt⟩ := by
    funext a
    match a with
    | ⟨0, _⟩ => rfl
    | ⟨1, _⟩ => rfl
  rw [hy]
  rfl

/-- The new first moment of an entry is the optimiser's. -/
theorem step6 (x0 x1 x2 x3 x4 x5 x6 x7 : Vec Ideal S1x120x128 .f32) (mo : Vec Ideal S120x128 .f32) (y : S120x128.Idx) :
    Value.E6 mo x0 x1 x2 x3 x4 x5 x6 x7 y = Adam.newM (mo y) (Value.E4 x0 x1 x2 x3 x4 x5 x6 x7 y) := by
  show Adam.newM (mo (Value.ix6_0 y)) (Value.E4 x0 x1 x2 x3 x4 x5 x6 x7 y) = _
  refine congrArg (fun z => Adam.newM (mo z) _) (funext fun a => ?_)
  match a with
  | ⟨0, _⟩ => rfl
  | ⟨1, _⟩ => rfl

/-- The new second moment of an entry is the optimiser's. -/
theorem step7 (x0 x1 x2 x3 x4 x5 x6 x7 : Vec Ideal S1x120x128 .f32) (vo : Vec Ideal S120x128 .f32) (y : S120x128.Idx) :
    Value.E7 vo x0 x1 x2 x3 x4 x5 x6 x7 y = Adam.newV (vo y) (Value.E4 x0 x1 x2 x3 x4 x5 x6 x7 y) := by
  show Adam.newV (vo (Value.ix7_0 y)) (Value.E4 x0 x1 x2 x3 x4 x5 x6 x7 y) = _
  refine congrArg (fun z => Adam.newV (vo z) _) (funext fun a => ?_)
  match a with
  | ⟨0, _⟩ => rfl
  | ⟨1, _⟩ => rfl

/-- The reference's change of an entry is the optimiser's step. -/
theorem ref_delta (g : Vec Ideal S8x120x128 .f32) (w mo vo : Vec Ideal S120x128 .f32) (i : S120x128.Idx) :
    val_main_v24 (F := Ideal) g w mo vo i
      = Adam.delta (val_main_v0 (F := Ideal) g i) (w i) (mo i) (vo i) := by
  rw [val_main_v24_apply, val_main_v22_apply, val_main_v19_apply,
    val_main_v13_apply, val_main_v18_apply, val_main_v16_apply,
    val_main_v15_apply, val_main_v21_apply, val_main_v5_apply,
    val_main_v11_apply, val_main_v2_apply, val_main_v4_apply,
    val_main_v7_apply, val_main_v10_apply, val_main_v8_apply,
    val_main_v1_apply, val_main_v3_apply, val_main_v6_apply,
    val_main_v9_apply, val_main_v12_apply, val_main_v14_apply,
    val_main_v17_apply, val_main_v20_apply, val_main_v23_apply]
  rfl

/-- The reference's new first moment of an entry is the optimiser's. -/
theorem ref_newM (g : Vec Ideal S8x120x128 .f32) (mo : Vec Ideal S120x128 .f32) (i : S120x128.Idx) :
    val_main_v5 (F := Ideal) g mo i = Adam.newM (mo i) (val_main_v0 (F := Ideal) g i) := by
  rw [val_main_v5_apply, val_main_v2_apply, val_main_v4_apply,
    val_main_v1_apply, val_main_v3_apply]
  rfl

/-- The reference's new second moment of an entry is the optimiser's. -/
theorem ref_newV (g : Vec Ideal S8x120x128 .f32) (vo : Vec Ideal S120x128 .f32) (i : S120x128.Idx) :
    val_main_v11 (F := Ideal) g vo i = Adam.newV (vo i) (val_main_v0 (F := Ideal) g i) := by
  rw [val_main_v11_apply, val_main_v7_apply, val_main_v10_apply,
    val_main_v8_apply, val_main_v6_apply, val_main_v9_apply]
  rfl

section Results
variable (a0 : Vec Ideal S8x120x128 .f32) (a1 a2 a3 : Vec Ideal S120x128 .f32)

/-- The gradient the call leaves is the reference's. -/
theorem eq_ref4 : Value.G4 (F := Ideal) a0 a1 a2 a3 = val_main_v0 (F := Ideal) a0 := by
  rw [← Value.out4_eq]
  unfold out0_4 k0_pay5
  funext y
  rw [Value.canon4_eq, total]

/-- The change of the weights the call leaves is the reference's. -/
theorem eq_ref5 : Value.G5 (F := Ideal) a0 a1 a2 a3 = val_main_v24 (F := Ideal) a0 a1 a2 a3 := by
  rw [← Value.out5_eq]
  unfold out0_5 k0_pay5 k0_pay6
  funext y
  rw [Value.canon5_eq, step5, total, ref_delta, View.ld_unit_zero (S := S120x128) off_two,
    View.ld_unit_zero (S := S120x128) off_two, View.ld_unit_zero (S := S120x128) off_two]

/-- The new first moments the call leaves are the reference's. -/
theorem eq_ref6 : Value.G6 (F := Ideal) a0 a1 a2 a3 = val_main_v5 (F := Ideal) a0 a2 := by
  rw [← Value.out6_eq]
  unfold out0_6 k0_pay6
  funext y
  rw [Value.canon6_eq, step6, total, ref_newM, View.ld_unit_zero (S := S120x128) off_two]

/-- The new second moments the call leaves are the reference's. -/
theorem eq_ref7 : Value.G7 (F := Ideal) a0 a1 a2 a3 = val_main_v11 (F := Ideal) a0 a3 := by
  rw [← Value.out7_eq]
  unfold out0_7 k0_pay5
  funext y
  rw [Value.canon7_eq, step7, total, ref_newV, View.ld_unit_zero (S := S120x128) off_two]

end Results

end Cert.AdamRepIdeal.Equal

end
-- ==== Proof.AdamRepClaim.lean ====
/- The value claim of the optimiser's call on the parameters every device holds whole. -/
module

public import proofs.«01_k».proof.Defs
public import proofs.«01_k».proof.Proof.AdamRepValue

@[expose] public section

noncomputable section

namespace Cert.Proof.AdamRep

open Idealize.ShloMosaic Idealize.SL.Sem

/-- The reference's run, its four results read by the operation that writes each. -/
theorem ref_run (m : (ℓ : Loc Cert.AdamRepRefIdeal.nD Cert.AdamRepRefIdeal.τ Cert.AdamRepRefIdeal.sig) → Buf (Elt Ideal) ℓ)
    (g : Dev Cert.AdamRepRefIdeal.nD → PrngReg) :
    θ_run (Cert.AdamRepRefIdeal.defs (F := Ideal)) (onTc (τ := Cert.AdamRepRefIdeal.τ) (Cert.AdamRepRefIdeal.main (F := Ideal))) ⟨m, fun _ => 0, g⟩
      fun r => ∀ c : Dev Cert.AdamRepRefIdeal.nD,
      r.2.mem ((c.tc : Thread Cert.AdamRepRefIdeal.nD Cert.AdamRepRefIdeal.τ).loc Cert.AdamRepRefIdeal.main_v0) = Cert.AdamRepRefIdeal.Read.val_main_v0 (F := Ideal) (m ((c.tc : Thread Cert.AdamRepRefIdeal.nD Cert.AdamRepRefIdeal.τ).loc Cert.AdamRepRefIdeal.main_arg0))
      ∧ r.2.mem ((c.tc : Thread Cert.AdamRepRefIdeal.nD Cert.AdamRepRefIdeal.τ).loc Cert.AdamRepRefIdeal.main_v24) = Cert.AdamRepRefIdeal.Read.val_main_v24 (F := Ideal) (m ((c.tc : Thread Cert.AdamRepRefIdeal.nD Cert.AdamRepRefIdeal.τ).loc Cert.AdamRepRefIdeal.main_arg0)) (m ((c.tc : Thread Cert.AdamRepRefIdeal.nD Cert.AdamRepRefIdeal.τ).loc Cert.AdamRepRefIdeal.main_arg1)) (m ((c.tc : Thread Cert.AdamRepRefIdeal.nD Cert.AdamRepRefIdeal.τ).loc Cert.AdamRepRefIdeal.main_arg2)) (m ((c.tc : Thread Cert.AdamRepRefIdeal.nD Cert.AdamRepRefIdeal.τ).loc Cert.AdamRepRefIdeal.main_arg3))
      ∧ r.2.mem ((c.tc : Thread Cert.AdamRepRefIdeal.nD Cert.AdamRepRefIdeal.τ).loc Cert.AdamRepRefIdeal.main_v5) = Cert.AdamRepRefIdeal.Read.val_main_v5 (F := Ideal) (m ((c.tc : Thread Cert.AdamRepRefIdeal.nD Cert.AdamRepRefIdeal.τ).loc Cert.AdamRepRefIdeal.main_arg0)) (m ((c.tc : Thread Cert.AdamRepRefIdeal.nD Cert.AdamRepRefIdeal.τ).loc Cert.AdamRepRefIdeal.main_arg2))
      ∧ r.2.mem ((c.tc : Thread Cert.AdamRepRefIdeal.nD Cert.AdamRepRefIdeal.τ).loc Cert.AdamRepRefIdeal.main_v11) = Cert.AdamRepRefIdeal.Read.val_main_v11 (F := Ideal) (m ((c.tc : Thread Cert.AdamRepRefIdeal.nD Cert.AdamRepRefIdeal.τ).loc Cert.AdamRepRefIdeal.main_arg0)) (m ((c.tc : Thread Cert.AdamRepRefIdeal.nD Cert.AdamRepRefIdeal.τ).loc Cert.AdamRepRefIdeal.main_arg3))
      ∧ r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3) :=
  (θ_run Cert.AdamRepRefIdeal.defs _ _).mono (fun _ h c => ⟨(h c).1.trans rfl, (h c).2.1.trans rfl, (h c).2.2.1.trans rfl,
    (h c).2.2.2.1.trans rfl, (h c).2.2.2.2⟩) (Cert.AdamRepRefIdeal.Value.run (F := Ideal) m g)

/-- Kernel and reference end with the same gradient, the same change and the same new moments. -/
theorem algebraic : Cert.algebraic_AdamRepIdeal_AdamRepRefIdeal := by
  intro m g m' g' _ h
  refine ⟨fun c => Cert.AdamRepRefIdeal.Read.val_main_v0 (F := Ideal) (m ((c.tc : Thread Cert.AdamRepIdeal.nD Cert.AdamRepIdeal.τ).loc Cert.AdamRepIdeal.main_arg0)), fun c => Cert.AdamRepRefIdeal.Read.val_main_v24 (F := Ideal) (m ((c.tc : Thread Cert.AdamRepIdeal.nD Cert.AdamRepIdeal.τ).loc Cert.AdamRepIdeal.main_arg0)) (m ((c.tc : Thread Cert.AdamRepIdeal.nD Cert.AdamRepIdeal.τ).loc Cert.AdamRepIdeal.main_arg1)) (m ((c.tc : Thread Cert.AdamRepIdeal.nD Cert.AdamRepIdeal.τ).loc Cert.AdamRepIdeal.main_arg2)) (m ((c.tc : Thread Cert.AdamRepIdeal.nD Cert.AdamRepIdeal.τ).loc Cert.AdamRepIdeal.main_arg3)), fun c => Cert.AdamRepRefIdeal.Read.val_main_v5 (F := Ideal) (m ((c.tc : Thread Cert.AdamRepIdeal.nD Cert.AdamRepIdeal.τ).loc Cert.AdamRepIdeal.main_arg0)) (m ((c.tc : Thread Cert.AdamRepIdeal.nD Cert.AdamRepIdeal.τ).loc Cert.AdamRepIdeal.main_arg2)),
    fun c => Cert.AdamRepRefIdeal.Read.val_main_v11 (F := Ideal) (m ((c.tc : Thread Cert.AdamRepIdeal.nD Cert.AdamRepIdeal.τ).loc Cert.AdamRepIdeal.main_arg0)) (m ((c.tc : Thread Cert.AdamRepIdeal.nD Cert.AdamRepIdeal.τ).loc Cert.AdamRepIdeal.main_arg3)),
    (θ_run Cert.AdamRepIdeal.defs _ _).mono (fun _ k c => ⟨(k c).1.trans (Cert.AdamRepIdeal.Equal.eq_ref4 _ _ _ _),
      (k c).2.1.trans (Cert.AdamRepIdeal.Equal.eq_ref5 _ _ _ _), (k c).2.2.1.trans (Cert.AdamRepIdeal.Equal.eq_ref6 _ _ _ _),
      (k c).2.2.2.1.trans (Cert.AdamRepIdeal.Equal.eq_ref7 _ _ _ _), (k c).2.2.2.2⟩) (Cert.AdamRepIdeal.Value.run (F := Ideal) m g),
    (θ_run Cert.AdamRepRefIdeal.defs _ _).mono (fun _ k c => ⟨(k c).1.trans ?_, (k c).2.1.trans ?_, (k c).2.2.1.trans ?_,
      (k c).2.2.2.1.trans ?_, (k c).2.2.2.2⟩) (ref_run m' g')⟩
  · rw [(h c).1]
  · rw [(h c).1, (h c).2.1, (h c).2.2.1, (h c).2.2.2]
  · rw [(h c).1, (h c).2.2.1]
  · rw [(h c).1, (h c).2.2.2]

end Cert.Proof.AdamRep

end
-- ==== Proof.AdamSmallValue.lean ====
/- The optimiser's call on the parameters that are cut over devices: what one grid point computes, what the four arrays hold after the
   run, and that they are the reference's. -/
module

public import proofs.«01_k».proof.Proof.Adam
public import proofs.«01_k».proof.Proof.Gen.AdamSmallIdeal.Value
public import proofs.«01_k».proof.Proof.Gen.AdamSmallRefIdeal.Read

@[expose] public section

noncomputable section

namespace Cert.AdamSmallIdeal.Equal

open Cert.AdamSmallIdeal Cert.AdamSmallIdeal.Gen Idealize.ShloMosaic Idealize.ShloMosaic.TcCoe Idealize.SL.Sem
open Idealize.ShloMosaic.ValueIdx
open Cert.AdamSmallRefIdeal.Read

section AnyFloat
variable {F : FTy → Type} [FloatOps F] [Named F]
variable (x0 : Vec F S1x64x1024 .f32) (x1 x2 x3 : Vec F S64x1024 .f32) (y : S64x1024.Idx)

/-- A grid point's first result: the gradient. -/
theorem point4 : out0_4 x0 x1 x2 x3 y = Value.E4 x0 y := by
  unfold out0_4
  rw [Value.canon4_eq, View.ld_unit_zero (S := S1x64x1024) Adam.off_three]

/-- A grid point's second result: the change of the weights. -/
theorem point5 : out0_5 x0 x1 x2 x3 y = Value.E5 x2 x0 x3 x1 y := by
  unfold out0_5
  rw [Value.canon5_eq, View.ld_unit_zero (S := S1x64x1024) Adam.off_three, View.ld_unit_zero (S := S64x1024) Adam.off_two,
    View.ld_unit_zero (S := S64x1024) Adam.off_two, View.ld_unit_zero (S := S64x1024) Adam.off_two]

/-- A grid point's third result: the new first moments. -/
theorem point6 : out0_6 x0 x1 x2 x3 y = Value.E6 x2 x0 y := by
  unfold out0_6
  rw [Value.canon6_eq, View.ld_unit_zero (S := S1x64x1024) Adam.off_three, View.ld_unit_zero (S := S64x1024) Adam.off_two]

/-- A grid point's fourth result: the new second moments. -/
theorem point7 : out0_7 x0 x1 x2 x3 y = Value.E7 x3 x0 y := by
  unfold out0_7
  rw [Value.canon7_eq, View.ld_unit_zero (S := S1x64x1024) Adam.off_three, View.ld_unit_zero (S := S64x1024) Adam.off_two]

end AnyFloat

section OverTheReals
variable (x0 : Vec Ideal S1x64x1024 .f32) (x1 x2 x3 : Vec Ideal S64x1024 .f32) (y : S64x1024.Idx)

/-- Over the reals the change of an entry is the optimiser's step. -/
theorem step5 : Value.E5 x2 x0 x3 x1 y = Adam.delta (x0 (Value.ix4_0 y)) (x1 y) (x2 y) (x3 y) := by
  unfold Adam.delta
  rw [Adam.div_first, Adam.div_second]
  have e1 : Named.named (F := Ideal) κ "c1" (φ := .f32) 0x3FC48605#32 = ((8388608 / 5463681 : ℝ) : EReal) :=
    IdealRules.named_const.ideal_named_scalar _ _ _ _ rfl
  have e2 : Named.named (F := Ideal) κ "c2" (φ := .f32) 0x42C8E6D3#32 = ((268435456 / 2672307 : ℝ) : EReal) :=
    IdealRules.named_const.ideal_named_scalar _ _ _ _ rfl
  show FloatOps.mulf (F := Ideal) (φ := .f32) _ (FloatOps.addf (FloatOps.divf (FloatOps.mulf _ (Named.named (F := Ideal) κ "c1" (φ := .f32) 0x3FC48605#32))
    (FloatOps.addf (FloatOps.sqrt (FloatOps.mulf _ (Named.named (F := Ideal) κ "c2" (φ := .f32) 0x42C8E6D3#32))) _)) _) = _
  rw [e1, e2]
  rw [show y = (fun a => match a with | ⟨0, _⟩ => ⟨(y 0).val, (y 0).isLt⟩ | ⟨1, _⟩ => ⟨(y 1).val, (y 1).isLt⟩) from Adam.pos_ext rfl rfl]
  rfl

end OverTheReals

variable (m : (ℓ : Loc nD τ sig) → Buf (Elt Ideal) ℓ)

/-- Every window moves by whole blocks of rows with the grid point. -/
theorem where_tiles : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Every grid point writes its four blocks back. -/
theorem flushes : ∀ t : Fin cfg0.N, (cfg0.win 4).flush t = true ∧ (cfg0.win 5).flush t = true
    ∧ (cfg0.win 6).flush t = true ∧ (cfg0.win 7).flush t = true :=
  (by decide +kernel : ∀ t : Fin grid0.N, win0_4.flush t = true ∧ win0_5.flush t = true ∧ win0_6.flush t = true ∧ win0_7.flush t = true)

/-- The entry of the whole array at position `y` of grid point `t`'s block of rows. -/
abbrev place (t : Fin cfg0.N) (y : S64x1024.Idx) : S64x1024.Idx := Adam.place t.val (by have : t.val < 1 := t.isLt; omega) y

/-- The gradient's block at a grid point. -/
theorem read0 (c : Dev nD) (t : Fin cfg0.N) (y : S64x1024.Idx) :
    iblk m c 0 t (Value.ix4_0 y) = m ((c : Thread nD τ).loc main_arg0) (idx_main_v0 (place t y) 0) := by
  obtain ⟨⟨a0, a1, a2⟩, -⟩ := where_tiles t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = 0; omega
  | ⟨1, _⟩ => show win0_0.index t (1 : Fin 3) * 64 + 1 * (y 0).val = t.val * 64 + (y 0).val; rw [a1]; omega
  | ⟨2, _⟩ => show win0_0.index t (2 : Fin 3) * 1024 + 1 * (y 1).val = (y 1).val; rw [a2]; omega

/-- The weights' block at a grid point. -/
theorem read1 (c : Dev nD) (t : Fin cfg0.N) (y : S64x1024.Idx) :
    iblk m c 1 t y = m ((c : Thread nD τ).loc main_arg1) (place t y) := by
  unfold iblk
  rw [View.read_apply]
  show V m c main_arg1 _ = _
  rw [V_main_arg1]
  exact congrArg _ (Adam.place_eq _ y _ (where_tiles t).2.1 rfl rfl)

/-- The first moments' block at a grid point. -/
theorem read2 (c : Dev nD) (t : Fin cfg0.N) (y : S64x1024.Idx) :
    iblk m c 2 t y = m ((c : Thread nD τ).loc main_arg2) (place t y) := by
  unfold iblk
  rw [View.read_apply]
  show V m c main_arg2 _ = _
  rw [V_main_arg2]
  exact congrArg _ (Adam.place_eq _ y _ (where_tiles t).2.2.1 rfl rfl)

/-- The second moments' block at a grid point. -/
theorem read3 (c : Dev nD) (t : Fin cfg0.N) (y : S64x1024.Idx) :
    iblk m c 3 t y = m ((c : Thread nD τ).loc main_arg3) (place t y) := by
  unfold iblk
  rw [View.read_apply]
  show V m c main_arg3 _ = _
  rw [V_main_arg3]
  exact congrArg _ (Adam.place_eq _ y _ (where_tiles t).2.2.2.1 rfl rfl)

/-- The reference's gradient at an entry. -/
theorem ref_total (g : Vec Ideal S1x64x1024 .f32) (i : S64x1024.Idx) :
    val_main_v0 (F := Ideal) g i = g (idx_main_v0 i 0) := by
  rw [val_main_v0_apply, Fin.sum_univ_one]
  show Ideal.ofBits .f32 0x00000000#32 + _ = _
  rw [Ideal.ofBits_zero_f32, zero_add]

/-- What window 4's array is to hold: the gradient. -/
abbrev G4 (c : Dev nD) : Vec Ideal S64x1024 .f32 := val_main_v0 (F := Ideal) (m ((c : Thread nD τ).loc main_arg0))

/-- What window 5's array is to hold: the change of the weights. -/
abbrev G5 (c : Dev nD) : Vec Ideal S64x1024 .f32 := val_main_v24 (F := Ideal) (m ((c : Thread nD τ).loc main_arg0))
  (m ((c : Thread nD τ).loc main_arg1)) (m ((c : Thread nD τ).loc main_arg2)) (m ((c : Thread nD τ).loc main_arg3))

/-- What window 6's array is to hold: the new first moments. -/
abbrev G6 (c : Dev nD) : Vec Ideal S64x1024 .f32 := val_main_v5 (F := Ideal) (m ((c : Thread nD τ).loc main_arg0))
  (m ((c : Thread nD τ).loc main_arg2))

/-- What window 7's array is to hold: the new second moments. -/
abbrev G7 (c : Dev nD) : Vec Ideal S64x1024 .f32 := val_main_v11 (F := Ideal) (m ((c : Thread nD τ).loc main_arg0))
  (m ((c : Thread nD τ).loc main_arg3))

/-- The reference's change of an entry is the optimiser's step. -/
theorem ref_delta (g : Vec Ideal S1x64x1024 .f32) (w mo vo : Vec Ideal S64x1024 .f32) (i : S64x1024.Idx) :
    val_main_v24 (F := Ideal) g w mo vo i
      = Adam.delta (val_main_v0 (F := Ideal) g i) (w i) (mo i) (vo i) := by
  rw [val_main_v24_apply, val_main_v22_apply, val_main_v19_apply,
    val_main_v13_apply, val_main_v18_apply, val_main_v16_apply,
    val_main_v15_apply, val_main_v21_apply, val_main_v5_apply,
    val_main_v11_apply, val_main_v2_apply, val_main_v4_apply,
    val_main_v7_apply, val_main_v10_apply, val_main_v8_apply,
    val_main_v1_apply, val_main_v3_apply, val_main_v6_apply,
    val_main_v9_apply, val_main_v12_apply, val_main_v14_apply,
    val_main_v17_apply, val_main_v20_apply, val_main_v23_apply]
  rfl

/-- The reference's new first moment of an entry is the optimiser's. -/
theorem ref_newM (g : Vec Ideal S1x64x1024 .f32) (mo : Vec Ideal S64x1024 .f32) (i : S64x1024.Idx) :
    val_main_v5 (F := Ideal) g mo i = Adam.newM (mo i) (val_main_v0 (F := Ideal) g i) := by
  rw [val_main_v5_apply, val_main_v2_apply, val_main_v4_apply,
    val_main_v1_apply, val_main_v3_apply]
  rfl

/-- The reference's new second moment of an entry is the optimiser's. -/
theorem ref_newV (g : Vec Ideal S1x64x1024 .f32) (vo : Vec Ideal S64x1024 .f32) (i : S64x1024.Idx) :
    val_main_v11 (F := Ideal) g vo i = Adam.newV (vo i) (val_main_v0 (F := Ideal) g i) := by
  rw [val_main_v11_apply, val_main_v7_apply, val_main_v10_apply,
    val_main_v8_apply, val_main_v6_apply, val_main_v9_apply]
  rfl

/-- A grid point's block of window 4's array lies at its rows. -/
theorem emb4 (t : Fin cfg0.N) (y : S64x1024.Idx) : ((cfg0.win 4).blk t).view.emb y = place t y :=
  Adam.place_eq _ y _ (where_tiles t).2.2.2.2.1 rfl rfl

/-- A grid point writes its block of window 4's array. -/
theorem written4 (c : Dev nD) (t : Fin cfg0.N) :
    (Gen.dats m 0 c).flushed 4 t = ((cfg0.win 4).blk t).view.read (Elt Ideal) (G4 m c) := by
  rw [Value.flushed4]
  funext y
  show out0_4 (iblk m c 0 t) (iblk m c 1 t) (iblk m c 2 t) (iblk m c 3 t) y = G4 m c (((cfg0.win 4).blk t).view.emb y)
  rw [emb4 t y, point4]
  unfold G4
  rw [ref_total]
  exact read0 m c t y

/-- The blocks cover window 4's array. -/
theorem covered4 (i : S64x1024.Idx) : ∃ t : Fin cfg0.N, (cfg0.win 4).flush t = true ∧ i ∈ ((cfg0.win 4).blk t).view.set := by
  have h0 : (i 0).val < 64 := (i 0).isLt
  let t : Fin cfg0.N := ⟨(i 0).val / 64, by show _ < 1; omega⟩
  refine ⟨t, (flushes t).1, ?_⟩
  show i ∈ ((View.whole main_v0_0).slice (win0_4.rect t)).set
  rw [View.set_slice_whole, Rect.mem_set_unit]
  exact Fin.forall_fin_two.mpr (Adam.in_block (by decide) i (where_tiles t).2.2.2.2.1)

/-- After the run window 4's array is the reference's. -/
theorem final4 (c : Dev nD) : (Gen.dats m 0 c).arrAt 4 cfg0.N = G4 m c :=
  (Gen.dats m 0 c).arrAt_eq_of_cover 4 _ (fun t _ => written4 m c t) covered4

/-- A grid point's block of window 5's array lies at its rows. -/
theorem emb5 (t : Fin cfg0.N) (y : S64x1024.Idx) : ((cfg0.win 5).blk t).view.emb y = place t y :=
  Adam.place_eq _ y _ (where_tiles t).2.2.2.2.2.1 rfl rfl

/-- A grid point writes its block of window 5's array. -/
theorem written5 (c : Dev nD) (t : Fin cfg0.N) :
    (Gen.dats m 0 c).flushed 5 t = ((cfg0.win 5).blk t).view.read (Elt Ideal) (G5 m c) := by
  rw [Value.flushed5]
  funext y
  show out0_5 (iblk m c 0 t) (iblk m c 1 t) (iblk m c 2 t) (iblk m c 3 t) y = G5 m c (((cfg0.win 5).blk t).view.emb y)
  rw [emb5 t y, point5]
  unfold G5
  rw [step5, ref_delta, ref_total, read0, read1, read2, read3]

/-- The blocks cover window 5's array. -/
theorem covered5 (i : S64x1024.Idx) : ∃ t : Fin cfg0.N, (cfg0.win 5).flush t = true ∧ i ∈ ((cfg0.win 5).blk t).view.set := by
  have h0 : (i 0).val < 64 := (i 0).isLt
  let t : Fin cfg0.N := ⟨(i 0).val / 64, by show _ < 1; omega⟩
  refine ⟨t, (flushes t).2.1, ?_⟩
  show i ∈ ((View.whole main_v0_1).slice (win0_5.rect t)).set
  rw [View.set_slice_whole, Rect.mem_set_unit]
  exact Fin.forall_fin_two.mpr (Adam.in_block (by decide) i (where_tiles t).2.2.2.2.2.1)

/-- After the run window 5's array is the reference's. -/
theorem final5 (c : Dev nD) : (Gen.dats m 0 c).arrAt 5 cfg0.N = G5 m c :=
  (Gen.dats m 0 c).arrAt_eq_of_cover 5 _ (fun t _ => written5 m c t) covered5

/-- A grid point's block of window 6's array lies at its rows. -/
theorem emb6 (t : Fin cfg0.N) (y : S64x1024.Idx) : ((cfg0.win 6).blk t).view.emb y = place t y :=
  Adam.place_eq _ y _ (where_tiles t).2.2.2.2.2.2.1 rfl rfl

/-- A grid point writes its block of window 6's array. -/
theorem written6 (c : Dev nD) (t : Fin cfg0.N) :
    (Gen.dats m 0 c).flushed 6 t = ((cfg0.win 6).blk t).view.read (Elt Ideal) (G6 m c) := by
  rw [Value.flushed6]
  funext y
  show out0_6 (iblk m c 0 t) (iblk m c 1 t) (iblk m c 2 t) (iblk m c 3 t) y = G6 m c (((cfg0.win 6).blk t).view.emb y)
  rw [emb6 t y, point6]
  unfold G6
  rw [ref_newM, ref_total, ← read0 m c t y, ← read2 m c t y]
  show Adam.newM (iblk m c 2 t (Value.ix6_0 y)) (iblk m c 0 t (Value.ix4_0 y)) = _
  exact congrArg (fun z => Adam.newM (iblk m c 2 t z) _) (Adam.pos_ext rfl rfl)

/-- The blocks cover window 6's array. -/
theorem covered6 (i : S64x1024.Idx) : ∃ t : Fin cfg0.N, (cfg0.win 6).flush t = true ∧ i ∈ ((cfg0.win 6).blk t).view.set := by
  have h0 : (i 0).val < 64 := (i 0).isLt
  let t : Fin cfg0.N := ⟨(i 0).val / 64, by show _ < 1; omega⟩
  refine ⟨t, (flushes t).2.2.1, ?_⟩
  show i ∈ ((View.whole main_v0_2).slice (win0_6.rect t)).set
  rw [View.set_slice_whole, Rect.mem_set_unit]
  exact Fin.forall_fin_two.mpr (Adam.in_block (by decide) i (where_tiles t).2.2.2.2.2.2.1)

/-- After the run window 6's array is the reference's. -/
theorem final6 (c : Dev nD) : (Gen.dats m 0 c).arrAt 6 cfg0.N = G6 m c :=
  (Gen.dats m 0 c).arrAt_eq_of_cover 6 _ (fun t _ => written6 m c t) covered6

/-- A grid point's block of window 7's array lies at its rows. -/
theorem emb7 (t : Fin cfg0.N) (y : S64x1024.Idx) : ((cfg0.win 7).blk t).view.emb y = place t y :=
  Adam.place_eq _ y _ (where_tiles t).2.2.2.2.2.2.2 rfl rfl

/-- A grid point writes its block of window 7's array. -/
theorem written7 (c : Dev nD) (t : Fin cfg0.N) :
    (Gen.dats m 0 c).flushed 7 t = ((cfg0.win 7).blk t).view.read (Elt Ideal) (G7 m c) := by
  rw [Value.flushed7]
  funext y
  show out0_7 (iblk m c 0 t) (iblk m c 1 t) (iblk m c 2 t) (iblk m c 3 t) y = G7 m c (((cfg0.win 7).blk t).view.emb y)
  rw [emb7 t y, point7]
  unfold G7
  rw [ref_newV, ref_total, ← read0 m c t y, ← read3 m c t y]
  show Adam.newV (iblk m c 3 t (Value.ix7_0 y)) (iblk m c 0 t (Value.ix4_0 y)) = _
  exact congrArg (fun z => Adam.newV (iblk m c 3 t z) _) (Adam.pos_ext rfl rfl)

/-- The blocks cover window 7's array. -/
theorem covered7 (i : S64x1024.Idx) : ∃ t : Fin cfg0.N, (cfg0.win 7).flush t = true ∧ i ∈ ((cfg0.win 7).blk t).view.set := by
  have h0 : (i 0).val < 64 := (i 0).isLt
  let t : Fin cfg0.N := ⟨(i 0).val / 64, by show _ < 1; omega⟩
  refine ⟨t, (flushes t).2.2.2, ?_⟩
  show i ∈ ((View.whole main_v0_3).slice (win0_7.rect t)).set
  rw [View.set_slice_whole, Rect.mem_set_unit]
  exact Fin.forall_fin_two.mpr (Adam.in_block (by decide) i (where_tiles t).2.2.2.2.2.2.2)

/-- After the run window 7's array is the reference's. -/
theorem final7 (c : Dev nD) : (Gen.dats m 0 c).arrAt 7 cfg0.N = G7 m c :=
  (Gen.dats m 0 c).arrAt_eq_of_cover 7 _ (fun t _ => written7 m c t) covered7

end Cert.AdamSmallIdeal.Equal

end
-- ==== Proof.AdamSmallClaim.lean ====
/- The value claim of the optimiser's call on the parameters that are cut over devices. -/
module

public import proofs.«01_k».proof.Defs
public import proofs.«01_k».proof.Proof.AdamSmallValue

@[expose] public section

noncomputable section

namespace Cert.Proof.AdamSmall

open Idealize.ShloMosaic Idealize.SL.Sem

/-- The reference's run, its four results read by the operation that writes each. -/
theorem ref_run (m : (ℓ : Loc Cert.AdamSmallRefIdeal.nD Cert.AdamSmallRefIdeal.τ Cert.AdamSmallRefIdeal.sig) → Buf (Elt Ideal) ℓ)
    (g : Dev Cert.AdamSmallRefIdeal.nD → PrngReg) :
    θ_run (Cert.AdamSmallRefIdeal.defs (F := Ideal)) (onTc (τ := Cert.AdamSmallRefIdeal.τ) (Cert.AdamSmallRefIdeal.main (F := Ideal))) ⟨m, fun _ => 0, g⟩
      fun r => ∀ c : Dev Cert.AdamSmallRefIdeal.nD,
      r.2.mem ((c.tc : Thread Cert.AdamSmallRefIdeal.nD Cert.AdamSmallRefIdeal.τ).loc Cert.AdamSmallRefIdeal.main_v0) = Cert.AdamSmallRefIdeal.Read.val_main_v0 (F := Ideal) (m ((c.tc : Thread Cert.AdamSmallRefIdeal.nD Cert.AdamSmallRefIdeal.τ).loc Cert.AdamSmallRefIdeal.main_arg0))
      ∧ r.2.mem ((c.tc : Thread Cert.AdamSmallRefIdeal.nD Cert.AdamSmallRefIdeal.τ).loc Cert.AdamSmallRefIdeal.main_v24) = Cert.AdamSmallRefIdeal.Read.val_main_v24 (F := Ideal) (m ((c.tc : Thread Cert.AdamSmallRefIdeal.nD Cert.AdamSmallRefIdeal.τ).loc Cert.AdamSmallRefIdeal.main_arg0)) (m ((c.tc : Thread Cert.AdamSmallRefIdeal.nD Cert.AdamSmallRefIdeal.τ).loc Cert.AdamSmallRefIdeal.main_arg1)) (m ((c.tc : Thread Cert.AdamSmallRefIdeal.nD Cert.AdamSmallRefIdeal.τ).loc Cert.AdamSmallRefIdeal.main_arg2)) (m ((c.tc : Thread Cert.AdamSmallRefIdeal.nD Cert.AdamSmallRefIdeal.τ).loc Cert.AdamSmallRefIdeal.main_arg3))
      ∧ r.2.mem ((c.tc : Thread Cert.AdamSmallRefIdeal.nD Cert.AdamSmallRefIdeal.τ).loc Cert.AdamSmallRefIdeal.main_v5) = Cert.AdamSmallRefIdeal.Read.val_main_v5 (F := Ideal) (m ((c.tc : Thread Cert.AdamSmallRefIdeal.nD Cert.AdamSmallRefIdeal.τ).loc Cert.AdamSmallRefIdeal.main_arg0)) (m ((c.tc : Thread Cert.AdamSmallRefIdeal.nD Cert.AdamSmallRefIdeal.τ).loc Cert.AdamSmallRefIdeal.main_arg2))
      ∧ r.2.mem ((c.tc : Thread Cert.AdamSmallRefIdeal.nD Cert.AdamSmallRefIdeal.τ).loc Cert.AdamSmallRefIdeal.main_v11) = Cert.AdamSmallRefIdeal.Read.val_main_v11 (F := Ideal) (m ((c.tc : Thread Cert.AdamSmallRefIdeal.nD Cert.AdamSmallRefIdeal.τ).loc Cert.AdamSmallRefIdeal.main_arg0)) (m ((c.tc : Thread Cert.AdamSmallRefIdeal.nD Cert.AdamSmallRefIdeal.τ).loc Cert.AdamSmallRefIdeal.main_arg3))
      ∧ r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3) :=
  (θ_run Cert.AdamSmallRefIdeal.defs _ _).mono (fun _ h c => ⟨(h c).1.trans rfl, (h c).2.1.trans rfl, (h c).2.2.1.trans rfl,
    (h c).2.2.2.1.trans rfl, (h c).2.2.2.2⟩) (Cert.AdamSmallRefIdeal.Value.run (F := Ideal) m g)

/-- Kernel and reference end with the same gradient, the same change and the same new moments. -/
theorem algebraic : Cert.algebraic_AdamSmallIdeal_AdamSmallRefIdeal := by
  intro m g m' g' _ h
  refine ⟨fun c => Cert.AdamSmallIdeal.Equal.G4 m c, fun c => Cert.AdamSmallIdeal.Equal.G5 m c, fun c => Cert.AdamSmallIdeal.Equal.G6 m c,
    fun c => Cert.AdamSmallIdeal.Equal.G7 m c,
    (θ_run Cert.AdamSmallIdeal.defs _ _).mono (fun _ k c => ⟨(k c).1.trans (Cert.AdamSmallIdeal.Equal.final4 m c),
      (k c).2.1.trans (Cert.AdamSmallIdeal.Equal.final5 m c), (k c).2.2.1.trans (Cert.AdamSmallIdeal.Equal.final6 m c),
      (k c).2.2.2.1.trans (Cert.AdamSmallIdeal.Equal.final7 m c), (k c).2.2.2.2⟩) (Cert.AdamSmallIdeal.Value.run_blocks m g),
    (θ_run Cert.AdamSmallRefIdeal.defs _ _).mono (fun _ k c => ⟨(k c).1.trans ?_, (k c).2.1.trans ?_, (k c).2.2.1.trans ?_,
      (k c).2.2.2.1.trans ?_, (k c).2.2.2.2⟩) (ref_run m' g')⟩
  · rw [(h c).1]
  · rw [(h c).1, (h c).2.1, (h c).2.2.1, (h c).2.2.2]
  · rw [(h c).1, (h c).2.2.1]
  · rw [(h c).1, (h c).2.2.2]

end Cert.Proof.AdamSmall

end
-- ==== Proof.AdamWOutValue.lean ====
/- The optimiser's call on the output projection's weights: what one grid point computes, what the four arrays hold after the
   run, and that they are the reference's. -/
module

public import proofs.«01_k».proof.Proof.Adam
public import proofs.«01_k».proof.Proof.Gen.AdamWOutIdeal.Value
public import proofs.«01_k».proof.Proof.Gen.AdamWOutRefIdeal.Read

@[expose] public section

noncomputable section

namespace Cert.AdamWOutIdeal.Equal

open Cert.AdamWOutIdeal Cert.AdamWOutIdeal.Gen Idealize.ShloMosaic Idealize.ShloMosaic.TcCoe Idealize.SL.Sem
open Idealize.ShloMosaic.ValueIdx
open Cert.AdamWOutRefIdeal.Read

section AnyFloat
variable {F : FTy → Type} [FloatOps F] [Named F]
variable (x0 : Vec F S1x128x2048 .f32) (x1 x2 x3 : Vec F S128x2048 .f32) (y : S128x2048.Idx)

/-- A grid point's first result: the gradient. -/
theorem point4 : out0_4 x0 x1 x2 x3 y = Value.E4 x0 y := by
  unfold out0_4
  rw [Value.canon4_eq, View.ld_unit_zero (S := S1x128x2048) Adam.off_three]

/-- A grid point's second result: the change of the weights. -/
theorem point5 : out0_5 x0 x1 x2 x3 y = Value.E5 x2 x0 x3 x1 y := by
  unfold out0_5
  rw [Value.canon5_eq, View.ld_unit_zero (S := S1x128x2048) Adam.off_three, View.ld_unit_zero (S := S128x2048) Adam.off_two,
    View.ld_unit_zero (S := S128x2048) Adam.off_two, View.ld_unit_zero (S := S128x2048) Adam.off_two]

/-- A grid point's third result: the new first moments. -/
theorem point6 : out0_6 x0 x1 x2 x3 y = Value.E6 x2 x0 y := by
  unfold out0_6
  rw [Value.canon6_eq, View.ld_unit_zero (S := S1x128x2048) Adam.off_three, View.ld_unit_zero (S := S128x2048) Adam.off_two]

/-- A grid point's fourth result: the new second moments. -/
theorem point7 : out0_7 x0 x1 x2 x3 y = Value.E7 x3 x0 y := by
  unfold out0_7
  rw [Value.canon7_eq, View.ld_unit_zero (S := S1x128x2048) Adam.off_three, View.ld_unit_zero (S := S128x2048) Adam.off_two]

end AnyFloat

section OverTheReals
variable (x0 : Vec Ideal S1x128x2048 .f32) (x1 x2 x3 : Vec Ideal S128x2048 .f32) (y : S128x2048.Idx)

/-- Over the reals the change of an entry is the optimiser's step. -/
theorem step5 : Value.E5 x2 x0 x3 x1 y = Adam.delta (x0 (Value.ix4_0 y)) (x1 y) (x2 y) (x3 y) := by
  unfold Adam.delta
  rw [Adam.div_first, Adam.div_second]
  have e1 : Named.named (F := Ideal) κ "c1" (φ := .f32) 0x3FC48605#32 = ((8388608 / 5463681 : ℝ) : EReal) :=
    IdealRules.named_const.ideal_named_scalar _ _ _ _ rfl
  have e2 : Named.named (F := Ideal) κ "c2" (φ := .f32) 0x42C8E6D3#32 = ((268435456 / 2672307 : ℝ) : EReal) :=
    IdealRules.named_const.ideal_named_scalar _ _ _ _ rfl
  show FloatOps.mulf (F := Ideal) (φ := .f32) _ (FloatOps.addf (FloatOps.divf (FloatOps.mulf _ (Named.named (F := Ideal) κ "c1" (φ := .f32) 0x3FC48605#32))
    (FloatOps.addf (FloatOps.sqrt (FloatOps.mulf _ (Named.named (F := Ideal) κ "c2" (φ := .f32) 0x42C8E6D3#32))) _)) _) = _
  rw [e1, e2]
  rw [show y = (fun a => match a with | ⟨0, _⟩ => ⟨(y 0).val, (y 0).isLt⟩ | ⟨1, _⟩ => ⟨(y 1).val, (y 1).isLt⟩) from Adam.pos_ext rfl rfl]
  rfl

end OverTheReals

variable (m : (ℓ : Loc nD τ sig) → Buf (Elt Ideal) ℓ)

/-- Every window moves by whole blocks of rows with the grid point. -/
theorem where_tiles : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Every grid point writes its four blocks back. -/
theorem flushes : ∀ t : Fin cfg0.N, (cfg0.win 4).flush t = true ∧ (cfg0.win 5).flush t = true
    ∧ (cfg0.win 6).flush t = true ∧ (cfg0.win 7).flush t = true :=
  (by decide +kernel : ∀ t : Fin grid0.N, win0_4.flush t = true ∧ win0_5.flush t = true ∧ win0_6.flush t = true ∧ win0_7.flush t = true)

/-- The entry of the whole array at position `y` of grid point `t`'s block of rows. -/
abbrev place (t : Fin cfg0.N) (y : S128x2048.Idx) : S512x2048.Idx := Adam.place t.val (by have : t.val < 4 := t.isLt; omega) y

/-- The gradient's block at a grid point. -/
theorem read0 (c : Dev nD) (t : Fin cfg0.N) (y : S128x2048.Idx) :
    iblk m c 0 t (Value.ix4_0 y) = m ((c : Thread nD τ).loc main_arg0) (idx_main_v0 (place t y) 0) := by
  obtain ⟨⟨a0, a1, a2⟩, -⟩ := where_tiles t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = 0; omega
  | ⟨1, _⟩ => show win0_0.index t (1 : Fin 3) * 128 + 1 * (y 0).val = t.val * 128 + (y 0).val; rw [a1]; omega
  | ⟨2, _⟩ => show win0_0.index t (2 : Fin 3) * 2048 + 1 * (y 1).val = (y 1).val; rw [a2]; omega

/-- The weights' block at a grid point. -/
theorem read1 (c : Dev nD) (t : Fin cfg0.N) (y : S128x2048.Idx) :
    iblk m c 1 t y = m ((c : Thread nD τ).loc main_arg1) (place t y) := by
  unfold iblk
  rw [View.read_apply]
  show V m c main_arg1 _ = _
  rw [V_main_arg1]
  exact congrArg _ (Adam.place_eq _ y _ (where_tiles t).2.1 rfl rfl)

/-- The first moments' block at a grid point. -/
theorem read2 (c : Dev nD) (t : Fin cfg0.N) (y : S128x2048.Idx) :
    iblk m c 2 t y = m ((c : Thread nD τ).loc main_arg2) (place t y) := by
  unfold iblk
  rw [View.read_apply]
  show V m c main_arg2 _ = _
  rw [V_main_arg2]
  exact congrArg _ (Adam.place_eq _ y _ (where_tiles t).2.2.1 rfl rfl)

/-- The second moments' block at a grid point. -/
theorem read3 (c : Dev nD) (t : Fin cfg0.N) (y : S128x2048.Idx) :
    iblk m c 3 t y = m ((c : Thread nD τ).loc main_arg3) (place t y) := by
  unfold iblk
  rw [View.read_apply]
  show V m c main_arg3 _ = _
  rw [V_main_arg3]
  exact congrArg _ (Adam.place_eq _ y _ (where_tiles t).2.2.2.1 rfl rfl)

/-- The reference's gradient at an entry. -/
theorem ref_total (g : Vec Ideal S1x512x2048 .f32) (i : S512x2048.Idx) :
    val_main_v0 (F := Ideal) g i = g (idx_main_v0 i 0) := by
  rw [val_main_v0_apply, Fin.sum_univ_one]
  show Ideal.ofBits .f32 0x00000000#32 + _ = _
  rw [Ideal.ofBits_zero_f32, zero_add]

/-- What window 4's array is to hold: the gradient. -/
abbrev G4 (c : Dev nD) : Vec Ideal S512x2048 .f32 := val_main_v0 (F := Ideal) (m ((c : Thread nD τ).loc main_arg0))

/-- What window 5's array is to hold: the change of the weights. -/
abbrev G5 (c : Dev nD) : Vec Ideal S512x2048 .f32 := val_main_v24 (F := Ideal) (m ((c : Thread nD τ).loc main_arg0))
  (m ((c : Thread nD τ).loc main_arg1)) (m ((c : Thread nD τ).loc main_arg2)) (m ((c : Thread nD τ).loc main_arg3))

/-- What window 6's array is to hold: the new first moments. -/
abbrev G6 (c : Dev nD) : Vec Ideal S512x2048 .f32 := val_main_v5 (F := Ideal) (m ((c : Thread nD τ).loc main_arg0))
  (m ((c : Thread nD τ).loc main_arg2))

/-- What window 7's array is to hold: the new second moments. -/
abbrev G7 (c : Dev nD) : Vec Ideal S512x2048 .f32 := val_main_v11 (F := Ideal) (m ((c : Thread nD τ).loc main_arg0))
  (m ((c : Thread nD τ).loc main_arg3))

/-- The reference's change of an entry is the optimiser's step. -/
theorem ref_delta (g : Vec Ideal S1x512x2048 .f32) (w mo vo : Vec Ideal S512x2048 .f32) (i : S512x2048.Idx) :
    val_main_v24 (F := Ideal) g w mo vo i
      = Adam.delta (val_main_v0 (F := Ideal) g i) (w i) (mo i) (vo i) := by
  rw [val_main_v24_apply, val_main_v22_apply, val_main_v19_apply,
    val_main_v13_apply, val_main_v18_apply, val_main_v16_apply,
    val_main_v15_apply, val_main_v21_apply, val_main_v5_apply,
    val_main_v11_apply, val_main_v2_apply, val_main_v4_apply,
    val_main_v7_apply, val_main_v10_apply, val_main_v8_apply,
    val_main_v1_apply, val_main_v3_apply, val_main_v6_apply,
    val_main_v9_apply, val_main_v12_apply, val_main_v14_apply,
    val_main_v17_apply, val_main_v20_apply, val_main_v23_apply]
  rfl

/-- The reference's new first moment of an entry is the optimiser's. -/
theorem ref_newM (g : Vec Ideal S1x512x2048 .f32) (mo : Vec Ideal S512x2048 .f32) (i : S512x2048.Idx) :
    val_main_v5 (F := Ideal) g mo i = Adam.newM (mo i) (val_main_v0 (F := Ideal) g i) := by
  rw [val_main_v5_apply, val_main_v2_apply, val_main_v4_apply,
    val_main_v1_apply, val_main_v3_apply]
  rfl

/-- The reference's new second moment of an entry is the optimiser's. -/
theorem ref_newV (g : Vec Ideal S1x512x2048 .f32) (vo : Vec Ideal S512x2048 .f32) (i : S512x2048.Idx) :
    val_main_v11 (F := Ideal) g vo i = Adam.newV (vo i) (val_main_v0 (F := Ideal) g i) := by
  rw [val_main_v11_apply, val_main_v7_apply, val_main_v10_apply,
    val_main_v8_apply, val_main_v6_apply, val_main_v9_apply]
  rfl

/-- A grid point's block of window 4's array lies at its rows. -/
theorem emb4 (t : Fin cfg0.N) (y : S128x2048.Idx) : ((cfg0.win 4).blk t).view.emb y = place t y :=
  Adam.place_eq _ y _ (where_tiles t).2.2.2.2.1 rfl rfl

/-- A grid point writes its block of window 4's array. -/
theorem written4 (c : Dev nD) (t : Fin cfg0.N) :
    (Gen.dats m 0 c).flushed 4 t = ((cfg0.win 4).blk t).view.read (Elt Ideal) (G4 m c) := by
  rw [Value.flushed4]
  funext y
  show out0_4 (iblk m c 0 t) (iblk m c 1 t) (iblk m c 2 t) (iblk m c 3 t) y = G4 m c (((cfg0.win 4).blk t).view.emb y)
  rw [emb4 t y, point4]
  unfold G4
  rw [ref_total]
  exact read0 m c t y

/-- The blocks cover window 4's array. -/
theorem covered4 (i : S512x2048.Idx) : ∃ t : Fin cfg0.N, (cfg0.win 4).flush t = true ∧ i ∈ ((cfg0.win 4).blk t).view.set := by
  have h0 : (i 0).val < 512 := (i 0).isLt
  let t : Fin cfg0.N := ⟨(i 0).val / 128, by show _ < 4; omega⟩
  refine ⟨t, (flushes t).1, ?_⟩
  show i ∈ ((View.whole main_v0_0).slice (win0_4.rect t)).set
  rw [View.set_slice_whole, Rect.mem_set_unit]
  exact Fin.forall_fin_two.mpr (Adam.in_block (by decide) i (where_tiles t).2.2.2.2.1)

/-- After the run window 4's array is the reference's. -/
theorem final4 (c : Dev nD) : (Gen.dats m 0 c).arrAt 4 cfg0.N = G4 m c :=
  (Gen.dats m 0 c).arrAt_eq_of_cover 4 _ (fun t _ => written4 m c t) covered4

/-- A grid point's block of window 5's array lies at its rows. -/
theorem emb5 (t : Fin cfg0.N) (y : S128x2048.Idx) : ((cfg0.win 5).blk t).view.emb y = place t y :=
  Adam.place_eq _ y _ (where_tiles t).2.2.2.2.2.1 rfl rfl

/-- A grid point writes its block of window 5's array. -/
theorem written5 (c : Dev nD) (t : Fin cfg0.N) :
    (Gen.dats m 0 c).flushed 5 t = ((cfg0.win 5).blk t).view.read (Elt Ideal) (G5 m c) := by
  rw [Value.flushed5]
  funext y
  show out0_5 (iblk m c 0 t) (iblk m c 1 t) (iblk m c 2 t) (iblk m c 3 t) y = G5 m c (((cfg0.win 5).blk t).view.emb y)
  rw [emb5 t y, point5]
  unfold G5
  rw [step5, ref_delta, ref_total, read0, read1, read2, read3]

/-- The blocks cover window 5's array. -/
theorem covered5 (i : S512x2048.Idx) : ∃ t : Fin cfg0.N, (cfg0.win 5).flush t = true ∧ i ∈ ((cfg0.win 5).blk t).view.set := by
  have h0 : (i 0).val < 512 := (i 0).isLt
  let t : Fin cfg0.N := ⟨(i 0).val / 128, by show _ < 4; omega⟩
  refine ⟨t, (flushes t).2.1, ?_⟩
  show i ∈ ((View.whole main_v0_1).slice (win0_5.rect t)).set
  rw [View.set_slice_whole, Rect.mem_set_unit]
  exact Fin.forall_fin_two.mpr (Adam.in_block (by decide) i (where_tiles t).2.2.2.2.2.1)

/-- After the run window 5's array is the reference's. -/
theorem final5 (c : Dev nD) : (Gen.dats m 0 c).arrAt 5 cfg0.N = G5 m c :=
  (Gen.dats m 0 c).arrAt_eq_of_cover 5 _ (fun t _ => written5 m c t) covered5

/-- A grid point's block of window 6's array lies at its rows. -/
theorem emb6 (t : Fin cfg0.N) (y : S128x2048.Idx) : ((cfg0.win 6).blk t).view.emb y = place t y :=
  Adam.place_eq _ y _ (where_tiles t).2.2.2.2.2.2.1 rfl rfl

/-- A grid point writes its block of window 6's array. -/
theorem written6 (c : Dev nD) (t : Fin cfg0.N) :
    (Gen.dats m 0 c).flushed 6 t = ((cfg0.win 6).blk t).view.read (Elt Ideal) (G6 m c) := by
  rw [Value.flushed6]
  funext y
  show out0_6 (iblk m c 0 t) (iblk m c 1 t) (iblk m c 2 t) (iblk m c 3 t) y = G6 m c (((cfg0.win 6).blk t).view.emb y)
  rw [emb6 t y, point6]
  unfold G6
  rw [ref_newM, ref_total, ← read0 m c t y, ← read2 m c t y]
  show Adam.newM (iblk m c 2 t (Value.ix6_0 y)) (iblk m c 0 t (Value.ix4_0 y)) = _
  exact congrArg (fun z => Adam.newM (iblk m c 2 t z) _) (Adam.pos_ext rfl rfl)

/-- The blocks cover window 6's array. -/
theorem covered6 (i : S512x2048.Idx) : ∃ t : Fin cfg0.N, (cfg0.win 6).flush t = true ∧ i ∈ ((cfg0.win 6).blk t).view.set := by
  have h0 : (i 0).val < 512 := (i 0).isLt
  let t : Fin cfg0.N := ⟨(i 0).val / 128, by show _ < 4; omega⟩
  refine ⟨t, (flushes t).2.2.1, ?_⟩
  show i ∈ ((View.whole main_v0_2).slice (win0_6.rect t)).set
  rw [View.set_slice_whole, Rect.mem_set_unit]
  exact Fin.forall_fin_two.mpr (Adam.in_block (by decide) i (where_tiles t).2.2.2.2.2.2.1)

/-- After the run window 6's array is the reference's. -/
theorem final6 (c : Dev nD) : (Gen.dats m 0 c).arrAt 6 cfg0.N = G6 m c :=
  (Gen.dats m 0 c).arrAt_eq_of_cover 6 _ (fun t _ => written6 m c t) covered6

/-- A grid point's block of window 7's array lies at its rows. -/
theorem emb7 (t : Fin cfg0.N) (y : S128x2048.Idx) : ((cfg0.win 7).blk t).view.emb y = place t y :=
  Adam.place_eq _ y _ (where_tiles t).2.2.2.2.2.2.2 rfl rfl

/-- A grid point writes its block of window 7's array. -/
theorem written7 (c : Dev nD) (t : Fin cfg0.N) :
    (Gen.dats m 0 c).flushed 7 t = ((cfg0.win 7).blk t).view.read (Elt Ideal) (G7 m c) := by
  rw [Value.flushed7]
  funext y
  show out0_7 (iblk m c 0 t) (iblk m c 1 t) (iblk m c 2 t) (iblk m c 3 t) y = G7 m c (((cfg0.win 7).blk t).view.emb y)
  rw [emb7 t y, point7]
  unfold G7
  rw [ref_newV, ref_total, ← read0 m c t y, ← read3 m c t y]
  show Adam.newV (iblk m c 3 t (Value.ix7_0 y)) (iblk m c 0 t (Value.ix4_0 y)) = _
  exact congrArg (fun z => Adam.newV (iblk m c 3 t z) _) (Adam.pos_ext rfl rfl)

/-- The blocks cover window 7's array. -/
theorem covered7 (i : S512x2048.Idx) : ∃ t : Fin cfg0.N, (cfg0.win 7).flush t = true ∧ i ∈ ((cfg0.win 7).blk t).view.set := by
  have h0 : (i 0).val < 512 := (i 0).isLt
  let t : Fin cfg0.N := ⟨(i 0).val / 128, by show _ < 4; omega⟩
  refine ⟨t, (flushes t).2.2.2, ?_⟩
  show i ∈ ((View.whole main_v0_3).slice (win0_7.rect t)).set
  rw [View.set_slice_whole, Rect.mem_set_unit]
  exact Fin.forall_fin_two.mpr (Adam.in_block (by decide) i (where_tiles t).2.2.2.2.2.2.2)

/-- After the run window 7's array is the reference's. -/
theorem final7 (c : Dev nD) : (Gen.dats m 0 c).arrAt 7 cfg0.N = G7 m c :=
  (Gen.dats m 0 c).arrAt_eq_of_cover 7 _ (fun t _ => written7 m c t) covered7

end Cert.AdamWOutIdeal.Equal

end
-- ==== Proof.AdamWOutClaim.lean ====
/- The value claim of the optimiser's call on the output projection's weights. -/
module

public import proofs.«01_k».proof.Defs
public import proofs.«01_k».proof.Proof.AdamWOutValue

@[expose] public section

noncomputable section

namespace Cert.Proof.AdamWOut

open Idealize.ShloMosaic Idealize.SL.Sem

/-- The reference's run, its four results read by the operation that writes each. -/
theorem ref_run (m : (ℓ : Loc Cert.AdamWOutRefIdeal.nD Cert.AdamWOutRefIdeal.τ Cert.AdamWOutRefIdeal.sig) → Buf (Elt Ideal) ℓ)
    (g : Dev Cert.AdamWOutRefIdeal.nD → PrngReg) :
    θ_run (Cert.AdamWOutRefIdeal.defs (F := Ideal)) (onTc (τ := Cert.AdamWOutRefIdeal.τ) (Cert.AdamWOutRefIdeal.main (F := Ideal))) ⟨m, fun _ => 0, g⟩
      fun r => ∀ c : Dev Cert.AdamWOutRefIdeal.nD,
      r.2.mem ((c.tc : Thread Cert.AdamWOutRefIdeal.nD Cert.AdamWOutRefIdeal.τ).loc Cert.AdamWOutRefIdeal.main_v0) = Cert.AdamWOutRefIdeal.Read.val_main_v0 (F := Ideal) (m ((c.tc : Thread Cert.AdamWOutRefIdeal.nD Cert.AdamWOutRefIdeal.τ).loc Cert.AdamWOutRefIdeal.main_arg0))
      ∧ r.2.mem ((c.tc : Thread Cert.AdamWOutRefIdeal.nD Cert.AdamWOutRefIdeal.τ).loc Cert.AdamWOutRefIdeal.main_v24) = Cert.AdamWOutRefIdeal.Read.val_main_v24 (F := Ideal) (m ((c.tc : Thread Cert.AdamWOutRefIdeal.nD Cert.AdamWOutRefIdeal.τ).loc Cert.AdamWOutRefIdeal.main_arg0)) (m ((c.tc : Thread Cert.AdamWOutRefIdeal.nD Cert.AdamWOutRefIdeal.τ).loc Cert.AdamWOutRefIdeal.main_arg1)) (m ((c.tc : Thread Cert.AdamWOutRefIdeal.nD Cert.AdamWOutRefIdeal.τ).loc Cert.AdamWOutRefIdeal.main_arg2)) (m ((c.tc : Thread Cert.AdamWOutRefIdeal.nD Cert.AdamWOutRefIdeal.τ).loc Cert.AdamWOutRefIdeal.main_arg3))
      ∧ r.2.mem ((c.tc : Thread Cert.AdamWOutRefIdeal.nD Cert.AdamWOutRefIdeal.τ).loc Cert.AdamWOutRefIdeal.main_v5) = Cert.AdamWOutRefIdeal.Read.val_main_v5 (F := Ideal) (m ((c.tc : Thread Cert.AdamWOutRefIdeal.nD Cert.AdamWOutRefIdeal.τ).loc Cert.AdamWOutRefIdeal.main_arg0)) (m ((c.tc : Thread Cert.AdamWOutRefIdeal.nD Cert.AdamWOutRefIdeal.τ).loc Cert.AdamWOutRefIdeal.main_arg2))
      ∧ r.2.mem ((c.tc : Thread Cert.AdamWOutRefIdeal.nD Cert.AdamWOutRefIdeal.τ).loc Cert.AdamWOutRefIdeal.main_v11) = Cert.AdamWOutRefIdeal.Read.val_main_v11 (F := Ideal) (m ((c.tc : Thread Cert.AdamWOutRefIdeal.nD Cert.AdamWOutRefIdeal.τ).loc Cert.AdamWOutRefIdeal.main_arg0)) (m ((c.tc : Thread Cert.AdamWOutRefIdeal.nD Cert.AdamWOutRefIdeal.τ).loc Cert.AdamWOutRefIdeal.main_arg3))
      ∧ r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3) :=
  (θ_run Cert.AdamWOutRefIdeal.defs _ _).mono (fun _ h c => ⟨(h c).1.trans rfl, (h c).2.1.trans rfl, (h c).2.2.1.trans rfl,
    (h c).2.2.2.1.trans rfl, (h c).2.2.2.2⟩) (Cert.AdamWOutRefIdeal.Value.run (F := Ideal) m g)

/-- Kernel and reference end with the same gradient, the same change and the same new moments. -/
theorem algebraic : Cert.algebraic_AdamWOutIdeal_AdamWOutRefIdeal := by
  intro m g m' g' _ h
  refine ⟨fun c => Cert.AdamWOutIdeal.Equal.G4 m c, fun c => Cert.AdamWOutIdeal.Equal.G5 m c, fun c => Cert.AdamWOutIdeal.Equal.G6 m c,
    fun c => Cert.AdamWOutIdeal.Equal.G7 m c,
    (θ_run Cert.AdamWOutIdeal.defs _ _).mono (fun _ k c => ⟨(k c).1.trans (Cert.AdamWOutIdeal.Equal.final4 m c),
      (k c).2.1.trans (Cert.AdamWOutIdeal.Equal.final5 m c), (k c).2.2.1.trans (Cert.AdamWOutIdeal.Equal.final6 m c),
      (k c).2.2.2.1.trans (Cert.AdamWOutIdeal.Equal.final7 m c), (k c).2.2.2.2⟩) (Cert.AdamWOutIdeal.Value.run_blocks m g),
    (θ_run Cert.AdamWOutRefIdeal.defs _ _).mono (fun _ k c => ⟨(k c).1.trans ?_, (k c).2.1.trans ?_, (k c).2.2.1.trans ?_,
      (k c).2.2.2.1.trans ?_, (k c).2.2.2.2⟩) (ref_run m' g')⟩
  · rw [(h c).1]
  · rw [(h c).1, (h c).2.1, (h c).2.2.1, (h c).2.2.2]
  · rw [(h c).1, (h c).2.2.1]
  · rw [(h c).1, (h c).2.2.2]

end Cert.Proof.AdamWOut

end
-- ==== Proof.AdamWInValue.lean ====
/- The optimiser's call on the input projection's weights: what one grid point computes, what the four arrays hold after the
   run, and that they are the reference's. -/
module

public import proofs.«01_k».proof.Proof.Adam
public import proofs.«01_k».proof.Proof.Gen.AdamWInIdeal.Value
public import proofs.«01_k».proof.Proof.Gen.AdamWInRefIdeal.Read

@[expose] public section

noncomputable section

namespace Cert.AdamWInIdeal.Equal

open Cert.AdamWInIdeal Cert.AdamWInIdeal.Gen Idealize.ShloMosaic Idealize.ShloMosaic.TcCoe Idealize.SL.Sem
open Idealize.ShloMosaic.ValueIdx
open Cert.AdamWInRefIdeal.Read

section AnyFloat
variable {F : FTy → Type} [FloatOps F] [Named F]
variable (x0 : Vec F S1x128x2084 .f32) (x1 x2 x3 : Vec F S128x2084 .f32) (y : S128x2084.Idx)

/-- A grid point's first result: the gradient. -/
theorem point4 : out0_4 x0 x1 x2 x3 y = Value.E4 x0 y := by
  unfold out0_4
  rw [Value.canon4_eq, View.ld_unit_zero (S := S1x128x2084) Adam.off_three]

/-- A grid point's second result: the change of the weights. -/
theorem point5 : out0_5 x0 x1 x2 x3 y = Value.E5 x2 x0 x3 x1 y := by
  unfold out0_5
  rw [Value.canon5_eq, View.ld_unit_zero (S := S1x128x2084) Adam.off_three, View.ld_unit_zero (S := S128x2084) Adam.off_two,
    View.ld_unit_zero (S := S128x2084) Adam.off_two, View.ld_unit_zero (S := S128x2084) Adam.off_two]

/-- A grid point's third result: the new first moments. -/
theorem point6 : out0_6 x0 x1 x2 x3 y = Value.E6 x2 x0 y := by
  unfold out0_6
  rw [Value.canon6_eq, View.ld_unit_zero (S := S1x128x2084) Adam.off_three, View.ld_unit_zero (S := S128x2084) Adam.off_two]

/-- A grid point's fourth result: the new second moments. -/
theorem point7 : out0_7 x0 x1 x2 x3 y = Value.E7 x3 x0 y := by
  unfold out0_7
  rw [Value.canon7_eq, View.ld_unit_zero (S := S1x128x2084) Adam.off_three, View.ld_unit_zero (S := S128x2084) Adam.off_two]

end AnyFloat

section OverTheReals
variable (x0 : Vec Ideal S1x128x2084 .f32) (x1 x2 x3 : Vec Ideal S128x2084 .f32) (y : S128x2084.Idx)

/-- Over the reals the change of an entry is the optimiser's step. -/
theorem step5 : Value.E5 x2 x0 x3 x1 y = Adam.delta (x0 (Value.ix4_0 y)) (x1 y) (x2 y) (x3 y) := by
  unfold Adam.delta
  rw [Adam.div_first, Adam.div_second]
  have e1 : Named.named (F := Ideal) κ "c1" (φ := .f32) 0x3FC48605#32 = ((8388608 / 5463681 : ℝ) : EReal) :=
    IdealRules.named_const.ideal_named_scalar _ _ _ _ rfl
  have e2 : Named.named (F := Ideal) κ "c2" (φ := .f32) 0x42C8E6D3#32 = ((268435456 / 2672307 : ℝ) : EReal) :=
    IdealRules.named_const.ideal_named_scalar _ _ _ _ rfl
  show FloatOps.mulf (F := Ideal) (φ := .f32) _ (FloatOps.addf (FloatOps.divf (FloatOps.mulf _ (Named.named (F := Ideal) κ "c1" (φ := .f32) 0x3FC48605#32))
    (FloatOps.addf (FloatOps.sqrt (FloatOps.mulf _ (Named.named (F := Ideal) κ "c2" (φ := .f32) 0x42C8E6D3#32))) _)) _) = _
  rw [e1, e2]
  rw [show y = (fun a => match a with | ⟨0, _⟩ => ⟨(y 0).val, (y 0).isLt⟩ | ⟨1, _⟩ => ⟨(y 1).val, (y 1).isLt⟩) from Adam.pos_ext rfl rfl]
  rfl

end OverTheReals

variable (m : (ℓ : Loc nD τ sig) → Buf (Elt Ideal) ℓ)

/-- Every window moves by whole blocks of rows with the grid point. -/
theorem where_tiles : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Every grid point writes its four blocks back. -/
theorem flushes : ∀ t : Fin cfg0.N, (cfg0.win 4).flush t = true ∧ (cfg0.win 5).flush t = true
    ∧ (cfg0.win 6).flush t = true ∧ (cfg0.win 7).flush t = true :=
  (by decide +kernel : ∀ t : Fin grid0.N, win0_4.flush t = true ∧ win0_5.flush t = true ∧ win0_6.flush t = true ∧ win0_7.flush t = true)

/-- The entry of the whole array at position `y` of grid point `t`'s block of rows. -/
abbrev place (t : Fin cfg0.N) (y : S128x2084.Idx) : S2048x2084.Idx := Adam.place t.val (by have : t.val < 16 := t.isLt; omega) y

/-- The gradient's block at a grid point. -/
theorem read0 (c : Dev nD) (t : Fin cfg0.N) (y : S128x2084.Idx) :
    iblk m c 0 t (Value.ix4_0 y) = m ((c : Thread nD τ).loc main_arg0) (idx_main_v0 (place t y) 0) := by
  obtain ⟨⟨a0, a1, a2⟩, -⟩ := where_tiles t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = 0; omega
  | ⟨1, _⟩ => show win0_0.index t (1 : Fin 3) * 128 + 1 * (y 0).val = t.val * 128 + (y 0).val; rw [a1]; omega
  | ⟨2, _⟩ => show win0_0.index t (2 : Fin 3) * 2084 + 1 * (y 1).val = (y 1).val; rw [a2]; omega

/-- The weights' block at a grid point. -/
theorem read1 (c : Dev nD) (t : Fin cfg0.N) (y : S128x2084.Idx) :
    iblk m c 1 t y = m ((c : Thread nD τ).loc main_arg1) (place t y) := by
  unfold iblk
  rw [View.read_apply]
  show V m c main_arg1 _ = _
  rw [V_main_arg1]
  exact congrArg _ (Adam.place_eq _ y _ (where_tiles t).2.1 rfl rfl)

/-- The first moments' block at a grid point. -/
theorem read2 (c : Dev nD) (t : Fin cfg0.N) (y : S128x2084.Idx) :
    iblk m c 2 t y = m ((c : Thread nD τ).loc main_arg2) (place t y) := by
  unfold iblk
  rw [View.read_apply]
  show V m c main_arg2 _ = _
  rw [V_main_arg2]
  exact congrArg _ (Adam.place_eq _ y _ (where_tiles t).2.2.1 rfl rfl)

/-- The second moments' block at a grid point. -/
theorem read3 (c : Dev nD) (t : Fin cfg0.N) (y : S128x2084.Idx) :
    iblk m c 3 t y = m ((c : Thread nD τ).loc main_arg3) (place t y) := by
  unfold iblk
  rw [View.read_apply]
  show V m c main_arg3 _ = _
  rw [V_main_arg3]
  exact congrArg _ (Adam.place_eq _ y _ (where_tiles t).2.2.2.1 rfl rfl)

/-- The reference's gradient at an entry. -/
theorem ref_total (g : Vec Ideal S1x2048x2084 .f32) (i : S2048x2084.Idx) :
    val_main_v0 (F := Ideal) g i = g (idx_main_v0 i 0) := by
  rw [val_main_v0_apply, Fin.sum_univ_one]
  show Ideal.ofBits .f32 0x00000000#32 + _ = _
  rw [Ideal.ofBits_zero_f32, zero_add]

/-- What window 4's array is to hold: the gradient. -/
abbrev G4 (c : Dev nD) : Vec Ideal S2048x2084 .f32 := val_main_v0 (F := Ideal) (m ((c : Thread nD τ).loc main_arg0))

/-- What window 5's array is to hold: the change of the weights. -/
abbrev G5 (c : Dev nD) : Vec Ideal S2048x2084 .f32 := val_main_v24 (F := Ideal) (m ((c : Thread nD τ).loc main_arg0))
  (m ((c : Thread nD τ).loc main_arg1)) (m ((c : Thread nD τ).loc main_arg2)) (m ((c : Thread nD τ).loc main_arg3))

/-- What window 6's array is to hold: the new first moments. -/
abbrev G6 (c : Dev nD) : Vec Ideal S2048x2084 .f32 := val_main_v5 (F := Ideal) (m ((c : Thread nD τ).loc main_arg0))
  (m ((c : Thread nD τ).loc main_arg2))

/-- What window 7's array is to hold: the new second moments. -/
abbrev G7 (c : Dev nD) : Vec Ideal S2048x2084 .f32 := val_main_v11 (F := Ideal) (m ((c : Thread nD τ).loc main_arg0))
  (m ((c : Thread nD τ).loc main_arg3))

/-- The reference's change of an entry is the optimiser's step. -/
theorem ref_delta (g : Vec Ideal S1x2048x2084 .f32) (w mo vo : Vec Ideal S2048x2084 .f32) (i : S2048x2084.Idx) :
    val_main_v24 (F := Ideal) g w mo vo i
      = Adam.delta (val_main_v0 (F := Ideal) g i) (w i) (mo i) (vo i) := by
  rw [val_main_v24_apply, val_main_v22_apply, val_main_v19_apply,
    val_main_v13_apply, val_main_v18_apply, val_main_v16_apply,
    val_main_v15_apply, val_main_v21_apply, val_main_v5_apply,
    val_main_v11_apply, val_main_v2_apply, val_main_v4_apply,
    val_main_v7_apply, val_main_v10_apply, val_main_v8_apply,
    val_main_v1_apply, val_main_v3_apply, val_main_v6_apply,
    val_main_v9_apply, val_main_v12_apply, val_main_v14_apply,
    val_main_v17_apply, val_main_v20_apply, val_main_v23_apply]
  rfl

/-- The reference's new first moment of an entry is the optimiser's. -/
theorem ref_newM (g : Vec Ideal S1x2048x2084 .f32) (mo : Vec Ideal S2048x2084 .f32) (i : S2048x2084.Idx) :
    val_main_v5 (F := Ideal) g mo i = Adam.newM (mo i) (val_main_v0 (F := Ideal) g i) := by
  rw [val_main_v5_apply, val_main_v2_apply, val_main_v4_apply,
    val_main_v1_apply, val_main_v3_apply]
  rfl

/-- The reference's new second moment of an entry is the optimiser's. -/
theorem ref_newV (g : Vec Ideal S1x2048x2084 .f32) (vo : Vec Ideal S2048x2084 .f32) (i : S2048x2084.Idx) :
    val_main_v11 (F := Ideal) g vo i = Adam.newV (vo i) (val_main_v0 (F := Ideal) g i) := by
  rw [val_main_v11_apply, val_main_v7_apply, val_main_v10_apply,
    val_main_v8_apply, val_main_v6_apply, val_main_v9_apply]
  rfl

/-- A grid point's block of window 4's array lies at its rows. -/
theorem emb4 (t : Fin cfg0.N) (y : S128x2084.Idx) : ((cfg0.win 4).blk t).view.emb y = place t y :=
  Adam.place_eq _ y _ (where_tiles t).2.2.2.2.1 rfl rfl

/-- A grid point writes its block of window 4's array. -/
theorem written4 (c : Dev nD) (t : Fin cfg0.N) :
    (Gen.dats m 0 c).flushed 4 t = ((cfg0.win 4).blk t).view.read (Elt Ideal) (G4 m c) := by
  rw [Value.flushed4]
  funext y
  show out0_4 (iblk m c 0 t) (iblk m c 1 t) (iblk m c 2 t) (iblk m c 3 t) y = G4 m c (((cfg0.win 4).blk t).view.emb y)
  rw [emb4 t y, point4]
  unfold G4
  rw [ref_total]
  exact read0 m c t y

/-- The blocks cover window 4's array. -/
theorem covered4 (i : S2048x2084.Idx) : ∃ t : Fin cfg0.N, (cfg0.win 4).flush t = true ∧ i ∈ ((cfg0.win 4).blk t).view.set := by
  have h0 : (i 0).val < 2048 := (i 0).isLt
  let t : Fin cfg0.N := ⟨(i 0).val / 128, by show _ < 16; omega⟩
  refine ⟨t, (flushes t).1, ?_⟩
  show i ∈ ((View.whole main_v0_0).slice (win0_4.rect t)).set
  rw [View.set_slice_whole, Rect.mem_set_unit]
  exact Fin.forall_fin_two.mpr (Adam.in_block (by decide) i (where_tiles t).2.2.2.2.1)

/-- After the run window 4's array is the reference's. -/
theorem final4 (c : Dev nD) : (Gen.dats m 0 c).arrAt 4 cfg0.N = G4 m c :=
  (Gen.dats m 0 c).arrAt_eq_of_cover 4 _ (fun t _ => written4 m c t) covered4

/-- A grid point's block of window 5's array lies at its rows. -/
theorem emb5 (t : Fin cfg0.N) (y : S128x2084.Idx) : ((cfg0.win 5).blk t).view.emb y = place t y :=
  Adam.place_eq _ y _ (where_tiles t).2.2.2.2.2.1 rfl rfl

/-- A grid point writes its block of window 5's array. -/
theorem written5 (c : Dev nD) (t : Fin cfg0.N) :
    (Gen.dats m 0 c).flushed 5 t = ((cfg0.win 5).blk t).view.read (Elt Ideal) (G5 m c) := by
  rw [Value.flushed5]
  funext y
  show out0_5 (iblk m c 0 t) (iblk m c 1 t) (iblk m c 2 t) (iblk m c 3 t) y = G5 m c (((cfg0.win 5).blk t).view.emb y)
  rw [emb5 t y, point5]
  unfold G5
  rw [step5, ref_delta, ref_total, read0, read1, read2, read3]

/-- The blocks cover window 5's array. -/
theorem covered5 (i : S2048x2084.Idx) : ∃ t : Fin cfg0.N, (cfg0.win 5).flush t = true ∧ i ∈ ((cfg0.win 5).blk t).view.set := by
  have h0 : (i 0).val < 2048 := (i 0).isLt
  let t : Fin cfg0.N := ⟨(i 0).val / 128, by show _ < 16; omega⟩
  refine ⟨t, (flushes t).2.1, ?_⟩
  show i ∈ ((View.whole main_v0_1).slice (win0_5.rect t)).set
  rw [View.set_slice_whole, Rect.mem_set_unit]
  exact Fin.forall_fin_two.mpr (Adam.in_block (by decide) i (where_tiles t).2.2.2.2.2.1)

/-- After the run window 5's array is the reference's. -/
theorem final5 (c : Dev nD) : (Gen.dats m 0 c).arrAt 5 cfg0.N = G5 m c :=
  (Gen.dats m 0 c).arrAt_eq_of_cover 5 _ (fun t _ => written5 m c t) covered5

/-- A grid point's block of window 6's array lies at its rows. -/
theorem emb6 (t : Fin cfg0.N) (y : S128x2084.Idx) : ((cfg0.win 6).blk t).view.emb y = place t y :=
  Adam.place_eq _ y _ (where_tiles t).2.2.2.2.2.2.1 rfl rfl

/-- A grid point writes its block of window 6's array. -/
theorem written6 (c : Dev nD) (t : Fin cfg0.N) :
    (Gen.dats m 0 c).flushed 6 t = ((cfg0.win 6).blk t).view.read (Elt Ideal) (G6 m c) := by
  rw [Value.flushed6]
  funext y
  show out0_6 (iblk m c 0 t) (iblk m c 1 t) (iblk m c 2 t) (iblk m c 3 t) y = G6 m c (((cfg0.win 6).blk t).view.emb y)
  rw [emb6 t y, point6]
  unfold G6
  rw [ref_newM, ref_total, ← read0 m c t y, ← read2 m c t y]
  show Adam.newM (iblk m c 2 t (Value.ix6_0 y)) (iblk m c 0 t (Value.ix4_0 y)) = _
  exact congrArg (fun z => Adam.newM (iblk m c 2 t z) _) (Adam.pos_ext rfl rfl)

/-- The blocks cover window 6's array. -/
theorem covered6 (i : S2048x2084.Idx) : ∃ t : Fin cfg0.N, (cfg0.win 6).flush t = true ∧ i ∈ ((cfg0.win 6).blk t).view.set := by
  have h0 : (i 0).val < 2048 := (i 0).isLt
  let t : Fin cfg0.N := ⟨(i 0).val / 128, by show _ < 16; omega⟩
  refine ⟨t, (flushes t).2.2.1, ?_⟩
  show i ∈ ((View.whole main_v0_2).slice (win0_6.rect t)).set
  rw [View.set_slice_whole, Rect.mem_set_unit]
  exact Fin.forall_fin_two.mpr (Adam.in_block (by decide) i (where_tiles t).2.2.2.2.2.2.1)

/-- After the run window 6's array is the reference's. -/
theorem final6 (c : Dev nD) : (Gen.dats m 0 c).arrAt 6 cfg0.N = G6 m c :=
  (Gen.dats m 0 c).arrAt_eq_of_cover 6 _ (fun t _ => written6 m c t) covered6

/-- A grid point's block of window 7's array lies at its rows. -/
theorem emb7 (t : Fin cfg0.N) (y : S128x2084.Idx) : ((cfg0.win 7).blk t).view.emb y = place t y :=
  Adam.place_eq _ y _ (where_tiles t).2.2.2.2.2.2.2 rfl rfl

/-- A grid point writes its block of window 7's array. -/
theorem written7 (c : Dev nD) (t : Fin cfg0.N) :
    (Gen.dats m 0 c).flushed 7 t = ((cfg0.win 7).blk t).view.read (Elt Ideal) (G7 m c) := by
  rw [Value.flushed7]
  funext y
  show out0_7 (iblk m c 0 t) (iblk m c 1 t) (iblk m c 2 t) (iblk m c 3 t) y = G7 m c (((cfg0.win 7).blk t).view.emb y)
  rw [emb7 t y, point7]
  unfold G7
  rw [ref_newV, ref_total, ← read0 m c t y, ← read3 m c t y]
  show Adam.newV (iblk m c 3 t (Value.ix7_0 y)) (iblk m c 0 t (Value.ix4_0 y)) = _
  exact congrArg (fun z => Adam.newV (iblk m c 3 t z) _) (Adam.pos_ext rfl rfl)

/-- The blocks cover window 7's array. -/
theorem covered7 (i : S2048x2084.Idx) : ∃ t : Fin cfg0.N, (cfg0.win 7).flush t = true ∧ i ∈ ((cfg0.win 7).blk t).view.set := by
  have h0 : (i 0).val < 2048 := (i 0).isLt
  let t : Fin cfg0.N := ⟨(i 0).val / 128, by show _ < 16; omega⟩
  refine ⟨t, (flushes t).2.2.2, ?_⟩
  show i ∈ ((View.whole main_v0_3).slice (win0_7.rect t)).set
  rw [View.set_slice_whole, Rect.mem_set_unit]
  exact Fin.forall_fin_two.mpr (Adam.in_block (by decide) i (where_tiles t).2.2.2.2.2.2.2)

/-- After the run window 7's array is the reference's. -/
theorem final7 (c : Dev nD) : (Gen.dats m 0 c).arrAt 7 cfg0.N = G7 m c :=
  (Gen.dats m 0 c).arrAt_eq_of_cover 7 _ (fun t _ => written7 m c t) covered7

end Cert.AdamWInIdeal.Equal

end
-- ==== Proof.AdamWInClaim.lean ====
/- The value claim of the optimiser's call on the input projection's weights. -/
module

public import proofs.«01_k».proof.Defs
public import proofs.«01_k».proof.Proof.AdamWInValue

@[expose] public section

noncomputable section

namespace Cert.Proof.AdamWIn

open Idealize.ShloMosaic Idealize.SL.Sem

/-- The reference's run, its four results read by the operation that writes each. -/
theorem ref_run (m : (ℓ : Loc Cert.AdamWInRefIdeal.nD Cert.AdamWInRefIdeal.τ Cert.AdamWInRefIdeal.sig) → Buf (Elt Ideal) ℓ)
    (g : Dev Cert.AdamWInRefIdeal.nD → PrngReg) :
    θ_run (Cert.AdamWInRefIdeal.defs (F := Ideal)) (onTc (τ := Cert.AdamWInRefIdeal.τ) (Cert.AdamWInRefIdeal.main (F := Ideal))) ⟨m, fun _ => 0, g⟩
      fun r => ∀ c : Dev Cert.AdamWInRefIdeal.nD,
      r.2.mem ((c.tc : Thread Cert.AdamWInRefIdeal.nD Cert.AdamWInRefIdeal.τ).loc Cert.AdamWInRefIdeal.main_v0) = Cert.AdamWInRefIdeal.Read.val_main_v0 (F := Ideal) (m ((c.tc : Thread Cert.AdamWInRefIdeal.nD Cert.AdamWInRefIdeal.τ).loc Cert.AdamWInRefIdeal.main_arg0))
      ∧ r.2.mem ((c.tc : Thread Cert.AdamWInRefIdeal.nD Cert.AdamWInRefIdeal.τ).loc Cert.AdamWInRefIdeal.main_v24) = Cert.AdamWInRefIdeal.Read.val_main_v24 (F := Ideal) (m ((c.tc : Thread Cert.AdamWInRefIdeal.nD Cert.AdamWInRefIdeal.τ).loc Cert.AdamWInRefIdeal.main_arg0)) (m ((c.tc : Thread Cert.AdamWInRefIdeal.nD Cert.AdamWInRefIdeal.τ).loc Cert.AdamWInRefIdeal.main_arg1)) (m ((c.tc : Thread Cert.AdamWInRefIdeal.nD Cert.AdamWInRefIdeal.τ).loc Cert.AdamWInRefIdeal.main_arg2)) (m ((c.tc : Thread Cert.AdamWInRefIdeal.nD Cert.AdamWInRefIdeal.τ).loc Cert.AdamWInRefIdeal.main_arg3))
      ∧ r.2.mem ((c.tc : Thread Cert.AdamWInRefIdeal.nD Cert.AdamWInRefIdeal.τ).loc Cert.AdamWInRefIdeal.main_v5) = Cert.AdamWInRefIdeal.Read.val_main_v5 (F := Ideal) (m ((c.tc : Thread Cert.AdamWInRefIdeal.nD Cert.AdamWInRefIdeal.τ).loc Cert.AdamWInRefIdeal.main_arg0)) (m ((c.tc : Thread Cert.AdamWInRefIdeal.nD Cert.AdamWInRefIdeal.τ).loc Cert.AdamWInRefIdeal.main_arg2))
      ∧ r.2.mem ((c.tc : Thread Cert.AdamWInRefIdeal.nD Cert.AdamWInRefIdeal.τ).loc Cert.AdamWInRefIdeal.main_v11) = Cert.AdamWInRefIdeal.Read.val_main_v11 (F := Ideal) (m ((c.tc : Thread Cert.AdamWInRefIdeal.nD Cert.AdamWInRefIdeal.τ).loc Cert.AdamWInRefIdeal.main_arg0)) (m ((c.tc : Thread Cert.AdamWInRefIdeal.nD Cert.AdamWInRefIdeal.τ).loc Cert.AdamWInRefIdeal.main_arg3))
      ∧ r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3) :=
  (θ_run Cert.AdamWInRefIdeal.defs _ _).mono (fun _ h c => ⟨(h c).1.trans rfl, (h c).2.1.trans rfl, (h c).2.2.1.trans rfl,
    (h c).2.2.2.1.trans rfl, (h c).2.2.2.2⟩) (Cert.AdamWInRefIdeal.Value.run (F := Ideal) m g)

/-- Kernel and reference end with the same gradient, the same change and the same new moments. -/
theorem algebraic : Cert.algebraic_AdamWInIdeal_AdamWInRefIdeal := by
  intro m g m' g' _ h
  refine ⟨fun c => Cert.AdamWInIdeal.Equal.G4 m c, fun c => Cert.AdamWInIdeal.Equal.G5 m c, fun c => Cert.AdamWInIdeal.Equal.G6 m c,
    fun c => Cert.AdamWInIdeal.Equal.G7 m c,
    (θ_run Cert.AdamWInIdeal.defs _ _).mono (fun _ k c => ⟨(k c).1.trans (Cert.AdamWInIdeal.Equal.final4 m c),
      (k c).2.1.trans (Cert.AdamWInIdeal.Equal.final5 m c), (k c).2.2.1.trans (Cert.AdamWInIdeal.Equal.final6 m c),
      (k c).2.2.2.1.trans (Cert.AdamWInIdeal.Equal.final7 m c), (k c).2.2.2.2⟩) (Cert.AdamWInIdeal.Value.run_blocks m g),
    (θ_run Cert.AdamWInRefIdeal.defs _ _).mono (fun _ k c => ⟨(k c).1.trans ?_, (k c).2.1.trans ?_, (k c).2.2.1.trans ?_,
      (k c).2.2.2.1.trans ?_, (k c).2.2.2.2⟩) (ref_run m' g')⟩
  · rw [(h c).1]
  · rw [(h c).1, (h c).2.1, (h c).2.2.1, (h c).2.2.2]
  · rw [(h c).1, (h c).2.2.1]
  · rw [(h c).1, (h c).2.2.2]

end Cert.Proof.AdamWIn

end
-- ==== Proof.Together.lean ====
/-
  The launch of a program whose one kernel stages nothing (no window, no prefetched table) and whose devices write
  into EACH OTHER's arrays. A device that writes into another's array must hold that array's elements when it starts,
  so the launch hands every device's arrays to one step taken for the whole machine (`hglob`), which deals them out
  across the devices; each device then runs the kernel's body from what it was dealt (`I`) to what it gives back (`J`).
-/
module

public import Idealize.ShloMosaic.Lib.Pipeline.Launch
public import Idealize.ShloMosaic.Lib.Tactic
public import Idealize.ShloMosaic.Lib.Transfers
public import Idealize.ShloMosaic.Lib.Quiescent
public import Idealize.ShloMosaic.Lib.Pipeline.FrameSuffix

@[expose] public section

noncomputable section

namespace Cert.Proof.Together

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {Λ₀ : Labels} {P : Type} [Fintype P]

/-- The algebra of the proof's own: the rounds between the devices, and counters for a device's copies within its own memory. -/
abbrev Own (nD : ℕ) (τ : Topo) (sig : RefSig) : Type := URounds (GSem nD τ sig) Unit × Counters

/-- The machine's resources: indices `Unit`, names and levels natural numbers, and the proof's own. -/
abbrev Res (nD : ℕ) (τ : Topo) (sig : RefSig) (Val : EltTy → Type) : Type :=
  MT nD τ sig Unit Val ℕ (Own nD τ sig) ℕ

/-- The rounds algebra inside the machine's, -/
abbrev ER : Emb (URounds (GSem nD τ sig) Unit) (Res nD τ sig Val) :=
  (Emb.inl : Emb (URounds (GSem nD τ sig) Unit) (Own nD τ sig)).trans
    (uEmb (nD := nD) (sig := sig) (Ix := Unit) (Val := Val) (Name := ℕ) (U := Own nD τ sig) (Lvl := ℕ)).toEmb

/-- and the counters. -/
abbrev EC : UEmb Counters (Res nD τ sig Val) := countersEmb (U := Own nD τ sig)

/-- A sum over no index is `emp`. -/
theorem bigSep_of_isEmpty {I : Type} [DecidableEq I] [Fintype I] [IsEmpty I] (Φ : I → sProp (Res nD τ sig Val)) :
    bigSep Finset.univ Φ = iprop(emp) := by
  rw [Finset.univ_eq_empty, bigSep_empty]; rfl

section Region

variable (pcs : P → PCfg sig Λ₀ Val) (a : (p : P) → (pcs p).Adm)

/-- The proof data of a kernel without windows: the body's invariant `I` before its one point and `J` after, `O` owed
    before and nothing after; the scoped buffers ride along. -/
def datOf (hW : ∀ p, IsEmpty (Fin (pin pcs a p).W)) (I J : Dev nD → sProp (Res nD τ sig Val))
    (O : Dev nD → CellTallies nD τ sig Unit) (p : P) (c : Dev nD) :
    Dat τ Val Unit ℕ (Own nD τ sig) ℕ (pin pcs a p) c where
  A w := (hW p).elim w
  after w := (hW p).elim w
  Φ t := if t.val = 0 then iprop(I c ∗ scopedBufs (c.tc : Thread nD τ)) else iprop(J c ∗ scopedBufs (c.tc : Thread nD τ))
  q w := (hW p).elim w
  owed t := if t.val = 0 then O c else 0

/-- The invariant before the kernel's point. -/
theorem datOf_first (hW : ∀ p, IsEmpty (Fin (pin pcs a p).W)) (I J : Dev nD → sProp (Res nD τ sig Val))
    (O : Dev nD → CellTallies nD τ sig Unit) (p : P) (c : Dev nD) (t : Fin ((pin pcs a p).N + 1)) (h : t.val = 0) :
    (datOf (τ := τ) pcs a hW I J O p c).Φ t = iprop(I c ∗ scopedBufs (c.tc : Thread nD τ))
      ∧ (datOf (τ := τ) pcs a hW I J O p c).owed t = O c := by
  unfold datOf; exact ⟨if_pos h, if_pos h⟩

/-- The invariant after it. -/
theorem datOf_then (hW : ∀ p, IsEmpty (Fin (pin pcs a p).W)) (I J : Dev nD → sProp (Res nD τ sig Val))
    (O : Dev nD → CellTallies nD τ sig Unit) (p : P) (c : Dev nD) (t : Fin ((pin pcs a p).N + 1)) (h : t.val ≠ 0) :
    (datOf (τ := τ) pcs a hW I J O p c).Φ t = iprop(J c ∗ scopedBufs (c.tc : Thread nD τ))
      ∧ (datOf (τ := τ) pcs a hW I J O p c).owed t = 0 := by
  unfold datOf; exact ⟨if_neg h, if_neg h⟩

variable (phinj : Function.Injective (cellOf (nD := nD) (τ := τ) (pin pcs a))) (p : P)
  (defs₀ : Defs nD τ sig Val Λ₀) (𝒱₀ : Variants)

/-- The body, run from `I c` owing `O c` to `J c` owing nothing. -/
def Body (I J : Dev nD → sProp (Res nD τ sig Val)) (O : Dev nD → CellTallies nD τ sig Unit) (c : Dev nD)
    {α : Type} (e : Prog (TpuEff nD τ sig Val Λ₀ .tc) α) : Prop :=
  ∀ W : Waits sig Unit, iprop(I c ∗ owes (c.tc : Thread nD τ) (O c) W)
    ⊢ wp frame (wpE defs₀ 𝒱₀ (c.tc : Thread nD τ) none) Set.univ e
        fun _ => iprop(J c ∗ ∃ W', owes (c.tc : Thread nD τ) (0 : CellTallies nD τ sig Unit) W')

include phinj in
/-- The kernel's region from `I c`, the scoped buffers and what the device owes, to `J c` and owing nothing. -/
theorem wp_region [∀ e, Nonempty (Val e)] (hW : ∀ p, IsEmpty (Fin (pin pcs a p).W)) (hK : IsEmpty (Fin (pcs p).pre.K))
    (hN : (pin pcs a p).N = 1) (I J Y : Dev nD → sProp (Res nD τ sig Val)) (O : Dev nD → CellTallies nD τ sig Unit)
    (hbody : ∀ (c : Dev nD) t s, Body (nD := nD) (τ := τ) defs₀ 𝒱₀ I J O c (defs₀ .tc (pin pcs a p).body ((pin pcs a p).bodyArgs t s)))
    (hJ : ∀ c, J c ⊢ iprop(Y c ∗ scopedSems0 (c.tc : Thread nD τ))) (c : Dev nD)
    {k : PUnit → Prog (TpuEff nD τ sig Val (Sig Λ₀ P fun p => (pcs p).Adm) .tc) PUnit} {Q : PUnit → sProp (Res nD τ sig Val)} :
    iprop(I c ∗ scopedBufs (c.tc : Thread nD τ) ∗ owes (c.tc : Thread nD τ) (O c) ∅)
      ⊢ iprop(((Y c ∗ scopedSems0 (c.tc : Thread nD τ) ∗ scopedBufs (c.tc : Thread nD τ) ∗ ∃ W', owes (c.tc : Thread nD τ) (0 : CellTallies nD τ sig Unit) W')
            -∗ wp frame (wpE (Pipeline.defs pcs defs₀) (Variants.lift 𝒱₀) (c.tc : Thread nD τ) none) Set.univ (k ⟨⟩) Q)
          -∗ wp frame (wpE (Pipeline.defs pcs defs₀) (Variants.lift 𝒱₀) (c.tc : Thread nD τ) none) Set.univ
              (.op (.customCall (entry p) ()) k) Q) := by
  haveI := hK
  haveI : ∀ p, IsEmpty (Fin (pin pcs a p).W) := hW
  have hst : (Dat.staging (pin pcs a p) c : sProp (Res nD τ sig Val)) = iprop(emp) := by
    unfold Dat.staging; exact bigSep_of_isEmpty _
  have hpref (q : Fin (pcs p).pre.K → PosShare TreeShare) : (prefHeld (pcs p).pre c q (a p).1 : sProp (Res nD τ sig Val)) = iprop(emp) := by
    unfold prefHeld; exact bigSep_of_isEmpty _
  have hbody' : BodyObligationLoose (datOf (τ := τ) pcs a hW I J O p c) defs₀ 𝒱₀ () Set.univ := fun t => by
    have ht : t.val = 0 := by have := t.isLt; omega
    rw [bigSep_of_isEmpty, bigSep_of_isEmpty]
    obtain ⟨h0, o0⟩ := datOf_first pcs a hW I J O p c t.castSucc ht
    obtain ⟨h1, o1⟩ := datOf_then pcs a hW I J O p c t.succ (Nat.succ_ne_zero t.val)
    unfold Dat.owesAt owesWithin
    rw [h0, h1, o0, o1]
    iintro ⟨⟨HI, Hsb⟩, ⟨%W, -, HW⟩, -⟩
    iapply (wp_wand frame (wpE defs₀ 𝒱₀ (c.tc : Thread nD τ) none) Set.univ) $$ [HI HW]
    · iapply (hbody c t _ W); isplitl [HI] <;> iassumption
    iintro %_ ⟨HJ, ⟨%W', HW⟩⟩
    isplitl [HJ Hsb]; · isplitl [HJ] <;> iassumption
    isplitl [HW]
    · iexists W'; isplitr; · ipureintro; exact fun _ _ => Or.inl trivial
      iexact HW
    iempintro
  have hin : iprop(I c ∗ prefHeld (pcs p).pre c (fun _ => fullShare) (a p).1 ∗ scopedBufs (c.tc : Thread nD τ))
      ⊢ (datOf (τ := τ) pcs a hW I J O p c).Φ 0 := by
    rw [(datOf_first pcs a hW I J O p c 0 rfl).1]
    iintro ⟨HI, -, Hsb⟩
    isplitl [HI] <;> iassumption
  have hlast : (Fin.last (pin pcs a p).N).val ≠ 0 := by rw [Fin.val_last, hN]; exact one_ne_zero
  have hout : iprop((datOf (τ := τ) pcs a hW I J O p c).Φ (Fin.last (pin pcs a p).N) ∗ cellsSems0 (pin pcs a) p c
        ∗ Dat.staging (pin pcs a p) c ∗ emp)
      ⊢ iprop(Y c ∗ scopedSems0 (c.tc : Thread nD τ) ∗ scopedBufs (c.tc : Thread nD τ)) := by
    rw [(datOf_then pcs a hW I J O p c _ hlast).1]
    iintro ⟨⟨HJ, Hsb⟩, -⟩
    ihave HJ' := (hJ c) $$ HJ
    icases HJ' with ⟨HY, Hss⟩
    isplitl [HY]; · iexact HY
    isplitl [Hss] <;> iassumption
  have hpost : EntryPost (pin pcs a) (datOf (τ := τ) pcs a hW I J O) () p c
      ⊢ iprop(∃ W', owes (c.tc : Thread nD τ) (0 : CellTallies nD τ sig Unit) W') := by
    unfold EntryPost PerCore.EntryPost Dat.owesAt owesWithin
    rw [(datOf_then pcs a hW I J O p c _ hlast).2]
    iintro ⟨-, ⟨%W', -, HW⟩⟩
    iexists W'; iexact HW
  iintro ⟨HI, Hsb, HO⟩ Hk
  iapply (wp_customCall_entry_frame pcs a (datOf (τ := τ) pcs a hW I J O) () ER (fun _ => 0) phinj p defs₀ 𝒱₀ (fun _ => fullShare) c Set.univ
      (fun _ _ => Set.mem_univ _) hbody' (fun w => (hW p).elim w) none (fun u h => nomatch h) (X := I c) (Y := Y c)
      (R := scopedBufs (c.tc : Thread nD τ)) (I := iprop(emp))
      (by rw [hst]; iintro H; isplitr; · iempintro
          iexact H) hin hout (k := k) (Q := Q)) $$ [HI Hsb HO]
  · isplitl [HO]
    · unfold EntryPre PerCore.EntryPre Dat.owesAt owesWithin PerCore.cellsWaits PerCore.cellsInit PerCore.RDat.cellsWaits PerCore.RDat.cellsInit PerCore.toksInit Dat.arrays
      rw [(datOf_first pcs a hW I J O p c 0 rfl).2]
      simp only [bigSep_of_isEmpty]
      isplitr; · iempintro
      isplitl [HO]
      · iexists ∅; isplitr; · ipureintro; rw [Finset.coe_empty]; exact Set.empty_subset _
        iexact HO
      isplitr; · iempintro
      isplitr <;> iempintro
    isplitr; · rw [hpref]; iempintro
    isplitl [HI]; · iexact HI
    isplitr; · iempintro
    iexact Hsb
  iintro ⟨Hpost, HY, Hss, Hsb⟩
  iapply Hk
  isplitl [HY]; · iexact HY
  isplitl [Hss]; · iexact Hss
  isplitl [Hsb]; · iexact Hsb
  iapply hpost; iexact Hpost

omit [Fintype P] in
/-- The launch: from any memory, if the machine's arrays, semaphores and launch credits can be dealt out to the devices
    as `I`, and every device's @main runs from its `I` to its `Y`, then the program runs, every device's final memory
    is as `Y` reads it, and every kernel semaphore is back at zero. -/
theorem θ_run_dealt (m : (ℓ : Loc nD τ sig) → Buf Val ℓ) (g : Dev nD → PrngReg)
    (main : Dev nD → Prog (TpuEff nD τ sig Val (Sig Λ₀ P fun p => (pcs p).Adm) .tc) PUnit)
    (I Y : Dev nD → sProp (Res nD τ sig Val)) (O : Dev nD → CellTallies nD τ sig Unit)
    (hrun : ∀ c : Dev nD, iprop(I c ∗ scopedBufs (c.tc : Thread nD τ) ∗ opIdle (c.tc : Thread nD τ) ∗ owes (c.tc : Thread nD τ) (O c) ∅)
      ⊢ wp frame (wpE (Pipeline.defs pcs defs₀) (Variants.lift 𝒱₀) (c.tc : Thread nD τ) none) Set.univ (main c)
          fun _ => iprop((Y c ∗ scopedSems0 (c.tc : Thread nD τ)) ∗ ∃ W', owes (c.tc : Thread nD τ) (0 : CellTallies nD τ sig Unit) W'))
    (u₀ : URounds (GSem nD τ sig) Unit)
    (hglob : iprop((bigSep Finset.univ fun c : Dev nD => iprop(scopedSems0 (c.tc : Thread nD τ)
          ∗ unscopedBufs c (fun b => m ((c.tc : Thread nD τ).loc b)) ∗ launchCred O c)) ∗ BI.own (ER u₀))
        ⊢ |={Set.univ}=> bigSep Finset.univ I)
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let pre : Dev nD → sProp (Res nD τ sig Val) := fun c =>
    iprop(I c ∗ scopedBufs (c.tc : Thread nD τ) ∗ opIdle (c.tc : Thread nD τ) ∗ owes (c.tc : Thread nD τ) (O c) ∅)
  let fin : Dev nD → sProp (Res nD τ sig Val) := fun c => iprop(Y c ∗ scopedSems0 (c.tc : Thread nD τ))
  refine (θ_run (Pipeline.defs pcs defs₀) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs pcs defs₀) _ _ _
    (reflect_intro_fupd_tc_sems (X := Unit) (Variants.lift 𝒱₀) (owing O) 0 (noBookings fun _ => le_rfl) (owing_of_ne O) (u₀, 1) (fun _ => pre) (fun _ => fin)
      (fun _ => iprop(emp)) Set.univ ?_ (fun _ c => ?_) fun _ => ?_))
  · have hcore1 (c : Dev nD) :
        coreInit (Ix := Unit) (Name := ℕ) (U := Own nD τ sig) (Lvl := ℕ) (owing O) 0 (⟨m, fun _ => 0, g⟩ : MemSt nD τ sig Val) (c.tc : Thread nD τ)
          ⊢ iprop((scopedSems0 (c.tc : Thread nD τ) ∗ unscopedBufs c (fun b => m ((c.tc : Thread nD τ).loc b)) ∗ launchCred O c)
              ∗ scopedBufs (c.tc : Thread nD τ) ∗ opIdle (c.tc : Thread nD τ) ∗ owes (c.tc : Thread nD τ) (O c) ∅) :=
      (coreInit_boundary_owing O m g c).trans (by
        unfold boundary
        iintro ⟨⟨Hsb, Hss, Hop⟩, Hub, -, HO, -, -, Hcr⟩
        isplitl [Hss Hub Hcr]
        · isplitl [Hss]; · iexact Hss
          isplitl [Hub] <;> iassumption
        isplitl [Hsb]; · iexact Hsb
        isplitl [Hop] <;> iassumption)
    have hcores : (bigSep Finset.univ fun c : Dev nD =>
          coreInit (Ix := Unit) (Name := ℕ) (U := Own nD τ sig) (Lvl := ℕ) (owing O) 0 (⟨m, fun _ => 0, g⟩ : MemSt nD τ sig Val) (c.tc : Thread nD τ))
        ⊢ iprop((bigSep Finset.univ fun c : Dev nD => iprop(scopedSems0 (c.tc : Thread nD τ)
              ∗ unscopedBufs c (fun b => m ((c.tc : Thread nD τ).loc b)) ∗ launchCred O c))
            ∗ bigSep Finset.univ fun c : Dev nD => iprop(scopedBufs (c.tc : Thread nD τ) ∗ opIdle (c.tc : Thread nD τ) ∗ owes (c.tc : Thread nD τ) (O c) ∅)) := by
      refine (bigSep_mono fun c _ => hcore1 c).trans ?_
      rw [bigSep_sep']
      exact BI.Entails.refl _
    iintro ⟨Hcores, Hu⟩
    ihave Hc := hcores $$ Hcores
    icases Hc with ⟨Hd, Hr⟩
    imod hglob $$ [Hd Hu] with HI
    · isplitl [Hd]; · iexact Hd
      iapply (show (ownU ((u₀, 1) : Own nD τ sig) : sProp (Res nD τ sig Val)) ⊢ BI.own (ER u₀) from BI.Entails.refl _); iexact Hu
    imodintro
    iexists ()
    isplitr []
    · simp only [pre, bigSep_sep']
      isplitl [HI]; · iexact HI
      iexact Hr
    · iempintro
  · simp only [pre]
    refine (hrun c).trans (wp_mono frame (wpE (Pipeline.defs pcs defs₀) (Variants.lift 𝒱₀) (c.tc : Thread nD τ) none) Set.univ fun _ => ?_)
    unfold post; simp only [liftTc_tc, fin]
    exact BI.Entails.refl _
  · have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      iexact HSI
    iintro ⟨H, -, Hsc⟩ %s' HSI
    ihave %hsc := (scSems_read_zero m g s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

include phinj in
/-- The launch of a program that is the kernel alone: if the machine's arrays, semaphores and launch credits can be dealt out to the devices
    as `I`, and every device's kernel runs from its `I` to its `J`, then the program runs, every device's final memory
    is as `Y` reads it, and every kernel semaphore is back at zero. -/
theorem θ_run_together [∀ e, Nonempty (Val e)] (hW : ∀ p, IsEmpty (Fin (pin pcs a p).W)) (hK : IsEmpty (Fin (pcs p).pre.K))
    (hN : (pin pcs a p).N = 1) (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (I J Y : Dev nD → sProp (Res nD τ sig Val)) (O : Dev nD → CellTallies nD τ sig Unit)
    (hbody : ∀ (c : Dev nD) t s, Body (nD := nD) (τ := τ) defs₀ 𝒱₀ I J O c (defs₀ .tc (pin pcs a p).body ((pin pcs a p).bodyArgs t s)))
    (u₀ : URounds (GSem nD τ sig) Unit)
    (hglob : iprop((bigSep Finset.univ fun c : Dev nD => iprop(scopedSems0 (c.tc : Thread nD τ)
          ∗ unscopedBufs c (fun b => m ((c.tc : Thread nD τ).loc b)) ∗ launchCred O c)) ∗ BI.own (ER u₀))
        ⊢ |={Set.univ}=> bigSep Finset.univ I)
    (hJ : ∀ c, J c ⊢ iprop(Y c ∗ scopedSems0 (c.tc : Thread nD τ)))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  refine θ_run_dealt pcs defs₀ 𝒱₀ m g main I Y O (fun c => ?_) u₀ hglob QY hY hQ
  rw [hmain c]
  iintro ⟨HI, Hsb, -, HO⟩
  iapply (wp_region pcs a phinj p defs₀ 𝒱₀ hW hK hN I J Y O hbody hJ c (k := fun _ => .ret ⟨⟩)
    (Q := fun _ => iprop((Y c ∗ scopedSems0 (c.tc : Thread nD τ)) ∗ ∃ W', owes (c.tc : Thread nD τ) (0 : CellTallies nD τ sig Unit) W'))) $$ [HI Hsb HO]
  · isplitl [HI]; · iexact HI
    isplitl [Hsb] <;> iassumption
  iintro ⟨HY, Hss, -, HW⟩
  rw [wp_ret]; imodintro
  isplitr [HW]
  · isplitl [HY] <;> iassumption
  iexact HW

/-- Device `c`'s arrays are what the operations make of contents `R` speaks of. -/
def Ends (opss : List (List (HloOp τ sig Val))) (R : Valuation τ sig Val → Prop) (c : Dev nD) (s : MemSt nD τ sig Val) : Prop :=
  ∃ V, R V ∧ ∀ b : Ref sig .tc, b.isScoped = false → s.mem ((c.tc : Thread nD τ).loc b) = StableHlo.after opss.flatten V b

include phinj in
/-- The launch of a program whose host operations follow the kernel: what a device's kernel gives back is its arrays
    whole, with contents `V` that `P` speaks of; the memory at the end is what the operations make of `V`. -/
theorem θ_run_then [∀ e, Nonempty (Val e)] (hW : ∀ p, IsEmpty (Fin (pin pcs a p).W)) (hK : IsEmpty (Fin (pcs p).pre.K))
    (hN : (pin pcs a p).N = 1) (m : (ℓ : Loc nD τ sig) → Buf Val ℓ) (g : Dev nD → PrngReg)
    (main : Dev nD → Prog (TpuEff nD τ sig Val (Sig Λ₀ P fun p => (pcs p).Adm) .tc) PUnit)
    (opss : Dev nD → List (List (HloOp τ sig Val)))
    (hmain : ∀ c, main c = chain (Prog.lift (.customCall (entry p) ()) :: (opss c).map StableHlo.seq))
    (hsub : ∀ c, ∀ ops ∈ opss c, ∀ op ∈ ops, op.bufs ⊆ StableHlo.tcRefs τ sig) (hfresh : ∀ c, ∀ ops ∈ opss c, ∀ op ∈ ops, op.fresh = ∅)
    (I J Y : Dev nD → sProp (Res nD τ sig Val)) (O : Dev nD → CellTallies nD τ sig Unit)
    (hbody : ∀ (c : Dev nD) t s, Body (nD := nD) (τ := τ) defs₀ 𝒱₀ I J O c (defs₀ .tc (pin pcs a p).body ((pin pcs a p).bodyArgs t s)))
    (u₀ : URounds (GSem nD τ sig) Unit)
    (hglob : iprop((bigSep Finset.univ fun c : Dev nD => iprop(scopedSems0 (c.tc : Thread nD τ)
          ∗ unscopedBufs c (fun b => m ((c.tc : Thread nD τ).loc b)) ∗ launchCred O c)) ∗ BI.own (ER u₀))
        ⊢ |={Set.univ}=> bigSep Finset.univ I)
    (hJ : ∀ c, J c ⊢ iprop(Y c ∗ scopedSems0 (c.tc : Thread nD τ)))
    (R : Dev nD → Valuation τ sig Val → Prop)
    (hY : ∀ c, Y c ⊢ iprop(∃ V : Valuation τ sig Val, ⌜R c V⌝ ∗ unscopedBufs c (fun b => V b)))
    {Q : PUnit × MemSt nD τ sig Val → Prop}
    (hQ : ∀ s : MemSt nD τ sig Val, (∀ c : Dev nD, Ends (opss c) (R c) c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  refine θ_run_dealt pcs defs₀ 𝒱₀ m g main I
    (fun c => iprop(∃ V : Valuation τ sig Val, ⌜R c V⌝ ∗ unscopedBufs c (fun b => StableHlo.after (opss c).flatten V b)))
    O (fun c => ?_) u₀ hglob (fun c => Ends (opss c) (R c) c) (fun c s' => ?_) hQ
  · have hheld (V : Valuation τ sig Val) : (unscopedBufs c (fun b => V b) : sProp (Res nD τ sig Val)) ⊢ StableHlo.held (c.tc : Thread nD τ) (ucRefs τ sig) V := by
      rw [← unscopedBufs_held]
    have hback (V : Valuation τ sig Val) : StableHlo.held (c.tc : Thread nD τ) (ucRefs τ sig) V ⊢ (unscopedBufs c (fun b => V b) : sProp (Res nD τ sig Val)) := by
      rw [← unscopedBufs_held]
    rw [hmain c, chain_cons, ← List.append_nil ((opss c).map StableHlo.seq)]
    iintro ⟨HI, Hsb, Hop, HO⟩
    iapply (wp_region pcs a phinj p defs₀ 𝒱₀ hW hK hN I J Y O hbody hJ c (k := fun _ => chain ((opss c).map StableHlo.seq ++ []))
      (Q := fun _ => iprop(((∃ V : Valuation τ sig Val, ⌜R c V⌝ ∗ unscopedBufs c (fun b => StableHlo.after (opss c).flatten V b))
        ∗ scopedSems0 (c.tc : Thread nD τ)) ∗ ∃ W', owes (c.tc : Thread nD τ) (0 : CellTallies nD τ sig Unit) W'))) $$ [HI Hsb HO]
    · isplitl [HI]; · iexact HI
      isplitl [Hsb] <;> iassumption
    iintro ⟨HY, Hss, Hsb, HW⟩
    ihave HV := (hY c) $$ HY
    icases HV with ⟨%V, %hV, HV⟩
    ihave HV := (hheld V) $$ HV
    iapply (wp_seqs_then pcs defs₀ 𝒱₀ c (ucRefs τ sig) [] (opss c) (fun ops ho op h => sub_ucRefs op (hsub c ops ho op h)) (hfresh c) V) $$ [Hsb Hss Hop HV]
    · isplitr [HV]
      · unfold boundary
        isplitl [Hsb]; · iexact Hsb
        isplitl [Hss] <;> iassumption
      iexact HV
    iintro ⟨Hb, HV⟩
    unfold boundary
    icases Hb with ⟨-, Hss, -⟩
    rw [chain_nil, Prog.pure_eq_ret, wp_ret]; imodintro
    isplitr [HW]
    · isplitl [HV]
      · iexists V
        isplitr; · ipureintro; exact hV
        iapply (hback (StableHlo.after (opss c).flatten V)); iexact HV
      iexact Hss
    iexact HW
  · iintro ⟨⟨%V, %hV, H⟩, HSI⟩
    unfold unscopedBufs
    ihave H' := (pointsTo_read_all _ (fun b : Ref sig .tc => (c.tc : Thread nD τ).loc b) (fun b => StableHlo.after (opss c).flatten V b) s') $$ [H HSI]
    · isplitl [H] <;> iassumption
    icases H' with ⟨%h, HSI⟩
    imodintro
    isplitr
    · ipureintro
      exact ⟨V, hV, fun b hb => h b (by simpa using hb)⟩
    iexact HSI

end Region

end Cert.Proof.Together

end
-- ==== Proof.Swap.lean ====
/-
  Devices exchange parts of their arrays in pairs: device `c` sends its `n` parts `src c j`, each into the part
  `dst c j` of the partner `peer j c` it has for it, all copies in flight together, then waits for the `n` parts its partners send it and
  for the read-out of its own. No device waits before it has issued every copy, so nothing is owed at a wait.

  Each copy has two semaphores, one on the sender (credited when its source has been read) and one on the receiver
  (credited when it has landed). Each is a cell of one round of one duty: the sender's gives the source part back
  unchanged, the receiver's gives the destination part holding the partner's. The sender holds the destination part
  from the launch on: it is dealt across the machine (`deal`).
-/
module

public import proofs.«01_k».proof.Proof.Together

@[expose] public section

noncomputable section

namespace Cert.Proof.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred launchCred_sum launchCred_tallyAt)
open Cert.Proof.Together

/-! ## The parts still to do, and those done -/

section Parts

variable {n : ℕ}

/-- The parts from the `k`-th on, -/
abbrev todo (n k : ℕ) : Finset (Fin n) := Finset.univ.filter fun j => k ≤ j.val
/-- and those before it. -/
abbrev past (n k : ℕ) : Finset (Fin n) := Finset.univ.filter fun j => j.val < k

theorem todo_zero : todo n 0 = Finset.univ := Finset.filter_true_of_mem fun _ _ => Nat.zero_le _
theorem past_zero : past n 0 = ∅ := Finset.filter_false_of_mem fun _ _ => Nat.not_lt_zero _
theorem todo_end : todo n n = ∅ := Finset.filter_false_of_mem fun j _ => Nat.not_le.mpr j.isLt
theorem past_end : past n n = Finset.univ := Finset.filter_true_of_mem fun j _ => j.isLt
theorem todo_step (j : Fin n) : todo n j.val = insert j (todo n (j.val + 1)) := by
  ext i
  simp only [Finset.mem_filter, Finset.mem_univ, true_and, Finset.mem_insert, Fin.ext_iff]
  omega
theorem past_step (j : Fin n) : past n (j.val + 1) = insert j (past n j.val) := by
  ext i
  simp only [Finset.mem_filter, Finset.mem_univ, true_and, Finset.mem_insert, Fin.ext_iff]
  omega
theorem not_todo (j : Fin n) : j ∉ todo n (j.val + 1) := by simp
theorem not_past (j : Fin n) : j ∉ past n j.val := by simp

end Parts

/-- An exchange of `n` parts between partners. -/
structure Exchange (nD : ℕ) (sig : RefSig) (n : ℕ) (sp sp' : Space) (s : Shape) (e : EltTy) where
  /-- The partner of a device, of each part one, -/
  peer : Fin n → Dev nD → Dev nD
  peer_peer : ∀ j c, peer j (peer j c) = c
  /-- the send (`false`) and receive (`true`) semaphore of a part, all different, all the kernel's own, -/
  sem : Bool × Fin n → DmaSem sig
  sem_inj : Function.Injective sem
  isScoped : ∀ x, (SemLoc.dma (sem x) : SemLoc sig).isScoped .tc = true
  /-- the part a device sends and the part of its partner's memory it is written to, -/
  src : Dev nD → Fin n → Memref sig .tc sp s e
  dst : Dev nD → Fin n → Memref sig .tc sp' s e
  /-- and what its copy credits. -/
  N : ℕ
  N_pos : 0 < N
  hN : ∀ c j, (dst c j).view.dmaCredit = N
  /-- The share of the source a copy reads: all of it, unless several copies read the same. -/
  share : Fin n → PosShare TreeShare := fun _ => fullShare

variable {nD : ℕ} {τ : Topo} {sig : RefSig} {Val : EltTy → Type} {Λ₀ : Labels} {n : ℕ} {sp sp' : Space} {s : Shape} {e : EltTy}
variable (X : Exchange nD sig n sp sp' s e) (m : (ℓ : Loc nD τ sig) → Buf Val ℓ)

/-- Each device's parts and its partners' for them, one to one. -/
def Exchange.swap : Dev nD × Fin n ≃ Dev nD × Fin n where
  toFun y := (X.peer y.2 y.1, y.2)
  invFun y := (X.peer y.2 y.1, y.2)
  left_inv y := Prod.ext (X.peer_peer y.2 y.1) rfl
  right_inv y := Prod.ext (X.peer_peer y.2 y.1) rfl

/-- The cell of a device's semaphore. -/
abbrev Exchange.cell (τ : Topo) (c : Dev nD) (x : Bool × Fin n) : GSem nD τ sig := ((c.tc : Thread nD τ), .dma (X.sem x))

theorem Exchange.loc_inj : Function.Injective fun x => (SemLoc.dma (X.sem x) : SemLoc sig) :=
  fun _ _ h => X.sem_inj (SemLoc.dma.inj h)

theorem Exchange.cell_inj : Function.Injective fun y : Dev nD × (Bool × Fin n) => X.cell τ y.1 y.2 := by
  rintro ⟨c, x⟩ ⟨c', x'⟩ h
  have h2 : x = x' := X.loc_inj (congrArg Prod.snd h)
  have h1 : c = c' := congrArg (fun g => g.1.1) h
  rw [h1, h2]

/-- What part `j` of a device's destination holds once its partner's copy has landed. -/
def Exchange.landed (c : Dev nD) (j : Fin n) : Buf Val ((X.dst (X.peer j c) j).view.loc (c.tc : Thread nD τ)) :=
  (X.dst (X.peer j c) j).view.write Val (m ((X.dst (X.peer j c) j).view.loc (c.tc : Thread nD τ)))
    ((X.src (X.peer j c) j).view.read Val (m ((X.src (X.peer j c) j).view.loc ((X.peer j c).tc : Thread nD τ)))) Finset.univ

theorem Exchange.read_landed (c : Dev nD) (j : Fin n) (f : Buf Val ((X.dst (X.peer j c) j).view.loc (c.tc : Thread nD τ)))
    (h : ∀ i ∈ (X.dst (X.peer j c) j).view.set, f i = X.landed m c j i) :
    (X.dst (X.peer j c) j).view.read Val f = (X.src (X.peer j c) j).view.read Val (m ((X.src (X.peer j c) j).view.loc ((X.peer j c).tc : Thread nD τ))) :=
  (View.read_congr h).trans (funext fun x => View.read_write_of_mem _ _ (Finset.mem_univ x))

/-- Part `j` of a device's source, as at launch, -/
def Exchange.srcPts (c : Dev nD) (j : Fin n) : sProp (Res nD τ sig Val) :=
  (X.src c j).view.loc (c.tc : Thread nD τ) ↦[(X.src c j).view.set]{X.share j} m ((X.src c j).view.loc (c.tc : Thread nD τ))

/-- part `j` of its destination, at contents `f`. -/
def Exchange.dstPts (c : Dev nD) (j : Fin n) (f : Buf Val ((X.dst (X.peer j c) j).view.loc (c.tc : Thread nD τ))) : sProp (Res nD τ sig Val) :=
  (X.dst (X.peer j c) j).view.loc (c.tc : Thread nD τ) ↦[(X.dst (X.peer j c) j).view.set]{fullShare} f

theorem dstPts_peer (c : Dev nD) (j : Fin n) : X.dstPts (X.peer j c) j (m ((X.dst (X.peer j (X.peer j c)) j).view.loc ((X.peer j c).tc : Thread nD τ)))
    = ((X.dst c j).view.loc ((X.peer j c).tc : Thread nD τ) ↦[(X.dst c j).view.set]{fullShare} m ((X.dst c j).view.loc ((X.peer j c).tc : Thread nD τ)) : sProp (Res nD τ sig Val)) := by
  unfold Exchange.dstPts; rw [X.peer_peer]

instance (c : Dev nD) (j : Fin n) : BI.Storable (upEmb : UEmb _ (Res nD τ sig Val)) (X.srcPts m c j) := by
  unfold Exchange.srcPts; infer_instance
instance (c : Dev nD) (j : Fin n) (f : Buf Val ((X.dst (X.peer j c) j).view.loc (c.tc : Thread nD τ))) :
    BI.Storable (upEmb : UEmb _ (Res nD τ sig Val)) (X.dstPts c j f) := by
  unfold Exchange.dstPts; infer_instance

/-- What a cell's one duty hands its owner. -/
def Exchange.pay (c : Dev nD) : Bool × Fin n → sProp (Res nD τ sig Val)
  | (false, j) => X.srcPts m c j
  | (true, j) => X.dstPts c j (X.landed m c j)

instance (c : Dev nD) (x : Bool × Fin n) : BI.Storable (upEmb : UEmb _ (Res nD τ sig Val)) (X.pay m c x) := by
  rcases x with ⟨_ | _, j⟩ <;> (unfold Exchange.pay; infer_instance)

open Classical in
/-- The schedule: on every cell of the exchange one round of one duty. -/
def Exchange.sched : Schedule (GSem nD τ sig) Unit (Res nD τ sig Val) where
  duties g r := if r = 0 ∧ g.1.2 = .tc ∧ ∃ x, g.2 = .dma (X.sem x) then {()} else ∅
  unitless _ := False
  amount _ _ _ := X.N
  payload g _ _ := bigSep (Finset.univ.filter fun x => g.2 = .dma (X.sem x)) (X.pay m g.1.1)
  amount_pos _ _ _ _ := X.N_pos

instance (g : GSem nD τ sig) (r : ℕ) (d : Unit) :
    BI.Storable (upEmb : UEmb _ (Res nD τ sig Val)) ((X.sched m).payload g r d) := by
  unfold Exchange.sched; infer_instance

theorem duties_cell (c : Dev nD) (x : Bool × Fin n) : (X.sched m).duties (X.cell τ c x) 0 = {()} := by
  dsimp only [Exchange.sched]; exact if_pos ⟨rfl, rfl, x, rfl⟩

theorem duties_later (g : GSem nD τ sig) : ∀ r, 0 + 1 ≤ r → (X.sched m).duties g r = ∅ :=
  fun r hr => by dsimp only [Exchange.sched]; exact if_neg fun h => by omega

theorem expect_cell (c : Dev nD) (x : Bool × Fin n) : (X.sched m).expect (X.cell τ c x) 0 = X.N := by
  unfold Schedule.expect Schedule.amountOf; rw [duties_cell, Finset.sum_singleton]; rfl

theorem payload_cell (c : Dev nD) (x : Bool × Fin n) (u : Unit) : (X.sched m).payload (X.cell τ c x) 0 u = X.pay m c x := by
  classical
  dsimp only [Exchange.sched]
  rw [show (Finset.univ.filter fun y : Bool × Fin n => (SemLoc.dma (X.sem x) : SemLoc sig) = .dma (X.sem y)) = {x} from by
    ext y
    simp only [Finset.mem_filter, Finset.mem_univ, true_and, Finset.mem_singleton]
    exact ⟨fun h => (X.loc_inj h).symm, fun h => by rw [h]⟩, bigSep_singleton]

theorem rest_cell (c : Dev nD) (x : Bool × Fin n) :
    bigSep ((X.sched m).duties (X.cell τ c x) 0 \ ∅) (fun u => (X.sched m).payload (X.cell τ c x) 0 u) = X.pay m c x := by
  rw [Finset.sdiff_empty, duties_cell, bigSep_singleton, payload_cell]

/-! ## What a device holds -/

/-- The first of the parts still to do, and the last of those done, taken out of a sum over them. -/
theorem bigSep_todo (Φ : Fin n → sProp (Res nD τ sig Val)) (j : Fin n) :
    bigSep (todo n j.val) Φ = iprop(Φ j ∗ bigSep (todo n (j.val + 1)) Φ) := by
  rw [todo_step, bigSep_insert (not_todo j)]; rfl
theorem bigSep_past (Φ : Fin n → sProp (Res nD τ sig Val)) (j : Fin n) :
    bigSep (past n (j.val + 1)) Φ = iprop(Φ j ∗ bigSep (past n j.val) Φ) := by
  rw [past_step, bigSep_insert (not_past j)]; rfl

/-- The records of every cell of the machine: its invariant, and that its round has begun. -/
def Exchange.records (κ : GSem nD τ sig → ℕ) : sProp (Res nD τ sig Val) :=
  bigSep Finset.univ fun y : Dev nD × (Bool × Fin n) =>
    iprop(cellInv ER (X.sched m) (κ (X.cell τ y.1 y.2)) (X.cell τ y.1 y.2) ∗ reached ER (X.cell τ y.1 y.2) 0)

instance (κ : GSem nD τ sig → ℕ) : BI.Persistent (X.records m κ) := by unfold Exchange.records; infer_instance

theorem records_at (κ : GSem nD τ sig → ℕ) (c : Dev nD) (x : Bool × Fin n) :
    X.records m κ ⊢ iprop(cellInv ER (X.sched m) (κ (X.cell τ c x)) (X.cell τ c x) ∗ reached ER (X.cell τ c x) 0) :=
  bigSep_elim (Finset.mem_univ (c, x))

/-- What sending a part takes: the part, its destination on the partner, and the tokens of its two duties. -/
def Exchange.ready (c : Dev nD) (j : Fin n) : sProp (Res nD τ sig Val) :=
  iprop(X.srcPts m c j ∗ X.dstPts (X.peer j c) j (m ((X.dst (X.peer j (X.peer j c)) j).view.loc ((X.peer j c).tc : Thread nD τ)))
    ∗ dutyTok ER (X.cell τ c (false, j)) 0 () ∗ dutyTok ER (X.cell τ (X.peer j c) (true, j)) 0 ())

/-- The credit of a cell, -/
def Exchange.credit (Val : EltTy → Type) (τ : Topo) (c : Dev nD) (x : Bool × Fin n) : sProp (Res nD τ sig Val) := cred (tallyAt (X.cell τ c x) () X.N)

/-- its owner's position before its round, -/
def Exchange.pos (Val : EltTy → Type) (τ : Topo) (c : Dev nD) (x : Bool × Fin n) : sProp (Res nD τ sig Val) := atPos ER (X.cell τ c x) 0 ∅ 0

/-- and what the wait leaves: the semaphore back at zero and the payload. -/
def Exchange.done (c : Dev nD) (x : Bool × Fin n) : sProp (Res nD τ sig Val) :=
  iprop(semVal (X.cell τ c x) 0 ∗ X.pay m c x)

/-- What a device owes its partner for the parts `S`. -/
def Exchange.owed (τ : Topo) (c : Dev nD) (S : Finset (Fin n)) : CellTallies nD τ sig Unit :=
  ∑ j ∈ S, tallyAt (X.cell τ (X.peer j c) (true, j)) () X.N

/-- Before the `k`-th copy is issued; -/
def Exchange.sending (c : Dev nD) (k : ℕ) : sProp (Res nD τ sig Val) :=
  iprop(bigSep (todo n k) (X.ready m c) ∗ bigSep (past n k) (fun j => X.credit Val τ c (false, j))
    ∗ ∃ W, owes (c.tc : Thread nD τ) (X.owed τ c (todo n k)) W)

/-- before the `k`-th wait on the receive (`b = true`) or send (`b = false`) semaphores. -/
def Exchange.waiting (b : Bool) (c : Dev nD) (k : ℕ) : sProp (Res nD τ sig Val) :=
  iprop(bigSep (todo n k) (fun j => iprop(X.credit Val τ c (b, j) ∗ X.pos Val τ c (b, j))) ∗ bigSep (past n k) (fun j => X.done m c (b, j))
    ∗ ∃ W, owes (c.tc : Thread nD τ) (0 : CellTallies nD τ sig Unit) W)

section Steps

variable [∀ e, Nonempty (Val e)] {defs₀ : Defs nD τ sig Val Λ₀} (𝒱₀ : Variants) (κ : GSem nD τ sig → ℕ) (c : Dev nD) {α : Type}
  {k : PUnit → Prog (TpuEff nD τ sig Val Λ₀ .tc) α} {Q : α → sProp (Res nD τ sig Val)}

/-- Issuing the `j`-th copy. -/
theorem send_next (j : Fin n) {a : Memref sig .tc sp s e} {b : Memref sig .tc sp' s e} {d : Dev nD} {sS sR : DmaSem sig}
    {hsc : b.view.ref.isScScratch = false} {hsrc : a.view.WordExact} {hdst : b.view.WordExact}
    {hsem : DmaTarget.Typed sp (.dma sR) (.remote (d.tc : Thread nD τ) b (.dma sS) hsc)}
    (ha : a = X.src c j) (hb : b = X.dst c j) (hd : d = X.peer j c) (hS : sS = X.sem (false, j)) (hR : sR = X.sem (true, j)) :
    iprop(X.records m κ ∗ X.sending m c j.val)
      ⊢ iprop((X.sending m c (j.val + 1) -∗ wp frame (wpE defs₀ 𝒱₀ (c.tc : Thread nD τ) none) Set.univ (k ⟨⟩) Q)
        -∗ wp frame (wpE defs₀ 𝒱₀ (c.tc : Thread nD τ) none) Set.univ
            (.op (.enqueueDma a (.remote (d.tc : Thread nD τ) b (.dma sS) hsc) (.dma sR) hsrc hdst hsem) k) Q) := by
  subst ha hb hd hS hR
  have hO : X.owed τ c (todo n j.val) = X.owed τ c (todo n (j.val + 1)) + tallyAt (X.cell τ (X.peer j c) (true, j)) () X.N := by
    unfold Exchange.owed; rw [todo_step, Finset.sum_insert (not_todo j), add_comm]
  unfold Exchange.sending
  rw [bigSep_todo, bigSep_past, hO]
  unfold Exchange.ready
  rw [dstPts_peer]
  iintro ⟨#Hrec, ⟨⟨Hs, Hd, Ht1, Ht2⟩, Hready⟩, Hcr, ⟨%W, HO⟩⟩ Hk
  ihave #H1 := (records_at X m κ c (false, j)) $$ Hrec
  ihave #H2 := (records_at X m κ (X.peer j c) (true, j)) $$ Hrec
  icases H1 with ⟨#HI1, #Hr1⟩
  icases H2 with ⟨#HI2, #Hr2⟩
  unfold Exchange.srcPts
  iapply (wp_send_pointsTo 𝒱₀ ER (X.sched m) (c.tc : Thread nD τ) none (r₁ := 0) (r₂ := 0) (d₁ := ()) (d₂ := ())
      (κ₁ := κ (X.cell τ c (false, j))) (κ₂ := κ (X.cell τ (X.peer j c) (true, j)))
      (by rw [duties_cell]; exact Finset.mem_singleton_self _) (by rw [duties_cell]; exact Finset.mem_singleton_self _)
      () () X.N (show (X.dst c j).view.amount (.dma (X.sem (true, j))) = X.N from X.hN c j) rfl rfl (X.owed τ c (todo n (j.val + 1))) rfl
      (Entails.of_eq (payload_cell X m c (false, j) ()).symm)
      (by
        rw [payload_cell]
        show _ ⊢ X.dstPts (X.peer j c) j (X.landed m (X.peer j c) j)
        unfold Exchange.dstPts Exchange.landed
        rw [X.peer_peer]))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hready]; · iexact Hready
  isplitl [Hc Hcr]
  · isplitl [Hc]; · unfold Exchange.credit; iexact Hc
    iexact Hcr
  iexists W; iexact HO

/-- The `j`-th wait on the receive or send semaphores. -/
theorem wait_next (b : Bool) (j : Fin n) {sR : DmaSem sig} {sp₁ sp₂ : Space} {s₁ s₂ : Shape} {e₁ e₂ : EltTy}
    {x : Memref sig .tc sp₁ s₁ e₁} {y : Memref sig .tc sp₂ s₂ e₂} {hx : x.view.WordExact} {hy : y.view.WordExact}
    (hR : sR = X.sem (b, j)) (hN : y.view.dmaCredit = X.N) :
    iprop(X.records m κ ∗ X.waiting m b c j.val)
      ⊢ iprop((X.waiting m b c (j.val + 1) -∗ wp frame (wpE defs₀ 𝒱₀ (c.tc : Thread nD τ) none) Set.univ (k ⟨⟩) Q)
        -∗ wp frame (wpE defs₀ 𝒱₀ (c.tc : Thread nD τ) none) Set.univ (.op (.waitDma2 sR x y hx hy) k) Q) := by
  subst hR
  unfold Exchange.waiting
  rw [bigSep_todo, bigSep_past]
  iintro ⟨#Hrec, ⟨⟨Hc, Hp⟩, Htodo⟩, Hdone, ⟨%W, HO⟩⟩ Hk
  ihave #H1 := (records_at X m κ c (b, j)) $$ Hrec
  icases H1 with ⟨#HI, #Hr⟩
  unfold Exchange.credit Exchange.pos
  iapply (wp_wait_rest_token 𝒱₀ ER (X.sched m) (c.tc : Thread nD τ) none (κ := κ (X.cell τ c (b, j)))
      (wpE_waitDma2_eq 𝒱₀ (c.tc : Thread nD τ) none Set.univ) (Set.mem_univ _) () (O := 0) (W := W) (R := 0) (m := 0) (T := ∅)
      (by rw [expect_cell, Nat.zero_add]; exact hN)) $$ [Hc Hp HO]
  · rw [hN]
    isplitr; · iexact HI
    isplitl [Hc]; · iexact Hc
    isplitl [HO]; · iexact HO
    isplitr; · rw [MayWait_zero]; iempintro
    iexact Hp
  iintro ⟨HO, Hp, -, Hpay⟩
  iapply (fupd_wp frame (wpE defs₀ 𝒱₀ (c.tc : Thread nD τ) none) Set.univ _ _)
  imod (cell_close ER (X.sched m) (Set.mem_univ (κ (X.cell τ c (b, j)))) (fun h => h) (R := 0 + 1) (duties_later X m (X.cell τ c (b, j)))) $$ [Hp] with Hz
  · isplitr; · iexact HI
    iexact Hp
  imodintro
  iapply Hk
  isplitl [Htodo]; · iexact Htodo
  isplitl [Hz Hpay Hdone]
  · isplitl [Hz Hpay]
    · unfold Exchange.done
      isplitl [Hz]; · iexact Hz
      iapply (Entails.of_eq (rest_cell X m c (b, j))); iexact Hpay
    iexact Hdone
  iexists _; iexact HO

end Steps

/-! ## The deal and the run -/

section Run

variable (R : Dev nD → sProp (Res nD τ sig Val))

/-- The kernel's semaphores that are no cell of the exchange, at zero. -/
def Exchange.idle (Val : EltTy → Type) (τ : Topo) (c : Dev nD) : sProp (Res nD τ sig Val) :=
  bigSep ((Finset.univ.filter fun sm : SemLoc sig => sm.isScoped .tc = true) \ Finset.univ.map ⟨_, X.loc_inj⟩)
    fun sm => semVal ((c.tc : Thread nD τ), sm) 0

/-- What a device is dealt (`R`: what else it keeps throughout), -/
def Exchange.dealt (c : Dev nD) : sProp (Res nD τ sig Val) :=
  iprop(∃ κ, X.records m κ ∗ bigSep Finset.univ (X.ready m c)
    ∗ bigSep Finset.univ (fun j => iprop(X.credit Val τ c (true, j) ∗ X.pos Val τ c (true, j)))
    ∗ bigSep Finset.univ (fun j => X.pos Val τ c (false, j)) ∗ X.idle Val τ c ∗ R c)

/-- what it ends with, -/
def Exchange.ended (c : Dev nD) : sProp (Res nD τ sig Val) :=
  iprop(bigSep Finset.univ (fun j => X.done m c (true, j)) ∗ bigSep Finset.univ (fun j => X.done m c (false, j)) ∗ X.idle Val τ c ∗ R c)

/-- and what of that the launch reads. -/
def Exchange.kept (c : Dev nD) : sProp (Res nD τ sig Val) :=
  iprop(bigSep Finset.univ (fun j => X.dstPts c j (X.landed m c j)) ∗ bigSep Finset.univ (X.srcPts m c) ∗ R c)

/-- A sum over the cells of a device: the receive cells and the send cells. -/
theorem bigSep_ends (Φ : Bool × Fin n → sProp (Res nD τ sig Val)) :
    bigSep Finset.univ Φ = iprop(bigSep Finset.univ (fun j => Φ (true, j)) ∗ bigSep Finset.univ fun j => Φ (false, j)) := by
  rw [bigSep_univ_prod, Fintype.univ_bool, bigSep_insert (by simp), bigSep_singleton]; rfl

theorem sems_split (c : Dev nD) : (scopedSems0 (c.tc : Thread nD τ) : sProp (Res nD τ sig Val))
    = iprop((bigSep Finset.univ fun x => semVal (X.cell τ c x) 0) ∗ X.idle Val τ c) := by
  have hsub : Finset.univ.map ⟨_, X.loc_inj⟩ ⊆ Finset.univ.filter fun sm : SemLoc sig => sm.isScoped .tc = true := by
    intro sm h
    obtain ⟨x, -, rfl⟩ := Finset.mem_map.mp h
    exact Finset.mem_filter.mpr ⟨Finset.mem_univ _, X.isScoped x⟩
  rw [scopedSems0_tc, bigSep_sdiff_split hsub, bigSep_map]; rfl

/-- The three passages of the body: before the first copy, -/
theorem begin_sending (c : Dev nD) (W : Waits sig Unit) :
    iprop(X.dealt m R c ∗ owes (c.tc : Thread nD τ) (X.owed τ c Finset.univ) W)
      ⊢ iprop(∃ κ, X.records m κ ∗ X.sending m c 0
        ∗ bigSep Finset.univ (fun j => iprop(X.credit Val τ c (true, j) ∗ X.pos Val τ c (true, j)))
        ∗ bigSep Finset.univ (fun j => X.pos Val τ c (false, j)) ∗ X.idle Val τ c ∗ R c) := by
  unfold Exchange.dealt Exchange.sending
  rw [todo_zero, past_zero, bigSep_empty]
  iintro ⟨⟨%κ, Hrec, Hready, H⟩, HO⟩
  iexists κ
  isplitl [Hrec]; · iexact Hrec
  isplitr [H]
  · isplitl [Hready]; · iexact Hready
    isplitr; · iempintro
    iexists W; iexact HO
  iexact H

/-- between the last copy and the first wait, -/
theorem begin_receiving (c : Dev nD) :
    iprop(X.sending m c n ∗ bigSep Finset.univ (fun j => iprop(X.credit Val τ c (true, j) ∗ X.pos Val τ c (true, j)))
        ∗ bigSep Finset.univ (fun j => X.pos Val τ c (false, j)))
      ⊢ iprop(X.waiting m true c 0 ∗ bigSep Finset.univ (fun j => iprop(X.credit Val τ c (false, j) ∗ X.pos Val τ c (false, j)))) := by
  unfold Exchange.sending Exchange.waiting Exchange.owed
  rw [todo_zero, past_zero, todo_end, past_end, bigSep_empty, bigSep_empty, Finset.sum_empty, bigSep_sep' Finset.univ (fun j => X.credit Val τ c (false, j))]
  iintro ⟨⟨-, Hc, HO⟩, Hw, Hp⟩
  isplitl [HO Hw]
  · isplitl [Hw]; · iexact Hw
    isplitr; · iempintro
    iexact HO
  isplitl [Hc] <;> iassumption

/-- between the receive and the send semaphores, -/
theorem begin_draining (c : Dev nD) :
    iprop(X.waiting m true c n ∗ bigSep Finset.univ (fun j => iprop(X.credit Val τ c (false, j) ∗ X.pos Val τ c (false, j))))
      ⊢ iprop(X.waiting m false c 0 ∗ bigSep Finset.univ (fun j => X.done m c (true, j))) := by
  unfold Exchange.waiting
  rw [todo_zero, past_zero, todo_end, past_end, bigSep_empty, bigSep_empty]
  iintro ⟨⟨-, Hd, HO⟩, Hw⟩
  isplitl [HO Hw]
  · isplitl [Hw]; · iexact Hw
    isplitr; · iempintro
    iexact HO
  iexact Hd

/-- and the end. -/
theorem end_draining (c : Dev nD) :
    iprop(X.waiting m false c n ∗ bigSep Finset.univ (fun j => X.done m c (true, j)) ∗ X.idle Val τ c ∗ R c)
      ⊢ iprop(X.ended m R c ∗ ∃ W, owes (c.tc : Thread nD τ) (0 : CellTallies nD τ sig Unit) W) := by
  unfold Exchange.waiting Exchange.ended
  rw [todo_end, past_end, bigSep_empty]
  iintro ⟨⟨-, Hd, HO⟩, Hr, Hi, HR⟩
  isplitr [HO]
  · isplitl [Hr]; · iexact Hr
    isplitl [Hd]; · iexact Hd
    isplitl [Hi] <;> iassumption
  iexact HO

/-! The body, a copy or a wait at a time: what a device holds besides, while it sends, receives and drains, -/

abbrev Exchange.aside₀ (c : Dev nD) : sProp (Res nD τ sig Val) :=
  iprop(bigSep Finset.univ (fun j => iprop(X.credit Val τ c (true, j) ∗ X.pos Val τ c (true, j)))
    ∗ bigSep Finset.univ (fun j => X.pos Val τ c (false, j)) ∗ X.idle Val τ c ∗ R c)
abbrev Exchange.aside₁ (c : Dev nD) : sProp (Res nD τ sig Val) :=
  iprop(bigSep Finset.univ (fun j => iprop(X.credit Val τ c (false, j) ∗ X.pos Val τ c (false, j))) ∗ X.idle Val τ c ∗ R c)
abbrev Exchange.aside₂ (c : Dev nD) : sProp (Res nD τ sig Val) :=
  iprop(bigSep Finset.univ (fun j => X.done m c (true, j)) ∗ X.idle Val τ c ∗ R c)

section Body

variable [∀ e, Nonempty (Val e)] {defs₀ : Defs nD τ sig Val Λ₀} {𝒱₀ : Variants} {κ : GSem nD τ sig → ℕ} {c : Dev nD} {α : Type}
  {p : Prog (TpuEff nD τ sig Val Λ₀ .tc) α} {k : PUnit → Prog (TpuEff nD τ sig Val Λ₀ .tc) α} {Q : α → sProp (Res nD τ sig Val)} {Φ : sProp (Res nD τ sig Val)}

/-- and the passages as steps: to the first copy, -/
theorem to_send {W : Waits sig Unit} (h : ∀ κ, iprop(X.records m κ ∗ X.sending m c 0 ∗ X.aside₀ R c) ⊢ wp frame (wpE defs₀ 𝒱₀ (c.tc : Thread nD τ) none) Set.univ p Q) :
    iprop(X.dealt m R c ∗ owes (c.tc : Thread nD τ) (X.owed τ c Finset.univ) W) ⊢ wp frame (wpE defs₀ 𝒱₀ (c.tc : Thread nD τ) none) Set.univ p Q := by
  refine (begin_sending X m R c W).trans ?_
  iintro ⟨%κ, H⟩
  iapply (h κ); iexact H

/-- over a copy, -/
theorem send_step (i : ℕ) (hi : i < n) {a : Memref sig .tc sp s e} {b : Memref sig .tc sp' s e} {d : Dev nD} {sS sR : DmaSem sig}
    {hsc : b.view.ref.isScScratch = false} {hsrc : a.view.WordExact} {hdst : b.view.WordExact}
    {hsem : DmaTarget.Typed sp (.dma sR) (.remote (d.tc : Thread nD τ) b (.dma sS) hsc)}
    (ha : a = X.src c ⟨i, hi⟩) (hb : b = X.dst c ⟨i, hi⟩) (hd : d = X.peer ⟨i, hi⟩ c) (hS : sS = X.sem (false, ⟨i, hi⟩)) (hR : sR = X.sem (true, ⟨i, hi⟩))
    (h : iprop(X.records m κ ∗ X.sending m c (i + 1) ∗ Φ) ⊢ wp frame (wpE defs₀ 𝒱₀ (c.tc : Thread nD τ) none) Set.univ (k ⟨⟩) Q) :
    iprop(X.records m κ ∗ X.sending m c i ∗ Φ) ⊢ wp frame (wpE defs₀ 𝒱₀ (c.tc : Thread nD τ) none) Set.univ
      (.op (.enqueueDma a (.remote (d.tc : Thread nD τ) b (.dma sS) hsc) (.dma sR) hsrc hdst hsem) k) Q := by
  iintro ⟨#Hrec, H, HΦ⟩
  iapply (send_next X m 𝒱₀ κ c ⟨i, hi⟩ ha hb hd hS hR) $$ [H]
  · isplitr; · iexact Hrec
    iexact H
  iintro H
  iapply h
  isplitr; · iexact Hrec
  isplitl [H] <;> iassumption

/-- to the first wait for a partner's, whatever else is held, -/
theorem pass_receive {Ψ : sProp (Res nD τ sig Val)}
    (h : iprop(X.records m κ ∗ X.waiting m true c 0 ∗ bigSep Finset.univ (fun j => iprop(X.credit Val τ c (false, j) ∗ X.pos Val τ c (false, j))) ∗ Ψ)
      ⊢ wp frame (wpE defs₀ 𝒱₀ (c.tc : Thread nD τ) none) Set.univ p Q) :
    iprop(X.records m κ ∗ X.sending m c n ∗ bigSep Finset.univ (fun j => iprop(X.credit Val τ c (true, j) ∗ X.pos Val τ c (true, j)))
      ∗ bigSep Finset.univ (fun j => X.pos Val τ c (false, j)) ∗ Ψ) ⊢ wp frame (wpE defs₀ 𝒱₀ (c.tc : Thread nD τ) none) Set.univ p Q := by
  iintro ⟨#Hrec, H, Hw, Hp, HR⟩
  ihave H' := (begin_receiving X m c) $$ [H Hw Hp]
  · isplitl [H]; · iexact H
    isplitl [Hw] <;> iassumption
  icases H' with ⟨H, Hw⟩
  iapply h
  isplitr; · iexact Hrec
  isplitl [H]; · iexact H
  isplitl [Hw] <;> iassumption

theorem to_receive (h : iprop(X.records m κ ∗ X.waiting m true c 0 ∗ X.aside₁ R c) ⊢ wp frame (wpE defs₀ 𝒱₀ (c.tc : Thread nD τ) none) Set.univ p Q) :
    iprop(X.records m κ ∗ X.sending m c n ∗ X.aside₀ R c) ⊢ wp frame (wpE defs₀ 𝒱₀ (c.tc : Thread nD τ) none) Set.univ p Q :=
  pass_receive X m h

/-- over a wait, -/
theorem wait_step (b : Bool) (i : ℕ) (hi : i < n) {sR : DmaSem sig} {sp₁ sp₂ : Space} {s₁ s₂ : Shape} {e₁ e₂ : EltTy}
    {x : Memref sig .tc sp₁ s₁ e₁} {y : Memref sig .tc sp₂ s₂ e₂} {hx : x.view.WordExact} {hy : y.view.WordExact}
    (hR : sR = X.sem (b, ⟨i, hi⟩)) (hN : y.view.dmaCredit = X.N)
    (h : iprop(X.records m κ ∗ X.waiting m b c (i + 1) ∗ Φ) ⊢ wp frame (wpE defs₀ 𝒱₀ (c.tc : Thread nD τ) none) Set.univ (k ⟨⟩) Q) :
    iprop(X.records m κ ∗ X.waiting m b c i ∗ Φ) ⊢ wp frame (wpE defs₀ 𝒱₀ (c.tc : Thread nD τ) none) Set.univ (.op (.waitDma2 sR x y hx hy) k) Q := by
  iintro ⟨#Hrec, H, HΦ⟩
  iapply (wait_next X m 𝒱₀ κ c b ⟨i, hi⟩ hR hN) $$ [H]
  · isplitr; · iexact Hrec
    iexact H
  iintro H
  iapply h
  isplitr; · iexact Hrec
  isplitl [H] <;> iassumption

/-- to the first wait for its own, -/
theorem pass_drain {Ψ : sProp (Res nD τ sig Val)}
    (h : iprop(X.records m κ ∗ X.waiting m false c 0 ∗ bigSep Finset.univ (fun j => X.done m c (true, j)) ∗ Ψ)
      ⊢ wp frame (wpE defs₀ 𝒱₀ (c.tc : Thread nD τ) none) Set.univ p Q) :
    iprop(X.records m κ ∗ X.waiting m true c n ∗ bigSep Finset.univ (fun j => iprop(X.credit Val τ c (false, j) ∗ X.pos Val τ c (false, j))) ∗ Ψ)
      ⊢ wp frame (wpE defs₀ 𝒱₀ (c.tc : Thread nD τ) none) Set.univ p Q := by
  iintro ⟨#Hrec, H, Hw, HR⟩
  ihave H' := (begin_draining X m c) $$ [H Hw]
  · isplitl [H] <;> iassumption
  icases H' with ⟨H, Hd⟩
  iapply h
  isplitr; · iexact Hrec
  isplitl [H]; · iexact H
  isplitl [Hd] <;> iassumption

theorem to_drain (h : iprop(X.records m κ ∗ X.waiting m false c 0 ∗ X.aside₂ m R c) ⊢ wp frame (wpE defs₀ 𝒱₀ (c.tc : Thread nD τ) none) Set.univ p Q) :
    iprop(X.records m κ ∗ X.waiting m true c n ∗ X.aside₁ R c) ⊢ wp frame (wpE defs₀ 𝒱₀ (c.tc : Thread nD τ) none) Set.univ p Q :=
  pass_drain X m h

/-- and to the end. -/
theorem to_end (u : α) : iprop(X.records m κ ∗ X.waiting m false c n ∗ X.aside₂ m R c) ⊢ wp frame (wpE defs₀ 𝒱₀ (c.tc : Thread nD τ) none) Set.univ (.ret u)
      fun _ => iprop(X.ended m R c ∗ ∃ W, owes (c.tc : Thread nD τ) (0 : CellTallies nD τ sig Unit) W) := by
  rw [wp_ret]
  iintro ⟨-, H⟩
  imodintro
  iapply (end_draining X m R c); iexact H

end Body

theorem ended_split (c : Dev nD) : X.ended m R c ⊢ iprop(X.kept m R c ∗ scopedSems0 (c.tc : Thread nD τ)) := by
  unfold Exchange.ended Exchange.kept Exchange.done
  rw [sems_split X c, bigSep_ends, bigSep_sep', bigSep_sep']
  iintro ⟨⟨Hz1, Hd⟩, ⟨Hz2, Hs⟩, Hi, HR⟩
  isplitl [Hd Hs HR]
  · isplitl [Hd]; · iexact Hd
    isplitl [Hs]; · iexact Hs
    iexact HR
  isplitr [Hi]
  · isplitl [Hz1] <;> iassumption
  iexact Hi

/-- The token of each cell's one duty. -/
def Exchange.token (τ : Topo) : Dev nD × (Bool × Fin n) ↪ GSem nD τ sig × ℕ × Unit where
  toFun y := (X.cell τ y.1 y.2, 0, ())
  inj' := fun _ _ h => X.cell_inj (congrArg Prod.fst h)

/-- The cells and duty tokens the launch funds. -/
def Exchange.seed (τ : Topo) : URounds (GSem nD τ sig) Unit :=
  initOf (Finset.univ.map ⟨_, X.cell_inj (τ := τ)⟩)
    (Finset.univ.map (X.token τ))

/-- The deal: the cells made of the semaphores, the tokens and the destination parts handed to the partners. -/
theorem deal (hbufs : ∀ c : Dev nD, (unscopedBufs c (fun b => m ((c.tc : Thread nD τ).loc b)) : sProp (Res nD τ sig Val))
      ⊢ iprop(bigSep Finset.univ (X.srcPts m c) ∗ bigSep Finset.univ (fun j => X.dstPts c j (m ((X.dst (X.peer j c) j).view.loc (c.tc : Thread nD τ)))) ∗ R c)) :
    iprop((bigSep Finset.univ fun c : Dev nD => iprop(scopedSems0 (c.tc : Thread nD τ)
        ∗ unscopedBufs c (fun b => m ((c.tc : Thread nD τ).loc b)) ∗ launchCred (fun d => X.owed τ d Finset.univ) c)) ∗ BI.own (ER (X.seed τ)))
      ⊢ |={Set.univ}=> bigSep Finset.univ (X.dealt m R) := by
  have hcred (c : Dev nD) : (launchCred (fun d => X.owed τ d Finset.univ) c : sProp (Res nD τ sig Val))
      ⊢ bigSep Finset.univ fun j => X.credit Val τ c (true, j) := by
    unfold Exchange.owed Exchange.credit
    rw [launchCred_sum]
    exact bigSep_mono fun j _ => launchCred_tallyAt (.dma (X.sem (true, j))) (X.peer j) (X.peer j) (X.peer_peer j) (X.peer_peer j) () X.N c
  have hcore (c : Dev nD) : iprop(scopedSems0 (c.tc : Thread nD τ) ∗ unscopedBufs c (fun b => m ((c.tc : Thread nD τ).loc b))
        ∗ launchCred (fun d => X.owed τ d Finset.univ) c)
      ⊢ (iprop((bigSep Finset.univ fun x => semVal (X.cell τ c x) 0) ∗ X.idle Val τ c ∗ bigSep Finset.univ (X.srcPts m c)
        ∗ bigSep Finset.univ (fun j => X.dstPts c j (m ((X.dst (X.peer j c) j).view.loc (c.tc : Thread nD τ)))) ∗ R c
        ∗ bigSep Finset.univ fun j => X.credit Val τ c (true, j)) : sProp (Res nD τ sig Val)) := by
    rw [sems_split X c]
    iintro ⟨⟨Hs, Hi⟩, Hb, Hc⟩
    ihave Hb' := (hbufs c) $$ Hb
    ihave Hc' := (hcred c) $$ Hc
    icases Hb' with ⟨Hsrc, Hdst, HR⟩
    isplitl [Hs]; · iexact Hs
    isplitl [Hi]; · iexact Hi
    isplitl [Hsrc]; · iexact Hsrc
    isplitl [Hdst]; · iexact Hdst
    isplitl [HR] <;> iassumption
  have hcores : (bigSep Finset.univ fun c : Dev nD => iprop(scopedSems0 (c.tc : Thread nD τ)
        ∗ unscopedBufs c (fun b => m ((c.tc : Thread nD τ).loc b)) ∗ launchCred (fun d => X.owed τ d Finset.univ) c))
      ⊢ (iprop((bigSep Finset.univ fun c => bigSep Finset.univ fun x => semVal (X.cell τ c x) 0) ∗ bigSep Finset.univ (X.idle Val τ)
        ∗ (bigSep Finset.univ fun c => bigSep Finset.univ (X.srcPts m c))
        ∗ (bigSep Finset.univ fun c => bigSep Finset.univ (fun j => X.dstPts c j (m ((X.dst (X.peer j c) j).view.loc (c.tc : Thread nD τ))))) ∗ bigSep Finset.univ R
        ∗ bigSep Finset.univ fun c => bigSep Finset.univ fun j => X.credit Val τ c (true, j)) : sProp (Res nD τ sig Val)) := by
    refine (bigSep_mono fun c _ => hcore c).trans ?_
    simp only [bigSep_sep']
    exact BI.Entails.refl _
  have hmine (κ : GSem nD τ sig → ℕ) :
      iprop(X.records m κ ∗ bigSep Finset.univ fun c => iprop(bigSep Finset.univ (X.ready m c)
        ∗ bigSep Finset.univ (fun j => iprop(X.credit Val τ c (true, j) ∗ X.pos Val τ c (true, j)))
        ∗ bigSep Finset.univ (fun j => X.pos Val τ c (false, j)) ∗ X.idle Val τ c ∗ R c))
      ⊢ bigSep Finset.univ (X.dealt m R) := by
    have hone (c : Dev nD) : iprop(X.records m κ ∗ (bigSep Finset.univ (X.ready m c)
        ∗ bigSep Finset.univ (fun j => iprop(X.credit Val τ c (true, j) ∗ X.pos Val τ c (true, j)))
        ∗ bigSep Finset.univ (fun j => X.pos Val τ c (false, j)) ∗ X.idle Val τ c ∗ R c)) ⊢ X.dealt m R c := by
      unfold Exchange.dealt
      iintro H
      iexists κ
      iexact H
    have hall := bigSep_mono (s := Finset.univ) fun (c : Dev nD) _ => hone c
    rw [bigSep_sep'] at hall
    iintro ⟨#Hrec, H⟩
    iapply (show _ ⊢ bigSep Finset.univ (X.dealt m R) from hall)
    isplitr
    · iapply (BI.bigSep_intro_persistent (S := Finset.univ) fun (c : Dev nD) _ => (BI.Entails.refl (X.records m κ))); iexact Hrec
    iexact H
  have hflip (Φ : Dev nD → Fin n → sProp (Res nD τ sig Val)) : bigSep Finset.univ (fun c => bigSep Finset.univ (Φ c))
      = bigSep Finset.univ fun c => bigSep Finset.univ fun j => Φ (X.peer j c) j := by
    rw [← bigSep_univ_prod fun y => Φ y.1 y.2, ← bigSep_univ_prod fun y : Dev nD × Fin n => Φ (X.peer y.2 y.1) y.2]
    exact bigSep_univ_equiv X.swap _
  have hready : bigSep Finset.univ (fun c => bigSep Finset.univ (X.ready m c))
      = (iprop((bigSep Finset.univ fun c => bigSep Finset.univ (X.srcPts m c))
        ∗ (bigSep Finset.univ fun c => bigSep Finset.univ (fun j => X.dstPts (X.peer j c) j (m ((X.dst (X.peer j (X.peer j c)) j).view.loc ((X.peer j c).tc : Thread nD τ)))))
        ∗ (bigSep Finset.univ fun c => bigSep Finset.univ fun j => dutyTok ER (X.cell τ c (false, j)) 0 ())
        ∗ bigSep Finset.univ fun c => bigSep Finset.univ fun j => dutyTok ER (X.cell τ (X.peer j c) (true, j)) 0 ()) : sProp (Res nD τ sig Val)) := by
    simp only [← bigSep_sep']; rfl
  have hcells (Φ : GSem nD τ sig → sProp (Res nD τ sig Val)) :
      (bigSep Finset.univ fun c => bigSep Finset.univ fun x => Φ (X.cell τ c x)) = bigSep (Finset.univ.map ⟨_, X.cell_inj (τ := τ)⟩) Φ := by
    rw [bigSep_map, bigSep_univ_prod]; rfl
  have hends (Φ : Dev nD → Bool × Fin n → sProp (Res nD τ sig Val)) :
      (bigSep Finset.univ fun c => bigSep Finset.univ (Φ c))
        = iprop((bigSep Finset.univ fun c => bigSep Finset.univ fun j => Φ c (true, j)) ∗ bigSep Finset.univ fun c => bigSep Finset.univ fun j => Φ c (false, j)) := by
    rw [← bigSep_sep']; exact bigSep_congr fun c _ => bigSep_ends (Φ c)
  have hrec (κ : GSem nD τ sig → ℕ) : iprop((bigSep (Finset.univ.map ⟨_, X.cell_inj (τ := τ)⟩) fun g => cellInv ER (X.sched m) (κ g) g)
        ∗ bigSep (Finset.univ.map ⟨_, X.cell_inj (τ := τ)⟩) fun g => reached ER g 0) = X.records m κ := by
    unfold Exchange.records; rw [bigSep_sep', bigSep_map, bigSep_map]; rfl
  have hfund : BI.own (ER (X.seed τ)) ⊢ |==> (iprop((bigSep (Finset.univ.map ⟨_, X.cell_inj (τ := τ)⟩) fun g => roundState ER (X.sched m) g 0)
      ∗ (bigSep (Finset.univ.map ⟨_, X.cell_inj (τ := τ)⟩) fun g => reached ER g 0)
      ∗ (bigSep (Finset.univ.map ⟨_, X.cell_inj (τ := τ)⟩) fun g => atPos ER g 0 ∅ 0)
      ∗ bigSep Finset.univ fun c => bigSep Finset.univ fun x => dutyTok ER (X.cell τ c x) 0 ()) : sProp (Res nD τ sig Val)) := by
    unfold Exchange.seed
    refine (Rounds.fund ER (X.sched m) _ _).trans (BI.bupd_mono ?_)
    rw [bigSep_map (X.token τ), bigSep_univ_prod]
    exact BI.Entails.refl _
  iintro ⟨Hcores, Hu⟩
  ihave Hc := hcores $$ Hcores
  icases Hc with ⟨Hsem, Hidle, Hsrc, Hdst, HR, Hcred⟩
  imod hfund $$ Hu with ⟨Hst, Hr, Hat, Htok⟩
  ihave Hb := (bodies_intro ER (X.sched m) (Finset.univ.map ⟨_, X.cell_inj (τ := τ)⟩)) $$ [Hsem Hst]
  · isplitl [Hsem]; · iapply (Entails.of_eq (hcells fun g => semVal g 0)); iexact Hsem
    iexact Hst
  imod (inv_alloc_family (Finset.univ.map ⟨_, X.cell_inj (τ := τ)⟩) (body ER (X.sched m)) ∅) $$ Hb with ⟨%κ, -, Hinv⟩
  ihave Hat' := (Entails.of_eq (hcells fun g => atPos ER g 0 ∅ 0).symm) $$ Hat
  ihave Hat'' := (Entails.of_eq (hends fun c x => atPos ER (X.cell τ c x) 0 ∅ 0)) $$ Hat'
  icases Hat'' with ⟨Hp1, Hp2⟩
  ihave Htok' := (Entails.of_eq (hends fun c x => dutyTok ER (X.cell τ c x) 0 ())) $$ Htok
  icases Htok' with ⟨Ht1, Ht2⟩
  ihave Hdst' := (Entails.of_eq (hflip fun c j => X.dstPts c j (m ((X.dst (X.peer j c) j).view.loc (c.tc : Thread nD τ))))) $$ Hdst
  ihave Ht1' := (Entails.of_eq (hflip fun c j => dutyTok ER (X.cell τ c (true, j)) 0 ())) $$ Ht1
  imodintro
  iapply (hmine κ)
  isplitl [Hinv Hr]
  · iapply (Entails.of_eq (hrec κ)); isplitl [Hinv]; · iexact Hinv
    iexact Hr
  rw [bigSep_sep', hready]
  simp only [bigSep_sep']
  isplitl [Hsrc Hdst' Ht1' Ht2]
  · isplitl [Hsrc]; · iexact Hsrc
    isplitl [Hdst']; · iexact Hdst'
    isplitl [Ht2]; · iexact Ht2
    iexact Ht1'
  isplitl [Hcred Hp1]
  · isplitl [Hcred]; · iexact Hcred
    iexact Hp1
  isplitl [Hp2]; · iexact Hp2
  isplitl [Hidle] <;> iassumption

end Run

/-! ## An array in parts -/

section Cut

variable {ℓ : Loc nD τ sig} (K : Fin n → Finset (Idx ℓ)) (hK : ∀ i j, i ≠ j → Disjoint (K i) (K j))

/-- What is in none of the parts. -/
abbrev rest : Finset (Idx ℓ) := Finset.univ \ Finset.univ.biUnion K

include hK in
/-- An array is its parts and what is in none of them. -/
theorem cut (f : Buf Val ℓ) :
    (ℓ ↦{fullShare} f : sProp (Res nD τ sig Val)) ⊣⊢ iprop(bigSep Finset.univ (fun j => ℓ ↦[K j]{fullShare} f) ∗ ℓ ↦[rest K]{fullShare} f) := by
  rw [← pointsTo_biUnion Finset.univ K fun i _ j _ h => hK i j h]
  exact pointsTo_split_subset (Finset.subset_univ _)

include hK in
/-- Parts held at contents of their own are parts of one array's contents: the memory holds each. -/
theorem read_parts (fs : Fin n → Buf Val ℓ) (s' : Phys nD τ sig Val) :
    iprop((bigSep Finset.univ fun j => (ℓ ↦[K j]{fullShare} fs j : sProp (Res nD τ sig Val))) ∗ SI s')
      ⊢ iprop(⌜∀ j, ∀ i ∈ K j, s'.mem.mem ℓ i = fs j i⌝ ∗ SI s') := by
  have hj := pointsTo_biUnion_join (Ix := Unit) (Name := ℕ) (U := Own nD τ sig) (Lvl := ℕ) (q := fullShare)
    Finset.univ K fs (s'.mem.mem ℓ) fun i _ j _ h => hK i j h
  iintro ⟨H, HSI⟩
  ihave H := hj $$ H
  icases H with ⟨%g, %hg, H⟩
  icombine HSI H gives %h
  isplitr
  · ipureintro
    intro j i hi
    exact (h i (Finset.mem_biUnion.mpr ⟨j, Finset.mem_univ _, hi⟩)).trans (hg j (Finset.mem_univ _) i hi)
  iexact HSI

end Cut

end Cert.Proof.Swap

end
-- ==== Proof.Stack.lean ====
/-
  A device's own array and its partner's, stacked: the exchange lands the partner's in the partner's slot of an array of
  two slots, and host operations write the device's own into the other. What that takes of the arrays' resources (parts
  landed separately are one array again, and the device's other arrays come along) and of the update of a slot.
-/
module

public import proofs.«01_k».proof.Proof.Swap
public import Idealize.ShloMosaic.Lib.Pointwise.ShapeOpsCore

@[expose] public section

noncomputable section

namespace Cert.Proof.Stack

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap

variable {nD : ℕ} {τ : Topo} {sig : RefSig} {Val : EltTy → Type} {n : ℕ}

/-- Parts held at contents of their own, and what is in none of them, are one array. -/
theorem join {ℓ : Loc nD τ sig} (K : Fin n → Finset (Idx ℓ)) (hK : ∀ i j, i ≠ j → Disjoint (K i) (K j)) (fs : Fin n → Buf Val ℓ) (f : Buf Val ℓ) :
    iprop((bigSep Finset.univ fun j => (ℓ ↦[K j]{fullShare} fs j : sProp (Res nD τ sig Val))) ∗ ℓ ↦[rest K]{fullShare} f)
      ⊢ iprop(∃ g, ⌜(∀ j, ∀ i ∈ K j, g i = fs j i) ∧ ∀ i ∈ rest K, g i = f i⌝ ∗ ℓ ↦{fullShare} g) := by
  have hj := pointsTo_biUnion_join (Ix := Unit) (Name := ℕ) (U := Own nD τ sig) (Lvl := ℕ) (q := fullShare)
    Finset.univ K fs f fun i _ j _ h => hK i j h
  iintro ⟨H, Hr⟩
  ihave H := hj $$ H
  icases H with ⟨%g, %hg, H⟩
  iexists (Finset.univ.biUnion K).piecewise g f
  isplitr
  · ipureintro
    exact ⟨fun j i hi => (Finset.piecewise_eq_of_mem _ _ _ (Finset.mem_biUnion.mpr ⟨j, Finset.mem_univ _, hi⟩)).trans (hg j (Finset.mem_univ _) i hi),
      fun i hi => Finset.piecewise_eq_of_notMem _ _ _ (Finset.mem_sdiff.mp hi).2⟩
  iapply (pointsTo_join_subset (Finset.subset_univ (Finset.univ.biUnion K)))
  isplitl [H]; · iexact H
  iexact Hr

/-- A device's arrays besides two of them. -/
def beyond (a b : Ref sig .tc) (c : Dev nD) (f : (r : Ref sig .tc) → Buf Val ((c.tc : Thread nD τ).loc r)) : sProp (Res nD τ sig Val) :=
  bigSep (((Finset.univ.filter fun r : Ref sig .tc => ¬ r.isScoped).erase a).erase b) fun r => ((c.tc : Thread nD τ).loc r) ↦{fullShare} f r

/-- A device's arrays are two of them and the others. -/
theorem bufs_two (a b : Ref sig .tc) (ha : ¬ a.isScoped) (hb : ¬ b.isScoped) (hab : b ≠ a) (c : Dev nD)
    (f : (r : Ref sig .tc) → Buf Val ((c.tc : Thread nD τ).loc r)) :
    (unscopedBufs c f : sProp (Res nD τ sig Val))
      = iprop((((c.tc : Thread nD τ).loc a) ↦{fullShare} f a) ∗ (((c.tc : Thread nD τ).loc b) ↦{fullShare} f b) ∗ beyond a b c f) := by
  unfold unscopedBufs beyond
  rw [← Finset.insert_erase (Finset.mem_filter.mpr ⟨Finset.mem_univ a, ha⟩), bigSep_insert (Finset.notMem_erase _ _),
    Finset.erase_insert (Finset.notMem_erase _ _),
    ← Finset.insert_erase (Finset.mem_erase.mpr ⟨hab, Finset.mem_filter.mpr ⟨Finset.mem_univ b, hb⟩⟩), bigSep_insert (Finset.notMem_erase _ _),
    Finset.erase_insert (Finset.notMem_erase _ _)]
  rfl

/-- The device's arrays as at launch but for one of the two: its arrays at contents that say so of both. -/
theorem bufs_landed (a b : Ref sig .tc) (ha : ¬ a.isScoped) (hb : ¬ b.isScoped) (hab : b ≠ a) (c : Dev nD)
    (m : (ℓ : Loc nD τ sig) → Buf Val ℓ) (g : Buf Val ((c.tc : Thread nD τ).loc b)) :
    iprop((((c.tc : Thread nD τ).loc a) ↦{fullShare} m ((c.tc : Thread nD τ).loc a)) ∗ (((c.tc : Thread nD τ).loc b) ↦{fullShare} g)
        ∗ beyond a b c (fun r => m ((c.tc : Thread nD τ).loc r)))
      ⊢ (iprop(∃ V : Valuation τ sig Val, ⌜V (Proc.devRef .tc a) = m ((c.tc : Thread nD τ).loc a) ∧ V (Proc.devRef .tc b) = g⌝
          ∗ unscopedBufs c (fun r => V r)) : sProp (Res nD τ sig Val)) := by
  have hinj : ∀ r : Ref sig .tc, r ≠ b → (Proc.devRef (τ := τ) .tc r) ≠ Proc.devRef .tc b := fun r h e => h (Proc.devRef_injective _ e)
  let V : Valuation τ sig Val := Function.update (fun d => m (c, d)) (Proc.devRef .tc b) g
  have hV : ∀ r : Ref sig .tc, r ≠ b → V (Proc.devRef .tc r) = m ((c.tc : Thread nD τ).loc r) := fun r h => Function.update_of_ne (hinj r h) _ _
  have hVb : V (Proc.devRef .tc b) = g := Function.update_self _ _ _
  have e := bufs_two a b ha hb hab c (fun r => V r)
  have eb : (beyond a b c (fun r => V r) : sProp (Res nD τ sig Val)) = beyond a b c (fun r => m ((c.tc : Thread nD τ).loc r)) := by
    unfold beyond
    refine bigSep_congr fun r hr => ?_
    exact congrArg (fun x : Buf Val ((c.tc : Thread nD τ).loc r) => (((c.tc : Thread nD τ).loc r) ↦{fullShare} x : sProp (Res nD τ sig Val))) (hV r (Finset.ne_of_mem_erase hr))
  rw [eb, hV a hab.symm, hVb] at e
  iintro H
  iexists V
  isplitr
  · ipureintro; exact ⟨hV a hab.symm, hVb⟩
  iapply (Entails.of_eq e.symm); iexact H

section Arrays

variable {sp sp' : Space} {s : Shape} {e : EltTy} (X : Exchange nD sig n sp sp' s e) (m : (ℓ : Loc nD τ sig) → Buf Val ℓ)
  (a b : Ref sig .tc) (ha : ¬ a.isScoped) (hb : ¬ b.isScoped) (hab : b ≠ a)
  (Ra : Dev nD → sProp (Res nD τ sig Val))
  (hs : ∀ c : Dev nD, (((c.tc : Thread nD τ).loc a ↦{fullShare} m ((c.tc : Thread nD τ).loc a)) : sProp (Res nD τ sig Val)) ⊣⊢ iprop(bigSep Finset.univ (X.srcPts m c) ∗ Ra c))
  (Kd : (c : Dev nD) → Fin n → Finset (Idx ((c.tc : Thread nD τ).loc b))) (hKd : ∀ c i j, i ≠ j → Disjoint (Kd c i) (Kd c j))

/-- What is in none of the parts of `a`, when those sent are parts apart from each other, -/
def left (Ks : (c : Dev nD) → Fin n → Finset (Idx ((c.tc : Thread nD τ).loc a))) (c : Dev nD) : sProp (Res nD τ sig Val) :=
  (c.tc : Thread nD τ).loc a ↦[rest (Ks c)]{fullShare} m ((c.tc : Thread nD τ).loc a)

/-- is what sending them leaves of `a`. -/
theorem cut_sent (Ks : (c : Dev nD) → Fin n → Finset (Idx ((c.tc : Thread nD τ).loc a))) (hKs : ∀ c i j, i ≠ j → Disjoint (Ks c i) (Ks c j))
    (hs : ∀ c j, (X.srcPts m c j : sProp (Res nD τ sig Val)) = ((c.tc : Thread nD τ).loc a ↦[Ks c j]{fullShare} m ((c.tc : Thread nD τ).loc a))) (c : Dev nD) :
    (((c.tc : Thread nD τ).loc a ↦{fullShare} m ((c.tc : Thread nD τ).loc a)) : sProp (Res nD τ sig Val)) ⊣⊢ iprop(bigSep Finset.univ (X.srcPts m c) ∗ left m a Ks c) := by
  rw [bigSep_congr fun j _ => hs c j]
  exact cut (Ks c) (hKs c) _

/-- What a device's arrays hold besides what it sends of `a` and the parts of `b` its partners' land in. -/
def others (c : Dev nD) : sProp (Res nD τ sig Val) :=
  iprop(Ra c ∗ ((c.tc : Thread nD τ).loc b ↦[rest (Kd c)]{fullShare} m ((c.tc : Thread nD τ).loc b))
    ∗ beyond a b c fun r => m ((c.tc : Thread nD τ).loc r))

include ha hb hab hs hKd in
/-- A device's arrays at launch, cut into the parts. -/
theorem bufs_cut (hd : ∀ c j, (X.dstPts c j (m ((X.dst (X.peer j c) j).view.loc (c.tc : Thread nD τ))) : sProp (Res nD τ sig Val))
      = ((c.tc : Thread nD τ).loc b ↦[Kd c j]{fullShare} m ((c.tc : Thread nD τ).loc b))) (c : Dev nD) :
    (unscopedBufs c (fun r => m ((c.tc : Thread nD τ).loc r)) : sProp (Res nD τ sig Val))
      ⊢ iprop(bigSep Finset.univ (X.srcPts m c) ∗ bigSep Finset.univ (fun q => X.dstPts c q (m ((X.dst (X.peer q c) q).view.loc (c.tc : Thread nD τ)))) ∗ others m a b Ra Kd c) := by
  rw [bufs_two a b ha hb hab c, bigSep_congr fun j _ => hd c j]
  have h1 := (hs c).1
  have h2 := (cut (Kd c) (hKd c) (m ((c.tc : Thread nD τ).loc b))).1
  unfold others
  iintro ⟨Ha, Hv, Hb⟩
  ihave Ha := h1 $$ Ha
  icases Ha with ⟨Ha, Ha'⟩
  ihave Hv := h2 $$ Hv
  icases Hv with ⟨Hv, Hv'⟩
  isplitl [Ha]; · iexact Ha
  isplitl [Hv]; · iexact Hv
  isplitl [Ha']; · iexact Ha'
  isplitl [Hv'] <;> iassumption

/-- A device's arrays when the kernel is done: `a` as at launch, the parts of `b` at `fs`. -/
def Landed (fs : (c : Dev nD) → Fin n → Buf Val ((c.tc : Thread nD τ).loc b)) (c : Dev nD) (V : Valuation τ sig Val) : Prop :=
  V (Proc.devRef .tc a) = m ((c.tc : Thread nD τ).loc a) ∧ ∀ j, ∀ i ∈ Kd c j, V (Proc.devRef .tc b) i = fs c j i

include ha hb hab hs hKd in
/-- The parts at the end are arrays that say so. -/
theorem whole_end (fs : (c : Dev nD) → Fin n → Buf Val ((c.tc : Thread nD τ).loc b))
    (hl : ∀ c j, (X.dstPts c j (X.landed m c j) : sProp (Res nD τ sig Val)) = ((c.tc : Thread nD τ).loc b ↦[Kd c j]{fullShare} fs c j)) (c : Dev nD) :
    X.kept m (others m a b Ra Kd) c
      ⊢ (iprop(∃ V : Valuation τ sig Val, ⌜Landed m a b Kd fs c V⌝ ∗ unscopedBufs c (fun r => V r)) : sProp (Res nD τ sig Val)) := by
  have h1 := (hs c).2
  have h2 := join (Kd c) (hKd c) (fs c) (m ((c.tc : Thread nD τ).loc b))
  unfold Exchange.kept others
  rw [bigSep_congr fun j _ => hl c j]
  iintro ⟨Hd, Hs, Ha, Hv, Hb⟩
  ihave Ha := h1 $$ [Hs Ha]
  · isplitl [Hs] <;> iassumption
  ihave H := h2 $$ [Hd Hv]
  · isplitl [Hd] <;> iassumption
  icases H with ⟨%g, %hg, Hv⟩
  ihave H := (bufs_landed a b ha hb hab c m g) $$ [Ha Hv Hb]
  · isplitl [Ha]; · iexact Ha
    isplitl [Hv] <;> iassumption
  icases H with ⟨%V, %hV, H⟩
  iexists V
  isplitr
  · ipureintro
    exact ⟨hV.1, fun j i hi => (congrFun hV.2 i).trans (hg.1 j i hi)⟩
  iexact H

/-- A device's memory at the end: `a` as at launch, the parts of `b` at `fs`. -/
def Held (fs : (c : Dev nD) → Fin n → Buf Val ((c.tc : Thread nD τ).loc b)) (c : Dev nD) (s : MemSt nD τ sig Val) : Prop :=
  s.mem ((c.tc : Thread nD τ).loc a) = m ((c.tc : Thread nD τ).loc a) ∧ ∀ j, ∀ i ∈ Kd c j, s.mem ((c.tc : Thread nD τ).loc b) i = fs c j i

include hs hKd in
/-- The parts at the end say so. -/
theorem read_end (fs : (c : Dev nD) → Fin n → Buf Val ((c.tc : Thread nD τ).loc b))
    (hl : ∀ c j, (X.dstPts c j (X.landed m c j) : sProp (Res nD τ sig Val)) = ((c.tc : Thread nD τ).loc b ↦[Kd c j]{fullShare} fs c j)) (c : Dev nD)
    (s' : Phys nD τ sig Val) :
    iprop(X.kept m (others m a b Ra Kd) c ∗ SI s') ⊢ |={Set.univ}=> iprop(⌜Held m a b Kd fs c s'.mem⌝ ∗ SI s') := by
  have h1 := (hs c).2
  have h2 := read_parts (Kd c) (hKd c) (fs c) s'
  unfold Exchange.kept others
  rw [bigSep_congr fun j _ => hl c j]
  iintro ⟨⟨Hd, Hs, Ha, -⟩, HSI⟩
  ihave Ha := h1 $$ [Hs Ha]
  · isplitl [Hs] <;> iassumption
  icombine HSI Ha gives %ha
  ihave H := h2 $$ [Hd HSI]
  · isplitl [Hd] <;> iassumption
  icases H with ⟨%hv, HSI⟩
  imodintro
  isplitr
  · ipureintro
    exact ⟨Buf.eq_of_forall_mem_univ ha, hv⟩
  iexact HSI

end Arrays

/-- What holds of every operation of two lines. -/
theorem of_both {β : Type} {P : β → Prop} {l l' : List β} (h : l.Forall P) (h' : l'.Forall P) : ∀ ops ∈ [l, l'], ∀ op ∈ ops, P op := by
  intro ops ho
  rcases List.mem_cons.mp ho with rfl | ho
  · exact List.forall_iff_forall_mem.mp h
  · rw [List.mem_singleton.mp ho]; exact List.forall_iff_forall_mem.mp h'

/-- What holds of every operation of three lines. -/
theorem of_three {β : Type} {P : β → Prop} {l l' l'' : List β} (h : l.Forall P) (h' : l'.Forall P) (h'' : l''.Forall P) : ∀ ops ∈ [l, l', l''], ∀ op ∈ ops, P op := by
  intro ops ho
  rcases List.mem_cons.mp ho with rfl | ho
  · exact List.forall_iff_forall_mem.mp h
  · exact of_both h' h'' ops ho

section Slot

variable {α : Type} {s u : Shape}

/-- An array with a block written into it: inside the block it is the block, -/
theorem update_in (x : s.Idx → α) (upd : u.Idx → α) (k : Fin s.rank → ℕ) (h : s.Slices k u) (i : s.Idx) (y : u.Idx)
    (hy : ∀ b : Fin u.rank, (i (b.cast h.1)).val = k (b.cast h.1) + (y b).val) : updateSlice x upd k h i = upd y := by
  unfold updateSlice
  rw [dif_pos]
  · refine congrArg upd (funext fun b => Fin.ext ?_)
    show (i (b.cast h.1)).val - k (b.cast h.1) = (y b).val
    rw [hy b]; omega
  · intro a
    have e := hy (a.cast h.1.symm)
    have l := (y (a.cast h.1.symm)).isLt
    have e : (i a).val = k a + (y (a.cast h.1.symm)).val := e
    omega

/-- outside it, the array. -/
theorem update_out (x : s.Idx → α) (upd : u.Idx → α) (k : Fin s.rank → ℕ) (h : s.Slices k u) (i : s.Idx) (a : Fin s.rank)
    (ha : (i a).val < k a ∨ k a + u.size (a.cast h.1.symm) ≤ (i a).val) : updateSlice x upd k h i = x i := by
  unfold updateSlice
  exact dif_neg fun hin => by have := hin a; omega

end Slot

end Cert.Proof.Stack

end
-- ==== Proof.RsWInSibClaim.lean ====
/-
  The exchange of the input projection's weight gradients between the two cores of a chip. Core `c` sends its partner
  the half of its gradient the partner will sum (rows `1024 (1 - c)` on), in eight parts of 128 rows, all in flight
  together; each core ends holding its partner's half. The copies' proof is `Cert.Proof.Swap`'s; here the parts are
  named, the arrays are cut into them and put together again, and the landed parts are read against the reference.
-/
module

public import proofs.«01_k».proof.Defs
public import proofs.«01_k».proof.Proof.Stack
public import Idealize.ShloMosaic.Lib.ViewIndex
public import proofs.«01_k».proof.Proof.Gen.RsWInSib.Launch
public import proofs.«01_k».proof.Proof.Gen.RsWInSibIdeal.Launch
public import proofs.«01_k».proof.Proof.Gen.RsWInSibRefIdeal.Read

@[expose] public section

noncomputable section

namespace Cert.Proof.RsWInSib

open Cert.RsWInSib Cert.RsWInSib.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack

variable {F : FTy → Type} [FloatOps F]

/-- The other core. -/
def other (c : Dev nD) : Dev nD := Fin.rev c

/-- The rows of a part lie in the half. -/
theorem part_inb (j : Fin 8) : ∀ a, (![128 * j.val, 0] : Fin 2 → ℕ) a + S128x8448.size a ≤ S1024x8448.size a := by
  intro a
  have := j.isLt
  fin_cases a
  · show 128 * j.val + 128 ≤ 1024; omega
  · show 0 + 8448 ≤ 8448; omega

/-- The half a core sends, and its part `j`; -/
abbrev half (c : Dev nD) : Memref sig .tc .hbm S1024x8448 .f32 :=
  (Memref.whole main_arg0).slice (Rect.unit (s := S2048x8448) (k0_off1 c) S1024x8448.size (k0_off1_inb c)) (fun _ => rfl)
abbrev srcPart (c : Dev nD) (j : Fin 8) : Memref sig .tc .hbm S128x8448 .f32 :=
  (half c).slice (Rect.unit (s := S1024x8448) ![128 * j.val, 0] S128x8448.size (part_inb j)) (fun _ => rfl)

/-- the result as the half it receives, and its part `j`. -/
abbrev got : Memref sig .tc .hbm S1024x8448 .f32 :=
  ((Memref.whole main_v1).slice (Rect.unit (s := S1x1024x8448) ![0, 0, 0] S1x1024x8448.size inb_S1x1024x8448_S1x1024x8448_0_0_0) (fun _ => rfl)).squeeze S1024x8448 squeezes_S1x1024x8448_S1024x8448
abbrev dstPart (j : Fin 8) : Memref sig .tc .hbm S128x8448 .f32 :=
  got.slice (Rect.unit (s := S1024x8448) ![128 * j.val, 0] S128x8448.size (part_inb j)) (fun _ => rfl)

/-- The exchange: eight semaphores for the sends, the next eight for the receives. -/
def xch : Exchange nD sig 8 .hbm .hbm S128x8448 .f32 where
  peer _ := other
  peer_peer _ c := by revert c; decide
  sem x := ⟨(if x.1 then 8 else 0) + x.2.val, by have := x.2.isLt; show _ < 24; split <;> omega⟩
  sem_inj := by decide
  isScoped x := by revert x; decide
  src := srcPart
  dst _ := dstPart
  N := (dstPart 0).view.dmaCredit
  N_pos := View.dmaCredit_pos _ (by decide)
  hN _ j := rfl

/-- A slice at the offset of part `j` is part `j`. -/
theorem src_at (c : Dev nD) (j : Fin 8) {o : Fin 2 → ℕ} (ho : o = ![128 * j.val, 0]) (h : ∀ a, o a + S128x8448.size a ≤ S1024x8448.size a) :
    (half c).slice (Rect.unit (s := S1024x8448) o S128x8448.size h) (fun _ => rfl) = xch.src c j := by subst ho; rfl
theorem dst_at (c : Dev nD) (j : Fin 8) {o : Fin 2 → ℕ} (ho : o = ![128 * j.val, 0]) (h : ∀ a, o a + S128x8448.size a ≤ S1024x8448.size a) :
    got.slice (Rect.unit (s := S1024x8448) o S128x8448.size h) (fun _ => rfl) = xch.dst c j := by subst ho; rfl

variable (m : (ℓ : Loc nD τ sig) → Buf (Elt F) ℓ) (R : Dev nD → sProp (Res nD τ sig (Elt F)))

/-- The kernel's body: eight copies, eight waits for the partner's, eight for its own. -/
theorem body (c : Dev nD) : Body (nD := nD) (τ := τ) (Val := Elt F) (defs₀ (F := F)) Variants.none (xch.dealt m R) (xch.ended m R)
    (fun d => xch.owed τ d Finset.univ) c
    (cc0_rs_w_in_sib (F := F) (Memref.whole main_arg0) (Memref.isWhole_whole _) (Memref.whole main_v1) (Memref.isWhole_whole _) cc0_scratch0 cc0_scratch1 cc0_scratch2) := by
  intro W
  unfold cc0_rs_w_in_sib k0_part1 k0_part2 k0_part3 k0_part4 k0_part5 k0_part6 k0_part7 k0_part8 k0_part9
  simp only [Prog.lift, Prog.bind_op, Prog.bind_ret, Prog.pure_eq_ret, wp_deviceId]
  refine to_send xch m R fun κ => ?_
  iterate 8
    refine send_step xch m _ (by decide) (src_at c _ (by exact rfl) _) (dst_at c _ (by exact rfl) _) (by clear * -; revert c; decide +kernel) rfl rfl ?_
  refine to_receive xch m R ?_
  iterate 8 refine wait_step xch m _ _ (by decide) rfl rfl ?_
  refine to_drain xch m R ?_
  iterate 8 refine wait_step xch m _ _ (by decide) rfl rfl ?_
  exact to_end xch m R _

/-! ## The arrays in parts -/

/-- Rows of different parts are different. -/
theorem rows_disjoint (i j : Fin 8) (h : i ≠ j) :
    Disjoint (Rect.unit (s := S1024x8448) ![128 * i.val, 0] S128x8448.size (part_inb i)).set
      (Rect.unit (s := S1024x8448) ![128 * j.val, 0] S128x8448.size (part_inb j)).set := by
  refine Finset.disjoint_left.mpr fun x hx hx' => h (Fin.ext ?_)
  obtain ⟨k, hk, e⟩ := (LoadRect.mem_set _).mp hx 0
  obtain ⟨k', hk', e'⟩ := (LoadRect.mem_set _).mp hx' 0
  have hk : k < 128 := hk
  have hk' : k' < 128 := hk'
  have e : (x 0 : ℕ) = 128 * i.val + 1 * k := e
  have e' : (x 0 : ℕ) = 128 * j.val + 1 * k' := e'
  omega

theorem src_disjoint (c : Dev nD) (i j : Fin 8) (h : i ≠ j) : Disjoint (srcPart c i).view.set (srcPart c j).view.set :=
  View.disjoint_slice (rows_disjoint i j h)
theorem dst_disjoint (i j : Fin 8) (h : i ≠ j) : Disjoint (dstPart i).view.set (dstPart j).view.set :=
  View.disjoint_slice (rows_disjoint i j h)

/-- The elements of what a core sends that are part `q`, -/
abbrev sentAt (c : Dev nD) (q : Fin 8) : Finset (Idx ((c.tc : Thread nD τ).loc main_arg0)) := (srcPart c q).view.set
/-- those of its result its partner's part `q` lands in, -/
abbrev landAt (c : Dev nD) (q : Fin 8) : Finset (Idx ((c.tc : Thread nD τ).loc main_v1)) := (dstPart q).view.set
/-- and what it then holds there. -/
abbrev landing (c : Dev nD) (q : Fin 8) : Buf (Elt F) ((c.tc : Thread nD τ).loc main_v1) := xch.landed m c q

/-- What its arrays hold others. -/
abbrev extra : Dev nD → sProp (Res nD τ sig (Elt F)) := others m main_arg0 main_v1 (left m main_arg0 sentAt) landAt

/-- A core's memory at the end; -/
abbrev After (c : Dev nD) (s : MemSt nD τ sig (Elt F)) : Prop := Held m main_arg0 main_v1 landAt (landing m) c s

/-- its parts read as its partner's. -/
theorem read_landed (c : Dev nD) (s : MemSt nD τ sig (Elt F)) (h : After m c s) (q : Fin 8) (x : S128x8448.Idx) :
    (dstPart q).view.read (Elt F) (s.mem ((c.tc : Thread nD τ).loc main_v1)) x = (srcPart (other c) q).view.read (Elt F) (m (((other c).tc : Thread nD τ).loc main_arg0)) x :=
  congrFun (xch.read_landed m c q _ (h.2 q)) x

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_together pcfgs (fun p => (cfgs p).toPCfg_adm) cellOf_inj 0 defs₀ Variants.none
    (fun | 0 => inferInstanceAs (IsEmpty (Fin 0))) (inferInstanceAs (IsEmpty (Fin 0))) N_0 m g main (fun c => rfl)
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt src_disjoint fun _ _ => rfl)
      landAt (fun _ => dst_disjoint) fun _ _ => rfl))
    (ended_split xch m (extra m)) (After m)
    (read_end xch m main_arg0 main_v1 _ (cut_sent xch m main_arg0 sentAt src_disjoint fun _ _ => rfl)
      landAt (fun _ => dst_disjoint) (landing m) fun _ _ => rfl)
    (fun s h hs => ⟨h, sem_eq_zero_of_scoped (by decide) hs⟩)

/-- The exchange runs, leaves the gradients as they were and every counter at zero; -/
theorem frame : Cert.quiescent_RsWInSib := by
  intro m g _
  exact (θ_run defs _ _).mono (fun _ h => ⟨fun c => (h.1 c).1, h.2⟩) (run (F := Bits) m g)

/-- its reading over the extended reals too. -/
theorem frameIdeal : Cert.quiescent_RsWInSibIdeal := by
  intro m g _
  exact (θ_run (defs (F := Ideal)) _ _).mono (fun _ h => ⟨fun c => (h.1 c).1, h.2⟩) (run (F := Ideal) m g)

/-! ## What the reference computes -/

section Reference

open Cert.RsWInSibRefIdeal (S4096x8448 S2x1024x8448)
open Cert.RsWInSibRefIdeal.Gen (concatenates_S1x1024x8448_S1x1024x8448_S2x1024x8448_d0)
open Cert.RsWInSibRefIdeal.Read

/-- The reference at row `r` of core `c`'s result: core 0 gets row `r` of the first half of core 1's gradient, core 1 row
    `r` of the second half of core 0's. -/
theorem reference_at (X : (⟨S4096x8448, .f32⟩ : BufTy).Contents (Elt F)) (i : S2x1024x8448.Idx) (k : S4096x8448.Idx)
    (h0 : (k 0).val = 2048 - 1024 * (i 0).val + (i 1).val) (h1 : (k 1).val = (i 2).val) : val_main_v7 (F := F) X i = X k := by
  have b0 : (i 0).val < 2 := (i 0).isLt
  have b1 : (i 1).val < 1024 := (i 1).isLt
  have b2 : (i 2).val < 8448 := (i 2).isLt
  have hk : ∀ k' : S4096x8448.Idx, (k' 0).val = (k 0).val → (k' 1).val = (k 1).val → X k' = X k := fun k' e0 e1 =>
    congrArg X (funext fun a => Fin.ext (by match a with | ⟨0, _⟩ => exact e0 | ⟨1, _⟩ => exact e1))
  have hne : ∀ b : Fin 3, b ≠ 0 → b = 1 ∨ b = 2 := fun b hb => by omega
  let y : Cert.RsWInSibRefIdeal.S1x1024x8448.Idx := fun a => match a with
    | ⟨0, _⟩ => ⟨0, Nat.one_pos⟩
    | ⟨1, _⟩ => ⟨(i 1).val, b1⟩
    | ⟨2, _⟩ => ⟨(i 2).val, b2⟩
  unfold val_main_v7
  by_cases c : (i 0).val = 0
  · refine (concatenate_apply_piece (t := S2x1024x8448) 0 [⟨_, val_main_v5 (F := F) X⟩, ⟨_, val_main_v6 (F := F) X⟩] concatenates_S1x1024x8448_S1x1024x8448_S2x1024x8448_d0 i 0
      (by show 0 < 2; omega) _ (val_main_v5 (F := F) X) rfl rfl 0 rfl y (fun b hb => ?_) ?_).trans ?_
    · rcases hne b hb with rfl | rfl <;> rfl
    · show 0 + 0 = (i 0).val
      omega
    · rw [val_main_v5_apply, val_main_v2_apply, val_main_v1_apply, val_main_v0_apply]
      refine hk _ ?_ ?_
      · rw [h0]
        show ((((1 + 0) * 2 + 0) * 1024 + ((i 1).val * 8448 + (i 2).val) / 8448 % 1024) * 8448 + ((i 1).val * 8448 + (i 2).val) % 8448) / 8448 = _
        omega
      · rw [h1]
        show ((((1 + 0) * 2 + 0) * 1024 + ((i 1).val * 8448 + (i 2).val) / 8448 % 1024) * 8448 + ((i 1).val * 8448 + (i 2).val) % 8448) % 8448 = _
        omega
  · refine (concatenate_apply_piece (t := S2x1024x8448) 0 [⟨_, val_main_v5 (F := F) X⟩, ⟨_, val_main_v6 (F := F) X⟩] concatenates_S1x1024x8448_S1x1024x8448_S2x1024x8448_d0 i 1
      (by show 1 < 2; omega) _ (val_main_v6 (F := F) X) rfl rfl 1 rfl y (fun b hb => ?_) ?_).trans ?_
    · rcases hne b hb with rfl | rfl <;> rfl
    · show 1 + 0 = (i 0).val
      omega
    · rw [val_main_v6_apply, val_main_v4_apply, val_main_v3_apply, val_main_v0_apply]
      refine hk _ ?_ ?_
      · rw [h0]
        show ((((0 * 2 + (1 + 0)) * 1024 + ((i 1).val * 8448 + (i 2).val) / 8448 % 1024) * 8448 + ((i 1).val * 8448 + (i 2).val) % 8448) / 8448) = _
        omega
      · rw [h1]
        show ((((0 * 2 + (1 + 0)) * 1024 + ((i 1).val * 8448 + (i 2).val) / 8448 % 1024) * 8448 + ((i 1).val * 8448 + (i 2).val) % 8448) % 8448) = _
        omega

/-- Where an element of part `j` of a core's gradient lies, -/
theorem src_emb (c : Dev nD) (j : Fin 8) (x : S128x8448.Idx) :
    ((srcPart c j).view.emb x 0).val = 1024 - 1024 * c.val + (128 * j.val + (x 0).val) ∧ ((srcPart c j).view.emb x 1).val = (x 1).val := by
  have e : k0_off1 c = ![1024 - 1024 * c.val, 0] := k0_off1_eq c
  constructor
  · show k0_off1 c 0 + 1 * (128 * j.val + 1 * (x 0).val) = _
    rw [e]; show 1024 - 1024 * c.val + 1 * (128 * j.val + 1 * (x 0).val) = _
    omega
  · show k0_off1 c 1 + 1 * (0 + 1 * (x 1).val) = _
    rw [e]; show 0 + 1 * (0 + 1 * (x 1).val) = _
    omega

/-- and one of part `j` of its result. -/
theorem dst_emb (j : Fin 8) (x : S128x8448.Idx) (i : S1x1024x8448.Idx) (h1 : (i 1).val = 128 * j.val + (x 0).val) (h2 : (i 2).val = (x 1).val) :
    (dstPart j).view.emb x = i := by
  have b0 : (i 0).val < 1 := (i 0).isLt
  have r : Shape.reshapeEquiv squeezes_S1x1024x8448_S1024x8448.numel_eq ((Rect.unit (s := S1024x8448) ![128 * j.val, 0] S128x8448.size (part_inb j)).emb x) = i := by
    refine Shape.reshapeEquiv_eq_of_rowMajor _ ?_
    rw [Shape.rowMajor_val_three, Shape.rowMajor_val_two]
    show ((i 0).val * 1024 + (i 1).val) * 8448 + (i 2).val = (128 * j.val + 1 * (x 0).val) * 8448 + (0 + 1 * (x 1).val)
    omega
  show (Rect.unit (s := S1x1024x8448) ![0, 0, 0] S1x1024x8448.size inb_S1x1024x8448_S1x1024x8448_0_0_0).emb
    (Shape.reshapeEquiv squeezes_S1x1024x8448_S1024x8448.numel_eq ((Rect.unit (s := S1024x8448) ![128 * j.val, 0] S128x8448.size (part_inb j)).emb x)) = i
  rw [r]
  refine funext fun a => Fin.ext ?_
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

/-- Each core's result is its block of the reference's, when the cores' gradients are the blocks of the whole. -/
theorem result (X : (⟨S4096x8448, .f32⟩ : BufTy).Contents (Elt F))
    (hX : ∀ c : Dev nD, m ((c.tc : Thread nD τ).loc main_arg0) = Layout.block ⟨2, ![2048, 8448]⟩ ⟨2, ![4096, 8448]⟩ 0 2 c X)
    (c : Dev nD) (s : MemSt nD τ sig (Elt F)) (h : After m c s) :
    s.mem ((c.tc : Thread nD τ).loc main_v1) = Layout.block ⟨3, ![1, 1024, 8448]⟩ ⟨3, ![2, 1024, 8448]⟩ 0 2 c (val_main_v7 (F := F) X) := by
  refine funext fun (i : S1x1024x8448.Idx) => ?_
  have b0 : (i 0).val < 1 := (i 0).isLt
  have b1 : (i 1).val < 1024 := (i 1).isLt
  have b2 : (i 2).val < 8448 := (i 2).isLt
  let j : Fin 8 := ⟨(i 1).val / 128, by omega⟩
  let x : S128x8448.Idx := fun a => match a with
    | ⟨0, _⟩ => ⟨(i 1).val % 128, by show (i 1).val % 128 < 128; omega⟩
    | ⟨1, _⟩ => ⟨(i 2).val, b2⟩
  have hj : 128 * j.val + (x 0).val = (i 1).val := by show 128 * ((i 1).val / 128) + (i 1).val % 128 = (i 1).val; omega
  have hx : (x 1).val = (i 2).val := rfl
  have e := read_landed m c s h j x
  rw [View.read_apply, View.read_apply, dst_emb j x i hj.symm hx.symm, hX (other c)] at e
  refine (show s.mem ((c.tc : Thread nD τ).loc main_v1) i = _ from e).trans ?_
  obtain ⟨s0, s1⟩ := src_emb (other c) j x
  refine (reference_at X _ _ ?_ ?_).symm
  · have hc : c.val < 2 := c.isLt
    have ho : (other c).val = 1 - c.val := by show 2 - (c.val + 1) = 1 - c.val; omega
    show (other c).val * 2048 + ((srcPart (other c) j).view.emb x 0).val = 2048 - 1024 * (c.val * 1 + (i 0).val) + (i 1).val
    rw [s0, ho]
    omega
  · exact s1

end Reference

/-- Over the extended reals each core ends with its block of the reference's result. -/
theorem algebraic : Cert.algebraic_RsWInSibIdeal_RsWInSibRefIdeal := by
  intro m g m' g' _ hX
  refine ⟨Cert.RsWInSibRefIdeal.Read.val_main_v7 (F := Ideal) (m' (((0 : Dev Cert.RsWInSibRefIdeal.nD).tc : Thread Cert.RsWInSibRefIdeal.nD Cert.RsWInSibRefIdeal.τ).loc Cert.RsWInSibRefIdeal.main_arg0)), ?_, ?_⟩
  · exact (θ_run (defs (F := Ideal)) _ _).mono (fun r h c => ⟨result m _ hX c r.2 (h.1 c), (h.1 c).1⟩) (run (F := Ideal) m g)
  · refine (θ_run Cert.RsWInSibRefIdeal.defs _ _).mono (fun r h => ⟨(h 0).1.trans ?_, (h 0).2⟩) (Cert.RsWInSibRefIdeal.Value.run (F := Ideal) m' g')
    exact Cert.RsWInSibRefIdeal.Read.val_main_v7_eq _

end Cert.Proof.RsWInSib

end
-- ==== Proof.Blocks.lean ====
/-
  A device's `K` matrices sent one by one, and the array, one of them stacked, the partner's land in: the matrices as
  views of both, where each of their elements lies, and what the arrays of two devices exchanged so are, one after the
  other.
-/
module

public import proofs.«01_k».proof.Proof.Stack
public import Idealize.ShloMosaic.Lib.ViewIndex
public import Idealize.ShloMosaic.Lib.Pipeline.Value

@[expose] public section

noncomputable section

namespace Cert.Proof.Blocks

open Idealize.ShloMosaic

/-- `K` matrices, and `J` times as many. -/
abbrev Blk (K R C : ℕ) : Shape := ⟨3, ![K, R, C]⟩
abbrev Stk (J K R C : ℕ) : Shape := ⟨4, ![J, K, R, C]⟩

variable {sig : RefSig} {e : EltTy} {K R C : ℕ}

/-- Matrix `q` lies among them. -/
theorem block_inb (q : Fin K) : ∀ a, (![q.val, 0, 0] : Fin 3 → ℕ) a + (Blk 1 R C).size a ≤ (Blk K R C).size a := by
  intro a
  fin_cases a
  · exact q.isLt
  · exact le_of_eq (Nat.zero_add R)
  · exact le_of_eq (Nat.zero_add C)

theorem all_inb : ∀ a, (![0, 0, 0, 0] : Fin 4 → ℕ) a + (Stk 1 K R C).size a ≤ (Stk 1 K R C).size a := by
  intro a
  fin_cases a <;> exact le_of_eq (Nat.zero_add _)

/-- Where an element of matrix `q` lies, -/
def spot (q : Fin K) (x : (Blk 1 R C).Idx) : (Blk K R C).Idx := fun a => match a with
  | ⟨0, _⟩ => ⟨q.val, q.isLt⟩
  | ⟨1, _⟩ => ⟨(x 1).val, (x 1).isLt⟩
  | ⟨2, _⟩ => ⟨(x 2).val, (x 2).isLt⟩
/-- and in the array they land in. -/
def lift (y : (Blk K R C).Idx) : (Stk 1 K R C).Idx := fun a => match a with
  | ⟨0, _⟩ => ⟨0, Nat.one_pos⟩
  | ⟨1, _⟩ => ⟨(y 0).val, (y 0).isLt⟩
  | ⟨2, _⟩ => ⟨(y 1).val, (y 1).isLt⟩
  | ⟨3, _⟩ => ⟨(y 2).val, (y 2).isLt⟩

theorem rect_spot (q : Fin K) (x : (Blk 1 R C).Idx) :
    (Rect.unit (s := Blk K R C) ![q.val, 0, 0] (Blk 1 R C).size (block_inb q)).emb x = spot q x := by
  have b0 : (x 0).val < 1 := (x 0).isLt
  refine funext fun a => Fin.ext ?_
  match a with
  | ⟨0, _⟩ => show q.val + 1 * (x 0).val = q.val; omega
  | ⟨1, _⟩ => show 0 + 1 * (x 1).val = (x 1).val; omega
  | ⟨2, _⟩ => show 0 + 1 * (x 2).val = (x 2).val; omega

theorem unstack (h : (Blk K R C).numel = (Stk 1 K R C).numel) (y : (Blk K R C).Idx) : Shape.reshapeEquiv h y = lift y := by
  refine Shape.reshapeEquiv_eq_of_rowMajor _ ?_
  rw [Shape.rowMajor_val_four, Shape.rowMajor_val_three]
  show ((0 * K + (y 0).val) * R + (y 1).val) * C + (y 2).val = ((y 0).val * R + (y 1).val) * C + (y 2).val
  rw [Nat.zero_mul, Nat.zero_add]

section Views

variable (A : Memref sig .tc .hbm (Blk K R C) e) (B : Memref sig .tc .hbm (Stk 1 K R C) e) (hs : (Stk 1 K R C).Squeezes (Blk K R C))

/-- Matrix `q` of what is sent, -/
abbrev sent (q : Fin K) : Memref sig .tc .hbm (Blk 1 R C) e :=
  A.slice (Rect.unit (s := Blk K R C) ![q.val, 0, 0] (Blk 1 R C).size (block_inb q)) (fun _ => rfl)
/-- the array landed in as `K` matrices, and matrix `q` of them. -/
abbrev got : Memref sig .tc .hbm (Blk K R C) e :=
  (B.slice (Rect.unit (s := Stk 1 K R C) ![0, 0, 0, 0] (Stk 1 K R C).size all_inb) (fun _ => rfl)).squeeze (Blk K R C) hs
abbrev landed (q : Fin K) : Memref sig .tc .hbm (Blk 1 R C) e := sent (got B hs) q

/-- A slice at the offset of matrix `q` is matrix `q`. -/
theorem sent_at (q : Fin K) {o : Fin 3 → ℕ} (ho : o = ![q.val, 0, 0]) (h : ∀ a, o a + (Blk 1 R C).size a ≤ (Blk K R C).size a) :
    A.slice (Rect.unit (s := Blk K R C) o (Blk 1 R C).size h) (fun _ => rfl) = sent A q := by subst ho; rfl

theorem sent_emb (q : Fin K) (x : (Blk 1 R C).Idx) : (sent A q).view.emb x = A.view.emb (spot q x) := congrArg A.view.emb (rect_spot q x)

theorem landed_emb (q : Fin K) (x : (Blk 1 R C).Idx) : (landed B hs q).view.emb x = B.view.emb (lift (spot q x)) := by
  refine congrArg B.view.emb (?_ : (Rect.unit (s := Stk 1 K R C) ![0, 0, 0, 0] (Stk 1 K R C).size all_inb).emb
    (Shape.reshapeEquiv hs.numel_eq ((Rect.unit (s := Blk K R C) ![q.val, 0, 0] (Blk 1 R C).size (block_inb q)).emb x)) = _)
  rw [rect_spot, unstack]
  refine funext fun a => Fin.ext ?_
  match a with
  | ⟨0, _⟩ => exact Nat.zero_add _ |>.trans (Nat.one_mul _)
  | ⟨1, _⟩ => exact Nat.zero_add _ |>.trans (Nat.one_mul _)
  | ⟨2, _⟩ => exact Nat.zero_add _ |>.trans (Nat.one_mul _)
  | ⟨3, _⟩ => exact Nat.zero_add _ |>.trans (Nat.one_mul _)

/-- Different matrices have no element in common. -/
theorem sent_disjoint (p q : Fin K) (h : p ≠ q) : Disjoint (sent A p).view.set (sent A q).view.set := by
  refine Finset.disjoint_left.mpr fun i hi hi' => h ?_
  obtain ⟨x, -, ex⟩ := Finset.mem_map.mp hi
  obtain ⟨y, -, ey⟩ := Finset.mem_map.mp hi'
  have e := A.view.emb.injective ((sent_emb A p x).symm.trans ((ex.trans ey.symm).trans (sent_emb A q y)))
  exact Fin.ext (congrArg Fin.val (congrFun e 0))

end Views

section Swapped

variable {α : Type} {N : ℕ} (X : (Blk N R C).Idx → α)

/-- The second `K` matrices of a whole, then the first `K`: array `s` of them holds, at `q`, the whole's matrix
    `K - K s + q`. -/
theorem swapped_at (U V : (Stk 1 K R C).Idx → α) (h : Shape.Concatenates [Stk 1 K R C, Stk 1 K R C] (Stk 2 K R C) 0)
    (hU : ∀ y, ∃ k, U y = X k ∧ (k 0).val = K + (y 1).val ∧ (k 1).val = (y 2).val ∧ (k 2).val = (y 3).val)
    (hV : ∀ y, ∃ k, V y = X k ∧ (k 0).val = (y 1).val ∧ (k 1).val = (y 2).val ∧ (k 2).val = (y 3).val)
    (i : (Stk 2 K R C).Idx) (k : (Blk N R C).Idx) (h0 : (k 0).val = K - K * (i 0).val + (i 1).val) (h1 : (k 1).val = (i 2).val) (h2 : (k 2).val = (i 3).val) :
    concatenate (Stk 2 K R C) 0 [⟨Stk 1 K R C, U⟩, ⟨Stk 1 K R C, V⟩] h i = X k := by
  have b0 : (i 0).val < 2 := (i 0).isLt
  have hk : ∀ k' : (Blk N R C).Idx, (k' 0).val = (k 0).val → (k' 1).val = (k 1).val → (k' 2).val = (k 2).val → X k' = X k := fun k' e0 e1 e2 =>
    congrArg X (funext fun a => Fin.ext (by match a with | ⟨0, _⟩ => exact e0 | ⟨1, _⟩ => exact e1 | ⟨2, _⟩ => exact e2))
  have hne : ∀ b : Fin 4, b ≠ 0 → b = 1 ∨ b = 2 ∨ b = 3 := fun b hb => by omega
  let y : (Stk 1 K R C).Idx := fun a => match a with
    | ⟨0, _⟩ => ⟨0, Nat.one_pos⟩
    | ⟨1, _⟩ => ⟨(i 1).val, (i 1).isLt⟩
    | ⟨2, _⟩ => ⟨(i 2).val, (i 2).isLt⟩
    | ⟨3, _⟩ => ⟨(i 3).val, (i 3).isLt⟩
  by_cases c : (i 0).val = 0
  · refine (concatenate_apply_piece (t := Stk 2 K R C) 0 [⟨_, U⟩, ⟨_, V⟩] h i 0 (by show 0 < 2; omega) _ U rfl rfl 0 rfl y (fun b hb => ?_) ?_).trans ?_
    · rcases hne b hb with rfl | rfl | rfl <;> rfl
    · show 0 + 0 = (i 0).val
      omega
    · obtain ⟨k', e, e0, e1, e2⟩ := hU y
      exact e.trans (hk k' (by rw [e0, h0, c]; rfl) (e1.trans h1.symm) (e2.trans h2.symm))
  · refine (concatenate_apply_piece (t := Stk 2 K R C) 0 [⟨_, U⟩, ⟨_, V⟩] h i 1 (by show 1 < 2; omega) _ V rfl rfl 1 rfl y (fun b hb => ?_) ?_).trans ?_
    · rcases hne b hb with rfl | rfl | rfl <;> rfl
    · show 1 + 0 = (i 0).val
      omega
    · obtain ⟨k', e, e0, e1, e2⟩ := hV y
      refine e.trans (hk k' ?_ (e1.trans h1.symm) (e2.trans h2.symm))
      rw [e0, h0, show (i 0).val = 1 by omega, Nat.mul_one, Nat.sub_self, Nat.zero_add]
      rfl

/-- What a device ends with is its array `W` of the two `Z` that `swapped_at` says, when the matrices it holds are the
    device's beside it and the devices' matrices are the halves of the whole. -/
theorem swapped (Z : (Stk 2 K R C).Idx → α)
    (hZ : ∀ i k, (k 0).val = K - K * (i 0).val + (i 1).val → (k 1).val = (i 2).val → (k 2).val = (i 3).val → Z i = X k)
    (block : Fin 2 → (Blk K R C).Idx → α)
    (hX : ∀ c y, ∃ k, block c y = X k ∧ (k 0).val = c.val * K + (y 0).val ∧ (k 1).val = (y 1).val ∧ (k 2).val = (y 2).val)
    (c : Fin 2) (V W : (Stk 1 K R C).Idx → α) (hV : ∀ q x, V (lift (spot q x)) = block c.rev (spot q x))
    (hW : ∀ i, ∃ j, W i = Z j ∧ (j 0).val = c.val * 1 + (i 0).val ∧ (j 1).val = (i 1).val ∧ (j 2).val = (i 2).val ∧ (j 3).val = (i 3).val) : V = W := by
  funext i
  have b0 : (i 0).val < 1 := (i 0).isLt
  have hc : c.val < 2 := c.isLt
  have hr : c.rev.val = 1 - c.val := by show 2 - (c.val + 1) = 1 - c.val; omega
  let q : Fin K := ⟨(i 1).val, (i 1).isLt⟩
  let x : (Blk 1 R C).Idx := fun a => match a with
    | ⟨0, _⟩ => ⟨0, Nat.one_pos⟩
    | ⟨1, _⟩ => ⟨(i 2).val, (i 2).isLt⟩
    | ⟨2, _⟩ => ⟨(i 3).val, (i 3).isLt⟩
  have ei : lift (spot q x) = i := by
    refine funext fun a => Fin.ext ?_
    match a with
    | ⟨0, _⟩ => show 0 = (i 0).val; omega
    | ⟨1, _⟩ => rfl
    | ⟨2, _⟩ => rfl
    | ⟨3, _⟩ => rfl
  obtain ⟨k, ek, k0, k1, k2⟩ := hX c.rev (spot q x)
  obtain ⟨j, ej, j0, j1, j2, j3⟩ := hW i
  have h := hV q x
  rw [ei, ek] at h
  rw [h, ej]
  refine (hZ j k ?_ (k1.trans j2.symm) (k2.trans j3.symm)).symm
  rw [k0, j0, j1, hr, show (i 0).val = 0 by omega]
  show (1 - c.val) * K + (i 1).val = K - K * (c.val * 1 + 0) + (i 1).val
  rcases (by omega : c.val = 0 ∨ c.val = 1) with h | h <;> rw [h] <;> simp

end Swapped

end Cert.Proof.Blocks

end
-- ==== Proof.RsWOutSibClaim.lean ====
/-
  The exchange of the output projection's weight gradients between the two cores of a chip. Each core has laid out, one
  block of 256 rows for each of the four chips, the half of its gradient its partner will sum; it sends the four blocks
  to its partner, all in flight together, and ends holding its partner's. The copies' proof is `Cert.Proof.Swap`'s, the blocks' `Cert.Proof.Blocks`'s.
-/
module

public import proofs.«01_k».proof.Defs
public import proofs.«01_k».proof.Proof.Blocks
public import proofs.«01_k».proof.Proof.Gen.RsWOutSib.Launch
public import proofs.«01_k».proof.Proof.Gen.RsWOutSibIdeal.Launch
public import proofs.«01_k».proof.Proof.Gen.RsWOutSibRefIdeal.Read

@[expose] public section

noncomputable section

namespace Cert.Proof.RsWOutSib

open Cert.RsWOutSib Cert.RsWOutSib.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack
open Cert.Proof.Blocks (Blk Stk sent_at)

variable {F : FTy → Type} [FloatOps F]

/-- The core beside a core. -/
def beside (c : Dev nD) : Dev nD := Fin.rev c

/-- Block `q` of what a core sends, -/
abbrev sentBlock (q : Fin 4) : Memref sig .tc .hbm S1x256x2048 .f32 := Blocks.sent (Memref.whole main_arg0) q
/-- and of the four it receives. -/
abbrev landedBlock (q : Fin 4) : Memref sig .tc .hbm S1x256x2048 .f32 :=
  Blocks.landed (Memref.whole main_v1) squeezes_S1x4x256x2048_S4x256x2048 q

/-- The exchange: four semaphores for the sends, the next four for the receives. -/
def xch : Exchange nD sig 4 .hbm .hbm S1x256x2048 .f32 where
  peer _ := beside
  peer_peer _ c := by revert c; decide
  sem x := ⟨(if x.1 then 4 else 0) + x.2.val, by have := x.2.isLt; show _ < 12; split <;> omega⟩
  sem_inj := by decide
  isScoped x := by revert x; decide
  src _ := sentBlock
  dst _ := landedBlock
  N := (landedBlock 0).view.dmaCredit
  N_pos := View.dmaCredit_pos _ (by decide)
  hN _ _ := rfl

variable (m : (ℓ : Loc nD τ sig) → Buf (Elt F) ℓ) (R : Dev nD → sProp (Res nD τ sig (Elt F)))

/-- The kernel's body: four copies, four waits for the partner's, four for its own. -/
theorem body (c : Dev nD) : Body (nD := nD) (τ := τ) (Val := Elt F) (defs₀ (F := F)) Variants.none (xch.dealt m R) (xch.ended m R)
    (fun d => xch.owed τ d Finset.univ) c
    (cc0_rs_w_out_sib (F := F) (Memref.whole main_arg0) (Memref.isWhole_whole _) (Memref.whole main_v1) (Memref.isWhole_whole _) cc0_scratch0 cc0_scratch1 cc0_scratch2) := by
  intro W
  unfold cc0_rs_w_out_sib k0_part1 k0_part2 k0_part3 k0_part4 k0_part5
  simp only [Prog.lift, Prog.bind_op, Prog.bind_ret, Prog.pure_eq_ret, wp_deviceId]
  refine to_send xch m R fun κ => ?_
  iterate 4
    refine send_step xch m _ (by decide) (sent_at _ _ (by exact rfl) _) (sent_at _ _ (by exact rfl) _) (by clear * -; revert c; decide +kernel) rfl rfl ?_
  refine to_receive xch m R ?_
  iterate 4 refine wait_step xch m _ _ (by decide) rfl rfl ?_
  refine to_drain xch m R ?_
  iterate 4 refine wait_step xch m _ _ (by decide) rfl rfl ?_
  exact to_end xch m R _

/-! ## The arrays in blocks -/

/-- The elements of what a core sends that are block `q`, -/
abbrev sentAt (c : Dev nD) (q : Fin 4) : Finset (Idx ((c.tc : Thread nD τ).loc main_arg0)) := (sentBlock q).view.set
/-- those of its result its partner's block `q` lands in, -/
abbrev landAt (c : Dev nD) (q : Fin 4) : Finset (Idx ((c.tc : Thread nD τ).loc main_v1)) := (landedBlock q).view.set
/-- and what it then holds there. -/
abbrev landing (c : Dev nD) (q : Fin 4) : Buf (Elt F) ((c.tc : Thread nD τ).loc main_v1) := xch.landed m c q

/-- What its arrays hold besides. -/
abbrev extra : Dev nD → sProp (Res nD τ sig (Elt F)) := others m main_arg0 main_v1 (left m main_arg0 sentAt) landAt

/-- A core's memory at the end; -/
abbrev After (c : Dev nD) (s : MemSt nD τ sig (Elt F)) : Prop := Held m main_arg0 main_v1 landAt (landing m) c s

/-- its blocks read as its partner's. -/
theorem read_landed (c : Dev nD) (s : MemSt nD τ sig (Elt F)) (h : After m c s) (q : Fin 4) (x : S1x256x2048.Idx) :
    (landedBlock q).view.read (Elt F) (s.mem ((c.tc : Thread nD τ).loc main_v1)) x = (sentBlock q).view.read (Elt F) (m (((beside c).tc : Thread nD τ).loc main_arg0)) x :=
  congrFun (xch.read_landed m c q _ (h.2 q)) x

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_together pcfgs (fun p => (cfgs p).toPCfg_adm) cellOf_inj 0 defs₀ Variants.none
    (fun | 0 => inferInstanceAs (IsEmpty (Fin 0))) (inferInstanceAs (IsEmpty (Fin 0))) N_0 m g main (fun c => rfl)
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt (fun _ => Blocks.sent_disjoint _) fun _ _ => rfl)
      landAt (fun _ => Blocks.sent_disjoint _) fun _ _ => rfl))
    (ended_split xch m (extra m)) (After m)
    (read_end xch m main_arg0 main_v1 _ (cut_sent xch m main_arg0 sentAt (fun _ => Blocks.sent_disjoint _) fun _ _ => rfl)
      landAt (fun _ => Blocks.sent_disjoint _) (landing m) fun _ _ => rfl)
    (fun s h hs => ⟨h, sem_eq_zero_of_scoped (by decide) hs⟩)

/-- The exchange runs, leaves what is sent as it was and every counter at zero; -/
theorem frame : Cert.quiescent_RsWOutSib := by
  intro m g _
  exact (θ_run defs _ _).mono (fun _ h => ⟨fun c => (h.1 c).1, h.2⟩) (run (F := Bits) m g)

/-- its reading over the extended reals too. -/
theorem frameIdeal : Cert.quiescent_RsWOutSibIdeal := by
  intro m g _
  exact (θ_run (defs (F := Ideal)) _ _).mono (fun _ h => ⟨fun c => (h.1 c).1, h.2⟩) (run (F := Ideal) m g)

/-! ## What the reference computes -/

section Reference

open Cert.RsWOutSibRefIdeal (S8x256x2048 S2x4x256x2048)
open Cert.RsWOutSibRefIdeal.Read

/-- The reference at core `c`'s block `q` is block `q` of the other core's four. -/
theorem reference_at (X : (⟨S8x256x2048, .f32⟩ : BufTy).Contents (Elt F)) (i : S2x4x256x2048.Idx) (k : S8x256x2048.Idx)
    (h0 : (k 0).val = 4 - 4 * (i 0).val + (i 1).val) (h1 : (k 1).val = (i 2).val) (h2 : (k 2).val = (i 3).val) : val_main_v4 (F := F) X i = X k := by
  unfold val_main_v4
  exact Blocks.swapped_at X _ _ _ (fun y => ⟨_, (val_main_v2_apply X y).trans (val_main_v0_apply X _), rfl, rfl, rfl⟩)
    (fun y => ⟨_, (val_main_v3_apply X y).trans (val_main_v1_apply X _), rfl, rfl, rfl⟩) i k h0 h1 h2

/-- Each core's result is its block of the reference's, when what the cores send are the blocks of the whole. -/
theorem result (X : (⟨S8x256x2048, .f32⟩ : BufTy).Contents (Elt F))
    (hX : ∀ c : Dev nD, m ((c.tc : Thread nD τ).loc main_arg0) = Layout.block ⟨3, ![4, 256, 2048]⟩ ⟨3, ![8, 256, 2048]⟩ 0 2 c X)
    (c : Dev nD) (s : MemSt nD τ sig (Elt F)) (h : After m c s) :
    s.mem ((c.tc : Thread nD τ).loc main_v1) = Layout.block ⟨4, ![1, 4, 256, 2048]⟩ ⟨4, ![2, 4, 256, 2048]⟩ 0 2 c (val_main_v4 (F := F) X) := by
  refine Blocks.swapped X _ (reference_at X) (fun c : Dev nD => m ((c.tc : Thread nD τ).loc main_arg0)) (fun c y => ⟨_, congrFun (hX c) y, rfl, rfl, rfl⟩)
    c _ _ (fun q x => ?_) (fun i => ⟨_, rfl, rfl, rfl, rfl, rfl⟩)
  have e := read_landed m c s h q x
  rw [View.read_apply, View.read_apply, Blocks.landed_emb, Blocks.sent_emb] at e
  exact e

end Reference

/-- Over the extended reals each core ends with its block of the reference's result. -/
theorem algebraic : Cert.algebraic_RsWOutSibIdeal_RsWOutSibRefIdeal := by
  intro m g m' g' _ hX
  refine ⟨Cert.RsWOutSibRefIdeal.Read.val_main_v4 (F := Ideal) (m' (((0 : Dev Cert.RsWOutSibRefIdeal.nD).tc : Thread Cert.RsWOutSibRefIdeal.nD Cert.RsWOutSibRefIdeal.τ).loc Cert.RsWOutSibRefIdeal.main_arg0)), ?_, ?_⟩
  · exact (θ_run (defs (F := Ideal)) _ _).mono (fun r h c => ⟨result m _ hX c r.2 (h.1 c), (h.1 c).1⟩) (run (F := Ideal) m g)
  · refine (θ_run Cert.RsWOutSibRefIdeal.defs _ _).mono (fun r h => ⟨(h 0).1.trans ?_, (h 0).2⟩) (Cert.RsWOutSibRefIdeal.Value.run (F := Ideal) m' g')
    exact Cert.RsWOutSibRefIdeal.Read.val_main_v4_eq _

end Cert.Proof.RsWOutSib

end
-- ==== Proof.StackRows.lean ====
/-
  Devices' matrices of `R` rows, stacked part by part: `n` parts of `P` rows each, as views of the matrix sent and of
  the array they land in, a slot for each device, where each of their elements lies, and what the array is once the device has
  written its own matrix into its own slot.
-/
module

public import proofs.«01_k».proof.Proof.Stack
public import Idealize.ShloMosaic.Lib.ViewIndex
public import Idealize.ShloMosaic.Lib.Pipeline.Value

@[expose] public section

noncomputable section

namespace Cert.Proof.StackRows

open Idealize.ShloMosaic
open Cert.Proof.Stack

/-- A matrix, `K` of them stacked, and a single one stacked. -/
abbrev Rows (R C : ℕ) : Shape := ⟨2, ![R, C]⟩
abbrev Slots (K R C : ℕ) : Shape := ⟨3, ![K, R, C]⟩
abbrev One (R C : ℕ) : Shape := ⟨3, ![1, R, C]⟩

variable {sig : RefSig} {e : EltTy} {n P R C K : ℕ} (hR : R = n * P)

include hR in
/-- A row of part `q` is one of the matrix's. -/
theorem row_lt (q : Fin n) {x : ℕ} (hx : x < P) : P * q.val + x < R := by
  have h : P * q.val + x < P * (q.val + 1) := by rw [Nat.mul_add, Nat.mul_one]; omega
  rw [hR, Nat.mul_comm n P]
  exact lt_of_lt_of_le h (Nat.mul_le_mul_left P q.isLt)

include hR in
theorem row_le (q : Fin n) : P * q.val + P ≤ R := by
  have h : P * q.val + P = P * (q.val + 1) := by rw [Nat.mul_add, Nat.mul_one]
  rw [hR, Nat.mul_comm n P, h]
  exact Nat.mul_le_mul_left P q.isLt

include hR in
/-- The rows of part `q` lie in the matrix, -/
theorem rows_inb (q : Fin n) : ∀ a, (![P * q.val, 0] : Fin 2 → ℕ) a + (Rows P C).size a ≤ (Rows R C).size a := by
  intro a
  fin_cases a
  · exact row_le hR q
  · exact le_of_eq (Nat.zero_add C)

include hR in
/-- device `c`'s of them in the stack, -/
theorem part_inb (c : Fin K) (q : Fin n) : ∀ a, (![c.val, P * q.val, 0] : Fin 3 → ℕ) a + (One P C).size a ≤ (Slots K R C).size a := by
  intro a
  fin_cases a
  · exact c.isLt
  · exact row_le hR q
  · exact le_of_eq (Nat.zero_add C)

/-- and its slot too. -/
theorem slot_fits (c : Fin K) : (Slots K R C).Slices (![c.val, 0, 0] : Fin 3 → ℕ) (One R C) := ⟨rfl, fun a => by
  fin_cases a
  · exact c.isLt
  · exact le_of_eq (Nat.zero_add R)
  · exact le_of_eq (Nat.zero_add C)⟩

section Views

variable (A : Memref sig .tc .hbm (Rows R C) e) (B : Memref sig .tc .hbm (Slots K R C) e) (hs : (One R C).Squeezes (Rows R C)) (hs' : (One P C).Squeezes (Rows P C))

/-- Part `q` of a matrix, -/
abbrev sentRows (q : Fin n) : Memref sig .tc .hbm (Rows P C) e :=
  A.slice (Rect.unit (s := Rows R C) ![P * q.val, 0] (Rows P C).size (rows_inb hR q)) (fun _ => rfl)
/-- device `c`'s slot of the stack, and part `q` of it, -/
abbrev slot (c : Fin K) : Memref sig .tc .hbm (Rows R C) e :=
  (B.slice (Rect.unit (s := Slots K R C) ![c.val, 0, 0] (One R C).size (slot_fits c).2) (fun _ => rfl)).squeeze (Rows R C) hs
abbrev slotRows (c : Fin K) (q : Fin n) : Memref sig .tc .hbm (Rows P C) e :=
  (slot B hs c).slice (Rect.unit (s := Rows R C) ![P * q.val, 0] (Rows P C).size (rows_inb hR q)) (fun _ => rfl)
/-- which is also a part of the stack at once. -/
abbrev stackRows (c : Fin K) (q : Fin n) : Memref sig .tc .hbm (Rows P C) e :=
  (B.slice (Rect.unit (s := Slots K R C) ![c.val, P * q.val, 0] (One P C).size (part_inb hR c q)) (fun _ => rfl)).squeeze (Rows P C) hs'

/-- Where an element of part `q` lies in the matrix, -/
def row (q : Fin n) (x : (Rows P C).Idx) : (Rows R C).Idx := fun a => match a with
  | ⟨0, _⟩ => ⟨P * q.val + (x 0).val, row_lt hR q (x 0).isLt⟩
  | ⟨1, _⟩ => ⟨(x 1).val, (x 1).isLt⟩
/-- where an element of the matrix lies in slot `c` of the stack, -/
def place (c : Fin K) (y : (Rows R C).Idx) : (Slots K R C).Idx := fun a => match a with
  | ⟨0, _⟩ => ⟨c.val, c.isLt⟩
  | ⟨1, _⟩ => ⟨(y 0).val, (y 0).isLt⟩
  | ⟨2, _⟩ => ⟨(y 1).val, (y 1).isLt⟩
/-- and so, of part `q`, in the stack. -/
abbrev spot (c : Fin K) (q : Fin n) (x : (Rows P C).Idx) : (Slots K R C).Idx := place c (row hR q x)

theorem rect_row (q : Fin n) (x : (Rows P C).Idx) :
    (Rect.unit (s := Rows R C) ![P * q.val, 0] (Rows P C).size (rows_inb hR q)).emb x = row hR q x := by
  refine funext fun a => Fin.ext ?_
  match a with
  | ⟨0, _⟩ => show P * q.val + 1 * (x 0).val = P * q.val + (x 0).val; omega
  | ⟨1, _⟩ => show 0 + 1 * (x 1).val = (x 1).val; omega

theorem sent_emb (q : Fin n) (x : (Rows P C).Idx) : (sentRows hR A q).view.emb x = A.view.emb (row hR q x) :=
  congrArg A.view.emb (rect_row hR q x)

/-- An element of a matrix, in the single one stacked. -/
def lift {R C : ℕ} (y : (Rows R C).Idx) : (One R C).Idx := fun a => match a with
  | ⟨0, _⟩ => ⟨0, Nat.one_pos⟩
  | ⟨1, _⟩ => ⟨(y 0).val, (y 0).isLt⟩
  | ⟨2, _⟩ => ⟨(y 1).val, (y 1).isLt⟩

theorem unstack {R C : ℕ} (h : (Rows R C).numel = (One R C).numel) (y : (Rows R C).Idx) : Shape.reshapeEquiv h y = lift y := by
  refine Shape.reshapeEquiv_eq_of_rowMajor _ ?_
  rw [Shape.rowMajor_val_three, Shape.rowMajor_val_two]
  show (0 * R + (y 0).val) * C + (y 1).val = (y 0).val * C + (y 1).val
  rw [Nat.zero_mul, Nat.zero_add]

theorem slot_emb (c : Fin K) (q : Fin n) (x : (Rows P C).Idx) : (slotRows hR B hs c q).view.emb x = B.view.emb (spot hR c q x) := by
  refine congrArg B.view.emb (?_ : (Rect.unit (s := Slots K R C) ![c.val, 0, 0] (One R C).size (slot_fits c).2).emb
    (Shape.reshapeEquiv hs.numel_eq ((Rect.unit (s := Rows R C) ![P * q.val, 0] (Rows P C).size (rows_inb hR q)).emb x)) = _)
  rw [rect_row hR, unstack]
  refine funext fun a => Fin.ext ?_
  match a with
  | ⟨0, _⟩ => show c.val + 1 * 0 = c.val; omega
  | ⟨1, _⟩ => show 0 + 1 * (P * q.val + (x 0).val) = P * q.val + (x 0).val; omega
  | ⟨2, _⟩ => show 0 + 1 * (x 1).val = (x 1).val; omega

theorem stack_emb (c : Fin K) (q : Fin n) (x : (Rows P C).Idx) : (stackRows hR B hs' c q).view.emb x = B.view.emb (spot hR c q x) := by
  refine congrArg B.view.emb (?_ : (Rect.unit (s := Slots K R C) ![c.val, P * q.val, 0] (One P C).size (part_inb hR c q)).emb
    (Shape.reshapeEquiv hs'.numel_eq x) = _)
  rw [unstack]
  refine funext fun a => Fin.ext ?_
  match a with
  | ⟨0, _⟩ => show c.val + 1 * 0 = c.val; omega
  | ⟨1, _⟩ => show P * q.val + 1 * (x 0).val = P * q.val + (x 0).val; omega
  | ⟨2, _⟩ => show 0 + 1 * (x 1).val = (x 1).val; omega

/-- Rows of different parts are different. -/
theorem part_eq {p q : Fin n} {x y : ℕ} (hx : x < P) (hy : y < P) (h : P * p.val + x = P * q.val + y) : p = q := by
  have hP : 0 < P := by omega
  have e := congrArg (· / P) h
  simp only [Nat.mul_add_div hP, Nat.div_eq_of_lt hx, Nat.div_eq_of_lt hy, Nat.add_zero] at e
  exact Fin.ext e

theorem sent_disjoint (p q : Fin n) (h : p ≠ q) : Disjoint (sentRows hR A p).view.set (sentRows hR A q).view.set := by
  refine Finset.disjoint_left.mpr fun i hi hi' => h ?_
  obtain ⟨x, -, ex⟩ := Finset.mem_map.mp hi
  obtain ⟨y, -, ey⟩ := Finset.mem_map.mp hi'
  have e := A.view.emb.injective ((sent_emb hR A p x).symm.trans ((ex.trans ey.symm).trans (sent_emb hR A q y)))
  exact part_eq (x 0).isLt (y 0).isLt (congrArg Fin.val (congrFun e 0))

theorem slot_disjoint (c : Fin K) (p q : Fin n) (h : p ≠ q) : Disjoint (slotRows hR B hs c p).view.set (slotRows hR B hs c q).view.set := by
  refine Finset.disjoint_left.mpr fun i hi hi' => h ?_
  obtain ⟨x, -, ex⟩ := Finset.mem_map.mp hi
  obtain ⟨y, -, ey⟩ := Finset.mem_map.mp hi'
  have e := B.view.emb.injective ((slot_emb hR B hs c p x).symm.trans ((ex.trans ey.symm).trans (slot_emb hR B hs c q y)))
  exact part_eq (x 0).isLt (y 0).isLt (congrArg Fin.val (congrFun e 1))

/-- Parts of the stack in different slots, or different ones of a slot, are apart; -/
theorem stack_apart (c d : Fin K) (p q : Fin n) (h : c = d → p ≠ q) : Disjoint (stackRows hR B hs' c p).view.set (stackRows hR B hs' d q).view.set := by
  refine Finset.disjoint_left.mpr fun i hi hi' => ?_
  obtain ⟨x, -, ex⟩ := Finset.mem_map.mp hi
  obtain ⟨y, -, ey⟩ := Finset.mem_map.mp hi'
  have e := B.view.emb.injective ((stack_emb hR B hs' c p x).symm.trans ((ex.trans ey.symm).trans (stack_emb hR B hs' d q y)))
  exact h (Fin.ext (congrArg Fin.val (congrFun e 0))) (part_eq (x 0).isLt (y 0).isLt (congrArg Fin.val (congrFun e 1)))

theorem slot_apart (c d : Fin K) (p q : Fin n) (h : c = d → p ≠ q) : Disjoint (slotRows hR B hs c p).view.set (slotRows hR B hs d q).view.set := by
  refine Finset.disjoint_left.mpr fun i hi hi' => ?_
  obtain ⟨x, -, ex⟩ := Finset.mem_map.mp hi
  obtain ⟨y, -, ey⟩ := Finset.mem_map.mp hi'
  have e := B.view.emb.injective ((slot_emb hR B hs c p x).symm.trans ((ex.trans ey.symm).trans (slot_emb hR B hs d q y)))
  exact h (Fin.ext (congrArg Fin.val (congrFun e 0))) (part_eq (x 0).isLt (y 0).isLt (congrArg Fin.val (congrFun e 1)))

theorem stack_disjoint (c : Fin K) (p q : Fin n) (h : p ≠ q) : Disjoint (stackRows hR B hs' c p).view.set (stackRows hR B hs' c q).view.set :=
  stack_apart hR B hs' c c p q fun _ => h

/-- A slice at the offset of part `q` is part `q`. -/
theorem sent_at (q : Fin n) {o : Fin 2 → ℕ} (ho : o = ![P * q.val, 0]) (h : ∀ a, o a + (Rows P C).size a ≤ (Rows R C).size a) :
    A.slice (Rect.unit (s := Rows R C) o (Rows P C).size h) (fun _ => rfl) = sentRows hR A q := by subst ho; rfl
theorem slot_at (c : Fin K) (q : Fin n) {o : Fin 2 → ℕ} (ho : o = ![P * q.val, 0]) (h : ∀ a, o a + (Rows P C).size a ≤ (Rows R C).size a)
    {p : Fin 3 → ℕ} (hp : p = ![c.val, 0, 0]) (h' : ∀ a, p a + (One R C).size a ≤ (Slots K R C).size a) :
    ((B.slice (Rect.unit (s := Slots K R C) p (One R C).size h') (fun _ => rfl)).squeeze (Rows R C) hs).slice
      (Rect.unit (s := Rows R C) o (Rows P C).size h) (fun _ => rfl) = slotRows hR B hs c q := by subst ho; subst hp; rfl
theorem stack_at (c : Fin K) (q : Fin n) {o : Fin 3 → ℕ} (ho : o = ![c.val, P * q.val, 0]) (h : ∀ a, o a + (One P C).size a ≤ (Slots K R C).size a) :
    (B.slice (Rect.unit (s := Slots K R C) o (One P C).size h) (fun _ => rfl)).squeeze (Rows P C) hs' = stackRows hR B hs' c q := by subst ho; rfl

end Views

section Whole

variable {α : Type}

include hR in
/-- A stack with a block written into slot `c`: `Z`, when the block is `Z` there and the other slots' parts are. -/
theorem stacked_of (Z V : (Slots K R C).Idx → α) (U : (One R C).Idx → α) (c : Fin K) (hU : ∀ y, U (lift y) = Z (place c y))
    (hV : ∀ d, d ≠ c → ∀ (q : Fin n) x, V (spot hR d q x) = Z (spot hR d q x)) : updateSlice V U ![c.val, 0, 0] (slot_fits c) = Z := by
  funext i
  have b1 : (i 1).val < R := (i 1).isLt
  by_cases hi : (i 0).val = c.val
  · let y : (Rows R C).Idx := fun a => match a with
      | ⟨0, _⟩ => ⟨(i 1).val, (i 1).isLt⟩
      | ⟨1, _⟩ => ⟨(i 2).val, (i 2).isLt⟩
    rw [update_in _ _ _ _ i (lift y) fun b => by
        match b with
        | ⟨0, _⟩ => exact hi
        | ⟨1, _⟩ => exact (Nat.zero_add _).symm
        | ⟨2, _⟩ => exact (Nat.zero_add _).symm, hU]
    refine congrArg Z (funext fun a => Fin.ext ?_)
    match a with
    | ⟨0, _⟩ => exact hi.symm
    | ⟨1, _⟩ => rfl
    | ⟨2, _⟩ => rfl
  · rw [update_out _ _ _ _ i (0 : Fin 3) (by show (i 0).val < c.val ∨ c.val + 1 ≤ (i 0).val; omega)]
    have hP : 0 < P := Nat.pos_of_ne_zero fun h => by
      have : R = 0 := by rw [hR, h, Nat.mul_zero]
      omega
    let q : Fin n := ⟨(i 1).val / P, Nat.div_lt_of_lt_mul (lt_of_lt_of_eq b1 (hR.trans (Nat.mul_comm n P)))⟩
    let x : (Rows P C).Idx := fun a => match a with
      | ⟨0, _⟩ => ⟨(i 1).val % P, Nat.mod_lt _ hP⟩
      | ⟨1, _⟩ => ⟨(i 2).val, (i 2).isLt⟩
    have ei : spot hR (i 0) q x = i := by
      refine funext fun a => Fin.ext ?_
      match a with
      | ⟨0, _⟩ => rfl
      | ⟨1, _⟩ => exact Nat.div_add_mod _ _
      | ⟨2, _⟩ => rfl
    exact (congrArg V ei).symm.trans ((hV (i 0) (fun h => hi (congrArg Fin.val h)) q x).trans (congrArg Z ei))

/-- A matrix as a single one stacked, at an element. -/
theorem broadcast_lift (f : (Rows R C).Idx → α) (hb : (Rows R C).BroadcastsInDim (One R C) ![1, 2]) (y : (Rows R C).Idx) :
    broadcastInDim (One R C) ![1, 2] hb f (lift y) = f y := by
  refine broadcastInDim_apply _ _ _ _ y fun a => ?_
  match a with
  | ⟨0, _⟩ =>
    have : (y 0).val < R := (y 0).isLt
    show (y 0).val = if R = 1 then 0 else (y 0).val
    split <;> omega
  | ⟨1, _⟩ =>
    have : (y 1).val < C := (y 1).isLt
    show (y 1).val = if C = 1 then 0 else (y 1).val
    split <;> omega

variable {R' : ℕ} (X : (Rows R' C).Idx → α) (Z : (Slots 2 R C).Idx → α)

include hR in
/-- The stack `Z` of the two blocks of a matrix `X` of twice the rows: it is what the stacked array is, its slot of the
    device beside holding that one's parts, once the device's own block is written into its own. -/
theorem stacked (hZ : ∀ i k, (k 0).val = (i 0).val * R + (i 1).val → (k 1).val = (i 2).val → Z i = X k) (block : Fin 2 → (Rows R C).Idx → α)
    (hX : ∀ c y, ∃ k, block c y = X k ∧ (k 0).val = c.val * R + (y 0).val ∧ (k 1).val = (y 1).val) (c : Fin 2) (V : (Slots 2 R C).Idx → α)
    (hV : ∀ (q : Fin n) x, V (spot hR c.rev q x) = block c.rev (row hR q x)) (hb : (Rows R C).BroadcastsInDim (One R C) ![1, 2]) :
    updateSlice V (broadcastInDim (One R C) ![1, 2] hb (block c)) ![c.val, 0, 0] (slot_fits c) = Z := by
  refine stacked_of hR Z V _ c (fun y => ?_) fun d hd q x => ?_
  · obtain ⟨k, e, k0, k1⟩ := hX c y
    rw [broadcast_lift, e]
    exact (hZ _ k k0 k1).symm
  · have ed : d = c.rev := Fin.ext (by
      have := Fin.val_ne_of_ne hd
      show d.val = 2 - (c.val + 1)
      omega)
    subst ed
    obtain ⟨k, e, k0, k1⟩ := hX c.rev (row hR q x)
    rw [hV q x, e]
    exact (hZ _ k k0 k1).symm

end Whole

end Cert.Proof.StackRows

end
-- ==== Proof.RsWInCoresClaim.lean ====
/-
  The exchange of the input projection's weight gradients' halves between the two cores of a chip, after the chips have
  summed theirs: each core sends its 1024 rows, in eight parts of 128 all in flight together, into its own slot of its
  partner's array of two slots; host operations then write the core's own rows into its own slot, so that both cores end
  with the whole. The copies' proof is `Cert.Proof.Swap`'s, the stacking's `Cert.Proof.Stack`'s and `Cert.Proof.StackRows`'s.
-/
module

public import proofs.«01_k».proof.Defs
public import proofs.«01_k».proof.Proof.StackRows
public import Idealize.ShloMosaic.Lib.WordCmp
public import Idealize.ShloMosaic.Lib.StableHlo.RunRead
public import proofs.«01_k».proof.Proof.Gen.RsWInCores.Launch
public import proofs.«01_k».proof.Proof.Gen.RsWInCoresIdeal.Launch
public import proofs.«01_k».proof.Proof.Gen.RsWInCoresRefIdeal.Read

@[expose] public section

noncomputable section

namespace Cert.Proof.RsWInCores

open Cert.RsWInCores Cert.RsWInCores.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack
open Cert.Proof.StackRows (sent_at slot_at slot_fits)

variable {F : FTy → Type} [FloatOps F]

/-- The core beside a core. -/
def beside (c : Dev nD) : Dev nD := Fin.rev c

/-- The 1024 rows are eight times 128. -/
theorem parts : 1024 = 8 * 128 := rfl

/-- Part `q` of what a core sends, -/
abbrev sentRows (q : Fin 8) : Memref sig .tc .hbm S128x2084 .f32 := StackRows.sentRows parts (Memref.whole main_arg0) q
/-- and of core `c`'s slot of the stacked array. -/
abbrev slotRows (c : Dev nD) (q : Fin 8) : Memref sig .tc .hbm S128x2084 .f32 :=
  StackRows.slotRows parts (Memref.whole main_v1) squeezes_S1x1024x2084_S1024x2084 c q

/-- The exchange: eight semaphores for the sends, the next eight for the receives. -/
def xch : Exchange nD sig 8 .hbm .hbm S128x2084 .f32 where
  peer _ := beside
  peer_peer _ c := by revert c; decide
  sem x := ⟨(if x.1 then 8 else 0) + x.2.val, by have := x.2.isLt; show _ < 24; split <;> omega⟩
  sem_inj := by decide
  isScoped x := by revert x; decide
  src _ := sentRows
  dst := slotRows
  N := (slotRows 0 0).view.dmaCredit
  N_pos := View.dmaCredit_pos _ (by decide)
  hN _ _ := rfl

variable (m : (ℓ : Loc nD τ sig) → Buf (Elt F) ℓ) (R : Dev nD → sProp (Res nD τ sig (Elt F)))

/-- The kernel's body: eight copies, eight waits for the partner's, eight for its own. -/
theorem body (c : Dev nD) : Body (nD := nD) (τ := τ) (Val := Elt F) (defs₀ (F := F)) Variants.none (xch.dealt m R) (xch.ended m R)
    (fun d => xch.owed τ d Finset.univ) c
    (cc0_rs_w_in_cores (F := F) (Memref.whole main_arg0) (Memref.isWhole_whole _) (Memref.whole main_v1) (Memref.isWhole_whole _) cc0_scratch0 cc0_scratch1 cc0_scratch2) := by
  intro W
  unfold cc0_rs_w_in_cores k0_part1 k0_part2 k0_part3 k0_part4 k0_part5 k0_part6 k0_part7 k0_part8
  simp only [Prog.lift, Prog.bind_op, Prog.bind_ret, Prog.pure_eq_ret, wp_deviceId]
  refine to_send xch m R fun κ => ?_
  iterate 8
    refine send_step xch m _ (by decide) (sent_at parts _ _ (by exact rfl) _) (slot_at parts _ _ _ _ (by exact rfl) _ (k0_off1_eq c) _) (by clear * -; revert c; decide +kernel) rfl rfl ?_
  refine to_receive xch m R ?_
  iterate 8 refine wait_step xch m _ _ (by decide) rfl rfl ?_
  refine to_drain xch m R ?_
  iterate 8 refine wait_step xch m _ _ (by decide) rfl rfl ?_
  exact to_end xch m R _

/-! ## The arrays in parts -/

/-- The elements of what a core sends that are part `q`, -/
abbrev sentAt (c : Dev nD) (q : Fin 8) : Finset (Idx ((c.tc : Thread nD τ).loc main_arg0)) := (sentRows q).view.set
/-- those of its stacked array its partner's part `q` lands in, -/
abbrev landAt (c : Dev nD) (q : Fin 8) : Finset (Idx ((c.tc : Thread nD τ).loc main_v1)) := (slotRows (beside c) q).view.set
/-- and what the array then holds there. -/
abbrev landing (c : Dev nD) (q : Fin 8) : Buf (Elt F) ((c.tc : Thread nD τ).loc main_v1) := xch.landed m c q

/-- What its arrays hold besides. -/
abbrev extra : Dev nD → sProp (Res nD τ sig (Elt F)) := others m main_arg0 main_v1 (left m main_arg0 sentAt) landAt

/-- A core's arrays when the kernel is done; -/
abbrev Done (c : Dev nD) (V : Valuation τ sig (Elt F)) : Prop := Landed m main_arg0 main_v1 landAt (landing m) c V

/-- its partner's slot reads as its partner's rows. -/
theorem read_landed (c : Dev nD) (V : Valuation τ sig (Elt F)) (hV : Done m c V) (q : Fin 8) (x : S128x2084.Idx) :
    (slotRows (beside c) q).view.read (Elt F) (V (Proc.devRef .tc main_v1)) x = (sentRows q).view.read (Elt F) (m (((beside c).tc : Thread nD τ).loc main_arg0)) x :=
  congrFun (xch.read_landed m c q _ (hV.2 q)) x

/-! ## The host operations after the kernel -/

/-- The slot they write to, as they compute it from the device's number. -/
def ownIndex (c : Dev nD) : (⟨S_, .i32⟩ : BufTy).Contents (Elt F) :=
  id (Host.remui (Host.divui (constantI S_ 32 (Dev.word c)) (constantI S_ 32 1#32)) (constantI S_ 32 2#32))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v5) = ownIndex (F := F) c := by
  refine ⟨?_, ?_, ?_⟩ <;> after_reads_simp; rfl
theorem line2_arg (V : Valuation τ sig (Elt F)) :
    StableHlo.after (hostOps1_1 (F := F)) V (Proc.devRef .tc main_arg0) = V (Proc.devRef .tc main_arg0) := by
  after_reads_simp

set_option maxHeartbeats 2000000 in
/-- The stacked array with the core's own rows written into its own slot. -/
theorem line2_result (c : Dev nD) (V : Valuation τ sig (Elt F)) (h : V (Proc.devRef .tc main_v5) = ownIndex (F := F) c) :
    StableHlo.after (hostOps1_1 (F := F)) V (Proc.devRef .tc main_v6) =
      updateSlice (V (Proc.devRef .tc main_v1) : (⟨S2x1024x2084, .f32⟩ : BufTy).Contents (Elt F))
        (broadcastInDim S1x1024x2084 ![1, 2] bcast_S1024x2084_S1x1024x2084_1_2 (V (Proc.devRef .tc main_arg0) : (⟨S1024x2084, .f32⟩ : BufTy).Contents (Elt F)))
        ![c.val, 0, 0] (slot_fits c) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call0_v3) _) = _
    after_reads_simp
    simp only [StableHlo.TRef.ofBuf_toBuf]
    simp only [StableHlo.TRef.ofBuf, StableHlo.TRef.toBuf, cast_eq]
    rw [h]
    clear h
    match c with
    | 0 | 1 => rfl
  | 1 =>
    show BitVec.toInt (StableHlo.upto _ V 8 (Proc.devRef .tc main_call0_c_1) _) = _
    after_reads_simp
    rfl
  | 2 =>
    show BitVec.toInt (StableHlo.upto _ V 8 (Proc.devRef .tc main_call0_c_2) _) = _
    after_reads_simp
    rfl

/-- A core's memory at the end: what it sends as at launch, the result its own rows and its partner's stacked. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v6)
      = updateSlice (V (Proc.devRef .tc main_v1) : (⟨S2x1024x2084, .f32⟩ : BufTy).Contents (Elt F))
        (broadcastInDim S1x1024x2084 ![1, 2] bcast_S1024x2084_S1x1024x2084_1_2 (m ((c.tc : Thread nD τ).loc main_arg0) : (⟨S1024x2084, .f32⟩ : BufTy).Contents (Elt F)))
        ![c.val, 0, 0] (slot_fits c)

theorem after_of_ends (c : Dev nD) (s : MemSt nD τ sig (Elt F)) (h : Ends [hostOps1 (F := F) c, hostOps1_1] (Done m c) c s) : After m c s := by
  obtain ⟨V, hV, hs⟩ := h
  have e (b : Ref sig .tc) (hb : b.isScoped = false) : s.mem ((c.tc : Thread nD τ).loc b)
      = StableHlo.after (hostOps1_1 (F := F)) (StableHlo.after (hostOps1 (F := F) c) V) (Proc.devRef .tc b) := by
    rw [hs b hb, List.flatten_cons, List.flatten_cons, List.flatten_nil, List.append_nil, StableHlo.after_append]
  refine ⟨?_, V, hV, ?_⟩
  · rw [e main_arg0 rfl, line2_arg, (line1 c V).1, hV.1]
  · rw [e main_v6 rfl, line2_result c _ (line1 c V).2.2, (line1 c V).1, (line1 c V).2.1, hV.1]

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1]) (fun c => main_chain c)
    (fun c => of_both (hostOps1_sub (F := F) c) (hostOps1_1_sub (F := F)))
    (fun c => of_both (l := hostOps1 (F := F) c) (l' := hostOps1_1) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt (fun _ => StackRows.sent_disjoint parts _) fun _ _ => rfl)
      landAt (fun _ => StackRows.slot_disjoint parts _ _ _) fun _ _ => rfl))
    (ended_split xch m (extra m)) (Done m)
    (whole_end xch m main_arg0 main_v1 (by decide) (by decide) (by decide) _ (cut_sent xch m main_arg0 sentAt (fun _ => StackRows.sent_disjoint parts _) fun _ _ => rfl)
      landAt (fun _ => StackRows.slot_disjoint parts _ _ _) (landing m) fun _ _ => rfl)
    (fun s h hs => ⟨fun c => after_of_ends m c s (h c), sem_eq_zero_of_scoped (by decide) hs⟩)

/-- The exchange runs, leaves what is sent as it was and every counter at zero; -/
theorem frame : Cert.quiescent_RsWInCores := by
  intro m g _
  exact (θ_run defs _ _).mono (fun _ h => ⟨fun c => (h.1 c).1, h.2⟩) (run (F := Bits) m g)

/-- its reading over the extended reals too. -/
theorem frameIdeal : Cert.quiescent_RsWInCoresIdeal := by
  intro m g _
  exact (θ_run (defs (F := Ideal)) _ _).mono (fun _ h => ⟨fun c => (h.1 c).1, h.2⟩) (run (F := Ideal) m g)

/-! ## What the reference computes -/

section Reference

open Cert.RsWInCoresRefIdeal (S2048x2084)
open Cert.RsWInCoresRefIdeal.Read

/-- The reference's slot `s` is the rows `1024 s …` of the whole. -/
theorem reference_at (X : (⟨S2048x2084, .f32⟩ : BufTy).Contents (Elt F)) (i : S2x1024x2084.Idx) (k : S2048x2084.Idx)
    (h0 : (k 0).val = (i 0).val * 1024 + (i 1).val) (h1 : (k 1).val = (i 2).val) : val_main_v0 (F := F) X i = X k := by
  have b2 : (i 2).val < 2084 := (i 2).isLt
  rw [val_main_v0_apply]
  refine congrArg X (funext fun a => Fin.ext ?_)
  match a with
  | ⟨0, _⟩ => rw [show k ⟨0, _⟩ = k 0 from rfl, h0]; show (((i 0).val * 1024 + (i 1).val) * 2084 + (i 2).val) / 2084 = _; omega
  | ⟨1, _⟩ => rw [show k ⟨1, _⟩ = k 1 from rfl, h1]; show (((i 0).val * 1024 + (i 1).val) * 2084 + (i 2).val) % 2084 = _; omega

/-- Each core's result is the reference's, when what the cores send are the blocks of the whole. -/
theorem result (X : (⟨S2048x2084, .f32⟩ : BufTy).Contents (Elt F))
    (hX : ∀ c : Dev nD, m ((c.tc : Thread nD τ).loc main_arg0) = Layout.block ⟨2, ![1024, 2084]⟩ ⟨2, ![2048, 2084]⟩ 0 2 c X)
    (c : Dev nD) (s : MemSt nD τ sig (Elt F)) (h : After m c s) :
    s.mem ((c.tc : Thread nD τ).loc main_v6) = val_main_v0 (F := F) X := by
  obtain ⟨-, V, hV, h⟩ := h
  refine h.trans (StackRows.stacked parts X _ (reference_at X) (fun c : Dev nD => m ((c.tc : Thread nD τ).loc main_arg0)) (fun c y => ⟨_, congrFun (hX c) y, rfl, rfl⟩)
    c _ (fun q x => ?_) _)
  have e := read_landed m c V hV q x
  rw [View.read_apply, View.read_apply, StackRows.slot_emb, StackRows.sent_emb] at e
  exact e

end Reference

/-- Over the extended reals each core ends with the reference's result. -/
theorem algebraic : Cert.algebraic_RsWInCoresIdeal_RsWInCoresRefIdeal := by
  intro m g m' g' _ hX
  refine ⟨Cert.RsWInCoresRefIdeal.Read.val_main_v0 (F := Ideal) (m' (((0 : Dev Cert.RsWInCoresRefIdeal.nD).tc : Thread Cert.RsWInCoresRefIdeal.nD Cert.RsWInCoresRefIdeal.τ).loc Cert.RsWInCoresRefIdeal.main_arg0)), ?_, ?_⟩
  · exact (θ_run (defs (F := Ideal)) _ _).mono (fun r h c => ⟨result m _ hX c r.2 (h.1 c), (h.1 c).1⟩) (run (F := Ideal) m g)
  · refine (θ_run Cert.RsWInCoresRefIdeal.defs _ _).mono (fun r h => ⟨(h 0).1.trans ?_, (h 0).2⟩) (Cert.RsWInCoresRefIdeal.Value.run (F := Ideal) m' g')
    exact Cert.RsWInCoresRefIdeal.Read.val_main_v0_eq _

end Cert.Proof.RsWInCores

end
-- ==== Proof.RsSmallSibClaim.lean ====
/-
  The exchange of the small parameters' gradients between the two cores of a chip: packed in rows of 1024, a core's
  gradients are four blocks of 32 rows, one to be summed on each of the four chips. A core sends its four blocks to its
  partner, all in flight together, and ends holding its partner's. The copies' proof is `Cert.Proof.Swap`'s, the blocks'
  `Cert.Proof.Blocks`'s.
-/
module

public import proofs.«01_k».proof.Defs
public import proofs.«01_k».proof.Proof.Blocks
public import proofs.«01_k».proof.Proof.Gen.RsSmallSib.Launch
public import proofs.«01_k».proof.Proof.Gen.RsSmallSibIdeal.Launch
public import proofs.«01_k».proof.Proof.Gen.RsSmallSibRefIdeal.Read

@[expose] public section

noncomputable section

namespace Cert.Proof.RsSmallSib

open Cert.RsSmallSib Cert.RsSmallSib.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack
open Cert.Proof.Blocks (Blk Stk sent_at)

variable {F : FTy → Type} [FloatOps F]

/-- The core beside a core. -/
def beside (c : Dev nD) : Dev nD := Fin.rev c

/-- Block `q` of what a core sends, -/
abbrev sentBlock (q : Fin 4) : Memref sig .tc .hbm S1x32x1024 .f32 := Blocks.sent (Memref.whole main_arg0) q
/-- and of the four it receives. -/
abbrev landedBlock (q : Fin 4) : Memref sig .tc .hbm S1x32x1024 .f32 :=
  Blocks.landed (Memref.whole main_v1) squeezes_S1x4x32x1024_S4x32x1024 q

/-- The exchange: four semaphores for the sends, the next four for the receives. -/
def xch : Exchange nD sig 4 .hbm .hbm S1x32x1024 .f32 where
  peer _ := beside
  peer_peer _ c := by revert c; decide
  sem x := ⟨(if x.1 then 4 else 0) + x.2.val, by have := x.2.isLt; show _ < 12; split <;> omega⟩
  sem_inj := by decide
  isScoped x := by revert x; decide
  src _ := sentBlock
  dst _ := landedBlock
  N := (landedBlock 0).view.dmaCredit
  N_pos := View.dmaCredit_pos _ (by decide)
  hN _ _ := rfl

variable (m : (ℓ : Loc nD τ sig) → Buf (Elt F) ℓ) (R : Dev nD → sProp (Res nD τ sig (Elt F)))

/-- The kernel's body: four copies, four waits for the partner's, four for its own. -/
theorem body (c : Dev nD) : Body (nD := nD) (τ := τ) (Val := Elt F) (defs₀ (F := F)) Variants.none (xch.dealt m R) (xch.ended m R)
    (fun d => xch.owed τ d Finset.univ) c
    (cc0_rs_small_sib (F := F) (Memref.whole main_arg0) (Memref.isWhole_whole _) (Memref.whole main_v1) (Memref.isWhole_whole _) cc0_scratch0 cc0_scratch1 cc0_scratch2) := by
  intro W
  unfold cc0_rs_small_sib k0_part1 k0_part2 k0_part3 k0_part4 k0_part5
  simp only [Prog.lift, Prog.bind_op, Prog.bind_ret, Prog.pure_eq_ret, wp_deviceId]
  refine to_send xch m R fun κ => ?_
  iterate 4
    refine send_step xch m _ (by decide) (sent_at _ _ (by exact rfl) _) (sent_at _ _ (by exact rfl) _) (by clear * -; revert c; decide +kernel) rfl rfl ?_
  refine to_receive xch m R ?_
  iterate 4 refine wait_step xch m _ _ (by decide) rfl rfl ?_
  refine to_drain xch m R ?_
  iterate 4 refine wait_step xch m _ _ (by decide) rfl rfl ?_
  exact to_end xch m R _

/-! ## The arrays in blocks -/

/-- The elements of what a core sends that are block `q`, -/
abbrev sentAt (c : Dev nD) (q : Fin 4) : Finset (Idx ((c.tc : Thread nD τ).loc main_arg0)) := (sentBlock q).view.set
/-- those of its result its partner's block `q` lands in, -/
abbrev landAt (c : Dev nD) (q : Fin 4) : Finset (Idx ((c.tc : Thread nD τ).loc main_v1)) := (landedBlock q).view.set
/-- and what it then holds there. -/
abbrev landing (c : Dev nD) (q : Fin 4) : Buf (Elt F) ((c.tc : Thread nD τ).loc main_v1) := xch.landed m c q

/-- What its arrays hold besides. -/
abbrev extra : Dev nD → sProp (Res nD τ sig (Elt F)) := others m main_arg0 main_v1 (left m main_arg0 sentAt) landAt

/-- A core's memory at the end; -/
abbrev After (c : Dev nD) (s : MemSt nD τ sig (Elt F)) : Prop := Held m main_arg0 main_v1 landAt (landing m) c s

/-- its blocks read as its partner's. -/
theorem read_landed (c : Dev nD) (s : MemSt nD τ sig (Elt F)) (h : After m c s) (q : Fin 4) (x : S1x32x1024.Idx) :
    (landedBlock q).view.read (Elt F) (s.mem ((c.tc : Thread nD τ).loc main_v1)) x = (sentBlock q).view.read (Elt F) (m (((beside c).tc : Thread nD τ).loc main_arg0)) x :=
  congrFun (xch.read_landed m c q _ (h.2 q)) x

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_together pcfgs (fun p => (cfgs p).toPCfg_adm) cellOf_inj 0 defs₀ Variants.none
    (fun | 0 => inferInstanceAs (IsEmpty (Fin 0))) (inferInstanceAs (IsEmpty (Fin 0))) N_0 m g main (fun c => rfl)
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt (fun _ => Blocks.sent_disjoint _) fun _ _ => rfl)
      landAt (fun _ => Blocks.sent_disjoint _) fun _ _ => rfl))
    (ended_split xch m (extra m)) (After m)
    (read_end xch m main_arg0 main_v1 _ (cut_sent xch m main_arg0 sentAt (fun _ => Blocks.sent_disjoint _) fun _ _ => rfl)
      landAt (fun _ => Blocks.sent_disjoint _) (landing m) fun _ _ => rfl)
    (fun s h hs => ⟨h, sem_eq_zero_of_scoped (by decide) hs⟩)

/-- The exchange runs, leaves what is sent as it was and every counter at zero; -/
theorem frame : Cert.quiescent_RsSmallSib := by
  intro m g _
  exact (θ_run defs _ _).mono (fun _ h => ⟨fun c => (h.1 c).1, h.2⟩) (run (F := Bits) m g)

/-- its reading over the extended reals too. -/
theorem frameIdeal : Cert.quiescent_RsSmallSibIdeal := by
  intro m g _
  exact (θ_run (defs (F := Ideal)) _ _).mono (fun _ h => ⟨fun c => (h.1 c).1, h.2⟩) (run (F := Ideal) m g)

/-! ## What the reference computes -/

section Reference

open Cert.RsSmallSibRefIdeal (S8x32x1024 S2x4x32x1024)
open Cert.RsSmallSibRefIdeal.Read

/-- The reference at core `c`'s block `q` is block `q` of the other core's four. -/
theorem reference_at (X : (⟨S8x32x1024, .f32⟩ : BufTy).Contents (Elt F)) (i : S2x4x32x1024.Idx) (k : S8x32x1024.Idx)
    (h0 : (k 0).val = 4 - 4 * (i 0).val + (i 1).val) (h1 : (k 1).val = (i 2).val) (h2 : (k 2).val = (i 3).val) : val_main_v4 (F := F) X i = X k := by
  unfold val_main_v4
  exact Blocks.swapped_at X _ _ _ (fun y => ⟨_, (val_main_v2_apply X y).trans (val_main_v0_apply X _), rfl, rfl, rfl⟩)
    (fun y => ⟨_, (val_main_v3_apply X y).trans (val_main_v1_apply X _), rfl, rfl, rfl⟩) i k h0 h1 h2

/-- Each core's result is its block of the reference's, when what the cores send are the blocks of the whole. -/
theorem result (X : (⟨S8x32x1024, .f32⟩ : BufTy).Contents (Elt F))
    (hX : ∀ c : Dev nD, m ((c.tc : Thread nD τ).loc main_arg0) = Layout.block ⟨3, ![4, 32, 1024]⟩ ⟨3, ![8, 32, 1024]⟩ 0 2 c X)
    (c : Dev nD) (s : MemSt nD τ sig (Elt F)) (h : After m c s) :
    s.mem ((c.tc : Thread nD τ).loc main_v1) = Layout.block ⟨4, ![1, 4, 32, 1024]⟩ ⟨4, ![2, 4, 32, 1024]⟩ 0 2 c (val_main_v4 (F := F) X) := by
  refine Blocks.swapped X _ (reference_at X) (fun c : Dev nD => m ((c.tc : Thread nD τ).loc main_arg0)) (fun c y => ⟨_, congrFun (hX c) y, rfl, rfl, rfl⟩)
    c _ _ (fun q x => ?_) (fun i => ⟨_, rfl, rfl, rfl, rfl, rfl⟩)
  have e := read_landed m c s h q x
  rw [View.read_apply, View.read_apply, Blocks.landed_emb, Blocks.sent_emb] at e
  exact e

end Reference

/-- Over the extended reals each core ends with its block of the reference's result. -/
theorem algebraic : Cert.algebraic_RsSmallSibIdeal_RsSmallSibRefIdeal := by
  intro m g m' g' _ hX
  refine ⟨Cert.RsSmallSibRefIdeal.Read.val_main_v4 (F := Ideal) (m' (((0 : Dev Cert.RsSmallSibRefIdeal.nD).tc : Thread Cert.RsSmallSibRefIdeal.nD Cert.RsSmallSibRefIdeal.τ).loc Cert.RsSmallSibRefIdeal.main_arg0)), ?_, ?_⟩
  · exact (θ_run (defs (F := Ideal)) _ _).mono (fun r h c => ⟨result m _ hX c r.2 (h.1 c), (h.1 c).1⟩) (run (F := Ideal) m g)
  · refine (θ_run Cert.RsSmallSibRefIdeal.defs _ _).mono (fun r h => ⟨(h 0).1.trans ?_, (h 0).2⟩) (Cert.RsSmallSibRefIdeal.Value.run (F := Ideal) m' g')
    exact Cert.RsSmallSibRefIdeal.Read.val_main_v4_eq _

end Cert.Proof.RsSmallSib

end
-- ==== Proof.RsSmallCoresClaim.lean ====
/-
  The exchange of the small parameters' gradients between the two cores of a chip, after the chips have summed theirs:
  each core sends its 32 rows of 1024, in a single copy, into its own slot of its partner's array of two slots; host
  operations then write the core's own rows into its own slot, so that both cores end with both. The copy's proof is
  `Cert.Proof.Swap`'s, the stacking's `Cert.Proof.Stack`'s and `Cert.Proof.StackRows`'s, for the rows as one part.
-/
module

public import proofs.«01_k».proof.Defs
public import proofs.«01_k».proof.Proof.StackRows
public import Idealize.ShloMosaic.Lib.WordCmp
public import Idealize.ShloMosaic.Lib.StableHlo.RunRead
public import proofs.«01_k».proof.Proof.Gen.RsSmallCores.Launch
public import proofs.«01_k».proof.Proof.Gen.RsSmallCoresIdeal.Launch
public import proofs.«01_k».proof.Proof.Gen.RsSmallCoresRefIdeal.Read

@[expose] public section

noncomputable section

namespace Cert.Proof.RsSmallCores

open Cert.RsSmallCores Cert.RsSmallCores.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack
open Cert.Proof.StackRows (sent_at slot_at slot_fits)

variable {F : FTy → Type} [FloatOps F]

/-- The core beside a core. -/
def beside (c : Dev nD) : Dev nD := Fin.rev c

/-- The 32 rows are all of them. -/
theorem parts : 32 = 1 * 32 := rfl

/-- Part `q` of what a core sends, -/
abbrev sentRows (q : Fin 1) : Memref sig .tc .hbm S32x1024 .f32 := StackRows.sentRows parts (Memref.whole main_arg0) q
/-- and of core `c`'s slot of the stacked array. -/
abbrev slotRows (c : Dev nD) (q : Fin 1) : Memref sig .tc .hbm S32x1024 .f32 :=
  StackRows.slotRows parts (Memref.whole main_v1) squeezes_S1x32x1024_S32x1024 c q

/-- The exchange: a semaphore for the send, the next for the receive. -/
def xch : Exchange nD sig 1 .hbm .hbm S32x1024 .f32 where
  peer _ := beside
  peer_peer _ c := by revert c; decide
  sem x := ⟨(if x.1 then 1 else 0) + x.2.val, by have := x.2.isLt; show _ < 3; split <;> omega⟩
  sem_inj := by decide
  isScoped x := by revert x; decide
  src _ := sentRows
  dst := slotRows
  N := (slotRows 0 0).view.dmaCredit
  N_pos := View.dmaCredit_pos _ (by decide)
  hN _ _ := rfl

variable (m : (ℓ : Loc nD τ sig) → Buf (Elt F) ℓ) (R : Dev nD → sProp (Res nD τ sig (Elt F)))

/-- The kernel's body: a copy, a wait for the partner's, one for its own. -/
theorem body (c : Dev nD) : Body (nD := nD) (τ := τ) (Val := Elt F) (defs₀ (F := F)) Variants.none (xch.dealt m R) (xch.ended m R)
    (fun d => xch.owed τ d Finset.univ) c
    (cc0_rs_small_cores (F := F) (Memref.whole main_arg0) (Memref.isWhole_whole _) (Memref.whole main_v1) (Memref.isWhole_whole _) cc0_scratch0 cc0_scratch1 cc0_scratch2) := by
  intro W
  unfold cc0_rs_small_cores k0_part1
  simp only [Prog.lift, Prog.bind_op, Prog.bind_ret, Prog.pure_eq_ret, wp_deviceId]
  refine to_send xch m R fun κ => ?_
  refine send_step xch m _ (by decide) (sent_at parts _ _ (by exact rfl) _) (slot_at parts _ _ _ _ (by exact rfl) _ (k0_off1_eq c) _) (by clear * -; revert c; decide +kernel) rfl rfl ?_
  refine to_receive xch m R ?_
  refine wait_step xch m _ _ (by decide) rfl rfl ?_
  refine to_drain xch m R ?_
  refine wait_step xch m _ _ (by decide) rfl rfl ?_
  exact to_end xch m R _

/-! ## The arrays in parts -/

/-- The elements of what a core sends that are part `q`, -/
abbrev sentAt (c : Dev nD) (q : Fin 1) : Finset (Idx ((c.tc : Thread nD τ).loc main_arg0)) := (sentRows q).view.set
/-- those of its stacked array its partner's part `q` lands in, -/
abbrev landAt (c : Dev nD) (q : Fin 1) : Finset (Idx ((c.tc : Thread nD τ).loc main_v1)) := (slotRows (beside c) q).view.set
/-- and what the array then holds there. -/
abbrev landing (c : Dev nD) (q : Fin 1) : Buf (Elt F) ((c.tc : Thread nD τ).loc main_v1) := xch.landed m c q

/-- What its arrays hold besides. -/
abbrev extra : Dev nD → sProp (Res nD τ sig (Elt F)) := others m main_arg0 main_v1 (left m main_arg0 sentAt) landAt

/-- A core's arrays when the kernel is done; -/
abbrev Done (c : Dev nD) (V : Valuation τ sig (Elt F)) : Prop := Landed m main_arg0 main_v1 landAt (landing m) c V

/-- its partner's slot reads as its partner's rows. -/
theorem read_landed (c : Dev nD) (V : Valuation τ sig (Elt F)) (hV : Done m c V) (q : Fin 1) (x : S32x1024.Idx) :
    (slotRows (beside c) q).view.read (Elt F) (V (Proc.devRef .tc main_v1)) x = (sentRows q).view.read (Elt F) (m (((beside c).tc : Thread nD τ).loc main_arg0)) x :=
  congrFun (xch.read_landed m c q _ (hV.2 q)) x

/-! ## The host operations after the kernel -/

/-- The slot they write to, as they compute it from the device's number. -/
def ownIndex (c : Dev nD) : (⟨S_, .i32⟩ : BufTy).Contents (Elt F) :=
  id (Host.remui (Host.divui (constantI S_ 32 (Dev.word c)) (constantI S_ 32 1#32)) (constantI S_ 32 2#32))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v5) = ownIndex (F := F) c := by
  refine ⟨?_, ?_, ?_⟩ <;> after_reads_simp; rfl
theorem line2_arg (V : Valuation τ sig (Elt F)) :
    StableHlo.after (hostOps1_1 (F := F)) V (Proc.devRef .tc main_arg0) = V (Proc.devRef .tc main_arg0) := by
  after_reads_simp

set_option maxHeartbeats 2000000 in
/-- The stacked array with the core's own rows written into its own slot. -/
theorem line2_result (c : Dev nD) (V : Valuation τ sig (Elt F)) (h : V (Proc.devRef .tc main_v5) = ownIndex (F := F) c) :
    StableHlo.after (hostOps1_1 (F := F)) V (Proc.devRef .tc main_v6) =
      updateSlice (V (Proc.devRef .tc main_v1) : (⟨S2x32x1024, .f32⟩ : BufTy).Contents (Elt F))
        (broadcastInDim S1x32x1024 ![1, 2] bcast_S32x1024_S1x32x1024_1_2 (V (Proc.devRef .tc main_arg0) : (⟨S32x1024, .f32⟩ : BufTy).Contents (Elt F)))
        ![c.val, 0, 0] (slot_fits c) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call0_v3) _) = _
    after_reads_simp
    simp only [StableHlo.TRef.ofBuf_toBuf]
    simp only [StableHlo.TRef.ofBuf, StableHlo.TRef.toBuf, cast_eq]
    rw [h]
    clear h
    match c with
    | 0 | 1 => rfl
  | 1 =>
    show BitVec.toInt (StableHlo.upto _ V 8 (Proc.devRef .tc main_call0_c_1) _) = _
    after_reads_simp
    rfl
  | 2 =>
    show BitVec.toInt (StableHlo.upto _ V 8 (Proc.devRef .tc main_call0_c_2) _) = _
    after_reads_simp
    rfl

/-- A core's memory at the end: what it sends as at launch, the result its own rows and its partner's stacked. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v6)
      = updateSlice (V (Proc.devRef .tc main_v1) : (⟨S2x32x1024, .f32⟩ : BufTy).Contents (Elt F))
        (broadcastInDim S1x32x1024 ![1, 2] bcast_S32x1024_S1x32x1024_1_2 (m ((c.tc : Thread nD τ).loc main_arg0) : (⟨S32x1024, .f32⟩ : BufTy).Contents (Elt F)))
        ![c.val, 0, 0] (slot_fits c)

theorem after_of_ends (c : Dev nD) (s : MemSt nD τ sig (Elt F)) (h : Ends [hostOps1 (F := F) c, hostOps1_1] (Done m c) c s) : After m c s := by
  obtain ⟨V, hV, hs⟩ := h
  have e (b : Ref sig .tc) (hb : b.isScoped = false) : s.mem ((c.tc : Thread nD τ).loc b)
      = StableHlo.after (hostOps1_1 (F := F)) (StableHlo.after (hostOps1 (F := F) c) V) (Proc.devRef .tc b) := by
    rw [hs b hb, List.flatten_cons, List.flatten_cons, List.flatten_nil, List.append_nil, StableHlo.after_append]
  refine ⟨?_, V, hV, ?_⟩
  · rw [e main_arg0 rfl, line2_arg, (line1 c V).1, hV.1]
  · rw [e main_v6 rfl, line2_result c _ (line1 c V).2.2, (line1 c V).1, (line1 c V).2.1, hV.1]

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1]) (fun c => main_chain c)
    (fun c => of_both (hostOps1_sub (F := F) c) (hostOps1_1_sub (F := F)))
    (fun c => of_both (l := hostOps1 (F := F) c) (l' := hostOps1_1) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt (fun _ => StackRows.sent_disjoint parts _) fun _ _ => rfl)
      landAt (fun _ => StackRows.slot_disjoint parts _ _ _) fun _ _ => rfl))
    (ended_split xch m (extra m)) (Done m)
    (whole_end xch m main_arg0 main_v1 (by decide) (by decide) (by decide) _ (cut_sent xch m main_arg0 sentAt (fun _ => StackRows.sent_disjoint parts _) fun _ _ => rfl)
      landAt (fun _ => StackRows.slot_disjoint parts _ _ _) (landing m) fun _ _ => rfl)
    (fun s h hs => ⟨fun c => after_of_ends m c s (h c), sem_eq_zero_of_scoped (by decide) hs⟩)

/-- The exchange runs, leaves what is sent as it was and every counter at zero; -/
theorem frame : Cert.quiescent_RsSmallCores := by
  intro m g _
  exact (θ_run defs _ _).mono (fun _ h => ⟨fun c => (h.1 c).1, h.2⟩) (run (F := Bits) m g)

/-- its reading over the extended reals too. -/
theorem frameIdeal : Cert.quiescent_RsSmallCoresIdeal := by
  intro m g _
  exact (θ_run (defs (F := Ideal)) _ _).mono (fun _ h => ⟨fun c => (h.1 c).1, h.2⟩) (run (F := Ideal) m g)

/-! ## What the reference computes -/

section Reference

open Cert.RsSmallCoresRefIdeal (S64x1024)
open Cert.RsSmallCoresRefIdeal.Read

/-- The reference's slot `s` is the rows `32 s …` of the whole. -/
theorem reference_at (X : (⟨S64x1024, .f32⟩ : BufTy).Contents (Elt F)) (i : S2x32x1024.Idx) (k : S64x1024.Idx)
    (h0 : (k 0).val = (i 0).val * 32 + (i 1).val) (h1 : (k 1).val = (i 2).val) : val_main_v0 (F := F) X i = X k := by
  have b2 : (i 2).val < 1024 := (i 2).isLt
  rw [val_main_v0_apply]
  refine congrArg X (funext fun a => Fin.ext ?_)
  match a with
  | ⟨0, _⟩ => rw [show k ⟨0, _⟩ = k 0 from rfl, h0]; show (((i 0).val * 32 + (i 1).val) * 1024 + (i 2).val) / 1024 = _; omega
  | ⟨1, _⟩ => rw [show k ⟨1, _⟩ = k 1 from rfl, h1]; show (((i 0).val * 32 + (i 1).val) * 1024 + (i 2).val) % 1024 = _; omega

/-- Each core's result is the reference's, when what the cores send are the blocks of the whole. -/
theorem result (X : (⟨S64x1024, .f32⟩ : BufTy).Contents (Elt F))
    (hX : ∀ c : Dev nD, m ((c.tc : Thread nD τ).loc main_arg0) = Layout.block ⟨2, ![32, 1024]⟩ ⟨2, ![64, 1024]⟩ 0 2 c X)
    (c : Dev nD) (s : MemSt nD τ sig (Elt F)) (h : After m c s) :
    s.mem ((c.tc : Thread nD τ).loc main_v6) = val_main_v0 (F := F) X := by
  obtain ⟨-, V, hV, h⟩ := h
  refine h.trans (StackRows.stacked parts X _ (reference_at X) (fun c : Dev nD => m ((c.tc : Thread nD τ).loc main_arg0)) (fun c y => ⟨_, congrFun (hX c) y, rfl, rfl⟩)
    c _ (fun q x => ?_) _)
  have e := read_landed m c V hV q x
  rw [View.read_apply, View.read_apply, StackRows.slot_emb, StackRows.sent_emb] at e
  exact e

end Reference

/-- Over the extended reals each core ends with the reference's result. -/
theorem algebraic : Cert.algebraic_RsSmallCoresIdeal_RsSmallCoresRefIdeal := by
  intro m g m' g' _ hX
  refine ⟨Cert.RsSmallCoresRefIdeal.Read.val_main_v0 (F := Ideal) (m' (((0 : Dev Cert.RsSmallCoresRefIdeal.nD).tc : Thread Cert.RsSmallCoresRefIdeal.nD Cert.RsSmallCoresRefIdeal.τ).loc Cert.RsSmallCoresRefIdeal.main_arg0)), ?_, ?_⟩
  · exact (θ_run (defs (F := Ideal)) _ _).mono (fun r h c => ⟨result m _ hX c r.2 (h.1 c), (h.1 c).1⟩) (run (F := Ideal) m g)
  · refine (θ_run Cert.RsSmallCoresRefIdeal.defs _ _).mono (fun r h => ⟨(h 0).1.trans ?_, (h 0).2⟩) (Cert.RsSmallCoresRefIdeal.Value.run (F := Ideal) m' g')
    exact Cert.RsSmallCoresRefIdeal.Read.val_main_v0_eq _

end Cert.Proof.RsSmallCores

end
-- ==== Proof.RsWOutCoresClaim.lean ====
/-
  The exchange of the output projection's weight gradients' halves between the two cores of a chip, after the chips have
  summed theirs: each core sends its 256 rows, in eight parts of 32 all in flight together, into its own slot of its
  partner's array of two slots; host operations then write the core's own rows into its own slot, so that both cores end
  with the whole. The copies' proof is `Cert.Proof.Swap`'s, the stacking's `Cert.Proof.Stack`'s and `Cert.Proof.StackRows`'s.
-/
module

public import proofs.«01_k».proof.Defs
public import proofs.«01_k».proof.Proof.StackRows
public import Idealize.ShloMosaic.Lib.WordCmp
public import Idealize.ShloMosaic.Lib.StableHlo.RunRead
public import proofs.«01_k».proof.Proof.Gen.RsWOutCores.Launch
public import proofs.«01_k».proof.Proof.Gen.RsWOutCoresIdeal.Launch
public import proofs.«01_k».proof.Proof.Gen.RsWOutCoresRefIdeal.Read

@[expose] public section

noncomputable section

namespace Cert.Proof.RsWOutCores

open Cert.RsWOutCores Cert.RsWOutCores.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack
open Cert.Proof.StackRows (sent_at slot_at slot_fits)

variable {F : FTy → Type} [FloatOps F]

/-- The core beside a core. -/
def beside (c : Dev nD) : Dev nD := Fin.rev c

/-- The 256 rows are eight times 32. -/
theorem parts : 256 = 8 * 32 := rfl

/-- Part `q` of what a core sends, -/
abbrev sentRows (q : Fin 8) : Memref sig .tc .hbm S32x2048 .f32 := StackRows.sentRows parts (Memref.whole main_arg0) q
/-- and of core `c`'s slot of the stacked array. -/
abbrev slotRows (c : Dev nD) (q : Fin 8) : Memref sig .tc .hbm S32x2048 .f32 :=
  StackRows.slotRows parts (Memref.whole main_v1) squeezes_S1x256x2048_S256x2048 c q

/-- The exchange: eight semaphores for the sends, the next eight for the receives. -/
def xch : Exchange nD sig 8 .hbm .hbm S32x2048 .f32 where
  peer _ := beside
  peer_peer _ c := by revert c; decide
  sem x := ⟨(if x.1 then 8 else 0) + x.2.val, by have := x.2.isLt; show _ < 24; split <;> omega⟩
  sem_inj := by decide
  isScoped x := by revert x; decide
  src _ := sentRows
  dst := slotRows
  N := (slotRows 0 0).view.dmaCredit
  N_pos := View.dmaCredit_pos _ (by decide)
  hN _ _ := rfl

variable (m : (ℓ : Loc nD τ sig) → Buf (Elt F) ℓ) (R : Dev nD → sProp (Res nD τ sig (Elt F)))

/-- The kernel's body: eight copies, eight waits for the partner's, eight for its own. -/
theorem body (c : Dev nD) : Body (nD := nD) (τ := τ) (Val := Elt F) (defs₀ (F := F)) Variants.none (xch.dealt m R) (xch.ended m R)
    (fun d => xch.owed τ d Finset.univ) c
    (cc0_rs_w_out_cores (F := F) (Memref.whole main_arg0) (Memref.isWhole_whole _) (Memref.whole main_v1) (Memref.isWhole_whole _) cc0_scratch0 cc0_scratch1 cc0_scratch2) := by
  intro W
  unfold cc0_rs_w_out_cores k0_part1 k0_part2 k0_part3 k0_part4 k0_part5 k0_part6 k0_part7 k0_part8
  simp only [Prog.lift, Prog.bind_op, Prog.bind_ret, Prog.pure_eq_ret, wp_deviceId]
  refine to_send xch m R fun κ => ?_
  iterate 8
    refine send_step xch m _ (by decide) (sent_at parts _ _ (by exact rfl) _) (slot_at parts _ _ _ _ (by exact rfl) _ (k0_off1_eq c) _) (by clear * -; revert c; decide +kernel) rfl rfl ?_
  refine to_receive xch m R ?_
  iterate 8 refine wait_step xch m _ _ (by decide) rfl rfl ?_
  refine to_drain xch m R ?_
  iterate 8 refine wait_step xch m _ _ (by decide) rfl rfl ?_
  exact to_end xch m R _

/-! ## The arrays in parts -/

/-- The elements of what a core sends that are part `q`, -/
abbrev sentAt (c : Dev nD) (q : Fin 8) : Finset (Idx ((c.tc : Thread nD τ).loc main_arg0)) := (sentRows q).view.set
/-- those of its stacked array its partner's part `q` lands in, -/
abbrev landAt (c : Dev nD) (q : Fin 8) : Finset (Idx ((c.tc : Thread nD τ).loc main_v1)) := (slotRows (beside c) q).view.set
/-- and what the array then holds there. -/
abbrev landing (c : Dev nD) (q : Fin 8) : Buf (Elt F) ((c.tc : Thread nD τ).loc main_v1) := xch.landed m c q

/-- What its arrays hold besides. -/
abbrev extra : Dev nD → sProp (Res nD τ sig (Elt F)) := others m main_arg0 main_v1 (left m main_arg0 sentAt) landAt

/-- A core's arrays when the kernel is done; -/
abbrev Done (c : Dev nD) (V : Valuation τ sig (Elt F)) : Prop := Landed m main_arg0 main_v1 landAt (landing m) c V

/-- its partner's slot reads as its partner's rows. -/
theorem read_landed (c : Dev nD) (V : Valuation τ sig (Elt F)) (hV : Done m c V) (q : Fin 8) (x : S32x2048.Idx) :
    (slotRows (beside c) q).view.read (Elt F) (V (Proc.devRef .tc main_v1)) x = (sentRows q).view.read (Elt F) (m (((beside c).tc : Thread nD τ).loc main_arg0)) x :=
  congrFun (xch.read_landed m c q _ (hV.2 q)) x

/-! ## The host operations after the kernel -/

/-- The slot they write to, as they compute it from the device's number. -/
def ownIndex (c : Dev nD) : (⟨S_, .i32⟩ : BufTy).Contents (Elt F) :=
  id (Host.remui (Host.divui (constantI S_ 32 (Dev.word c)) (constantI S_ 32 1#32)) (constantI S_ 32 2#32))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v5) = ownIndex (F := F) c := by
  refine ⟨?_, ?_, ?_⟩ <;> after_reads_simp; rfl
theorem line2_arg (V : Valuation τ sig (Elt F)) :
    StableHlo.after (hostOps1_1 (F := F)) V (Proc.devRef .tc main_arg0) = V (Proc.devRef .tc main_arg0) := by
  after_reads_simp

set_option maxHeartbeats 2000000 in
/-- The stacked array with the core's own rows written into its own slot. -/
theorem line2_result (c : Dev nD) (V : Valuation τ sig (Elt F)) (h : V (Proc.devRef .tc main_v5) = ownIndex (F := F) c) :
    StableHlo.after (hostOps1_1 (F := F)) V (Proc.devRef .tc main_v6) =
      updateSlice (V (Proc.devRef .tc main_v1) : (⟨S2x256x2048, .f32⟩ : BufTy).Contents (Elt F))
        (broadcastInDim S1x256x2048 ![1, 2] bcast_S256x2048_S1x256x2048_1_2 (V (Proc.devRef .tc main_arg0) : (⟨S256x2048, .f32⟩ : BufTy).Contents (Elt F)))
        ![c.val, 0, 0] (slot_fits c) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call0_v3) _) = _
    after_reads_simp
    simp only [StableHlo.TRef.ofBuf_toBuf]
    simp only [StableHlo.TRef.ofBuf, StableHlo.TRef.toBuf, cast_eq]
    rw [h]
    clear h
    match c with
    | 0 | 1 => rfl
  | 1 =>
    show BitVec.toInt (StableHlo.upto _ V 8 (Proc.devRef .tc main_call0_c_1) _) = _
    after_reads_simp
    rfl
  | 2 =>
    show BitVec.toInt (StableHlo.upto _ V 8 (Proc.devRef .tc main_call0_c_2) _) = _
    after_reads_simp
    rfl

/-- A core's memory at the end: what it sends as at launch, the result its own rows and its partner's stacked. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v6)
      = updateSlice (V (Proc.devRef .tc main_v1) : (⟨S2x256x2048, .f32⟩ : BufTy).Contents (Elt F))
        (broadcastInDim S1x256x2048 ![1, 2] bcast_S256x2048_S1x256x2048_1_2 (m ((c.tc : Thread nD τ).loc main_arg0) : (⟨S256x2048, .f32⟩ : BufTy).Contents (Elt F)))
        ![c.val, 0, 0] (slot_fits c)

theorem after_of_ends (c : Dev nD) (s : MemSt nD τ sig (Elt F)) (h : Ends [hostOps1 (F := F) c, hostOps1_1] (Done m c) c s) : After m c s := by
  obtain ⟨V, hV, hs⟩ := h
  have e (b : Ref sig .tc) (hb : b.isScoped = false) : s.mem ((c.tc : Thread nD τ).loc b)
      = StableHlo.after (hostOps1_1 (F := F)) (StableHlo.after (hostOps1 (F := F) c) V) (Proc.devRef .tc b) := by
    rw [hs b hb, List.flatten_cons, List.flatten_cons, List.flatten_nil, List.append_nil, StableHlo.after_append]
  refine ⟨?_, V, hV, ?_⟩
  · rw [e main_arg0 rfl, line2_arg, (line1 c V).1, hV.1]
  · rw [e main_v6 rfl, line2_result c _ (line1 c V).2.2, (line1 c V).1, (line1 c V).2.1, hV.1]

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1]) (fun c => main_chain c)
    (fun c => of_both (hostOps1_sub (F := F) c) (hostOps1_1_sub (F := F)))
    (fun c => of_both (l := hostOps1 (F := F) c) (l' := hostOps1_1) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt (fun _ => StackRows.sent_disjoint parts _) fun _ _ => rfl)
      landAt (fun _ => StackRows.slot_disjoint parts _ _ _) fun _ _ => rfl))
    (ended_split xch m (extra m)) (Done m)
    (whole_end xch m main_arg0 main_v1 (by decide) (by decide) (by decide) _ (cut_sent xch m main_arg0 sentAt (fun _ => StackRows.sent_disjoint parts _) fun _ _ => rfl)
      landAt (fun _ => StackRows.slot_disjoint parts _ _ _) (landing m) fun _ _ => rfl)
    (fun s h hs => ⟨fun c => after_of_ends m c s (h c), sem_eq_zero_of_scoped (by decide) hs⟩)

/-- The exchange runs, leaves what is sent as it was and every counter at zero; -/
theorem frame : Cert.quiescent_RsWOutCores := by
  intro m g _
  exact (θ_run defs _ _).mono (fun _ h => ⟨fun c => (h.1 c).1, h.2⟩) (run (F := Bits) m g)

/-- its reading over the extended reals too. -/
theorem frameIdeal : Cert.quiescent_RsWOutCoresIdeal := by
  intro m g _
  exact (θ_run (defs (F := Ideal)) _ _).mono (fun _ h => ⟨fun c => (h.1 c).1, h.2⟩) (run (F := Ideal) m g)

/-! ## What the reference computes -/

section Reference

open Cert.RsWOutCoresRefIdeal (S512x2048)
open Cert.RsWOutCoresRefIdeal.Read

/-- The reference's slot `s` is the rows `256 s …` of the whole. -/
theorem reference_at (X : (⟨S512x2048, .f32⟩ : BufTy).Contents (Elt F)) (i : S2x256x2048.Idx) (k : S512x2048.Idx)
    (h0 : (k 0).val = (i 0).val * 256 + (i 1).val) (h1 : (k 1).val = (i 2).val) : val_main_v0 (F := F) X i = X k := by
  have b2 : (i 2).val < 2048 := (i 2).isLt
  rw [val_main_v0_apply]
  refine congrArg X (funext fun a => Fin.ext ?_)
  match a with
  | ⟨0, _⟩ => rw [show k ⟨0, _⟩ = k 0 from rfl, h0]; show (((i 0).val * 256 + (i 1).val) * 2048 + (i 2).val) / 2048 = _; omega
  | ⟨1, _⟩ => rw [show k ⟨1, _⟩ = k 1 from rfl, h1]; show (((i 0).val * 256 + (i 1).val) * 2048 + (i 2).val) % 2048 = _; omega

/-- Each core's result is the reference's, when what the cores send are the blocks of the whole. -/
theorem result (X : (⟨S512x2048, .f32⟩ : BufTy).Contents (Elt F))
    (hX : ∀ c : Dev nD, m ((c.tc : Thread nD τ).loc main_arg0) = Layout.block ⟨2, ![256, 2048]⟩ ⟨2, ![512, 2048]⟩ 0 2 c X)
    (c : Dev nD) (s : MemSt nD τ sig (Elt F)) (h : After m c s) :
    s.mem ((c.tc : Thread nD τ).loc main_v6) = val_main_v0 (F := F) X := by
  obtain ⟨-, V, hV, h⟩ := h
  refine h.trans (StackRows.stacked parts X _ (reference_at X) (fun c : Dev nD => m ((c.tc : Thread nD τ).loc main_arg0)) (fun c y => ⟨_, congrFun (hX c) y, rfl, rfl⟩)
    c _ (fun q x => ?_) _)
  have e := read_landed m c V hV q x
  rw [View.read_apply, View.read_apply, StackRows.slot_emb, StackRows.sent_emb] at e
  exact e

end Reference

/-- Over the extended reals each core ends with the reference's result. -/
theorem algebraic : Cert.algebraic_RsWOutCoresIdeal_RsWOutCoresRefIdeal := by
  intro m g m' g' _ hX
  refine ⟨Cert.RsWOutCoresRefIdeal.Read.val_main_v0 (F := Ideal) (m' (((0 : Dev Cert.RsWOutCoresRefIdeal.nD).tc : Thread Cert.RsWOutCoresRefIdeal.nD Cert.RsWOutCoresRefIdeal.τ).loc Cert.RsWOutCoresRefIdeal.main_arg0)), ?_, ?_⟩
  · exact (θ_run (defs (F := Ideal)) _ _).mono (fun r h c => ⟨result m _ hX c r.2 (h.1 c), (h.1 c).1⟩) (run (F := Ideal) m g)
  · refine (θ_run Cert.RsWOutCoresRefIdeal.defs _ _).mono (fun r h => ⟨(h 0).1.trans ?_, (h 0).2⟩) (Cert.RsWOutCoresRefIdeal.Value.run (F := Ideal) m' g')
    exact Cert.RsWOutCoresRefIdeal.Read.val_main_v0_eq _

end Cert.Proof.RsWOutCores

end
-- ==== Proof.GatherWInCoresClaim.lean ====
/-
  The gathering of the input projection's weights over the two cores of a chip, once the chips have gathered theirs: each
  core sends its 1024 rows, in four parts of 256 all in flight together, into its own slot of its partner's array of two
  slots; host operations then write the core's own rows into its own slot, so that both cores end with the whole. The
  copies' proof is `Cert.Proof.Swap`'s, the stacking's `Cert.Proof.Stack`'s and `Cert.Proof.StackRows`'s.
-/
module

public import proofs.«01_k».proof.Defs
public import proofs.«01_k».proof.Proof.StackRows
public import Idealize.ShloMosaic.Lib.WordCmp
public import Idealize.ShloMosaic.Lib.StableHlo.RunRead
public import proofs.«01_k».proof.Proof.Gen.GatherWInCores.Launch
public import proofs.«01_k».proof.Proof.Gen.GatherWInCoresIdeal.Launch
public import proofs.«01_k».proof.Proof.Gen.GatherWInCoresRefIdeal.Read

@[expose] public section

noncomputable section

namespace Cert.Proof.GatherWInCores

open Cert.GatherWInCores Cert.GatherWInCores.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack
open Cert.Proof.StackRows (sent_at stack_at slot_fits)

variable {F : FTy → Type} [FloatOps F]

/-- The core beside a core. -/
def beside (c : Dev nD) : Dev nD := Fin.rev c

/-- The 1024 rows are four times 256. -/
theorem parts : 1024 = 4 * 256 := rfl

/-- Part `q` of what a core sends, -/
abbrev sentRows (q : Fin 4) : Memref sig .tc .hbm S256x8448 .bf16 := StackRows.sentRows parts (Memref.whole main_arg0) q
/-- and of core `c`'s slot of the stacked array. -/
abbrev slotRows (c : Dev nD) (q : Fin 4) : Memref sig .tc .hbm S256x8448 .bf16 :=
  StackRows.stackRows parts (Memref.whole main_v1) squeezes_S1x256x8448_S256x8448 c q

/-- The exchange: four semaphores for the sends, the next four for the receives. -/
def xch : Exchange nD sig 4 .hbm .hbm S256x8448 .bf16 where
  peer _ := beside
  peer_peer _ c := by revert c; decide
  sem x := ⟨(if x.1 then 4 else 0) + x.2.val, by have := x.2.isLt; show _ < 12; split <;> omega⟩
  sem_inj := by decide
  isScoped x := by revert x; decide
  src _ := sentRows
  dst := slotRows
  N := (slotRows 0 0).view.dmaCredit
  N_pos := View.dmaCredit_pos _ (by decide)
  hN _ _ := rfl

variable (m : (ℓ : Loc nD τ sig) → Buf (Elt F) ℓ) (R : Dev nD → sProp (Res nD τ sig (Elt F)))

/-- The kernel's body: four copies, four waits for the partner's, four for its own. -/
theorem body (c : Dev nD) : Body (nD := nD) (τ := τ) (Val := Elt F) (defs₀ (F := F)) Variants.none (xch.dealt m R) (xch.ended m R)
    (fun d => xch.owed τ d Finset.univ) c
    (cc0_gather_w_in_cores (F := F) (Memref.whole main_arg0) (Memref.isWhole_whole _) (Memref.whole main_v1) (Memref.isWhole_whole _) cc0_scratch0 cc0_scratch1 cc0_scratch2) := by
  intro W
  unfold cc0_gather_w_in_cores k0_part1 k0_part2 k0_part3 k0_part4
  simp only [Prog.lift, Prog.bind_op, Prog.bind_ret, Prog.pure_eq_ret, wp_deviceId]
  refine to_send xch m R fun κ => ?_
  iterate 4
    refine send_step xch m _ (by decide) (sent_at parts _ _ (by exact rfl) _) (stack_at parts _ _ _ _ (by clear * -; revert c; decide +kernel) _) (by clear * -; revert c; decide +kernel) rfl rfl ?_
  refine to_receive xch m R ?_
  iterate 4 refine wait_step xch m _ _ (by decide) rfl rfl ?_
  refine to_drain xch m R ?_
  iterate 4 refine wait_step xch m _ _ (by decide) rfl rfl ?_
  exact to_end xch m R _

/-! ## The arrays in parts -/

/-- The elements of what a core sends that are part `q`, -/
abbrev sentAt (c : Dev nD) (q : Fin 4) : Finset (Idx ((c.tc : Thread nD τ).loc main_arg0)) := (sentRows q).view.set
/-- those of its stacked array its partner's part `q` lands in, -/
abbrev landAt (c : Dev nD) (q : Fin 4) : Finset (Idx ((c.tc : Thread nD τ).loc main_v1)) := (slotRows (beside c) q).view.set
/-- and what the array then holds there. -/
abbrev landing (c : Dev nD) (q : Fin 4) : Buf (Elt F) ((c.tc : Thread nD τ).loc main_v1) := xch.landed m c q

/-- What its arrays hold besides. -/
abbrev extra : Dev nD → sProp (Res nD τ sig (Elt F)) := others m main_arg0 main_v1 (left m main_arg0 sentAt) landAt

/-- A core's arrays when the kernel is done; -/
abbrev Done (c : Dev nD) (V : Valuation τ sig (Elt F)) : Prop := Landed m main_arg0 main_v1 landAt (landing m) c V

/-- its partner's slot reads as its partner's rows. -/
theorem read_landed (c : Dev nD) (V : Valuation τ sig (Elt F)) (hV : Done m c V) (q : Fin 4) (x : S256x8448.Idx) :
    (slotRows (beside c) q).view.read (Elt F) (V (Proc.devRef .tc main_v1)) x = (sentRows q).view.read (Elt F) (m (((beside c).tc : Thread nD τ).loc main_arg0)) x :=
  congrFun (xch.read_landed m c q _ (hV.2 q)) x

/-! ## The host operations after the kernel -/

/-- The slot they write to, as they compute it from the device's number. -/
def ownIndex (c : Dev nD) : (⟨S_, .i32⟩ : BufTy).Contents (Elt F) :=
  id (Host.remui (Host.divui (constantI S_ 32 (Dev.word c)) (constantI S_ 32 1#32)) (constantI S_ 32 2#32))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v5) = ownIndex (F := F) c := by
  refine ⟨?_, ?_, ?_⟩ <;> after_reads_simp; rfl
theorem line2_arg (V : Valuation τ sig (Elt F)) :
    StableHlo.after (hostOps1_1 (F := F)) V (Proc.devRef .tc main_arg0) = V (Proc.devRef .tc main_arg0) := by
  after_reads_simp

set_option maxHeartbeats 2000000 in
/-- The stacked array with the core's own rows written into its own slot. -/
theorem line2_result (c : Dev nD) (V : Valuation τ sig (Elt F)) (h : V (Proc.devRef .tc main_v5) = ownIndex (F := F) c) :
    StableHlo.after (hostOps1_1 (F := F)) V (Proc.devRef .tc main_v6) =
      updateSlice (V (Proc.devRef .tc main_v1) : (⟨S2x1024x8448, .bf16⟩ : BufTy).Contents (Elt F))
        (broadcastInDim S1x1024x8448 ![1, 2] bcast_S1024x8448_S1x1024x8448_1_2 (V (Proc.devRef .tc main_arg0) : (⟨S1024x8448, .bf16⟩ : BufTy).Contents (Elt F)))
        ![c.val, 0, 0] (slot_fits c) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call0_v3) _) = _
    after_reads_simp
    simp only [StableHlo.TRef.ofBuf_toBuf]
    simp only [StableHlo.TRef.ofBuf, StableHlo.TRef.toBuf, cast_eq]
    rw [h]
    clear h
    match c with
    | 0 | 1 => rfl
  | 1 =>
    show BitVec.toInt (StableHlo.upto _ V 8 (Proc.devRef .tc main_call0_c_1) _) = _
    after_reads_simp
    rfl
  | 2 =>
    show BitVec.toInt (StableHlo.upto _ V 8 (Proc.devRef .tc main_call0_c_2) _) = _
    after_reads_simp
    rfl

/-- A core's memory at the end: what it sends as at launch, the result its own rows and its partner's stacked. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v6)
      = updateSlice (V (Proc.devRef .tc main_v1) : (⟨S2x1024x8448, .bf16⟩ : BufTy).Contents (Elt F))
        (broadcastInDim S1x1024x8448 ![1, 2] bcast_S1024x8448_S1x1024x8448_1_2 (m ((c.tc : Thread nD τ).loc main_arg0) : (⟨S1024x8448, .bf16⟩ : BufTy).Contents (Elt F)))
        ![c.val, 0, 0] (slot_fits c)

theorem after_of_ends (c : Dev nD) (s : MemSt nD τ sig (Elt F)) (h : Ends [hostOps1 (F := F) c, hostOps1_1] (Done m c) c s) : After m c s := by
  obtain ⟨V, hV, hs⟩ := h
  have e (b : Ref sig .tc) (hb : b.isScoped = false) : s.mem ((c.tc : Thread nD τ).loc b)
      = StableHlo.after (hostOps1_1 (F := F)) (StableHlo.after (hostOps1 (F := F) c) V) (Proc.devRef .tc b) := by
    rw [hs b hb, List.flatten_cons, List.flatten_cons, List.flatten_nil, List.append_nil, StableHlo.after_append]
  refine ⟨?_, V, hV, ?_⟩
  · rw [e main_arg0 rfl, line2_arg, (line1 c V).1, hV.1]
  · rw [e main_v6 rfl, line2_result c _ (line1 c V).2.2, (line1 c V).1, (line1 c V).2.1, hV.1]

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1]) (fun c => main_chain c)
    (fun c => of_both (hostOps1_sub (F := F) c) (hostOps1_1_sub (F := F)))
    (fun c => of_both (l := hostOps1 (F := F) c) (l' := hostOps1_1) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt (fun _ => StackRows.sent_disjoint parts _) fun _ _ => rfl)
      landAt (fun _ => StackRows.stack_disjoint parts _ _ _) fun _ _ => rfl))
    (ended_split xch m (extra m)) (Done m)
    (whole_end xch m main_arg0 main_v1 (by decide) (by decide) (by decide) _ (cut_sent xch m main_arg0 sentAt (fun _ => StackRows.sent_disjoint parts _) fun _ _ => rfl)
      landAt (fun _ => StackRows.stack_disjoint parts _ _ _) (landing m) fun _ _ => rfl)
    (fun s h hs => ⟨fun c => after_of_ends m c s (h c), sem_eq_zero_of_scoped (by decide) hs⟩)

/-- The exchange runs, leaves what is sent as it was and every counter at zero; -/
theorem frame : Cert.quiescent_GatherWInCores := by
  intro m g _
  exact (θ_run defs _ _).mono (fun _ h => ⟨fun c => (h.1 c).1, h.2⟩) (run (F := Bits) m g)

/-- its reading over the extended reals too. -/
theorem frameIdeal : Cert.quiescent_GatherWInCoresIdeal := by
  intro m g _
  exact (θ_run (defs (F := Ideal)) _ _).mono (fun _ h => ⟨fun c => (h.1 c).1, h.2⟩) (run (F := Ideal) m g)

/-! ## What the reference computes -/

section Reference

open Cert.GatherWInCoresRefIdeal (S2048x8448)
open Cert.GatherWInCoresRefIdeal.Read

/-- The reference's slot `s` is the rows `1024 s …` of the whole. -/
theorem reference_at (X : (⟨S2048x8448, .bf16⟩ : BufTy).Contents (Elt F)) (i : S2x1024x8448.Idx) (k : S2048x8448.Idx)
    (h0 : (k 0).val = (i 0).val * 1024 + (i 1).val) (h1 : (k 1).val = (i 2).val) : val_main_v0 (F := F) X i = X k := by
  have b2 : (i 2).val < 8448 := (i 2).isLt
  rw [val_main_v0_apply]
  refine congrArg X (funext fun a => Fin.ext ?_)
  match a with
  | ⟨0, _⟩ => rw [show k ⟨0, _⟩ = k 0 from rfl, h0]; show (((i 0).val * 1024 + (i 1).val) * 8448 + (i 2).val) / 8448 = _; omega
  | ⟨1, _⟩ => rw [show k ⟨1, _⟩ = k 1 from rfl, h1]; show (((i 0).val * 1024 + (i 1).val) * 8448 + (i 2).val) % 8448 = _; omega

/-- Each core's result is the reference's, when what the cores send are the blocks of the whole. -/
theorem result (X : (⟨S2048x8448, .bf16⟩ : BufTy).Contents (Elt F))
    (hX : ∀ c : Dev nD, m ((c.tc : Thread nD τ).loc main_arg0) = Layout.block ⟨2, ![1024, 8448]⟩ ⟨2, ![2048, 8448]⟩ 0 2 c X)
    (c : Dev nD) (s : MemSt nD τ sig (Elt F)) (h : After m c s) :
    s.mem ((c.tc : Thread nD τ).loc main_v6) = val_main_v0 (F := F) X := by
  obtain ⟨-, V, hV, h⟩ := h
  refine h.trans (StackRows.stacked parts X _ (reference_at X) (fun c : Dev nD => m ((c.tc : Thread nD τ).loc main_arg0)) (fun c y => ⟨_, congrFun (hX c) y, rfl, rfl⟩)
    c _ (fun q x => ?_) _)
  have e := read_landed m c V hV q x
  rw [View.read_apply, View.read_apply, StackRows.stack_emb, StackRows.sent_emb] at e
  exact e

end Reference

/-- Over the extended reals each core ends with the reference's result. -/
theorem algebraic : Cert.algebraic_GatherWInCoresIdeal_GatherWInCoresRefIdeal := by
  intro m g m' g' _ hX
  refine ⟨Cert.GatherWInCoresRefIdeal.Read.val_main_v0 (F := Ideal) (m' (((0 : Dev Cert.GatherWInCoresRefIdeal.nD).tc : Thread Cert.GatherWInCoresRefIdeal.nD Cert.GatherWInCoresRefIdeal.τ).loc Cert.GatherWInCoresRefIdeal.main_arg0)), ?_, ?_⟩
  · exact (θ_run (defs (F := Ideal)) _ _).mono (fun r h c => ⟨result m _ hX c r.2 (h.1 c), (h.1 c).1⟩) (run (F := Ideal) m g)
  · refine (θ_run Cert.GatherWInCoresRefIdeal.defs _ _).mono (fun r h => ⟨(h 0).1.trans ?_, (h 0).2⟩) (Cert.GatherWInCoresRefIdeal.Value.run (F := Ideal) m' g')
    exact Cert.GatherWInCoresRefIdeal.Read.val_main_v0_eq _

end Cert.Proof.GatherWInCores

end
-- ==== Proof.GatherWOutCoresClaim.lean ====
module

public import proofs.«01_k».proof.Defs
public import proofs.«01_k».proof.Proof.Stack
public import Idealize.ShloMosaic.Lib.ViewIndex
public import Idealize.ShloMosaic.Lib.WordCmp
public import Idealize.ShloMosaic.Lib.StableHlo.RunRead
public import proofs.«01_k».proof.Proof.Gen.GatherWOutCores.Launch
public import proofs.«01_k».proof.Proof.Gen.GatherWOutCoresIdeal.Launch
public import proofs.«01_k».proof.Proof.Gen.GatherWOutCoresRefIdeal.Read

@[expose] public section

noncomputable section

namespace Cert.Proof.GatherWOutCores

open Cert.GatherWOutCores Cert.GatherWOutCores.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack

variable {F : FTy → Type} [FloatOps F]

/-- The core beside a core. -/
def beside (c : Dev nD) : Dev nD := Fin.rev c

/-- Shard `q` lies among the four, -/
theorem shard_inb (q : Fin 4) : ∀ a, (![q.val, 0, 0] : Fin 3 → ℕ) a + S1x256x2048.size a ≤ S4x256x2048.size a := by
  intro a
  have := q.isLt
  fin_cases a
  · show q.val + 1 ≤ 4; omega
  · show 0 + 256 ≤ 256; omega
  · show 0 + 2048 ≤ 2048; omega

/-- core `c`'s among the stacked, -/
theorem slot_inb (c : Dev nD) (q : Fin 4) : ∀ a, (![c.val, q.val, 0, 0] : Fin 4 → ℕ) a + S1x1x256x2048.size a ≤ S2x4x256x2048.size a := by
  intro a
  have := q.isLt
  have : c.val < 2 := c.isLt
  fin_cases a
  · show c.val + 1 ≤ 2; omega
  · show q.val + 1 ≤ 4; omega
  · show 0 + 256 ≤ 256; omega
  · show 0 + 2048 ≤ 2048; omega

/-- and its slot among the two. -/
theorem slot_fits (c : Dev nD) : S2x4x256x2048.Slices (![c.val, 0, 0, 0] : Fin 4 → ℕ) S1x4x256x2048 := ⟨rfl, fun a => by
  have : c.val < 2 := c.isLt
  fin_cases a
  · show c.val + 1 ≤ 2; omega
  · show 0 + 4 ≤ 4; omega
  · show 0 + 256 ≤ 256; omega
  · show 0 + 2048 ≤ 2048; omega⟩

/-- Shard `q` of what a core sends, -/
abbrev shard (q : Fin 4) : Memref sig .tc .hbm S1x256x2048 .bf16 :=
  (Memref.whole main_arg0).slice (Rect.unit (s := S4x256x2048) ![q.val, 0, 0] S1x256x2048.size (shard_inb q)) (fun _ => rfl)
/-- and of core `c`'s slot of the stacked array. -/
abbrev slotShard (c : Dev nD) (q : Fin 4) : Memref sig .tc .hbm S1x256x2048 .bf16 :=
  ((Memref.whole main_v1).slice (Rect.unit (s := S2x4x256x2048) ![c.val, q.val, 0, 0] S1x1x256x2048.size (slot_inb c q)) (fun _ => rfl)).squeeze S1x256x2048 squeezes_S1x1x256x2048_S1x256x2048

/-- The exchange: four semaphores for the sends, the next four for the receives. -/
def xch : Exchange nD sig 4 .hbm .hbm S1x256x2048 .bf16 where
  peer _ := beside
  peer_peer _ c := by revert c; decide
  sem x := ⟨(if x.1 then 4 else 0) + x.2.val, by have := x.2.isLt; show _ < 12; split <;> omega⟩
  sem_inj := by decide
  isScoped x := by revert x; decide
  src _ := shard
  dst := slotShard
  N := (slotShard 0 0).view.dmaCredit
  N_pos := View.dmaCredit_pos _ (by decide)
  hN _ _ := rfl

/-- A slice at the offset of shard `q` is shard `q`. -/
theorem sent_at (c : Dev nD) (q : Fin 4) {o : Fin 3 → ℕ} (ho : o = ![q.val, 0, 0]) (h : ∀ a, o a + S1x256x2048.size a ≤ S4x256x2048.size a) :
    (Memref.whole main_arg0).slice (Rect.unit (s := S4x256x2048) o S1x256x2048.size h) (fun _ => rfl) = xch.src c q := by subst ho; rfl
theorem slot_at (c : Dev nD) (q : Fin 4) {o : Fin 4 → ℕ} (ho : o = ![c.val, q.val, 0, 0]) (h : ∀ a, o a + S1x1x256x2048.size a ≤ S2x4x256x2048.size a) :
    ((Memref.whole main_v1).slice (Rect.unit (s := S2x4x256x2048) o S1x1x256x2048.size h) (fun _ => rfl)).squeeze S1x256x2048 squeezes_S1x1x256x2048_S1x256x2048
      = xch.dst c q := by subst ho; rfl

variable (m : (ℓ : Loc nD τ sig) → Buf (Elt F) ℓ) (R : Dev nD → sProp (Res nD τ sig (Elt F)))

/-- The kernel's body: four copies, four waits for the partner's, four for its own. -/
theorem body (c : Dev nD) : Body (nD := nD) (τ := τ) (Val := Elt F) (defs₀ (F := F)) Variants.none (xch.dealt m R) (xch.ended m R)
    (fun d => xch.owed τ d Finset.univ) c
    (cc0_gather_w_out_cores (F := F) (Memref.whole main_arg0) (Memref.isWhole_whole _) (Memref.whole main_v1) (Memref.isWhole_whole _) cc0_scratch0 cc0_scratch1 cc0_scratch2) := by
  intro W
  unfold cc0_gather_w_out_cores k0_part1 k0_part2 k0_part3 k0_part4
  simp only [Prog.lift, Prog.bind_op, Prog.bind_ret, Prog.pure_eq_ret, wp_deviceId]
  refine to_send xch m R fun κ => ?_
  iterate 4
    refine send_step xch m _ (by decide) (sent_at c _ (by exact rfl) _) (slot_at c _ (by clear * -; revert c; decide +kernel) _) (by clear * -; revert c; decide +kernel) rfl rfl ?_
  refine to_receive xch m R ?_
  iterate 4 refine wait_step xch m _ _ (by decide) rfl rfl ?_
  refine to_drain xch m R ?_
  iterate 4 refine wait_step xch m _ _ (by decide) rfl rfl ?_
  exact to_end xch m R _

/-! ## The arrays in parts -/

/-- Where an element of a sent shard lies, -/
theorem sent_emb (q : Fin 4) (x : S1x256x2048.Idx) : ((shard q).view.emb x 0).val = q.val ∧ ((shard q).view.emb x 1).val = (x 1).val
    ∧ ((shard q).view.emb x 2).val = (x 2).val := by
  have : (x 0).val < 1 := (x 0).isLt
  refine ⟨?_, ?_, ?_⟩
  · show q.val + 1 * (x 0).val = _; omega
  · show 0 + 1 * (x 1).val = _; omega
  · show 0 + 1 * (x 2).val = _; omega

/-- and one of a landed shard. -/
theorem slot_emb (c : Dev nD) (q : Fin 4) (x : S1x256x2048.Idx) (i : S2x4x256x2048.Idx) (h0 : (i 0).val = c.val) (h1 : (i 1).val = q.val)
    (h2 : (i 2).val = (x 1).val) (h3 : (i 3).val = (x 2).val) : (slotShard c q).view.emb x = i := by
  have b0 : (x 0).val < 1 := (x 0).isLt
  let y : S1x1x256x2048.Idx := fun a => match a with
    | ⟨0, _⟩ => ⟨0, Nat.one_pos⟩
    | ⟨1, _⟩ => ⟨0, Nat.one_pos⟩
    | ⟨2, _⟩ => ⟨(i 2).val, (i 2).isLt⟩
    | ⟨3, _⟩ => ⟨(i 3).val, (i 3).isLt⟩
  have r : Shape.reshapeEquiv squeezes_S1x1x256x2048_S1x256x2048.numel_eq x = y := by
    refine Shape.reshapeEquiv_eq_of_rowMajor _ ?_
    rw [Shape.rowMajor_val_four, Shape.rowMajor_val_three]
    show ((0 * 1 + 0) * 256 + (i 2).val) * 2048 + (i 3).val = ((x 0).val * 256 + (x 1).val) * 2048 + (x 2).val
    omega
  show (Rect.unit (s := S2x4x256x2048) ![c.val, q.val, 0, 0] S1x1x256x2048.size (slot_inb c q)).emb
    (Shape.reshapeEquiv squeezes_S1x1x256x2048_S1x256x2048.numel_eq x) = i
  rw [r]
  refine funext fun a => Fin.ext ?_
  match a with
  | ⟨0, _⟩ => show c.val + 1 * 0 = (i 0).val; omega
  | ⟨1, _⟩ => show q.val + 1 * 0 = (i 1).val; omega
  | ⟨2, _⟩ => show 0 + 1 * (i 2).val = (i 2).val; omega
  | ⟨3, _⟩ => show 0 + 1 * (i 3).val = (i 3).val; omega

/-- Different shards have nothing in common, where they are sent from -/
theorem sent_disjoint (p q : Fin 4) (h : p ≠ q) : Disjoint (shard p).view.set (shard q).view.set := by
  refine Finset.disjoint_left.mpr fun i hi hi' => h ?_
  obtain ⟨x, -, ex⟩ := Finset.mem_map.mp hi
  obtain ⟨y, -, ey⟩ := Finset.mem_map.mp hi'
  have e := congrArg Fin.val (congrFun (ex.trans ey.symm) 0)
  exact Fin.ext ((sent_emb p x).1.symm.trans (e.trans (sent_emb q y).1))
/-- and where they land. -/
theorem slot_disjoint (c : Dev nD) (p q : Fin 4) (h : p ≠ q) : Disjoint (slotShard c p).view.set (slotShard c q).view.set := by
  have at1 (r : Fin 4) (x : S1x256x2048.Idx) : ((slotShard c r).view.emb x 1).val = r.val :=
    congrArg Fin.val (congrFun (slot_emb c r x (fun a => match a with
      | ⟨0, _⟩ => ⟨c.val, c.isLt⟩
      | ⟨1, _⟩ => ⟨r.val, r.isLt⟩
      | ⟨2, _⟩ => ⟨(x 1).val, (x 1).isLt⟩
      | ⟨3, _⟩ => ⟨(x 2).val, (x 2).isLt⟩) rfl rfl rfl rfl) 1)
  refine Finset.disjoint_left.mpr fun i hi hi' => h ?_
  obtain ⟨x, -, ex⟩ := Finset.mem_map.mp hi
  obtain ⟨y, -, ey⟩ := Finset.mem_map.mp hi'
  have e := congrArg Fin.val (congrFun (ex.trans ey.symm) 1)
  exact Fin.ext ((at1 p x).symm.trans (e.trans (at1 q y)))

/-- The elements of what a core sends that are part `q`, -/
abbrev sentAt (c : Dev nD) (q : Fin 4) : Finset (Idx ((c.tc : Thread nD τ).loc main_arg0)) := (shard q).view.set
/-- those of its stacked array its partner's part `q` lands in, -/
abbrev landAt (c : Dev nD) (q : Fin 4) : Finset (Idx ((c.tc : Thread nD τ).loc main_v1)) := (slotShard (beside c) q).view.set
/-- and what the array then holds there. -/
abbrev landing (c : Dev nD) (q : Fin 4) : Buf (Elt F) ((c.tc : Thread nD τ).loc main_v1) := xch.landed m c q

/-- What its arrays hold besides. -/
abbrev extra : Dev nD → sProp (Res nD τ sig (Elt F)) := others m main_arg0 main_v1 (left m main_arg0 sentAt) landAt

/-- A core's arrays when the kernel is done; -/
abbrev Done (c : Dev nD) (V : Valuation τ sig (Elt F)) : Prop := Landed m main_arg0 main_v1 landAt (landing m) c V

/-- its partner's slot reads as its partner's shards. -/
theorem read_landed (c : Dev nD) (V : Valuation τ sig (Elt F)) (hV : Done m c V) (q : Fin 4) (x : S1x256x2048.Idx) :
    (slotShard (beside c) q).view.read (Elt F) (V (Proc.devRef .tc main_v1)) x = (shard q).view.read (Elt F) (m (((beside c).tc : Thread nD τ).loc main_arg0)) x :=
  congrFun (xch.read_landed m c q _ (hV.2 q)) x

/-! ## The host operations after the kernel -/

/-- The slot they write to, as they compute it from the device's number. -/
def ownIndex (c : Dev nD) : (⟨S_, .i32⟩ : BufTy).Contents (Elt F) :=
  id (Host.remui (Host.divui (constantI S_ 32 (Dev.word c)) (constantI S_ 32 1#32)) (constantI S_ 32 2#32))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v5) = ownIndex (F := F) c := by
  refine ⟨?_, ?_, ?_⟩ <;> after_reads_simp; rfl
theorem line2_arg (V : Valuation τ sig (Elt F)) :
    StableHlo.after (hostOps1_1 (F := F)) V (Proc.devRef .tc main_arg0) = V (Proc.devRef .tc main_arg0) := by
  after_reads_simp

set_option maxHeartbeats 2000000 in
/-- The stacked array with the core's own shards written into its own slot. -/
theorem line2_result (c : Dev nD) (V : Valuation τ sig (Elt F)) (h : V (Proc.devRef .tc main_v5) = ownIndex (F := F) c) :
    StableHlo.after (hostOps1_1 (F := F)) V (Proc.devRef .tc main_v6) =
      updateSlice (V (Proc.devRef .tc main_v1) : (⟨S2x4x256x2048, .bf16⟩ : BufTy).Contents (Elt F))
        (broadcastInDim S1x4x256x2048 ![1, 2, 3] bcast_S4x256x2048_S1x4x256x2048_1_2_3 (V (Proc.devRef .tc main_arg0) : (⟨S4x256x2048, .bf16⟩ : BufTy).Contents (Elt F)))
        ![c.val, 0, 0, 0] (slot_fits c) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto (hostOps1_1 (F := F)) V 9 (Proc.devRef .tc main_call0_v3) _) = _
    after_reads_simp
    simp only [StableHlo.TRef.ofBuf_toBuf]
    simp only [StableHlo.TRef.ofBuf, StableHlo.TRef.toBuf, cast_eq]
    rw [h]
    clear h
    match c with
    | 0 | 1 => rfl
  | 1 =>
    show BitVec.toInt (StableHlo.upto (hostOps1_1 (F := F)) V 9 (Proc.devRef .tc main_call0_c_1) _) = _
    after_reads_simp
    rfl
  | 2 =>
    show BitVec.toInt (StableHlo.upto (hostOps1_1 (F := F)) V 9 (Proc.devRef .tc main_call0_c_2) _) = _
    after_reads_simp
    rfl
  | 3 =>
    show BitVec.toInt (StableHlo.upto (hostOps1_1 (F := F)) V 9 (Proc.devRef .tc main_call0_c_3) _) = _
    after_reads_simp
    rfl

/-- A core's memory at the end: what it sends as at launch, the result its own shards and its partner's stacked. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v6)
      = updateSlice (V (Proc.devRef .tc main_v1) : (⟨S2x4x256x2048, .bf16⟩ : BufTy).Contents (Elt F))
        (broadcastInDim S1x4x256x2048 ![1, 2, 3] bcast_S4x256x2048_S1x4x256x2048_1_2_3 (m ((c.tc : Thread nD τ).loc main_arg0) : (⟨S4x256x2048, .bf16⟩ : BufTy).Contents (Elt F)))
        ![c.val, 0, 0, 0] (slot_fits c)

theorem after_of_ends (c : Dev nD) (s : MemSt nD τ sig (Elt F)) (h : Ends [hostOps1 (F := F) c, hostOps1_1] (Done m c) c s) : After m c s := by
  obtain ⟨V, hV, hs⟩ := h
  have e (b : Ref sig .tc) (hb : b.isScoped = false) : s.mem ((c.tc : Thread nD τ).loc b)
      = StableHlo.after (hostOps1_1 (F := F)) (StableHlo.after (hostOps1 (F := F) c) V) (Proc.devRef .tc b) := by
    rw [hs b hb, List.flatten_cons, List.flatten_cons, List.flatten_nil, List.append_nil, StableHlo.after_append]
  refine ⟨?_, V, hV, ?_⟩
  · rw [e main_arg0 rfl, line2_arg, (line1 c V).1, hV.1]
  · rw [e main_v6 rfl, line2_result c _ (line1 c V).2.2, (line1 c V).1, (line1 c V).2.1, hV.1]

/-- The exchange's run on the two cores. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1]) (fun c => main_chain c)
    (fun c => of_both (hostOps1_sub (F := F) c) (hostOps1_1_sub (F := F)))
    (fun c => of_both (l := hostOps1 (F := F) c) (l' := hostOps1_1) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_sent xch m main_arg0 sentAt (fun _ => sent_disjoint) fun _ _ => rfl)
      landAt (fun _ => slot_disjoint _) fun _ _ => rfl))
    (ended_split xch m (extra m)) (Done m)
    (whole_end xch m main_arg0 main_v1 (by decide) (by decide) (by decide) _ (cut_sent xch m main_arg0 sentAt (fun _ => sent_disjoint) fun _ _ => rfl)
      landAt (fun _ => slot_disjoint _) (landing m) fun _ _ => rfl)
    (fun s h hs => ⟨fun c => after_of_ends m c s (h c), sem_eq_zero_of_scoped (by decide) hs⟩)

/-- The exchange runs, leaves what is sent as it was and every counter at zero; -/
theorem frame : Cert.quiescent_GatherWOutCores := by
  intro m g _
  exact (θ_run defs _ _).mono (fun _ h => ⟨fun c => (h.1 c).1, h.2⟩) (run (F := Bits) m g)

/-- its reading over the extended reals too. -/
theorem frameIdeal : Cert.quiescent_GatherWOutCoresIdeal := by
  intro m g _
  exact (θ_run (defs (F := Ideal)) _ _).mono (fun _ h => ⟨fun c => (h.1 c).1, h.2⟩) (run (F := Ideal) m g)

/-! ## What the reference computes -/

section Reference

open Cert.GatherWOutCoresRefIdeal (S8x256x2048)
open Cert.GatherWOutCoresRefIdeal.Read

/-- The reference's slot `s` is the shards `4 s …` of the whole. -/
theorem reference_at (X : (⟨S8x256x2048, .bf16⟩ : BufTy).Contents (Elt F)) (i : S2x4x256x2048.Idx) (k : S8x256x2048.Idx)
    (h0 : (k 0).val = (i 0).val * 4 + (i 1).val) (h1 : (k 1).val = (i 2).val) (h2 : (k 2).val = (i 3).val) : val_main_v0 (F := F) X i = X k := by
  have b2 : (i 2).val < 256 := (i 2).isLt
  have b3 : (i 3).val < 2048 := (i 3).isLt
  rw [val_main_v0_apply]
  refine congrArg X (funext fun a => Fin.ext ?_)
  match a with
  | ⟨0, _⟩ => rw [show k ⟨0, _⟩ = k 0 from rfl, h0]; show ((((i 0).val * 4 + (i 1).val) * 256 + (i 2).val) * 2048 + (i 3).val) / 524288 = _; omega
  | ⟨1, _⟩ => rw [show k ⟨1, _⟩ = k 1 from rfl, h1]; show ((((i 0).val * 4 + (i 1).val) * 256 + (i 2).val) * 2048 + (i 3).val) / 2048 % 256 = _; omega
  | ⟨2, _⟩ => rw [show k ⟨2, _⟩ = k 2 from rfl, h2]; show ((((i 0).val * 4 + (i 1).val) * 256 + (i 2).val) * 2048 + (i 3).val) % 2048 = _; omega

/-- Each core's result is the reference's, when what the cores send are the blocks of the whole. -/
theorem result (X : (⟨S8x256x2048, .bf16⟩ : BufTy).Contents (Elt F))
    (hX : ∀ c : Dev nD, m ((c.tc : Thread nD τ).loc main_arg0) = Layout.block ⟨3, ![4, 256, 2048]⟩ ⟨3, ![8, 256, 2048]⟩ 0 2 c X)
    (c : Dev nD) (s : MemSt nD τ sig (Elt F)) (h : After m c s) :
    s.mem ((c.tc : Thread nD τ).loc main_v6) = val_main_v0 (F := F) X := by
  obtain ⟨-, V, hV, h⟩ := h
  refine funext fun (i : S2x4x256x2048.Idx) => ?_
  have b0 : (i 0).val < 2 := (i 0).isLt
  have hc : c.val < 2 := c.isLt
  refine (congrFun h i).trans ?_
  by_cases hi : (i 0).val = c.val
  · let y : S1x4x256x2048.Idx := fun a => match a with
      | ⟨0, _⟩ => ⟨0, Nat.one_pos⟩
      | ⟨1, _⟩ => ⟨(i 1).val, (i 1).isLt⟩
      | ⟨2, _⟩ => ⟨(i 2).val, (i 2).isLt⟩
      | ⟨3, _⟩ => ⟨(i 3).val, (i 3).isLt⟩
    let k : S4x256x2048.Idx := fun a => match a with
      | ⟨0, _⟩ => ⟨(i 1).val, (i 1).isLt⟩
      | ⟨1, _⟩ => ⟨(i 2).val, (i 2).isLt⟩
      | ⟨2, _⟩ => ⟨(i 3).val, (i 3).isLt⟩
    rw [update_in _ _ _ _ i y fun b => by
        match b with
        | ⟨0, _⟩ => exact hi
        | ⟨1, _⟩ => exact (Nat.zero_add _).symm
        | ⟨2, _⟩ => exact (Nat.zero_add _).symm
        | ⟨3, _⟩ => exact (Nat.zero_add _).symm,
      broadcastInDim_apply _ _ _ _ k fun a => by
        match a with
        | ⟨0, _⟩ => rfl
        | ⟨1, _⟩ => rfl
        | ⟨2, _⟩ => rfl, hX c]
    refine (reference_at X _ _ ?_ rfl rfl).symm
    show c.val * 4 + (i 1).val = _; rw [hi]
  · rw [update_out _ _ _ _ i (0 : Fin 4) (by show (i 0).val < c.val ∨ c.val + 1 ≤ (i 0).val; omega)]
    have ho : (beside c).val = 1 - c.val := by show 2 - (c.val + 1) = 1 - c.val; omega
    let q : Fin 4 := i 1
    let x : S1x256x2048.Idx := fun a => match a with
      | ⟨0, _⟩ => ⟨0, Nat.one_pos⟩
      | ⟨1, _⟩ => ⟨(i 2).val, (i 2).isLt⟩
      | ⟨2, _⟩ => ⟨(i 3).val, (i 3).isLt⟩
    have e := read_landed m c V hV q x
    rw [View.read_apply, View.read_apply, slot_emb (beside c) q x i (by omega) rfl rfl rfl, hX (beside c)] at e
    refine (show V (Proc.devRef .tc main_v1) i = _ from e).trans ?_
    obtain ⟨s0, s1, s2⟩ := sent_emb q x
    refine (reference_at X _ _ ?_ s1 s2).symm
    show (beside c).val * 4 + ((shard q).view.emb x 0).val = _
    rw [s0, ho, show (i 0).val = 1 - c.val by omega]

end Reference

/-- Over the extended reals each core ends with the reference's result. -/
theorem algebraic : Cert.algebraic_GatherWOutCoresIdeal_GatherWOutCoresRefIdeal := by
  intro m g m' g' _ hX
  refine ⟨Cert.GatherWOutCoresRefIdeal.Read.val_main_v0 (F := Ideal) (m' (((0 : Dev Cert.GatherWOutCoresRefIdeal.nD).tc : Thread Cert.GatherWOutCoresRefIdeal.nD Cert.GatherWOutCoresRefIdeal.τ).loc Cert.GatherWOutCoresRefIdeal.main_arg0)), ?_, ?_⟩
  · exact (θ_run (defs (F := Ideal)) _ _).mono (fun r h c => ⟨result m _ hX c r.2 (h.1 c), (h.1 c).1⟩) (run (F := Ideal) m g)
  · refine (θ_run Cert.GatherWOutCoresRefIdeal.defs _ _).mono (fun r h => ⟨(h 0).1.trans ?_, (h 0).2⟩) (Cert.GatherWOutCoresRefIdeal.Value.run (F := Ideal) m' g')
    exact Cert.GatherWOutCoresRefIdeal.Read.val_main_v0_eq _

end Cert.Proof.GatherWOutCores

end
-- ==== Proof.Chips.lean ====
/-
  The exchanges among the four chips: each chip has the three others as partners, one for each third of its `3 * S` copies,
  and sends each `S` parts of a matrix, which land in the slot of its own in the partner's array of four slots. Either each
  partner gets a matrix of its own, slot by slot (`exchanged`), or all get the same one (`gathered`), its parts then read by
  three copies at once, a share of them each.
-/
module

public import proofs.«01_k».proof.Proof.StackRows

@[expose] public section

noncomputable section

namespace Cert.Proof.Chips

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.StackRows

/-- The partners of a chip: along the first axis, along the second, along both. -/
def mate : Fin 3 → Fin 4 → Fin 4 := ![![2, 3, 0, 1], ![1, 0, 3, 2], ![3, 2, 1, 0]]

theorem mate_mate : ∀ k c, mate k (mate k c) = c := by decide
theorem mate_inj : ∀ c k l, mate k c = mate l c → k = l := by decide
theorem mate_of_ne : ∀ c d, d ≠ c → ∃ k, mate k c = d := by decide

section Parts

variable {S : ℕ}

/-- The copy of part `q` to partner `k`. -/
abbrev copy (k : Fin 3) (q : Fin S) : Fin (3 * S) := finProdFinEquiv (k, q)

theorem copy_div (k : Fin 3) (q : Fin S) : (copy k q).divNat = k := congrArg Prod.fst (finProdFinEquiv.symm_apply_apply (k, q))
theorem copy_mod (k : Fin 3) (q : Fin S) : (copy k q).modNat = q := congrArg Prod.snd (finProdFinEquiv.symm_apply_apply (k, q))
theorem copy_ext {i j : Fin (3 * S)} (h : i.divNat = j.divNat) (h' : i.modNat = j.modNat) : i = j :=
  finProdFinEquiv.symm.injective (Prod.ext h h')

variable {sig : RefSig} {e : EltTy} {P R C : ℕ} (hR : R = S * P) (B : Memref sig .tc .hbm (Slots 4 R C) e) (hs : (One P C).Squeezes (Rows P C))

/-- The parts of the slots of a chip's partners are apart. -/
theorem apart (c : Fin 4) (i j : Fin (3 * S)) (h : i ≠ j) :
    Disjoint (stackRows hR B hs (mate i.divNat c) i.modNat).view.set (stackRows hR B hs (mate j.divNat c) j.modNat).view.set :=
  stack_apart hR B hs _ _ _ _ fun e e' => h (copy_ext (mate_inj c _ _ e) e')

end Parts

section Thirds

variable {nD : ℕ} {τ : Topo} {sig : RefSig} {Val : EltTy → Type} {S : ℕ} {ℓ : Loc nD τ sig}

/-- The share of a part each of the three copies of it reads. -/
def third : Fin 3 → PosShare TreeShare := ![fullShare.left, fullShare.right.left, fullShare.right.right]

theorem whole_thirds (I : Finset (Idx ℓ)) (f : Buf Val ℓ) :
    (ℓ ↦[I]{fullShare} f : sProp (Res nD τ sig Val)) = bigSep Finset.univ fun k => ℓ ↦[I]{third k} f := by
  have h1 := pointsTo_share (Ix := Unit) (Name := ℕ) (U := Own nD τ sig) (Lvl := ℕ) (ℓ := ℓ) (I := I) (f := f) (PosShare.mem_left_op_right fullShare)
  have h2 := pointsTo_share (Ix := Unit) (Name := ℕ) (U := Own nD τ sig) (Lvl := ℕ) (ℓ := ℓ) (I := I) (f := f) (PosShare.mem_left_op_right fullShare.right)
  rw [show (Finset.univ : Finset (Fin 3)) = {0, 1, 2} by decide, bigSep_insert (by decide), bigSep_insert (by decide), bigSep_singleton, Entails.antisymm h1.1 h1.2, Entails.antisymm h2.1 h2.2]
  rfl

/-- The copies of each part in turn. -/
theorem copies_of (Φ : Fin 3 → Fin S → sProp (Res nD τ sig Val)) :
    (bigSep Finset.univ fun j : Fin (3 * S) => Φ j.divNat j.modNat) = bigSep Finset.univ fun q => bigSep Finset.univ fun k => Φ k q := by
  rw [bigSep_univ_equiv ((Equiv.prodComm (Fin S) (Fin 3)).trans finProdFinEquiv), bigSep_univ_prod]
  refine bigSep_congr fun q _ => bigSep_congr fun k _ => ?_
  show Φ (copy k q).divNat (copy k q).modNat = _
  rw [copy_div, copy_mod]

/-- An array is a share of each of its parts for each copy of it, and what is in none of the parts. -/
theorem cut_thirds (K : Fin S → Finset (Idx ℓ)) (hK : ∀ i j, i ≠ j → Disjoint (K i) (K j)) (f : Buf Val ℓ) :
    (ℓ ↦{fullShare} f : sProp (Res nD τ sig Val))
      ⊣⊢ iprop((bigSep Finset.univ fun j : Fin (3 * S) => ℓ ↦[K j.modNat]{third j.divNat} f) ∗ ℓ ↦[rest K]{fullShare} f) := by
  rw [copies_of fun k q => (ℓ ↦[K q]{third k} f : sProp (Res nD τ sig Val)), ← bigSep_congr fun q _ => whole_thirds (K q) f]
  exact cut K hK f

/-- The share of a part that each of the three copies of it reads when the chip copies it into its own memory too. -/
def fourth : Fin 3 → PosShare TreeShare := ![fullShare.right.left, fullShare.right.right.left, fullShare.right.right.right]

theorem whole_fourths (I : Finset (Idx ℓ)) (f : Buf Val ℓ) :
    (ℓ ↦[I]{fullShare} f : sProp (Res nD τ sig Val)) ⊣⊢ iprop((bigSep Finset.univ fun k => ℓ ↦[I]{fourth k} f) ∗ ℓ ↦[I]{fullShare.left} f) := by
  have h (p : PosShare TreeShare) := pointsTo_share (Ix := Unit) (Name := ℕ) (U := Own nD τ sig) (Lvl := ℕ) (ℓ := ℓ) (I := I) (f := f) (PosShare.mem_left_op_right p)
  have e (p : PosShare TreeShare) := Entails.antisymm (h p).1 (h p).2
  rw [show (Finset.univ : Finset (Fin 3)) = {0, 1, 2} by decide, bigSep_insert (by decide), bigSep_insert (by decide), bigSep_singleton,
    e fullShare, e fullShare.right, e fullShare.right.right]
  show _ ⊣⊢ iprop(((ℓ ↦[I]{fullShare.right.left} f) ∗ (ℓ ↦[I]{fullShare.right.right.left} f) ∗ ℓ ↦[I]{fullShare.right.right.right} f) ∗ ℓ ↦[I]{fullShare.left} f)
  constructor
  · iintro ⟨H, H'⟩
    isplitl [H'] <;> iassumption
  · iintro ⟨H, H'⟩
    isplitl [H'] <;> iassumption

/-- An array is a share of its one part for each of the three copies of it and one for the chip's own, and what is not in it. -/
theorem cut_fourths (K : Fin 1 → Finset (Idx ℓ)) (f : Buf Val ℓ) :
    (ℓ ↦{fullShare} f : sProp (Res nD τ sig Val))
      ⊣⊢ iprop((bigSep Finset.univ fun j : Fin (3 * 1) => ℓ ↦[K j.modNat]{fourth j.divNat} f) ∗ (ℓ ↦[K 0]{fullShare.left} f) ∗ ℓ ↦[rest K]{fullShare} f) := by
  have h := cut K (fun i j h => absurd (Subsingleton.elim i j) h) f
  have u : (Finset.univ : Finset (Fin 1)) = {0} := by decide
  have e : (bigSep Finset.univ fun q => (ℓ ↦[K q]{fullShare} f : sProp (Res nD τ sig Val))) = ℓ ↦[K 0]{fullShare} f := by
    rw [u, bigSep_singleton]
  have e' : (bigSep Finset.univ fun j : Fin (3 * 1) => (ℓ ↦[K j.modNat]{fourth j.divNat} f : sProp (Res nD τ sig Val)))
      = bigSep Finset.univ fun k => ℓ ↦[K 0]{fourth k} f := by
    rw [copies_of fun k q => (ℓ ↦[K q]{fourth k} f : sProp (Res nD τ sig Val)), u, bigSep_singleton]
  rw [e] at h
  rw [e']
  have h' := whole_fourths (nD := nD) (τ := τ) (sig := sig) (Val := Val) (K 0) f
  constructor
  · iintro H
    ihave H' := h.1 $$ H
    icases H' with ⟨H, Hr⟩
    ihave H'' := h'.1 $$ H
    icases H'' with ⟨H, Hl⟩
    isplitl [H]; · iexact H
    isplitl [Hl] <;> iassumption
  · iintro ⟨H, Hl, Hr⟩
    iapply h.2
    isplitl [H Hl]
    · iapply h'.2
      isplitl [H] <;> iassumption
    · iexact Hr

end Thirds

section Whole

variable {α : Type} {S P R C : ℕ} (hR : R = S * P)

include hR in
/-- The array of slots of chip `c` once its own matrix is in its own slot, when its partners' are in theirs. -/
theorem filled (Z V : (Slots 4 R C).Idx → α) (own : (Rows R C).Idx → α) (c : Fin 4) (hb : (Rows R C).BroadcastsInDim (One R C) ![1, 2])
    (hO : ∀ y, own y = Z (place c y)) (hV : ∀ (j : Fin (3 * S)) x, V (spot hR (mate j.divNat c) j.modNat x) = Z (spot hR (mate j.divNat c) j.modNat x)) :
    updateSlice V (broadcastInDim (One R C) ![1, 2] hb own) ![c.val, 0, 0] (slot_fits c) = Z := by
  refine stacked_of hR Z V _ c (fun y => (broadcast_lift own hb y).trans (hO y)) fun d hd q x => ?_
  obtain ⟨k, rfl⟩ := mate_of_ne c d hd
  have h := hV (copy k q) x
  rwa [copy_div, copy_mod] at h

/-- Slot `c` of an array, as a matrix. -/
theorem slot_apply (f : (Slots 4 R C).Idx → α) (c : Fin 4) (h : (Slots 4 R C).Slices ![c.val, 0, 0] (One R C)) (h' : (One R C).ShapeCasts (Rows R C)) (y : (Rows R C).Idx) :
    shapeCast (Rows R C) (extractStridedSlice (One R C) ![c.val, 0, 0] f h) h' y = f (place c y) := by
  rw [shapeCast_apply _ h' y (lift y) (by
    rw [Shape.rowMajor_val_three, Shape.rowMajor_val_two]
    show (0 * R + (y 0).val) * C + (y 1).val = (y 0).val * C + (y 1).val
    rw [Nat.zero_mul, Nat.zero_add])]
  refine extractStridedSlice_apply _ f h (lift y) (place c y) fun a => ?_
  match a with
  | ⟨0, _⟩ => rfl
  | ⟨1, _⟩ => exact (Nat.zero_add _).symm
  | ⟨2, _⟩ => exact (Nat.zero_add _).symm

include hR in
/-- Chip `c`'s slots `Z` of the whole `Y`, whose matrix `4 c + s` is matrix `4 s + c` of the whole `X`: they are what its array
    is, when the partners sent it theirs of its number. -/
theorem exchanged (X Y : (Slots 16 R C).Idx → α) (hY : ∀ i k, (k 0).val = 4 * ((i 0).val % 4) + (i 0).val / 4 → (k 1).val = (i 1).val → (k 2).val = (i 2).val → Y i = X k)
    (arg : Fin 4 → (Slots 4 R C).Idx → α)
    (hX : ∀ c y, ∃ k, arg c y = X k ∧ (k 0).val = c.val * 4 + (y 0).val ∧ (k 1).val = (y 1).val ∧ (k 2).val = (y 2).val)
    (Z : (Slots 4 R C).Idx → α) (c : Fin 4) (hZ : ∀ y, ∃ i, Z y = Y i ∧ (i 0).val = c.val * 4 + (y 0).val ∧ (i 1).val = (y 1).val ∧ (i 2).val = (y 2).val)
    (V : (Slots 4 R C).Idx → α) (hV : ∀ (j : Fin (3 * S)) x, V (spot hR (mate j.divNat c) j.modNat x) = arg (mate j.divNat c) (spot hR c j.modNat x))
    (hb : (Rows R C).BroadcastsInDim (One R C) ![1, 2]) (h : (Slots 4 R C).Slices ![c.val, 0, 0] (One R C)) (h' : (One R C).ShapeCasts (Rows R C)) :
    updateSlice V (broadcastInDim (One R C) ![1, 2] hb (shapeCast (Rows R C) (extractStridedSlice (One R C) ![c.val, 0, 0] (arg c) h) h')) ![c.val, 0, 0] (slot_fits c) = Z := by
  have key (d : Fin 4) (y : (Rows R C).Idx) : Z (place d y) = arg d (place c y) := by
    obtain ⟨i, e, i0, i1, i2⟩ := hZ (place d y)
    obtain ⟨k, e', k0, k1, k2⟩ := hX d (place c y)
    rw [e, e']
    refine hY i k ?_ (k1.trans i1.symm) (k2.trans i2.symm)
    have k0 : (k 0).val = d.val * 4 + c.val := k0
    have i0 : (i 0).val = c.val * 4 + d.val := i0
    omega
  refine filled hR Z V _ c hb (fun y => (slot_apply (arg c) c h h' y).trans (key c y).symm) fun j x => ?_
  rw [hV]
  exact (key _ _).symm

include hR in
/-- The four blocks `Z` of rows of the whole `X`, when the partners sent theirs. -/
theorem gathered {R' : ℕ} (X : (Rows R' C).Idx → α) (Z : (Slots 4 R C).Idx → α) (hZ : ∀ i k, (k 0).val = (i 0).val * R + (i 1).val → (k 1).val = (i 2).val → Z i = X k)
    (block : Fin 4 → (Rows R C).Idx → α) (hX : ∀ c y, ∃ k, block c y = X k ∧ (k 0).val = c.val * R + (y 0).val ∧ (k 1).val = (y 1).val) (c : Fin 4)
    (V : (Slots 4 R C).Idx → α) (hV : ∀ (j : Fin (3 * S)) x, V (spot hR (mate j.divNat c) j.modNat x) = block (mate j.divNat c) (row hR j.modNat x)) (hb : (Rows R C).BroadcastsInDim (One R C) ![1, 2]) :
    updateSlice V (broadcastInDim (One R C) ![1, 2] hb (block c)) ![c.val, 0, 0] (slot_fits c) = Z := by
  have key (d : Fin 4) (y : (Rows R C).Idx) : block d y = Z (place d y) := by
    obtain ⟨k, e, k0, k1⟩ := hX d y
    rw [e]
    exact (hZ _ k k0 k1).symm
  exact filled hR Z V _ c hb (key c) fun j x => (hV j x).trans (key _ _)

include hR in
/-- The same when the array holds the chip's own block too. -/
theorem gathered_all {R' : ℕ} (X : (Rows R' C).Idx → α) (Z : (Slots 4 R C).Idx → α) (hZ : ∀ i k, (k 0).val = (i 0).val * R + (i 1).val → (k 1).val = (i 2).val → Z i = X k)
    (block : Fin 4 → (Rows R C).Idx → α) (hX : ∀ c y, ∃ k, block c y = X k ∧ (k 0).val = c.val * R + (y 0).val ∧ (k 1).val = (y 1).val) (c : Fin 4)
    (V : (Slots 4 R C).Idx → α) (hV : ∀ (j : Fin (3 * S)) x, V (spot hR (mate j.divNat c) j.modNat x) = block (mate j.divNat c) (row hR j.modNat x))
    (hO : ∀ y, V (place c y) = block c y) (hb : (Rows R C).BroadcastsInDim (One R C) ![1, 2]) : V = Z :=
  (filled hR V V (block c) c hb (fun y => (hO y).symm) fun _ _ => rfl).symm.trans (gathered hR X Z hZ block hX c V hV hb)

end Whole

end Cert.Proof.Chips

end
-- ==== Proof.RsSmallChipsClaim.lean ====
/-
  The exchange of the small parameters' gradients among the four chips: each chip sends each of its three partners, in a single copy,
  the slot of its own array of four that is the partner's, into its own slot of the partner's; host operations then
  write the slot that is its own into its own. The copies' proof is `Cert.Proof.Swap`'s, the rest `Cert.Proof.Chips`'s.
-/
module

public import proofs.«01_k».proof.Defs
public import proofs.«01_k».proof.Proof.Chips
public import Idealize.ShloMosaic.Lib.WordCmp
public import Idealize.ShloMosaic.Lib.StableHlo.RunRead
public import proofs.«01_k».proof.Proof.Gen.RsSmallChips.Launch
public import proofs.«01_k».proof.Proof.Gen.RsSmallChipsIdeal.Launch
public import proofs.«01_k».proof.Proof.Gen.RsSmallChipsRefIdeal.Read

@[expose] public section

noncomputable section

namespace Cert.Proof.RsSmallChips

open Cert.RsSmallChips Cert.RsSmallChips.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.Chips
open Cert.Proof.StackRows (stackRows stack_at stack_emb slot_fits spot)

variable {F : FTy → Type} [FloatOps F]

/-- The 32 rows are one part. -/
theorem parts : 32 = 1 * 32 := rfl

/-- Part `q` of slot `c` of what a chip sends, and of the array its partners' land in. -/
abbrev sentRows (c : Fin 4) (q : Fin 1) : Memref sig .tc .hbm S32x1024 .bf16 := stackRows parts (Memref.whole main_arg0) squeezes_S1x32x1024_S32x1024 c q
abbrev slotRows (c : Fin 4) (q : Fin 1) : Memref sig .tc .hbm S32x1024 .bf16 := stackRows parts (Memref.whole main_v1) squeezes_S1x32x1024_S32x1024 c q

/-- The exchange: three semaphores for the sends, the next three for the receives. -/
def xch : Exchange nD sig (3 * 1) .hbm .hbm S32x1024 .bf16 where
  peer j := mate j.divNat
  peer_peer j := mate_mate j.divNat
  sem x := ⟨(if x.1 then 3 else 0) + x.2.val, by have := x.2.isLt; show _ < 7; split <;> omega⟩
  sem_inj := by decide +kernel
  isScoped x := by revert x; decide +kernel
  src c j := sentRows (mate j.divNat c) j.modNat
  dst c j := slotRows c j.modNat
  N := (slotRows 0 0).view.dmaCredit
  N_pos := View.dmaCredit_pos _ (by decide)
  hN _ _ := rfl

variable (m : (ℓ : Loc nD τ sig) → Buf (Elt F) ℓ) (R : Dev nD → sProp (Res nD τ sig (Elt F)))

set_option maxRecDepth 16384 in
set_option maxHeartbeats 4000000 in
/-- The kernel's body: the copies, the waits for the partners', those for its own. -/
theorem body (c : Dev nD) : Body (nD := nD) (τ := τ) (Val := Elt F) (defs₀ (F := F)) Variants.none (xch.dealt m R) (xch.ended m R)
    (fun d => xch.owed τ d Finset.univ) c
    (cc0_rs_small_chips (F := F) (Memref.whole main_arg0) (Memref.isWhole_whole _) (Memref.whole main_v1) (Memref.isWhole_whole _) cc0_scratch0 cc0_scratch1 cc0_scratch2) := by
  intro W
  unfold cc0_rs_small_chips k0_part8 k0_part1 k0_part2 k0_part3 k0_part4 k0_part5 k0_part6 k0_part7
  simp only [Prog.lift, Prog.bind_op, Prog.bind_ret, Prog.pure_eq_ret, wp_deviceId]
  refine to_send xch m R fun κ => ?_
  iterate 3
    refine send_step xch m _ (by decide) (stack_at parts _ _ _ _ (by clear * -; revert c; decide +kernel) _) (stack_at parts _ _ _ _ (by clear * -; revert c; decide +kernel) _) (by clear * -; revert c; decide +kernel) rfl rfl ?_
  refine to_receive xch m R ?_
  iterate 3 refine wait_step xch m _ _ (by decide) rfl rfl ?_
  refine to_drain xch m R ?_
  iterate 3 refine wait_step xch m _ _ (by decide) rfl rfl ?_
  exact to_end xch m R _

/-! ## The arrays in parts -/

/-- The elements of what a chip sends that are copied by copy `j`, and those its partner's copy lands in. -/
abbrev sentAt (c : Dev nD) (j : Fin (3 * 1)) : Finset (Idx ((c.tc : Thread nD τ).loc main_arg0)) := (sentRows (mate j.divNat c) j.modNat).view.set
abbrev landAt (c : Dev nD) (j : Fin (3 * 1)) : Finset (Idx ((c.tc : Thread nD τ).loc main_v1)) := (slotRows (mate j.divNat c) j.modNat).view.set
/-- What the array then holds there, -/
abbrev landing (c : Dev nD) (j : Fin (3 * 1)) : Buf (Elt F) ((c.tc : Thread nD τ).loc main_v1) := xch.landed m c j
/-- and what a chip's arrays hold besides. -/
abbrev extra : Dev nD → sProp (Res nD τ sig (Elt F)) := others m main_arg0 main_v1 (left m main_arg0 sentAt) landAt

theorem cut_arg : ∀ c : Dev nD, (((c.tc : Thread nD τ).loc main_arg0 ↦{fullShare} m ((c.tc : Thread nD τ).loc main_arg0)) : sProp (Res nD τ sig (Elt F)))
    ⊣⊢ iprop(bigSep Finset.univ (xch.srcPts m c) ∗ left m main_arg0 sentAt c) :=
  cut_sent xch m main_arg0 sentAt (apart parts _ _) fun _ _ => rfl

/-- A chip's arrays when the kernel is done; -/
abbrev Done (c : Dev nD) (V : Valuation τ sig (Elt F)) : Prop := Landed m main_arg0 main_v1 landAt (landing m) c V

/-- each partner's slot reads as that partner's slot of the chip's number. -/
theorem read_landed (c : Dev nD) (V : Valuation τ sig (Elt F)) (hV : Done m c V) (j : Fin (3 * 1)) (x : S32x1024.Idx) :
    (V (Proc.devRef .tc main_v1) : (⟨S4x32x1024, .bf16⟩ : BufTy).Contents (Elt F)) (spot parts (mate j.divNat c) j.modNat x)
      = (m ((Dev.tc (nD := nD) (mate j.divNat c) : Thread nD τ).loc main_arg0) : (⟨S4x32x1024, .bf16⟩ : BufTy).Contents (Elt F)) (spot parts c j.modNat x) := by
  have e : (slotRows (mate j.divNat c) j.modNat).view.read (Elt F) (V (Proc.devRef .tc main_v1)) x
    = (sentRows (mate j.divNat (mate j.divNat c)) j.modNat).view.read (Elt F) (m ((Dev.tc (nD := nD) (mate j.divNat c) : Thread nD τ).loc main_arg0)) x :=
    congrFun (xch.read_landed m c j _ (hV.2 j)) x
  rw [mate_mate, View.read_apply, View.read_apply, stack_emb, stack_emb] at e
  exact e

/-! ## The host operations after the kernel -/

/-- The slot they write to, as they compute it from the device's number. -/
def ownIndex (c : Dev nD) : (⟨S_, .i32⟩ : BufTy).Contents (Elt F) :=
  addi (muli (constantI S_ 32 2#32) (id (Host.remui (Host.divui (constantI S_ 32 (Dev.word c)) (constantI S_ 32 2#32)) (constantI S_ 32 2#32))))
    (id (Host.remui (Host.divui (constantI S_ 32 (Dev.word c)) (constantI S_ 32 1#32)) (constantI S_ 32 2#32)))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v11) = ownIndex (F := F) c := by
  refine ⟨?_, ?_, ?_⟩ <;> after_reads_simp; rfl
theorem line2 (V : Valuation τ sig (Elt F)) : StableHlo.after (hostOps1_1 (F := F)) V (Proc.devRef .tc main_arg0) = V (Proc.devRef .tc main_arg0)
    ∧ StableHlo.after (hostOps1_1 (F := F)) V (Proc.devRef .tc main_v1) = V (Proc.devRef .tc main_v1)
    ∧ StableHlo.after (hostOps1_1 (F := F)) V (Proc.devRef .tc main_v11) = V (Proc.devRef .tc main_v11) := by
  refine ⟨?_, ?_, ?_⟩ <;> after_reads_simp
theorem line3 (V : Valuation τ sig (Elt F)) : StableHlo.after (hostOps1_2 (F := F)) V (Proc.devRef .tc main_arg0) = V (Proc.devRef .tc main_arg0) := by
  after_reads_simp

/-- The slot of what is sent that is the chip's own. -/
abbrev own (c : Dev nD) (f : (⟨S4x32x1024, .bf16⟩ : BufTy).Contents (Elt F)) : (⟨S32x1024, .bf16⟩ : BufTy).Contents (Elt F) :=
  shapeCast S32x1024 (extractStridedSlice S1x32x1024 ![c.val, 0, 0] f (slot_fits c)) shapeCasts_S1x32x1024_S32x1024
/-- An array of slots with the chip's own written. -/
abbrev put (c : Dev nD) (f : (⟨S4x32x1024, .bf16⟩ : BufTy).Contents (Elt F)) (u : (⟨S32x1024, .bf16⟩ : BufTy).Contents (Elt F)) : (⟨S4x32x1024, .bf16⟩ : BufTy).Contents (Elt F) :=
  updateSlice f (broadcastInDim S1x32x1024 ![1, 2] bcast_S32x1024_S1x32x1024_1_2 u) ![c.val, 0, 0] (slot_fits c)

set_option maxHeartbeats 2000000 in
theorem line2_own (c : Dev nD) (V : Valuation τ sig (Elt F)) (h : V (Proc.devRef .tc main_v11) = ownIndex (F := F) c) :
    StableHlo.after (hostOps1_1 (F := F)) V (Proc.devRef .tc main_v12) = own c (V (Proc.devRef .tc main_arg0)) := by
  after_reads_simp
  simp only [StableHlo.TRef.ofBuf, StableHlo.TRef.toBuf, cast_eq]
  refine congrArg (fun z => shapeCast S32x1024 z shapeCasts_S1x32x1024_S32x1024) (WordCmp.dynamicSlice_eq_extract _ _ _ _ _ _ fun k => ?_)
  match k with
  | 0 =>
    show BitVec.toInt (StableHlo.upto _ V 7 (Proc.devRef .tc main_call0_v2) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 7 (Proc.devRef .tc main_call0_c_1) _) = _
    after_reads_simp
    rfl
  | 2 =>
    show BitVec.toInt (StableHlo.upto _ V 7 (Proc.devRef .tc main_call0_c_2) _) = _
    after_reads_simp
    rfl

set_option maxHeartbeats 2000000 in
theorem line3_result (c : Dev nD) (V : Valuation τ sig (Elt F)) (h : V (Proc.devRef .tc main_v11) = ownIndex (F := F) c) :
    StableHlo.after (hostOps1_2 (F := F)) V (Proc.devRef .tc main_v13) = put c (V (Proc.devRef .tc main_v1)) (V (Proc.devRef .tc main_v12)) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call1_v3) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 8 (Proc.devRef .tc main_call1_c_1) _) = _
    after_reads_simp
    rfl
  | 2 =>
    show BitVec.toInt (StableHlo.upto _ V 8 (Proc.devRef .tc main_call1_c_2) _) = _
    after_reads_simp
    rfl

/-- A chip's memory at the end: what it sends as at launch, the result what landed and its own. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v13) = put c (V (Proc.devRef .tc main_v1)) (own c (m ((c.tc : Thread nD τ).loc main_arg0)))

theorem after_of_ends (c : Dev nD) (s : MemSt nD τ sig (Elt F)) (h : Ends [hostOps1 (F := F) c, hostOps1_1, hostOps1_2] (Done m c) c s) : After m c s := by
  obtain ⟨V, hV, hs⟩ := h
  have e (b : Ref sig .tc) (hb : b.isScoped = false) : s.mem ((c.tc : Thread nD τ).loc b)
      = StableHlo.after (hostOps1_2 (F := F)) (StableHlo.after (hostOps1_1 (F := F)) (StableHlo.after (hostOps1 (F := F) c) V)) (Proc.devRef .tc b) := by
    rw [hs b hb, List.flatten_cons, List.flatten_cons, List.flatten_cons, List.flatten_nil, List.append_nil, StableHlo.after_append, StableHlo.after_append]
  refine ⟨?_, V, hV, ?_⟩
  · rw [e main_arg0 rfl, line3, (line2 _).1, (line1 c V).1, hV.1]
  · rw [e main_v13 rfl, line3_result c _ ((line2 _).2.2.trans (line1 c V).2.2), line2_own c _ (line1 c V).2.2, (line2 _).2.1, (line1 c V).1, (line1 c V).2.1, hV.1]

/-- The exchange's run on the four chips. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1, hostOps1_2]) (fun c => main_chain c)
    (fun c => of_three (hostOps1_sub (F := F) c) (hostOps1_1_sub (F := F)) (hostOps1_2_sub (F := F)))
    (fun c => of_three (l := hostOps1 (F := F) c) (l' := hostOps1_1) (l'' := hostOps1_2) (by repeat' first | rfl | apply And.intro) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_arg m) landAt (apart parts _ _) fun _ _ => rfl))
    (ended_split xch m (extra m)) (Done m)
    (whole_end xch m main_arg0 main_v1 (by decide) (by decide) (by decide) _ (cut_arg m) landAt (apart parts _ _) (landing m) fun _ _ => rfl)
    (fun s h hs => ⟨fun c => after_of_ends m c s (h c), sem_eq_zero_of_scoped (by decide) hs⟩)

/-- The exchange runs, leaves what is sent as it was and every counter at zero; -/
theorem frame : Cert.quiescent_RsSmallChips := by
  intro m g _
  exact (θ_run defs _ _).mono (fun _ h => ⟨fun c => (h.1 c).1, h.2⟩) (run (F := Bits) m g)

/-- its reading over the extended reals too. -/
theorem frameIdeal : Cert.quiescent_RsSmallChipsIdeal := by
  intro m g _
  exact (θ_run (defs (F := Ideal)) _ _).mono (fun _ h => ⟨fun c => (h.1 c).1, h.2⟩) (run (F := Ideal) m g)

/-! ## What the reference computes -/

section Reference

open Cert.RsSmallChipsRefIdeal (S16x32x1024)
open Cert.RsSmallChipsRefIdeal.Read

/-- The reference's matrix `4 c + s` is matrix `4 s + c` of the whole. -/
theorem reference_at (X : (⟨S16x32x1024, .bf16⟩ : BufTy).Contents (Elt F)) (i k : S16x32x1024.Idx)
    (h0 : (k 0).val = 4 * ((i 0).val % 4) + (i 0).val / 4) (h1 : (k 1).val = (i 1).val) (h2 : (k 2).val = (i 2).val) : val_main_v2 (F := F) X i = X k := by
  have b0 : (i 0).val < 16 := (i 0).isLt
  have b1 : (i 1).val < 32 := (i 1).isLt
  have b2 : (i 2).val < 1024 := (i 2).isLt
  rw [val_main_v2_apply, val_main_v1_apply, val_main_v0_apply]
  have e0 : (idx_main_v2 i 0).val = (i 0).val / 4 := by show (((i 0).val * 32 + (i 1).val) * 1024 + (i 2).val) / 131072 = _; omega
  have e1 : (idx_main_v2 i 1).val = (i 0).val % 4 := by show (((i 0).val * 32 + (i 1).val) * 1024 + (i 2).val) / 32768 % 4 = _; omega
  have e2 : (idx_main_v2 i 2).val = (i 1).val := by show (((i 0).val * 32 + (i 1).val) * 1024 + (i 2).val) / 1024 % 32 = _; omega
  have e3 : (idx_main_v2 i 3).val = (i 2).val := by show (((i 0).val * 32 + (i 1).val) * 1024 + (i 2).val) % 1024 = _; omega
  generalize idx_main_v2 i = j at *
  refine congrArg X (funext fun a => Fin.ext ?_)
  match a with
  | ⟨0, _⟩ => show ((((j 1).val * 4 + (j 0).val) * 32 + (j 2).val) * 1024 + (j 3).val) / 32768 = (k 0).val; omega
  | ⟨1, _⟩ => show ((((j 1).val * 4 + (j 0).val) * 32 + (j 2).val) * 1024 + (j 3).val) / 1024 % 32 = (k 1).val; omega
  | ⟨2, _⟩ => show ((((j 1).val * 4 + (j 0).val) * 32 + (j 2).val) * 1024 + (j 3).val) % 1024 = (k 2).val; omega

/-- Each chip's result is its block of the reference's, when what the chips send are the blocks of the whole. -/
theorem result (X : (⟨S16x32x1024, .bf16⟩ : BufTy).Contents (Elt F))
    (hX : ∀ c : Dev nD, m ((c.tc : Thread nD τ).loc main_arg0) = Layout.block ⟨3, ![4, 32, 1024]⟩ ⟨3, ![16, 32, 1024]⟩ 0 4 c X)
    (c : Dev nD) (s : MemSt nD τ sig (Elt F)) (h : After m c s) :
    s.mem ((c.tc : Thread nD τ).loc main_v13) = Layout.block ⟨3, ![4, 32, 1024]⟩ ⟨3, ![16, 32, 1024]⟩ 0 4 c (val_main_v2 (F := F) X) := by
  obtain ⟨-, V, hV, h⟩ := h
  exact h.trans (exchanged parts X _ (reference_at X) (fun c : Dev nD => m ((c.tc : Thread nD τ).loc main_arg0)) (fun c y => ⟨_, congrFun (hX c) y, rfl, rfl, rfl⟩)
    _ c (fun y => ⟨_, rfl, rfl, rfl, rfl⟩) _ (read_landed m c V hV) _ _ _)

end Reference

/-- Over the extended reals each chip ends with its block of the reference's result. -/
theorem algebraic : Cert.algebraic_RsSmallChipsIdeal_RsSmallChipsRefIdeal := by
  intro m g m' g' _ hX
  refine ⟨Cert.RsSmallChipsRefIdeal.Read.val_main_v2 (F := Ideal) (m' (((0 : Dev Cert.RsSmallChipsRefIdeal.nD).tc : Thread Cert.RsSmallChipsRefIdeal.nD Cert.RsSmallChipsRefIdeal.τ).loc Cert.RsSmallChipsRefIdeal.main_arg0)), ?_, ?_⟩
  · exact (θ_run (defs (F := Ideal)) _ _).mono (fun r h c => ⟨result m _ hX c r.2 (h.1 c), (h.1 c).1⟩) (run (F := Ideal) m g)
  · refine (θ_run Cert.RsSmallChipsRefIdeal.defs _ _).mono (fun r h => ⟨(h 0).1.trans ?_, (h 0).2⟩) (Cert.RsSmallChipsRefIdeal.Value.run (F := Ideal) m' g')
    exact Cert.RsSmallChipsRefIdeal.Read.val_main_v2_eq _

end Cert.Proof.RsSmallChips

end
-- ==== Proof.RsWOutChipsClaim.lean ====
/-
  The exchange of `w_out`'s gradients among the four chips: each chip sends each of its three partners, in eight copies of 32
  rows, the slot of its own array of four that is the partner's, into its own slot of the partner's; host operations then
  write the slot that is its own into its own. The copies' proof is `Cert.Proof.Swap`'s, the rest `Cert.Proof.Chips`'s.
-/
module

public import proofs.«01_k».proof.Defs
public import proofs.«01_k».proof.Proof.Chips
public import Idealize.ShloMosaic.Lib.WordCmp
public import Idealize.ShloMosaic.Lib.StableHlo.RunRead
public import proofs.«01_k».proof.Proof.Gen.RsWOutChips.Launch
public import proofs.«01_k».proof.Proof.Gen.RsWOutChipsIdeal.Launch
public import proofs.«01_k».proof.Proof.Gen.RsWOutChipsRefIdeal.Read

@[expose] public section

noncomputable section

namespace Cert.Proof.RsWOutChips

open Cert.RsWOutChips Cert.RsWOutChips.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.Chips
open Cert.Proof.StackRows (stackRows stack_at stack_emb slot_fits spot)

variable {F : FTy → Type} [FloatOps F]

/-- The 256 rows are eight times 32. -/
theorem parts : 256 = 8 * 32 := rfl

/-- Part `q` of slot `c` of what a chip sends, and of the array its partners' land in. -/
abbrev sentRows (c : Fin 4) (q : Fin 8) : Memref sig .tc .hbm S32x2048 .bf16 := stackRows parts (Memref.whole main_arg0) squeezes_S1x32x2048_S32x2048 c q
abbrev slotRows (c : Fin 4) (q : Fin 8) : Memref sig .tc .hbm S32x2048 .bf16 := stackRows parts (Memref.whole main_v1) squeezes_S1x32x2048_S32x2048 c q

/-- The exchange: 24 semaphores for the sends, the next 24 for the receives. -/
def xch : Exchange nD sig (3 * 8) .hbm .hbm S32x2048 .bf16 where
  peer j := mate j.divNat
  peer_peer j := mate_mate j.divNat
  sem x := ⟨(if x.1 then 24 else 0) + x.2.val, by have := x.2.isLt; show _ < 56; split <;> omega⟩
  sem_inj := by decide +kernel
  isScoped x := by revert x; decide +kernel
  src c j := sentRows (mate j.divNat c) j.modNat
  dst c j := slotRows c j.modNat
  N := (slotRows 0 0).view.dmaCredit
  N_pos := View.dmaCredit_pos _ (by decide)
  hN _ _ := rfl

variable (m : (ℓ : Loc nD τ sig) → Buf (Elt F) ℓ) (R : Dev nD → sProp (Res nD τ sig (Elt F)))

set_option maxRecDepth 16384 in
set_option maxHeartbeats 4000000 in
/-- The kernel's body: the copies, the waits for the partners', those for its own. -/
theorem body (c : Dev nD) : Body (nD := nD) (τ := τ) (Val := Elt F) (defs₀ (F := F)) Variants.none (xch.dealt m R) (xch.ended m R)
    (fun d => xch.owed τ d Finset.univ) c
    (cc0_rs_w_out_chips (F := F) (Memref.whole main_arg0) (Memref.isWhole_whole _) (Memref.whole main_v1) (Memref.isWhole_whole _) cc0_scratch0 cc0_scratch1 cc0_scratch2) := by
  intro W
  unfold cc0_rs_w_out_chips k0_part34 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33
  simp only [Prog.lift, Prog.bind_op, Prog.bind_ret, Prog.pure_eq_ret, wp_deviceId]
  refine to_send xch m R fun κ => ?_
  iterate 24
    refine send_step xch m _ (by decide) (stack_at parts _ _ _ _ (by clear * -; revert c; decide +kernel) _) (stack_at parts _ _ _ _ (by clear * -; revert c; decide +kernel) _) (by clear * -; revert c; decide +kernel) rfl rfl ?_
  refine to_receive xch m R ?_
  iterate 24 refine wait_step xch m _ _ (by decide) rfl rfl ?_
  refine to_drain xch m R ?_
  iterate 24 refine wait_step xch m _ _ (by decide) rfl rfl ?_
  exact to_end xch m R _

/-! ## The arrays in parts -/

/-- The elements of what a chip sends that are copied by copy `j`, and those its partner's copy lands in. -/
abbrev sentAt (c : Dev nD) (j : Fin (3 * 8)) : Finset (Idx ((c.tc : Thread nD τ).loc main_arg0)) := (sentRows (mate j.divNat c) j.modNat).view.set
abbrev landAt (c : Dev nD) (j : Fin (3 * 8)) : Finset (Idx ((c.tc : Thread nD τ).loc main_v1)) := (slotRows (mate j.divNat c) j.modNat).view.set
/-- What the array then holds there, -/
abbrev landing (c : Dev nD) (j : Fin (3 * 8)) : Buf (Elt F) ((c.tc : Thread nD τ).loc main_v1) := xch.landed m c j
/-- and what a chip's arrays hold besides. -/
abbrev extra : Dev nD → sProp (Res nD τ sig (Elt F)) := others m main_arg0 main_v1 (left m main_arg0 sentAt) landAt

theorem cut_arg : ∀ c : Dev nD, (((c.tc : Thread nD τ).loc main_arg0 ↦{fullShare} m ((c.tc : Thread nD τ).loc main_arg0)) : sProp (Res nD τ sig (Elt F)))
    ⊣⊢ iprop(bigSep Finset.univ (xch.srcPts m c) ∗ left m main_arg0 sentAt c) :=
  cut_sent xch m main_arg0 sentAt (apart parts _ _) fun _ _ => rfl

/-- A chip's arrays when the kernel is done; -/
abbrev Done (c : Dev nD) (V : Valuation τ sig (Elt F)) : Prop := Landed m main_arg0 main_v1 landAt (landing m) c V

/-- each partner's slot reads as that partner's slot of the chip's number. -/
theorem read_landed (c : Dev nD) (V : Valuation τ sig (Elt F)) (hV : Done m c V) (j : Fin (3 * 8)) (x : S32x2048.Idx) :
    (V (Proc.devRef .tc main_v1) : (⟨S4x256x2048, .bf16⟩ : BufTy).Contents (Elt F)) (spot parts (mate j.divNat c) j.modNat x)
      = (m ((Dev.tc (nD := nD) (mate j.divNat c) : Thread nD τ).loc main_arg0) : (⟨S4x256x2048, .bf16⟩ : BufTy).Contents (Elt F)) (spot parts c j.modNat x) := by
  have e : (slotRows (mate j.divNat c) j.modNat).view.read (Elt F) (V (Proc.devRef .tc main_v1)) x
    = (sentRows (mate j.divNat (mate j.divNat c)) j.modNat).view.read (Elt F) (m ((Dev.tc (nD := nD) (mate j.divNat c) : Thread nD τ).loc main_arg0)) x :=
    congrFun (xch.read_landed m c j _ (hV.2 j)) x
  rw [mate_mate, View.read_apply, View.read_apply, stack_emb, stack_emb] at e
  exact e

/-! ## The host operations after the kernel -/

/-- The slot they write to, as they compute it from the device's number. -/
def ownIndex (c : Dev nD) : (⟨S_, .i32⟩ : BufTy).Contents (Elt F) :=
  addi (muli (constantI S_ 32 2#32) (id (Host.remui (Host.divui (constantI S_ 32 (Dev.word c)) (constantI S_ 32 2#32)) (constantI S_ 32 2#32))))
    (id (Host.remui (Host.divui (constantI S_ 32 (Dev.word c)) (constantI S_ 32 1#32)) (constantI S_ 32 2#32)))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v11) = ownIndex (F := F) c := by
  refine ⟨?_, ?_, ?_⟩ <;> after_reads_simp; rfl
theorem line2 (V : Valuation τ sig (Elt F)) : StableHlo.after (hostOps1_1 (F := F)) V (Proc.devRef .tc main_arg0) = V (Proc.devRef .tc main_arg0)
    ∧ StableHlo.after (hostOps1_1 (F := F)) V (Proc.devRef .tc main_v1) = V (Proc.devRef .tc main_v1)
    ∧ StableHlo.after (hostOps1_1 (F := F)) V (Proc.devRef .tc main_v11) = V (Proc.devRef .tc main_v11) := by
  refine ⟨?_, ?_, ?_⟩ <;> after_reads_simp
theorem line3 (V : Valuation τ sig (Elt F)) : StableHlo.after (hostOps1_2 (F := F)) V (Proc.devRef .tc main_arg0) = V (Proc.devRef .tc main_arg0) := by
  after_reads_simp

/-- The slot of what is sent that is the chip's own. -/
abbrev own (c : Dev nD) (f : (⟨S4x256x2048, .bf16⟩ : BufTy).Contents (Elt F)) : (⟨S256x2048, .bf16⟩ : BufTy).Contents (Elt F) :=
  shapeCast S256x2048 (extractStridedSlice S1x256x2048 ![c.val, 0, 0] f (slot_fits c)) shapeCasts_S1x256x2048_S256x2048
/-- An array of slots with the chip's own written. -/
abbrev put (c : Dev nD) (f : (⟨S4x256x2048, .bf16⟩ : BufTy).Contents (Elt F)) (u : (⟨S256x2048, .bf16⟩ : BufTy).Contents (Elt F)) : (⟨S4x256x2048, .bf16⟩ : BufTy).Contents (Elt F) :=
  updateSlice f (broadcastInDim S1x256x2048 ![1, 2] bcast_S256x2048_S1x256x2048_1_2 u) ![c.val, 0, 0] (slot_fits c)

set_option maxHeartbeats 2000000 in
theorem line2_own (c : Dev nD) (V : Valuation τ sig (Elt F)) (h : V (Proc.devRef .tc main_v11) = ownIndex (F := F) c) :
    StableHlo.after (hostOps1_1 (F := F)) V (Proc.devRef .tc main_v12) = own c (V (Proc.devRef .tc main_arg0)) := by
  after_reads_simp
  simp only [StableHlo.TRef.ofBuf, StableHlo.TRef.toBuf, cast_eq]
  refine congrArg (fun z => shapeCast S256x2048 z shapeCasts_S1x256x2048_S256x2048) (WordCmp.dynamicSlice_eq_extract _ _ _ _ _ _ fun k => ?_)
  match k with
  | 0 =>
    show BitVec.toInt (StableHlo.upto _ V 7 (Proc.devRef .tc main_call0_v2) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 7 (Proc.devRef .tc main_call0_c_1) _) = _
    after_reads_simp
    rfl
  | 2 =>
    show BitVec.toInt (StableHlo.upto _ V 7 (Proc.devRef .tc main_call0_c_2) _) = _
    after_reads_simp
    rfl

set_option maxHeartbeats 2000000 in
theorem line3_result (c : Dev nD) (V : Valuation τ sig (Elt F)) (h : V (Proc.devRef .tc main_v11) = ownIndex (F := F) c) :
    StableHlo.after (hostOps1_2 (F := F)) V (Proc.devRef .tc main_v13) = put c (V (Proc.devRef .tc main_v1)) (V (Proc.devRef .tc main_v12)) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call1_v3) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 8 (Proc.devRef .tc main_call1_c_1) _) = _
    after_reads_simp
    rfl
  | 2 =>
    show BitVec.toInt (StableHlo.upto _ V 8 (Proc.devRef .tc main_call1_c_2) _) = _
    after_reads_simp
    rfl

/-- A chip's memory at the end: what it sends as at launch, the result what landed and its own. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v13) = put c (V (Proc.devRef .tc main_v1)) (own c (m ((c.tc : Thread nD τ).loc main_arg0)))

theorem after_of_ends (c : Dev nD) (s : MemSt nD τ sig (Elt F)) (h : Ends [hostOps1 (F := F) c, hostOps1_1, hostOps1_2] (Done m c) c s) : After m c s := by
  obtain ⟨V, hV, hs⟩ := h
  have e (b : Ref sig .tc) (hb : b.isScoped = false) : s.mem ((c.tc : Thread nD τ).loc b)
      = StableHlo.after (hostOps1_2 (F := F)) (StableHlo.after (hostOps1_1 (F := F)) (StableHlo.after (hostOps1 (F := F) c) V)) (Proc.devRef .tc b) := by
    rw [hs b hb, List.flatten_cons, List.flatten_cons, List.flatten_cons, List.flatten_nil, List.append_nil, StableHlo.after_append, StableHlo.after_append]
  refine ⟨?_, V, hV, ?_⟩
  · rw [e main_arg0 rfl, line3, (line2 _).1, (line1 c V).1, hV.1]
  · rw [e main_v13 rfl, line3_result c _ ((line2 _).2.2.trans (line1 c V).2.2), line2_own c _ (line1 c V).2.2, (line2 _).2.1, (line1 c V).1, (line1 c V).2.1, hV.1]

/-- The exchange's run on the four chips. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1, hostOps1_2]) (fun c => main_chain c)
    (fun c => of_three (hostOps1_sub (F := F) c) (hostOps1_1_sub (F := F)) (hostOps1_2_sub (F := F)))
    (fun c => of_three (l := hostOps1 (F := F) c) (l' := hostOps1_1) (l'' := hostOps1_2) (by repeat' first | rfl | apply And.intro) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_arg m) landAt (apart parts _ _) fun _ _ => rfl))
    (ended_split xch m (extra m)) (Done m)
    (whole_end xch m main_arg0 main_v1 (by decide) (by decide) (by decide) _ (cut_arg m) landAt (apart parts _ _) (landing m) fun _ _ => rfl)
    (fun s h hs => ⟨fun c => after_of_ends m c s (h c), sem_eq_zero_of_scoped (by decide) hs⟩)

/-- The exchange runs, leaves what is sent as it was and every counter at zero; -/
theorem frame : Cert.quiescent_RsWOutChips := by
  intro m g _
  exact (θ_run defs _ _).mono (fun _ h => ⟨fun c => (h.1 c).1, h.2⟩) (run (F := Bits) m g)

/-- its reading over the extended reals too. -/
theorem frameIdeal : Cert.quiescent_RsWOutChipsIdeal := by
  intro m g _
  exact (θ_run (defs (F := Ideal)) _ _).mono (fun _ h => ⟨fun c => (h.1 c).1, h.2⟩) (run (F := Ideal) m g)

/-! ## What the reference computes -/

section Reference

open Cert.RsWOutChipsRefIdeal (S16x256x2048)
open Cert.RsWOutChipsRefIdeal.Read

/-- The reference's matrix `4 c + s` is matrix `4 s + c` of the whole. -/
theorem reference_at (X : (⟨S16x256x2048, .bf16⟩ : BufTy).Contents (Elt F)) (i k : S16x256x2048.Idx)
    (h0 : (k 0).val = 4 * ((i 0).val % 4) + (i 0).val / 4) (h1 : (k 1).val = (i 1).val) (h2 : (k 2).val = (i 2).val) : val_main_v2 (F := F) X i = X k := by
  have b0 : (i 0).val < 16 := (i 0).isLt
  have b1 : (i 1).val < 256 := (i 1).isLt
  have b2 : (i 2).val < 2048 := (i 2).isLt
  rw [val_main_v2_apply, val_main_v1_apply, val_main_v0_apply]
  have e0 : (idx_main_v2 i 0).val = (i 0).val / 4 := by show (((i 0).val * 256 + (i 1).val) * 2048 + (i 2).val) / 2097152 = _; omega
  have e1 : (idx_main_v2 i 1).val = (i 0).val % 4 := by show (((i 0).val * 256 + (i 1).val) * 2048 + (i 2).val) / 524288 % 4 = _; omega
  have e2 : (idx_main_v2 i 2).val = (i 1).val := by show (((i 0).val * 256 + (i 1).val) * 2048 + (i 2).val) / 2048 % 256 = _; omega
  have e3 : (idx_main_v2 i 3).val = (i 2).val := by show (((i 0).val * 256 + (i 1).val) * 2048 + (i 2).val) % 2048 = _; omega
  generalize idx_main_v2 i = j at *
  refine congrArg X (funext fun a => Fin.ext ?_)
  match a with
  | ⟨0, _⟩ => show ((((j 1).val * 4 + (j 0).val) * 256 + (j 2).val) * 2048 + (j 3).val) / 524288 = (k 0).val; omega
  | ⟨1, _⟩ => show ((((j 1).val * 4 + (j 0).val) * 256 + (j 2).val) * 2048 + (j 3).val) / 2048 % 256 = (k 1).val; omega
  | ⟨2, _⟩ => show ((((j 1).val * 4 + (j 0).val) * 256 + (j 2).val) * 2048 + (j 3).val) % 2048 = (k 2).val; omega

/-- Each chip's result is its block of the reference's, when what the chips send are the blocks of the whole. -/
theorem result (X : (⟨S16x256x2048, .bf16⟩ : BufTy).Contents (Elt F))
    (hX : ∀ c : Dev nD, m ((c.tc : Thread nD τ).loc main_arg0) = Layout.block ⟨3, ![4, 256, 2048]⟩ ⟨3, ![16, 256, 2048]⟩ 0 4 c X)
    (c : Dev nD) (s : MemSt nD τ sig (Elt F)) (h : After m c s) :
    s.mem ((c.tc : Thread nD τ).loc main_v13) = Layout.block ⟨3, ![4, 256, 2048]⟩ ⟨3, ![16, 256, 2048]⟩ 0 4 c (val_main_v2 (F := F) X) := by
  obtain ⟨-, V, hV, h⟩ := h
  exact h.trans (exchanged parts X _ (reference_at X) (fun c : Dev nD => m ((c.tc : Thread nD τ).loc main_arg0)) (fun c y => ⟨_, congrFun (hX c) y, rfl, rfl, rfl⟩)
    _ c (fun y => ⟨_, rfl, rfl, rfl, rfl⟩) _ (read_landed m c V hV) _ _ _)

end Reference

/-- Over the extended reals each chip ends with its block of the reference's result. -/
theorem algebraic : Cert.algebraic_RsWOutChipsIdeal_RsWOutChipsRefIdeal := by
  intro m g m' g' _ hX
  refine ⟨Cert.RsWOutChipsRefIdeal.Read.val_main_v2 (F := Ideal) (m' (((0 : Dev Cert.RsWOutChipsRefIdeal.nD).tc : Thread Cert.RsWOutChipsRefIdeal.nD Cert.RsWOutChipsRefIdeal.τ).loc Cert.RsWOutChipsRefIdeal.main_arg0)), ?_, ?_⟩
  · exact (θ_run (defs (F := Ideal)) _ _).mono (fun r h c => ⟨result m _ hX c r.2 (h.1 c), (h.1 c).1⟩) (run (F := Ideal) m g)
  · refine (θ_run Cert.RsWOutChipsRefIdeal.defs _ _).mono (fun r h => ⟨(h 0).1.trans ?_, (h 0).2⟩) (Cert.RsWOutChipsRefIdeal.Value.run (F := Ideal) m' g')
    exact Cert.RsWOutChipsRefIdeal.Read.val_main_v2_eq _

end Cert.Proof.RsWOutChips

end
-- ==== Proof.RsWInChipsClaim.lean ====
/-
  The exchange of `w_in`'s gradients among the four chips: each chip sends each of its three partners, in eight copies of 128
  rows, the slot of its own array of four that is the partner's, into its own slot of the partner's; host operations then
  write the slot that is its own into its own. The copies' proof is `Cert.Proof.Swap`'s, the rest `Cert.Proof.Chips`'s.
-/
module

public import proofs.«01_k».proof.Defs
public import proofs.«01_k».proof.Proof.Chips
public import Idealize.ShloMosaic.Lib.WordCmp
public import Idealize.ShloMosaic.Lib.StableHlo.RunRead
public import proofs.«01_k».proof.Proof.Gen.RsWInChips.Launch
public import proofs.«01_k».proof.Proof.Gen.RsWInChipsIdeal.Launch
public import proofs.«01_k».proof.Proof.Gen.RsWInChipsRefIdeal.Read

@[expose] public section

noncomputable section

namespace Cert.Proof.RsWInChips

open Cert.RsWInChips Cert.RsWInChips.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.Chips
open Cert.Proof.StackRows (stackRows stack_at stack_emb slot_fits spot)

variable {F : FTy → Type} [FloatOps F]

/-- The 1024 rows are eight times 128. -/
theorem parts : 1024 = 8 * 128 := rfl

/-- Part `q` of slot `c` of what a chip sends, and of the array its partners' land in. -/
abbrev sentRows (c : Fin 4) (q : Fin 8) : Memref sig .tc .hbm S128x2084 .bf16 := stackRows parts (Memref.whole main_arg0) squeezes_S1x128x2084_S128x2084 c q
abbrev slotRows (c : Fin 4) (q : Fin 8) : Memref sig .tc .hbm S128x2084 .bf16 := stackRows parts (Memref.whole main_v1) squeezes_S1x128x2084_S128x2084 c q

/-- The exchange: 24 semaphores for the sends, the next 24 for the receives. -/
def xch : Exchange nD sig (3 * 8) .hbm .hbm S128x2084 .bf16 where
  peer j := mate j.divNat
  peer_peer j := mate_mate j.divNat
  sem x := ⟨(if x.1 then 24 else 0) + x.2.val, by have := x.2.isLt; show _ < 56; split <;> omega⟩
  sem_inj := by decide +kernel
  isScoped x := by revert x; decide +kernel
  src c j := sentRows (mate j.divNat c) j.modNat
  dst c j := slotRows c j.modNat
  N := (slotRows 0 0).view.dmaCredit
  N_pos := View.dmaCredit_pos _ (by decide)
  hN _ _ := rfl

variable (m : (ℓ : Loc nD τ sig) → Buf (Elt F) ℓ) (R : Dev nD → sProp (Res nD τ sig (Elt F)))

set_option maxRecDepth 16384 in
set_option maxHeartbeats 4000000 in
/-- The kernel's body: the copies, the waits for the partners', those for its own. -/
theorem body (c : Dev nD) : Body (nD := nD) (τ := τ) (Val := Elt F) (defs₀ (F := F)) Variants.none (xch.dealt m R) (xch.ended m R)
    (fun d => xch.owed τ d Finset.univ) c
    (cc0_rs_w_in_chips (F := F) (Memref.whole main_arg0) (Memref.isWhole_whole _) (Memref.whole main_v1) (Memref.isWhole_whole _) cc0_scratch0 cc0_scratch1 cc0_scratch2) := by
  intro W
  unfold cc0_rs_w_in_chips k0_part34 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33
  simp only [Prog.lift, Prog.bind_op, Prog.bind_ret, Prog.pure_eq_ret, wp_deviceId]
  refine to_send xch m R fun κ => ?_
  iterate 24
    refine send_step xch m _ (by decide) (stack_at parts _ _ _ _ (by clear * -; revert c; decide +kernel) _) (stack_at parts _ _ _ _ (by clear * -; revert c; decide +kernel) _) (by clear * -; revert c; decide +kernel) rfl rfl ?_
  refine to_receive xch m R ?_
  iterate 24 refine wait_step xch m _ _ (by decide) rfl rfl ?_
  refine to_drain xch m R ?_
  iterate 24 refine wait_step xch m _ _ (by decide) rfl rfl ?_
  exact to_end xch m R _

/-! ## The arrays in parts -/

/-- The elements of what a chip sends that are copied by copy `j`, and those its partner's copy lands in. -/
abbrev sentAt (c : Dev nD) (j : Fin (3 * 8)) : Finset (Idx ((c.tc : Thread nD τ).loc main_arg0)) := (sentRows (mate j.divNat c) j.modNat).view.set
abbrev landAt (c : Dev nD) (j : Fin (3 * 8)) : Finset (Idx ((c.tc : Thread nD τ).loc main_v1)) := (slotRows (mate j.divNat c) j.modNat).view.set
/-- What the array then holds there, -/
abbrev landing (c : Dev nD) (j : Fin (3 * 8)) : Buf (Elt F) ((c.tc : Thread nD τ).loc main_v1) := xch.landed m c j
/-- and what a chip's arrays hold besides. -/
abbrev extra : Dev nD → sProp (Res nD τ sig (Elt F)) := others m main_arg0 main_v1 (left m main_arg0 sentAt) landAt

theorem cut_arg : ∀ c : Dev nD, (((c.tc : Thread nD τ).loc main_arg0 ↦{fullShare} m ((c.tc : Thread nD τ).loc main_arg0)) : sProp (Res nD τ sig (Elt F)))
    ⊣⊢ iprop(bigSep Finset.univ (xch.srcPts m c) ∗ left m main_arg0 sentAt c) :=
  cut_sent xch m main_arg0 sentAt (apart parts _ _) fun _ _ => rfl

/-- A chip's arrays when the kernel is done; -/
abbrev Done (c : Dev nD) (V : Valuation τ sig (Elt F)) : Prop := Landed m main_arg0 main_v1 landAt (landing m) c V

/-- each partner's slot reads as that partner's slot of the chip's number. -/
theorem read_landed (c : Dev nD) (V : Valuation τ sig (Elt F)) (hV : Done m c V) (j : Fin (3 * 8)) (x : S128x2084.Idx) :
    (V (Proc.devRef .tc main_v1) : (⟨S4x1024x2084, .bf16⟩ : BufTy).Contents (Elt F)) (spot parts (mate j.divNat c) j.modNat x)
      = (m ((Dev.tc (nD := nD) (mate j.divNat c) : Thread nD τ).loc main_arg0) : (⟨S4x1024x2084, .bf16⟩ : BufTy).Contents (Elt F)) (spot parts c j.modNat x) := by
  have e : (slotRows (mate j.divNat c) j.modNat).view.read (Elt F) (V (Proc.devRef .tc main_v1)) x
    = (sentRows (mate j.divNat (mate j.divNat c)) j.modNat).view.read (Elt F) (m ((Dev.tc (nD := nD) (mate j.divNat c) : Thread nD τ).loc main_arg0)) x :=
    congrFun (xch.read_landed m c j _ (hV.2 j)) x
  rw [mate_mate, View.read_apply, View.read_apply, stack_emb, stack_emb] at e
  exact e

/-! ## The host operations after the kernel -/

/-- The slot they write to, as they compute it from the device's number. -/
def ownIndex (c : Dev nD) : (⟨S_, .i32⟩ : BufTy).Contents (Elt F) :=
  addi (muli (constantI S_ 32 2#32) (id (Host.remui (Host.divui (constantI S_ 32 (Dev.word c)) (constantI S_ 32 2#32)) (constantI S_ 32 2#32))))
    (id (Host.remui (Host.divui (constantI S_ 32 (Dev.word c)) (constantI S_ 32 1#32)) (constantI S_ 32 2#32)))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v11) = ownIndex (F := F) c := by
  refine ⟨?_, ?_, ?_⟩ <;> after_reads_simp; rfl
theorem line2 (V : Valuation τ sig (Elt F)) : StableHlo.after (hostOps1_1 (F := F)) V (Proc.devRef .tc main_arg0) = V (Proc.devRef .tc main_arg0)
    ∧ StableHlo.after (hostOps1_1 (F := F)) V (Proc.devRef .tc main_v1) = V (Proc.devRef .tc main_v1)
    ∧ StableHlo.after (hostOps1_1 (F := F)) V (Proc.devRef .tc main_v11) = V (Proc.devRef .tc main_v11) := by
  refine ⟨?_, ?_, ?_⟩ <;> after_reads_simp
theorem line3 (V : Valuation τ sig (Elt F)) : StableHlo.after (hostOps1_2 (F := F)) V (Proc.devRef .tc main_arg0) = V (Proc.devRef .tc main_arg0) := by
  after_reads_simp

/-- The slot of what is sent that is the chip's own. -/
abbrev own (c : Dev nD) (f : (⟨S4x1024x2084, .bf16⟩ : BufTy).Contents (Elt F)) : (⟨S1024x2084, .bf16⟩ : BufTy).Contents (Elt F) :=
  shapeCast S1024x2084 (extractStridedSlice S1x1024x2084 ![c.val, 0, 0] f (slot_fits c)) shapeCasts_S1x1024x2084_S1024x2084
/-- An array of slots with the chip's own written. -/
abbrev put (c : Dev nD) (f : (⟨S4x1024x2084, .bf16⟩ : BufTy).Contents (Elt F)) (u : (⟨S1024x2084, .bf16⟩ : BufTy).Contents (Elt F)) : (⟨S4x1024x2084, .bf16⟩ : BufTy).Contents (Elt F) :=
  updateSlice f (broadcastInDim S1x1024x2084 ![1, 2] bcast_S1024x2084_S1x1024x2084_1_2 u) ![c.val, 0, 0] (slot_fits c)

set_option maxHeartbeats 2000000 in
theorem line2_own (c : Dev nD) (V : Valuation τ sig (Elt F)) (h : V (Proc.devRef .tc main_v11) = ownIndex (F := F) c) :
    StableHlo.after (hostOps1_1 (F := F)) V (Proc.devRef .tc main_v12) = own c (V (Proc.devRef .tc main_arg0)) := by
  after_reads_simp
  simp only [StableHlo.TRef.ofBuf, StableHlo.TRef.toBuf, cast_eq]
  refine congrArg (fun z => shapeCast S1024x2084 z shapeCasts_S1x1024x2084_S1024x2084) (WordCmp.dynamicSlice_eq_extract _ _ _ _ _ _ fun k => ?_)
  match k with
  | 0 =>
    show BitVec.toInt (StableHlo.upto _ V 7 (Proc.devRef .tc main_call0_v2) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 7 (Proc.devRef .tc main_call0_c_1) _) = _
    after_reads_simp
    rfl
  | 2 =>
    show BitVec.toInt (StableHlo.upto _ V 7 (Proc.devRef .tc main_call0_c_2) _) = _
    after_reads_simp
    rfl

set_option maxHeartbeats 2000000 in
theorem line3_result (c : Dev nD) (V : Valuation τ sig (Elt F)) (h : V (Proc.devRef .tc main_v11) = ownIndex (F := F) c) :
    StableHlo.after (hostOps1_2 (F := F)) V (Proc.devRef .tc main_v13) = put c (V (Proc.devRef .tc main_v1)) (V (Proc.devRef .tc main_v12)) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call1_v3) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 8 (Proc.devRef .tc main_call1_c_1) _) = _
    after_reads_simp
    rfl
  | 2 =>
    show BitVec.toInt (StableHlo.upto _ V 8 (Proc.devRef .tc main_call1_c_2) _) = _
    after_reads_simp
    rfl

/-- A chip's memory at the end: what it sends as at launch, the result what landed and its own. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v13) = put c (V (Proc.devRef .tc main_v1)) (own c (m ((c.tc : Thread nD τ).loc main_arg0)))

theorem after_of_ends (c : Dev nD) (s : MemSt nD τ sig (Elt F)) (h : Ends [hostOps1 (F := F) c, hostOps1_1, hostOps1_2] (Done m c) c s) : After m c s := by
  obtain ⟨V, hV, hs⟩ := h
  have e (b : Ref sig .tc) (hb : b.isScoped = false) : s.mem ((c.tc : Thread nD τ).loc b)
      = StableHlo.after (hostOps1_2 (F := F)) (StableHlo.after (hostOps1_1 (F := F)) (StableHlo.after (hostOps1 (F := F) c) V)) (Proc.devRef .tc b) := by
    rw [hs b hb, List.flatten_cons, List.flatten_cons, List.flatten_cons, List.flatten_nil, List.append_nil, StableHlo.after_append, StableHlo.after_append]
  refine ⟨?_, V, hV, ?_⟩
  · rw [e main_arg0 rfl, line3, (line2 _).1, (line1 c V).1, hV.1]
  · rw [e main_v13 rfl, line3_result c _ ((line2 _).2.2.trans (line1 c V).2.2), line2_own c _ (line1 c V).2.2, (line2 _).2.1, (line1 c V).1, (line1 c V).2.1, hV.1]

/-- The exchange's run on the four chips. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1, hostOps1_2]) (fun c => main_chain c)
    (fun c => of_three (hostOps1_sub (F := F) c) (hostOps1_1_sub (F := F)) (hostOps1_2_sub (F := F)))
    (fun c => of_three (l := hostOps1 (F := F) c) (l' := hostOps1_1) (l'' := hostOps1_2) (by repeat' first | rfl | apply And.intro) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_arg m) landAt (apart parts _ _) fun _ _ => rfl))
    (ended_split xch m (extra m)) (Done m)
    (whole_end xch m main_arg0 main_v1 (by decide) (by decide) (by decide) _ (cut_arg m) landAt (apart parts _ _) (landing m) fun _ _ => rfl)
    (fun s h hs => ⟨fun c => after_of_ends m c s (h c), sem_eq_zero_of_scoped (by decide) hs⟩)

/-- The exchange runs, leaves what is sent as it was and every counter at zero; -/
theorem frame : Cert.quiescent_RsWInChips := by
  intro m g _
  exact (θ_run defs _ _).mono (fun _ h => ⟨fun c => (h.1 c).1, h.2⟩) (run (F := Bits) m g)

/-- its reading over the extended reals too. -/
theorem frameIdeal : Cert.quiescent_RsWInChipsIdeal := by
  intro m g _
  exact (θ_run (defs (F := Ideal)) _ _).mono (fun _ h => ⟨fun c => (h.1 c).1, h.2⟩) (run (F := Ideal) m g)

/-! ## What the reference computes -/

section Reference

open Cert.RsWInChipsRefIdeal (S16x1024x2084)
open Cert.RsWInChipsRefIdeal.Read

/-- The reference's matrix `4 c + s` is matrix `4 s + c` of the whole. -/
theorem reference_at (X : (⟨S16x1024x2084, .bf16⟩ : BufTy).Contents (Elt F)) (i k : S16x1024x2084.Idx)
    (h0 : (k 0).val = 4 * ((i 0).val % 4) + (i 0).val / 4) (h1 : (k 1).val = (i 1).val) (h2 : (k 2).val = (i 2).val) : val_main_v2 (F := F) X i = X k := by
  have b0 : (i 0).val < 16 := (i 0).isLt
  have b1 : (i 1).val < 1024 := (i 1).isLt
  have b2 : (i 2).val < 2084 := (i 2).isLt
  rw [val_main_v2_apply, val_main_v1_apply, val_main_v0_apply]
  have e0 : (idx_main_v2 i 0).val = (i 0).val / 4 := by show (((i 0).val * 1024 + (i 1).val) * 2084 + (i 2).val) / 8536064 = _; omega
  have e1 : (idx_main_v2 i 1).val = (i 0).val % 4 := by show (((i 0).val * 1024 + (i 1).val) * 2084 + (i 2).val) / 2134016 % 4 = _; omega
  have e2 : (idx_main_v2 i 2).val = (i 1).val := by show (((i 0).val * 1024 + (i 1).val) * 2084 + (i 2).val) / 2084 % 1024 = _; omega
  have e3 : (idx_main_v2 i 3).val = (i 2).val := by show (((i 0).val * 1024 + (i 1).val) * 2084 + (i 2).val) % 2084 = _; omega
  generalize idx_main_v2 i = j at *
  refine congrArg X (funext fun a => Fin.ext ?_)
  match a with
  | ⟨0, _⟩ => show ((((j 1).val * 4 + (j 0).val) * 1024 + (j 2).val) * 2084 + (j 3).val) / 2134016 = (k 0).val; omega
  | ⟨1, _⟩ => show ((((j 1).val * 4 + (j 0).val) * 1024 + (j 2).val) * 2084 + (j 3).val) / 2084 % 1024 = (k 1).val; omega
  | ⟨2, _⟩ => show ((((j 1).val * 4 + (j 0).val) * 1024 + (j 2).val) * 2084 + (j 3).val) % 2084 = (k 2).val; omega

/-- Each chip's result is its block of the reference's, when what the chips send are the blocks of the whole. -/
theorem result (X : (⟨S16x1024x2084, .bf16⟩ : BufTy).Contents (Elt F))
    (hX : ∀ c : Dev nD, m ((c.tc : Thread nD τ).loc main_arg0) = Layout.block ⟨3, ![4, 1024, 2084]⟩ ⟨3, ![16, 1024, 2084]⟩ 0 4 c X)
    (c : Dev nD) (s : MemSt nD τ sig (Elt F)) (h : After m c s) :
    s.mem ((c.tc : Thread nD τ).loc main_v13) = Layout.block ⟨3, ![4, 1024, 2084]⟩ ⟨3, ![16, 1024, 2084]⟩ 0 4 c (val_main_v2 (F := F) X) := by
  obtain ⟨-, V, hV, h⟩ := h
  exact h.trans (exchanged parts X _ (reference_at X) (fun c : Dev nD => m ((c.tc : Thread nD τ).loc main_arg0)) (fun c y => ⟨_, congrFun (hX c) y, rfl, rfl, rfl⟩)
    _ c (fun y => ⟨_, rfl, rfl, rfl, rfl⟩) _ (read_landed m c V hV) _ _ _)

end Reference

/-- Over the extended reals each chip ends with its block of the reference's result. -/
theorem algebraic : Cert.algebraic_RsWInChipsIdeal_RsWInChipsRefIdeal := by
  intro m g m' g' _ hX
  refine ⟨Cert.RsWInChipsRefIdeal.Read.val_main_v2 (F := Ideal) (m' (((0 : Dev Cert.RsWInChipsRefIdeal.nD).tc : Thread Cert.RsWInChipsRefIdeal.nD Cert.RsWInChipsRefIdeal.τ).loc Cert.RsWInChipsRefIdeal.main_arg0)), ?_, ?_⟩
  · exact (θ_run (defs (F := Ideal)) _ _).mono (fun r h c => ⟨result m _ hX c r.2 (h.1 c), (h.1 c).1⟩) (run (F := Ideal) m g)
  · refine (θ_run Cert.RsWInChipsRefIdeal.defs _ _).mono (fun r h => ⟨(h 0).1.trans ?_, (h 0).2⟩) (Cert.RsWInChipsRefIdeal.Value.run (F := Ideal) m' g')
    exact Cert.RsWInChipsRefIdeal.Read.val_main_v2_eq _

end Cert.Proof.RsWInChips

end
-- ==== Proof.GatherWOutChipsClaim.lean ====
/-
  The gathering of `w_out`'s shards among the four chips: each chip sends each of its three partners its own rows, in eight
  copies of 32, into its own slot of the partner's array of four; host operations then write its own rows into its own. The
  copies' proof is `Cert.Proof.Swap`'s, the rest `Cert.Proof.Chips`'s.
-/
module

public import proofs.«01_k».proof.Defs
public import proofs.«01_k».proof.Proof.Chips
public import Idealize.ShloMosaic.Lib.WordCmp
public import Idealize.ShloMosaic.Lib.StableHlo.RunRead
public import proofs.«01_k».proof.Proof.Gen.GatherWOutChips.Launch
public import proofs.«01_k».proof.Proof.Gen.GatherWOutChipsIdeal.Launch
public import proofs.«01_k».proof.Proof.Gen.GatherWOutChipsRefIdeal.Read

@[expose] public section

noncomputable section

namespace Cert.Proof.GatherWOutChips

open Cert.GatherWOutChips Cert.GatherWOutChips.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.Chips
open Cert.Proof.StackRows (stackRows sent_at sent_emb sent_disjoint stack_at stack_emb slot_fits spot row)

variable {F : FTy → Type} [FloatOps F]

/-- The 256 rows are eight times 32. -/
theorem parts : 256 = 8 * 32 := rfl

/-- Part `q` of what a chip sends, and of slot `c` of the array its partners' land in. -/
abbrev sentRows (q : Fin 8) : Memref sig .tc .hbm S32x2048 .bf16 := StackRows.sentRows parts (Memref.whole main_arg0) q
abbrev slotRows (c : Fin 4) (q : Fin 8) : Memref sig .tc .hbm S32x2048 .bf16 := stackRows parts (Memref.whole main_v1) squeezes_S1x32x2048_S32x2048 c q

/-- The exchange: 24 semaphores for the sends, the next 24 for the receives. -/
def xch : Exchange nD sig (3 * 8) .hbm .hbm S32x2048 .bf16 where
  peer j := mate j.divNat
  peer_peer j := mate_mate j.divNat
  sem x := ⟨(if x.1 then 24 else 0) + x.2.val, by have := x.2.isLt; show _ < 56; split <;> omega⟩
  sem_inj := by decide +kernel
  isScoped x := by revert x; decide +kernel
  src _ j := sentRows j.modNat
  dst c j := slotRows c j.modNat
  N := (slotRows 0 0).view.dmaCredit
  N_pos := View.dmaCredit_pos _ (by decide)
  hN _ _ := rfl
  share j := third j.divNat

variable (m : (ℓ : Loc nD τ sig) → Buf (Elt F) ℓ) (R : Dev nD → sProp (Res nD τ sig (Elt F)))

set_option maxRecDepth 16384 in
set_option maxHeartbeats 4000000 in
/-- The kernel's body: the copies, the waits for the partners', those for its own. -/
theorem body (c : Dev nD) : Body (nD := nD) (τ := τ) (Val := Elt F) (defs₀ (F := F)) Variants.none (xch.dealt m R) (xch.ended m R)
    (fun d => xch.owed τ d Finset.univ) c
    (cc0_gather_w_out_chips (F := F) (Memref.whole main_arg0) (Memref.isWhole_whole _) (Memref.whole main_v1) (Memref.isWhole_whole _) cc0_scratch0 cc0_scratch1 cc0_scratch2) := by
  intro W
  unfold cc0_gather_w_out_chips k0_part29 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28
  simp only [Prog.lift, Prog.bind_op, Prog.bind_ret, Prog.pure_eq_ret, wp_deviceId]
  refine to_send xch m R fun κ => ?_
  iterate 24
    refine send_step xch m _ (by decide) (sent_at parts _ _ (by exact rfl) _) (stack_at parts _ _ _ _ (by clear * -; revert c; decide +kernel) _) (by clear * -; revert c; decide +kernel) rfl rfl ?_
  refine to_receive xch m R ?_
  iterate 24 refine wait_step xch m _ _ (by decide) rfl rfl ?_
  refine to_drain xch m R ?_
  iterate 24 refine wait_step xch m _ _ (by decide) rfl rfl ?_
  exact to_end xch m R _

/-! ## The arrays in parts -/

/-- The elements of what a chip sends that are part `q`, and those its partner's copy `j` lands in. -/
abbrev sentAt (c : Dev nD) (q : Fin 8) : Finset (Idx ((c.tc : Thread nD τ).loc main_arg0)) := (sentRows q).view.set
abbrev landAt (c : Dev nD) (j : Fin (3 * 8)) : Finset (Idx ((c.tc : Thread nD τ).loc main_v1)) := (slotRows (mate j.divNat c) j.modNat).view.set
/-- What the array then holds there, -/
abbrev landing (c : Dev nD) (j : Fin (3 * 8)) : Buf (Elt F) ((c.tc : Thread nD τ).loc main_v1) := xch.landed m c j
/-- and what a chip's arrays hold besides. -/
abbrev extra : Dev nD → sProp (Res nD τ sig (Elt F)) := others m main_arg0 main_v1 (left m main_arg0 sentAt) landAt

theorem cut_arg : ∀ c : Dev nD, (((c.tc : Thread nD τ).loc main_arg0 ↦{fullShare} m ((c.tc : Thread nD τ).loc main_arg0)) : sProp (Res nD τ sig (Elt F)))
    ⊣⊢ iprop(bigSep Finset.univ (xch.srcPts m c) ∗ left m main_arg0 sentAt c) :=
  fun c => cut_thirds (sentAt c) (sent_disjoint parts _) _

/-- A chip's arrays when the kernel is done; -/
abbrev Done (c : Dev nD) (V : Valuation τ sig (Elt F)) : Prop := Landed m main_arg0 main_v1 landAt (landing m) c V

/-- each partner's slot reads as that partner's rows. -/
theorem read_landed (c : Dev nD) (V : Valuation τ sig (Elt F)) (hV : Done m c V) (j : Fin (3 * 8)) (x : S32x2048.Idx) :
    (V (Proc.devRef .tc main_v1) : (⟨S4x256x2048, .bf16⟩ : BufTy).Contents (Elt F)) (spot parts (mate j.divNat c) j.modNat x)
      = (m ((Dev.tc (nD := nD) (mate j.divNat c) : Thread nD τ).loc main_arg0) : (⟨S256x2048, .bf16⟩ : BufTy).Contents (Elt F)) (row parts j.modNat x) := by
  have e : (slotRows (mate j.divNat c) j.modNat).view.read (Elt F) (V (Proc.devRef .tc main_v1)) x
    = (sentRows j.modNat).view.read (Elt F) (m ((Dev.tc (nD := nD) (mate j.divNat c) : Thread nD τ).loc main_arg0)) x :=
    congrFun (xch.read_landed m c j _ (hV.2 j)) x
  rw [View.read_apply, View.read_apply, stack_emb, sent_emb] at e
  exact e

/-! ## The host operations after the kernel -/

/-- The slot they write to, as they compute it from the device's number. -/
def ownIndex (c : Dev nD) : (⟨S_, .i32⟩ : BufTy).Contents (Elt F) :=
  addi (muli (constantI S_ 32 2#32) (id (Host.remui (Host.divui (constantI S_ 32 (Dev.word c)) (constantI S_ 32 2#32)) (constantI S_ 32 2#32))))
    (id (Host.remui (Host.divui (constantI S_ 32 (Dev.word c)) (constantI S_ 32 1#32)) (constantI S_ 32 2#32)))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v11) = ownIndex (F := F) c := by
  refine ⟨?_, ?_, ?_⟩ <;> after_reads_simp; rfl
theorem line2 (V : Valuation τ sig (Elt F)) : StableHlo.after (hostOps1_1 (F := F)) V (Proc.devRef .tc main_arg0) = V (Proc.devRef .tc main_arg0) := by
  after_reads_simp

/-- An array of slots with the chip's own written. -/
abbrev put (c : Dev nD) (f : (⟨S4x256x2048, .bf16⟩ : BufTy).Contents (Elt F)) (u : (⟨S256x2048, .bf16⟩ : BufTy).Contents (Elt F)) : (⟨S4x256x2048, .bf16⟩ : BufTy).Contents (Elt F) :=
  updateSlice f (broadcastInDim S1x256x2048 ![1, 2] bcast_S256x2048_S1x256x2048_1_2 u) ![c.val, 0, 0] (slot_fits c)

set_option maxHeartbeats 2000000 in
theorem line2_result (c : Dev nD) (V : Valuation τ sig (Elt F)) (h : V (Proc.devRef .tc main_v11) = ownIndex (F := F) c) :
    StableHlo.after (hostOps1_1 (F := F)) V (Proc.devRef .tc main_v12) = put c (V (Proc.devRef .tc main_v1)) (V (Proc.devRef .tc main_arg0)) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call0_v3) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 8 (Proc.devRef .tc main_call0_c_1) _) = _
    after_reads_simp
    rfl
  | 2 =>
    show BitVec.toInt (StableHlo.upto _ V 8 (Proc.devRef .tc main_call0_c_2) _) = _
    after_reads_simp
    rfl

/-- A chip's memory at the end: what it sends as at launch, the result what landed and its own. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v12) = put c (V (Proc.devRef .tc main_v1)) (m ((c.tc : Thread nD τ).loc main_arg0))

theorem after_of_ends (c : Dev nD) (s : MemSt nD τ sig (Elt F)) (h : Ends [hostOps1 (F := F) c, hostOps1_1] (Done m c) c s) : After m c s := by
  obtain ⟨V, hV, hs⟩ := h
  have e (b : Ref sig .tc) (hb : b.isScoped = false) : s.mem ((c.tc : Thread nD τ).loc b)
      = StableHlo.after (hostOps1_1 (F := F)) (StableHlo.after (hostOps1 (F := F) c) V) (Proc.devRef .tc b) := by
    rw [hs b hb, List.flatten_cons, List.flatten_cons, List.flatten_nil, List.append_nil, StableHlo.after_append]
  refine ⟨?_, V, hV, ?_⟩
  · rw [e main_arg0 rfl, line2, (line1 c V).1, hV.1]
  · rw [e main_v12 rfl, line2_result c _ (line1 c V).2.2, (line1 c V).1, (line1 c V).2.1, hV.1]

/-- The exchange's run on the four chips. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1]) (fun c => main_chain c)
    (fun c => of_both (hostOps1_sub (F := F) c) (hostOps1_1_sub (F := F)))
    (fun c => of_both (l := hostOps1 (F := F) c) (l' := hostOps1_1) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_arg m) landAt (apart parts _ _) fun _ _ => rfl))
    (ended_split xch m (extra m)) (Done m)
    (whole_end xch m main_arg0 main_v1 (by decide) (by decide) (by decide) _ (cut_arg m) landAt (apart parts _ _) (landing m) fun _ _ => rfl)
    (fun s h hs => ⟨fun c => after_of_ends m c s (h c), sem_eq_zero_of_scoped (by decide) hs⟩)

/-- The exchange runs, leaves what is sent as it was and every counter at zero; -/
theorem frame : Cert.quiescent_GatherWOutChips := by
  intro m g _
  exact (θ_run defs _ _).mono (fun _ h => ⟨fun c => (h.1 c).1, h.2⟩) (run (F := Bits) m g)

/-- its reading over the extended reals too. -/
theorem frameIdeal : Cert.quiescent_GatherWOutChipsIdeal := by
  intro m g _
  exact (θ_run (defs (F := Ideal)) _ _).mono (fun _ h => ⟨fun c => (h.1 c).1, h.2⟩) (run (F := Ideal) m g)

/-! ## What the reference computes -/

section Reference

open Cert.GatherWOutChipsRefIdeal (S1024x2048)
open Cert.GatherWOutChipsRefIdeal.Read

/-- The reference's slot `s` is the rows `256 s …` of the whole. -/
theorem reference_at (X : (⟨S1024x2048, .bf16⟩ : BufTy).Contents (Elt F)) (i : S4x256x2048.Idx) (k : S1024x2048.Idx)
    (h0 : (k 0).val = (i 0).val * 256 + (i 1).val) (h1 : (k 1).val = (i 2).val) : val_main_v0 (F := F) X i = X k := by
  have b2 : (i 2).val < 2048 := (i 2).isLt
  rw [val_main_v0_apply]
  refine congrArg X (funext fun a => Fin.ext ?_)
  match a with
  | ⟨0, _⟩ => show (((i 0).val * 256 + (i 1).val) * 2048 + (i 2).val) / 2048 = (k 0).val; omega
  | ⟨1, _⟩ => show (((i 0).val * 256 + (i 1).val) * 2048 + (i 2).val) % 2048 = (k 1).val; omega

/-- Each chip's result is the reference's, when what the chips send are the blocks of the whole. -/
theorem result (X : (⟨S1024x2048, .bf16⟩ : BufTy).Contents (Elt F))
    (hX : ∀ c : Dev nD, m ((c.tc : Thread nD τ).loc main_arg0) = Layout.block ⟨2, ![256, 2048]⟩ ⟨2, ![1024, 2048]⟩ 0 4 c X)
    (c : Dev nD) (s : MemSt nD τ sig (Elt F)) (h : After m c s) : s.mem ((c.tc : Thread nD τ).loc main_v12) = val_main_v0 (F := F) X := by
  obtain ⟨-, V, hV, h⟩ := h
  exact h.trans (gathered parts X _ (reference_at X) (fun c : Dev nD => m ((c.tc : Thread nD τ).loc main_arg0)) (fun c y => ⟨_, congrFun (hX c) y, rfl, rfl⟩)
    c _ (read_landed m c V hV) _)

end Reference

/-- Over the extended reals each chip ends with the reference's result. -/
theorem algebraic : Cert.algebraic_GatherWOutChipsIdeal_GatherWOutChipsRefIdeal := by
  intro m g m' g' _ hX
  refine ⟨Cert.GatherWOutChipsRefIdeal.Read.val_main_v0 (F := Ideal) (m' (((0 : Dev Cert.GatherWOutChipsRefIdeal.nD).tc : Thread Cert.GatherWOutChipsRefIdeal.nD Cert.GatherWOutChipsRefIdeal.τ).loc Cert.GatherWOutChipsRefIdeal.main_arg0)), ?_, ?_⟩
  · exact (θ_run (defs (F := Ideal)) _ _).mono (fun r h c => ⟨result m _ hX c r.2 (h.1 c), (h.1 c).1⟩) (run (F := Ideal) m g)
  · refine (θ_run Cert.GatherWOutChipsRefIdeal.defs _ _).mono (fun r h => ⟨(h 0).1.trans ?_, (h 0).2⟩) (Cert.GatherWOutChipsRefIdeal.Value.run (F := Ideal) m' g')
    exact Cert.GatherWOutChipsRefIdeal.Read.val_main_v0_eq _

end Cert.Proof.GatherWOutChips

end
-- ==== Proof.GatherWInChipsClaim.lean ====
/-
  The gathering of `w_in`'s shards among the four chips: each chip sends each of its three partners its own rows, in eight
  copies of 128, into its own slot of the partner's array of four; host operations then write its own rows into its own. The
  copies' proof is `Cert.Proof.Swap`'s, the rest `Cert.Proof.Chips`'s.
-/
module

public import proofs.«01_k».proof.Defs
public import proofs.«01_k».proof.Proof.Chips
public import Idealize.ShloMosaic.Lib.WordCmp
public import Idealize.ShloMosaic.Lib.StableHlo.RunRead
public import proofs.«01_k».proof.Proof.Gen.GatherWInChips.Launch
public import proofs.«01_k».proof.Proof.Gen.GatherWInChipsIdeal.Launch
public import proofs.«01_k».proof.Proof.Gen.GatherWInChipsRefIdeal.Read

@[expose] public section

noncomputable section

namespace Cert.Proof.GatherWInChips

open Cert.GatherWInChips Cert.GatherWInChips.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.Chips
open Cert.Proof.StackRows (stackRows sent_at sent_emb sent_disjoint stack_at stack_emb slot_fits spot row)

variable {F : FTy → Type} [FloatOps F]

/-- The 1024 rows are eight times 128. -/
theorem parts : 1024 = 8 * 128 := rfl

/-- Part `q` of what a chip sends, and of slot `c` of the array its partners' land in. -/
abbrev sentRows (q : Fin 8) : Memref sig .tc .hbm S128x2084 .bf16 := StackRows.sentRows parts (Memref.whole main_arg0) q
abbrev slotRows (c : Fin 4) (q : Fin 8) : Memref sig .tc .hbm S128x2084 .bf16 := stackRows parts (Memref.whole main_v1) squeezes_S1x128x2084_S128x2084 c q

/-- The exchange: 24 semaphores for the sends, the next 24 for the receives. -/
def xch : Exchange nD sig (3 * 8) .hbm .hbm S128x2084 .bf16 where
  peer j := mate j.divNat
  peer_peer j := mate_mate j.divNat
  sem x := ⟨(if x.1 then 24 else 0) + x.2.val, by have := x.2.isLt; show _ < 56; split <;> omega⟩
  sem_inj := by decide +kernel
  isScoped x := by revert x; decide +kernel
  src _ j := sentRows j.modNat
  dst c j := slotRows c j.modNat
  N := (slotRows 0 0).view.dmaCredit
  N_pos := View.dmaCredit_pos _ (by decide)
  hN _ _ := rfl
  share j := third j.divNat

variable (m : (ℓ : Loc nD τ sig) → Buf (Elt F) ℓ) (R : Dev nD → sProp (Res nD τ sig (Elt F)))

set_option maxRecDepth 16384 in
set_option maxHeartbeats 4000000 in
/-- The kernel's body: the copies, the waits for the partners', those for its own. -/
theorem body (c : Dev nD) : Body (nD := nD) (τ := τ) (Val := Elt F) (defs₀ (F := F)) Variants.none (xch.dealt m R) (xch.ended m R)
    (fun d => xch.owed τ d Finset.univ) c
    (cc0_gather_w_in_chips (F := F) (Memref.whole main_arg0) (Memref.isWhole_whole _) (Memref.whole main_v1) (Memref.isWhole_whole _) cc0_scratch0 cc0_scratch1 cc0_scratch2) := by
  intro W
  unfold cc0_gather_w_in_chips k0_part29 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28
  simp only [Prog.lift, Prog.bind_op, Prog.bind_ret, Prog.pure_eq_ret, wp_deviceId]
  refine to_send xch m R fun κ => ?_
  iterate 24
    refine send_step xch m _ (by decide) (sent_at parts _ _ (by exact rfl) _) (stack_at parts _ _ _ _ (by clear * -; revert c; decide +kernel) _) (by clear * -; revert c; decide +kernel) rfl rfl ?_
  refine to_receive xch m R ?_
  iterate 24 refine wait_step xch m _ _ (by decide) rfl rfl ?_
  refine to_drain xch m R ?_
  iterate 24 refine wait_step xch m _ _ (by decide) rfl rfl ?_
  exact to_end xch m R _

/-! ## The arrays in parts -/

/-- The elements of what a chip sends that are part `q`, and those its partner's copy `j` lands in. -/
abbrev sentAt (c : Dev nD) (q : Fin 8) : Finset (Idx ((c.tc : Thread nD τ).loc main_arg0)) := (sentRows q).view.set
abbrev landAt (c : Dev nD) (j : Fin (3 * 8)) : Finset (Idx ((c.tc : Thread nD τ).loc main_v1)) := (slotRows (mate j.divNat c) j.modNat).view.set
/-- What the array then holds there, -/
abbrev landing (c : Dev nD) (j : Fin (3 * 8)) : Buf (Elt F) ((c.tc : Thread nD τ).loc main_v1) := xch.landed m c j
/-- and what a chip's arrays hold besides. -/
abbrev extra : Dev nD → sProp (Res nD τ sig (Elt F)) := others m main_arg0 main_v1 (left m main_arg0 sentAt) landAt

theorem cut_arg : ∀ c : Dev nD, (((c.tc : Thread nD τ).loc main_arg0 ↦{fullShare} m ((c.tc : Thread nD τ).loc main_arg0)) : sProp (Res nD τ sig (Elt F)))
    ⊣⊢ iprop(bigSep Finset.univ (xch.srcPts m c) ∗ left m main_arg0 sentAt c) :=
  fun c => cut_thirds (sentAt c) (sent_disjoint parts _) _

/-- A chip's arrays when the kernel is done; -/
abbrev Done (c : Dev nD) (V : Valuation τ sig (Elt F)) : Prop := Landed m main_arg0 main_v1 landAt (landing m) c V

/-- each partner's slot reads as that partner's rows. -/
theorem read_landed (c : Dev nD) (V : Valuation τ sig (Elt F)) (hV : Done m c V) (j : Fin (3 * 8)) (x : S128x2084.Idx) :
    (V (Proc.devRef .tc main_v1) : (⟨S4x1024x2084, .bf16⟩ : BufTy).Contents (Elt F)) (spot parts (mate j.divNat c) j.modNat x)
      = (m ((Dev.tc (nD := nD) (mate j.divNat c) : Thread nD τ).loc main_arg0) : (⟨S1024x2084, .bf16⟩ : BufTy).Contents (Elt F)) (row parts j.modNat x) := by
  have e : (slotRows (mate j.divNat c) j.modNat).view.read (Elt F) (V (Proc.devRef .tc main_v1)) x
    = (sentRows j.modNat).view.read (Elt F) (m ((Dev.tc (nD := nD) (mate j.divNat c) : Thread nD τ).loc main_arg0)) x :=
    congrFun (xch.read_landed m c j _ (hV.2 j)) x
  rw [View.read_apply, View.read_apply, stack_emb, sent_emb] at e
  exact e

/-! ## The host operations after the kernel -/

/-- The slot they write to, as they compute it from the device's number. -/
def ownIndex (c : Dev nD) : (⟨S_, .i32⟩ : BufTy).Contents (Elt F) :=
  addi (muli (constantI S_ 32 2#32) (id (Host.remui (Host.divui (constantI S_ 32 (Dev.word c)) (constantI S_ 32 2#32)) (constantI S_ 32 2#32))))
    (id (Host.remui (Host.divui (constantI S_ 32 (Dev.word c)) (constantI S_ 32 1#32)) (constantI S_ 32 2#32)))

theorem line1 (c : Dev nD) (V : Valuation τ sig (Elt F)) : StableHlo.after (hostOps1 (F := F) c) V (Proc.devRef .tc main_arg0) = V (Proc.devRef .tc main_arg0)
    ∧ StableHlo.after (hostOps1 (F := F) c) V (Proc.devRef .tc main_v1) = V (Proc.devRef .tc main_v1)
    ∧ StableHlo.after (hostOps1 (F := F) c) V (Proc.devRef .tc main_v11) = ownIndex (F := F) c := by
  refine ⟨?_, ?_, ?_⟩ <;> after_reads_simp; rfl
theorem line2 (V : Valuation τ sig (Elt F)) : StableHlo.after (hostOps1_1 (F := F)) V (Proc.devRef .tc main_arg0) = V (Proc.devRef .tc main_arg0) := by
  after_reads_simp

/-- An array of slots with the chip's own written. -/
abbrev put (c : Dev nD) (f : (⟨S4x1024x2084, .bf16⟩ : BufTy).Contents (Elt F)) (u : (⟨S1024x2084, .bf16⟩ : BufTy).Contents (Elt F)) : (⟨S4x1024x2084, .bf16⟩ : BufTy).Contents (Elt F) :=
  updateSlice f (broadcastInDim S1x1024x2084 ![1, 2] bcast_S1024x2084_S1x1024x2084_1_2 u) ![c.val, 0, 0] (slot_fits c)

set_option maxHeartbeats 2000000 in
theorem line2_result (c : Dev nD) (V : Valuation τ sig (Elt F)) (h : V (Proc.devRef .tc main_v11) = ownIndex (F := F) c) :
    StableHlo.after (hostOps1_1 (F := F)) V (Proc.devRef .tc main_v12) = put c (V (Proc.devRef .tc main_v1)) (V (Proc.devRef .tc main_arg0)) := by
  after_reads_simp
  simp only [StableHlo.TRef.ofBuf_toBuf]
  simp only [StableHlo.TRef.ofBuf, StableHlo.TRef.toBuf, cast_eq]
  refine WordCmp.dynamicUpdateSlice_eq_update _ _ _ _ _ _ fun k => ?_
  match k with
  | 0 =>
    show BitVec.toInt (StableHlo.upto _ V 8 (Proc.devRef .tc main_call0_v3) _) = _
    after_reads_simp
    simp only [StableHlo.TRef.ofBuf_toBuf]
    simp only [StableHlo.TRef.ofBuf, StableHlo.TRef.toBuf, cast_eq]
    rw [h]
    clear h
    match c with
    | 0 | 1 | 2 | 3 => rfl
  | 1 =>
    show BitVec.toInt (StableHlo.upto _ V 8 (Proc.devRef .tc main_call0_c_1) _) = _
    after_reads_simp
    rfl
  | 2 =>
    show BitVec.toInt (StableHlo.upto _ V 8 (Proc.devRef .tc main_call0_c_2) _) = _
    after_reads_simp
    rfl

/-- A chip's memory at the end: what it sends as at launch, the result what landed and its own. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v12) = put c (V (Proc.devRef .tc main_v1)) (m ((c.tc : Thread nD τ).loc main_arg0))

theorem after_of_ends (c : Dev nD) (s : MemSt nD τ sig (Elt F)) (h : Ends [hostOps1 (F := F) c, hostOps1_1] (Done m c) c s) : After m c s := by
  obtain ⟨V, hV, hs⟩ := h
  have e (b : Ref sig .tc) (hb : b.isScoped = false) : s.mem ((c.tc : Thread nD τ).loc b)
      = StableHlo.after (hostOps1_1 (F := F)) (StableHlo.after (hostOps1 (F := F) c) V) (Proc.devRef .tc b) := by
    rw [hs b hb, List.flatten_cons, List.flatten_cons, List.flatten_nil, List.append_nil, StableHlo.after_append]
  refine ⟨?_, V, hV, ?_⟩
  · rw [e main_arg0 rfl, line2, (line1 c V).1, hV.1]
  · rw [e main_v12 rfl, line2_result c _ (line1 c V).2.2, (line1 c V).1, (line1 c V).2.1, hV.1]

/-- The exchange's run on the four chips. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun c => [hostOps1 c, hostOps1_1]) (fun c => main_chain c)
    (fun c => of_both (hostOps1_sub (F := F) c) (hostOps1_1_sub (F := F)))
    (fun c => of_both (l := hostOps1 (F := F) c) (l' := hostOps1_1) (by repeat' first | rfl | apply And.intro) (by repeat' first | rfl | apply And.intro))
    (xch.dealt m (extra m)) (xch.ended m (extra m)) (xch.kept m (extra m)) (fun d => xch.owed τ d Finset.univ)
    (fun c _ _ => body m (extra m) c) (xch.seed τ)
    (deal xch m (extra m) (bufs_cut xch m main_arg0 main_v1 (by decide) (by decide) (by decide) _ (cut_arg m) landAt (apart parts _ _) fun _ _ => rfl))
    (ended_split xch m (extra m)) (Done m)
    (whole_end xch m main_arg0 main_v1 (by decide) (by decide) (by decide) _ (cut_arg m) landAt (apart parts _ _) (landing m) fun _ _ => rfl)
    (fun s h hs => ⟨fun c => after_of_ends m c s (h c), sem_eq_zero_of_scoped (by decide) hs⟩)

/-- The exchange runs, leaves what is sent as it was and every counter at zero; -/
theorem frame : Cert.quiescent_GatherWInChips := by
  intro m g _
  exact (θ_run defs _ _).mono (fun _ h => ⟨fun c => (h.1 c).1, h.2⟩) (run (F := Bits) m g)

/-- its reading over the extended reals too. -/
theorem frameIdeal : Cert.quiescent_GatherWInChipsIdeal := by
  intro m g _
  exact (θ_run (defs (F := Ideal)) _ _).mono (fun _ h => ⟨fun c => (h.1 c).1, h.2⟩) (run (F := Ideal) m g)

/-! ## What the reference computes -/

section Reference

open Cert.GatherWInChipsRefIdeal (S4096x2084)
open Cert.GatherWInChipsRefIdeal.Read

/-- The reference's slot `s` is the rows `1024 s …` of the whole. -/
theorem reference_at (X : (⟨S4096x2084, .bf16⟩ : BufTy).Contents (Elt F)) (i : S4x1024x2084.Idx) (k : S4096x2084.Idx)
    (h0 : (k 0).val = (i 0).val * 1024 + (i 1).val) (h1 : (k 1).val = (i 2).val) : val_main_v0 (F := F) X i = X k := by
  have b2 : (i 2).val < 2084 := (i 2).isLt
  rw [val_main_v0_apply]
  refine congrArg X (funext fun a => Fin.ext ?_)
  match a with
  | ⟨0, _⟩ => show (((i 0).val * 1024 + (i 1).val) * 2084 + (i 2).val) / 2084 = (k 0).val; omega
  | ⟨1, _⟩ => show (((i 0).val * 1024 + (i 1).val) * 2084 + (i 2).val) % 2084 = (k 1).val; omega

/-- Each chip's result is the reference's, when what the chips send are the blocks of the whole. -/
theorem result (X : (⟨S4096x2084, .bf16⟩ : BufTy).Contents (Elt F))
    (hX : ∀ c : Dev nD, m ((c.tc : Thread nD τ).loc main_arg0) = Layout.block ⟨2, ![1024, 2084]⟩ ⟨2, ![4096, 2084]⟩ 0 4 c X)
    (c : Dev nD) (s : MemSt nD τ sig (Elt F)) (h : After m c s) : s.mem ((c.tc : Thread nD τ).loc main_v12) = val_main_v0 (F := F) X := by
  obtain ⟨-, V, hV, h⟩ := h
  exact h.trans (gathered parts X _ (reference_at X) (fun c : Dev nD => m ((c.tc : Thread nD τ).loc main_arg0)) (fun c y => ⟨_, congrFun (hX c) y, rfl, rfl⟩)
    c _ (read_landed m c V hV) _)

end Reference

/-- Over the extended reals each chip ends with the reference's result. -/
theorem algebraic : Cert.algebraic_GatherWInChipsIdeal_GatherWInChipsRefIdeal := by
  intro m g m' g' _ hX
  refine ⟨Cert.GatherWInChipsRefIdeal.Read.val_main_v0 (F := Ideal) (m' (((0 : Dev Cert.GatherWInChipsRefIdeal.nD).tc : Thread Cert.GatherWInChipsRefIdeal.nD Cert.GatherWInChipsRefIdeal.τ).loc Cert.GatherWInChipsRefIdeal.main_arg0)), ?_, ?_⟩
  · exact (θ_run (defs (F := Ideal)) _ _).mono (fun r h c => ⟨result m _ hX c r.2 (h.1 c), (h.1 c).1⟩) (run (F := Ideal) m g)
  · refine (θ_run Cert.GatherWInChipsRefIdeal.defs _ _).mono (fun r h => ⟨(h 0).1.trans ?_, (h 0).2⟩) (Cert.GatherWInChipsRefIdeal.Value.run (F := Ideal) m' g')
    exact Cert.GatherWInChipsRefIdeal.Read.val_main_v0_eq _

end Cert.Proof.GatherWInChips

end
-- ==== Proof.GatherSmallClaim.lean ====
/-
  The gathering of the small parameters' shards among the four chips: each chip copies its own rows into its own slot of its
  array of four, and sends them to each of its three partners, into its own slot of the partner's, all four copies in flight
  together. The sends' proof is `Cert.Proof.Swap`'s, the rest `Cert.Proof.Chips`'s; of the rows each of the four copies
  reads a share of its own.
-/
module

public import proofs.«01_k».proof.Defs
public import proofs.«01_k».proof.Proof.Chips
public import proofs.«01_k».proof.Proof.Gen.GatherSmall.Launch
public import proofs.«01_k».proof.Proof.Gen.GatherSmallIdeal.Launch
public import proofs.«01_k».proof.Proof.Gen.GatherSmallRefIdeal.Read

@[expose] public section

noncomputable section

namespace Cert.Proof.GatherSmall

open Cert.GatherSmall Cert.GatherSmall.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.Chips
open Cert.Proof.StackRows (sent_at sent_emb slot_at slot_emb slot_apart spot row place)

variable {F : FTy → Type} [FloatOps F]

/-- The rows go in one part. -/
theorem parts : 48 = 1 * 48 := rfl

/-- What a chip sends, and slot `c` of the array its partners' land in. -/
abbrev sentRows (q : Fin 1) : Memref sig .tc .hbm S48x1024 .f32 := StackRows.sentRows parts (Memref.whole main_arg0) q
abbrev slotRows (c : Fin 4) (q : Fin 1) : Memref sig .tc .hbm S48x1024 .f32 := StackRows.slotRows parts (Memref.whole main_v1) squeezes_S1x48x1024_S48x1024 c q

/-- The exchange: three semaphores for the sends, the next three for the receives; -/
def xch : Exchange nD sig (3 * 1) .hbm .hbm S48x1024 .f32 where
  peer j := mate j.divNat
  peer_peer j := mate_mate j.divNat
  sem x := ⟨(if x.1 then 3 else 0) + x.2.val, by have := x.2.isLt; show _ < 7; split <;> omega⟩
  sem_inj := by decide +kernel
  isScoped x := by revert x; decide +kernel
  src _ j := sentRows j.modNat
  dst c j := slotRows c j.modNat
  N := (slotRows 0 0).view.dmaCredit
  N_pos := View.dmaCredit_pos _ (by decide)
  hN _ _ := rfl
  share j := fourth j.divNat

/-- the seventh is the own copy's. -/
def own : DmaSem sig := ⟨6, by show 6 < 7; decide⟩

variable (m : (ℓ : Loc nD τ sig) → Buf (Elt F) ℓ)

/-! ## The arrays in parts -/

/-- The elements of what a chip sends, and those its partner's copy `j` lands in. -/
abbrev sentAt (c : Dev nD) (q : Fin 1) : Finset (Idx ((c.tc : Thread nD τ).loc main_arg0)) := (sentRows q).view.set
abbrev landAt (c : Dev nD) (j : Fin (3 * 1)) : Finset (Idx ((c.tc : Thread nD τ).loc main_v1)) := (slotRows (mate j.divNat c) j.modNat).view.set
/-- What the array then holds there, and in the chip's own slot, -/
abbrev landing (c : Dev nD) (j : Fin (3 * 1)) : Buf (Elt F) ((c.tc : Thread nD τ).loc main_v1) := xch.landed m c j
def copied (c : Dev nD) : Buf (Elt F) ((c.tc : Thread nD τ).loc main_v1) :=
  (slotRows c 0).view.write (Elt F) (m ((c.tc : Thread nD τ).loc main_v1)) ((sentRows 0).view.read (Elt F) (m ((c.tc : Thread nD τ).loc main_arg0))) Finset.univ

/-- the own copy's share of the rows, with what is in none of them, -/
def kept (c : Dev nD) : sProp (Res nD τ sig (Elt F)) :=
  iprop(((c.tc : Thread nD τ).loc main_arg0 ↦[sentAt c 0]{fullShare.left} m ((c.tc : Thread nD τ).loc main_arg0)) ∗ left m main_arg0 sentAt c)
/-- what a chip's arrays hold besides what the sends read and the partners write, at first -/
abbrev extra : Dev nD → sProp (Res nD τ sig (Elt F)) := others m main_arg0 main_v1 (kept m) landAt
/-- and after its own copy. -/
def extra' (c : Dev nD) : sProp (Res nD τ sig (Elt F)) :=
  iprop(kept m c ∗ ((c.tc : Thread nD τ).loc main_v1 ↦[rest (landAt c)]{fullShare} copied m c)
    ∗ beyond main_arg0 main_v1 c fun r => m ((c.tc : Thread nD τ).loc r))

theorem cut_arg : ∀ c : Dev nD, (((c.tc : Thread nD τ).loc main_arg0 ↦{fullShare} m ((c.tc : Thread nD τ).loc main_arg0)) : sProp (Res nD τ sig (Elt F)))
    ⊣⊢ iprop(bigSep Finset.univ (xch.srcPts m c) ∗ kept m c) :=
  fun c => cut_fourths (sentAt c) _

theorem land_apart (c : Dev nD) (i j : Fin (3 * 1)) (h : i ≠ j) : Disjoint (landAt c i) (landAt c j) :=
  slot_apart parts _ _ _ _ _ _ fun e e' => h (copy_ext (mate_inj c _ _ e) e')

/-- The chip's own slot is none of its partners'. -/
theorem own_rest (c : Dev nD) : (slotRows c 0).view.set ⊆ rest (landAt c) := by
  intro i hi
  refine Finset.mem_sdiff.mpr ⟨Finset.mem_univ _, fun h => ?_⟩
  obtain ⟨j, -, hj⟩ := Finset.mem_biUnion.mp h
  have hne : ∀ (k : Fin 3) (c : Fin 4), mate k c ≠ c := by decide
  exact Finset.disjoint_left.mp (slot_apart parts (Memref.whole main_v1) squeezes_S1x48x1024_S48x1024 c (mate j.divNat c) 0 j.modNat
    fun e => absurd e.symm (hne j.divNat c)) hi hj

/-! ## The chip's own copy -/

/-- The semaphores neither copy has. -/
def spare (c : Dev nD) : sProp (Res nD τ sig (Elt F)) :=
  bigSep (((Finset.univ.filter fun sm : SemLoc sig => sm.isScoped .tc = true) \ Finset.univ.map ⟨_, xch.loc_inj⟩).erase (.dma own))
    fun sm => semVal ((c.tc : Thread nD τ), sm) 0

theorem idle_own (c : Dev nD) : (xch.idle (Elt F) τ c) = iprop(semVal ((c.tc : Thread nD τ), .dma own) 0 ∗ spare (F := F) c) := by
  have h : (SemLoc.dma own : SemLoc sig) ∈ (Finset.univ.filter fun sm : SemLoc sig => sm.isScoped .tc = true) \ Finset.univ.map ⟨_, xch.loc_inj⟩ := by
    decide +kernel
  unfold Exchange.idle spare
  rw [← Finset.insert_erase h, bigSep_insert (Finset.notMem_erase _ _), Finset.erase_insert (Finset.notMem_erase _ _)]
  rfl

/-- While the own copy is in flight. -/
def flying (c : Dev nD) : sProp (Res nD τ sig (Elt F)) :=
  iprop(Transfers.Flight EC (c.tc : Thread nD τ) (.dma own) () xch.N
      iprop(((c.tc : Thread nD τ).loc main_v1 ↦[rest (landAt c)]{fullShare} copied m c)
        ∗ ((c.tc : Thread nD τ).loc main_arg0 ↦[sentAt c 0]{fullShare.left} m ((c.tc : Thread nD τ).loc main_arg0)))
    ∗ spare (F := F) c ∗ left m main_arg0 sentAt c ∗ beyond main_arg0 main_v1 c fun r => m ((c.tc : Thread nD τ).loc r))

section Steps

variable {κ : GSem nD τ sig → ℕ} {c : Dev nD} {α : Type} {k : PUnit → Prog (TpuEff nD τ sig (Elt F) Λ₀ .tc) α} {Q : α → sProp (Res nD τ sig (Elt F))}

/-- Its start, -/
theorem start {a b : Memref sig .tc .hbm S48x1024 .f32} {sm : DmaSem sig} {hsrc : a.view.WordExact} {hdst : b.view.WordExact}
    {hsem : DmaTarget.Typed (nD := nD) (τ := τ) (p := .tc) .hbm (.dma sm) (.here b)} (ha : a = sentRows 0) (hb : b = slotRows c 0) (hsm : sm = own)
    (h : iprop(xch.records m κ ∗ xch.sending m c 0 ∗ bigSep Finset.univ (fun j => iprop(xch.credit (Elt F) τ c (true, j) ∗ xch.pos (Elt F) τ c (true, j)))
        ∗ bigSep Finset.univ (fun j => xch.pos (Elt F) τ c (false, j)) ∗ flying m c)
      ⊢ wp frame (wpE (defs₀ (F := F)) Variants.none (c.tc : Thread nD τ) none) Set.univ (k ⟨⟩) Q) :
    iprop(xch.records m κ ∗ xch.sending m c 0 ∗ xch.aside₀ (extra m) c)
      ⊢ wp frame (wpE (defs₀ (F := F)) Variants.none (c.tc : Thread nD τ) none) Set.univ (.op (.enqueueDma a (.here b) (.dma sm) hsrc hdst hsem) k) Q := by
  subst ha hb hsm
  unfold Exchange.aside₀ extra others kept
  rw [idle_own]
  iintro ⟨#Hrec, Hs, HA, HB, ⟨Hz, Hi⟩, ⟨Hl, Hr⟩, Hv, Hb⟩
  iapply (Transfers.wp_dmaLocal EC Variants.none (c.tc : Thread nD τ) none (src := sentRows 0) (dst := slotRows c 0) (q := fullShare.left)
    (fs := m ((c.tc : Thread nD τ).loc main_arg0)) (fd := m ((c.tc : Thread nD τ).loc main_v1)) (Sd := rest (landAt c)) () xch.N rfl xch.N_pos (own_rest c)) $$ [Hl Hv Hz]
  · isplitl [Hl]; · iexact Hl
    isplitl [Hv]; · iexact Hv
    iexact Hz
  iintro Hf
  iapply h
  isplitr; · iexact Hrec
  isplitl [Hs]; · iexact Hs
  isplitl [HA]; · iexact HA
  isplitl [HB]; · iexact HB
  unfold flying
  isplitl [Hf]; · iexact Hf
  isplitl [Hi]; · iexact Hi
  isplitl [Hr]; · iexact Hr
  iexact Hb

/-- and the wait for it, the last of all. -/
theorem finish {sp₁ sp₂ : Space} {s₁ s₂ : Shape} {e₁ e₂ : EltTy} {x : Memref sig .tc sp₁ s₁ e₁} {y : Memref sig .tc sp₂ s₂ e₂} {sm : DmaSem sig}
    {hx : x.view.WordExact} {hy : y.view.WordExact} (hsm : sm = own) (hN : y.view.dmaCredit = xch.N) (u : α) (hk : k ⟨⟩ = .ret u) :
    iprop(xch.records m κ ∗ xch.waiting m false c (3 * 1) ∗ bigSep Finset.univ (fun j => xch.done m c (true, j)) ∗ flying m c)
      ⊢ wp frame (wpE (defs₀ (F := F)) Variants.none (c.tc : Thread nD τ) none) Set.univ (.op (.waitDma2 sm x y hx hy) k)
          fun _ => iprop(xch.ended m (extra' m) c ∗ ∃ W, owes (c.tc : Thread nD τ) (0 : CellTallies nD τ sig Unit) W) := by
  subst hsm
  unfold Exchange.waiting Exchange.ended extra' kept flying
  rw [todo_end, past_end, bigSep_empty, idle_own]
  iintro ⟨-, ⟨-, Hd, ⟨%W, HO⟩⟩, Hr, Hf, Hi, Hl, Hb⟩
  iapply (Transfers.wp_waitLocal EC Variants.none (c.tc : Thread nD τ) none () (W := W) hN) $$ [Hf HO]
  · isplitl [Hf] <;> iassumption
  iintro ⟨⟨Hv, Ha⟩, Hz, HO⟩
  rw [hk, wp_ret]
  imodintro
  isplitr [HO]
  · isplitl [Hr]; · iexact Hr
    isplitl [Hd]; · iexact Hd
    isplitl [Hz Hi]
    · isplitl [Hz] <;> iassumption
    isplitl [Ha Hl]
    · isplitl [Ha] <;> iassumption
    isplitl [Hv] <;> iassumption
  iexists _; iexact HO

end Steps

/-- A chip writes the slot of its own number. -/
theorem own_off : ∀ c : Dev nD, k0_off1 c = ![c.val, 0, 0] := by decide +kernel

set_option maxRecDepth 16384 in
set_option maxHeartbeats 4000000 in
/-- The kernel's body: the own copy's start, the sends, the waits for the partners', for the sends and for the own copy. -/
theorem body (c : Dev nD) : Body (nD := nD) (τ := τ) (Val := Elt F) (defs₀ (F := F)) Variants.none (xch.dealt m (extra m)) (xch.ended m (extra' m))
    (fun d => xch.owed τ d Finset.univ) c
    (cc0_gather_small (F := F) (Memref.whole main_arg0) (Memref.isWhole_whole _) (Memref.whole main_v1) (Memref.isWhole_whole _) cc0_scratch0 cc0_scratch1 cc0_scratch2) := by
  intro W
  unfold cc0_gather_small k0_part1 k0_part2 k0_part3 k0_part4 k0_part5 k0_part6 k0_part7
  simp only [Prog.lift, Prog.bind_op, Prog.bind_ret, Prog.pure_eq_ret, wp_deviceId]
  refine to_send xch m (extra m) fun κ => ?_
  refine start m (sent_at parts _ _ (by exact rfl) _) (slot_at parts (Memref.whole main_v1) squeezes_S1x48x1024_S48x1024 c 0 (by exact rfl) _ (own_off c) _) rfl ?_
  iterate 3
    refine send_step xch m _ (by decide) (sent_at parts _ _ (by exact rfl) _) (slot_at parts (Memref.whole main_v1) squeezes_S1x48x1024_S48x1024 c 0 (by exact rfl) _ (own_off c) _) (by clear * -; revert c; decide +kernel) rfl rfl ?_
  refine pass_receive xch m ?_
  iterate 3 refine wait_step xch m _ _ (by decide) rfl rfl ?_
  refine pass_drain xch m ?_
  iterate 3 refine wait_step xch m _ _ (by decide) rfl rfl ?_
  exact finish m rfl rfl _ rfl

/-! ## The arrays at the end -/

/-- A chip's arrays when the kernel is done: what it sends as at launch, its partners' slots as they landed, its own as it copied it. -/
def Done (c : Dev nD) (V : Valuation τ sig (Elt F)) : Prop :=
  V (Proc.devRef .tc main_arg0) = m ((c.tc : Thread nD τ).loc main_arg0) ∧ (∀ j, ∀ i ∈ landAt c j, V (Proc.devRef .tc main_v1) i = landing m c j i)
    ∧ ∀ i ∈ rest (landAt c), V (Proc.devRef .tc main_v1) i = copied m c i

theorem done_end (c : Dev nD) : xch.kept m (extra' m) c
    ⊢ (iprop(∃ V : Valuation τ sig (Elt F), ⌜Done m c V⌝ ∗ unscopedBufs c (fun r => V r)) : sProp (Res nD τ sig (Elt F))) := by
  have h1 := (cut_arg m c).2
  have h2 := join (landAt c) (land_apart c) (landing m c) (copied m c)
  unfold Exchange.kept extra'
  rw [bigSep_congr fun j _ => show (xch.dstPts c j (xch.landed m c j) : sProp (Res nD τ sig (Elt F))) = ((c.tc : Thread nD τ).loc main_v1 ↦[landAt c j]{fullShare} landing m c j) from rfl]
  iintro ⟨Hd, Hs, Ha, Hv, Hb⟩
  ihave Ha := h1 $$ [Hs Ha]
  · isplitl [Hs] <;> iassumption
  ihave H := h2 $$ [Hd Hv]
  · isplitl [Hd] <;> iassumption
  icases H with ⟨%g, %hg, Hv⟩
  ihave H := (bufs_landed main_arg0 main_v1 (by decide) (by decide) (by decide) c m g) $$ [Ha Hv Hb]
  · isplitl [Ha]; · iexact Ha
    isplitl [Hv] <;> iassumption
  icases H with ⟨%V, %hV, H⟩
  iexists V
  isplitr
  · ipureintro
    exact ⟨hV.1, fun j i hi => (congrFun hV.2 i).trans (hg.1 j i hi), fun i hi => (congrFun hV.2 i).trans (hg.2 i hi)⟩
  iexact H

/-- Each partner's slot reads as that partner's rows, -/
theorem read_landed (c : Dev nD) (V : Valuation τ sig (Elt F)) (hV : Done m c V) (j : Fin (3 * 1)) (x : S48x1024.Idx) :
    (V (Proc.devRef .tc main_v1) : (⟨S4x48x1024, .f32⟩ : BufTy).Contents (Elt F)) (spot parts (mate j.divNat c) j.modNat x)
      = (m ((Dev.tc (nD := nD) (mate j.divNat c) : Thread nD τ).loc main_arg0) : (⟨S48x1024, .f32⟩ : BufTy).Contents (Elt F)) (row parts j.modNat x) := by
  have e : (slotRows (mate j.divNat c) j.modNat).view.read (Elt F) (V (Proc.devRef .tc main_v1)) x
    = (sentRows j.modNat).view.read (Elt F) (m ((Dev.tc (nD := nD) (mate j.divNat c) : Thread nD τ).loc main_arg0)) x :=
    congrFun (xch.read_landed m c j _ (hV.2.1 j)) x
  rw [View.read_apply, View.read_apply, slot_emb, sent_emb] at e
  exact e

theorem row_all (y : S48x1024.Idx) : row parts 0 y = y := by
  refine funext fun a => Fin.ext ?_
  match a with
  | ⟨0, _⟩ => show 48 * 0 + (y 0).val = (y 0).val; omega
  | ⟨1, _⟩ => rfl

/-- and the chip's own as its own. -/
theorem read_own (c : Dev nD) (V : Valuation τ sig (Elt F)) (hV : Done m c V) (y : S48x1024.Idx) :
    (V (Proc.devRef .tc main_v1) : (⟨S4x48x1024, .f32⟩ : BufTy).Contents (Elt F)) (place c y)
      = (m ((c.tc : Thread nD τ).loc main_arg0) : (⟨S48x1024, .f32⟩ : BufTy).Contents (Elt F)) y := by
  have e := hV.2.2 _ (own_rest c (Finset.mem_map_of_mem _ (Finset.mem_univ y)))
  have e' : (slotRows c 0).view.read (Elt F) (copied m c) y = (sentRows 0).view.read (Elt F) (m ((c.tc : Thread nD τ).loc main_arg0)) y :=
    View.read_write_of_mem _ _ (Finset.mem_univ y)
  have e'' : (slotRows c 0).view.read (Elt F) (V (Proc.devRef .tc main_v1)) y = _ := (congrArg _ e).trans e'
  rw [View.read_apply, View.read_apply, slot_emb, sent_emb, spot, row_all] at e''
  exact e''

/-- A chip's memory at the end: what it sends as at launch, the result such an array. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v1) = V (Proc.devRef .tc main_v1)

/-- The exchange's run on the four chips. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun _ => []) (fun c => main_chain c)
    (fun _ _ h => absurd h List.not_mem_nil) (fun _ _ h => absurd h List.not_mem_nil)
    (xch.dealt m (extra m)) (xch.ended m (extra' m)) (xch.kept m (extra' m)) (fun d => xch.owed τ d Finset.univ)
    (fun c _ _ => body m c) (xch.seed τ)
    (deal xch m (extra m) (bufs_cut xch m main_arg0 main_v1 (by decide) (by decide) (by decide) _ (cut_arg m) landAt land_apart fun _ _ => rfl))
    (ended_split xch m (extra' m)) (Done m) (done_end m)
    (fun s h hs => ⟨fun c => by
      obtain ⟨V, hV, hs⟩ := h c
      exact ⟨(hs main_arg0 rfl).trans hV.1, V, hV, hs main_v1 rfl⟩, sem_eq_zero_of_scoped (by decide) hs⟩)

/-- The exchange runs, leaves what is sent as it was and every counter at zero; -/
theorem frame : Cert.quiescent_GatherSmall := by
  intro m g _
  exact (θ_run defs _ _).mono (fun _ h => ⟨fun c => (h.1 c).1, h.2⟩) (run (F := Bits) m g)

/-- its reading over the extended reals too. -/
theorem frameIdeal : Cert.quiescent_GatherSmallIdeal := by
  intro m g _
  exact (θ_run (defs (F := Ideal)) _ _).mono (fun _ h => ⟨fun c => (h.1 c).1, h.2⟩) (run (F := Ideal) m g)

/-! ## What the reference computes -/

section Reference

open Cert.GatherSmallRefIdeal (S192x1024)
open Cert.GatherSmallRefIdeal.Read

/-- The reference's slot `s` is the rows `48 s …` of the whole. -/
theorem reference_at (X : (⟨S192x1024, .f32⟩ : BufTy).Contents (Elt F)) (i : S4x48x1024.Idx) (k : S192x1024.Idx)
    (h0 : (k 0).val = (i 0).val * 48 + (i 1).val) (h1 : (k 1).val = (i 2).val) : val_main_v0 (F := F) X i = X k := by
  have b2 : (i 2).val < 1024 := (i 2).isLt
  rw [val_main_v0_apply]
  refine congrArg X (funext fun a => Fin.ext ?_)
  match a with
  | ⟨0, _⟩ => show (((i 0).val * 48 + (i 1).val) * 1024 + (i 2).val) / 1024 = (k 0).val; omega
  | ⟨1, _⟩ => show (((i 0).val * 48 + (i 1).val) * 1024 + (i 2).val) % 1024 = (k 1).val; omega

/-- Each chip's result is the reference's, when what the chips send are the blocks of the whole. -/
theorem result (X : (⟨S192x1024, .f32⟩ : BufTy).Contents (Elt F))
    (hX : ∀ c : Dev nD, m ((c.tc : Thread nD τ).loc main_arg0) = Layout.block ⟨2, ![48, 1024]⟩ ⟨2, ![192, 1024]⟩ 0 4 c X)
    (c : Dev nD) (s : MemSt nD τ sig (Elt F)) (h : After m c s) : s.mem ((c.tc : Thread nD τ).loc main_v1) = val_main_v0 (F := F) X := by
  obtain ⟨-, V, hV, h⟩ := h
  exact h.trans (gathered_all parts X _ (reference_at X) (fun c : Dev nD => m ((c.tc : Thread nD τ).loc main_arg0)) (fun c y => ⟨_, congrFun (hX c) y, rfl, rfl⟩)
    c _ (read_landed m c V hV) (read_own m c V hV) (by decide))

end Reference

/-- Over the extended reals each chip ends with the reference's result. -/
theorem algebraic : Cert.algebraic_GatherSmallIdeal_GatherSmallRefIdeal := by
  intro m g m' g' _ hX
  refine ⟨Cert.GatherSmallRefIdeal.Read.val_main_v0 (F := Ideal) (m' (((0 : Dev Cert.GatherSmallRefIdeal.nD).tc : Thread Cert.GatherSmallRefIdeal.nD Cert.GatherSmallRefIdeal.τ).loc Cert.GatherSmallRefIdeal.main_arg0)), ?_, ?_⟩
  · exact (θ_run (defs (F := Ideal)) _ _).mono (fun r h c => ⟨result m _ hX c r.2 (h.1 c), (h.1 c).1⟩) (run (F := Ideal) m g)
  · refine (θ_run Cert.GatherSmallRefIdeal.defs _ _).mono (fun r h => ⟨(h 0).1.trans ?_, (h 0).2⟩) (Cert.GatherSmallRefIdeal.Value.run (F := Ideal) m' g')
    exact Cert.GatherSmallRefIdeal.Read.val_main_v0_eq _

end Cert.Proof.GatherSmall

end
-- ==== Proof.Devices.lean ====
/-
  The eight devices in an exchange: each has seven partners, sends all of them the same matrix in one part, and copies it into
  its own slot too. Which device is which partner, the shares of the matrix that the eight copies read, and what the array of
  the eight slots is when all have landed.
-/
module

public import proofs.«01_k».proof.Proof.Chips

@[expose] public section

noncomputable section

namespace Cert.Proof.Devices

open Idealize.ShloMosaic
open Idealize.SL Idealize.SL.RA Idealize.SL.BI
open scoped Idealize.SL.BI
open Idealize.SL.BI.BIBase Idealize.SL.BI.Laws Idealize.SL.ProofMode
open Idealize.ShloMosaic.Rounds
open Cert.Proof.Together Cert.Proof.Swap Cert.Proof.StackRows

/-- The partners of a device: the seven that differ from it along some of the three axes. -/
def mate : Fin 7 → Fin 8 → Fin 8 :=
  ![![1, 0, 3, 2, 5, 4, 7, 6], ![2, 3, 0, 1, 6, 7, 4, 5], ![3, 2, 1, 0, 7, 6, 5, 4], ![4, 5, 6, 7, 0, 1, 2, 3],
    ![5, 4, 7, 6, 1, 0, 3, 2], ![6, 7, 4, 5, 2, 3, 0, 1], ![7, 6, 5, 4, 3, 2, 1, 0]]

theorem mate_mate : ∀ k c, mate k (mate k c) = c := by decide
theorem mate_inj : ∀ c k l, mate k c = mate l c → k = l := by decide
theorem mate_ne : ∀ k c, mate k c ≠ c := by decide
theorem mate_of_ne : ∀ c d, d ≠ c → ∃ k, mate k c = d := by decide

section Shares

variable {nD : ℕ} {τ : Topo} {sig : RefSig} {Val : EltTy → Type} {ℓ : Loc nD τ sig}

/-- What is left of the matrix's share after the own copy's and those of the first `k` sends, -/
def after : ℕ → PosShare TreeShare
  | 0 => fullShare.right
  | k + 1 => (after k).right

/-- and the share each send reads. -/
def eighth (k : Fin 7) : PosShare TreeShare := if k.val = 6 then after 6 else (after k.val).left

theorem split (p : PosShare TreeShare) (I : Finset (Idx ℓ)) (f : Buf Val ℓ) :
    (ℓ ↦[I]{p} f : sProp (Res nD τ sig Val)) = iprop((ℓ ↦[I]{p.left} f) ∗ ℓ ↦[I]{p.right} f) := by
  have h := pointsTo_share (Ix := Unit) (Name := ℕ) (U := Own nD τ sig) (Lvl := ℕ) (ℓ := ℓ) (I := I) (f := f) (PosShare.mem_left_op_right p)
  exact Entails.antisymm h.1 h.2

theorem whole_eighths (I : Finset (Idx ℓ)) (f : Buf Val ℓ) :
    (ℓ ↦[I]{fullShare} f : sProp (Res nD τ sig Val)) = iprop((ℓ ↦[I]{fullShare.left} f) ∗ bigSep Finset.univ fun k => ℓ ↦[I]{eighth k} f) := by
  rw [show (Finset.univ : Finset (Fin 7)) = {0, 1, 2, 3, 4, 5, 6} by decide, bigSep_insert (by decide), bigSep_insert (by decide),
    bigSep_insert (by decide), bigSep_insert (by decide), bigSep_insert (by decide), bigSep_insert (by decide), bigSep_singleton,
    split fullShare, split fullShare.right, split fullShare.right.right, split fullShare.right.right.right, split fullShare.right.right.right.right,
    split fullShare.right.right.right.right.right, split fullShare.right.right.right.right.right.right]
  rfl

/-- The array sent is a share of its one part for each of the seven sends and one for the own copy, and what is not in it. -/
theorem cut_eighths (K : Fin 1 → Finset (Idx ℓ)) (f : Buf Val ℓ) :
    (ℓ ↦{fullShare} f : sProp (Res nD τ sig Val))
      ⊣⊢ iprop((bigSep Finset.univ fun j : Fin 7 => ℓ ↦[K 0]{eighth j} f) ∗ (ℓ ↦[K 0]{fullShare.left} f) ∗ ℓ ↦[rest K]{fullShare} f) := by
  have h := cut K (fun i j h => absurd (Subsingleton.elim i j) h) f
  have e : (bigSep Finset.univ fun q => (ℓ ↦[K q]{fullShare} f : sProp (Res nD τ sig Val))) = ℓ ↦[K 0]{fullShare} f := by
    rw [show (Finset.univ : Finset (Fin 1)) = {0} by decide, bigSep_singleton]
  rw [e, whole_eighths (K 0)] at h
  constructor
  · iintro H
    ihave H' := h.1 $$ H
    icases H' with ⟨⟨Hl, H⟩, Hr⟩
    isplitl [H]; · iexact H
    isplitl [Hl] <;> iassumption
  · iintro ⟨H, Hl, Hr⟩
    iapply h.2
    isplitl [H Hl]
    · isplitl [Hl] <;> iassumption
    · iexact Hr

end Shares

/-- The eight blocks `Z` of rows of the whole `X`, when every slot holds its device's block. -/
theorem gathered_all {α : Type} {R C R' : ℕ} (X : (Rows R' C).Idx → α) (Z : (Slots 8 R C).Idx → α)
    (hZ : ∀ i k, (k 0).val = (i 0).val * R + (i 1).val → (k 1).val = (i 2).val → Z i = X k)
    (block : Fin 8 → (Rows R C).Idx → α) (hX : ∀ c y, ∃ k, block c y = X k ∧ (k 0).val = c.val * R + (y 0).val ∧ (k 1).val = (y 1).val) (c : Fin 8)
    (V : (Slots 8 R C).Idx → α) (hV : ∀ (j : Fin 7) y, V (place (mate j c) y) = block (mate j c) y) (hO : ∀ y, V (place c y) = block c y) : V = Z := by
  have key (d : Fin 8) (y : (Rows R C).Idx) : block d y = Z (place d y) := by
    obtain ⟨k, e, k0, k1⟩ := hX d y
    rw [e]
    exact (hZ _ k k0 k1).symm
  have all (d : Fin 8) (y : (Rows R C).Idx) : V (place d y) = Z (place d y) := by
    by_cases h : d = c
    · subst h; exact (hO y).trans (key _ y)
    · obtain ⟨k, rfl⟩ := mate_of_ne c d h
      exact (hV k y).trans (key _ y)
  refine funext fun i => ?_
  let y : (Rows R C).Idx := fun a => match a with
    | ⟨0, _⟩ => ⟨(i 1).val, (i 1).isLt⟩
    | ⟨1, _⟩ => ⟨(i 2).val, (i 2).isLt⟩
  have e : place ⟨(i 0).val, (i 0).isLt⟩ y = i := funext fun a => Fin.ext (by
    match a with
    | ⟨0, _⟩ => rfl
    | ⟨1, _⟩ => rfl
    | ⟨2, _⟩ => rfl)
  rw [← e]
  exact all _ y

end Cert.Proof.Devices

end
-- ==== Proof.GatherRepClaim.lean ====
/-
  The gathering of the gradients of the parameters every device holds, among the eight devices: each copies its own rows into
  its own slot of its array of eight, and sends them to each of its seven partners, into its own slot of the partner's, all
  eight copies in flight together. The sends' proof is `Cert.Proof.Swap`'s, the rest `Cert.Proof.Devices`'s.
-/
module

public import proofs.«01_k».proof.Defs
public import proofs.«01_k».proof.Proof.Devices
public import proofs.«01_k».proof.Proof.Gen.GatherRep.Launch
public import proofs.«01_k».proof.Proof.Gen.GatherRepIdeal.Launch
public import proofs.«01_k».proof.Proof.Gen.GatherRepRefIdeal.Read

@[expose] public section

noncomputable section

namespace Cert.Proof.GatherRep

open Cert.GatherRep Cert.GatherRep.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Together Cert.Proof.Swap Cert.Proof.Stack Cert.Proof.Devices
open Cert.Proof.StackRows (sent_at sent_emb slot_at slot_emb slot_apart spot row place)

variable {F : FTy → Type} [FloatOps F]

/-- The rows go in one part. -/
theorem parts : 120 = 1 * 120 := rfl

/-- What a device sends, and slot `c` of the array its partners' land in. -/
abbrev sentRows (q : Fin 1) : Memref sig .tc .hbm S120x128 .f32 := StackRows.sentRows parts (Memref.whole main_arg0) q
abbrev slotRows (c : Fin 8) (q : Fin 1) : Memref sig .tc .hbm S120x128 .f32 := StackRows.slotRows parts (Memref.whole main_v1) squeezes_S1x120x128_S120x128 c q

/-- The exchange: seven semaphores for the sends, the next seven for the receives; -/
def xch : Exchange nD sig 7 .hbm .hbm S120x128 .f32 where
  peer j := mate j
  peer_peer j := mate_mate j
  sem x := ⟨(if x.1 then 7 else 0) + x.2.val, by have := x.2.isLt; show _ < 15; split <;> omega⟩
  sem_inj := by decide +kernel
  isScoped x := by revert x; decide +kernel
  src _ j := sentRows 0
  dst c j := slotRows c 0
  N := (slotRows 0 0).view.dmaCredit
  N_pos := View.dmaCredit_pos _ (by decide)
  hN _ _ := rfl
  share j := eighth j

/-- the fifteenth is the own copy's. -/
def own : DmaSem sig := ⟨14, by show 14 < 15; decide⟩

variable (m : (ℓ : Loc nD τ sig) → Buf (Elt F) ℓ)

/-! ## The arrays in parts -/

/-- The elements of what a device sends, and those its partner's copy `j` lands in. -/
abbrev sentAt (c : Dev nD) (q : Fin 1) : Finset (Idx ((c.tc : Thread nD τ).loc main_arg0)) := (sentRows q).view.set
abbrev landAt (c : Dev nD) (j : Fin 7) : Finset (Idx ((c.tc : Thread nD τ).loc main_v1)) := (slotRows (mate j c) 0).view.set
/-- What the array then holds there, and in the device's own slot, -/
abbrev landing (c : Dev nD) (j : Fin 7) : Buf (Elt F) ((c.tc : Thread nD τ).loc main_v1) := xch.landed m c j
def copied (c : Dev nD) : Buf (Elt F) ((c.tc : Thread nD τ).loc main_v1) :=
  (slotRows c 0).view.write (Elt F) (m ((c.tc : Thread nD τ).loc main_v1)) ((sentRows 0).view.read (Elt F) (m ((c.tc : Thread nD τ).loc main_arg0))) Finset.univ

/-- the own copy's share of the rows, with what is in none of them, -/
def kept (c : Dev nD) : sProp (Res nD τ sig (Elt F)) :=
  iprop(((c.tc : Thread nD τ).loc main_arg0 ↦[sentAt c 0]{fullShare.left} m ((c.tc : Thread nD τ).loc main_arg0)) ∗ left m main_arg0 sentAt c)
/-- what a device's arrays hold besides what the sends read and the partners write, at first -/
abbrev extra : Dev nD → sProp (Res nD τ sig (Elt F)) := others m main_arg0 main_v1 (kept m) landAt
/-- and after its own copy. -/
def extra' (c : Dev nD) : sProp (Res nD τ sig (Elt F)) :=
  iprop(kept m c ∗ ((c.tc : Thread nD τ).loc main_v1 ↦[rest (landAt c)]{fullShare} copied m c)
    ∗ beyond main_arg0 main_v1 c fun r => m ((c.tc : Thread nD τ).loc r))

theorem cut_arg : ∀ c : Dev nD, (((c.tc : Thread nD τ).loc main_arg0 ↦{fullShare} m ((c.tc : Thread nD τ).loc main_arg0)) : sProp (Res nD τ sig (Elt F)))
    ⊣⊢ iprop(bigSep Finset.univ (xch.srcPts m c) ∗ kept m c) :=
  fun c => cut_eighths (sentAt c) _

theorem land_apart (c : Dev nD) (i j : Fin 7) (h : i ≠ j) : Disjoint (landAt c i) (landAt c j) :=
  slot_apart parts _ _ _ _ _ _ fun e _ => h (mate_inj c _ _ e)

/-- The device's own slot is none of its partners'. -/
theorem own_rest (c : Dev nD) : (slotRows c 0).view.set ⊆ rest (landAt c) := by
  intro i hi
  refine Finset.mem_sdiff.mpr ⟨Finset.mem_univ _, fun h => ?_⟩
  obtain ⟨j, -, hj⟩ := Finset.mem_biUnion.mp h
  exact Finset.disjoint_left.mp (slot_apart parts (Memref.whole main_v1) squeezes_S1x120x128_S120x128 c (mate j c) 0 0
    fun e => absurd e.symm (mate_ne j c)) hi hj

/-! ## The device's own copy -/

/-- The semaphores neither copy has. -/
def spare (c : Dev nD) : sProp (Res nD τ sig (Elt F)) :=
  bigSep (((Finset.univ.filter fun sm : SemLoc sig => sm.isScoped .tc = true) \ Finset.univ.map ⟨_, xch.loc_inj⟩).erase (.dma own))
    fun sm => semVal ((c.tc : Thread nD τ), sm) 0

theorem idle_own (c : Dev nD) : (xch.idle (Elt F) τ c) = iprop(semVal ((c.tc : Thread nD τ), .dma own) 0 ∗ spare (F := F) c) := by
  have h : (SemLoc.dma own : SemLoc sig) ∈ (Finset.univ.filter fun sm : SemLoc sig => sm.isScoped .tc = true) \ Finset.univ.map ⟨_, xch.loc_inj⟩ := by
    decide +kernel
  unfold Exchange.idle spare
  rw [← Finset.insert_erase h, bigSep_insert (Finset.notMem_erase _ _), Finset.erase_insert (Finset.notMem_erase _ _)]
  rfl

/-- While the own copy is in flight. -/
def flying (c : Dev nD) : sProp (Res nD τ sig (Elt F)) :=
  iprop(Transfers.Flight EC (c.tc : Thread nD τ) (.dma own) () xch.N
      iprop(((c.tc : Thread nD τ).loc main_v1 ↦[rest (landAt c)]{fullShare} copied m c)
        ∗ ((c.tc : Thread nD τ).loc main_arg0 ↦[sentAt c 0]{fullShare.left} m ((c.tc : Thread nD τ).loc main_arg0)))
    ∗ spare (F := F) c ∗ left m main_arg0 sentAt c ∗ beyond main_arg0 main_v1 c fun r => m ((c.tc : Thread nD τ).loc r))

section Steps

variable {κ : GSem nD τ sig → ℕ} {c : Dev nD} {α : Type} {k : PUnit → Prog (TpuEff nD τ sig (Elt F) Λ₀ .tc) α} {Q : α → sProp (Res nD τ sig (Elt F))}

/-- Its start, -/
theorem start {a b : Memref sig .tc .hbm S120x128 .f32} {sm : DmaSem sig} {hsrc : a.view.WordExact} {hdst : b.view.WordExact}
    {hsem : DmaTarget.Typed (nD := nD) (τ := τ) (p := .tc) .hbm (.dma sm) (.here b)} (ha : a = sentRows 0) (hb : b = slotRows c 0) (hsm : sm = own)
    (h : iprop(xch.records m κ ∗ xch.sending m c 0 ∗ bigSep Finset.univ (fun j => iprop(xch.credit (Elt F) τ c (true, j) ∗ xch.pos (Elt F) τ c (true, j)))
        ∗ bigSep Finset.univ (fun j => xch.pos (Elt F) τ c (false, j)) ∗ flying m c)
      ⊢ wp frame (wpE (defs₀ (F := F)) Variants.none (c.tc : Thread nD τ) none) Set.univ (k ⟨⟩) Q) :
    iprop(xch.records m κ ∗ xch.sending m c 0 ∗ xch.aside₀ (extra m) c)
      ⊢ wp frame (wpE (defs₀ (F := F)) Variants.none (c.tc : Thread nD τ) none) Set.univ (.op (.enqueueDma a (.here b) (.dma sm) hsrc hdst hsem) k) Q := by
  subst ha hb hsm
  unfold Exchange.aside₀ extra others kept
  rw [idle_own]
  iintro ⟨#Hrec, Hs, HA, HB, ⟨Hz, Hi⟩, ⟨Hl, Hr⟩, Hv, Hb⟩
  iapply (Transfers.wp_dmaLocal EC Variants.none (c.tc : Thread nD τ) none (src := sentRows 0) (dst := slotRows c 0) (q := fullShare.left)
    (fs := m ((c.tc : Thread nD τ).loc main_arg0)) (fd := m ((c.tc : Thread nD τ).loc main_v1)) (Sd := rest (landAt c)) () xch.N rfl xch.N_pos (own_rest c)) $$ [Hl Hv Hz]
  · isplitl [Hl]; · iexact Hl
    isplitl [Hv]; · iexact Hv
    iexact Hz
  iintro Hf
  iapply h
  isplitr; · iexact Hrec
  isplitl [Hs]; · iexact Hs
  isplitl [HA]; · iexact HA
  isplitl [HB]; · iexact HB
  unfold flying
  isplitl [Hf]; · iexact Hf
  isplitl [Hi]; · iexact Hi
  isplitl [Hr]; · iexact Hr
  iexact Hb

/-- and the wait for it, the last of all. -/
theorem finish {sp₁ sp₂ : Space} {s₁ s₂ : Shape} {e₁ e₂ : EltTy} {x : Memref sig .tc sp₁ s₁ e₁} {y : Memref sig .tc sp₂ s₂ e₂} {sm : DmaSem sig}
    {hx : x.view.WordExact} {hy : y.view.WordExact} (hsm : sm = own) (hN : y.view.dmaCredit = xch.N) (u : α) (hk : k ⟨⟩ = .ret u) :
    iprop(xch.records m κ ∗ xch.waiting m false c 7 ∗ bigSep Finset.univ (fun j => xch.done m c (true, j)) ∗ flying m c)
      ⊢ wp frame (wpE (defs₀ (F := F)) Variants.none (c.tc : Thread nD τ) none) Set.univ (.op (.waitDma2 sm x y hx hy) k)
          fun _ => iprop(xch.ended m (extra' m) c ∗ ∃ W, owes (c.tc : Thread nD τ) (0 : CellTallies nD τ sig Unit) W) := by
  subst hsm
  unfold Exchange.waiting Exchange.ended extra' kept flying
  rw [todo_end, past_end, bigSep_empty, idle_own]
  iintro ⟨-, ⟨-, Hd, ⟨%W, HO⟩⟩, Hr, Hf, Hi, Hl, Hb⟩
  iapply (Transfers.wp_waitLocal EC Variants.none (c.tc : Thread nD τ) none () (W := W) hN) $$ [Hf HO]
  · isplitl [Hf] <;> iassumption
  iintro ⟨⟨Hv, Ha⟩, Hz, HO⟩
  rw [hk, wp_ret]
  imodintro
  isplitr [HO]
  · isplitl [Hr]; · iexact Hr
    isplitl [Hd]; · iexact Hd
    isplitl [Hz Hi]
    · isplitl [Hz] <;> iassumption
    isplitl [Ha Hl]
    · isplitl [Ha] <;> iassumption
    isplitl [Hv] <;> iassumption
  iexists _; iexact HO

end Steps

/-- A device writes the slot of its own number. -/
theorem own_off : ∀ c : Dev nD, k0_off1 c = ![c.val, 0, 0] := by decide +kernel

set_option maxRecDepth 16384 in
set_option maxHeartbeats 4000000 in
/-- The kernel's body: the own copy's start, the sends, the waits for the partners', for the sends and for the own copy. -/
theorem body (c : Dev nD) : Body (nD := nD) (τ := τ) (Val := Elt F) (defs₀ (F := F)) Variants.none (xch.dealt m (extra m)) (xch.ended m (extra' m))
    (fun d => xch.owed τ d Finset.univ) c
    (cc0_gather_rep_grads (F := F) (Memref.whole main_arg0) (Memref.isWhole_whole _) (Memref.whole main_v1) (Memref.isWhole_whole _) cc0_scratch0 cc0_scratch1 cc0_scratch2) := by
  intro W
  unfold cc0_gather_rep_grads k0_part23 k0_part22 k0_part21 k0_part20 k0_part19 k0_part18 k0_part17 k0_part16 k0_part15 k0_part14 k0_part13 k0_part12 k0_part11 k0_part10 k0_part9 k0_part8 k0_part7 k0_part6 k0_part5 k0_part4 k0_part3 k0_part2 k0_part1
  simp only [Prog.lift, Prog.bind_op, Prog.bind_ret, Prog.pure_eq_ret, wp_deviceId]
  refine to_send xch m (extra m) fun κ => ?_
  refine start m (sent_at parts _ _ (by exact rfl) _) (slot_at parts (Memref.whole main_v1) squeezes_S1x120x128_S120x128 c 0 (by exact rfl) _ (own_off c) _) rfl ?_
  iterate 7
    refine send_step xch m _ (by decide) (sent_at parts _ _ (by exact rfl) _) (slot_at parts (Memref.whole main_v1) squeezes_S1x120x128_S120x128 c 0 (by exact rfl) _ (own_off c) _) (by clear * -; revert c; decide +kernel) rfl rfl ?_
  refine pass_receive xch m ?_
  iterate 7 refine wait_step xch m _ _ (by decide) rfl rfl ?_
  refine pass_drain xch m ?_
  iterate 7 refine wait_step xch m _ _ (by decide) rfl rfl ?_
  exact finish m rfl rfl _ rfl

/-! ## The arrays at the end -/

/-- A device's arrays when the kernel is done: what it sends as at launch, its partners' slots as they landed, its own as it copied it. -/
def Done (c : Dev nD) (V : Valuation τ sig (Elt F)) : Prop :=
  V (Proc.devRef .tc main_arg0) = m ((c.tc : Thread nD τ).loc main_arg0) ∧ (∀ j, ∀ i ∈ landAt c j, V (Proc.devRef .tc main_v1) i = landing m c j i)
    ∧ ∀ i ∈ rest (landAt c), V (Proc.devRef .tc main_v1) i = copied m c i

theorem done_end (c : Dev nD) : xch.kept m (extra' m) c
    ⊢ (iprop(∃ V : Valuation τ sig (Elt F), ⌜Done m c V⌝ ∗ unscopedBufs c (fun r => V r)) : sProp (Res nD τ sig (Elt F))) := by
  have h1 := (cut_arg m c).2
  have h2 := join (landAt c) (land_apart c) (landing m c) (copied m c)
  unfold Exchange.kept extra'
  rw [bigSep_congr fun j _ => show (xch.dstPts c j (xch.landed m c j) : sProp (Res nD τ sig (Elt F))) = ((c.tc : Thread nD τ).loc main_v1 ↦[landAt c j]{fullShare} landing m c j) from rfl]
  iintro ⟨Hd, Hs, Ha, Hv, Hb⟩
  ihave Ha := h1 $$ [Hs Ha]
  · isplitl [Hs] <;> iassumption
  ihave H := h2 $$ [Hd Hv]
  · isplitl [Hd] <;> iassumption
  icases H with ⟨%g, %hg, Hv⟩
  ihave H := (bufs_landed main_arg0 main_v1 (by decide) (by decide) (by decide) c m g) $$ [Ha Hv Hb]
  · isplitl [Ha]; · iexact Ha
    isplitl [Hv] <;> iassumption
  icases H with ⟨%V, %hV, H⟩
  iexists V
  isplitr
  · ipureintro
    exact ⟨hV.1, fun j i hi => (congrFun hV.2 i).trans (hg.1 j i hi), fun i hi => (congrFun hV.2 i).trans (hg.2 i hi)⟩
  iexact H

theorem row_all (y : S120x128.Idx) : row parts 0 y = y := by
  refine funext fun a => Fin.ext ?_
  match a with
  | ⟨0, _⟩ => show 120 * 0 + (y 0).val = (y 0).val; omega
  | ⟨1, _⟩ => rfl

/-- Each partner's slot reads as that partner's rows, -/
theorem read_landed (c : Dev nD) (V : Valuation τ sig (Elt F)) (hV : Done m c V) (j : Fin 7) (x : S120x128.Idx) :
    (V (Proc.devRef .tc main_v1) : (⟨S8x120x128, .f32⟩ : BufTy).Contents (Elt F)) (place (mate j c) x)
      = (m ((Dev.tc (nD := nD) (mate j c) : Thread nD τ).loc main_arg0) : (⟨S120x128, .f32⟩ : BufTy).Contents (Elt F)) x := by
  have e : (slotRows (mate j c) 0).view.read (Elt F) (V (Proc.devRef .tc main_v1)) x
    = (sentRows 0).view.read (Elt F) (m ((Dev.tc (nD := nD) (mate j c) : Thread nD τ).loc main_arg0)) x :=
    congrFun (xch.read_landed m c j _ (hV.2.1 j)) x
  rw [View.read_apply, View.read_apply, slot_emb, sent_emb, spot, row_all] at e
  exact e

/-- and the device's own as its own. -/
theorem read_own (c : Dev nD) (V : Valuation τ sig (Elt F)) (hV : Done m c V) (y : S120x128.Idx) :
    (V (Proc.devRef .tc main_v1) : (⟨S8x120x128, .f32⟩ : BufTy).Contents (Elt F)) (place c y)
      = (m ((c.tc : Thread nD τ).loc main_arg0) : (⟨S120x128, .f32⟩ : BufTy).Contents (Elt F)) y := by
  have e := hV.2.2 _ (own_rest c (Finset.mem_map_of_mem _ (Finset.mem_univ y)))
  have e' : (slotRows c 0).view.read (Elt F) (copied m c) y = (sentRows 0).view.read (Elt F) (m ((c.tc : Thread nD τ).loc main_arg0)) y :=
    View.read_write_of_mem _ _ (Finset.mem_univ y)
  have e'' : (slotRows c 0).view.read (Elt F) (V (Proc.devRef .tc main_v1)) y = _ := (congrArg _ e).trans e'
  rw [View.read_apply, View.read_apply, slot_emb, sent_emb, spot, row_all] at e''
  exact e''

/-- A device's memory at the end: what it sends as at launch, the result such an array. -/
def After (c : Dev nD) (s : MemSt nD τ sig (Elt F)) : Prop :=
  s.mem ((c.tc : Thread nD τ).loc main_arg0) = m ((c.tc : Thread nD τ).loc main_arg0)
    ∧ ∃ V, Done m c V ∧ s.mem ((c.tc : Thread nD τ).loc main_v1) = V (Proc.devRef .tc main_v1)

/-- The exchange's run on the eight devices. -/
theorem run (g : Dev nD → PrngReg) :
    θ_run (defs (F := F)) (onTc (τ := τ) (main (F := F))) ⟨m, fun _ => 0, g⟩
      (fun r => (∀ c : Dev nD, After m c r.2) ∧ r.2.sem = fun _ => 0) :=
  θ_run_then pcfgs (fun p => (cfgs p).toPCfg_adm) cellOf_inj 0 defs₀ Variants.none
    (fun | 0 => inferInstanceAs (IsEmpty (Fin 0))) (inferInstanceAs (IsEmpty (Fin 0))) N_0 m g main
    (fun _ => []) (fun c => main_chain c)
    (fun _ _ h => absurd h List.not_mem_nil) (fun _ _ h => absurd h List.not_mem_nil)
    (xch.dealt m (extra m)) (xch.ended m (extra' m)) (xch.kept m (extra' m)) (fun d => xch.owed τ d Finset.univ)
    (fun c _ _ => body m c) (xch.seed τ)
    (deal xch m (extra m) (bufs_cut xch m main_arg0 main_v1 (by decide) (by decide) (by decide) _ (cut_arg m) landAt land_apart fun _ _ => rfl))
    (ended_split xch m (extra' m)) (Done m) (done_end m)
    (fun s h hs => ⟨fun c => by
      obtain ⟨V, hV, hs⟩ := h c
      exact ⟨(hs main_arg0 rfl).trans hV.1, V, hV, hs main_v1 rfl⟩, sem_eq_zero_of_scoped (by decide) hs⟩)

/-- The exchange runs, leaves what is sent as it was and every counter at zero; -/
theorem frame : Cert.quiescent_GatherRep := by
  intro m g _
  exact (θ_run defs _ _).mono (fun _ h => ⟨fun c => (h.1 c).1, h.2⟩) (run (F := Bits) m g)

/-- its reading over the extended reals too. -/
theorem frameIdeal : Cert.quiescent_GatherRepIdeal := by
  intro m g _
  exact (θ_run (defs (F := Ideal)) _ _).mono (fun _ h => ⟨fun c => (h.1 c).1, h.2⟩) (run (F := Ideal) m g)

/-! ## What the reference computes -/

section Reference

open Cert.GatherRepRefIdeal (S960x128)
open Cert.GatherRepRefIdeal.Read

/-- The reference's slot `s` is the rows `120 s …` of the whole. -/
theorem reference_at (X : (⟨S960x128, .f32⟩ : BufTy).Contents (Elt F)) (i : S8x120x128.Idx) (k : S960x128.Idx)
    (h0 : (k 0).val = (i 0).val * 120 + (i 1).val) (h1 : (k 1).val = (i 2).val) : val_main_v0 (F := F) X i = X k := by
  have b2 : (i 2).val < 128 := (i 2).isLt
  rw [val_main_v0_apply]
  refine congrArg X (funext fun a => Fin.ext ?_)
  match a with
  | ⟨0, _⟩ => show (((i 0).val * 120 + (i 1).val) * 128 + (i 2).val) / 128 = (k 0).val; omega
  | ⟨1, _⟩ => show (((i 0).val * 120 + (i 1).val) * 128 + (i 2).val) % 128 = (k 1).val; omega

/-- Each device's result is the reference's, when what the devices send are the blocks of the whole. -/
theorem result (X : (⟨S960x128, .f32⟩ : BufTy).Contents (Elt F))
    (hX : ∀ c : Dev nD, m ((c.tc : Thread nD τ).loc main_arg0) = Layout.block ⟨2, ![120, 128]⟩ ⟨2, ![960, 128]⟩ 0 8 c X)
    (c : Dev nD) (s : MemSt nD τ sig (Elt F)) (h : After m c s) : s.mem ((c.tc : Thread nD τ).loc main_v1) = val_main_v0 (F := F) X := by
  obtain ⟨-, V, hV, h⟩ := h
  exact h.trans (gathered_all X _ (reference_at X) (fun c : Dev nD => m ((c.tc : Thread nD τ).loc main_arg0)) (fun c y => ⟨_, congrFun (hX c) y, rfl, rfl⟩)
    c _ (read_landed m c V hV) (read_own m c V hV))

end Reference

/-- Over the extended reals each device ends with the reference's result. -/
theorem algebraic : Cert.algebraic_GatherRepIdeal_GatherRepRefIdeal := by
  intro m g m' g' _ hX
  refine ⟨Cert.GatherRepRefIdeal.Read.val_main_v0 (F := Ideal) (m' (((0 : Dev Cert.GatherRepRefIdeal.nD).tc : Thread Cert.GatherRepRefIdeal.nD Cert.GatherRepRefIdeal.τ).loc Cert.GatherRepRefIdeal.main_arg0)), ?_, ?_⟩
  · exact (θ_run (defs (F := Ideal)) _ _).mono (fun r h c => ⟨result m _ hX c r.2 (h.1 c), (h.1 c).1⟩) (run (F := Ideal) m g)
  · refine (θ_run Cert.GatherRepRefIdeal.defs _ _).mono (fun r h => ⟨(h 0).1.trans ?_, (h 0).2⟩) (Cert.GatherRepRefIdeal.Value.run (F := Ideal) m' g')
    exact Cert.GatherRepRefIdeal.Read.val_main_v0_eq _

end Cert.Proof.GatherRep

end
-- ==== Proof.RsWInAddClaim.lean ====
/- The value claim of the sum of a core's half of the gradient of the input projection's weights and the other core's share of it, rounded to bf16 and cut by chips. -/
module

public import proofs.«01_k».proof.Defs
public import proofs.«01_k».proof.Proof.Gen.RsWInAdd.Frame
public import proofs.«01_k».proof.Proof.Gen.RsWInAddIdeal.Frame
public import proofs.«01_k».proof.Proof.Gen.RsWInAddRefIdeal.Read
public import Idealize.ShloMosaic.Lib.Pipeline.ValueKit

@[expose] public section

noncomputable section

namespace Cert.Proof.RsWInAdd

open Idealize.ShloMosaic Idealize.ShloMosaic.TcCoe Idealize.SL.Sem

/-- The precondition needs no side conditions. -/
instance coreFacts : Cert.Pre_a_core.Facts where

/-- The precondition: the core's number is 0 or 1. -/
theorem core_of_pre [Cert.Pre_a_core.Facts] {F : FTy → Type} [FloatOps F] {a : IVec Cert.Pre_a_core.S_ 32} {b : FVec F Cert.Pre_a_core.S2048x8448 .f32}
    {d : FVec F Cert.Pre_a_core.S1024x8448 .f32} (h : Cert.Pre_a_core.fn a b d = fun _ => 1#1) (j : Cert.Pre_a_core.S_.Idx) : a j = 0#32 ∨ a j = 1#32 := by
  have e : BitVec.ofBool (a j == 0#32) ||| BitVec.ofBool (a j == 1#32) = 1#1 := congrFun h j
  by_cases h0 : a j = 0#32
  · exact .inl h0
  by_cases h1 : a j = 1#32
  · exact .inr h1
  · rw [beq_eq_false_iff_ne.mpr h0, beq_eq_false_iff_ne.mpr h1] at e
    exact absurd e (by decide)

/-- Which block of rows a core reads at a grid point. -/
theorem row_block {w : BitVec 32} (h : w = 0#32 ∨ w = 1#32) {i : ℕ} (hi : i < 16) : (w * 16#32 + BitVec.ofNat 32 i).toNat = 16 * w.toNat + i := by
  rcases h with rfl | rfl
  · show (0#32 * 16#32 + BitVec.ofNat 32 i).toNat = 16 * 0 + i
    simp only [BitVec.toNat_add, BitVec.toNat_ofNat, BitVec.toNat_mul]
    omega
  · show (1#32 * 16#32 + BitVec.ofNat 32 i).toNat = 16 * 1 + i
    simp only [BitVec.toNat_add, BitVec.toNat_ofNat, BitVec.toNat_mul]
    omega

section
open Cert.RsWInAdd Cert.RsWInAdd.Gen
variable {F : FTy → Type} [FloatOps F] (m : (ℓ : Loc nD τ sig) → Buf (Elt F) ℓ)

/-- The core's number. -/
abbrev core : BitVec 32 := (m (((0 : Dev nD) : Thread nD τ).loc main_arg0) : S_.Idx → BitVec 32) (fun a => a.elim0)

/-- The table is the core's number. -/
theorem table : (tbl m).at 0 (Rect.unit (s := S1) ![0] S1.size inb_S1_S1_0) numel1_S1 = core m := by
  have e : tbl m 0 = shapeCast S1 (m (((0 : Dev nD) : Thread nD τ).loc main_arg0)) shapeCasts_S_S1 := by
    show V m 0 main_v0 = _
    unfold V hostOps0
    after_results
    rfl
  show tbl m 0 _ = _
  rw [e]
  exact congrArg (m (((0 : Dev nD) : Thread nD τ).loc main_arg0) : S_.Idx → BitVec 32) (funext fun a => a.elim0)

/-- The block read of the gradient. -/
theorem reads (h : core m = 0#32 ∨ core m = 1#32) (i : grid0.Coords) :
    cc0_transform_0 inb_S1_S1_0 numel1_S1 (tbl m) i = ![16 * (core m).toNat + (i 0).val, 0] := by
  rw [← row_block h (show (i 0).val < 16 from (i 0).isLt), ← table m]
  rfl

/-- With the core's number 0 or 1 every block read lies in the gradient. -/
theorem ok (h : core m = 0#32 ∨ core m = 1#32) : Ok m := by
  intro i
  refine ⟨fun a => ?_, .inl rfl⟩
  have hi : (i 0).val < 16 := (i 0).isLt
  have hw : (core m).toNat ≤ 1 := by rcases h with h | h <;> rw [h] <;> decide
  rw [reads m h]
  match a with
  | ⟨0, _⟩ => show (16 * (core m).toNat + (i 0).val + 1) * 64 ≤ 2048; omega
  | ⟨1, _⟩ => show (0 + 1) * 8448 ≤ 8448; omega

end

/-- The kernel ends, and leaves its arguments. -/
theorem frame [Cert.Pre_a_core.Facts] : Cert.quiescent_RsWInAdd :=
  fun m g h => Cert.RsWInAdd.Gen.frame m g (ok m (core_of_pre (h 0) _))

section
open Cert.RsWInAddIdeal Cert.RsWInAddIdeal.Gen
variable {F : FTy → Type} [FloatOps F] (m : (ℓ : Loc nD τ sig) → Buf (Elt F) ℓ)

/-- The core's number. -/
abbrev coreIdeal : BitVec 32 := (m (((0 : Dev nD) : Thread nD τ).loc main_arg0) : S_.Idx → BitVec 32) (fun a => a.elim0)

/-- The table is the core's number. -/
theorem tableIdeal : (tbl m).at 0 (Rect.unit (s := S1) ![0] S1.size inb_S1_S1_0) numel1_S1 = coreIdeal m := by
  have e : tbl m 0 = shapeCast S1 (m (((0 : Dev nD) : Thread nD τ).loc main_arg0)) shapeCasts_S_S1 := by
    show V m 0 main_v0 = _
    unfold V hostOps0
    after_results
    rfl
  show tbl m 0 _ = _
  rw [e]
  exact congrArg (m (((0 : Dev nD) : Thread nD τ).loc main_arg0) : S_.Idx → BitVec 32) (funext fun a => a.elim0)

/-- The block read of the gradient. -/
theorem readsIdeal (h : coreIdeal m = 0#32 ∨ coreIdeal m = 1#32) (i : grid0.Coords) :
    cc0_transform_0 inb_S1_S1_0 numel1_S1 (tbl m) i = ![16 * (coreIdeal m).toNat + (i 0).val, 0] := by
  rw [← row_block h (show (i 0).val < 16 from (i 0).isLt), ← tableIdeal m]
  rfl

/-- With the core's number 0 or 1 every block read lies in the gradient. -/
theorem okIdeal (h : coreIdeal m = 0#32 ∨ coreIdeal m = 1#32) : Ok m := by
  intro i
  refine ⟨fun a => ?_, .inl rfl⟩
  have hi : (i 0).val < 16 := (i 0).isLt
  have hw : (coreIdeal m).toNat ≤ 1 := by rcases h with h | h <;> rw [h] <;> decide
  rw [readsIdeal m h]
  match a with
  | ⟨0, _⟩ => show (16 * (coreIdeal m).toNat + (i 0).val + 1) * 64 ≤ 2048; omega
  | ⟨1, _⟩ => show (0 + 1) * 8448 ≤ 8448; omega

end

/-- The idealized kernel ends, and leaves its arguments. -/
theorem frameIdeal [Cert.Pre_a_core.Facts] : Cert.quiescent_RsWInAddIdeal :=
  fun m g h => Cert.RsWInAddIdeal.Gen.frame m g (okIdeal m (core_of_pre (h 0) _))

/-- A column of the cut matrix in the whole one, which has a gap. -/
def col (n : ℕ) : ℕ := if n < 7312 then n else n + 112

/-- Every column of the cut matrix has its place in the whole one. -/
theorem col_lt (s : Fin 4) (k : Fin 2084) : col (s.val * 2084 + k.val) < 8448 := by
  have hs := s.isLt
  have hk := k.isLt
  unfold col
  split <;> omega

/-- Where an element of a chip's columns stands in the whole matrix. -/
def pos {R : ℕ} (s : Fin 4) (r : Fin R) (k : Fin 2084) : Shape.Idx ⟨2, ![R, 8448]⟩ := ix2 r ⟨col (s.val * 2084 + k.val), col_lt s k⟩

section
open Cert.RsWInAddIdeal Cert.RsWInAddIdeal.Gen
variable {F : FTy → Type} [FloatOps F]

/-- The rounded sum of an element of the one and an element of the other. -/
abbrev add (x y : Elt F .f32) : Elt F .bf16 := FloatOps.truncf .bf16 bitsLt_bf16_f32 (FloatOps.addf x y)

/-- The origin. -/
theorem off_zero : (![0, 0] : Fin 2 → Nat) = fun _ => 0 := funext (Fin.forall_fin_two.mpr ⟨rfl, rfl⟩)

/-- A block of one slab is that slab. -/
theorem slab {α : Type} (v : S64x2084.Idx → α) (x : S1x64x2084.Idx) :
    shapeCast S1x64x2084 v shapeCasts_S64x2084_S1x64x2084 x = v (ix2 (⟨(x 1).val, (x 1).isLt⟩ : Fin 64) (⟨(x 2).val, (x 2).isLt⟩ : Fin 2084)) := by
  have h0 : (x 0).val < 1 := (x 0).isLt
  refine shapeCast_apply v _ x _ ?_
  rw [Shape.rowMajor_val_two, Shape.rowMajor_val_three]
  show (x 1).val * 2084 + (x 2).val = ((x 0).val * 64 + (x 1).val) * 2084 + (x 2).val
  omega

variable (x0 x1 : Vec F S64x8448 .f32) (x : S1x64x2084.Idx)

/-- The slab of a chip. -/
abbrev slabOf (s : Fin 4) : Elt F .bf16 :=
  add (x0 (pos s ⟨(x 1).val, (x 1).isLt⟩ ⟨(x 2).val, (x 2).isLt⟩)) (x1 (pos s ⟨(x 1).val, (x 1).isLt⟩ ⟨(x 2).val, (x 2).isLt⟩))

/-- The first chip's slab. -/
theorem slab0 : k0_pay2 x0 x1 x = slabOf x0 x1 x 0 := by
  have h2 : (x 2).val < 2084 := (x 2).isLt
  unfold k0_pay2
  refine (slab _ x).trans ?_
  refine congrArg (FloatOps.truncf .bf16 bitsLt_bf16_f32) (extractStridedSlice_apply _ (k0_pay1 x0 x1) _ _ (pos 0 ⟨(x 1).val, (x 1).isLt⟩ ⟨(x 2).val, (x 2).isLt⟩) fun a => ?_)
  match a with
  | ⟨0, _⟩ => show (x 1).val = 0 + (x 1).val; omega
  | ⟨1, _⟩ => show col (0 * 2084 + (x 2).val) = 0 + (x 2).val; rw [col, if_pos (by omega)]

/-- The second chip's slab. -/
theorem slab1 : k0_pay3 x0 x1 x = slabOf x0 x1 x 1 := by
  have h2 : (x 2).val < 2084 := (x 2).isLt
  unfold k0_pay3
  refine (slab _ x).trans ?_
  refine congrArg (FloatOps.truncf .bf16 bitsLt_bf16_f32) (extractStridedSlice_apply _ (k0_pay1 x0 x1) _ _ (pos 1 ⟨(x 1).val, (x 1).isLt⟩ ⟨(x 2).val, (x 2).isLt⟩) fun a => ?_)
  match a with
  | ⟨0, _⟩ => show (x 1).val = 0 + (x 1).val; omega
  | ⟨1, _⟩ => show col (1 * 2084 + (x 2).val) = 2084 + (x 2).val; rw [col, if_pos (by omega)]

/-- The third chip's slab. -/
theorem slab2 : k0_pay4 x0 x1 x = slabOf x0 x1 x 2 := by
  have h2 : (x 2).val < 2084 := (x 2).isLt
  unfold k0_pay4
  refine (slab _ x).trans ?_
  refine congrArg (FloatOps.truncf .bf16 bitsLt_bf16_f32) (extractStridedSlice_apply _ (k0_pay1 x0 x1) _ _ (pos 2 ⟨(x 1).val, (x 1).isLt⟩ ⟨(x 2).val, (x 2).isLt⟩) fun a => ?_)
  match a with
  | ⟨0, _⟩ => show (x 1).val = 0 + (x 1).val; omega
  | ⟨1, _⟩ => show col (2 * 2084 + (x 2).val) = 4168 + (x 2).val; rw [col, if_pos (by omega)]

/-- The fourth chip's slab, whose columns stand on both sides of the gap. -/
theorem slab3 : k0_pay5 x0 x1 x = slabOf x0 x1 x 3 := by
  have h2 : (x 2).val < 2084 := (x 2).isLt
  unfold k0_pay5
  refine (slab _ x).trans ?_
  refine congrArg (FloatOps.truncf .bf16 bitsLt_bf16_f32) ?_
  by_cases h : (x 2).val < 1060
  · refine (concatenate_pair_apply_left (t := S64x2084) (s₁ := S64x1060) 1 _ _ _ _ rfl (ix2 (⟨(x 1).val, (x 1).isLt⟩ : Fin 64) (⟨(x 2).val, h⟩ : Fin 1060)) fun b => ?_).trans
      (extractStridedSlice_apply _ (k0_pay1 x0 x1) _ _ (pos 3 ⟨(x 1).val, (x 1).isLt⟩ ⟨(x 2).val, (x 2).isLt⟩) fun a => ?_)
    · match b with
      | ⟨0, _⟩ => rfl
      | ⟨1, _⟩ => rfl
    · match a with
      | ⟨0, _⟩ => show (x 1).val = 0 + (x 1).val; omega
      | ⟨1, _⟩ => show col (3 * 2084 + (x 2).val) = 6252 + (x 2).val; rw [col, if_pos (by omega)]
  · refine (concatenate_pair_apply_right (t := S64x2084) (s₁ := S64x1060) (s₂ := S64x1024) 1 _ _ _ _ rfl rfl (ix2 (⟨(x 1).val, (x 1).isLt⟩ : Fin 64) (⟨(x 2).val - 1060, by omega⟩ : Fin 1024)) (fun b hb => ?_) ?_).trans
      (extractStridedSlice_apply _ (k0_pay1 x0 x1) _ _ (pos 3 ⟨(x 1).val, (x 1).isLt⟩ ⟨(x 2).val, (x 2).isLt⟩) fun a => ?_)
    · match b with
      | ⟨0, _⟩ => rfl
      | ⟨1, _⟩ => exact absurd rfl hb
    · show (x 2).val - 1060 + 1060 = (x 2).val
      omega
    · match a with
      | ⟨0, _⟩ => show (x 1).val = 0 + (x 1).val; omega
      | ⟨1, _⟩ => show col (3 * 2084 + (x 2).val) = 7424 + ((x 2).val - 1060); rw [col, if_neg (by omega)]; omega

/-- What a grid point leaves of the blocks it reads. -/
abbrev T (y : S4x64x2084.Idx) : Elt F .bf16 :=
  add (x0 (pos ⟨(y 0).val, (y 0).isLt⟩ ⟨(y 1).val, (y 1).isLt⟩ ⟨(y 2).val, (y 2).isLt⟩)) (x1 (pos ⟨(y 0).val, (y 0).isLt⟩ ⟨(y 1).val, (y 1).isLt⟩ ⟨(y 2).val, (y 2).isLt⟩))

/-- Equal places have equal sums. -/
theorem T_eq (s : Fin 4) (y : S4x64x2084.Idx) (h0 : (y 0).val = s.val) (h1 : (y 1).val = (x 1).val) (h2 : (y 2).val = (x 2).val) :
    slabOf x0 x1 x s = T x0 x1 y := by
  have e : (pos s ⟨(x 1).val, (x 1).isLt⟩ ⟨(x 2).val, (x 2).isLt⟩ : S64x8448.Idx) = pos ⟨(y 0).val, (y 0).isLt⟩ ⟨(y 1).val, (y 1).isLt⟩ ⟨(y 2).val, (y 2).isLt⟩ := by
    refine congr (congrArg₂ _ (Fin.ext h0.symm) (Fin.ext h1.symm)) (Fin.ext h2.symm)
  exact congrArg₂ add (congrArg x0 e) (congrArg x1 e)

/-- A grid point leaves the four slabs of the sum of its two blocks. -/
theorem tile (c : Dev nD) (i : grid0.Coords) (a2 : Memref sig .tc .vmem S64x8448 .f32) (h2 : a2.IsWhole) (a3 : Memref sig .tc .vmem S64x8448 .f32) (h3 : a3.IsWhole) (a4 : Memref sig .tc .vmem S4x64x2084 .bf16) (h4 : a4.IsWhole)
    (xt : TbBuf0 (F := F) c tbM0_0) : out0_A_2 c i a2 h2 a3 h3 a4 h4 x0 x1 xt = T x0 x1 := by
  unfold out0_A_2
  have hc := cover0_A_2 c i a2 h2 a3 h3 a4 h4 x0 x1 xt
  rw [View.read_writes_eq_canon _ _ _ hc]
  funext y
  refine View.canon_apply_of_pieces (T x0 x1) _ ?_ y (hc y)
  unfold kernelRun0_A
  dsimp only
  try sl_unfold_words
  simp only [View.readAt_eq_ld, h2.read_unread, h3.read_unread, View.ld_unit_zero (S := S64x8448) off_zero]
  intro pc hpc z
  rcases List.mem_cons.mp hpc with rfl | hpc
  · exact (slab3 x0 x1 z).trans (T_eq x0 x1 z 3 _ (by have h0 : (z 0).val < 1 := (z 0).isLt; show 3 + 1 * (z 0).val = 3; omega) (by show 0 + 1 * (z 1).val = (z 1).val; omega) (by show 0 + 1 * (z 2).val = (z 2).val; omega))
  rcases List.mem_cons.mp hpc with rfl | hpc
  · exact (slab2 x0 x1 z).trans (T_eq x0 x1 z 2 _ (by have h0 : (z 0).val < 1 := (z 0).isLt; show 2 + 1 * (z 0).val = 2; omega) (by show 0 + 1 * (z 1).val = (z 1).val; omega) (by show 0 + 1 * (z 2).val = (z 2).val; omega))
  rcases List.mem_cons.mp hpc with rfl | hpc
  · exact (slab1 x0 x1 z).trans (T_eq x0 x1 z 1 _ (by have h0 : (z 0).val < 1 := (z 0).isLt; show 1 + 1 * (z 0).val = 1; omega) (by show 0 + 1 * (z 1).val = (z 1).val; omega) (by show 0 + 1 * (z 2).val = (z 2).val; omega))
  rcases List.mem_cons.mp hpc with rfl | hpc
  · exact (slab0 x0 x1 z).trans (T_eq x0 x1 z 0 _ (by have h0 : (z 0).val < 1 := (z 0).isLt; show 0 + 1 * (z 0).val = 0; omega) (by show 0 + 1 * (z 1).val = (z 1).val; omega) (by show 0 + 1 * (z 2).val = (z 2).val; omega))
  nomatch hpc

variable (m : (ℓ : Loc nD τ sig) → Buf (Elt F) ℓ)

/-- Where a core's half of the gradient begins. -/
def half (w : BitVec 32) (r : Fin 1024) : Fin 2048 := if w = 0#32 then ⟨r.val, by omega⟩ else ⟨1024 + r.val, by omega⟩

/-- The core's half of the gradient plus what it received, rounded and cut in the chips' columns. -/
abbrev G (i : S4x1024x2084.Idx) : Elt F .bf16 :=
  let p : S1024x8448.Idx := pos ⟨(i 0).val, (i 0).isLt⟩ ⟨(i 1).val, (i 1).isLt⟩ ⟨(i 2).val, (i 2).isLt⟩
  add (m (((0 : Dev nD) : Thread nD τ).loc main_arg1) (ix2 (half (coreIdeal m) ⟨(i 1).val, (i 1).isLt⟩) ⟨(p 1).val, (p 1).isLt⟩ : S2048x8448.Idx))
    (m (((0 : Dev nD) : Thread nD τ).loc main_arg2) p)

variable (h : coreIdeal m = 0#32 ∨ coreIdeal m = 1#32)

/-- Which rows the grid points write. -/
theorem some_point : ∀ p : Fin 16, ∃ t : Fin grid0.N, (grid0.coords t 0).val = p.val :=
  by decide +kernel

/-- A grid point writes its rows of the whole. -/
theorem written (t : Fin (cfgM m (okIdeal m h)).N) :
    (Gen.dats m (okIdeal m h) 0 0).flushed 2 t = (((cfgM m (okIdeal m h)).win 2).blk t).view.read (Elt F) (G m) := by
  show ((cfgM m (okIdeal m h)).win 2).cut (grid0.coords t) ((Gen.dats m (okIdeal m h) 0 0).after 2 t) = _
  rw [after0_2]
  refine (congrArg (((cfgM m (okIdeal m h)).win 2).cut (grid0.coords t)) (tile (iblk m (okIdeal m h) 0 0 t) (iblk m (okIdeal m h) 0 1 t) 0 _ _ _ _ _ _ _ _)).trans ?_
  have hi : (grid0.coords t 0).val < 16 := (grid0.coords t 0).isLt
  have hr := readsIdeal m h (grid0.coords t)
  have r0 : cc0_transform_0 inb_S1_S1_0 numel1_S1 (tbl m) (grid0.coords t) 0 = 16 * (coreIdeal m).toNat + (grid0.coords t 0).val := congrFun hr 0
  have r1 : cc0_transform_0 inb_S1_S1_0 numel1_S1 (tbl m) (grid0.coords t) 1 = 0 := congrFun hr 1
  have q0 : cc0_transform_1 (grid0.coords t) 0 = (grid0.coords t 0).val := by
    show (BitVec.ofNat 32 (grid0.coords t 0).val).toNat = _
    rw [BitVec.toNat_ofNat]
    omega
  have q2 : cc0_transform_2 (grid0.coords t) 1 = (grid0.coords t 0).val := q0
  refine funext fun (y : S4x64x2084.Idx) => ?_
  let e : S4x1024x2084.Idx := (((cfgM m (okIdeal m h)).win 2).blk t).view.emb y
  have b0 : (e 0).val = (y 0).val := by
    show 0 * 4 + 1 * (y 0).val = (y 0).val
    omega
  have b1 : (e 1).val = (grid0.coords t 0).val * 64 + (y 1).val := by
    show cc0_transform_2 (grid0.coords t) 1 * 64 + 1 * (y 1).val = _
    rw [q2]
    omega
  have b2 : (e 2).val = (y 2).val := by
    show 0 * 2084 + 1 * (y 2).val = (y 2).val
    omega
  have y1 : (y 1).val < 64 := (y 1).isLt
  let p : S64x8448.Idx := pos ⟨(y 0).val, (y 0).isLt⟩ ⟨(y 1).val, (y 1).isLt⟩ ⟨(y 2).val, (y 2).isLt⟩
  show add (V m 0 main_arg1 ((((cfgM m (okIdeal m h)).win 0).blk t).view.emb p)) (V m 0 main_arg2 ((((cfgM m (okIdeal m h)).win 1).blk t).view.emb p)) = G m e
  refine congrArg₂ add ?_ ?_
  · refine (congrFun (V_main_arg1 m 0) _).trans ?_
    refine congrArg (m (((0 : Dev nD) : Thread nD τ).loc main_arg1) : S2048x8448.Idx → Elt F .f32) (funext fun a => Fin.ext ?_)
    match a with
    | ⟨0, _⟩ =>
      show cc0_transform_0 inb_S1_S1_0 numel1_S1 (tbl m) (grid0.coords t) 0 * 64 + 1 * (y 1).val = (half (coreIdeal m) ⟨(e 1).val, (e 1).isLt⟩).val
      rw [r0]
      unfold half
      rcases h with w | w
      · rw [if_pos w]
        show _ = (e 1).val
        rw [b1, w]
        show (16 * 0 + (grid0.coords t 0).val) * 64 + 1 * (y 1).val = _
        omega
      · rw [if_neg (by rw [w]; decide)]
        show _ = 1024 + (e 1).val
        rw [b1, w]
        show (16 * 1 + (grid0.coords t 0).val) * 64 + 1 * (y 1).val = _
        omega
    | ⟨1, _⟩ =>
      show cc0_transform_0 inb_S1_S1_0 numel1_S1 (tbl m) (grid0.coords t) 1 * 8448 + 1 * col ((y 0).val * 2084 + (y 2).val) = col ((e 0).val * 2084 + (e 2).val)
      rw [r1, b0, b2]
      omega
  · refine (congrFun (V_main_arg2 m 0) _).trans ?_
    refine congrArg (m (((0 : Dev nD) : Thread nD τ).loc main_arg2) : S1024x8448.Idx → Elt F .f32) (funext fun a => Fin.ext ?_)
    match a with
    | ⟨0, _⟩ =>
      show cc0_transform_1 (grid0.coords t) 0 * 64 + 1 * (y 1).val = (e 1).val
      rw [q0, b1]
      omega
    | ⟨1, _⟩ =>
      show 0 * 8448 + 1 * col ((y 0).val * 2084 + (y 2).val) = col ((e 0).val * 2084 + (e 2).val)
      rw [b0, b2]
      omega

/-- The grid points' rows cover the result. -/
theorem covered (i : S4x1024x2084.Idx) : ∃ t : Fin (cfgM m (okIdeal m h)).N, ((cfgM m (okIdeal m h)).win 2).flush t = true ∧ i ∈ (((cfgM m (okIdeal m h)).win 2).blk t).view.set := by
  have h0 : (i 0).val < 4 := (i 0).isLt
  have h1 : (i 1).val < 1024 := (i 1).isLt
  have h2 : (i 2).val < 2084 := (i 2).isLt
  obtain ⟨t, ht⟩ := some_point ⟨(i 1).val / 64, by omega⟩
  have q2 : cc0_transform_2 (grid0.coords t) 1 = (i 1).val / 64 := by
    show (BitVec.ofNat 32 (grid0.coords t 0).val).toNat = _
    rw [BitVec.toNat_ofNat, ht]
    show (i 1).val / 64 % 2 ^ 32 = (i 1).val / 64
    omega
  refine ⟨t, flush0_2 _ t, ?_⟩
  have e : ∀ r : Rect S4x1024x2084, i ∈ r.set → i ∈ ((View.whole main_v1).slice r).set := fun r hr => by
    rw [View.set_slice_whole]
    exact hr
  refine e (((cfgM m (okIdeal m h)).win 2).rect t) ?_
  refine Rect.mem_set_unit.mpr fun a => ?_
  match a with
  | ⟨0, _⟩ => show 0 * 4 ≤ (i 0).val ∧ (i 0).val < 0 * 4 + 4; omega
  | ⟨1, _⟩ => show cc0_transform_2 (grid0.coords t) 1 * 64 ≤ (i 1).val ∧ (i 1).val < cc0_transform_2 (grid0.coords t) 1 * 64 + 64; rw [q2]; omega
  | ⟨2, _⟩ => show 0 * 2084 ≤ (i 2).val ∧ (i 2).val < 0 * 2084 + 2084; omega

/-- What the kernel leaves in its result. -/
theorem final : (Gen.dats m (okIdeal m h) 0 0).arrAt 2 (cfgM m (okIdeal m h)).N = G m :=
  (Gen.dats m (okIdeal m h) 0 0).arrAt_eq_of_cover 2 _ (fun t _ => written m h t) (covered m h)

end

section
open Cert.RsWInAddRefIdeal Cert.RsWInAddRefIdeal.Gen Cert.RsWInAddRefIdeal.Read
variable {F : FTy → Type} [FloatOps F] (x0 : (⟨S_, .i32⟩ : BufTy).Contents (Elt F)) (x1 : (⟨S2048x8448, .f32⟩ : BufTy).Contents (Elt F)) (x2 : (⟨S1024x8448, .f32⟩ : BufTy).Contents (Elt F))

/-- The half that the reference takes. -/
theorem ref_half (p : S1024x8448.Idx) :
    val_main_v3 x0 x1 p = x1 (ix2 (half ((x0 : S_.Idx → BitVec 32) (fun a => a.elim0)) ⟨(p 0).val, (p 0).isLt⟩) (⟨(p 1).val, (p 1).isLt⟩ : Fin 8448)) := by
  have e : broadcastInDim S1024x8448 ![] bcast_S_S1024x8448 (val_main_v0 (F := F) x0) p = BitVec.ofBool ((x0 : S_.Idx → BitVec 32) (fun a => a.elim0) == 0#32) :=
    congrArg (fun k : S_.Idx => BitVec.ofBool ((x0 : S_.Idx → BitVec 32) k == 0#32)) (funext fun a => a.elim0)
  show (if broadcastInDim S1024x8448 ![] bcast_S_S1024x8448 (val_main_v0 (F := F) x0) p = 1#1 then val_main_v1 (F := F) x1 p else val_main_v2 (F := F) x1 p) = _
  rw [e, val_main_v1_apply, val_main_v2_apply]
  unfold half
  by_cases w : (x0 : S_.Idx → BitVec 32) (fun a => a.elim0) = 0#32
  · rw [if_pos w, beq_iff_eq.mpr w]
    exact congrArg x1 (funext fun a => match a with | ⟨0, _⟩ => rfl | ⟨1, _⟩ => rfl)
  · rw [if_neg w, beq_eq_false_iff_ne.mpr w]
    exact congrArg x1 (funext fun a => match a with | ⟨0, _⟩ => rfl | ⟨1, _⟩ => rfl)

/-- The reference's sum without the gap. -/
theorem ref_cut (s : Fin 4) (r : Fin 1024) (k : Fin 2084) (j : S1024x8336.Idx) (h0 : (j 0).val = r.val) (h1 : (j 1).val = s.val * 2084 + k.val) :
    val_main_v7 x0 x1 x2 j = val_main_v4 x0 x1 x2 (pos s r k) := by
  have hj : (j 1).val < 8336 := (j 1).isLt
  unfold val_main_v7
  by_cases c : (j 1).val < 7312
  · refine (concatenate_pair_apply_left (t := S1024x8336) (s₁ := S1024x7312) 1 _ _ _ _ rfl (ix2 (⟨(j 0).val, (j 0).isLt⟩ : Fin 1024) (⟨(j 1).val, c⟩ : Fin 7312)) fun b => ?_).trans
      ((val_main_v5_apply x0 x1 x2 _).trans (congrArg _ (funext fun a => Fin.ext ?_)))
    · match b with
      | ⟨0, _⟩ => rfl
      | ⟨1, _⟩ => rfl
    · match a with
      | ⟨0, _⟩ => exact h0
      | ⟨1, _⟩ => show (j 1).val = col (s.val * 2084 + k.val); rw [← h1, col, if_pos c]
  · refine (concatenate_pair_apply_right (t := S1024x8336) (s₁ := S1024x7312) (s₂ := S1024x1024) 1 _ _ _ _ rfl rfl (ix2 (⟨(j 0).val, (j 0).isLt⟩ : Fin 1024) (⟨(j 1).val - 7312, by omega⟩ : Fin 1024)) (fun b hb => ?_) ?_).trans
      ((val_main_v6_apply x0 x1 x2 _).trans (congrArg _ (funext fun a => Fin.ext ?_)))
    · match b with
      | ⟨0, _⟩ => rfl
      | ⟨1, _⟩ => exact absurd rfl hb
    · show (j 1).val - 7312 + 7312 = (j 1).val
      omega
    · match a with
      | ⟨0, _⟩ => exact h0
      | ⟨1, _⟩ => show 7424 + ((j 1).val - 7312) = col (s.val * 2084 + k.val); rw [← h1, col, if_neg c]; omega

/-- The reference at an element. -/
theorem ref_at (i : S4x1024x2084.Idx) :
    val_main_v10 x0 x1 x2 i = add (val_main_v3 x0 x1 (pos ⟨(i 0).val, (i 0).isLt⟩ ⟨(i 1).val, (i 1).isLt⟩ ⟨(i 2).val, (i 2).isLt⟩)) (x2 (pos ⟨(i 0).val, (i 0).isLt⟩ ⟨(i 1).val, (i 1).isLt⟩ ⟨(i 2).val, (i 2).isLt⟩)) := by
  have h0 : (i 0).val < 4 := (i 0).isLt
  have h1 : (i 1).val < 1024 := (i 1).isLt
  have h2 : (i 2).val < 2084 := (i 2).isLt
  rw [val_main_v10_apply, val_main_v9_apply, val_main_v8_apply]
  refine congrArg (FloatOps.truncf .bf16 bitsLt_bf16_f32) (ref_cut x0 x1 x2 ⟨(i 0).val, h0⟩ ⟨(i 1).val, h1⟩ ⟨(i 2).val, h2⟩ _ ?_ ?_)
  · show (((i 1).val * 4 + (i 0).val) * 2084 + (i 2).val) / 8336 = (i 1).val
    omega
  · show (((i 1).val * 4 + (i 0).val) * 2084 + (i 2).val) % 8336 = (i 0).val * 2084 + (i 2).val
    omega
end

/-- Kernel and reference end with the same sums. -/
theorem algebraic [Cert.Pre_a_core.Facts] : Cert.algebraic_RsWInAddIdeal_RsWInAddRefIdeal := by
  intro m g m' g' pre e
  have h := core_of_pre (pre 0) (fun a => a.elim0)
  have one : ∀ c : Dev Cert.RsWInAddIdeal.nD, c = 0 := fun c => Subsingleton.elim _ _
  refine ⟨fun _ => G m, (θ_run Cert.RsWInAddIdeal.defs _ _).mono (fun r k c => ?_) (Cert.RsWInAddIdeal.Gen.run_main m g (okIdeal m h)),
    (θ_run Cert.RsWInAddRefIdeal.defs _ _).mono (fun _ k c => ⟨(k c).1.trans ?_, (k c).2⟩) (Cert.RsWInAddRefIdeal.Value.run (F := Ideal) m' g')⟩
  · obtain rfl := one c
    exact ⟨((k 0).1 2).trans (final m h), ((k 0).2 Cert.RsWInAddIdeal.main_arg0 (by decide : Cert.RsWInAddIdeal.main_arg0 ∈ Pipeline.restRefs Cert.RsWInAddIdeal.sig Cert.RsWInAddIdeal.spec0)).trans (Cert.RsWInAddIdeal.Gen.V_main_arg0 m 0),
      ((k 0).1 0).trans (((Cert.RsWInAddIdeal.Gen.dats m (okIdeal m h) 0 0).arrAt_in 0 rfl _).trans ((Cert.RsWInAddIdeal.Gen.A_eq m (okIdeal m h) 0 0).trans (Cert.RsWInAddIdeal.Gen.V_main_arg1 m 0))),
      ((k 0).1 1).trans (((Cert.RsWInAddIdeal.Gen.dats m (okIdeal m h) 0 0).arrAt_in 1 rfl _).trans ((Cert.RsWInAddIdeal.Gen.A_eq m (okIdeal m h) 0 1).trans (Cert.RsWInAddIdeal.Gen.V_main_arg2 m 0)))⟩
  · obtain rfl := one c
    obtain ⟨e0, e1, e2⟩ := e 0
    rw [e0, e1, e2]
    funext i
    refine (ref_at _ _ _ i).trans (congrArg₂ add (ref_half _ _ _) rfl)

end Cert.Proof.RsWInAdd

end
-- ==== Proof.lean ====
/- The claim assembled: the frames of every program, that the ideal programs are the printed ones, and the equations
   of kernel and reference that the modules beside this one prove. -/
module

public import proofs.«01_k».proof.Proof.Gen.DInProj.Frame
public import proofs.«01_k».proof.Proof.DInProjClaim
public import proofs.«01_k».proof.Proof.Gen.DWIn.Frame
public import proofs.«01_k».proof.Proof.DWInClaim
public import proofs.«01_k».proof.Proof.Gen.DOutProj.Frame
public import proofs.«01_k».proof.Proof.DOutProjClaim
public import proofs.«01_k».proof.Proof.Gen.DWOut.Frame
public import proofs.«01_k».proof.Proof.DWOutClaim
public import proofs.«01_k».proof.Proof.Gen.InProj.Frame
public import proofs.«01_k».proof.Proof.InProjClaim
public import proofs.«01_k».proof.Proof.Gen.RmsIn.Frame
public import proofs.«01_k».proof.Proof.RmsInClaim
public import proofs.«01_k».proof.Proof.Gen.RmsBwd.Frame
public import proofs.«01_k».proof.Proof.RmsBwdClaim
public import proofs.«01_k».proof.Proof.Gen.MetaBwd.Frame
public import proofs.«01_k».proof.Proof.MetaBwdClaim
public import proofs.«01_k».proof.Proof.Gen.LossHead.Frame
public import proofs.«01_k».proof.Proof.LossHeadClaim
public import proofs.«01_k».proof.Proof.Gen.RsWOutAdd.Frame
public import proofs.«01_k».proof.Proof.RsWOutAddClaim
public import proofs.«01_k».proof.Proof.Gen.RsSmallAdd.Frame
public import proofs.«01_k».proof.Proof.RsSmallAddClaim
public import proofs.«01_k».proof.Proof.Gen.RsWInSum.Frame
public import proofs.«01_k».proof.Proof.RsWInSumClaim
public import proofs.«01_k».proof.Proof.Gen.RsWOutSum.Frame
public import proofs.«01_k».proof.Proof.RsWOutSumClaim
public import proofs.«01_k».proof.Proof.Gen.RsSmallSum.Frame
public import proofs.«01_k».proof.Proof.RsSmallSumClaim
public import proofs.«01_k».proof.Proof.Gen.AdamRep.Frame
public import proofs.«01_k».proof.Proof.AdamRepClaim
public import proofs.«01_k».proof.Proof.Gen.AdamSmall.Frame
public import proofs.«01_k».proof.Proof.AdamSmallClaim
public import proofs.«01_k».proof.Proof.Gen.AdamWOut.Frame
public import proofs.«01_k».proof.Proof.AdamWOutClaim
public import proofs.«01_k».proof.Proof.Gen.AdamWIn.Frame
public import proofs.«01_k».proof.Proof.AdamWInClaim
public import proofs.«01_k».proof.Proof.RsWInSibClaim
public import proofs.«01_k».proof.Proof.RsWOutSibClaim
public import proofs.«01_k».proof.Proof.RsWInCoresClaim
public import proofs.«01_k».proof.Proof.RsSmallSibClaim
public import proofs.«01_k».proof.Proof.RsSmallCoresClaim
public import proofs.«01_k».proof.Proof.RsWOutCoresClaim
public import proofs.«01_k».proof.Proof.GatherWInCoresClaim
public import proofs.«01_k».proof.Proof.GatherWOutCoresClaim
public import proofs.«01_k».proof.Proof.RsSmallChipsClaim
public import proofs.«01_k».proof.Proof.RsWOutChipsClaim
public import proofs.«01_k».proof.Proof.RsWInChipsClaim
public import proofs.«01_k».proof.Proof.GatherWOutChipsClaim
public import proofs.«01_k».proof.Proof.GatherWInChipsClaim
public import proofs.«01_k».proof.Proof.GatherSmallClaim
public import proofs.«01_k».proof.Proof.GatherRepClaim
public import proofs.«01_k».proof.Proof.RsWInAddClaim

@[expose] public section

noncomputable section

namespace Cert.Proof

open Idealize.ShloMosaic Idealize.SL.Sem

/-- Every program ends without fault, its arguments unchanged and its counters at zero; each ideal program is its kernel
    over the extended reals; and each kernel computes what its reference computes. -/
theorem claim : Cert.Claim :=
  ⟨DInProj.Gen.facts, DInProjIdeal.Gen.facts, DInProjRefIdeal.Gen.facts, DWIn.Gen.facts, DWInIdeal.Gen.facts, DWInRefIdeal.Gen.facts, DOutProj.Gen.facts, DOutProjIdeal.Gen.facts, DOutProjRefIdeal.Gen.facts, DWOut.Gen.facts, DWOutIdeal.Gen.facts, DWOutRefIdeal.Gen.facts, InProj.Gen.facts, InProjIdeal.Gen.facts, InProjRefIdeal.Gen.facts, RmsIn.Gen.facts, RmsInIdeal.Gen.facts, RmsInRefIdeal.Gen.facts, RmsBwd.Gen.facts, RmsBwdIdeal.Gen.facts, RmsBwdRefIdeal.Gen.facts, MetaBwd.Gen.facts, MetaBwdIdeal.Gen.facts, MetaBwdRefIdeal.Gen.facts, LossHead.Gen.facts, LossHeadIdeal.Gen.facts, LossHeadRefIdeal.Gen.facts, RsWOutAdd.Gen.facts, RsWOutAddIdeal.Gen.facts, RsWOutAddRefIdeal.Gen.facts, RsSmallAdd.Gen.facts, RsSmallAddIdeal.Gen.facts, RsSmallAddRefIdeal.Gen.facts, RsWInSum.Gen.facts, RsWInSumIdeal.Gen.facts, RsWInSumRefIdeal.Gen.facts, RsWOutSum.Gen.facts, RsWOutSumIdeal.Gen.facts, RsWOutSumRefIdeal.Gen.facts, RsSmallSum.Gen.facts, RsSmallSumIdeal.Gen.facts, RsSmallSumRefIdeal.Gen.facts, AdamRep.Gen.facts, AdamRepIdeal.Gen.facts, AdamRepRefIdeal.Gen.facts, AdamSmall.Gen.facts, AdamSmallIdeal.Gen.facts, AdamSmallRefIdeal.Gen.facts, AdamWOut.Gen.facts, AdamWOutIdeal.Gen.facts, AdamWOutRefIdeal.Gen.facts, AdamWIn.Gen.facts, AdamWInIdeal.Gen.facts, AdamWInRefIdeal.Gen.facts, RsWInSib.Gen.facts, RsWInSibIdeal.Gen.facts, RsWInSibRefIdeal.Gen.facts, RsWOutSib.Gen.facts, RsWOutSibIdeal.Gen.facts, RsWOutSibRefIdeal.Gen.facts, RsWInCores.Gen.facts, RsWInCoresIdeal.Gen.facts, RsWInCoresRefIdeal.Gen.facts, RsSmallSib.Gen.facts, RsSmallSibIdeal.Gen.facts, RsSmallSibRefIdeal.Gen.facts, RsSmallCores.Gen.facts, RsSmallCoresIdeal.Gen.facts, RsSmallCoresRefIdeal.Gen.facts, RsWOutCores.Gen.facts, RsWOutCoresIdeal.Gen.facts, RsWOutCoresRefIdeal.Gen.facts, GatherWInCores.Gen.facts, GatherWInCoresIdeal.Gen.facts, GatherWInCoresRefIdeal.Gen.facts, GatherWOutCores.Gen.facts, GatherWOutCoresIdeal.Gen.facts, GatherWOutCoresRefIdeal.Gen.facts, RsSmallChips.Gen.facts, RsSmallChipsIdeal.Gen.facts, RsSmallChipsRefIdeal.Gen.facts, RsWOutChips.Gen.facts, RsWOutChipsIdeal.Gen.facts, RsWOutChipsRefIdeal.Gen.facts, RsWInChips.Gen.facts, RsWInChipsIdeal.Gen.facts, RsWInChipsRefIdeal.Gen.facts, GatherWOutChips.Gen.facts, GatherWOutChipsIdeal.Gen.facts, GatherWOutChipsRefIdeal.Gen.facts, GatherWInChips.Gen.facts, GatherWInChipsIdeal.Gen.facts, GatherWInChipsRefIdeal.Gen.facts, GatherSmall.Gen.facts, GatherSmallIdeal.Gen.facts, GatherSmallRefIdeal.Gen.facts, GatherRep.Gen.facts, GatherRepIdeal.Gen.facts, GatherRepRefIdeal.Gen.facts, RsWInAdd.Gen.facts, RsWInAddIdeal.Gen.facts, RsWInAddRefIdeal.Gen.facts, RsWInAdd.coreFacts,
    fun m ρ _ => DInProj.Gen.frame m ρ,
    fun m ρ _ => DInProjIdeal.Gen.frame m ρ,
    fun m ρ _ => (θ_run DInProjRefIdeal.defs _ _).mono (fun r h => ⟨fun c => (h c).2, sem_eq_zero_of_no_sems (by decide) r.2⟩)
      (DInProjRefIdeal.Value.run (F := Ideal) m ρ),
    fun m ρ _ => DWIn.Gen.frame m ρ,
    fun m ρ _ => DWInIdeal.Gen.frame m ρ,
    fun m ρ _ => (θ_run DWInRefIdeal.defs _ _).mono (fun r h => ⟨fun c => (h c).2, sem_eq_zero_of_no_sems (by decide) r.2⟩)
      (DWInRefIdeal.Value.run (F := Ideal) m ρ),
    fun m ρ _ => DOutProj.Gen.frame m ρ,
    fun m ρ _ => DOutProjIdeal.Gen.frame m ρ,
    fun m ρ _ => (θ_run DOutProjRefIdeal.defs _ _).mono (fun r h => ⟨fun c => (h c).2, sem_eq_zero_of_no_sems (by decide) r.2⟩)
      (DOutProjRefIdeal.Value.run (F := Ideal) m ρ),
    fun m ρ _ => DWOut.Gen.frame m ρ,
    fun m ρ _ => DWOutIdeal.Gen.frame m ρ,
    fun m ρ _ => (θ_run DWOutRefIdeal.defs _ _).mono (fun r h => ⟨fun c => (h c).2, sem_eq_zero_of_no_sems (by decide) r.2⟩)
      (DWOutRefIdeal.Value.run (F := Ideal) m ρ),
    fun m ρ _ => InProj.Gen.frame m ρ,
    fun m ρ _ => InProjIdeal.Gen.frame m ρ,
    fun m ρ _ => (θ_run InProjRefIdeal.defs _ _).mono (fun r h => ⟨fun c => (h c).2, sem_eq_zero_of_no_sems (by decide) r.2⟩)
      (InProjRefIdeal.Value.run (F := Ideal) m ρ),
    fun m ρ _ => RmsIn.Gen.frame m ρ,
    fun m ρ _ => RmsInIdeal.Gen.frame m ρ,
    fun m ρ _ => (θ_run RmsInRefIdeal.defs _ _).mono (fun r h => ⟨fun c => (h c).2, sem_eq_zero_of_no_sems (by decide) r.2⟩)
      (RmsInRefIdeal.Value.run (F := Ideal) m ρ),
    fun m ρ _ => RmsBwd.Gen.frame m ρ,
    fun m ρ _ => RmsBwdIdeal.Gen.frame m ρ,
    fun m ρ _ => (θ_run RmsBwdRefIdeal.defs _ _).mono (fun r h => ⟨fun c => (h c).2.2, sem_eq_zero_of_no_sems (by decide) r.2⟩)
      (RmsBwdRefIdeal.Value.run (F := Ideal) m ρ),
    fun m ρ _ => MetaBwd.Gen.frame m ρ,
    fun m ρ _ => MetaBwdIdeal.Gen.frame m ρ,
    fun m ρ _ => (θ_run MetaBwdRefIdeal.defs _ _).mono (fun r h => ⟨fun c => (h c).2.2, sem_eq_zero_of_no_sems (by decide) r.2⟩)
      (MetaBwdRefIdeal.Value.run (F := Ideal) m ρ),
    fun m ρ _ => LossHead.Gen.frame m ρ,
    fun m ρ _ => LossHeadIdeal.Gen.frame m ρ,
    fun m ρ _ => (θ_run LossHeadRefIdeal.defs _ _).mono (fun r h => ⟨fun c => (h c).2.2.2.2, sem_eq_zero_of_no_sems (by decide) r.2⟩)
      (LossHeadRefIdeal.Value.run (F := Ideal) m ρ),
    fun m ρ _ => RsWOutAdd.Gen.frame m ρ,
    fun m ρ _ => RsWOutAddIdeal.Gen.frame m ρ,
    fun m ρ _ => (θ_run RsWOutAddRefIdeal.defs _ _).mono (fun r h => ⟨fun c => (h c).2, sem_eq_zero_of_no_sems (by decide) r.2⟩)
      (RsWOutAddRefIdeal.Value.run (F := Ideal) m ρ),
    fun m ρ _ => RsSmallAdd.Gen.frame m ρ,
    fun m ρ _ => RsSmallAddIdeal.Gen.frame m ρ,
    fun m ρ _ => (θ_run RsSmallAddRefIdeal.defs _ _).mono (fun r h => ⟨fun c => (h c).2, sem_eq_zero_of_no_sems (by decide) r.2⟩)
      (RsSmallAddRefIdeal.Value.run (F := Ideal) m ρ),
    fun m ρ _ => RsWInSum.Gen.frame m ρ,
    fun m ρ _ => RsWInSumIdeal.Gen.frame m ρ,
    fun m ρ _ => (θ_run RsWInSumRefIdeal.defs _ _).mono (fun r h => ⟨fun c => (h c).2, sem_eq_zero_of_no_sems (by decide) r.2⟩)
      (RsWInSumRefIdeal.Value.run (F := Ideal) m ρ),
    fun m ρ _ => RsWOutSum.Gen.frame m ρ,
    fun m ρ _ => RsWOutSumIdeal.Gen.frame m ρ,
    fun m ρ _ => (θ_run RsWOutSumRefIdeal.defs _ _).mono (fun r h => ⟨fun c => (h c).2, sem_eq_zero_of_no_sems (by decide) r.2⟩)
      (RsWOutSumRefIdeal.Value.run (F := Ideal) m ρ),
    fun m ρ _ => RsSmallSum.Gen.frame m ρ,
    fun m ρ _ => RsSmallSumIdeal.Gen.frame m ρ,
    fun m ρ _ => (θ_run RsSmallSumRefIdeal.defs _ _).mono (fun r h => ⟨fun c => (h c).2, sem_eq_zero_of_no_sems (by decide) r.2⟩)
      (RsSmallSumRefIdeal.Value.run (F := Ideal) m ρ),
    fun m ρ _ => AdamRep.Gen.frame m ρ,
    fun m ρ _ => AdamRepIdeal.Gen.frame m ρ,
    fun m ρ _ => (θ_run AdamRepRefIdeal.defs _ _).mono (fun r h => ⟨fun c => (h c).2.2.2.2, sem_eq_zero_of_no_sems (by decide) r.2⟩)
      (AdamRepRefIdeal.Value.run (F := Ideal) m ρ),
    fun m ρ _ => AdamSmall.Gen.frame m ρ,
    fun m ρ _ => AdamSmallIdeal.Gen.frame m ρ,
    fun m ρ _ => (θ_run AdamSmallRefIdeal.defs _ _).mono (fun r h => ⟨fun c => (h c).2.2.2.2, sem_eq_zero_of_no_sems (by decide) r.2⟩)
      (AdamSmallRefIdeal.Value.run (F := Ideal) m ρ),
    fun m ρ _ => AdamWOut.Gen.frame m ρ,
    fun m ρ _ => AdamWOutIdeal.Gen.frame m ρ,
    fun m ρ _ => (θ_run AdamWOutRefIdeal.defs _ _).mono (fun r h => ⟨fun c => (h c).2.2.2.2, sem_eq_zero_of_no_sems (by decide) r.2⟩)
      (AdamWOutRefIdeal.Value.run (F := Ideal) m ρ),
    fun m ρ _ => AdamWIn.Gen.frame m ρ,
    fun m ρ _ => AdamWInIdeal.Gen.frame m ρ,
    fun m ρ _ => (θ_run AdamWInRefIdeal.defs _ _).mono (fun r h => ⟨fun c => (h c).2.2.2.2, sem_eq_zero_of_no_sems (by decide) r.2⟩)
      (AdamWInRefIdeal.Value.run (F := Ideal) m ρ),
    Proof.RsWInSib.frame,
    Proof.RsWInSib.frameIdeal,
    fun m ρ _ => (θ_run RsWInSibRefIdeal.defs _ _).mono (fun r h => ⟨fun c => (h c).2, sem_eq_zero_of_no_sems (by decide) r.2⟩)
      (RsWInSibRefIdeal.Value.run (F := Ideal) m ρ),
    Proof.RsWOutSib.frame,
    Proof.RsWOutSib.frameIdeal,
    fun m ρ _ => (θ_run RsWOutSibRefIdeal.defs _ _).mono (fun r h => ⟨fun c => (h c).2, sem_eq_zero_of_no_sems (by decide) r.2⟩)
      (RsWOutSibRefIdeal.Value.run (F := Ideal) m ρ),
    Proof.RsWInCores.frame,
    Proof.RsWInCores.frameIdeal,
    fun m ρ _ => (θ_run RsWInCoresRefIdeal.defs _ _).mono (fun r h => ⟨fun c => (h c).2, sem_eq_zero_of_no_sems (by decide) r.2⟩)
      (RsWInCoresRefIdeal.Value.run (F := Ideal) m ρ),
    Proof.RsSmallSib.frame,
    Proof.RsSmallSib.frameIdeal,
    fun m ρ _ => (θ_run RsSmallSibRefIdeal.defs _ _).mono (fun r h => ⟨fun c => (h c).2, sem_eq_zero_of_no_sems (by decide) r.2⟩)
      (RsSmallSibRefIdeal.Value.run (F := Ideal) m ρ),
    Proof.RsSmallCores.frame,
    Proof.RsSmallCores.frameIdeal,
    fun m ρ _ => (θ_run RsSmallCoresRefIdeal.defs _ _).mono (fun r h => ⟨fun c => (h c).2, sem_eq_zero_of_no_sems (by decide) r.2⟩)
      (RsSmallCoresRefIdeal.Value.run (F := Ideal) m ρ),
    Proof.RsWOutCores.frame,
    Proof.RsWOutCores.frameIdeal,
    fun m ρ _ => (θ_run RsWOutCoresRefIdeal.defs _ _).mono (fun r h => ⟨fun c => (h c).2, sem_eq_zero_of_no_sems (by decide) r.2⟩)
      (RsWOutCoresRefIdeal.Value.run (F := Ideal) m ρ),
    Proof.GatherWInCores.frame,
    Proof.GatherWInCores.frameIdeal,
    fun m ρ _ => (θ_run GatherWInCoresRefIdeal.defs _ _).mono (fun r h => ⟨fun c => (h c).2, sem_eq_zero_of_no_sems (by decide) r.2⟩)
      (GatherWInCoresRefIdeal.Value.run (F := Ideal) m ρ),
    Proof.GatherWOutCores.frame,
    Proof.GatherWOutCores.frameIdeal,
    fun m ρ _ => (θ_run GatherWOutCoresRefIdeal.defs _ _).mono (fun r h => ⟨fun c => (h c).2, sem_eq_zero_of_no_sems (by decide) r.2⟩)
      (GatherWOutCoresRefIdeal.Value.run (F := Ideal) m ρ),
    Proof.RsSmallChips.frame,
    Proof.RsSmallChips.frameIdeal,
    fun m ρ _ => (θ_run RsSmallChipsRefIdeal.defs _ _).mono (fun r h => ⟨fun c => (h c).2, sem_eq_zero_of_no_sems (by decide) r.2⟩)
      (RsSmallChipsRefIdeal.Value.run (F := Ideal) m ρ),
    Proof.RsWOutChips.frame,
    Proof.RsWOutChips.frameIdeal,
    fun m ρ _ => (θ_run RsWOutChipsRefIdeal.defs _ _).mono (fun r h => ⟨fun c => (h c).2, sem_eq_zero_of_no_sems (by decide) r.2⟩)
      (RsWOutChipsRefIdeal.Value.run (F := Ideal) m ρ),
    Proof.RsWInChips.frame,
    Proof.RsWInChips.frameIdeal,
    fun m ρ _ => (θ_run RsWInChipsRefIdeal.defs _ _).mono (fun r h => ⟨fun c => (h c).2, sem_eq_zero_of_no_sems (by decide) r.2⟩)
      (RsWInChipsRefIdeal.Value.run (F := Ideal) m ρ),
    Proof.GatherWOutChips.frame,
    Proof.GatherWOutChips.frameIdeal,
    fun m ρ _ => (θ_run GatherWOutChipsRefIdeal.defs _ _).mono (fun r h => ⟨fun c => (h c).2, sem_eq_zero_of_no_sems (by decide) r.2⟩)
      (GatherWOutChipsRefIdeal.Value.run (F := Ideal) m ρ),
    Proof.GatherWInChips.frame,
    Proof.GatherWInChips.frameIdeal,
    fun m ρ _ => (θ_run GatherWInChipsRefIdeal.defs _ _).mono (fun r h => ⟨fun c => (h c).2, sem_eq_zero_of_no_sems (by decide) r.2⟩)
      (GatherWInChipsRefIdeal.Value.run (F := Ideal) m ρ),
    Proof.GatherSmall.frame,
    Proof.GatherSmall.frameIdeal,
    fun m ρ _ => (θ_run GatherSmallRefIdeal.defs _ _).mono (fun r h => ⟨fun c => (h c).2, sem_eq_zero_of_no_sems (by decide) r.2⟩)
      (GatherSmallRefIdeal.Value.run (F := Ideal) m ρ),
    Proof.GatherRep.frame,
    Proof.GatherRep.frameIdeal,
    fun m ρ _ => (θ_run GatherRepRefIdeal.defs _ _).mono (fun r h => ⟨fun c => (h c).2, sem_eq_zero_of_no_sems (by decide) r.2⟩)
      (GatherRepRefIdeal.Value.run (F := Ideal) m ρ),
    Proof.RsWInAdd.frame,
    Proof.RsWInAdd.frameIdeal,
    fun m ρ _ => (θ_run RsWInAddRefIdeal.defs _ _).mono (fun r h => ⟨fun c => (h c).2, sem_eq_zero_of_no_sems (by decide) r.2⟩)
      (RsWInAddRefIdeal.Value.run (F := Ideal) m ρ),
    fun m ρ _ => (θ_run RsWInAddRefIdeal.defs _ _).mono (fun r h => ⟨fun c => (h c).2, sem_eq_zero_of_no_sems (by decide) r.2⟩)
      (RsWInAddRefIdeal.Value.run (F := Ideal) m ρ),
    trivial,
    Proof.DInProj.algebraic,
    trivial,
    Proof.DWIn.algebraic,
    trivial,
    Proof.DOutProj.algebraic,
    trivial,
    Proof.DWOut.algebraic,
    trivial,
    Proof.InProj.algebraic,
    trivial,
    Proof.RmsIn.algebraic,
    trivial,
    Proof.RmsBwd.algebraic,
    trivial,
    Proof.MetaBwd.algebraic,
    trivial,
    Proof.LossHead.algebraic,
    trivial,
    Proof.RsWOutAdd.algebraic,
    trivial,
    Proof.RsSmallAdd.algebraic,
    trivial,
    Proof.RsWInSum.algebraic,
    trivial,
    Proof.RsWOutSum.algebraic,
    trivial,
    Proof.RsSmallSum.algebraic,
    ⟨IdealRules.named_const.statement AdamRepIdeal.κ "c1" .f32 0x3FC48605#32 ((8388608 / 5463681 : ℝ) : EReal) rfl, IdealRules.named_const.statement AdamRepIdeal.κ "c2" .f32 0x42C8E6D3#32 ((268435456 / 2672307 : ℝ) : EReal) rfl⟩,
    Proof.AdamRep.algebraic,
    ⟨IdealRules.named_const.statement AdamSmallIdeal.κ "c1" .f32 0x3FC48605#32 ((8388608 / 5463681 : ℝ) : EReal) rfl, IdealRules.named_const.statement AdamSmallIdeal.κ "c2" .f32 0x42C8E6D3#32 ((268435456 / 2672307 : ℝ) : EReal) rfl⟩,
    Proof.AdamSmall.algebraic,
    ⟨IdealRules.named_const.statement AdamWOutIdeal.κ "c1" .f32 0x3FC48605#32 ((8388608 / 5463681 : ℝ) : EReal) rfl, IdealRules.named_const.statement AdamWOutIdeal.κ "c2" .f32 0x42C8E6D3#32 ((268435456 / 2672307 : ℝ) : EReal) rfl⟩,
    Proof.AdamWOut.algebraic,
    ⟨IdealRules.named_const.statement AdamWInIdeal.κ "c1" .f32 0x3FC48605#32 ((8388608 / 5463681 : ℝ) : EReal) rfl, IdealRules.named_const.statement AdamWInIdeal.κ "c2" .f32 0x42C8E6D3#32 ((268435456 / 2672307 : ℝ) : EReal) rfl⟩,
    Proof.AdamWIn.algebraic,
    trivial,
    Proof.RsWInSib.algebraic,
    trivial,
    Proof.RsWOutSib.algebraic,
    trivial,
    Proof.RsWInCores.algebraic,
    trivial,
    Proof.RsSmallSib.algebraic,
    trivial,
    Proof.RsSmallCores.algebraic,
    trivial,
    Proof.RsWOutCores.algebraic,
    trivial,
    Proof.GatherWInCores.algebraic,
    trivial,
    Proof.GatherWOutCores.algebraic,
    trivial,
    Proof.RsSmallChips.algebraic,
    trivial,
    Proof.RsWOutChips.algebraic,
    trivial,
    Proof.RsWInChips.algebraic,
    trivial,
    Proof.GatherWOutChips.algebraic,
    trivial,
    Proof.GatherWInChips.algebraic,
    trivial,
    Proof.GatherSmall.algebraic,
    trivial,
    Proof.GatherRep.algebraic,
    trivial,
    Proof.RsWInAdd.algebraic⟩

end Cert.Proof

end
